-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpIdeal_finite_mlp [hPre_finite_mlp : Cert.Pre_finite_mlp.Facts] (m : (ℓ : Loc Cert.MlpIdeal.nD Cert.MlpIdeal.τ Cert.MlpIdeal.sig) → Buf (Elt Ideal) ℓ) : Prop :=
  ∀ c : Dev Cert.MlpIdeal.nD,
    (Cert.Pre_finite_mlp.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7))) = (fun _ => 1#1)

def Pre_MlpReferenceIdeal (m : (ℓ : Loc Cert.MlpReferenceIdeal.nD Cert.MlpReferenceIdeal.τ Cert.MlpReferenceIdeal.sig) → Buf (Elt Ideal) ℓ) : Prop :=
  True

def Pre_MlpReferenceIdeal_finite_mlp [hPre_finite_mlp : Cert.Pre_finite_mlp.Facts] (m : (ℓ : Loc Cert.MlpReferenceIdeal.nD Cert.MlpReferenceIdeal.τ Cert.MlpReferenceIdeal.sig) → Buf (Elt Ideal) ℓ) : Prop :=
  ∀ c : Dev Cert.MlpReferenceIdeal.nD,
    (Cert.Pre_finite_mlp.fn (F := Ideal) (m ((c.tc : Thread Cert.MlpReferenceIdeal.nD Cert.MlpReferenceIdeal.τ).loc Cert.MlpReferenceIdeal.main_arg0)) (m ((c.tc : Thread Cert.MlpReferenceIdeal.nD Cert.MlpReferenceIdeal.τ).loc Cert.MlpReferenceIdeal.main_arg1)) (m ((c.tc : Thread Cert.MlpReferenceIdeal.nD Cert.MlpReferenceIdeal.τ).loc Cert.MlpReferenceIdeal.main_arg2)) (m ((c.tc : Thread Cert.MlpReferenceIdeal.nD Cert.MlpReferenceIdeal.τ).loc Cert.MlpReferenceIdeal.main_arg3)) (m ((c.tc : Thread Cert.MlpReferenceIdeal.nD Cert.MlpReferenceIdeal.τ).loc Cert.MlpReferenceIdeal.main_arg4)) (m ((c.tc : Thread Cert.MlpReferenceIdeal.nD Cert.MlpReferenceIdeal.τ).loc Cert.MlpReferenceIdeal.main_arg5)) (m ((c.tc : Thread Cert.MlpReferenceIdeal.nD Cert.MlpReferenceIdeal.τ).loc Cert.MlpReferenceIdeal.main_arg6)) (m ((c.tc : Thread Cert.MlpReferenceIdeal.nD Cert.MlpReferenceIdeal.τ).loc Cert.MlpReferenceIdeal.main_arg7))) = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_finite_mix [hPre_finite_mix : Cert.Pre_finite_mix.Facts] (m : (ℓ : Loc Cert.MixIdeal.nD Cert.MixIdeal.τ Cert.MixIdeal.sig) → Buf (Elt Ideal) ℓ) : Prop :=
  ∀ c : Dev Cert.MixIdeal.nD,
    (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9))) = (fun _ => 1#1)

def Pre_MixReferenceIdeal (m : (ℓ : Loc Cert.MixReferenceIdeal.nD Cert.MixReferenceIdeal.τ Cert.MixReferenceIdeal.sig) → Buf (Elt Ideal) ℓ) : Prop :=
  True

def Pre_MixReferenceIdeal_finite_mix [hPre_finite_mix : Cert.Pre_finite_mix.Facts] (m : (ℓ : Loc Cert.MixReferenceIdeal.nD Cert.MixReferenceIdeal.τ Cert.MixReferenceIdeal.sig) → Buf (Elt Ideal) ℓ) : Prop :=
  ∀ c : Dev Cert.MixReferenceIdeal.nD,
    (Cert.Pre_finite_mix.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8)) (m ((c.tc : Thread Cert.MixReferenceIdeal.nD Cert.MixReferenceIdeal.τ).loc Cert.MixReferenceIdeal.main_arg9))) = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Pre (m : (ℓ : Loc Cert.Pre.nD Cert.Pre.τ Cert.Pre.sig) → Buf (Elt Bits) ℓ) : Prop :=
  True

def Pre_PreIdeal (m : (ℓ : Loc Cert.PreIdeal.nD Cert.PreIdeal.τ Cert.PreIdeal.sig) → Buf (Elt Ideal) ℓ) : Prop :=
  True

def Pre_PreReferenceIdeal (m : (ℓ : Loc Cert.PreReferenceIdeal.nD Cert.PreReferenceIdeal.τ Cert.PreReferenceIdeal.sig) → Buf (Elt Ideal) ℓ) : Prop :=
  True

def Pre_Gw (m : (ℓ : Loc Cert.Gw.nD Cert.Gw.τ Cert.Gw.sig) → Buf (Elt Bits) ℓ) : Prop :=
  True

def Pre_GwIdeal (m : (ℓ : Loc Cert.GwIdeal.nD Cert.GwIdeal.τ Cert.GwIdeal.sig) → Buf (Elt Ideal) ℓ) : Prop :=
  True

def Pre_GwReferenceIdeal (m : (ℓ : Loc Cert.GwReferenceIdeal.nD Cert.GwReferenceIdeal.τ Cert.GwReferenceIdeal.sig) → Buf (Elt Ideal) ℓ) : Prop :=
  True

def Pre_Gx (m : (ℓ : Loc Cert.Gx.nD Cert.Gx.τ Cert.Gx.sig) → Buf (Elt Bits) ℓ) : Prop :=
  True

def Pre_GxIdeal (m : (ℓ : Loc Cert.GxIdeal.nD Cert.GxIdeal.τ Cert.GxIdeal.sig) → Buf (Elt Ideal) ℓ) : Prop :=
  True

def Pre_GxReferenceIdeal (m : (ℓ : Loc Cert.GxReferenceIdeal.nD Cert.GxReferenceIdeal.τ Cert.GxReferenceIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamReferenceIdeal (m : (ℓ : Loc Cert.AdamReferenceIdeal.nD Cert.AdamReferenceIdeal.τ Cert.AdamReferenceIdeal.sig) → Buf (Elt Ideal) ℓ) : Prop :=
  True

def Pre_Sum (m : (ℓ : Loc Cert.Sum.nD Cert.Sum.τ Cert.Sum.sig) → Buf (Elt Bits) ℓ) : Prop :=
  True

def Pre_SumIdeal (m : (ℓ : Loc Cert.SumIdeal.nD Cert.SumIdeal.τ Cert.SumIdeal.sig) → Buf (Elt Ideal) ℓ) : Prop :=
  True

def Pre_SumReferenceIdeal (m : (ℓ : Loc Cert.SumReferenceIdeal.nD Cert.SumReferenceIdeal.τ Cert.SumReferenceIdeal.sig) → Buf (Elt Ideal) ℓ) : Prop :=
  True

def Pre_Xch (m : (ℓ : Loc Cert.Xch.nD Cert.Xch.τ Cert.Xch.sig) → Buf (Elt Bits) ℓ) : Prop :=
  True

def Pre_XchIdeal (m : (ℓ : Loc Cert.XchIdeal.nD Cert.XchIdeal.τ Cert.XchIdeal.sig) → Buf (Elt Ideal) ℓ) : Prop :=
  True

def Pre_XchReferenceIdeal (m : (ℓ : Loc Cert.XchReferenceIdeal.nD Cert.XchReferenceIdeal.τ Cert.XchReferenceIdeal.sig) → Buf (Elt Ideal) ℓ) : Prop :=
  True

def Pre_XchReference (m : (ℓ : Loc Cert.XchReference.nD Cert.XchReference.τ Cert.XchReference.sig) → Buf (Elt Bits) ℓ) : Prop :=
  True

def Pre_Sct (m : (ℓ : Loc Cert.Sct.nD Cert.Sct.τ Cert.Sct.sig) → Buf (Elt Bits) ℓ) : Prop :=
  True

def Pre_SctIdeal (m : (ℓ : Loc Cert.SctIdeal.nD Cert.SctIdeal.τ Cert.SctIdeal.sig) → Buf (Elt Ideal) ℓ) : Prop :=
  True

def Pre_SctReferenceIdeal (m : (ℓ : Loc Cert.SctReferenceIdeal.nD Cert.SctReferenceIdeal.τ Cert.SctReferenceIdeal.sig) → Buf (Elt Ideal) ℓ) : Prop :=
  True

def Pre_SctReference (m : (ℓ : Loc Cert.SctReference.nD Cert.SctReference.τ Cert.SctReference.sig) → Buf (Elt Bits) ℓ) : Prop :=
  True

def Pre_Pc (m : (ℓ : Loc Cert.Pc.nD Cert.Pc.τ Cert.Pc.sig) → Buf (Elt Bits) ℓ) : Prop :=
  True

def Pre_PcIdeal (m : (ℓ : Loc Cert.PcIdeal.nD Cert.PcIdeal.τ Cert.PcIdeal.sig) → Buf (Elt Ideal) ℓ) : Prop :=
  True

def Pre_PcReferenceIdeal (m : (ℓ : Loc Cert.PcReferenceIdeal.nD Cert.PcReferenceIdeal.τ Cert.PcReferenceIdeal.sig) → Buf (Elt Ideal) ℓ) : Prop :=
  True

def Pre_PcReference (m : (ℓ : Loc Cert.PcReference.nD Cert.PcReference.τ Cert.PcReference.sig) → Buf (Elt Bits) ℓ) : Prop :=
  True

def Pre_Pa (m : (ℓ : Loc Cert.Pa.nD Cert.Pa.τ Cert.Pa.sig) → Buf (Elt Bits) ℓ) : Prop :=
  True

def Pre_PaIdeal (m : (ℓ : Loc Cert.PaIdeal.nD Cert.PaIdeal.τ Cert.PaIdeal.sig) → Buf (Elt Ideal) ℓ) : Prop :=
  True

def Pre_PaReferenceIdeal (m : (ℓ : Loc Cert.PaReferenceIdeal.nD Cert.PaReferenceIdeal.τ Cert.PaReferenceIdeal.sig) → Buf (Elt Ideal) ℓ) : Prop :=
  True

def Pre_PaReference (m : (ℓ : Loc Cert.PaReference.nD Cert.PaReference.τ Cert.PaReference.sig) → Buf (Elt Bits) ℓ) : Prop :=
  True

def Pre_Cs (m : (ℓ : Loc Cert.Cs.nD Cert.Cs.τ Cert.Cs.sig) → Buf (Elt Bits) ℓ) : Prop :=
  True

def Pre_CsIdeal (m : (ℓ : Loc Cert.CsIdeal.nD Cert.CsIdeal.τ Cert.CsIdeal.sig) → Buf (Elt Ideal) ℓ) : Prop :=
  True

def Pre_CsReferenceIdeal (m : (ℓ : Loc Cert.CsReferenceIdeal.nD Cert.CsReferenceIdeal.τ Cert.CsReferenceIdeal.sig) → Buf (Elt Ideal) ℓ) : Prop :=
  True

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ r.2.sem = fun _ => 0)

def quiescent_MlpIdeal_pre_finite_mlp [hMlpIdeal : Cert.MlpIdeal.Facts] [hPre_finite_mlp : Cert.Pre_finite_mlp.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal_finite_mlp m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5)
      ∧ r.2.mem ((c.tc : Thread Cert.MlpReferenceIdeal.nD Cert.MlpReferenceIdeal.τ).loc Cert.MlpReferenceIdeal.main_arg6) = m ((c.tc : Thread Cert.MlpReferenceIdeal.nD Cert.MlpReferenceIdeal.τ).loc Cert.MlpReferenceIdeal.main_arg6)
      ∧ r.2.mem ((c.tc : Thread Cert.MlpReferenceIdeal.nD Cert.MlpReferenceIdeal.τ).loc Cert.MlpReferenceIdeal.main_arg7) = m ((c.tc : Thread Cert.MlpReferenceIdeal.nD Cert.MlpReferenceIdeal.τ).loc Cert.MlpReferenceIdeal.main_arg7))
      ∧ r.2.sem = fun _ => 0)

def quiescent_MlpReferenceIdeal_pre_finite_mlp [hMlpReferenceIdeal : Cert.MlpReferenceIdeal.Facts] [hPre_finite_mlp : Cert.Pre_finite_mlp.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal_finite_mlp m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5)
      ∧ r.2.mem ((c.tc : Thread Cert.MlpReferenceIdeal.nD Cert.MlpReferenceIdeal.τ).loc Cert.MlpReferenceIdeal.main_arg6) = m ((c.tc : Thread Cert.MlpReferenceIdeal.nD Cert.MlpReferenceIdeal.τ).loc Cert.MlpReferenceIdeal.main_arg6)
      ∧ r.2.mem ((c.tc : Thread Cert.MlpReferenceIdeal.nD Cert.MlpReferenceIdeal.τ).loc Cert.MlpReferenceIdeal.main_arg7) = m ((c.tc : Thread Cert.MlpReferenceIdeal.nD Cert.MlpReferenceIdeal.τ).loc Cert.MlpReferenceIdeal.main_arg7))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixIdeal_pre_finite_mix [hMixIdeal : Cert.MixIdeal.Facts] [hPre_finite_mix : Cert.Pre_finite_mix.Facts] : Prop :=
  ∀ (m : (ℓ : Loc Cert.MixIdeal.nD Cert.MixIdeal.τ Cert.MixIdeal.sig) → Buf (Elt Ideal) ℓ) (g : Dev Cert.MixIdeal.nD → PrngReg), Pre_MixIdeal_finite_mix m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9))
      ∧ r.2.sem = fun _ => 0)

def quiescent_MixReferenceIdeal_pre_finite_mix [hMixReferenceIdeal : Cert.MixReferenceIdeal.Facts] [hPre_finite_mix : Cert.Pre_finite_mix.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal_finite_mix m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5)
      ∧ r.2.mem ((c.tc : Thread Cert.Conv.nD Cert.Conv.τ).loc Cert.Conv.main_arg6) = m ((c.tc : Thread Cert.Conv.nD Cert.Conv.τ).loc Cert.Conv.main_arg6)
      ∧ r.2.mem ((c.tc : Thread Cert.Conv.nD Cert.Conv.τ).loc Cert.Conv.main_arg7) = m ((c.tc : Thread Cert.Conv.nD Cert.Conv.τ).loc Cert.Conv.main_arg7))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
      ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
      ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3)
      ∧ r.2.mem ((c.tc : Thread Cert.ConvReferenceIdeal.nD Cert.ConvReferenceIdeal.τ).loc Cert.ConvReferenceIdeal.main_arg4) = m ((c.tc : Thread Cert.ConvReferenceIdeal.nD Cert.ConvReferenceIdeal.τ).loc Cert.ConvReferenceIdeal.main_arg4)
      ∧ r.2.mem ((c.tc : Thread Cert.ConvReferenceIdeal.nD Cert.ConvReferenceIdeal.τ).loc Cert.ConvReferenceIdeal.main_arg5) = m ((c.tc : Thread Cert.ConvReferenceIdeal.nD Cert.ConvReferenceIdeal.τ).loc Cert.ConvReferenceIdeal.main_arg5)
      ∧ r.2.mem ((c.tc : Thread Cert.ConvReferenceIdeal.nD Cert.ConvReferenceIdeal.τ).loc Cert.ConvReferenceIdeal.main_arg6) = m ((c.tc : Thread Cert.ConvReferenceIdeal.nD Cert.ConvReferenceIdeal.τ).loc Cert.ConvReferenceIdeal.main_arg6)
      ∧ r.2.mem ((c.tc : Thread Cert.ConvReferenceIdeal.nD Cert.ConvReferenceIdeal.τ).loc Cert.ConvReferenceIdeal.main_arg7) = m ((c.tc : Thread Cert.ConvReferenceIdeal.nD Cert.ConvReferenceIdeal.τ).loc Cert.ConvReferenceIdeal.main_arg7))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6))
      ∧ r.2.sem = fun _ => 0)

def quiescent_Pre [hPre : Cert.Pre.Facts] : Prop :=
  ∀ (m : (ℓ : Loc Cert.Pre.nD Cert.Pre.τ Cert.Pre.sig) → Buf (Elt Bits) ℓ) (g : Dev Cert.Pre.nD → PrngReg), Pre_Pre m →
    θ_run (Cert.Pre.defs (F := Bits)) (onTc (τ := Cert.Pre.τ) (Cert.Pre.main (F := Bits))) ⟨m, fun _ => 0, g⟩ (fun r => (∀ c : Dev Cert.Pre.nD,
      r.2.mem ((c.tc : Thread Cert.Pre.nD Cert.Pre.τ).loc Cert.Pre.main_arg0) = m ((c.tc : Thread Cert.Pre.nD Cert.Pre.τ).loc Cert.Pre.main_arg0)
      ∧ r.2.mem ((c.tc : Thread Cert.Pre.nD Cert.Pre.τ).loc Cert.Pre.main_arg1) = m ((c.tc : Thread Cert.Pre.nD Cert.Pre.τ).loc Cert.Pre.main_arg1)
      ∧ r.2.mem ((c.tc : Thread Cert.Pre.nD Cert.Pre.τ).loc Cert.Pre.main_arg2) = m ((c.tc : Thread Cert.Pre.nD Cert.Pre.τ).loc Cert.Pre.main_arg2)
      ∧ r.2.mem ((c.tc : Thread Cert.Pre.nD Cert.Pre.τ).loc Cert.Pre.main_arg3) = m ((c.tc : Thread Cert.Pre.nD Cert.Pre.τ).loc Cert.Pre.main_arg3)
      ∧ r.2.mem ((c.tc : Thread Cert.Pre.nD Cert.Pre.τ).loc Cert.Pre.main_arg4) = m ((c.tc : Thread Cert.Pre.nD Cert.Pre.τ).loc Cert.Pre.main_arg4)
      ∧ r.2.mem ((c.tc : Thread Cert.Pre.nD Cert.Pre.τ).loc Cert.Pre.main_arg5) = m ((c.tc : Thread Cert.Pre.nD Cert.Pre.τ).loc Cert.Pre.main_arg5))
      ∧ r.2.sem = fun _ => 0)

def quiescent_PreIdeal [hPreIdeal : Cert.PreIdeal.Facts] : Prop :=
  ∀ (m : (ℓ : Loc Cert.PreIdeal.nD Cert.PreIdeal.τ Cert.PreIdeal.sig) → Buf (Elt Ideal) ℓ) (g : Dev Cert.PreIdeal.nD → PrngReg), Pre_PreIdeal m →
    θ_run (Cert.PreIdeal.defs (F := Ideal)) (onTc (τ := Cert.PreIdeal.τ) (Cert.PreIdeal.main (F := Ideal))) ⟨m, fun _ => 0, g⟩ (fun r => (∀ c : Dev Cert.PreIdeal.nD,
      r.2.mem ((c.tc : Thread Cert.PreIdeal.nD Cert.PreIdeal.τ).loc Cert.PreIdeal.main_arg0) = m ((c.tc : Thread Cert.PreIdeal.nD Cert.PreIdeal.τ).loc Cert.PreIdeal.main_arg0)
      ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
      ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
      ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
      ∧ r.2.mem ((c.tc : Thread Cert.PreIdeal.nD Cert.PreIdeal.τ).loc Cert.PreIdeal.main_arg4) = m ((c.tc : Thread Cert.PreIdeal.nD Cert.PreIdeal.τ).loc Cert.PreIdeal.main_arg4)
      ∧ r.2.mem ((c.tc : Thread Cert.PreIdeal.nD Cert.PreIdeal.τ).loc Cert.PreIdeal.main_arg5) = m ((c.tc : Thread Cert.PreIdeal.nD Cert.PreIdeal.τ).loc Cert.PreIdeal.main_arg5))
      ∧ r.2.sem = fun _ => 0)

def quiescent_PreReferenceIdeal [hPreReferenceIdeal : Cert.PreReferenceIdeal.Facts] : Prop :=
  ∀ (m : (ℓ : Loc Cert.PreReferenceIdeal.nD Cert.PreReferenceIdeal.τ Cert.PreReferenceIdeal.sig) → Buf (Elt Ideal) ℓ) (g : Dev Cert.PreReferenceIdeal.nD → PrngReg), Pre_PreReferenceIdeal m →
    θ_run (Cert.PreReferenceIdeal.defs (F := Ideal)) (onTc (τ := Cert.PreReferenceIdeal.τ) (Cert.PreReferenceIdeal.main (F := Ideal))) ⟨m, fun _ => 0, g⟩ (fun r => (∀ c : Dev Cert.PreReferenceIdeal.nD,
      r.2.mem ((c.tc : Thread Cert.PreReferenceIdeal.nD Cert.PreReferenceIdeal.τ).loc Cert.PreReferenceIdeal.main_arg0) = m ((c.tc : Thread Cert.PreReferenceIdeal.nD Cert.PreReferenceIdeal.τ).loc Cert.PreReferenceIdeal.main_arg0)
      ∧ r.2.mem ((c.tc : Thread Cert.PreReferenceIdeal.nD Cert.PreReferenceIdeal.τ).loc Cert.PreReferenceIdeal.main_arg1) = m ((c.tc : Thread Cert.PreReferenceIdeal.nD Cert.PreReferenceIdeal.τ).loc Cert.PreReferenceIdeal.main_arg1)
      ∧ r.2.mem ((c.tc : Thread Cert.PreReferenceIdeal.nD Cert.PreReferenceIdeal.τ).loc Cert.PreReferenceIdeal.main_arg2) = m ((c.tc : Thread Cert.PreReferenceIdeal.nD Cert.PreReferenceIdeal.τ).loc Cert.PreReferenceIdeal.main_arg2)
      ∧ r.2.mem ((c.tc : Thread Cert.PreReferenceIdeal.nD Cert.PreReferenceIdeal.τ).loc Cert.PreReferenceIdeal.main_arg3) = m ((c.tc : Thread Cert.PreReferenceIdeal.nD Cert.PreReferenceIdeal.τ).loc Cert.PreReferenceIdeal.main_arg3)
      ∧ r.2.mem ((c.tc : Thread Cert.PreReferenceIdeal.nD Cert.PreReferenceIdeal.τ).loc Cert.PreReferenceIdeal.main_arg4) = m ((c.tc : Thread Cert.PreReferenceIdeal.nD Cert.PreReferenceIdeal.τ).loc Cert.PreReferenceIdeal.main_arg4)
      ∧ r.2.mem ((c.tc : Thread Cert.PreReferenceIdeal.nD Cert.PreReferenceIdeal.τ).loc Cert.PreReferenceIdeal.main_arg5) = m ((c.tc : Thread Cert.PreReferenceIdeal.nD Cert.PreReferenceIdeal.τ).loc Cert.PreReferenceIdeal.main_arg5))
      ∧ r.2.sem = fun _ => 0)

def quiescent_Gw [hGw : Cert.Gw.Facts] : Prop :=
  ∀ (m : (ℓ : Loc Cert.Gw.nD Cert.Gw.τ Cert.Gw.sig) → Buf (Elt Bits) ℓ) (g : Dev Cert.Gw.nD → PrngReg), Pre_Gw m →
    θ_run (Cert.Gw.defs (F := Bits)) (onTc (τ := Cert.Gw.τ) (Cert.Gw.main (F := Bits))) ⟨m, fun _ => 0, g⟩ (fun r => (∀ c : Dev Cert.Gw.nD,
      r.2.mem ((c.tc : Thread Cert.Gw.nD Cert.Gw.τ).loc Cert.Gw.main_arg0) = m ((c.tc : Thread Cert.Gw.nD Cert.Gw.τ).loc Cert.Gw.main_arg0)
      ∧ r.2.mem ((c.tc : Thread Cert.Gw.nD Cert.Gw.τ).loc Cert.Gw.main_arg1) = m ((c.tc : Thread Cert.Gw.nD Cert.Gw.τ).loc Cert.Gw.main_arg1)
      ∧ r.2.mem ((c.tc : Thread Cert.Gw.nD Cert.Gw.τ).loc Cert.Gw.main_arg2) = m ((c.tc : Thread Cert.Gw.nD Cert.Gw.τ).loc Cert.Gw.main_arg2))
      ∧ r.2.sem = fun _ => 0)

def quiescent_GwIdeal [hGwIdeal : Cert.GwIdeal.Facts] : Prop :=
  ∀ (m : (ℓ : Loc Cert.GwIdeal.nD Cert.GwIdeal.τ Cert.GwIdeal.sig) → Buf (Elt Ideal) ℓ) (g : Dev Cert.GwIdeal.nD → PrngReg), Pre_GwIdeal m →
    θ_run (Cert.GwIdeal.defs (F := Ideal)) (onTc (τ := Cert.GwIdeal.τ) (Cert.GwIdeal.main (F := Ideal))) ⟨m, fun _ => 0, g⟩ (fun r => (∀ c : Dev Cert.GwIdeal.nD,
      r.2.mem ((c.tc : Thread Cert.GwIdeal.nD Cert.GwIdeal.τ).loc Cert.GwIdeal.main_arg0) = m ((c.tc : Thread Cert.GwIdeal.nD Cert.GwIdeal.τ).loc Cert.GwIdeal.main_arg0)
      ∧ r.2.mem ((c.tc : Thread Cert.GwIdeal.nD Cert.GwIdeal.τ).loc Cert.GwIdeal.main_arg1) = m ((c.tc : Thread Cert.GwIdeal.nD Cert.GwIdeal.τ).loc Cert.GwIdeal.main_arg1)
      ∧ r.2.mem ((c.tc : Thread Cert.GwIdeal.nD Cert.GwIdeal.τ).loc Cert.GwIdeal.main_arg2) = m ((c.tc : Thread Cert.GwIdeal.nD Cert.GwIdeal.τ).loc Cert.GwIdeal.main_arg2))
      ∧ r.2.sem = fun _ => 0)

def quiescent_GwReferenceIdeal [hGwReferenceIdeal : Cert.GwReferenceIdeal.Facts] : Prop :=
  ∀ (m : (ℓ : Loc Cert.GwReferenceIdeal.nD Cert.GwReferenceIdeal.τ Cert.GwReferenceIdeal.sig) → Buf (Elt Ideal) ℓ) (g : Dev Cert.GwReferenceIdeal.nD → PrngReg), Pre_GwReferenceIdeal m →
    θ_run (Cert.GwReferenceIdeal.defs (F := Ideal)) (onTc (τ := Cert.GwReferenceIdeal.τ) (Cert.GwReferenceIdeal.main (F := Ideal))) ⟨m, fun _ => 0, g⟩ (fun r => (∀ c : Dev Cert.GwReferenceIdeal.nD,
      r.2.mem ((c.tc : Thread Cert.GwReferenceIdeal.nD Cert.GwReferenceIdeal.τ).loc Cert.GwReferenceIdeal.main_arg0) = m ((c.tc : Thread Cert.GwReferenceIdeal.nD Cert.GwReferenceIdeal.τ).loc Cert.GwReferenceIdeal.main_arg0)
      ∧ r.2.mem ((c.tc : Thread Cert.GwReferenceIdeal.nD Cert.GwReferenceIdeal.τ).loc Cert.GwReferenceIdeal.main_arg1) = m ((c.tc : Thread Cert.GwReferenceIdeal.nD Cert.GwReferenceIdeal.τ).loc Cert.GwReferenceIdeal.main_arg1)
      ∧ r.2.mem ((c.tc : Thread Cert.GwReferenceIdeal.nD Cert.GwReferenceIdeal.τ).loc Cert.GwReferenceIdeal.main_arg2) = m ((c.tc : Thread Cert.GwReferenceIdeal.nD Cert.GwReferenceIdeal.τ).loc Cert.GwReferenceIdeal.main_arg2))
      ∧ r.2.sem = fun _ => 0)

def quiescent_Gx [hGx : Cert.Gx.Facts] : Prop :=
  ∀ (m : (ℓ : Loc Cert.Gx.nD Cert.Gx.τ Cert.Gx.sig) → Buf (Elt Bits) ℓ) (g : Dev Cert.Gx.nD → PrngReg), Pre_Gx m →
    θ_run (Cert.Gx.defs (F := Bits)) (onTc (τ := Cert.Gx.τ) (Cert.Gx.main (F := Bits))) ⟨m, fun _ => 0, g⟩ (fun r => (∀ c : Dev Cert.Gx.nD,
      r.2.mem ((c.tc : Thread Cert.Gx.nD Cert.Gx.τ).loc Cert.Gx.main_arg0) = m ((c.tc : Thread Cert.Gx.nD Cert.Gx.τ).loc Cert.Gx.main_arg0)
      ∧ r.2.mem ((c.tc : Thread Cert.Gx.nD Cert.Gx.τ).loc Cert.Gx.main_arg1) = m ((c.tc : Thread Cert.Gx.nD Cert.Gx.τ).loc Cert.Gx.main_arg1)
      ∧ r.2.mem ((c.tc : Thread Cert.Gx.nD Cert.Gx.τ).loc Cert.Gx.main_arg2) = m ((c.tc : Thread Cert.Gx.nD Cert.Gx.τ).loc Cert.Gx.main_arg2)
      ∧ r.2.mem ((c.tc : Thread Cert.Gx.nD Cert.Gx.τ).loc Cert.Gx.main_arg3) = m ((c.tc : Thread Cert.Gx.nD Cert.Gx.τ).loc Cert.Gx.main_arg3))
      ∧ r.2.sem = fun _ => 0)

def quiescent_GxIdeal [hGxIdeal : Cert.GxIdeal.Facts] : Prop :=
  ∀ (m : (ℓ : Loc Cert.GxIdeal.nD Cert.GxIdeal.τ Cert.GxIdeal.sig) → Buf (Elt Ideal) ℓ) (g : Dev Cert.GxIdeal.nD → PrngReg), Pre_GxIdeal m →
    θ_run (Cert.GxIdeal.defs (F := Ideal)) (onTc (τ := Cert.GxIdeal.τ) (Cert.GxIdeal.main (F := Ideal))) ⟨m, fun _ => 0, g⟩ (fun r => (∀ c : Dev Cert.GxIdeal.nD,
      r.2.mem ((c.tc : Thread Cert.GxIdeal.nD Cert.GxIdeal.τ).loc Cert.GxIdeal.main_arg0) = m ((c.tc : Thread Cert.GxIdeal.nD Cert.GxIdeal.τ).loc Cert.GxIdeal.main_arg0)
      ∧ r.2.mem ((c.tc : Thread Cert.GxIdeal.nD Cert.GxIdeal.τ).loc Cert.GxIdeal.main_arg1) = m ((c.tc : Thread Cert.GxIdeal.nD Cert.GxIdeal.τ).loc Cert.GxIdeal.main_arg1)
      ∧ r.2.mem ((c.tc : Thread Cert.GxIdeal.nD Cert.GxIdeal.τ).loc Cert.GxIdeal.main_arg2) = m ((c.tc : Thread Cert.GxIdeal.nD Cert.GxIdeal.τ).loc Cert.GxIdeal.main_arg2)
      ∧ r.2.mem ((c.tc : Thread Cert.GxIdeal.nD Cert.GxIdeal.τ).loc Cert.GxIdeal.main_arg3) = m ((c.tc : Thread Cert.GxIdeal.nD Cert.GxIdeal.τ).loc Cert.GxIdeal.main_arg3))
      ∧ r.2.sem = fun _ => 0)

def quiescent_GxReferenceIdeal [hGxReferenceIdeal : Cert.GxReferenceIdeal.Facts] : Prop :=
  ∀ (m : (ℓ : Loc Cert.GxReferenceIdeal.nD Cert.GxReferenceIdeal.τ Cert.GxReferenceIdeal.sig) → Buf (Elt Ideal) ℓ) (g : Dev Cert.GxReferenceIdeal.nD → PrngReg), Pre_GxReferenceIdeal m →
    θ_run (Cert.GxReferenceIdeal.defs (F := Ideal)) (onTc (τ := Cert.GxReferenceIdeal.τ) (Cert.GxReferenceIdeal.main (F := Ideal))) ⟨m, fun _ => 0, g⟩ (fun r => (∀ c : Dev Cert.GxReferenceIdeal.nD,
      r.2.mem ((c.tc : Thread Cert.GxReferenceIdeal.nD Cert.GxReferenceIdeal.τ).loc Cert.GxReferenceIdeal.main_arg0) = m ((c.tc : Thread Cert.GxReferenceIdeal.nD Cert.GxReferenceIdeal.τ).loc Cert.GxReferenceIdeal.main_arg0)
      ∧ r.2.mem ((c.tc : Thread Cert.GxReferenceIdeal.nD Cert.GxReferenceIdeal.τ).loc Cert.GxReferenceIdeal.main_arg1) = m ((c.tc : Thread Cert.GxReferenceIdeal.nD Cert.GxReferenceIdeal.τ).loc Cert.GxReferenceIdeal.main_arg1)
      ∧ r.2.mem ((c.tc : Thread Cert.GxReferenceIdeal.nD Cert.GxReferenceIdeal.τ).loc Cert.GxReferenceIdeal.main_arg2) = m ((c.tc : Thread Cert.GxReferenceIdeal.nD Cert.GxReferenceIdeal.τ).loc Cert.GxReferenceIdeal.main_arg2)
      ∧ r.2.mem ((c.tc : Thread Cert.GxReferenceIdeal.nD Cert.GxReferenceIdeal.τ).loc Cert.GxReferenceIdeal.main_arg3) = m ((c.tc : Thread Cert.GxReferenceIdeal.nD Cert.GxReferenceIdeal.τ).loc Cert.GxReferenceIdeal.main_arg3))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamReferenceIdeal [hAdamReferenceIdeal : Cert.AdamReferenceIdeal.Facts] : Prop :=
  ∀ (m : (ℓ : Loc Cert.AdamReferenceIdeal.nD Cert.AdamReferenceIdeal.τ Cert.AdamReferenceIdeal.sig) → Buf (Elt Ideal) ℓ) (g : Dev Cert.AdamReferenceIdeal.nD → PrngReg), Pre_AdamReferenceIdeal m →
    θ_run (Cert.AdamReferenceIdeal.defs (F := Ideal)) (onTc (τ := Cert.AdamReferenceIdeal.τ) (Cert.AdamReferenceIdeal.main (F := Ideal))) ⟨m, fun _ => 0, g⟩ (fun r => (∀ c : Dev Cert.AdamReferenceIdeal.nD,
      r.2.mem ((c.tc : Thread Cert.AdamReferenceIdeal.nD Cert.AdamReferenceIdeal.τ).loc Cert.AdamReferenceIdeal.main_arg0) = m ((c.tc : Thread Cert.AdamReferenceIdeal.nD Cert.AdamReferenceIdeal.τ).loc Cert.AdamReferenceIdeal.main_arg0)
      ∧ r.2.mem ((c.tc : Thread Cert.AdamReferenceIdeal.nD Cert.AdamReferenceIdeal.τ).loc Cert.AdamReferenceIdeal.main_arg1) = m ((c.tc : Thread Cert.AdamReferenceIdeal.nD Cert.AdamReferenceIdeal.τ).loc Cert.AdamReferenceIdeal.main_arg1)
      ∧ r.2.mem ((c.tc : Thread Cert.AdamReferenceIdeal.nD Cert.AdamReferenceIdeal.τ).loc Cert.AdamReferenceIdeal.main_arg2) = m ((c.tc : Thread Cert.AdamReferenceIdeal.nD Cert.AdamReferenceIdeal.τ).loc Cert.AdamReferenceIdeal.main_arg2)
      ∧ r.2.mem ((c.tc : Thread Cert.AdamReferenceIdeal.nD Cert.AdamReferenceIdeal.τ).loc Cert.AdamReferenceIdeal.main_arg3) = m ((c.tc : Thread Cert.AdamReferenceIdeal.nD Cert.AdamReferenceIdeal.τ).loc Cert.AdamReferenceIdeal.main_arg3))
      ∧ r.2.sem = fun _ => 0)

def quiescent_Sum [hSum : Cert.Sum.Facts] : Prop :=
  ∀ (m : (ℓ : Loc Cert.Sum.nD Cert.Sum.τ Cert.Sum.sig) → Buf (Elt Bits) ℓ) (g : Dev Cert.Sum.nD → PrngReg), Pre_Sum m →
    θ_run (Cert.Sum.defs (F := Bits)) (onTc (τ := Cert.Sum.τ) (Cert.Sum.main (F := Bits))) ⟨m, fun _ => 0, g⟩ (fun r => (∀ c : Dev Cert.Sum.nD,
      r.2.mem ((c.tc : Thread Cert.Sum.nD Cert.Sum.τ).loc Cert.Sum.main_arg0) = m ((c.tc : Thread Cert.Sum.nD Cert.Sum.τ).loc Cert.Sum.main_arg0))
      ∧ r.2.sem = fun _ => 0)

def quiescent_SumIdeal [hSumIdeal : Cert.SumIdeal.Facts] : Prop :=
  ∀ (m : (ℓ : Loc Cert.SumIdeal.nD Cert.SumIdeal.τ Cert.SumIdeal.sig) → Buf (Elt Ideal) ℓ) (g : Dev Cert.SumIdeal.nD → PrngReg), Pre_SumIdeal m →
    θ_run (Cert.SumIdeal.defs (F := Ideal)) (onTc (τ := Cert.SumIdeal.τ) (Cert.SumIdeal.main (F := Ideal))) ⟨m, fun _ => 0, g⟩ (fun r => (∀ c : Dev Cert.SumIdeal.nD,
      r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ r.2.sem = fun _ => 0)

def quiescent_SumReferenceIdeal [hSumReferenceIdeal : Cert.SumReferenceIdeal.Facts] : Prop :=
  ∀ (m : (ℓ : Loc Cert.SumReferenceIdeal.nD Cert.SumReferenceIdeal.τ Cert.SumReferenceIdeal.sig) → Buf (Elt Ideal) ℓ) (g : Dev Cert.SumReferenceIdeal.nD → PrngReg), Pre_SumReferenceIdeal m →
    θ_run (Cert.SumReferenceIdeal.defs (F := Ideal)) (onTc (τ := Cert.SumReferenceIdeal.τ) (Cert.SumReferenceIdeal.main (F := Ideal))) ⟨m, fun _ => 0, g⟩ (fun r => (∀ c : Dev Cert.SumReferenceIdeal.nD,
      r.2.mem ((c.tc : Thread Cert.SumReferenceIdeal.nD Cert.SumReferenceIdeal.τ).loc Cert.SumReferenceIdeal.main_arg0) = m ((c.tc : Thread Cert.SumReferenceIdeal.nD Cert.SumReferenceIdeal.τ).loc Cert.SumReferenceIdeal.main_arg0))
      ∧ r.2.sem = fun _ => 0)

def quiescent_Xch [hXch : Cert.Xch.Facts] : Prop :=
  ∀ (m : (ℓ : Loc Cert.Xch.nD Cert.Xch.τ Cert.Xch.sig) → Buf (Elt Bits) ℓ) (g : Dev Cert.Xch.nD → PrngReg), Pre_Xch m →
    θ_run (Cert.Xch.defs (F := Bits)) (onTc (τ := Cert.Xch.τ) (Cert.Xch.main (F := Bits))) ⟨m, fun _ => 0, g⟩ (fun r => (∀ c : Dev Cert.Xch.nD,
      r.2.mem ((c.tc : Thread Cert.Xch.nD Cert.Xch.τ).loc Cert.Xch.main_arg0) = m ((c.tc : Thread Cert.Xch.nD Cert.Xch.τ).loc Cert.Xch.main_arg0))
      ∧ r.2.sem = fun _ => 0)

def quiescent_XchIdeal [hXchIdeal : Cert.XchIdeal.Facts] : Prop :=
  ∀ (m : (ℓ : Loc Cert.XchIdeal.nD Cert.XchIdeal.τ Cert.XchIdeal.sig) → Buf (Elt Ideal) ℓ) (g : Dev Cert.XchIdeal.nD → PrngReg), Pre_XchIdeal m →
    θ_run (Cert.XchIdeal.defs (F := Ideal)) (onTc (τ := Cert.XchIdeal.τ) (Cert.XchIdeal.main (F := Ideal))) ⟨m, fun _ => 0, g⟩ (fun r => (∀ c : Dev Cert.XchIdeal.nD,
      r.2.mem ((c.tc : Thread Cert.XchIdeal.nD Cert.XchIdeal.τ).loc Cert.XchIdeal.main_arg0) = m ((c.tc : Thread Cert.XchIdeal.nD Cert.XchIdeal.τ).loc Cert.XchIdeal.main_arg0))
      ∧ r.2.sem = fun _ => 0)

def quiescent_XchReferenceIdeal [hXchReferenceIdeal : Cert.XchReferenceIdeal.Facts] : Prop :=
  ∀ (m : (ℓ : Loc Cert.XchReferenceIdeal.nD Cert.XchReferenceIdeal.τ Cert.XchReferenceIdeal.sig) → Buf (Elt Ideal) ℓ) (g : Dev Cert.XchReferenceIdeal.nD → PrngReg), Pre_XchReferenceIdeal m →
    θ_run (Cert.XchReferenceIdeal.defs (F := Ideal)) (onTc (τ := Cert.XchReferenceIdeal.τ) (Cert.XchReferenceIdeal.main (F := Ideal))) ⟨m, fun _ => 0, g⟩ (fun r => (∀ c : Dev Cert.XchReferenceIdeal.nD,
      r.2.mem ((c.tc : Thread Cert.XchReferenceIdeal.nD Cert.XchReferenceIdeal.τ).loc Cert.XchReferenceIdeal.main_arg0) = m ((c.tc : Thread Cert.XchReferenceIdeal.nD Cert.XchReferenceIdeal.τ).loc Cert.XchReferenceIdeal.main_arg0))
      ∧ r.2.sem = fun _ => 0)

def quiescent_XchReference [hXchReference : Cert.XchReference.Facts] : Prop :=
  ∀ (m : (ℓ : Loc Cert.XchReference.nD Cert.XchReference.τ Cert.XchReference.sig) → Buf (Elt Bits) ℓ) (g : Dev Cert.XchReference.nD → PrngReg), Pre_XchReference m →
    θ_run (Cert.XchReference.defs (F := Bits)) (onTc (τ := Cert.XchReference.τ) (Cert.XchReference.main (F := Bits))) ⟨m, fun _ => 0, g⟩ (fun r => (∀ c : Dev Cert.XchReference.nD,
      r.2.mem ((c.tc : Thread Cert.XchReference.nD Cert.XchReference.τ).loc Cert.XchReference.main_arg0) = m ((c.tc : Thread Cert.XchReference.nD Cert.XchReference.τ).loc Cert.XchReference.main_arg0))
      ∧ r.2.sem = fun _ => 0)

def quiescent_Sct [hSct : Cert.Sct.Facts] : Prop :=
  ∀ (m : (ℓ : Loc Cert.Sct.nD Cert.Sct.τ Cert.Sct.sig) → Buf (Elt Bits) ℓ) (g : Dev Cert.Sct.nD → PrngReg), Pre_Sct m →
    θ_run (Cert.Sct.defs (F := Bits)) (onTc (τ := Cert.Sct.τ) (Cert.Sct.main (F := Bits))) ⟨m, fun _ => 0, g⟩ (fun r => (∀ c : Dev Cert.Sct.nD,
      r.2.mem ((c.tc : Thread Cert.Sct.nD Cert.Sct.τ).loc Cert.Sct.main_arg0) = m ((c.tc : Thread Cert.Sct.nD Cert.Sct.τ).loc Cert.Sct.main_arg0))
      ∧ r.2.sem = fun _ => 0)

def quiescent_SctIdeal [hSctIdeal : Cert.SctIdeal.Facts] : Prop :=
  ∀ (m : (ℓ : Loc Cert.SctIdeal.nD Cert.SctIdeal.τ Cert.SctIdeal.sig) → Buf (Elt Ideal) ℓ) (g : Dev Cert.SctIdeal.nD → PrngReg), Pre_SctIdeal m →
    θ_run (Cert.SctIdeal.defs (F := Ideal)) (onTc (τ := Cert.SctIdeal.τ) (Cert.SctIdeal.main (F := Ideal))) ⟨m, fun _ => 0, g⟩ (fun r => (∀ c : Dev Cert.SctIdeal.nD,
      r.2.mem ((c.tc : Thread Cert.SctIdeal.nD Cert.SctIdeal.τ).loc Cert.SctIdeal.main_arg0) = m ((c.tc : Thread Cert.SctIdeal.nD Cert.SctIdeal.τ).loc Cert.SctIdeal.main_arg0))
      ∧ r.2.sem = fun _ => 0)

def quiescent_SctReferenceIdeal [hSctReferenceIdeal : Cert.SctReferenceIdeal.Facts] : Prop :=
  ∀ (m : (ℓ : Loc Cert.SctReferenceIdeal.nD Cert.SctReferenceIdeal.τ Cert.SctReferenceIdeal.sig) → Buf (Elt Ideal) ℓ) (g : Dev Cert.SctReferenceIdeal.nD → PrngReg), Pre_SctReferenceIdeal m →
    θ_run (Cert.SctReferenceIdeal.defs (F := Ideal)) (onTc (τ := Cert.SctReferenceIdeal.τ) (Cert.SctReferenceIdeal.main (F := Ideal))) ⟨m, fun _ => 0, g⟩ (fun r => (∀ c : Dev Cert.SctReferenceIdeal.nD,
      r.2.mem ((c.tc : Thread Cert.SctReferenceIdeal.nD Cert.SctReferenceIdeal.τ).loc Cert.SctReferenceIdeal.main_arg0) = m ((c.tc : Thread Cert.SctReferenceIdeal.nD Cert.SctReferenceIdeal.τ).loc Cert.SctReferenceIdeal.main_arg0))
      ∧ r.2.sem = fun _ => 0)

def quiescent_SctReference [hSctReference : Cert.SctReference.Facts] : Prop :=
  ∀ (m : (ℓ : Loc Cert.SctReference.nD Cert.SctReference.τ Cert.SctReference.sig) → Buf (Elt Bits) ℓ) (g : Dev Cert.SctReference.nD → PrngReg), Pre_SctReference m →
    θ_run (Cert.SctReference.defs (F := Bits)) (onTc (τ := Cert.SctReference.τ) (Cert.SctReference.main (F := Bits))) ⟨m, fun _ => 0, g⟩ (fun r => (∀ c : Dev Cert.SctReference.nD,
      r.2.mem ((c.tc : Thread Cert.SctReference.nD Cert.SctReference.τ).loc Cert.SctReference.main_arg0) = m ((c.tc : Thread Cert.SctReference.nD Cert.SctReference.τ).loc Cert.SctReference.main_arg0))
      ∧ r.2.sem = fun _ => 0)

def quiescent_Pc [hPc : Cert.Pc.Facts] : Prop :=
  ∀ (m : (ℓ : Loc Cert.Pc.nD Cert.Pc.τ Cert.Pc.sig) → Buf (Elt Bits) ℓ) (g : Dev Cert.Pc.nD → PrngReg), Pre_Pc m →
    θ_run (Cert.Pc.defs (F := Bits)) (onTc (τ := Cert.Pc.τ) (Cert.Pc.main (F := Bits))) ⟨m, fun _ => 0, g⟩ (fun r => (∀ c : Dev Cert.Pc.nD,
      r.2.mem ((c.tc : Thread Cert.Pc.nD Cert.Pc.τ).loc Cert.Pc.main_arg0) = m ((c.tc : Thread Cert.Pc.nD Cert.Pc.τ).loc Cert.Pc.main_arg0))
      ∧ r.2.sem = fun _ => 0)

def quiescent_PcIdeal [hPcIdeal : Cert.PcIdeal.Facts] : Prop :=
  ∀ (m : (ℓ : Loc Cert.PcIdeal.nD Cert.PcIdeal.τ Cert.PcIdeal.sig) → Buf (Elt Ideal) ℓ) (g : Dev Cert.PcIdeal.nD → PrngReg), Pre_PcIdeal m →
    θ_run (Cert.PcIdeal.defs (F := Ideal)) (onTc (τ := Cert.PcIdeal.τ) (Cert.PcIdeal.main (F := Ideal))) ⟨m, fun _ => 0, g⟩ (fun r => (∀ c : Dev Cert.PcIdeal.nD,
      r.2.mem ((c.tc : Thread Cert.PcIdeal.nD Cert.PcIdeal.τ).loc Cert.PcIdeal.main_arg0) = m ((c.tc : Thread Cert.PcIdeal.nD Cert.PcIdeal.τ).loc Cert.PcIdeal.main_arg0))
      ∧ r.2.sem = fun _ => 0)

def quiescent_PcReferenceIdeal [hPcReferenceIdeal : Cert.PcReferenceIdeal.Facts] : Prop :=
  ∀ (m : (ℓ : Loc Cert.PcReferenceIdeal.nD Cert.PcReferenceIdeal.τ Cert.PcReferenceIdeal.sig) → Buf (Elt Ideal) ℓ) (g : Dev Cert.PcReferenceIdeal.nD → PrngReg), Pre_PcReferenceIdeal m →
    θ_run (Cert.PcReferenceIdeal.defs (F := Ideal)) (onTc (τ := Cert.PcReferenceIdeal.τ) (Cert.PcReferenceIdeal.main (F := Ideal))) ⟨m, fun _ => 0, g⟩ (fun r => (∀ c : Dev Cert.PcReferenceIdeal.nD,
      r.2.mem ((c.tc : Thread Cert.PcReferenceIdeal.nD Cert.PcReferenceIdeal.τ).loc Cert.PcReferenceIdeal.main_arg0) = m ((c.tc : Thread Cert.PcReferenceIdeal.nD Cert.PcReferenceIdeal.τ).loc Cert.PcReferenceIdeal.main_arg0))
      ∧ r.2.sem = fun _ => 0)

def quiescent_PcReference [hPcReference : Cert.PcReference.Facts] : Prop :=
  ∀ (m : (ℓ : Loc Cert.PcReference.nD Cert.PcReference.τ Cert.PcReference.sig) → Buf (Elt Bits) ℓ) (g : Dev Cert.PcReference.nD → PrngReg), Pre_PcReference m →
    θ_run (Cert.PcReference.defs (F := Bits)) (onTc (τ := Cert.PcReference.τ) (Cert.PcReference.main (F := Bits))) ⟨m, fun _ => 0, g⟩ (fun r => (∀ c : Dev Cert.PcReference.nD,
      r.2.mem ((c.tc : Thread Cert.PcReference.nD Cert.PcReference.τ).loc Cert.PcReference.main_arg0) = m ((c.tc : Thread Cert.PcReference.nD Cert.PcReference.τ).loc Cert.PcReference.main_arg0))
      ∧ r.2.sem = fun _ => 0)

def quiescent_Pa [hPa : Cert.Pa.Facts] : Prop :=
  ∀ (m : (ℓ : Loc Cert.Pa.nD Cert.Pa.τ Cert.Pa.sig) → Buf (Elt Bits) ℓ) (g : Dev Cert.Pa.nD → PrngReg), Pre_Pa m →
    θ_run (Cert.Pa.defs (F := Bits)) (onTc (τ := Cert.Pa.τ) (Cert.Pa.main (F := Bits))) ⟨m, fun _ => 0, g⟩ (fun r => (∀ c : Dev Cert.Pa.nD,
      r.2.mem ((c.tc : Thread Cert.Pa.nD Cert.Pa.τ).loc Cert.Pa.main_arg0) = m ((c.tc : Thread Cert.Pa.nD Cert.Pa.τ).loc Cert.Pa.main_arg0)
      ∧ r.2.mem ((c.tc : Thread Cert.Pa.nD Cert.Pa.τ).loc Cert.Pa.main_arg1) = m ((c.tc : Thread Cert.Pa.nD Cert.Pa.τ).loc Cert.Pa.main_arg1))
      ∧ r.2.sem = fun _ => 0)

def quiescent_PaIdeal [hPaIdeal : Cert.PaIdeal.Facts] : Prop :=
  ∀ (m : (ℓ : Loc Cert.PaIdeal.nD Cert.PaIdeal.τ Cert.PaIdeal.sig) → Buf (Elt Ideal) ℓ) (g : Dev Cert.PaIdeal.nD → PrngReg), Pre_PaIdeal m →
    θ_run (Cert.PaIdeal.defs (F := Ideal)) (onTc (τ := Cert.PaIdeal.τ) (Cert.PaIdeal.main (F := Ideal))) ⟨m, fun _ => 0, g⟩ (fun r => (∀ c : Dev Cert.PaIdeal.nD,
      r.2.mem ((c.tc : Thread Cert.PaIdeal.nD Cert.PaIdeal.τ).loc Cert.PaIdeal.main_arg0) = m ((c.tc : Thread Cert.PaIdeal.nD Cert.PaIdeal.τ).loc Cert.PaIdeal.main_arg0)
      ∧ r.2.mem ((c.tc : Thread Cert.PaIdeal.nD Cert.PaIdeal.τ).loc Cert.PaIdeal.main_arg1) = m ((c.tc : Thread Cert.PaIdeal.nD Cert.PaIdeal.τ).loc Cert.PaIdeal.main_arg1))
      ∧ r.2.sem = fun _ => 0)

def quiescent_PaReferenceIdeal [hPaReferenceIdeal : Cert.PaReferenceIdeal.Facts] : Prop :=
  ∀ (m : (ℓ : Loc Cert.PaReferenceIdeal.nD Cert.PaReferenceIdeal.τ Cert.PaReferenceIdeal.sig) → Buf (Elt Ideal) ℓ) (g : Dev Cert.PaReferenceIdeal.nD → PrngReg), Pre_PaReferenceIdeal m →
    θ_run (Cert.PaReferenceIdeal.defs (F := Ideal)) (onTc (τ := Cert.PaReferenceIdeal.τ) (Cert.PaReferenceIdeal.main (F := Ideal))) ⟨m, fun _ => 0, g⟩ (fun r => (∀ c : Dev Cert.PaReferenceIdeal.nD,
      r.2.mem ((c.tc : Thread Cert.PaReferenceIdeal.nD Cert.PaReferenceIdeal.τ).loc Cert.PaReferenceIdeal.main_arg0) = m ((c.tc : Thread Cert.PaReferenceIdeal.nD Cert.PaReferenceIdeal.τ).loc Cert.PaReferenceIdeal.main_arg0)
      ∧ r.2.mem ((c.tc : Thread Cert.PaReferenceIdeal.nD Cert.PaReferenceIdeal.τ).loc Cert.PaReferenceIdeal.main_arg1) = m ((c.tc : Thread Cert.PaReferenceIdeal.nD Cert.PaReferenceIdeal.τ).loc Cert.PaReferenceIdeal.main_arg1))
      ∧ r.2.sem = fun _ => 0)

def quiescent_PaReference [hPaReference : Cert.PaReference.Facts] : Prop :=
  ∀ (m : (ℓ : Loc Cert.PaReference.nD Cert.PaReference.τ Cert.PaReference.sig) → Buf (Elt Bits) ℓ) (g : Dev Cert.PaReference.nD → PrngReg), Pre_PaReference m →
    θ_run (Cert.PaReference.defs (F := Bits)) (onTc (τ := Cert.PaReference.τ) (Cert.PaReference.main (F := Bits))) ⟨m, fun _ => 0, g⟩ (fun r => (∀ c : Dev Cert.PaReference.nD,
      r.2.mem ((c.tc : Thread Cert.PaReference.nD Cert.PaReference.τ).loc Cert.PaReference.main_arg0) = m ((c.tc : Thread Cert.PaReference.nD Cert.PaReference.τ).loc Cert.PaReference.main_arg0)
      ∧ r.2.mem ((c.tc : Thread Cert.PaReference.nD Cert.PaReference.τ).loc Cert.PaReference.main_arg1) = m ((c.tc : Thread Cert.PaReference.nD Cert.PaReference.τ).loc Cert.PaReference.main_arg1))
      ∧ r.2.sem = fun _ => 0)

def quiescent_Cs [hCs : Cert.Cs.Facts] : Prop :=
  ∀ (m : (ℓ : Loc Cert.Cs.nD Cert.Cs.τ Cert.Cs.sig) → Buf (Elt Bits) ℓ) (g : Dev Cert.Cs.nD → PrngReg), Pre_Cs m →
    θ_run (Cert.Cs.defs (F := Bits)) (onTc (τ := Cert.Cs.τ) (Cert.Cs.main (F := Bits))) ⟨m, fun _ => 0, g⟩ (fun r => (∀ c : Dev Cert.Cs.nD,
      r.2.mem ((c.tc : Thread Cert.Cs.nD Cert.Cs.τ).loc Cert.Cs.main_arg0) = m ((c.tc : Thread Cert.Cs.nD Cert.Cs.τ).loc Cert.Cs.main_arg0)
      ∧ r.2.mem ((c.tc : Thread Cert.Cs.nD Cert.Cs.τ).loc Cert.Cs.main_arg1) = m ((c.tc : Thread Cert.Cs.nD Cert.Cs.τ).loc Cert.Cs.main_arg1)
      ∧ r.2.mem ((c.tc : Thread Cert.Cs.nD Cert.Cs.τ).loc Cert.Cs.main_arg2) = m ((c.tc : Thread Cert.Cs.nD Cert.Cs.τ).loc Cert.Cs.main_arg2))
      ∧ r.2.sem = fun _ => 0)

def quiescent_CsIdeal [hCsIdeal : Cert.CsIdeal.Facts] : Prop :=
  ∀ (m : (ℓ : Loc Cert.CsIdeal.nD Cert.CsIdeal.τ Cert.CsIdeal.sig) → Buf (Elt Ideal) ℓ) (g : Dev Cert.CsIdeal.nD → PrngReg), Pre_CsIdeal m →
    θ_run (Cert.CsIdeal.defs (F := Ideal)) (onTc (τ := Cert.CsIdeal.τ) (Cert.CsIdeal.main (F := Ideal))) ⟨m, fun _ => 0, g⟩ (fun r => (∀ c : Dev Cert.CsIdeal.nD,
      r.2.mem ((c.tc : Thread Cert.CsIdeal.nD Cert.CsIdeal.τ).loc Cert.CsIdeal.main_arg0) = m ((c.tc : Thread Cert.CsIdeal.nD Cert.CsIdeal.τ).loc Cert.CsIdeal.main_arg0)
      ∧ r.2.mem ((c.tc : Thread Cert.CsIdeal.nD Cert.CsIdeal.τ).loc Cert.CsIdeal.main_arg1) = m ((c.tc : Thread Cert.CsIdeal.nD Cert.CsIdeal.τ).loc Cert.CsIdeal.main_arg1)
      ∧ r.2.mem ((c.tc : Thread Cert.CsIdeal.nD Cert.CsIdeal.τ).loc Cert.CsIdeal.main_arg2) = m ((c.tc : Thread Cert.CsIdeal.nD Cert.CsIdeal.τ).loc Cert.CsIdeal.main_arg2))
      ∧ r.2.sem = fun _ => 0)

def quiescent_CsReferenceIdeal [hCsReferenceIdeal : Cert.CsReferenceIdeal.Facts] : Prop :=
  ∀ (m : (ℓ : Loc Cert.CsReferenceIdeal.nD Cert.CsReferenceIdeal.τ Cert.CsReferenceIdeal.sig) → Buf (Elt Ideal) ℓ) (g : Dev Cert.CsReferenceIdeal.nD → PrngReg), Pre_CsReferenceIdeal m →
    θ_run (Cert.CsReferenceIdeal.defs (F := Ideal)) (onTc (τ := Cert.CsReferenceIdeal.τ) (Cert.CsReferenceIdeal.main (F := Ideal))) ⟨m, fun _ => 0, g⟩ (fun r => (∀ c : Dev Cert.CsReferenceIdeal.nD,
      r.2.mem ((c.tc : Thread Cert.CsReferenceIdeal.nD Cert.CsReferenceIdeal.τ).loc Cert.CsReferenceIdeal.main_arg0) = m ((c.tc : Thread Cert.CsReferenceIdeal.nD Cert.CsReferenceIdeal.τ).loc Cert.CsReferenceIdeal.main_arg0)
      ∧ r.2.mem ((c.tc : Thread Cert.CsReferenceIdeal.nD Cert.CsReferenceIdeal.τ).loc Cert.CsReferenceIdeal.main_arg1) = m ((c.tc : Thread Cert.CsReferenceIdeal.nD Cert.CsReferenceIdeal.τ).loc Cert.CsReferenceIdeal.main_arg1)
      ∧ r.2.mem ((c.tc : Thread Cert.CsReferenceIdeal.nD Cert.CsReferenceIdeal.τ).loc Cert.CsReferenceIdeal.main_arg2) = m ((c.tc : Thread Cert.CsReferenceIdeal.nD Cert.CsReferenceIdeal.τ).loc Cert.CsReferenceIdeal.main_arg2))
      ∧ r.2.sem = fun _ => 0)

def preserves_Mlp_MlpIdeal : Prop :=
  True

def algebraic_MlpIdeal_MlpReferenceIdeal_pre_finite_mlp [hMlpIdeal : Cert.MlpIdeal.Facts] [hMlpReferenceIdeal : Cert.MlpReferenceIdeal.Facts] [hPre_finite_mlp : Cert.Pre_finite_mlp.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal_finite_mlp m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)
      ∧ m' ((c.tc : Thread Cert.MlpReferenceIdeal.nD Cert.MlpReferenceIdeal.τ).loc Cert.MlpReferenceIdeal.main_arg5) = m ((c.tc : Thread Cert.MlpIdeal.nD Cert.MlpIdeal.τ).loc Cert.MlpIdeal.main_arg5)
      ∧ m' ((c.tc : Thread Cert.MlpReferenceIdeal.nD Cert.MlpReferenceIdeal.τ).loc Cert.MlpReferenceIdeal.main_arg6) = m ((c.tc : Thread Cert.MlpIdeal.nD Cert.MlpIdeal.τ).loc Cert.MlpIdeal.main_arg6)
      ∧ m' ((c.tc : Thread Cert.MlpReferenceIdeal.nD Cert.MlpReferenceIdeal.τ).loc Cert.MlpReferenceIdeal.main_arg7) = m ((c.tc : Thread Cert.MlpIdeal.nD Cert.MlpIdeal.τ).loc Cert.MlpIdeal.main_arg7)) →
    ∃ (v0 : (c : Dev Cert.MlpIdeal.nD) → Buf (Elt Ideal) ((c.tc : Thread Cert.MlpIdeal.nD Cert.MlpIdeal.τ).loc Cert.MlpIdeal.main_v22_0)) (v1 : (c : Dev Cert.MlpIdeal.nD) → Buf (Elt Ideal) ((c.tc : Thread Cert.MlpIdeal.nD Cert.MlpIdeal.τ).loc Cert.MlpIdeal.main_v22_1)) (v2 : (c : Dev Cert.MlpIdeal.nD) → Buf (Elt Ideal) ((c.tc : Thread Cert.MlpIdeal.nD Cert.MlpIdeal.τ).loc Cert.MlpIdeal.main_v22_2)) (v3 : (c : Dev Cert.MlpIdeal.nD) → Buf (Elt Ideal) ((c.tc : Thread Cert.MlpIdeal.nD Cert.MlpIdeal.τ).loc Cert.MlpIdeal.main_v22_3)) (v4 : (c : Dev Cert.MlpIdeal.nD) → Buf (Elt Ideal) ((c.tc : Thread Cert.MlpIdeal.nD Cert.MlpIdeal.τ).loc Cert.MlpIdeal.main_v22_4)) (v5 : (c : Dev Cert.MlpIdeal.nD) → Buf (Elt Ideal) ((c.tc : Thread Cert.MlpIdeal.nD Cert.MlpIdeal.τ).loc Cert.MlpIdeal.main_v22_5)) (v6 : (c : Dev Cert.MlpIdeal.nD) → Buf (Elt Ideal) ((c.tc : Thread Cert.MlpIdeal.nD Cert.MlpIdeal.τ).loc Cert.MlpIdeal.main_v22_6)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v22_0) = v0 c
          ∧ r.2.mem ((c.tc : Thread Cert.MlpIdeal.nD Cert.MlpIdeal.τ).loc Cert.MlpIdeal.main_v22_1) = v1 c
          ∧ r.2.mem ((c.tc : Thread Cert.MlpIdeal.nD Cert.MlpIdeal.τ).loc Cert.MlpIdeal.main_v22_2) = v2 c
          ∧ r.2.mem ((c.tc : Thread Cert.MlpIdeal.nD Cert.MlpIdeal.τ).loc Cert.MlpIdeal.main_v22_3) = v3 c
          ∧ r.2.mem ((c.tc : Thread Cert.MlpIdeal.nD Cert.MlpIdeal.τ).loc Cert.MlpIdeal.main_v22_4) = v4 c
          ∧ r.2.mem ((c.tc : Thread Cert.MlpIdeal.nD Cert.MlpIdeal.τ).loc Cert.MlpIdeal.main_v22_5) = v5 c
          ∧ r.2.mem ((c.tc : Thread Cert.MlpIdeal.nD Cert.MlpIdeal.τ).loc Cert.MlpIdeal.main_v22_6) = v6 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v164) = v0 c
          ∧ r.2.mem ((c.tc : Thread Cert.MlpReferenceIdeal.nD Cert.MlpReferenceIdeal.τ).loc Cert.MlpReferenceIdeal.main_v165) = v1 c
          ∧ r.2.mem ((c.tc : Thread Cert.MlpReferenceIdeal.nD Cert.MlpReferenceIdeal.τ).loc Cert.MlpReferenceIdeal.main_v166) = v2 c
          ∧ r.2.mem ((c.tc : Thread Cert.MlpReferenceIdeal.nD Cert.MlpReferenceIdeal.τ).loc Cert.MlpReferenceIdeal.main_v167) = v3 c
          ∧ r.2.mem ((c.tc : Thread Cert.MlpReferenceIdeal.nD Cert.MlpReferenceIdeal.τ).loc Cert.MlpReferenceIdeal.main_v163) = v4 c
          ∧ r.2.mem ((c.tc : Thread Cert.MlpReferenceIdeal.nD Cert.MlpReferenceIdeal.τ).loc Cert.MlpReferenceIdeal.main_v168) = v5 c
          ∧ r.2.mem ((c.tc : Thread Cert.MlpReferenceIdeal.nD Cert.MlpReferenceIdeal.τ).loc Cert.MlpReferenceIdeal.main_v176) = v6 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4)
          ∧ r.2.mem ((c.tc : Thread Cert.MlpReferenceIdeal.nD Cert.MlpReferenceIdeal.τ).loc Cert.MlpReferenceIdeal.main_arg5) = m' ((c.tc : Thread Cert.MlpReferenceIdeal.nD Cert.MlpReferenceIdeal.τ).loc Cert.MlpReferenceIdeal.main_arg5)
          ∧ r.2.mem ((c.tc : Thread Cert.MlpReferenceIdeal.nD Cert.MlpReferenceIdeal.τ).loc Cert.MlpReferenceIdeal.main_arg6) = m' ((c.tc : Thread Cert.MlpReferenceIdeal.nD Cert.MlpReferenceIdeal.τ).loc Cert.MlpReferenceIdeal.main_arg6)
          ∧ r.2.mem ((c.tc : Thread Cert.MlpReferenceIdeal.nD Cert.MlpReferenceIdeal.τ).loc Cert.MlpReferenceIdeal.main_arg7) = m' ((c.tc : Thread Cert.MlpReferenceIdeal.nD Cert.MlpReferenceIdeal.τ).loc Cert.MlpReferenceIdeal.main_arg7))

def preserves_Mix_MixIdeal : Prop :=
  True

def algebraic_MixIdeal_MixReferenceIdeal_pre_finite_mix [hMixIdeal : Cert.MixIdeal.Facts] [hMixReferenceIdeal : Cert.MixReferenceIdeal.Facts] [hPre_finite_mix : Cert.Pre_finite_mix.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal_finite_mix m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)
      ∧ m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8)
      ∧ m' ((c.tc : Thread Cert.MixReferenceIdeal.nD Cert.MixReferenceIdeal.τ).loc Cert.MixReferenceIdeal.main_arg9) = m ((c.tc : Thread Cert.MixIdeal.nD Cert.MixIdeal.τ).loc Cert.MixIdeal.main_arg9)) →
    ∃ (v0 : (c : Dev Cert.MixIdeal.nD) → Buf (Elt Ideal) ((c.tc : Thread Cert.MixIdeal.nD Cert.MixIdeal.τ).loc Cert.MixIdeal.main_v58_0)) (v1 : (c : Dev Cert.MixIdeal.nD) → Buf (Elt Ideal) ((c.tc : Thread Cert.MixIdeal.nD Cert.MixIdeal.τ).loc Cert.MixIdeal.main_v58_1)) (v2 : (c : Dev Cert.MixIdeal.nD) → Buf (Elt Ideal) ((c.tc : Thread Cert.MixIdeal.nD Cert.MixIdeal.τ).loc Cert.MixIdeal.main_v58_2)) (v3 : (c : Dev Cert.MixIdeal.nD) → Buf (Elt Ideal) ((c.tc : Thread Cert.MixIdeal.nD Cert.MixIdeal.τ).loc Cert.MixIdeal.main_v58_3)) (v4 : (c : Dev Cert.MixIdeal.nD) → Buf (Elt Ideal) ((c.tc : Thread Cert.MixIdeal.nD Cert.MixIdeal.τ).loc Cert.MixIdeal.main_v58_4)) (v5 : (c : Dev Cert.MixIdeal.nD) → Buf (Elt Ideal) ((c.tc : Thread Cert.MixIdeal.nD Cert.MixIdeal.τ).loc Cert.MixIdeal.main_v58_5)) (v6 : (c : Dev Cert.MixIdeal.nD) → Buf (Elt Ideal) ((c.tc : Thread Cert.MixIdeal.nD Cert.MixIdeal.τ).loc Cert.MixIdeal.main_v58_6)) (v7 : (c : Dev Cert.MixIdeal.nD) → Buf (Elt Ideal) ((c.tc : Thread Cert.MixIdeal.nD Cert.MixIdeal.τ).loc Cert.MixIdeal.main_v58_7)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v58_0) = v0 c
          ∧ r.2.mem ((c.tc : Thread Cert.MixIdeal.nD Cert.MixIdeal.τ).loc Cert.MixIdeal.main_v58_1) = v1 c
          ∧ r.2.mem ((c.tc : Thread Cert.MixIdeal.nD Cert.MixIdeal.τ).loc Cert.MixIdeal.main_v58_2) = v2 c
          ∧ r.2.mem ((c.tc : Thread Cert.MixIdeal.nD Cert.MixIdeal.τ).loc Cert.MixIdeal.main_v58_3) = v3 c
          ∧ r.2.mem ((c.tc : Thread Cert.MixIdeal.nD Cert.MixIdeal.τ).loc Cert.MixIdeal.main_v58_4) = v4 c
          ∧ r.2.mem ((c.tc : Thread Cert.MixIdeal.nD Cert.MixIdeal.τ).loc Cert.MixIdeal.main_v58_5) = v5 c
          ∧ r.2.mem ((c.tc : Thread Cert.MixIdeal.nD Cert.MixIdeal.τ).loc Cert.MixIdeal.main_v58_6) = v6 c
          ∧ r.2.mem ((c.tc : Thread Cert.MixIdeal.nD Cert.MixIdeal.τ).loc Cert.MixIdeal.main_v58_7) = v7 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v116) = v0 c
          ∧ r.2.mem ((c.tc : Thread Cert.MixReferenceIdeal.nD Cert.MixReferenceIdeal.τ).loc Cert.MixReferenceIdeal.main_v117) = v1 c
          ∧ r.2.mem ((c.tc : Thread Cert.MixReferenceIdeal.nD Cert.MixReferenceIdeal.τ).loc Cert.MixReferenceIdeal.main_v118) = v2 c
          ∧ r.2.mem ((c.tc : Thread Cert.MixReferenceIdeal.nD Cert.MixReferenceIdeal.τ).loc Cert.MixReferenceIdeal.main_v119) = v3 c
          ∧ r.2.mem ((c.tc : Thread Cert.MixReferenceIdeal.nD Cert.MixReferenceIdeal.τ).loc Cert.MixReferenceIdeal.main_v120) = v4 c
          ∧ r.2.mem ((c.tc : Thread Cert.MixReferenceIdeal.nD Cert.MixReferenceIdeal.τ).loc Cert.MixReferenceIdeal.main_v121) = v5 c
          ∧ r.2.mem ((c.tc : Thread Cert.MixReferenceIdeal.nD Cert.MixReferenceIdeal.τ).loc Cert.MixReferenceIdeal.main_v122) = v6 c
          ∧ r.2.mem ((c.tc : Thread Cert.MixReferenceIdeal.nD Cert.MixReferenceIdeal.τ).loc Cert.MixReferenceIdeal.main_v128) = v7 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9))

def preserves_Conv_ConvIdeal : Prop :=
  True

def algebraic_ConvIdeal_ConvReferenceIdeal [hConvIdeal : Cert.ConvIdeal.Facts] [hConvReferenceIdeal : Cert.ConvReferenceIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvIdeal m →
    (∀ c : Dev Cert.ConvIdeal.nD,
      m' ((c.tc : Thread Cert.ConvReferenceIdeal.nD Cert.ConvReferenceIdeal.τ).loc Cert.ConvReferenceIdeal.main_arg0) = m ((c.tc : Thread Cert.ConvIdeal.nD Cert.ConvIdeal.τ).loc Cert.ConvIdeal.main_arg0)
      ∧ m' ((c.tc : Thread Cert.ConvReferenceIdeal.nD Cert.ConvReferenceIdeal.τ).loc Cert.ConvReferenceIdeal.main_arg1) = m ((c.tc : Thread Cert.ConvIdeal.nD Cert.ConvIdeal.τ).loc Cert.ConvIdeal.main_arg1)
      ∧ m' ((c.tc : Thread Cert.ConvReferenceIdeal.nD Cert.ConvReferenceIdeal.τ).loc Cert.ConvReferenceIdeal.main_arg2) = m ((c.tc : Thread Cert.ConvIdeal.nD Cert.ConvIdeal.τ).loc Cert.ConvIdeal.main_arg2)
      ∧ m' ((c.tc : Thread Cert.ConvReferenceIdeal.nD Cert.ConvReferenceIdeal.τ).loc Cert.ConvReferenceIdeal.main_arg3) = m ((c.tc : Thread Cert.ConvIdeal.nD Cert.ConvIdeal.τ).loc Cert.ConvIdeal.main_arg3)
      ∧ m' ((c.tc : Thread Cert.ConvReferenceIdeal.nD Cert.ConvReferenceIdeal.τ).loc Cert.ConvReferenceIdeal.main_arg4) = m ((c.tc : Thread Cert.ConvIdeal.nD Cert.ConvIdeal.τ).loc Cert.ConvIdeal.main_arg4)
      ∧ m' ((c.tc : Thread Cert.ConvReferenceIdeal.nD Cert.ConvReferenceIdeal.τ).loc Cert.ConvReferenceIdeal.main_arg5) = m ((c.tc : Thread Cert.ConvIdeal.nD Cert.ConvIdeal.τ).loc Cert.ConvIdeal.main_arg5)
      ∧ m' ((c.tc : Thread Cert.ConvReferenceIdeal.nD Cert.ConvReferenceIdeal.τ).loc Cert.ConvReferenceIdeal.main_arg6) = m ((c.tc : Thread Cert.ConvIdeal.nD Cert.ConvIdeal.τ).loc Cert.ConvIdeal.main_arg6)
      ∧ m' ((c.tc : Thread Cert.ConvReferenceIdeal.nD Cert.ConvReferenceIdeal.τ).loc Cert.ConvReferenceIdeal.main_arg7) = m ((c.tc : Thread Cert.ConvIdeal.nD Cert.ConvIdeal.τ).loc Cert.ConvIdeal.main_arg7)) →
    ∃ (v0 : (c : Dev Cert.ConvIdeal.nD) → Buf (Elt Ideal) ((c.tc : Thread Cert.ConvIdeal.nD Cert.ConvIdeal.τ).loc Cert.ConvIdeal.main_v6_0)) (v1 : (c : Dev Cert.ConvIdeal.nD) → Buf (Elt Ideal) ((c.tc : Thread Cert.ConvIdeal.nD Cert.ConvIdeal.τ).loc Cert.ConvIdeal.main_v6_1)) (v2 : (c : Dev Cert.ConvIdeal.nD) → Buf (Elt Ideal) ((c.tc : Thread Cert.ConvIdeal.nD Cert.ConvIdeal.τ).loc Cert.ConvIdeal.main_v6_2)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v6_0) = v0 c
          ∧ r.2.mem ((c.tc : Thread Cert.ConvIdeal.nD Cert.ConvIdeal.τ).loc Cert.ConvIdeal.main_v6_1) = v1 c
          ∧ r.2.mem ((c.tc : Thread Cert.ConvIdeal.nD Cert.ConvIdeal.τ).loc Cert.ConvIdeal.main_v6_2) = v2 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
          ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
          ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v68) = v0 c
          ∧ r.2.mem ((c.tc : Thread Cert.ConvReferenceIdeal.nD Cert.ConvReferenceIdeal.τ).loc Cert.ConvReferenceIdeal.main_v70) = v1 c
          ∧ r.2.mem ((c.tc : Thread Cert.ConvReferenceIdeal.nD Cert.ConvReferenceIdeal.τ).loc Cert.ConvReferenceIdeal.main_v72) = v2 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2)
          ∧ r.2.mem ((c.tc : Thread Cert.ConvReferenceIdeal.nD Cert.ConvReferenceIdeal.τ).loc Cert.ConvReferenceIdeal.main_arg3) = m' ((c.tc : Thread Cert.ConvReferenceIdeal.nD Cert.ConvReferenceIdeal.τ).loc Cert.ConvReferenceIdeal.main_arg3)
          ∧ r.2.mem ((c.tc : Thread Cert.ConvReferenceIdeal.nD Cert.ConvReferenceIdeal.τ).loc Cert.ConvReferenceIdeal.main_arg4) = m' ((c.tc : Thread Cert.ConvReferenceIdeal.nD Cert.ConvReferenceIdeal.τ).loc Cert.ConvReferenceIdeal.main_arg4)
          ∧ r.2.mem ((c.tc : Thread Cert.ConvReferenceIdeal.nD Cert.ConvReferenceIdeal.τ).loc Cert.ConvReferenceIdeal.main_arg5) = m' ((c.tc : Thread Cert.ConvReferenceIdeal.nD Cert.ConvReferenceIdeal.τ).loc Cert.ConvReferenceIdeal.main_arg5)
          ∧ r.2.mem ((c.tc : Thread Cert.ConvReferenceIdeal.nD Cert.ConvReferenceIdeal.τ).loc Cert.ConvReferenceIdeal.main_arg6) = m' ((c.tc : Thread Cert.ConvReferenceIdeal.nD Cert.ConvReferenceIdeal.τ).loc Cert.ConvReferenceIdeal.main_arg6)
          ∧ r.2.mem ((c.tc : Thread Cert.ConvReferenceIdeal.nD Cert.ConvReferenceIdeal.τ).loc Cert.ConvReferenceIdeal.main_arg7) = m' ((c.tc : Thread Cert.ConvReferenceIdeal.nD Cert.ConvReferenceIdeal.τ).loc Cert.ConvReferenceIdeal.main_arg7))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)
      ∧ m' ((c.tc : Thread Cert.OutReferenceIdeal.nD Cert.OutReferenceIdeal.τ).loc Cert.OutReferenceIdeal.main_arg4) = m ((c.tc : Thread Cert.OutIdeal.nD Cert.OutIdeal.τ).loc Cert.OutIdeal.main_arg4)
      ∧ m' ((c.tc : Thread Cert.OutReferenceIdeal.nD Cert.OutReferenceIdeal.τ).loc Cert.OutReferenceIdeal.main_arg5) = m ((c.tc : Thread Cert.OutIdeal.nD Cert.OutIdeal.τ).loc Cert.OutIdeal.main_arg5)
      ∧ m' ((c.tc : Thread Cert.OutReferenceIdeal.nD Cert.OutReferenceIdeal.τ).loc Cert.OutReferenceIdeal.main_arg6) = m ((c.tc : Thread Cert.OutIdeal.nD Cert.OutIdeal.τ).loc Cert.OutIdeal.main_arg6)) →
    ∃ (v0 : (c : Dev Cert.OutIdeal.nD) → Buf (Elt Ideal) ((c.tc : Thread Cert.OutIdeal.nD Cert.OutIdeal.τ).loc Cert.OutIdeal.main_v6_0)) (v1 : (c : Dev Cert.OutIdeal.nD) → Buf (Elt Ideal) ((c.tc : Thread Cert.OutIdeal.nD Cert.OutIdeal.τ).loc Cert.OutIdeal.main_v6_1)) (v2 : (c : Dev Cert.OutIdeal.nD) → Buf (Elt Ideal) ((c.tc : Thread Cert.OutIdeal.nD Cert.OutIdeal.τ).loc Cert.OutIdeal.main_v6_2)) (v3 : (c : Dev Cert.OutIdeal.nD) → Buf (Elt Ideal) ((c.tc : Thread Cert.OutIdeal.nD Cert.OutIdeal.τ).loc Cert.OutIdeal.main_v6_3)) (v4 : (c : Dev Cert.OutIdeal.nD) → Buf (Elt Ideal) ((c.tc : Thread Cert.OutIdeal.nD Cert.OutIdeal.τ).loc Cert.OutIdeal.main_v6_4)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v6_0) = v0 c
          ∧ r.2.mem ((c.tc : Thread Cert.OutIdeal.nD Cert.OutIdeal.τ).loc Cert.OutIdeal.main_v6_1) = v1 c
          ∧ r.2.mem ((c.tc : Thread Cert.OutIdeal.nD Cert.OutIdeal.τ).loc Cert.OutIdeal.main_v6_2) = v2 c
          ∧ r.2.mem ((c.tc : Thread Cert.OutIdeal.nD Cert.OutIdeal.τ).loc Cert.OutIdeal.main_v6_3) = v3 c
          ∧ r.2.mem ((c.tc : Thread Cert.OutIdeal.nD Cert.OutIdeal.τ).loc Cert.OutIdeal.main_v6_4) = v4 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v42) = v0 c
          ∧ r.2.mem ((c.tc : Thread Cert.OutReferenceIdeal.nD Cert.OutReferenceIdeal.τ).loc Cert.OutReferenceIdeal.main_v43) = v1 c
          ∧ r.2.mem ((c.tc : Thread Cert.OutReferenceIdeal.nD Cert.OutReferenceIdeal.τ).loc Cert.OutReferenceIdeal.main_v44) = v2 c
          ∧ r.2.mem ((c.tc : Thread Cert.OutReferenceIdeal.nD Cert.OutReferenceIdeal.τ).loc Cert.OutReferenceIdeal.main_v48) = v3 c
          ∧ r.2.mem ((c.tc : Thread Cert.OutReferenceIdeal.nD Cert.OutReferenceIdeal.τ).loc Cert.OutReferenceIdeal.main_v41) = v4 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6))

def preserves_Pre_PreIdeal : Prop :=
  True

def algebraic_PreIdeal_PreReferenceIdeal [hPreIdeal : Cert.PreIdeal.Facts] [hPreReferenceIdeal : Cert.PreReferenceIdeal.Facts] : Prop :=
  ∀ (m : (ℓ : Loc Cert.PreIdeal.nD Cert.PreIdeal.τ Cert.PreIdeal.sig) → Buf (Elt Ideal) ℓ) (g : Dev Cert.PreIdeal.nD → PrngReg)
    (m' : (ℓ : Loc Cert.PreReferenceIdeal.nD Cert.PreReferenceIdeal.τ Cert.PreReferenceIdeal.sig) → Buf (Elt Ideal) ℓ) (g' : Dev Cert.PreReferenceIdeal.nD → PrngReg), Pre_PreIdeal m →
    (∀ c : Dev Cert.PreIdeal.nD,
      m' ((c.tc : Thread Cert.PreReferenceIdeal.nD Cert.PreReferenceIdeal.τ).loc Cert.PreReferenceIdeal.main_arg0) = m ((c.tc : Thread Cert.PreIdeal.nD Cert.PreIdeal.τ).loc Cert.PreIdeal.main_arg0)
      ∧ m' ((c.tc : Thread Cert.PreReferenceIdeal.nD Cert.PreReferenceIdeal.τ).loc Cert.PreReferenceIdeal.main_arg1) = m ((c.tc : Thread Cert.PreIdeal.nD Cert.PreIdeal.τ).loc Cert.PreIdeal.main_arg1)
      ∧ m' ((c.tc : Thread Cert.PreReferenceIdeal.nD Cert.PreReferenceIdeal.τ).loc Cert.PreReferenceIdeal.main_arg2) = m ((c.tc : Thread Cert.PreIdeal.nD Cert.PreIdeal.τ).loc Cert.PreIdeal.main_arg2)
      ∧ m' ((c.tc : Thread Cert.PreReferenceIdeal.nD Cert.PreReferenceIdeal.τ).loc Cert.PreReferenceIdeal.main_arg3) = m ((c.tc : Thread Cert.PreIdeal.nD Cert.PreIdeal.τ).loc Cert.PreIdeal.main_arg3)
      ∧ m' ((c.tc : Thread Cert.PreReferenceIdeal.nD Cert.PreReferenceIdeal.τ).loc Cert.PreReferenceIdeal.main_arg4) = m ((c.tc : Thread Cert.PreIdeal.nD Cert.PreIdeal.τ).loc Cert.PreIdeal.main_arg4)
      ∧ m' ((c.tc : Thread Cert.PreReferenceIdeal.nD Cert.PreReferenceIdeal.τ).loc Cert.PreReferenceIdeal.main_arg5) = m ((c.tc : Thread Cert.PreIdeal.nD Cert.PreIdeal.τ).loc Cert.PreIdeal.main_arg5)) →
    ∃ (v0 : (c : Dev Cert.PreIdeal.nD) → Buf (Elt Ideal) ((c.tc : Thread Cert.PreIdeal.nD Cert.PreIdeal.τ).loc Cert.PreIdeal.main_v4_0)) (v1 : (c : Dev Cert.PreIdeal.nD) → Buf (Elt Ideal) ((c.tc : Thread Cert.PreIdeal.nD Cert.PreIdeal.τ).loc Cert.PreIdeal.main_v4_1)) (v2 : (c : Dev Cert.PreIdeal.nD) → Buf (Elt Ideal) ((c.tc : Thread Cert.PreIdeal.nD Cert.PreIdeal.τ).loc Cert.PreIdeal.main_v4_2)) (v3 : (c : Dev Cert.PreIdeal.nD) → Buf (Elt Ideal) ((c.tc : Thread Cert.PreIdeal.nD Cert.PreIdeal.τ).loc Cert.PreIdeal.main_v4_3)) (v4 : (c : Dev Cert.PreIdeal.nD) → Buf (Elt Ideal) ((c.tc : Thread Cert.PreIdeal.nD Cert.PreIdeal.τ).loc Cert.PreIdeal.main_v4_4)),
      θ_run (Cert.PreIdeal.defs (F := Ideal)) (onTc (τ := Cert.PreIdeal.τ) (Cert.PreIdeal.main (F := Ideal))) ⟨m, fun _ => 0, g⟩ (fun r => ∀ c : Dev Cert.PreIdeal.nD,
          r.2.mem ((c.tc : Thread Cert.PreIdeal.nD Cert.PreIdeal.τ).loc Cert.PreIdeal.main_v4_0) = v0 c
          ∧ r.2.mem ((c.tc : Thread Cert.PreIdeal.nD Cert.PreIdeal.τ).loc Cert.PreIdeal.main_v4_1) = v1 c
          ∧ r.2.mem ((c.tc : Thread Cert.PreIdeal.nD Cert.PreIdeal.τ).loc Cert.PreIdeal.main_v4_2) = v2 c
          ∧ r.2.mem ((c.tc : Thread Cert.PreIdeal.nD Cert.PreIdeal.τ).loc Cert.PreIdeal.main_v4_3) = v3 c
          ∧ r.2.mem ((c.tc : Thread Cert.PreIdeal.nD Cert.PreIdeal.τ).loc Cert.PreIdeal.main_v4_4) = v4 c
          ∧ r.2.mem ((c.tc : Thread Cert.PreIdeal.nD Cert.PreIdeal.τ).loc Cert.PreIdeal.main_arg0) = m ((c.tc : Thread Cert.PreIdeal.nD Cert.PreIdeal.τ).loc Cert.PreIdeal.main_arg0)
          ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
          ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
          ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
          ∧ r.2.mem ((c.tc : Thread Cert.PreIdeal.nD Cert.PreIdeal.τ).loc Cert.PreIdeal.main_arg4) = m ((c.tc : Thread Cert.PreIdeal.nD Cert.PreIdeal.τ).loc Cert.PreIdeal.main_arg4)
          ∧ r.2.mem ((c.tc : Thread Cert.PreIdeal.nD Cert.PreIdeal.τ).loc Cert.PreIdeal.main_arg5) = m ((c.tc : Thread Cert.PreIdeal.nD Cert.PreIdeal.τ).loc Cert.PreIdeal.main_arg5))
      ∧ θ_run (Cert.PreReferenceIdeal.defs (F := Ideal)) (onTc (τ := Cert.PreReferenceIdeal.τ) (Cert.PreReferenceIdeal.main (F := Ideal))) ⟨m', fun _ => 0, g'⟩ (fun r => ∀ c : Dev Cert.PreReferenceIdeal.nD,
          r.2.mem ((c.tc : Thread Cert.PreReferenceIdeal.nD Cert.PreReferenceIdeal.τ).loc Cert.PreReferenceIdeal.main_v69) = v0 c
          ∧ r.2.mem ((c.tc : Thread Cert.PreReferenceIdeal.nD Cert.PreReferenceIdeal.τ).loc Cert.PreReferenceIdeal.main_v71) = v1 c
          ∧ r.2.mem ((c.tc : Thread Cert.PreReferenceIdeal.nD Cert.PreReferenceIdeal.τ).loc Cert.PreReferenceIdeal.main_v61) = v2 c
          ∧ r.2.mem ((c.tc : Thread Cert.PreReferenceIdeal.nD Cert.PreReferenceIdeal.τ).loc Cert.PreReferenceIdeal.main_v57) = v3 c
          ∧ r.2.mem ((c.tc : Thread Cert.PreReferenceIdeal.nD Cert.PreReferenceIdeal.τ).loc Cert.PreReferenceIdeal.main_v72) = v4 c
          ∧ r.2.mem ((c.tc : Thread Cert.PreReferenceIdeal.nD Cert.PreReferenceIdeal.τ).loc Cert.PreReferenceIdeal.main_arg0) = m' ((c.tc : Thread Cert.PreReferenceIdeal.nD Cert.PreReferenceIdeal.τ).loc Cert.PreReferenceIdeal.main_arg0)
          ∧ r.2.mem ((c.tc : Thread Cert.PreReferenceIdeal.nD Cert.PreReferenceIdeal.τ).loc Cert.PreReferenceIdeal.main_arg1) = m' ((c.tc : Thread Cert.PreReferenceIdeal.nD Cert.PreReferenceIdeal.τ).loc Cert.PreReferenceIdeal.main_arg1)
          ∧ r.2.mem ((c.tc : Thread Cert.PreReferenceIdeal.nD Cert.PreReferenceIdeal.τ).loc Cert.PreReferenceIdeal.main_arg2) = m' ((c.tc : Thread Cert.PreReferenceIdeal.nD Cert.PreReferenceIdeal.τ).loc Cert.PreReferenceIdeal.main_arg2)
          ∧ r.2.mem ((c.tc : Thread Cert.PreReferenceIdeal.nD Cert.PreReferenceIdeal.τ).loc Cert.PreReferenceIdeal.main_arg3) = m' ((c.tc : Thread Cert.PreReferenceIdeal.nD Cert.PreReferenceIdeal.τ).loc Cert.PreReferenceIdeal.main_arg3)
          ∧ r.2.mem ((c.tc : Thread Cert.PreReferenceIdeal.nD Cert.PreReferenceIdeal.τ).loc Cert.PreReferenceIdeal.main_arg4) = m' ((c.tc : Thread Cert.PreReferenceIdeal.nD Cert.PreReferenceIdeal.τ).loc Cert.PreReferenceIdeal.main_arg4)
          ∧ r.2.mem ((c.tc : Thread Cert.PreReferenceIdeal.nD Cert.PreReferenceIdeal.τ).loc Cert.PreReferenceIdeal.main_arg5) = m' ((c.tc : Thread Cert.PreReferenceIdeal.nD Cert.PreReferenceIdeal.τ).loc Cert.PreReferenceIdeal.main_arg5))

def preserves_Gw_GwIdeal : Prop :=
  True

def algebraic_GwIdeal_GwReferenceIdeal [hGwIdeal : Cert.GwIdeal.Facts] [hGwReferenceIdeal : Cert.GwReferenceIdeal.Facts] : Prop :=
  ∀ (m : (ℓ : Loc Cert.GwIdeal.nD Cert.GwIdeal.τ Cert.GwIdeal.sig) → Buf (Elt Ideal) ℓ) (g : Dev Cert.GwIdeal.nD → PrngReg)
    (m' : (ℓ : Loc Cert.GwReferenceIdeal.nD Cert.GwReferenceIdeal.τ Cert.GwReferenceIdeal.sig) → Buf (Elt Ideal) ℓ) (g' : Dev Cert.GwReferenceIdeal.nD → PrngReg), Pre_GwIdeal m →
    (∀ c : Dev Cert.GwIdeal.nD,
      m' ((c.tc : Thread Cert.GwReferenceIdeal.nD Cert.GwReferenceIdeal.τ).loc Cert.GwReferenceIdeal.main_arg0) = m ((c.tc : Thread Cert.GwIdeal.nD Cert.GwIdeal.τ).loc Cert.GwIdeal.main_arg0)
      ∧ m' ((c.tc : Thread Cert.GwReferenceIdeal.nD Cert.GwReferenceIdeal.τ).loc Cert.GwReferenceIdeal.main_arg1) = m ((c.tc : Thread Cert.GwIdeal.nD Cert.GwIdeal.τ).loc Cert.GwIdeal.main_arg1)
      ∧ m' ((c.tc : Thread Cert.GwReferenceIdeal.nD Cert.GwReferenceIdeal.τ).loc Cert.GwReferenceIdeal.main_arg2) = m ((c.tc : Thread Cert.GwIdeal.nD Cert.GwIdeal.τ).loc Cert.GwIdeal.main_arg2)) →
    ∃ (v0 : (c : Dev Cert.GwIdeal.nD) → Buf (Elt Ideal) ((c.tc : Thread Cert.GwIdeal.nD Cert.GwIdeal.τ).loc Cert.GwIdeal.main_v2_0)) (v1 : (c : Dev Cert.GwIdeal.nD) → Buf (Elt Ideal) ((c.tc : Thread Cert.GwIdeal.nD Cert.GwIdeal.τ).loc Cert.GwIdeal.main_v2_1)),
      θ_run (Cert.GwIdeal.defs (F := Ideal)) (onTc (τ := Cert.GwIdeal.τ) (Cert.GwIdeal.main (F := Ideal))) ⟨m, fun _ => 0, g⟩ (fun r => ∀ c : Dev Cert.GwIdeal.nD,
          r.2.mem ((c.tc : Thread Cert.GwIdeal.nD Cert.GwIdeal.τ).loc Cert.GwIdeal.main_v2_0) = v0 c
          ∧ r.2.mem ((c.tc : Thread Cert.GwIdeal.nD Cert.GwIdeal.τ).loc Cert.GwIdeal.main_v2_1) = v1 c
          ∧ r.2.mem ((c.tc : Thread Cert.GwIdeal.nD Cert.GwIdeal.τ).loc Cert.GwIdeal.main_arg0) = m ((c.tc : Thread Cert.GwIdeal.nD Cert.GwIdeal.τ).loc Cert.GwIdeal.main_arg0)
          ∧ r.2.mem ((c.tc : Thread Cert.GwIdeal.nD Cert.GwIdeal.τ).loc Cert.GwIdeal.main_arg1) = m ((c.tc : Thread Cert.GwIdeal.nD Cert.GwIdeal.τ).loc Cert.GwIdeal.main_arg1)
          ∧ r.2.mem ((c.tc : Thread Cert.GwIdeal.nD Cert.GwIdeal.τ).loc Cert.GwIdeal.main_arg2) = m ((c.tc : Thread Cert.GwIdeal.nD Cert.GwIdeal.τ).loc Cert.GwIdeal.main_arg2))
      ∧ θ_run (Cert.GwReferenceIdeal.defs (F := Ideal)) (onTc (τ := Cert.GwReferenceIdeal.τ) (Cert.GwReferenceIdeal.main (F := Ideal))) ⟨m', fun _ => 0, g'⟩ (fun r => ∀ c : Dev Cert.GwReferenceIdeal.nD,
          r.2.mem ((c.tc : Thread Cert.GwReferenceIdeal.nD Cert.GwReferenceIdeal.τ).loc Cert.GwReferenceIdeal.main_v2) = v0 c
          ∧ r.2.mem ((c.tc : Thread Cert.GwReferenceIdeal.nD Cert.GwReferenceIdeal.τ).loc Cert.GwReferenceIdeal.main_v3) = v1 c
          ∧ r.2.mem ((c.tc : Thread Cert.GwReferenceIdeal.nD Cert.GwReferenceIdeal.τ).loc Cert.GwReferenceIdeal.main_arg0) = m' ((c.tc : Thread Cert.GwReferenceIdeal.nD Cert.GwReferenceIdeal.τ).loc Cert.GwReferenceIdeal.main_arg0)
          ∧ r.2.mem ((c.tc : Thread Cert.GwReferenceIdeal.nD Cert.GwReferenceIdeal.τ).loc Cert.GwReferenceIdeal.main_arg1) = m' ((c.tc : Thread Cert.GwReferenceIdeal.nD Cert.GwReferenceIdeal.τ).loc Cert.GwReferenceIdeal.main_arg1)
          ∧ r.2.mem ((c.tc : Thread Cert.GwReferenceIdeal.nD Cert.GwReferenceIdeal.τ).loc Cert.GwReferenceIdeal.main_arg2) = m' ((c.tc : Thread Cert.GwReferenceIdeal.nD Cert.GwReferenceIdeal.τ).loc Cert.GwReferenceIdeal.main_arg2))

def preserves_Gx_GxIdeal : Prop :=
  True

def algebraic_GxIdeal_GxReferenceIdeal [hGxIdeal : Cert.GxIdeal.Facts] [hGxReferenceIdeal : Cert.GxReferenceIdeal.Facts] : Prop :=
  ∀ (m : (ℓ : Loc Cert.GxIdeal.nD Cert.GxIdeal.τ Cert.GxIdeal.sig) → Buf (Elt Ideal) ℓ) (g : Dev Cert.GxIdeal.nD → PrngReg)
    (m' : (ℓ : Loc Cert.GxReferenceIdeal.nD Cert.GxReferenceIdeal.τ Cert.GxReferenceIdeal.sig) → Buf (Elt Ideal) ℓ) (g' : Dev Cert.GxReferenceIdeal.nD → PrngReg), Pre_GxIdeal m →
    (∀ c : Dev Cert.GxIdeal.nD,
      m' ((c.tc : Thread Cert.GxReferenceIdeal.nD Cert.GxReferenceIdeal.τ).loc Cert.GxReferenceIdeal.main_arg0) = m ((c.tc : Thread Cert.GxIdeal.nD Cert.GxIdeal.τ).loc Cert.GxIdeal.main_arg0)
      ∧ m' ((c.tc : Thread Cert.GxReferenceIdeal.nD Cert.GxReferenceIdeal.τ).loc Cert.GxReferenceIdeal.main_arg1) = m ((c.tc : Thread Cert.GxIdeal.nD Cert.GxIdeal.τ).loc Cert.GxIdeal.main_arg1)
      ∧ m' ((c.tc : Thread Cert.GxReferenceIdeal.nD Cert.GxReferenceIdeal.τ).loc Cert.GxReferenceIdeal.main_arg2) = m ((c.tc : Thread Cert.GxIdeal.nD Cert.GxIdeal.τ).loc Cert.GxIdeal.main_arg2)
      ∧ m' ((c.tc : Thread Cert.GxReferenceIdeal.nD Cert.GxReferenceIdeal.τ).loc Cert.GxReferenceIdeal.main_arg3) = m ((c.tc : Thread Cert.GxIdeal.nD Cert.GxIdeal.τ).loc Cert.GxIdeal.main_arg3)) →
    ∃ (v0 : (c : Dev Cert.GxIdeal.nD) → Buf (Elt Ideal) ((c.tc : Thread Cert.GxIdeal.nD Cert.GxIdeal.τ).loc Cert.GxIdeal.main_v2)),
      θ_run (Cert.GxIdeal.defs (F := Ideal)) (onTc (τ := Cert.GxIdeal.τ) (Cert.GxIdeal.main (F := Ideal))) ⟨m, fun _ => 0, g⟩ (fun r => ∀ c : Dev Cert.GxIdeal.nD,
          r.2.mem ((c.tc : Thread Cert.GxIdeal.nD Cert.GxIdeal.τ).loc Cert.GxIdeal.main_v2) = v0 c
          ∧ r.2.mem ((c.tc : Thread Cert.GxIdeal.nD Cert.GxIdeal.τ).loc Cert.GxIdeal.main_arg0) = m ((c.tc : Thread Cert.GxIdeal.nD Cert.GxIdeal.τ).loc Cert.GxIdeal.main_arg0)
          ∧ r.2.mem ((c.tc : Thread Cert.GxIdeal.nD Cert.GxIdeal.τ).loc Cert.GxIdeal.main_arg1) = m ((c.tc : Thread Cert.GxIdeal.nD Cert.GxIdeal.τ).loc Cert.GxIdeal.main_arg1)
          ∧ r.2.mem ((c.tc : Thread Cert.GxIdeal.nD Cert.GxIdeal.τ).loc Cert.GxIdeal.main_arg2) = m ((c.tc : Thread Cert.GxIdeal.nD Cert.GxIdeal.τ).loc Cert.GxIdeal.main_arg2)
          ∧ r.2.mem ((c.tc : Thread Cert.GxIdeal.nD Cert.GxIdeal.τ).loc Cert.GxIdeal.main_arg3) = m ((c.tc : Thread Cert.GxIdeal.nD Cert.GxIdeal.τ).loc Cert.GxIdeal.main_arg3))
      ∧ θ_run (Cert.GxReferenceIdeal.defs (F := Ideal)) (onTc (τ := Cert.GxReferenceIdeal.τ) (Cert.GxReferenceIdeal.main (F := Ideal))) ⟨m', fun _ => 0, g'⟩ (fun r => ∀ c : Dev Cert.GxReferenceIdeal.nD,
          r.2.mem ((c.tc : Thread Cert.GxReferenceIdeal.nD Cert.GxReferenceIdeal.τ).loc Cert.GxReferenceIdeal.main_v6) = v0 c
          ∧ r.2.mem ((c.tc : Thread Cert.GxReferenceIdeal.nD Cert.GxReferenceIdeal.τ).loc Cert.GxReferenceIdeal.main_arg0) = m' ((c.tc : Thread Cert.GxReferenceIdeal.nD Cert.GxReferenceIdeal.τ).loc Cert.GxReferenceIdeal.main_arg0)
          ∧ r.2.mem ((c.tc : Thread Cert.GxReferenceIdeal.nD Cert.GxReferenceIdeal.τ).loc Cert.GxReferenceIdeal.main_arg1) = m' ((c.tc : Thread Cert.GxReferenceIdeal.nD Cert.GxReferenceIdeal.τ).loc Cert.GxReferenceIdeal.main_arg1)
          ∧ r.2.mem ((c.tc : Thread Cert.GxReferenceIdeal.nD Cert.GxReferenceIdeal.τ).loc Cert.GxReferenceIdeal.main_arg2) = m' ((c.tc : Thread Cert.GxReferenceIdeal.nD Cert.GxReferenceIdeal.τ).loc Cert.GxReferenceIdeal.main_arg2)
          ∧ r.2.mem ((c.tc : Thread Cert.GxReferenceIdeal.nD Cert.GxReferenceIdeal.τ).loc Cert.GxReferenceIdeal.main_arg3) = m' ((c.tc : Thread Cert.GxReferenceIdeal.nD Cert.GxReferenceIdeal.τ).loc Cert.GxReferenceIdeal.main_arg3))

def preserves_Adam_AdamIdeal : Prop :=
  True

def algebraic_AdamIdeal_AdamReferenceIdeal [hAdamIdeal : Cert.AdamIdeal.Facts] [hAdamReferenceIdeal : Cert.AdamReferenceIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamReferenceIdeal.nD Cert.AdamReferenceIdeal.τ Cert.AdamReferenceIdeal.sig) → Buf (Elt Ideal) ℓ) (g' : Dev Cert.AdamReferenceIdeal.nD → PrngReg), Pre_AdamIdeal m →
    (∀ c : Dev Cert.AdamIdeal.nD,
      m' ((c.tc : Thread Cert.AdamReferenceIdeal.nD Cert.AdamReferenceIdeal.τ).loc Cert.AdamReferenceIdeal.main_arg0) = m ((c.tc : Thread Cert.AdamIdeal.nD Cert.AdamIdeal.τ).loc Cert.AdamIdeal.main_arg0)
      ∧ m' ((c.tc : Thread Cert.AdamReferenceIdeal.nD Cert.AdamReferenceIdeal.τ).loc Cert.AdamReferenceIdeal.main_arg1) = m ((c.tc : Thread Cert.AdamIdeal.nD Cert.AdamIdeal.τ).loc Cert.AdamIdeal.main_arg1)
      ∧ m' ((c.tc : Thread Cert.AdamReferenceIdeal.nD Cert.AdamReferenceIdeal.τ).loc Cert.AdamReferenceIdeal.main_arg2) = m ((c.tc : Thread Cert.AdamIdeal.nD Cert.AdamIdeal.τ).loc Cert.AdamIdeal.main_arg2)
      ∧ m' ((c.tc : Thread Cert.AdamReferenceIdeal.nD Cert.AdamReferenceIdeal.τ).loc Cert.AdamReferenceIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)) (v3 : (c : Dev Cert.AdamIdeal.nD) → Buf (Elt Ideal) ((c.tc : Thread Cert.AdamIdeal.nD Cert.AdamIdeal.τ).loc Cert.AdamIdeal.main_v0_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_v0_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamReferenceIdeal.defs (F := Ideal)) (onTc (τ := Cert.AdamReferenceIdeal.τ) (Cert.AdamReferenceIdeal.main (F := Ideal))) ⟨m', fun _ => 0, g'⟩ (fun r => ∀ c : Dev Cert.AdamReferenceIdeal.nD,
          r.2.mem ((c.tc : Thread Cert.AdamReferenceIdeal.nD Cert.AdamReferenceIdeal.τ).loc Cert.AdamReferenceIdeal.main_arg1) = v0 c
          ∧ r.2.mem ((c.tc : Thread Cert.AdamReferenceIdeal.nD Cert.AdamReferenceIdeal.τ).loc Cert.AdamReferenceIdeal.main_v23) = v1 c
          ∧ r.2.mem ((c.tc : Thread Cert.AdamReferenceIdeal.nD Cert.AdamReferenceIdeal.τ).loc Cert.AdamReferenceIdeal.main_v4) = v2 c
          ∧ r.2.mem ((c.tc : Thread Cert.AdamReferenceIdeal.nD Cert.AdamReferenceIdeal.τ).loc Cert.AdamReferenceIdeal.main_v10) = v3 c
          ∧ r.2.mem ((c.tc : Thread Cert.AdamReferenceIdeal.nD Cert.AdamReferenceIdeal.τ).loc Cert.AdamReferenceIdeal.main_arg0) = m' ((c.tc : Thread Cert.AdamReferenceIdeal.nD Cert.AdamReferenceIdeal.τ).loc Cert.AdamReferenceIdeal.main_arg0)
          ∧ r.2.mem ((c.tc : Thread Cert.AdamReferenceIdeal.nD Cert.AdamReferenceIdeal.τ).loc Cert.AdamReferenceIdeal.main_arg1) = m' ((c.tc : Thread Cert.AdamReferenceIdeal.nD Cert.AdamReferenceIdeal.τ).loc Cert.AdamReferenceIdeal.main_arg1)
          ∧ r.2.mem ((c.tc : Thread Cert.AdamReferenceIdeal.nD Cert.AdamReferenceIdeal.τ).loc Cert.AdamReferenceIdeal.main_arg2) = m' ((c.tc : Thread Cert.AdamReferenceIdeal.nD Cert.AdamReferenceIdeal.τ).loc Cert.AdamReferenceIdeal.main_arg2)
          ∧ r.2.mem ((c.tc : Thread Cert.AdamReferenceIdeal.nD Cert.AdamReferenceIdeal.τ).loc Cert.AdamReferenceIdeal.main_arg3) = m' ((c.tc : Thread Cert.AdamReferenceIdeal.nD Cert.AdamReferenceIdeal.τ).loc Cert.AdamReferenceIdeal.main_arg3))

def preserves_Sum_SumIdeal : Prop :=
  True

def algebraic_SumIdeal_SumReferenceIdeal [hSumIdeal : Cert.SumIdeal.Facts] [hSumReferenceIdeal : Cert.SumReferenceIdeal.Facts] : Prop :=
  ∀ (m : (ℓ : Loc Cert.SumIdeal.nD Cert.SumIdeal.τ Cert.SumIdeal.sig) → Buf (Elt Ideal) ℓ) (g : Dev Cert.SumIdeal.nD → PrngReg)
    (m' : (ℓ : Loc Cert.SumReferenceIdeal.nD Cert.SumReferenceIdeal.τ Cert.SumReferenceIdeal.sig) → Buf (Elt Ideal) ℓ) (g' : Dev Cert.SumReferenceIdeal.nD → PrngReg), Pre_SumIdeal m →
    (∀ c : Dev Cert.SumIdeal.nD,
      m' ((c.tc : Thread Cert.SumReferenceIdeal.nD Cert.SumReferenceIdeal.τ).loc Cert.SumReferenceIdeal.main_arg0) = m ((c.tc : Thread Cert.SumIdeal.nD Cert.SumIdeal.τ).loc Cert.SumIdeal.main_arg0)) →
    ∃ (v0 : (c : Dev Cert.SumIdeal.nD) → Buf (Elt Ideal) ((c.tc : Thread Cert.SumIdeal.nD Cert.SumIdeal.τ).loc Cert.SumIdeal.main_v0)),
      θ_run (Cert.SumIdeal.defs (F := Ideal)) (onTc (τ := Cert.SumIdeal.τ) (Cert.SumIdeal.main (F := Ideal))) ⟨m, fun _ => 0, g⟩ (fun r => ∀ c : Dev Cert.SumIdeal.nD,
          r.2.mem ((c.tc : Thread Cert.SumIdeal.nD Cert.SumIdeal.τ).loc Cert.SumIdeal.main_v0) = v0 c
          ∧ r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ θ_run (Cert.SumReferenceIdeal.defs (F := Ideal)) (onTc (τ := Cert.SumReferenceIdeal.τ) (Cert.SumReferenceIdeal.main (F := Ideal))) ⟨m', fun _ => 0, g'⟩ (fun r => ∀ c : Dev Cert.SumReferenceIdeal.nD,
          r.2.mem ((c.tc : Thread Cert.SumReferenceIdeal.nD Cert.SumReferenceIdeal.τ).loc Cert.SumReferenceIdeal.main_v0) = v0 c
          ∧ r.2.mem ((c.tc : Thread Cert.SumReferenceIdeal.nD Cert.SumReferenceIdeal.τ).loc Cert.SumReferenceIdeal.main_arg0) = m' ((c.tc : Thread Cert.SumReferenceIdeal.nD Cert.SumReferenceIdeal.τ).loc Cert.SumReferenceIdeal.main_arg0))

def preserves_Xch_XchIdeal : Prop :=
  True

def algebraic_XchIdeal_XchReferenceIdeal [hXchIdeal : Cert.XchIdeal.Facts] [hXchReferenceIdeal : Cert.XchReferenceIdeal.Facts] : Prop :=
  ∀ (m : (ℓ : Loc Cert.XchIdeal.nD Cert.XchIdeal.τ Cert.XchIdeal.sig) → Buf (Elt Ideal) ℓ) (g : Dev Cert.XchIdeal.nD → PrngReg)
    (m' : (ℓ : Loc Cert.XchReferenceIdeal.nD Cert.XchReferenceIdeal.τ Cert.XchReferenceIdeal.sig) → Buf (Elt Ideal) ℓ) (g' : Dev Cert.XchReferenceIdeal.nD → PrngReg), Pre_XchIdeal m →
    (∀ c : Dev Cert.XchIdeal.nD,
      m ((c.tc : Thread Cert.XchIdeal.nD Cert.XchIdeal.τ).loc Cert.XchIdeal.main_arg0) = Layout.block ⟨2, ![1024, 7168]⟩ ⟨2, ![2048, 7168]⟩ 0 2 c (m' (((0 : Dev Cert.XchReferenceIdeal.nD).tc : Thread Cert.XchReferenceIdeal.nD Cert.XchReferenceIdeal.τ).loc Cert.XchReferenceIdeal.main_arg0))) →
    ∃ (v0 : Buf (Elt Ideal) (((0 : Dev Cert.XchReferenceIdeal.nD).tc : Thread Cert.XchReferenceIdeal.nD Cert.XchReferenceIdeal.τ).loc Cert.XchReferenceIdeal.main_v9)),
      θ_run (Cert.XchIdeal.defs (F := Ideal)) (onTc (τ := Cert.XchIdeal.τ) (Cert.XchIdeal.main (F := Ideal))) ⟨m, fun _ => 0, g⟩ (fun r => ∀ c : Dev Cert.XchIdeal.nD,
          r.2.mem ((c.tc : Thread Cert.XchIdeal.nD Cert.XchIdeal.τ).loc Cert.XchIdeal.main_v1) = Layout.block ⟨3, ![4, 512, 1792]⟩ ⟨3, ![8, 512, 1792]⟩ 0 2 c v0
          ∧ r.2.mem ((c.tc : Thread Cert.XchIdeal.nD Cert.XchIdeal.τ).loc Cert.XchIdeal.main_arg0) = m ((c.tc : Thread Cert.XchIdeal.nD Cert.XchIdeal.τ).loc Cert.XchIdeal.main_arg0))
      ∧ θ_run (Cert.XchReferenceIdeal.defs (F := Ideal)) (onTc (τ := Cert.XchReferenceIdeal.τ) (Cert.XchReferenceIdeal.main (F := Ideal))) ⟨m', fun _ => 0, g'⟩ (fun r =>
          r.2.mem (((0 : Dev Cert.XchReferenceIdeal.nD).tc : Thread Cert.XchReferenceIdeal.nD Cert.XchReferenceIdeal.τ).loc Cert.XchReferenceIdeal.main_v9) = v0
          ∧ r.2.mem (((0 : Dev Cert.XchReferenceIdeal.nD).tc : Thread Cert.XchReferenceIdeal.nD Cert.XchReferenceIdeal.τ).loc Cert.XchReferenceIdeal.main_arg0) = m' (((0 : Dev Cert.XchReferenceIdeal.nD).tc : Thread Cert.XchReferenceIdeal.nD Cert.XchReferenceIdeal.τ).loc Cert.XchReferenceIdeal.main_arg0))

def bitexact_Xch_XchReference [hXch : Cert.Xch.Facts] [hXchReference : Cert.XchReference.Facts] : Prop :=
  ∀ (m : (ℓ : Loc Cert.Xch.nD Cert.Xch.τ Cert.Xch.sig) → Buf (Elt Bits) ℓ) (g : Dev Cert.Xch.nD → PrngReg)
    (m' : (ℓ : Loc Cert.XchReference.nD Cert.XchReference.τ Cert.XchReference.sig) → Buf (Elt Bits) ℓ) (g' : Dev Cert.XchReference.nD → PrngReg), Pre_Xch m →
    (∀ c : Dev Cert.Xch.nD,
      m ((c.tc : Thread Cert.Xch.nD Cert.Xch.τ).loc Cert.Xch.main_arg0) = Layout.block ⟨2, ![1024, 7168]⟩ ⟨2, ![2048, 7168]⟩ 0 2 c (m' (((0 : Dev Cert.XchReference.nD).tc : Thread Cert.XchReference.nD Cert.XchReference.τ).loc Cert.XchReference.main_arg0))) →
    ∃ (v0 : Buf (Elt Bits) (((0 : Dev Cert.XchReference.nD).tc : Thread Cert.XchReference.nD Cert.XchReference.τ).loc Cert.XchReference.main_v9)),
      θ_run (Cert.Xch.defs (F := Bits)) (onTc (τ := Cert.Xch.τ) (Cert.Xch.main (F := Bits))) ⟨m, fun _ => 0, g⟩ (fun r => ∀ c : Dev Cert.Xch.nD,
          r.2.mem ((c.tc : Thread Cert.Xch.nD Cert.Xch.τ).loc Cert.Xch.main_v1) = Layout.block ⟨3, ![4, 512, 1792]⟩ ⟨3, ![8, 512, 1792]⟩ 0 2 c v0
          ∧ r.2.mem ((c.tc : Thread Cert.Xch.nD Cert.Xch.τ).loc Cert.Xch.main_arg0) = m ((c.tc : Thread Cert.Xch.nD Cert.Xch.τ).loc Cert.Xch.main_arg0))
      ∧ θ_run (Cert.XchReference.defs (F := Bits)) (onTc (τ := Cert.XchReference.τ) (Cert.XchReference.main (F := Bits))) ⟨m', fun _ => 0, g'⟩ (fun r =>
          r.2.mem (((0 : Dev Cert.XchReference.nD).tc : Thread Cert.XchReference.nD Cert.XchReference.τ).loc Cert.XchReference.main_v9) = v0
          ∧ r.2.mem (((0 : Dev Cert.XchReference.nD).tc : Thread Cert.XchReference.nD Cert.XchReference.τ).loc Cert.XchReference.main_arg0) = m' (((0 : Dev Cert.XchReference.nD).tc : Thread Cert.XchReference.nD Cert.XchReference.τ).loc Cert.XchReference.main_arg0))

def preserves_Sct_SctIdeal : Prop :=
  True

def algebraic_SctIdeal_SctReferenceIdeal [hSctIdeal : Cert.SctIdeal.Facts] [hSctReferenceIdeal : Cert.SctReferenceIdeal.Facts] : Prop :=
  ∀ (m : (ℓ : Loc Cert.SctIdeal.nD Cert.SctIdeal.τ Cert.SctIdeal.sig) → Buf (Elt Ideal) ℓ) (g : Dev Cert.SctIdeal.nD → PrngReg)
    (m' : (ℓ : Loc Cert.SctReferenceIdeal.nD Cert.SctReferenceIdeal.τ Cert.SctReferenceIdeal.sig) → Buf (Elt Ideal) ℓ) (g' : Dev Cert.SctReferenceIdeal.nD → PrngReg), Pre_SctIdeal m →
    (∀ c : Dev Cert.SctIdeal.nD,
      m ((c.tc : Thread Cert.SctIdeal.nD Cert.SctIdeal.τ).loc Cert.SctIdeal.main_arg0) = Layout.block ⟨3, ![4, 512, 1792]⟩ ⟨3, ![16, 512, 1792]⟩ 0 4 c (m' (((0 : Dev Cert.SctReferenceIdeal.nD).tc : Thread Cert.SctReferenceIdeal.nD Cert.SctReferenceIdeal.τ).loc Cert.SctReferenceIdeal.main_arg0))) →
    ∃ (v0 : Buf (Elt Ideal) (((0 : Dev Cert.SctReferenceIdeal.nD).tc : Thread Cert.SctReferenceIdeal.nD Cert.SctReferenceIdeal.τ).loc Cert.SctReferenceIdeal.main_v12)),
      θ_run (Cert.SctIdeal.defs (F := Ideal)) (onTc (τ := Cert.SctIdeal.τ) (Cert.SctIdeal.main (F := Ideal))) ⟨m, fun _ => 0, g⟩ (fun r => ∀ c : Dev Cert.SctIdeal.nD,
          r.2.mem ((c.tc : Thread Cert.SctIdeal.nD Cert.SctIdeal.τ).loc Cert.SctIdeal.main_v1) = Layout.block ⟨3, ![3, 512, 1792]⟩ ⟨3, ![12, 512, 1792]⟩ 0 4 c v0
          ∧ r.2.mem ((c.tc : Thread Cert.SctIdeal.nD Cert.SctIdeal.τ).loc Cert.SctIdeal.main_arg0) = m ((c.tc : Thread Cert.SctIdeal.nD Cert.SctIdeal.τ).loc Cert.SctIdeal.main_arg0))
      ∧ θ_run (Cert.SctReferenceIdeal.defs (F := Ideal)) (onTc (τ := Cert.SctReferenceIdeal.τ) (Cert.SctReferenceIdeal.main (F := Ideal))) ⟨m', fun _ => 0, g'⟩ (fun r =>
          r.2.mem (((0 : Dev Cert.SctReferenceIdeal.nD).tc : Thread Cert.SctReferenceIdeal.nD Cert.SctReferenceIdeal.τ).loc Cert.SctReferenceIdeal.main_v12) = v0
          ∧ r.2.mem (((0 : Dev Cert.SctReferenceIdeal.nD).tc : Thread Cert.SctReferenceIdeal.nD Cert.SctReferenceIdeal.τ).loc Cert.SctReferenceIdeal.main_arg0) = m' (((0 : Dev Cert.SctReferenceIdeal.nD).tc : Thread Cert.SctReferenceIdeal.nD Cert.SctReferenceIdeal.τ).loc Cert.SctReferenceIdeal.main_arg0))

def bitexact_Sct_SctReference [hSct : Cert.Sct.Facts] [hSctReference : Cert.SctReference.Facts] : Prop :=
  ∀ (m : (ℓ : Loc Cert.Sct.nD Cert.Sct.τ Cert.Sct.sig) → Buf (Elt Bits) ℓ) (g : Dev Cert.Sct.nD → PrngReg)
    (m' : (ℓ : Loc Cert.SctReference.nD Cert.SctReference.τ Cert.SctReference.sig) → Buf (Elt Bits) ℓ) (g' : Dev Cert.SctReference.nD → PrngReg), Pre_Sct m →
    (∀ c : Dev Cert.Sct.nD,
      m ((c.tc : Thread Cert.Sct.nD Cert.Sct.τ).loc Cert.Sct.main_arg0) = Layout.block ⟨3, ![4, 512, 1792]⟩ ⟨3, ![16, 512, 1792]⟩ 0 4 c (m' (((0 : Dev Cert.SctReference.nD).tc : Thread Cert.SctReference.nD Cert.SctReference.τ).loc Cert.SctReference.main_arg0))) →
    ∃ (v0 : Buf (Elt Bits) (((0 : Dev Cert.SctReference.nD).tc : Thread Cert.SctReference.nD Cert.SctReference.τ).loc Cert.SctReference.main_v12)),
      θ_run (Cert.Sct.defs (F := Bits)) (onTc (τ := Cert.Sct.τ) (Cert.Sct.main (F := Bits))) ⟨m, fun _ => 0, g⟩ (fun r => ∀ c : Dev Cert.Sct.nD,
          r.2.mem ((c.tc : Thread Cert.Sct.nD Cert.Sct.τ).loc Cert.Sct.main_v1) = Layout.block ⟨3, ![3, 512, 1792]⟩ ⟨3, ![12, 512, 1792]⟩ 0 4 c v0
          ∧ r.2.mem ((c.tc : Thread Cert.Sct.nD Cert.Sct.τ).loc Cert.Sct.main_arg0) = m ((c.tc : Thread Cert.Sct.nD Cert.Sct.τ).loc Cert.Sct.main_arg0))
      ∧ θ_run (Cert.SctReference.defs (F := Bits)) (onTc (τ := Cert.SctReference.τ) (Cert.SctReference.main (F := Bits))) ⟨m', fun _ => 0, g'⟩ (fun r =>
          r.2.mem (((0 : Dev Cert.SctReference.nD).tc : Thread Cert.SctReference.nD Cert.SctReference.τ).loc Cert.SctReference.main_v12) = v0
          ∧ r.2.mem (((0 : Dev Cert.SctReference.nD).tc : Thread Cert.SctReference.nD Cert.SctReference.τ).loc Cert.SctReference.main_arg0) = m' (((0 : Dev Cert.SctReference.nD).tc : Thread Cert.SctReference.nD Cert.SctReference.τ).loc Cert.SctReference.main_arg0))

def preserves_Pc_PcIdeal : Prop :=
  True

def algebraic_PcIdeal_PcReferenceIdeal [hPcIdeal : Cert.PcIdeal.Facts] [hPcReferenceIdeal : Cert.PcReferenceIdeal.Facts] : Prop :=
  ∀ (m : (ℓ : Loc Cert.PcIdeal.nD Cert.PcIdeal.τ Cert.PcIdeal.sig) → Buf (Elt Ideal) ℓ) (g : Dev Cert.PcIdeal.nD → PrngReg)
    (m' : (ℓ : Loc Cert.PcReferenceIdeal.nD Cert.PcReferenceIdeal.τ Cert.PcReferenceIdeal.sig) → Buf (Elt Ideal) ℓ) (g' : Dev Cert.PcReferenceIdeal.nD → PrngReg), Pre_PcIdeal m →
    (∀ c : Dev Cert.PcIdeal.nD,
      m' ((c.tc : Thread Cert.PcReferenceIdeal.nD Cert.PcReferenceIdeal.τ).loc Cert.PcReferenceIdeal.main_arg0) = m ((c.tc : Thread Cert.PcIdeal.nD Cert.PcIdeal.τ).loc Cert.PcIdeal.main_arg0)) →
    ∃ (v0 : (c : Dev Cert.PcIdeal.nD) → Buf (Elt Ideal) ((c.tc : Thread Cert.PcIdeal.nD Cert.PcIdeal.τ).loc Cert.PcIdeal.main_v2)),
      θ_run (Cert.PcIdeal.defs (F := Ideal)) (onTc (τ := Cert.PcIdeal.τ) (Cert.PcIdeal.main (F := Ideal))) ⟨m, fun _ => 0, g⟩ (fun r => ∀ c : Dev Cert.PcIdeal.nD,
          r.2.mem ((c.tc : Thread Cert.PcIdeal.nD Cert.PcIdeal.τ).loc Cert.PcIdeal.main_v2) = v0 c
          ∧ r.2.mem ((c.tc : Thread Cert.PcIdeal.nD Cert.PcIdeal.τ).loc Cert.PcIdeal.main_arg0) = m ((c.tc : Thread Cert.PcIdeal.nD Cert.PcIdeal.τ).loc Cert.PcIdeal.main_arg0))
      ∧ θ_run (Cert.PcReferenceIdeal.defs (F := Ideal)) (onTc (τ := Cert.PcReferenceIdeal.τ) (Cert.PcReferenceIdeal.main (F := Ideal))) ⟨m', fun _ => 0, g'⟩ (fun r => ∀ c : Dev Cert.PcReferenceIdeal.nD,
          r.2.mem ((c.tc : Thread Cert.PcReferenceIdeal.nD Cert.PcReferenceIdeal.τ).loc Cert.PcReferenceIdeal.main_v0) = v0 c
          ∧ r.2.mem ((c.tc : Thread Cert.PcReferenceIdeal.nD Cert.PcReferenceIdeal.τ).loc Cert.PcReferenceIdeal.main_arg0) = m' ((c.tc : Thread Cert.PcReferenceIdeal.nD Cert.PcReferenceIdeal.τ).loc Cert.PcReferenceIdeal.main_arg0))

def bitexact_Pc_PcReference [hPc : Cert.Pc.Facts] [hPcReference : Cert.PcReference.Facts] : Prop :=
  ∀ (m : (ℓ : Loc Cert.Pc.nD Cert.Pc.τ Cert.Pc.sig) → Buf (Elt Bits) ℓ) (g : Dev Cert.Pc.nD → PrngReg)
    (m' : (ℓ : Loc Cert.PcReference.nD Cert.PcReference.τ Cert.PcReference.sig) → Buf (Elt Bits) ℓ) (g' : Dev Cert.PcReference.nD → PrngReg), Pre_Pc m →
    (∀ c : Dev Cert.Pc.nD,
      m' ((c.tc : Thread Cert.PcReference.nD Cert.PcReference.τ).loc Cert.PcReference.main_arg0) = m ((c.tc : Thread Cert.Pc.nD Cert.Pc.τ).loc Cert.Pc.main_arg0)) →
    ∃ (v0 : (c : Dev Cert.Pc.nD) → Buf (Elt Bits) ((c.tc : Thread Cert.Pc.nD Cert.Pc.τ).loc Cert.Pc.main_v2)),
      θ_run (Cert.Pc.defs (F := Bits)) (onTc (τ := Cert.Pc.τ) (Cert.Pc.main (F := Bits))) ⟨m, fun _ => 0, g⟩ (fun r => ∀ c : Dev Cert.Pc.nD,
          r.2.mem ((c.tc : Thread Cert.Pc.nD Cert.Pc.τ).loc Cert.Pc.main_v2) = v0 c
          ∧ r.2.mem ((c.tc : Thread Cert.Pc.nD Cert.Pc.τ).loc Cert.Pc.main_arg0) = m ((c.tc : Thread Cert.Pc.nD Cert.Pc.τ).loc Cert.Pc.main_arg0))
      ∧ θ_run (Cert.PcReference.defs (F := Bits)) (onTc (τ := Cert.PcReference.τ) (Cert.PcReference.main (F := Bits))) ⟨m', fun _ => 0, g'⟩ (fun r => ∀ c : Dev Cert.PcReference.nD,
          r.2.mem ((c.tc : Thread Cert.PcReference.nD Cert.PcReference.τ).loc Cert.PcReference.main_v0) = v0 c
          ∧ r.2.mem ((c.tc : Thread Cert.PcReference.nD Cert.PcReference.τ).loc Cert.PcReference.main_arg0) = m' ((c.tc : Thread Cert.PcReference.nD Cert.PcReference.τ).loc Cert.PcReference.main_arg0))

def preserves_Pa_PaIdeal : Prop :=
  True

def algebraic_PaIdeal_PaReferenceIdeal [hPaIdeal : Cert.PaIdeal.Facts] [hPaReferenceIdeal : Cert.PaReferenceIdeal.Facts] : Prop :=
  ∀ (m : (ℓ : Loc Cert.PaIdeal.nD Cert.PaIdeal.τ Cert.PaIdeal.sig) → Buf (Elt Ideal) ℓ) (g : Dev Cert.PaIdeal.nD → PrngReg)
    (m' : (ℓ : Loc Cert.PaReferenceIdeal.nD Cert.PaReferenceIdeal.τ Cert.PaReferenceIdeal.sig) → Buf (Elt Ideal) ℓ) (g' : Dev Cert.PaReferenceIdeal.nD → PrngReg), Pre_PaIdeal m →
    (∀ c : Dev Cert.PaIdeal.nD,
      m' ((c.tc : Thread Cert.PaReferenceIdeal.nD Cert.PaReferenceIdeal.τ).loc Cert.PaReferenceIdeal.main_arg0) = m ((c.tc : Thread Cert.PaIdeal.nD Cert.PaIdeal.τ).loc Cert.PaIdeal.main_arg0)
      ∧ m' ((c.tc : Thread Cert.PaReferenceIdeal.nD Cert.PaReferenceIdeal.τ).loc Cert.PaReferenceIdeal.main_arg1) = m ((c.tc : Thread Cert.PaIdeal.nD Cert.PaIdeal.τ).loc Cert.PaIdeal.main_arg1)) →
    ∃ (v0 : (c : Dev Cert.PaIdeal.nD) → Buf (Elt Ideal) ((c.tc : Thread Cert.PaIdeal.nD Cert.PaIdeal.τ).loc Cert.PaIdeal.main_v2)),
      θ_run (Cert.PaIdeal.defs (F := Ideal)) (onTc (τ := Cert.PaIdeal.τ) (Cert.PaIdeal.main (F := Ideal))) ⟨m, fun _ => 0, g⟩ (fun r => ∀ c : Dev Cert.PaIdeal.nD,
          r.2.mem ((c.tc : Thread Cert.PaIdeal.nD Cert.PaIdeal.τ).loc Cert.PaIdeal.main_v2) = v0 c
          ∧ r.2.mem ((c.tc : Thread Cert.PaIdeal.nD Cert.PaIdeal.τ).loc Cert.PaIdeal.main_arg0) = m ((c.tc : Thread Cert.PaIdeal.nD Cert.PaIdeal.τ).loc Cert.PaIdeal.main_arg0)
          ∧ r.2.mem ((c.tc : Thread Cert.PaIdeal.nD Cert.PaIdeal.τ).loc Cert.PaIdeal.main_arg1) = m ((c.tc : Thread Cert.PaIdeal.nD Cert.PaIdeal.τ).loc Cert.PaIdeal.main_arg1))
      ∧ θ_run (Cert.PaReferenceIdeal.defs (F := Ideal)) (onTc (τ := Cert.PaReferenceIdeal.τ) (Cert.PaReferenceIdeal.main (F := Ideal))) ⟨m', fun _ => 0, g'⟩ (fun r => ∀ c : Dev Cert.PaReferenceIdeal.nD,
          r.2.mem ((c.tc : Thread Cert.PaReferenceIdeal.nD Cert.PaReferenceIdeal.τ).loc Cert.PaReferenceIdeal.main_v7) = v0 c
          ∧ r.2.mem ((c.tc : Thread Cert.PaReferenceIdeal.nD Cert.PaReferenceIdeal.τ).loc Cert.PaReferenceIdeal.main_arg0) = m' ((c.tc : Thread Cert.PaReferenceIdeal.nD Cert.PaReferenceIdeal.τ).loc Cert.PaReferenceIdeal.main_arg0)
          ∧ r.2.mem ((c.tc : Thread Cert.PaReferenceIdeal.nD Cert.PaReferenceIdeal.τ).loc Cert.PaReferenceIdeal.main_arg1) = m' ((c.tc : Thread Cert.PaReferenceIdeal.nD Cert.PaReferenceIdeal.τ).loc Cert.PaReferenceIdeal.main_arg1))

def bitexact_Pa_PaReference [hPa : Cert.Pa.Facts] [hPaReference : Cert.PaReference.Facts] : Prop :=
  ∀ (m : (ℓ : Loc Cert.Pa.nD Cert.Pa.τ Cert.Pa.sig) → Buf (Elt Bits) ℓ) (g : Dev Cert.Pa.nD → PrngReg)
    (m' : (ℓ : Loc Cert.PaReference.nD Cert.PaReference.τ Cert.PaReference.sig) → Buf (Elt Bits) ℓ) (g' : Dev Cert.PaReference.nD → PrngReg), Pre_Pa m →
    (∀ c : Dev Cert.Pa.nD,
      m' ((c.tc : Thread Cert.PaReference.nD Cert.PaReference.τ).loc Cert.PaReference.main_arg0) = m ((c.tc : Thread Cert.Pa.nD Cert.Pa.τ).loc Cert.Pa.main_arg0)
      ∧ m' ((c.tc : Thread Cert.PaReference.nD Cert.PaReference.τ).loc Cert.PaReference.main_arg1) = m ((c.tc : Thread Cert.Pa.nD Cert.Pa.τ).loc Cert.Pa.main_arg1)) →
    ∃ (v0 : (c : Dev Cert.Pa.nD) → Buf (Elt Bits) ((c.tc : Thread Cert.Pa.nD Cert.Pa.τ).loc Cert.Pa.main_v2)),
      θ_run (Cert.Pa.defs (F := Bits)) (onTc (τ := Cert.Pa.τ) (Cert.Pa.main (F := Bits))) ⟨m, fun _ => 0, g⟩ (fun r => ∀ c : Dev Cert.Pa.nD,
          r.2.mem ((c.tc : Thread Cert.Pa.nD Cert.Pa.τ).loc Cert.Pa.main_v2) = v0 c
          ∧ r.2.mem ((c.tc : Thread Cert.Pa.nD Cert.Pa.τ).loc Cert.Pa.main_arg0) = m ((c.tc : Thread Cert.Pa.nD Cert.Pa.τ).loc Cert.Pa.main_arg0)
          ∧ r.2.mem ((c.tc : Thread Cert.Pa.nD Cert.Pa.τ).loc Cert.Pa.main_arg1) = m ((c.tc : Thread Cert.Pa.nD Cert.Pa.τ).loc Cert.Pa.main_arg1))
      ∧ θ_run (Cert.PaReference.defs (F := Bits)) (onTc (τ := Cert.PaReference.τ) (Cert.PaReference.main (F := Bits))) ⟨m', fun _ => 0, g'⟩ (fun r => ∀ c : Dev Cert.PaReference.nD,
          r.2.mem ((c.tc : Thread Cert.PaReference.nD Cert.PaReference.τ).loc Cert.PaReference.main_v7) = v0 c
          ∧ r.2.mem ((c.tc : Thread Cert.PaReference.nD Cert.PaReference.τ).loc Cert.PaReference.main_arg0) = m' ((c.tc : Thread Cert.PaReference.nD Cert.PaReference.τ).loc Cert.PaReference.main_arg0)
          ∧ r.2.mem ((c.tc : Thread Cert.PaReference.nD Cert.PaReference.τ).loc Cert.PaReference.main_arg1) = m' ((c.tc : Thread Cert.PaReference.nD Cert.PaReference.τ).loc Cert.PaReference.main_arg1))

def preserves_Cs_CsIdeal : Prop :=
  True

def algebraic_CsIdeal_CsReferenceIdeal [hCsIdeal : Cert.CsIdeal.Facts] [hCsReferenceIdeal : Cert.CsReferenceIdeal.Facts] : Prop :=
  ∀ (m : (ℓ : Loc Cert.CsIdeal.nD Cert.CsIdeal.τ Cert.CsIdeal.sig) → Buf (Elt Ideal) ℓ) (g : Dev Cert.CsIdeal.nD → PrngReg)
    (m' : (ℓ : Loc Cert.CsReferenceIdeal.nD Cert.CsReferenceIdeal.τ Cert.CsReferenceIdeal.sig) → Buf (Elt Ideal) ℓ) (g' : Dev Cert.CsReferenceIdeal.nD → PrngReg), Pre_CsIdeal m →
    (∀ c : Dev Cert.CsIdeal.nD,
      m' ((c.tc : Thread Cert.CsReferenceIdeal.nD Cert.CsReferenceIdeal.τ).loc Cert.CsReferenceIdeal.main_arg0) = m ((c.tc : Thread Cert.CsIdeal.nD Cert.CsIdeal.τ).loc Cert.CsIdeal.main_arg0)
      ∧ m' ((c.tc : Thread Cert.CsReferenceIdeal.nD Cert.CsReferenceIdeal.τ).loc Cert.CsReferenceIdeal.main_arg1) = m ((c.tc : Thread Cert.CsIdeal.nD Cert.CsIdeal.τ).loc Cert.CsIdeal.main_arg1)
      ∧ m' ((c.tc : Thread Cert.CsReferenceIdeal.nD Cert.CsReferenceIdeal.τ).loc Cert.CsReferenceIdeal.main_arg2) = m ((c.tc : Thread Cert.CsIdeal.nD Cert.CsIdeal.τ).loc Cert.CsIdeal.main_arg2)) →
    ∃ (v0 : (c : Dev Cert.CsIdeal.nD) → Buf (Elt Ideal) ((c.tc : Thread Cert.CsIdeal.nD Cert.CsIdeal.τ).loc Cert.CsIdeal.main_v2)),
      θ_run (Cert.CsIdeal.defs (F := Ideal)) (onTc (τ := Cert.CsIdeal.τ) (Cert.CsIdeal.main (F := Ideal))) ⟨m, fun _ => 0, g⟩ (fun r => ∀ c : Dev Cert.CsIdeal.nD,
          r.2.mem ((c.tc : Thread Cert.CsIdeal.nD Cert.CsIdeal.τ).loc Cert.CsIdeal.main_v2) = v0 c
          ∧ r.2.mem ((c.tc : Thread Cert.CsIdeal.nD Cert.CsIdeal.τ).loc Cert.CsIdeal.main_arg0) = m ((c.tc : Thread Cert.CsIdeal.nD Cert.CsIdeal.τ).loc Cert.CsIdeal.main_arg0)
          ∧ r.2.mem ((c.tc : Thread Cert.CsIdeal.nD Cert.CsIdeal.τ).loc Cert.CsIdeal.main_arg1) = m ((c.tc : Thread Cert.CsIdeal.nD Cert.CsIdeal.τ).loc Cert.CsIdeal.main_arg1)
          ∧ r.2.mem ((c.tc : Thread Cert.CsIdeal.nD Cert.CsIdeal.τ).loc Cert.CsIdeal.main_arg2) = m ((c.tc : Thread Cert.CsIdeal.nD Cert.CsIdeal.τ).loc Cert.CsIdeal.main_arg2))
      ∧ θ_run (Cert.CsReferenceIdeal.defs (F := Ideal)) (onTc (τ := Cert.CsReferenceIdeal.τ) (Cert.CsReferenceIdeal.main (F := Ideal))) ⟨m', fun _ => 0, g'⟩ (fun r => ∀ c : Dev Cert.CsReferenceIdeal.nD,
          r.2.mem ((c.tc : Thread Cert.CsReferenceIdeal.nD Cert.CsReferenceIdeal.τ).loc Cert.CsReferenceIdeal.main_v7) = v0 c
          ∧ r.2.mem ((c.tc : Thread Cert.CsReferenceIdeal.nD Cert.CsReferenceIdeal.τ).loc Cert.CsReferenceIdeal.main_arg0) = m' ((c.tc : Thread Cert.CsReferenceIdeal.nD Cert.CsReferenceIdeal.τ).loc Cert.CsReferenceIdeal.main_arg0)
          ∧ r.2.mem ((c.tc : Thread Cert.CsReferenceIdeal.nD Cert.CsReferenceIdeal.τ).loc Cert.CsReferenceIdeal.main_arg1) = m' ((c.tc : Thread Cert.CsReferenceIdeal.nD Cert.CsReferenceIdeal.τ).loc Cert.CsReferenceIdeal.main_arg1)
          ∧ r.2.mem ((c.tc : Thread Cert.CsReferenceIdeal.nD Cert.CsReferenceIdeal.τ).loc Cert.CsReferenceIdeal.main_arg2) = m' ((c.tc : Thread Cert.CsReferenceIdeal.nD Cert.CsReferenceIdeal.τ).loc Cert.CsReferenceIdeal.main_arg2))

def Claim : Prop :=
  ∃ (hMlp : Cert.Mlp.Facts) (hMlpIdeal : Cert.MlpIdeal.Facts) (hMlpReferenceIdeal : Cert.MlpReferenceIdeal.Facts) (hMix : Cert.Mix.Facts) (hMixIdeal : Cert.MixIdeal.Facts) (hMixReferenceIdeal : Cert.MixReferenceIdeal.Facts) (hConv : Cert.Conv.Facts) (hConvIdeal : Cert.ConvIdeal.Facts) (hConvReferenceIdeal : Cert.ConvReferenceIdeal.Facts) (hOut : Cert.Out.Facts) (hOutIdeal : Cert.OutIdeal.Facts) (hOutReferenceIdeal : Cert.OutReferenceIdeal.Facts) (hPre : Cert.Pre.Facts) (hPreIdeal : Cert.PreIdeal.Facts) (hPreReferenceIdeal : Cert.PreReferenceIdeal.Facts) (hGw : Cert.Gw.Facts) (hGwIdeal : Cert.GwIdeal.Facts) (hGwReferenceIdeal : Cert.GwReferenceIdeal.Facts) (hGx : Cert.Gx.Facts) (hGxIdeal : Cert.GxIdeal.Facts) (hGxReferenceIdeal : Cert.GxReferenceIdeal.Facts) (hAdam : Cert.Adam.Facts) (hAdamIdeal : Cert.AdamIdeal.Facts) (hAdamReferenceIdeal : Cert.AdamReferenceIdeal.Facts) (hSum : Cert.Sum.Facts) (hSumIdeal : Cert.SumIdeal.Facts) (hSumReferenceIdeal : Cert.SumReferenceIdeal.Facts) (hXch : Cert.Xch.Facts) (hXchIdeal : Cert.XchIdeal.Facts) (hXchReferenceIdeal : Cert.XchReferenceIdeal.Facts) (hXchReference : Cert.XchReference.Facts) (hSct : Cert.Sct.Facts) (hSctIdeal : Cert.SctIdeal.Facts) (hSctReferenceIdeal : Cert.SctReferenceIdeal.Facts) (hSctReference : Cert.SctReference.Facts) (hPc : Cert.Pc.Facts) (hPcIdeal : Cert.PcIdeal.Facts) (hPcReferenceIdeal : Cert.PcReferenceIdeal.Facts) (hPcReference : Cert.PcReference.Facts) (hPa : Cert.Pa.Facts) (hPaIdeal : Cert.PaIdeal.Facts) (hPaReferenceIdeal : Cert.PaReferenceIdeal.Facts) (hPaReference : Cert.PaReference.Facts) (hCs : Cert.Cs.Facts) (hCsIdeal : Cert.CsIdeal.Facts) (hCsReferenceIdeal : Cert.CsReferenceIdeal.Facts) (hPre_finite_mlp : Cert.Pre_finite_mlp.Facts) (hPre_finite_mix : Cert.Pre_finite_mix.Facts),
    quiescent_Mlp (hMlp := hMlp)
    ∧ quiescent_MlpIdeal (hMlpIdeal := hMlpIdeal)
    ∧ quiescent_MlpIdeal_pre_finite_mlp (hMlpIdeal := hMlpIdeal) (hPre_finite_mlp := hPre_finite_mlp)
    ∧ quiescent_MlpReferenceIdeal (hMlpReferenceIdeal := hMlpReferenceIdeal)
    ∧ quiescent_MlpReferenceIdeal_pre_finite_mlp (hMlpReferenceIdeal := hMlpReferenceIdeal) (hPre_finite_mlp := hPre_finite_mlp)
    ∧ quiescent_Mix (hMix := hMix)
    ∧ quiescent_MixIdeal (hMixIdeal := hMixIdeal)
    ∧ quiescent_MixIdeal_pre_finite_mix (hMixIdeal := hMixIdeal) (hPre_finite_mix := hPre_finite_mix)
    ∧ quiescent_MixReferenceIdeal (hMixReferenceIdeal := hMixReferenceIdeal)
    ∧ quiescent_MixReferenceIdeal_pre_finite_mix (hMixReferenceIdeal := hMixReferenceIdeal) (hPre_finite_mix := hPre_finite_mix)
    ∧ quiescent_Conv (hConv := hConv)
    ∧ quiescent_ConvIdeal (hConvIdeal := hConvIdeal)
    ∧ quiescent_ConvReferenceIdeal (hConvReferenceIdeal := hConvReferenceIdeal)
    ∧ quiescent_Out (hOut := hOut)
    ∧ quiescent_OutIdeal (hOutIdeal := hOutIdeal)
    ∧ quiescent_OutReferenceIdeal (hOutReferenceIdeal := hOutReferenceIdeal)
    ∧ quiescent_Pre (hPre := hPre)
    ∧ quiescent_PreIdeal (hPreIdeal := hPreIdeal)
    ∧ quiescent_PreReferenceIdeal (hPreReferenceIdeal := hPreReferenceIdeal)
    ∧ quiescent_Gw (hGw := hGw)
    ∧ quiescent_GwIdeal (hGwIdeal := hGwIdeal)
    ∧ quiescent_GwReferenceIdeal (hGwReferenceIdeal := hGwReferenceIdeal)
    ∧ quiescent_Gx (hGx := hGx)
    ∧ quiescent_GxIdeal (hGxIdeal := hGxIdeal)
    ∧ quiescent_GxReferenceIdeal (hGxReferenceIdeal := hGxReferenceIdeal)
    ∧ quiescent_Adam (hAdam := hAdam)
    ∧ quiescent_AdamIdeal (hAdamIdeal := hAdamIdeal)
    ∧ quiescent_AdamReferenceIdeal (hAdamReferenceIdeal := hAdamReferenceIdeal)
    ∧ quiescent_Sum (hSum := hSum)
    ∧ quiescent_SumIdeal (hSumIdeal := hSumIdeal)
    ∧ quiescent_SumReferenceIdeal (hSumReferenceIdeal := hSumReferenceIdeal)
    ∧ quiescent_Xch (hXch := hXch)
    ∧ quiescent_XchIdeal (hXchIdeal := hXchIdeal)
    ∧ quiescent_XchReferenceIdeal (hXchReferenceIdeal := hXchReferenceIdeal)
    ∧ quiescent_XchReference (hXchReference := hXchReference)
    ∧ quiescent_Sct (hSct := hSct)
    ∧ quiescent_SctIdeal (hSctIdeal := hSctIdeal)
    ∧ quiescent_SctReferenceIdeal (hSctReferenceIdeal := hSctReferenceIdeal)
    ∧ quiescent_SctReference (hSctReference := hSctReference)
    ∧ quiescent_Pc (hPc := hPc)
    ∧ quiescent_PcIdeal (hPcIdeal := hPcIdeal)
    ∧ quiescent_PcReferenceIdeal (hPcReferenceIdeal := hPcReferenceIdeal)
    ∧ quiescent_PcReference (hPcReference := hPcReference)
    ∧ quiescent_Pa (hPa := hPa)
    ∧ quiescent_PaIdeal (hPaIdeal := hPaIdeal)
    ∧ quiescent_PaReferenceIdeal (hPaReferenceIdeal := hPaReferenceIdeal)
    ∧ quiescent_PaReference (hPaReference := hPaReference)
    ∧ quiescent_Cs (hCs := hCs)
    ∧ quiescent_CsIdeal (hCsIdeal := hCsIdeal)
    ∧ quiescent_CsReferenceIdeal (hCsReferenceIdeal := hCsReferenceIdeal)
    ∧ preserves_Mlp_MlpIdeal
    ∧ algebraic_MlpIdeal_MlpReferenceIdeal_pre_finite_mlp (hMlpIdeal := hMlpIdeal) (hMlpReferenceIdeal := hMlpReferenceIdeal) (hPre_finite_mlp := hPre_finite_mlp)
    ∧ preserves_Mix_MixIdeal
    ∧ algebraic_MixIdeal_MixReferenceIdeal_pre_finite_mix (hMixIdeal := hMixIdeal) (hMixReferenceIdeal := hMixReferenceIdeal) (hPre_finite_mix := hPre_finite_mix)
    ∧ preserves_Conv_ConvIdeal
    ∧ algebraic_ConvIdeal_ConvReferenceIdeal (hConvIdeal := hConvIdeal) (hConvReferenceIdeal := hConvReferenceIdeal)
    ∧ preserves_Out_OutIdeal
    ∧ algebraic_OutIdeal_OutReferenceIdeal (hOutIdeal := hOutIdeal) (hOutReferenceIdeal := hOutReferenceIdeal)
    ∧ preserves_Pre_PreIdeal
    ∧ algebraic_PreIdeal_PreReferenceIdeal (hPreIdeal := hPreIdeal) (hPreReferenceIdeal := hPreReferenceIdeal)
    ∧ preserves_Gw_GwIdeal
    ∧ algebraic_GwIdeal_GwReferenceIdeal (hGwIdeal := hGwIdeal) (hGwReferenceIdeal := hGwReferenceIdeal)
    ∧ preserves_Gx_GxIdeal
    ∧ algebraic_GxIdeal_GxReferenceIdeal (hGxIdeal := hGxIdeal) (hGxReferenceIdeal := hGxReferenceIdeal)
    ∧ preserves_Adam_AdamIdeal
    ∧ algebraic_AdamIdeal_AdamReferenceIdeal (hAdamIdeal := hAdamIdeal) (hAdamReferenceIdeal := hAdamReferenceIdeal)
    ∧ preserves_Sum_SumIdeal
    ∧ algebraic_SumIdeal_SumReferenceIdeal (hSumIdeal := hSumIdeal) (hSumReferenceIdeal := hSumReferenceIdeal)
    ∧ preserves_Xch_XchIdeal
    ∧ algebraic_XchIdeal_XchReferenceIdeal (hXchIdeal := hXchIdeal) (hXchReferenceIdeal := hXchReferenceIdeal)
    ∧ bitexact_Xch_XchReference (hXch := hXch) (hXchReference := hXchReference)
    ∧ preserves_Sct_SctIdeal
    ∧ algebraic_SctIdeal_SctReferenceIdeal (hSctIdeal := hSctIdeal) (hSctReferenceIdeal := hSctReferenceIdeal)
    ∧ bitexact_Sct_SctReference (hSct := hSct) (hSctReference := hSctReference)
    ∧ preserves_Pc_PcIdeal
    ∧ algebraic_PcIdeal_PcReferenceIdeal (hPcIdeal := hPcIdeal) (hPcReferenceIdeal := hPcReferenceIdeal)
    ∧ bitexact_Pc_PcReference (hPc := hPc) (hPcReference := hPcReference)
    ∧ preserves_Pa_PaIdeal
    ∧ algebraic_PaIdeal_PaReferenceIdeal (hPaIdeal := hPaIdeal) (hPaReferenceIdeal := hPaReferenceIdeal)
    ∧ bitexact_Pa_PaReference (hPa := hPa) (hPaReference := hPaReference)
    ∧ preserves_Cs_CsIdeal
    ∧ algebraic_CsIdeal_CsReferenceIdeal (hCsIdeal := hCsIdeal) (hCsReferenceIdeal := hCsReferenceIdeal)
-- ==== Pre_finite_mix.lean ====
abbrev S8192x7168 : Shape := ⟨2, ![8192, 7168]⟩
abbrev S8192x1024 : Shape := ⟨2, ![8192, 1024]⟩
abbrev S1024 : Shape := ⟨1, ![1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg7 : FVec F S1024x1024 .f32) (main_arg8 : FVec F S1024x1024 .f32) (main_arg9 : FVec F S8192x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg7
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg8
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S8192x1024 .f32 := Host.absf main_arg9
  let main_cst_10 : FVec F S_ .f32 := constant S_ .f32 0x7F800000#32
  let main_v30 : FVec F S8192x1024 .f32 := broadcastInDim S8192x1024 ![] bcast_S_S8192x1024 main_cst_10
  let main_v31 : IVec S8192x1024 1 := cmpf .olt main_v29 main_v30
  let main_c_11 : IVec S_ 1 := constantI S_ 1 1#1
  let main_v32 : IVec S_ 1 := (fun x v => Host.reduce IntOp.andi x v reducesTo_S8192x1024_S_d0_1 h_S_) main_v31 main_c_11
  let main_v33 : IVec S_ 1 := andi main_v28 main_v32
  main_v33

def fn {F : FTy → Type} [FloatOps F] (main_arg0 : FVec F S8192x7168 .f32) (main_arg1 : FVec F S8192x1024 .f32) (main_arg2 : FVec F S8192x1024 .f32) (main_arg3 : FVec F S1024 .f32) (main_arg4 : FVec F S1024 .f32) (main_arg5 : FVec F S1024 .f32) (main_arg6 : FVec F S1024x1024 .f32) (main_arg7 : FVec F S1024x1024 .f32) (main_arg8 : FVec F S1024x1024 .f32) (main_arg9 : FVec F S8192x1024 .f32) : IVec S_ 1 :=
  let main_v0 : FVec F S8192x1024 .f32 := Host.absf main_arg2
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg3
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg4
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg5
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg7 main_arg8 main_arg9 main_v13 main_v16
-- ==== Pre_finite_mlp.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part2 {F : FTy → Type} [FloatOps F] (main_arg7 : FVec F S8192x1024 .f32) (main_v33 : IVec S_ 1) : IVec S_ 1 :=
  let main_v34 : FVec F S8192x1024 .f32 := Host.absf main_arg7
  let main_cst_12 : FVec F S_ .f32 := constant S_ .f32 0x7F800000#32
  let main_v35 : FVec F S8192x1024 .f32 := broadcastInDim S8192x1024 ![] bcast_S_S8192x1024 main_cst_12
  let main_v36 : IVec S8192x1024 1 := cmpf .olt main_v34 main_v35
  let main_c_13 : IVec S_ 1 := constantI S_ 1 1#1
  let main_v37 : IVec S_ 1 := (fun x v => Host.reduce IntOp.andi x v reducesTo_S8192x1024_S_d0_1 h_S_) main_v36 main_c_13
  let main_v38 : IVec S_ 1 := andi main_v33 main_v37
  main_v38

def fn_part1 {F : FTy → Type} [FloatOps F] (main_arg4 : FVec F S4096x1024 .f32) (main_arg5 : FVec F S1024 .f32) (main_arg6 : FVec F S1024 .f32) (main_arg7 : FVec F S8192x1024 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_v33

def fn {F : FTy → Type} [FloatOps F] (main_arg0 : FVec F S8192x1024 .f32) (main_arg1 : FVec F S1024 .f32) (main_arg2 : FVec F S1024 .f32) (main_arg3 : FVec F S1024x4096 .f32) (main_arg4 : FVec F S4096x1024 .f32) (main_arg5 : FVec F S1024 .f32) (main_arg6 : FVec F S1024 .f32) (main_arg7 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_arg5 main_arg6 main_arg7 main_v13 main_v16
-- ==== Mlp.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩
abbrev S8x1024 : Shape := ⟨2, ![8, 1024]⟩
abbrev S256x1024 : Shape := ⟨2, ![256, 1024]⟩
abbrev S256x1 : Shape := ⟨2, ![256, 1]⟩
abbrev S256x4096 : Shape := ⟨2, ![256, 4096]⟩
abbrev S1024x1024 : Shape := ⟨2, ![1024, 1024]⟩
abbrev S256 : Shape := ⟨1, ![256]⟩

abbrev nBuf : Space → Nat
  | .hbm => 42
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S1024x4096, .bf16⟩
  | .hbm, ⟨30, _⟩ => ⟨S4096x1024, .bf16⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S8192x1024, .bf16⟩
  | .hbm, ⟨36, _⟩ => ⟨S8192x4096, .bf16⟩
  | .hbm, ⟨37, _⟩ => ⟨S8192x4096, .bf16⟩
  | .hbm, ⟨38, _⟩ => ⟨S8192x1024, .bf16⟩
  | .hbm, ⟨39, _⟩ => ⟨S8192x1024, .f32⟩
  | .hbm, ⟨40, _⟩ => ⟨S8192x1024, .bf16⟩
  | .hbm, ⟨41, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1, .f32⟩
  | .local _ .vmem, ⟨3, _⟩ => ⟨S256x1, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S4096x1024, .bf16⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S256x1024, .bf16⟩
  | .local _ .vmem, ⟨13, _⟩ => ⟨S256x1024, .bf16⟩
  | .local _ .vmem, ⟨14, _⟩ => ⟨S256x4096, .bf16⟩
  | .local _ .vmem, ⟨15, _⟩ => ⟨S256x4096, .bf16⟩
  | .local _ .vmem, ⟨16, _⟩ => ⟨S256x4096, .bf16⟩
  | .local _ .vmem, ⟨17, _⟩ => ⟨S256x4096, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .f32⟩
  | .local _ .vmem, ⟨21, _⟩ => ⟨S256x1024, .f32⟩
  | .local _ .vmem, ⟨22, _⟩ => ⟨S256x1024, .bf16⟩
  | .local _ .vmem, ⟨23, _⟩ => ⟨S256x1024, .bf16⟩
  | .local _ .vmem, ⟨24, _⟩ => ⟨S8x1024, .f32⟩
  | .local _ .vmem, ⟨25, _⟩ => ⟨S256x4096, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22_0 : Ref sig .tc := ⟨.hbm, 35, rfl⟩
abbrev main_v22_1 : Ref sig .tc := ⟨.hbm, 36, rfl⟩
abbrev main_v22_2 : Ref sig .tc := ⟨.hbm, 37, rfl⟩
abbrev main_v22_3 : Ref sig .tc := ⟨.hbm, 38, rfl⟩
abbrev main_v22_4 : Ref sig .tc := ⟨.hbm, 39, rfl⟩
abbrev main_v22_5 : Ref sig .tc := ⟨.hbm, 40, rfl⟩
abbrev main_v22_6 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== MlpReferenceIdeal.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192x4096 : Shape := ⟨2, ![8192, 4096]⟩
abbrev S8192 : Shape := ⟨1, ![8192]⟩
abbrev S8192x1 : Shape := ⟨2, ![8192, 1]⟩
abbrev S1x1024 : Shape := ⟨2, ![1, 1024]⟩
abbrev S5x1024 : Shape := ⟨2, ![5, 1024]⟩
abbrev S3x1024 : Shape := ⟨2, ![3, 1024]⟩
abbrev S8x1024 : Shape := ⟨2, ![8, 1024]⟩

abbrev nBuf : Space → Nat
  | .hbm => 241
  | .vmem => 0
  | .smem => 0
  | _ => 0

abbrev hbmTy0_0 (i : Nat) : BufTy := match i % 128 with
  | 0 => ⟨S8192x1024, .f32⟩
  | 1 => ⟨S1024, .f32⟩
  | 2 => ⟨S1024, .f32⟩
  | 3 => ⟨S1024x4096, .f32⟩
  | 4 => ⟨S4096x1024, .f32⟩
  | 5 => ⟨S1024, .f32⟩
  | 6 => ⟨S1024, .f32⟩
  | 7 => ⟨S8192x1024, .f32⟩
  | 8 => ⟨S_, .f32⟩
  | 9 => ⟨S8192x4096, .f32⟩
  | 10 => ⟨S_, .f32⟩
  | 11 => ⟨S8192x1024, .f32⟩
  | 12 => ⟨S_, .f32⟩
  | 13 => ⟨S8192, .f32⟩
  | 14 => ⟨S8192x1, .f32⟩
  | 15 => ⟨S_, .f32⟩
  | 16 => ⟨S8192x1, .f32⟩
  | 17 => ⟨S8192x1, .f32⟩
  | 18 => ⟨S8192x1024, .f32⟩
  | 19 => ⟨S8192x1024, .f32⟩
  | 20 => ⟨S8192x1024, .f32⟩
  | 21 => ⟨S_, .f32⟩
  | 22 => ⟨S8192x1024, .f32⟩
  | 23 => ⟨S8192x1024, .f32⟩
  | 24 => ⟨S_, .f32⟩
  | 25 => ⟨S8192, .f32⟩
  | 26 => ⟨S8192x1, .f32⟩
  | 27 => ⟨S_, .f32⟩
  | 28 => ⟨S8192x1, .f32⟩
  | 29 => ⟨S8192x1, .f32⟩
  | 30 => ⟨S8192x1024, .f32⟩
  | 31 => ⟨S8192x1024, .f32⟩
  | 32 => ⟨S_, .f32⟩
  | 33 => ⟨S8192x1, .f32⟩
  | 34 => ⟨S8192x1, .f32⟩
  | 35 => ⟨S8192x1, .f32⟩
  | 36 => ⟨S8192x1, .f32⟩
  | 37 => ⟨S_, .f32⟩
  | 38 => ⟨S8192x1, .f32⟩
  | 39 => ⟨S8192x1, .f32⟩
  | 40 => ⟨S8192x1024, .f32⟩
  | 41 => ⟨S8192x1024, .f32⟩
  | 42 => ⟨S1x1024, .f32⟩
  | 43 => ⟨S8192x1024, .f32⟩
  | 44 => ⟨S8192x1024, .f32⟩
  | 45 => ⟨S1x1024, .f32⟩
  | 46 => ⟨S8192x1024, .f32⟩
  | 47 => ⟨S8192x1024, .f32⟩
  | 48 => ⟨S8192x4096, .f32⟩
  | 49 => ⟨S8192x4096, .f32⟩
  | 50 => ⟨S_, .f32⟩
  | 51 => ⟨S8192x4096, .f32⟩
  | 52 => ⟨S8192x4096, .f32⟩
  | 53 => ⟨S_, .f32⟩
  | 54 => ⟨S8192x4096, .f32⟩
  | 55 => ⟨S8192x4096, .i1⟩
  | 56 => ⟨S_, .f32⟩
  | 57 => ⟨S8192x4096, .f32⟩
  | 58 => ⟨S8192x4096, .f32⟩
  | 59 => ⟨S_, .f32⟩
  | 60 => ⟨S8192x4096, .f32⟩
  | 61 => ⟨S8192x4096, .f32⟩
  | 62 => ⟨S8192x1024, .f32⟩
  | 63 => ⟨S_, .f32⟩
  | 64 => ⟨S8192x1024, .f32⟩
  | 65 => ⟨S8192x1024, .f32⟩
  | 66 => ⟨S8192x1024, .f32⟩
  | 67 => ⟨S8192x1024, .f32⟩
  | 68 => ⟨S_, .f32⟩
  | 69 => ⟨S8192, .f32⟩
  | 70 => ⟨S8192x1, .f32⟩
  | 71 => ⟨S_, .f32⟩
  | 72 => ⟨S8192x1, .f32⟩
  | 73 => ⟨S8192x1, .f32⟩
  | 74 => ⟨S8192x1024, .f32⟩
  | 75 => ⟨S8192x1024, .f32⟩
  | 76 => ⟨S8192x1024, .f32⟩
  | 77 => ⟨S_, .f32⟩
  | 78 => ⟨S8192x1024, .f32⟩
  | 79 => ⟨S8192x1024, .f32⟩
  | 80 => ⟨S_, .f32⟩
  | 81 => ⟨S8192, .f32⟩
  | 82 => ⟨S8192x1, .f32⟩
  | 83 => ⟨S_, .f32⟩
  | 84 => ⟨S8192x1, .f32⟩
  | 85 => ⟨S8192x1, .f32⟩
  | 86 => ⟨S8192x1024, .f32⟩
  | 87 => ⟨S8192x1024, .f32⟩
  | 88 => ⟨S_, .f32⟩
  | 89 => ⟨S8192x1, .f32⟩
  | 90 => ⟨S8192x1, .f32⟩
  | 91 => ⟨S8192x1, .f32⟩
  | 92 => ⟨S8192x1, .f32⟩
  | 93 => ⟨S_, .f32⟩
  | 94 => ⟨S8192x1, .f32⟩
  | 95 => ⟨S8192x1, .f32⟩
  | 96 => ⟨S8192x1024, .f32⟩
  | 97 => ⟨S8192x1024, .f32⟩
  | 98 => ⟨S1x1024, .f32⟩
  | 99 => ⟨S8192x1024, .f32⟩
  | 100 => ⟨S8192x1024, .f32⟩
  | 101 => ⟨S1x1024, .f32⟩
  | 102 => ⟨S8192x1024, .f32⟩
  | 103 => ⟨S8192x1024, .f32⟩
  | 104 => ⟨S8192x1024, .f32⟩
  | 105 => ⟨S8192x1024, .f32⟩
  | 106 => ⟨S_, .f32⟩
  | 107 => ⟨S8192x1024, .f32⟩
  | 108 => ⟨S8192x1024, .f32⟩
  | 109 => ⟨S_, .f32⟩
  | 110 => ⟨S8192, .f32⟩
  | 111 => ⟨S_, .f32⟩
  | 112 => ⟨S8192, .f32⟩
  | 113 => ⟨S8192, .f32⟩
  | 114 => ⟨S_, .f32⟩
  | 115 => ⟨S_, .f32⟩
  | 116 => ⟨S_, .f32⟩
  | 117 => ⟨S_, .f32⟩
  | 118 => ⟨S_, .f32⟩
  | 119 => ⟨S1024, .f32⟩
  | 120 => ⟨S_, .f32⟩
  | 121 => ⟨S_, .f32⟩
  | 122 => ⟨S_, .f32⟩
  | 123 => ⟨S8192, .f32⟩
  | 124 => ⟨S_, .f32⟩
  | 125 => ⟨S8192, .f32⟩
  | 126 => ⟨S8192, .f32⟩
  | 127 => ⟨S8192x1024, .f32⟩
  | _ => ⟨S8192x1024, .f32⟩

abbrev hbmTy0_1 (i : Nat) : BufTy := match i % 128 with
  | 0 => ⟨S8192x1024, .f32⟩
  | 1 => ⟨S_, .f32⟩
  | 2 => ⟨S1024, .f32⟩
  | 3 => ⟨S1x1024, .f32⟩
  | 4 => ⟨S_, .f32⟩
  | 5 => ⟨S1024, .f32⟩
  | 6 => ⟨S8192x1024, .f32⟩
  | 7 => ⟨S_, .f32⟩
  | 8 => ⟨S1024, .f32⟩
  | 9 => ⟨S1x1024, .f32⟩
  | 10 => ⟨S8192x1024, .f32⟩
  | 11 => ⟨S8192x1024, .f32⟩
  | 12 => ⟨S_, .f32⟩
  | 13 => ⟨S1024, .f32⟩
  | 14 => ⟨S8192x1024, .f32⟩
  | 15 => ⟨S_, .f32⟩
  | 16 => ⟨S8192, .f32⟩
  | 17 => ⟨S8192x1, .f32⟩
  | 18 => ⟨S8192x1024, .f32⟩
  | 19 => ⟨S8192x1024, .f32⟩
  | 20 => ⟨S8192x1, .f32⟩
  | 21 => ⟨S8192x1024, .f32⟩
  | 22 => ⟨S_, .f32⟩
  | 23 => ⟨S8192, .f32⟩
  | 24 => ⟨S8192x1, .f32⟩
  | 25 => ⟨S_, .f32⟩
  | 26 => ⟨S8192x1, .f32⟩
  | 27 => ⟨S8192x1, .f32⟩
  | 28 => ⟨S_, .f32⟩
  | 29 => ⟨S8192, .f32⟩
  | 30 => ⟨S8192x1024, .f32⟩
  | 31 => ⟨S8192x1024, .f32⟩
  | 32 => ⟨S8192x1024, .f32⟩
  | 33 => ⟨S_, .f32⟩
  | 34 => ⟨S8192, .f32⟩
  | 35 => ⟨S8192x1, .f32⟩
  | 36 => ⟨S8192x1024, .f32⟩
  | 37 => ⟨S8192x1, .f32⟩
  | 38 => ⟨S_, .f32⟩
  | 39 => ⟨S8192x1, .f32⟩
  | 40 => ⟨S8192x1, .f32⟩
  | 41 => ⟨S_, .f32⟩
  | 42 => ⟨S8192, .f32⟩
  | 43 => ⟨S8192x1024, .f32⟩
  | 44 => ⟨S8192x1024, .f32⟩
  | 45 => ⟨S_, .f32⟩
  | 46 => ⟨S8192x1024, .f32⟩
  | 47 => ⟨S8192x1024, .f32⟩
  | 48 => ⟨S8192x4096, .f32⟩
  | 49 => ⟨S8192x4096, .f32⟩
  | 50 => ⟨S_, .f32⟩
  | 51 => ⟨S8192x4096, .f32⟩
  | 52 => ⟨S8192x4096, .f32⟩
  | 53 => ⟨S8192x1024, .f32⟩
  | 54 => ⟨S8192x1024, .f32⟩
  | 55 => ⟨S_, .f32⟩
  | 56 => ⟨S1024, .f32⟩
  | 57 => ⟨S1x1024, .f32⟩
  | 58 => ⟨S_, .f32⟩
  | 59 => ⟨S1024, .f32⟩
  | 60 => ⟨S8192x1024, .f32⟩
  | 61 => ⟨S_, .f32⟩
  | 62 => ⟨S1024, .f32⟩
  | 63 => ⟨S1x1024, .f32⟩
  | 64 => ⟨S8192x1024, .f32⟩
  | 65 => ⟨S8192x1024, .f32⟩
  | 66 => ⟨S_, .f32⟩
  | 67 => ⟨S1024, .f32⟩
  | 68 => ⟨S8192x1024, .f32⟩
  | 69 => ⟨S_, .f32⟩
  | 70 => ⟨S8192, .f32⟩
  | 71 => ⟨S8192x1, .f32⟩
  | 72 => ⟨S8192x1024, .f32⟩
  | 73 => ⟨S8192x1024, .f32⟩
  | 74 => ⟨S8192x1, .f32⟩
  | 75 => ⟨S8192x1024, .f32⟩
  | 76 => ⟨S_, .f32⟩
  | 77 => ⟨S8192, .f32⟩
  | 78 => ⟨S8192x1, .f32⟩
  | 79 => ⟨S_, .f32⟩
  | 80 => ⟨S8192x1, .f32⟩
  | 81 => ⟨S8192x1, .f32⟩
  | 82 => ⟨S_, .f32⟩
  | 83 => ⟨S8192, .f32⟩
  | 84 => ⟨S8192x1024, .f32⟩
  | 85 => ⟨S8192x1024, .f32⟩
  | 86 => ⟨S8192x1024, .f32⟩
  | 87 => ⟨S_, .f32⟩
  | 88 => ⟨S8192, .f32⟩
  | 89 => ⟨S8192x1, .f32⟩
  | 90 => ⟨S8192x1024, .f32⟩
  | 91 => ⟨S8192x1, .f32⟩
  | 92 => ⟨S_, .f32⟩
  | 93 => ⟨S8192x1, .f32⟩
  | 94 => ⟨S8192x1, .f32⟩
  | 95 => ⟨S_, .f32⟩
  | 96 => ⟨S8192, .f32⟩
  | 97 => ⟨S8192x1024, .f32⟩
  | 98 => ⟨S8192x1024, .f32⟩
  | 99 => ⟨S8192x1024, .bf16⟩
  | 100 => ⟨S8192x4096, .bf16⟩
  | 101 => ⟨S8192x4096, .bf16⟩
  | 102 => ⟨S8192x1024, .bf16⟩
  | 103 => ⟨S8192x1024, .bf16⟩
  | 104 => ⟨S1x1024, .f32⟩
  | 105 => ⟨S1x1024, .f32⟩
  | 106 => ⟨S1x1024, .f32⟩
  | 107 => ⟨S1x1024, .f32⟩
  | 108 => ⟨S1x1024, .f32⟩
  | 109 => ⟨S5x1024, .f32⟩
  | 110 => ⟨S_, .f32⟩
  | 111 => ⟨S3x1024, .f32⟩
  | 112 => ⟨S8x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_cst_1 : Ref sig .tc := ⟨.hbm, 12, rfl⟩
abbrev main_v2 : Ref sig .tc := ⟨.hbm, 13, rfl⟩
abbrev main_v3 : Ref sig .tc := ⟨.hbm, 14, rfl⟩
abbrev main_cst_2 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_cst_4 : Ref sig .tc := ⟨.hbm, 24, rfl⟩
abbrev main_v11 : Ref sig .tc := ⟨.hbm, 25, rfl⟩
abbrev main_v12 : Ref sig .tc := ⟨.hbm, 26, rfl⟩
abbrev main_cst_5 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_6 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_7 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call0_cst : Ref sig .tc := ⟨.hbm, 50, rfl⟩
abbrev main_call0_v0 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_cst_9 : Ref sig .tc := ⟨.hbm, 56, rfl⟩
abbrev main_v36 : Ref sig .tc := ⟨.hbm, 57, rfl⟩
abbrev main_v37 : Ref sig .tc := ⟨.hbm, 58, rfl⟩
abbrev main_cst_10 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_11 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_12 : Ref sig .tc := ⟨.hbm, 68, rfl⟩
abbrev main_v45 : Ref sig .tc := ⟨.hbm, 69, rfl⟩
abbrev main_v46 : Ref sig .tc := ⟨.hbm, 70, rfl⟩
abbrev main_cst_13 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_14 : Ref sig .tc := ⟨.hbm, 77, rfl⟩
abbrev main_v52 : Ref sig .tc := ⟨.hbm, 78, rfl⟩
abbrev main_v53 : Ref sig .tc := ⟨.hbm, 79, rfl⟩
abbrev main_cst_15 : Ref sig .tc := ⟨.hbm, 80, rfl⟩
abbrev main_v54 : Ref sig .tc := ⟨.hbm, 81, rfl⟩
abbrev main_v55 : Ref sig .tc := ⟨.hbm, 82, rfl⟩
abbrev main_cst_16 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_17 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_18 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_19 : Ref sig .tc := ⟨.hbm, 106, rfl⟩
abbrev main_v76 : Ref sig .tc := ⟨.hbm, 107, rfl⟩
abbrev main_v77 : Ref sig .tc := ⟨.hbm, 108, rfl⟩
abbrev main_cst_20 : Ref sig .tc := ⟨.hbm, 109, rfl⟩
abbrev main_v78 : Ref sig .tc := ⟨.hbm, 110, rfl⟩
abbrev main_cst_21 : Ref sig .tc := ⟨.hbm, 111, rfl⟩
abbrev main_v79 : Ref sig .tc := ⟨.hbm, 112, rfl⟩
abbrev main_v80 : Ref sig .tc := ⟨.hbm, 113, rfl⟩
abbrev main_cst_22 : Ref sig .tc := ⟨.hbm, 114, rfl⟩
abbrev main_v81 : Ref sig .tc := ⟨.hbm, 115, rfl⟩
abbrev main_cst_23 : Ref sig .tc := ⟨.hbm, 116, rfl⟩
abbrev main_v82 : Ref sig .tc := ⟨.hbm, 117, rfl⟩
abbrev main_cst_24 : Ref sig .tc := ⟨.hbm, 118, rfl⟩
abbrev main_v83 : Ref sig .tc := ⟨.hbm, 119, rfl⟩
abbrev main_cst_25 : Ref sig .tc := ⟨.hbm, 120, rfl⟩
abbrev main_cst_26 : Ref sig .tc := ⟨.hbm, 121, rfl⟩
abbrev main_v84 : Ref sig .tc := ⟨.hbm, 122, rfl⟩
abbrev main_v85 : Ref sig .tc := ⟨.hbm, 123, rfl⟩
abbrev main_cst_27 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_cst_28 : Ref sig .tc := ⟨.hbm, 129, rfl⟩
abbrev main_v90 : Ref sig .tc := ⟨.hbm, 130, rfl⟩
abbrev main_v91 : Ref sig .tc := ⟨.hbm, 131, rfl⟩
abbrev main_cst_29 : Ref sig .tc := ⟨.hbm, 132, rfl⟩
abbrev main_v92 : Ref sig .tc := ⟨.hbm, 133, rfl⟩
abbrev main_v93 : Ref sig .tc := ⟨.hbm, 134, rfl⟩
abbrev main_cst_30 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_cst_31 : Ref sig .tc := ⟨.hbm, 140, rfl⟩
abbrev main_v98 : Ref sig .tc := ⟨.hbm, 141, rfl⟩
abbrev main_v99 : Ref sig .tc := ⟨.hbm, 142, rfl⟩
abbrev main_cst_32 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_cst_33 : Ref sig .tc := ⟨.hbm, 150, rfl⟩
abbrev main_v106 : Ref sig .tc := ⟨.hbm, 151, rfl⟩
abbrev main_v107 : Ref sig .tc := ⟨.hbm, 152, rfl⟩
abbrev main_cst_34 : Ref sig .tc := ⟨.hbm, 153, rfl⟩
abbrev main_v108 : Ref sig .tc := ⟨.hbm, 154, rfl⟩
abbrev main_v109 : Ref sig .tc := ⟨.hbm, 155, rfl⟩
abbrev main_cst_35 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_cst_36 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_cst_37 : Ref sig .tc := ⟨.hbm, 166, rfl⟩
abbrev main_v118 : Ref sig .tc := ⟨.hbm, 167, rfl⟩
abbrev main_v119 : Ref sig .tc := ⟨.hbm, 168, rfl⟩
abbrev main_cst_38 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_cst_39 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_cst_40 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_cst_41 : Ref sig .tc := ⟨.hbm, 183, rfl⟩
abbrev main_v131 : Ref sig .tc := ⟨.hbm, 184, rfl⟩
abbrev main_v132 : Ref sig .tc := ⟨.hbm, 185, rfl⟩
abbrev main_cst_42 : Ref sig .tc := ⟨.hbm, 186, rfl⟩
abbrev main_v133 : Ref sig .tc := ⟨.hbm, 187, rfl⟩
abbrev main_v134 : Ref sig .tc := ⟨.hbm, 188, rfl⟩
abbrev main_cst_43 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_cst_44 : Ref sig .tc := ⟨.hbm, 194, rfl⟩
abbrev main_v139 : Ref sig .tc := ⟨.hbm, 195, rfl⟩
abbrev main_v140 : Ref sig .tc := ⟨.hbm, 196, rfl⟩
abbrev main_cst_45 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_cst_46 : Ref sig .tc := ⟨.hbm, 204, rfl⟩
abbrev main_v147 : Ref sig .tc := ⟨.hbm, 205, rfl⟩
abbrev main_v148 : Ref sig .tc := ⟨.hbm, 206, rfl⟩
abbrev main_cst_47 : Ref sig .tc := ⟨.hbm, 207, rfl⟩
abbrev main_v149 : Ref sig .tc := ⟨.hbm, 208, rfl⟩
abbrev main_v150 : Ref sig .tc := ⟨.hbm, 209, rfl⟩
abbrev main_cst_48 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_cst_49 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_cst_50 : Ref sig .tc := ⟨.hbm, 220, rfl⟩
abbrev main_v159 : Ref sig .tc := ⟨.hbm, 221, rfl⟩
abbrev main_v160 : Ref sig .tc := ⟨.hbm, 222, rfl⟩
abbrev main_cst_51 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_cst_52 : Ref sig .tc := ⟨.hbm, 238, rfl⟩
abbrev main_v175 : Ref sig .tc := ⟨.hbm, 239, rfl⟩
abbrev main_v176 : Ref sig .tc := ⟨.hbm, 240, rfl⟩

abbrev nD : Nat := 1
abbrev τ : Topo := Topo.v7x

variable {F : FTy → Type} [FloatOps F]
-- ==== Mix.lean ====
abbrev S8192x7168 : Shape := ⟨2, ![8192, 7168]⟩
abbrev S8192x1024 : Shape := ⟨2, ![8192, 1024]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8x1024 : Shape := ⟨2, ![8, 1024]⟩
abbrev S512x1024 : Shape := ⟨2, ![512, 1024]⟩
abbrev S512x1 : Shape := ⟨2, ![512, 1]⟩
abbrev S512 : Shape := ⟨1, ![512]⟩

abbrev nBuf : Space → Nat
  | .hbm => 94
  | .vmem => 38
  | .smem => 0
  | _ => 0

abbrev bufTy : (tb : Table) → Fin (tcTables nBuf tb) → BufTy
  | .hbm, ⟨0, _⟩ => ⟨S8192x7168, .f32⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S8192x1024, .f32⟩
  | .hbm, ⟨10, _⟩ => ⟨S1x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S1x1024, .f32⟩
  | .hbm, ⟨61, _⟩ => ⟨S8192x1024, .f32⟩
  | .hbm, ⟨62, _⟩ => ⟨S8192x1024, .f32⟩
  | .hbm, ⟨63, _⟩ => ⟨S1x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .bf16⟩
  | .hbm, ⟨77, _⟩ => ⟨S8192x7168, .bf16⟩
  | .hbm, ⟨78, _⟩ => ⟨S8192x1024, .bf16⟩
  | .hbm, ⟨79, _⟩ => ⟨S8192x1024, .bf16⟩
  | .hbm, ⟨80, _⟩ => ⟨S8192x1024, .bf16⟩
  | .hbm, ⟨81, _⟩ => ⟨S1024x1024, .bf16⟩
  | .hbm, ⟨82, _⟩ => ⟨S1024x1024, .bf16⟩
  | .hbm, ⟨83, _⟩ => ⟨S1024x1024, .bf16⟩
  | .hbm, ⟨84, _⟩ => ⟨S1x1024, .f32⟩
  | .hbm, ⟨85, _⟩ => ⟨S1x1024, .f32⟩
  | .hbm, ⟨86, _⟩ => ⟨S8192x1024, .bf16⟩
  | .hbm, ⟨87, _⟩ => ⟨S8192x1024, .bf16⟩
  | .hbm, ⟨88, _⟩ => ⟨S8192x1024, .bf16⟩
  | .hbm, ⟨89, _⟩ => ⟨S8192x1024, .bf16⟩
  | .hbm, ⟨90, _⟩ => ⟨S8192x1024, .bf16⟩
  | .hbm, ⟨91, _⟩ => ⟨S8192x1024, .bf16⟩
  | .hbm, ⟨92, _⟩ => ⟨S8192x1024, .bf16⟩
  | .hbm, ⟨93, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S512x1, .f32⟩
  | .local _ .vmem, ⟨17, _⟩ => ⟨S512x1, .f32⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1x1024, .f32⟩
  | .local _ .vmem, ⟨22, _⟩ => ⟨S1x1024, .f32⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S512x1024, .bf16⟩
  | .local _ .vmem, ⟨33, _⟩ => ⟨S512x1024, .bf16⟩
  | .local _ .vmem, ⟨34, _⟩ => ⟨S512x1024, .bf16⟩
  | .local _ .vmem, ⟨35, _⟩ => ⟨S512x1024, .bf16⟩
  | .local _ .vmem, ⟨36, _⟩ => ⟨S512x1024, .bf16⟩
  | .local _ .vmem, ⟨37, _⟩ => ⟨S8x1024, .f32⟩
  | _, _ => ⟨S8192x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_call0_v0 : Ref sig .tc := ⟨.hbm, 66, rfl⟩
abbrev main_call0_v1 : Ref sig .tc := ⟨.hbm, 67, rfl⟩
abbrev main_call0_cst : Ref sig .tc := ⟨.hbm, 68, rfl⟩
abbrev main_call0_v2 : Ref sig .tc := ⟨.hbm, 69, rfl⟩
abbrev main_call0_v3 : Ref sig .tc := ⟨.hbm, 70, rfl⟩
abbrev main_call0_cst_0 : Ref sig .tc := ⟨.hbm, 71, rfl⟩
abbrev main_call0_v4 : Ref sig .tc := ⟨.hbm, 72, rfl⟩
abbrev main_call0_v5 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58_0 : Ref sig .tc := ⟨.hbm, 86, rfl⟩
abbrev main_v58_1 : Ref sig .tc := ⟨.hbm, 87, rfl⟩
abbrev main_v58_2 : Ref sig .tc := ⟨.hbm, 88, rfl⟩
abbrev main_v58_3 : Ref sig .tc := ⟨.hbm, 89, rfl⟩
abbrev main_v58_4 : Ref sig .tc := ⟨.hbm, 90, rfl⟩
abbrev main_v58_5 : Ref sig .tc := ⟨.hbm, 91, rfl⟩
abbrev main_v58_6 : Ref sig .tc := ⟨.hbm, 92, rfl⟩
abbrev main_v58_7 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_stg20_1 : Ref sig .tc := ⟨.vmem, 36, rfl⟩
abbrev cc0_stg21_0 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36
abbrev cc0_sem21_0 : DmaSem sig := 37

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S8x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== MixReferenceIdeal.lean ====
abbrev S8192x7168 : Shape := ⟨2, ![8192, 7168]⟩
abbrev S8192x1024 : Shape := ⟨2, ![8192, 1024]⟩
abbrev S1024 : Shape := ⟨1, ![1024]⟩
abbrev S1024x1024 : Shape := ⟨2, ![1024, 1024]⟩
abbrev S_ : Shape := ⟨0, ![]⟩
abbrev S1x1024 : Shape := ⟨2, ![1, 1024]⟩
abbrev S8192 : Shape := ⟨1, ![8192]⟩
abbrev S8192x1 : Shape := ⟨2, ![8192, 1]⟩
abbrev S3x1024 : Shape := ⟨2, ![3, 1024]⟩
abbrev S5x1024 : Shape := ⟨2, ![5, 1024]⟩
abbrev S8x1024 : Shape := ⟨2, ![8, 1024]⟩

abbrev nBuf : Space → Nat
  | .hbm => 182
  | .vmem => 0
  | .smem => 0
  | _ => 0

abbrev hbmTy0_0 (i : Nat) : BufTy := match i % 128 with
  | 0 => ⟨S8192x7168, .f32⟩
  | 1 => ⟨S8192x1024, .f32⟩
  | 2 => ⟨S8192x1024, .f32⟩
  | 3 => ⟨S1024, .f32⟩
  | 4 => ⟨S1024, .f32⟩
  | 5 => ⟨S1024, .f32⟩
  | 6 => ⟨S1024x1024, .f32⟩
  | 7 => ⟨S1024x1024, .f32⟩
  | 8 => ⟨S1024x1024, .f32⟩
  | 9 => ⟨S8192x1024, .f32⟩
  | 10 => ⟨S8192x1024, .f32⟩
  | 11 => ⟨S8192x1024, .f32⟩
  | 12 => ⟨S8192x1024, .f32⟩
  | 13 => ⟨S8192x1024, .f32⟩
  | 14 => ⟨S8192x1024, .f32⟩
  | 15 => ⟨S8192x1024, .f32⟩
  | 16 => ⟨S8192x1024, .f32⟩
  | 17 => ⟨S_, .f32⟩
  | 18 => ⟨S8192x1024, .f32⟩
  | 19 => ⟨S8192x1024, .f32⟩
  | 20 => ⟨S8192x1024, .f32⟩
  | 21 => ⟨S8192x1024, .f32⟩
  | 22 => ⟨S1x1024, .f32⟩
  | 23 => ⟨S8192x1024, .f32⟩
  | 24 => ⟨S8192x1024, .f32⟩
  | 25 => ⟨S_, .f32⟩
  | 26 => ⟨S8192, .f32⟩
  | 27 => ⟨S8192x1, .f32⟩
  | 28 => ⟨S_, .f32⟩
  | 29 => ⟨S8192x1, .f32⟩
  | 30 => ⟨S8192x1, .f32⟩
  | 31 => ⟨S8192x1024, .f32⟩
  | 32 => ⟨S8192x1024, .f32⟩
  | 33 => ⟨S8192x1024, .f32⟩
  | 34 => ⟨S_, .f32⟩
  | 35 => ⟨S8192x1024, .f32⟩
  | 36 => ⟨S8192x1024, .f32⟩
  | 37 => ⟨S_, .f32⟩
  | 38 => ⟨S8192, .f32⟩
  | 39 => ⟨S8192x1, .f32⟩
  | 40 => ⟨S_, .f32⟩
  | 41 => ⟨S8192x1, .f32⟩
  | 42 => ⟨S8192x1, .f32⟩
  | 43 => ⟨S8192x1024, .f32⟩
  | 44 => ⟨S8192x1024, .f32⟩
  | 45 => ⟨S_, .f32⟩
  | 46 => ⟨S8192x1, .f32⟩
  | 47 => ⟨S8192x1, .f32⟩
  | 48 => ⟨S8192x1, .f32⟩
  | 49 => ⟨S8192x1, .f32⟩
  | 50 => ⟨S_, .f32⟩
  | 51 => ⟨S8192x1, .f32⟩
  | 52 => ⟨S8192x1, .f32⟩
  | 53 => ⟨S8192x1024, .f32⟩
  | 54 => ⟨S8192x1024, .f32⟩
  | 55 => ⟨S1x1024, .f32⟩
  | 56 => ⟨S8192x1024, .f32⟩
  | 57 => ⟨S8192x1024, .f32⟩
  | 58 => ⟨S1x1024, .f32⟩
  | 59 => ⟨S8192x1024, .f32⟩
  | 60 => ⟨S8192x1024, .f32⟩
  | 61 => ⟨S8192x1024, .f32⟩
  | 62 => ⟨S8192x1024, .f32⟩
  | 63 => ⟨S_, .f32⟩
  | 64 => ⟨S8192x1024, .f32⟩
  | 65 => ⟨S8192x1024, .f32⟩
  | 66 => ⟨S_, .f32⟩
  | 67 => ⟨S8192x1024, .f32⟩
  | 68 => ⟨S8192x1024, .f32⟩
  | 69 => ⟨S_, .f32⟩
  | 70 => ⟨S8192x1024, .f32⟩
  | 71 => ⟨S8192x1024, .f32⟩
  | 72 => ⟨S8192x1024, .f32⟩
  | 73 => ⟨S8192x1024, .f32⟩
  | 74 => ⟨S8192x1024, .f32⟩
  | 75 => ⟨S8192x1024, .f32⟩
  | 76 => ⟨S8192x1024, .f32⟩
  | 77 => ⟨S8192x1024, .f32⟩
  | 78 => ⟨S_, .f32⟩
  | 79 => ⟨S8192x1024, .f32⟩
  | 80 => ⟨S8192x1024, .f32⟩
  | 81 => ⟨S_, .f32⟩
  | 82 => ⟨S8192x1024, .f32⟩
  | 83 => ⟨S8192x1024, .f32⟩
  | 84 => ⟨S_, .f32⟩
  | 85 => ⟨S8192x1024, .f32⟩
  | 86 => ⟨S8192x1024, .f32⟩
  | 87 => ⟨S8192x1024, .f32⟩
  | 88 => ⟨S8192x1024, .f32⟩
  | 89 => ⟨S8192x1024, .f32⟩
  | 90 => ⟨S8192x1024, .f32⟩
  | 91 => ⟨S_, .f32⟩
  | 92 => ⟨S8192x1024, .f32⟩
  | 93 => ⟨S8192x1024, .f32⟩
  | 94 => ⟨S_, .f32⟩
  | 95 => ⟨S8192x1024, .f32⟩
  | 96 => ⟨S8192x1024, .f32⟩
  | 97 => ⟨S_, .f32⟩
  | 98 => ⟨S8192x1024, .f32⟩
  | 99 => ⟨S8192x1024, .f32⟩
  | 100 => ⟨S8192x1024, .f32⟩
  | 101 => ⟨S8192x1024, .f32⟩
  | 102 => ⟨S8192x1024, .f32⟩
  | 103 => ⟨S8192x1024, .f32⟩
  | 104 => ⟨S8192x1024, .f32⟩
  | 105 => ⟨S8192x1024, .f32⟩
  | 106 => ⟨S8192x1024, .f32⟩
  | 107 => ⟨S8192x1024, .f32⟩
  | 108 => ⟨S8192x1024, .f32⟩
  | 109 => ⟨S8192x1024, .f32⟩
  | 110 => ⟨S8192x1024, .f32⟩
  | 111 => ⟨S8192x1024, .f32⟩
  | 112 => ⟨S8192x1024, .f32⟩
  | 113 => ⟨S8192x1024, .f32⟩
  | 114 => ⟨S8192x1024, .f32⟩
  | 115 => ⟨S8192x1024, .f32⟩
  | 116 => ⟨S_, .f32⟩
  | 117 => ⟨S1024, .f32⟩
  | 118 => ⟨S1x1024, .f32⟩
  | 119 => ⟨S_, .f32⟩
  | 120 => ⟨S1024, .f32⟩
  | 121 => ⟨S8192x1024, .f32⟩
  | 122 => ⟨S_, .f32⟩
  | 123 => ⟨S1024, .f32⟩
  | 124 => ⟨S1x1024, .f32⟩
  | 125 => ⟨S8192x1024, .f32⟩
  | 126 => ⟨S8192x1024, .f32⟩
  | 127 => ⟨S_, .f32⟩
  | _ => ⟨S8192x7168, .f32⟩

abbrev hbmTy0_1 (i : Nat) : BufTy := match i % 128 with
  | 0 => ⟨S1024, .f32⟩
  | 1 => ⟨S8192x1024, .f32⟩
  | 2 => ⟨S_, .f32⟩
  | 3 => ⟨S8192, .f32⟩
  | 4 => ⟨S8192x1, .f32⟩
  | 5 => ⟨S8192x1024, .f32⟩
  | 6 => ⟨S8192x1024, .f32⟩
  | 7 => ⟨S8192x1, .f32⟩
  | 8 => ⟨S8192x1024, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192, .f32⟩
  | 17 => ⟨S8192x1024, .f32⟩
  | 18 => ⟨S8192x1024, .f32⟩
  | 19 => ⟨S8192x1024, .f32⟩
  | 20 => ⟨S_, .f32⟩
  | 21 => ⟨S8192, .f32⟩
  | 22 => ⟨S8192x1, .f32⟩
  | 23 => ⟨S8192x1024, .f32⟩
  | 24 => ⟨S8192x1, .f32⟩
  | 25 => ⟨S_, .f32⟩
  | 26 => ⟨S8192x1, .f32⟩
  | 27 => ⟨S8192x1, .f32⟩
  | 28 => ⟨S_, .f32⟩
  | 29 => ⟨S8192, .f32⟩
  | 30 => ⟨S8192x1024, .f32⟩
  | 31 => ⟨S8192x1024, .f32⟩
  | 32 => ⟨S_, .f32⟩
  | 33 => ⟨S1024, .f32⟩
  | 34 => ⟨S1x1024, .f32⟩
  | 35 => ⟨S_, .f32⟩
  | 36 => ⟨S1024, .f32⟩
  | 37 => ⟨S8192x1024, .f32⟩
  | 38 => ⟨S8192x1024, .f32⟩
  | 39 => ⟨S8192x1024, .f32⟩
  | 40 => ⟨S8192x1024, .bf16⟩
  | 41 => ⟨S8192x1024, .bf16⟩
  | 42 => ⟨S8192x1024, .bf16⟩
  | 43 => ⟨S8192x1024, .bf16⟩
  | 44 => ⟨S8192x1024, .bf16⟩
  | 45 => ⟨S8192x1024, .bf16⟩
  | 46 => ⟨S8192x1024, .bf16⟩
  | 47 => ⟨S1x1024, .f32⟩
  | 48 => ⟨S1x1024, .f32⟩
  | 49 => ⟨S1x1024, .f32⟩
  | 50 => ⟨S3x1024, .f32⟩
  | 51 => ⟨S_, .f32⟩
  | 52 => ⟨S5x1024, .f32⟩
  | 53 => ⟨S8x1024, .f32⟩
  | _ => ⟨S8192x7168, .f32⟩

abbrev hbmTy (i : Nat) : BufTy := match i / 128 with
  | 0 => hbmTy0_0 i
  | 1 => hbmTy0_1 i
  | _ => ⟨S8192x7168, .f32⟩

abbrev bufTy : (tb : Table) → Fin (tcTables nBuf tb) → BufTy
  | .hbm, ⟨i, _⟩ => hbmTy i
  | _, _ => ⟨S8192x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_v43_2 : Ref sig .tc := ⟨.hbm, 68, rfl⟩
abbrev main_call0_cst_1 : Ref sig .tc := ⟨.hbm, 69, rfl⟩
abbrev main_call0_v6 : Ref sig .tc := ⟨.hbm, 70, rfl⟩
abbrev main_call0_v7 : Ref sig .tc := ⟨.hbm, 71, rfl⟩
abbrev main_v43_1 : Ref sig .tc := ⟨.hbm, 72, rfl⟩
abbrev main_v43_0 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_7 : Ref sig .tc := ⟨.hbm, 78, rfl⟩
abbrev main_v48 : Ref sig .tc := ⟨.hbm, 79, rfl⟩
abbrev main_v49 : Ref sig .tc := ⟨.hbm, 80, rfl⟩
abbrev main_cst_8 : Ref sig .tc := ⟨.hbm, 81, rfl⟩
abbrev main_v50 : Ref sig .tc := ⟨.hbm, 82, rfl⟩
abbrev main_v51 : Ref sig .tc := ⟨.hbm, 83, rfl⟩
abbrev main_cst_9 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_10 : Ref sig .tc := ⟨.hbm, 91, rfl⟩
abbrev main_v58 : Ref sig .tc := ⟨.hbm, 92, rfl⟩
abbrev main_v59 : Ref sig .tc := ⟨.hbm, 93, rfl⟩
abbrev main_cst_11 : Ref sig .tc := ⟨.hbm, 94, rfl⟩
abbrev main_v60 : Ref sig .tc := ⟨.hbm, 95, rfl⟩
abbrev main_v61 : Ref sig .tc := ⟨.hbm, 96, rfl⟩
abbrev main_cst_12 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_call1_v0 : Ref sig .tc := ⟨.hbm, 112, rfl⟩
abbrev main_call1_v1 : Ref sig .tc := ⟨.hbm, 113, rfl⟩
abbrev main_call1_v2 : Ref sig .tc := ⟨.hbm, 114, rfl⟩
abbrev main_v76 : Ref sig .tc := ⟨.hbm, 115, rfl⟩
abbrev main_cst_13 : Ref sig .tc := ⟨.hbm, 116, rfl⟩
abbrev main_v77 : Ref sig .tc := ⟨.hbm, 117, rfl⟩
abbrev main_v78 : Ref sig .tc := ⟨.hbm, 118, rfl⟩
abbrev main_cst_14 : Ref sig .tc := ⟨.hbm, 119, rfl⟩
abbrev main_v79 : Ref sig .tc := ⟨.hbm, 120, rfl⟩
abbrev main_v80 : Ref sig .tc := ⟨.hbm, 121, rfl⟩
abbrev main_cst_15 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_cst_16 : Ref sig .tc := ⟨.hbm, 127, rfl⟩
abbrev main_v85 : Ref sig .tc := ⟨.hbm, 128, rfl⟩
abbrev main_v86 : Ref sig .tc := ⟨.hbm, 129, rfl⟩
abbrev main_cst_17 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_cst_18 : Ref sig .tc := ⟨.hbm, 137, rfl⟩
abbrev main_v93 : Ref sig .tc := ⟨.hbm, 138, rfl⟩
abbrev main_v94 : Ref sig .tc := ⟨.hbm, 139, rfl⟩
abbrev main_cst_19 : Ref sig .tc := ⟨.hbm, 140, rfl⟩
abbrev main_v95 : Ref sig .tc := ⟨.hbm, 141, rfl⟩
abbrev main_v96 : Ref sig .tc := ⟨.hbm, 142, rfl⟩
abbrev main_cst_20 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_cst_21 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_cst_22 : Ref sig .tc := ⟨.hbm, 153, rfl⟩
abbrev main_v105 : Ref sig .tc := ⟨.hbm, 154, rfl⟩
abbrev main_v106 : Ref sig .tc := ⟨.hbm, 155, rfl⟩
abbrev main_cst_23 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_cst_24 : Ref sig .tc := ⟨.hbm, 160, rfl⟩
abbrev main_v110 : Ref sig .tc := ⟨.hbm, 161, rfl⟩
abbrev main_v111 : Ref sig .tc := ⟨.hbm, 162, rfl⟩
abbrev main_cst_25 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_cst_26 : Ref sig .tc := ⟨.hbm, 179, rfl⟩
abbrev main_v127 : Ref sig .tc := ⟨.hbm, 180, rfl⟩
abbrev main_v128 : Ref sig .tc := ⟨.hbm, 181, rfl⟩

abbrev nD : Nat := 1
abbrev τ : Topo := Topo.v7x

variable {F : FTy → Type} [FloatOps F]
-- ==== Conv.lean ====
abbrev S8192x7168 : Shape := ⟨2, ![8192, 7168]⟩
abbrev S3x1024 : Shape := ⟨2, ![3, 1024]⟩
abbrev S31x1024 : Shape := ⟨2, ![31, 1024]⟩
abbrev S8192x1024 : Shape := ⟨2, ![8192, 1024]⟩
abbrev S8x1024 : Shape := ⟨2, ![8, 1024]⟩
abbrev S32x1024 : Shape := ⟨2, ![32, 1024]⟩
abbrev S512x1024 : Shape := ⟨2, ![512, 1024]⟩
abbrev S512x7168 : Shape := ⟨2, ![512, 7168]⟩
abbrev S544x1024 : Shape := ⟨2, ![544, 1024]⟩
abbrev S24x1024 : Shape := ⟨2, ![24, 1024]⟩
abbrev S248x1024 : Shape := ⟨2, ![248, 1024]⟩
abbrev S64x128 : Shape := ⟨2, ![64, 128]⟩
abbrev S96x128 : Shape := ⟨2, ![96, 128]⟩
abbrev S1x128 : Shape := ⟨2, ![1, 128]⟩
abbrev S8x128 : Shape := ⟨2, ![8, 128]⟩
abbrev S1024 : Shape := ⟨1, ![1024]⟩
abbrev S1x1024 : Shape := ⟨2, ![1, 1024]⟩

abbrev nBuf : Space → Nat
  | .hbm => 17
  | .vmem => 33
  | .smem => 0
  | _ => 0

abbrev bufTy : (tb : Table) → Fin (tcTables nBuf tb) → BufTy
  | .hbm, ⟨0, _⟩ => ⟨S8192x7168, .f32⟩
  | .hbm, ⟨1, _⟩ => ⟨S3x1024, .f32⟩
  | .hbm, ⟨2, _⟩ => ⟨S31x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | .hbm, ⟨9, _⟩ => ⟨S8192x1024, .bf16⟩
  | .hbm, ⟨10, _⟩ => ⟨S8192x7168, .bf16⟩
  | .hbm, ⟨11, _⟩ => ⟨S8192x1024, .bf16⟩
  | .hbm, ⟨12, _⟩ => ⟨S8192x1024, .bf16⟩
  | .hbm, ⟨13, _⟩ => ⟨S8192x1024, .bf16⟩
  | .hbm, ⟨14, _⟩ => ⟨S8192x7168, .bf16⟩
  | .hbm, ⟨15, _⟩ => ⟨S8x1024, .f32⟩
  | .hbm, ⟨16, _⟩ => ⟨S32x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S32x1024, .bf16⟩
  | .local _ .vmem, ⟨5, _⟩ => ⟨S32x1024, .bf16⟩
  | .local _ .vmem, ⟨6, _⟩ => ⟨S32x1024, .bf16⟩
  | .local _ .vmem, ⟨7, _⟩ => ⟨S32x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S3x1024, .f32⟩
  | .local _ .vmem, ⟨23, _⟩ => ⟨S31x1024, .f32⟩
  | .local _ .vmem, ⟨24, _⟩ => ⟨S512x7168, .bf16⟩
  | .local _ .vmem, ⟨25, _⟩ => ⟨S512x7168, .bf16⟩
  | .local _ .vmem, ⟨26, _⟩ => ⟨S8x1024, .f32⟩
  | .local _ .vmem, ⟨27, _⟩ => ⟨S32x1024, .f32⟩
  | .local _ .vmem, ⟨28, _⟩ => ⟨S544x1024, .f32⟩
  | .local _ .vmem, ⟨29, _⟩ => ⟨S544x1024, .f32⟩
  | .local _ .vmem, ⟨30, _⟩ => ⟨S512x1024, .f32⟩
  | .local _ .vmem, ⟨31, _⟩ => ⟨S24x1024, .f32⟩
  | .local _ .vmem, ⟨32, _⟩ => ⟨S248x1024, .f32⟩
  | _, _ => ⟨S8192x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg15_0 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem13_1 : DmaSem sig := 25
abbrev cc0_sem14_0 : DmaSem sig := 26
abbrev cc0_sem15_0 : DmaSem sig := 27

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_29 : BitVec 32 := 0#32
  let c8_i32 : BitVec 32 := 8#32
  let v50 : BitVec 32 := Scalar.addi c0_i32_29 c8_i32
  let c1_i32 : BitVec 32 := 1#32
  ⟨c0_i32_29, v50, c1_i32⟩
def k0_mult1 (k0_t1 : Fin k0_t1_loop.trips) : BitVec 32 :=
  let c0_i32_29 : BitVec 32 := 0#32
  let c1_i32 : BitVec 32 := 1#32
  let arg22 : BitVec 32 := Scf.iv c0_i32_29 c1_i32 k0_t1
  let c64_i32 : BitVec 32 := 64#32
  let v54 : BitVec 32 := Scalar.muli arg22 c64_i32
  v54
def k0_off1 (k0_t1 : Fin k0_t1_loop.trips) : Fin 2 → Nat :=
  let c0_i32_29 : BitVec 32 := 0#32
  let c1_i32 : BitVec 32 := 1#32
  let arg22 : BitVec 32 := Scf.iv c0_i32_29 c1_i32 k0_t1
  let c64_i32 : BitVec 32 := 64#32
  let v54 : BitVec 32 := Scalar.muli arg22 c64_i32
  let v55 : BitVec 32 := v54
  let v56 : Index := Scalar.indexCast v55
  let c0_33 : Index := 0#32
  ![v56.toNat, 0]
def k0_off2 (k0_t1 : Fin k0_t1_loop.trips) : Fin 2 → Nat :=
  let c0_i32_29 : BitVec 32 := 0#32
  let c1_i32 : BitVec 32 := 1#32
  let arg22 : BitVec 32 := Scf.iv c0_i32_29 c1_i32 k0_t1
  let c64_i32 : BitVec 32 := 64#32
  let v54 : BitVec 32 := Scalar.muli arg22 c64_i32
  let v55 : BitVec 32 := v54
  let v66 : Index := Scalar.indexCast v55
  let c0_35 : Index := 0#32
  ![v66.toNat, 0]
def k0_off3 (k0_t1 : Fin k0_t1_loop.trips) : Fin 2 → Nat :=
  let c0_i32_29 : BitVec 32 := 0#32
  let c1_i32 : BitVec 32 := 1#32
  let arg22 : BitVec 32 := Scf.iv c0_i32_29 c1_i32 k0_t1
  let c64_i32 : BitVec 32 := 64#32
  let v54 : BitVec 32 := Scalar.muli arg22 c64_i32
  let v55 : BitVec 32 := v54
  let v150 : Index := Scalar.indexCast v55
  let c1024 : Index := 1024#32
  ![v150.toNat, 1024]
def k0_off4 (k0_t1 : Fin k0_t1_loop.trips) : Fin 2 → Nat :=
  let c0_i32_29 : BitVec 32 := 0#32
  let c1_i32 : BitVec 32 := 1#32
  let arg22 : BitVec 32 := Scf.iv c0_i32_29 c1_i32 k0_t1
  let c64_i32 : BitVec 32 := 64#32
  let v54 : BitVec 32 := Scalar.muli arg22 c64_i32
  let v55 : BitVec 32 := v54
  let v154 : Index := Scalar.indexCast v55
  let c2048 : Index := 2048#32
  ![v154.toNat, 2048]
def k0_off5 (k0_t1 : Fin k0_t1_loop.trips) : Fin 2 → Nat :=
  let c0_i32_29 : BitVec 32 := 0#32
  let c1_i32 : BitVec 32 := 1#32
  let arg22 : BitVec 32 := Scf.iv c0_i32_29 c1_i32 k0_t1
  let c64_i32 : BitVec 32 := 64#32
  let v54 : BitVec 32 := Scalar.muli arg22 c64_i32
  let v55 : BitVec 32 := v54
  let v981 : Index := Scalar.indexCast v55
  let c3072 : Index := 3072#32
  ![v981.toNat, 3072]
def k0_off6 (k0_t1 : Fin k0_t1_loop.trips) : Fin 2 → Nat :=
  let c0_i32_29 : BitVec 32 := 0#32
  let c1_i32 : BitVec 32 := 1#32
  let arg22 : BitVec 32 := Scf.iv c0_i32_29 c1_i32 k0_t1
  let c64_i32 : BitVec 32 := 64#32
  let v54 : BitVec 32 := Scalar.muli arg22 c64_i32
  let v55 : BitVec 32 := v54
  let v988 : Index := Scalar.indexCast v55
  let c4096 : Index := 4096#32
  ![v988.toNat, 4096]
def k0_off7 (k0_t1 : Fin k0_t1_loop.trips) : Fin 2 → Nat :=
  let c0_i32_29 : BitVec 32 := 0#32
  let c1_i32 : BitVec 32 := 1#32
  let arg22 : BitVec 32 := Scf.iv c0_i32_29 c1_i32 k0_t1
  let c64_i32 : BitVec 32 := 64#32
  let v54 : BitVec 32 := Scalar.muli arg22 c64_i32
  let v55 : BitVec 32 := v54
  let v990 : Index := Scalar.indexCast v55
  let c128_190 : Index := 128#32
  ![v990.toNat, 128]
def k0_off8 (k0_t1 : Fin k0_t1_loop.trips) : Fin 2 → Nat :=
  let c0_i32_29 : BitVec 32 := 0#32
  let c1_i32 : BitVec 32 := 1#32
  let arg22 : BitVec 32 := Scf.iv c0_i32_29 c1_i32 k0_t1
  let c64_i32 : BitVec 32 := 64#32
  let v54 : BitVec 32 := Scalar.muli arg22 c64_i32
  let v55 : BitVec 32 := v54
  let v1000 : Index := Scalar.indexCast v55
  let c128_193 : Index := 128#32
  ![v1000.toNat, 128]
def k0_off9 (k0_t1 : Fin k0_t1_loop.trips) : Fin 2 → Nat :=
  let c0_i32_29 : BitVec 32 := 0#32
  let c1_i32 : BitVec 32 := 1#32
  let arg22 : BitVec 32 := Scf.iv c0_i32_29 c1_i32 k0_t1
  let c64_i32 : BitVec 32 := 64#32
  let v54 : BitVec 32 := Scalar.muli arg22 c64_i32
  let v55 : BitVec 32 := v54
  let v1084 : Index := Scalar.indexCast v55
  let c1152 : Index := 1152#32
  ![v1084.toNat, 1152]
def k0_off10 (k0_t1 : Fin k0_t1_loop.trips) : Fin 2 → Nat :=
  let c0_i32_29 : BitVec 32 := 0#32
  let c1_i32 : BitVec 32 := 1#32
  let arg22 : BitVec 32 := Scf.iv c0_i32_29 c1_i32 k0_t1
  let c64_i32 : BitVec 32 := 64#32
  let v54 : BitVec 32 := Scalar.muli arg22 c64_i32
  let v55 : BitVec 32 := v54
  let v1088 : Index := Scalar.indexCast v55
  let c2176 : Index := 2176#32
  ![v1088.toNat, 2176]
def k0_off11 (k0_t1 : Fin k0_t1_loop.trips) : Fin 2 → Nat :=
  let c0_i32_29 : BitVec 32 := 0#32
  let c1_i32 : BitVec 32 := 1#32
  let arg22 : BitVec 32 := Scf.iv c0_i32_29 c1_i32 k0_t1
  let c64_i32 : BitVec 32 := 64#32
  let v54 : BitVec 32 := Scalar.muli arg22 c64_i32
  let v55 : BitVec 32 := v54
  let v1915 : Index := Scalar.indexCast v55
  let c3200 : Index := 3200#32
  ![v1915.toNat, 3200]
def k0_off12 (k0_t1 : Fin k0_t1_loop.trips) : Fin 2 → Nat :=
  let c0_i32_29 : BitVec 32 := 0#32
  let c1_i32 : BitVec 32 := 1#32
  let arg22 : BitVec 32 := Scf.iv c0_i32_29 c1_i32 k0_t1
  let c64_i32 : BitVec 32 := 64#32
  let v54 : BitVec 32 := Scalar.muli arg22 c64_i32
  let v55 : BitVec 32 := v54
  let v1922 : Index := Scalar.indexCast v55
  let c4224 : Index := 4224#32
  ![v1922.toNat, 4224]
def k0_off13 (k0_t1 : Fin k0_t1_loop.trips) : Fin 2 → Nat :=
  let c0_i32_29 : BitVec 32 := 0#32
  let c1_i32 : BitVec 32 := 1#32
  let arg22 : BitVec 32 := Scf.iv c0_i32_29 c1_i32 k0_t1
  let c64_i32 : BitVec 32 := 64#32
  let v54 : BitVec 32 := Scalar.muli arg22 c64_i32
  let v55 : BitVec 32 := v54
  let v1924 : Index := Scalar.indexCast v55
  let c256 : Index := 256#32
  ![v1924.toNat, 256]
def k0_off14 (k0_t1 : Fin k0_t1_loop.trips) : Fin 2 → Nat :=
  let c0_i32_29 : BitVec 32 := 0#32
  let c1_i32 : BitVec 32 := 1#32
  let arg22 : BitVec 32 := Scf.iv c0_i32_29 c1_i32 k0_t1
  let c64_i32 : BitVec 32 := 64#32
  let v54 : BitVec 32 := Scalar.muli arg22 c64_i32
  let v55 : BitVec 32 := v54
  let v1934 : Index := Scalar.indexCast v55
  let c256_414 : Index := 256#32
  ![v1934.toNat, 256]
def k0_off15 (k0_t1 : Fin k0_t1_loop.trips) : Fin 2 → Nat :=
  let c0_i32_29 : BitVec 32 := 0#32
  let c1_i32 : BitVec 32 := 1#32
  let arg22 : BitVec 32 := Scf.iv c0_i32_29 c1_i32 k0_t1
  let c64_i32 : BitVec 32 := 64#32
  let v54 : BitVec 32 := Scalar.muli arg22 c64_i32
  let v55 : BitVec 32 := v54
  let v2018 : Index := Scalar.indexCast v55
  let c1280 : Index := 1280#32
  ![v2018.toNat, 1280]
def k0_off16 (k0_t1 : Fin k0_t1_loop.trips) : Fin 2 → Nat :=
  let c0_i32_29 : BitVec 32 := 0#32
  let c1_i32 : BitVec 32 := 1#32
  let arg22 : BitVec 32 := Scf.iv c0_i32_29 c1_i32 k0_t1
  let c64_i32 : BitVec 32 := 64#32
  let v54 : BitVec 32 := Scalar.muli arg22 c64_i32
  let v55 : BitVec 32 := v54
  let v2022 : Index := Scalar.indexCast v55
  let c2304 : Index := 2304#32
  ![v2022.toNat, 2304]
def k0_off17 (k0_t1 : Fin k0_t1_loop.trips) : Fin 2 → Nat :=
  let c0_i32_29 : BitVec 32 := 0#32
  let c1_i32 : BitVec 32 := 1#32
  let arg22 : BitVec 32 := Scf.iv c0_i32_29 c1_i32 k0_t1
  let c64_i32 : BitVec 32 := 64#32
  let v54 : BitVec 32 := Scalar.muli arg22 c64_i32
  let v55 : BitVec 32 := v54
  let v2849 : Index := Scalar.indexCast v55
  let c3328 : Index := 3328#32
  ![v2849.toNat, 3328]
def k0_off18 (k0_t1 : Fin k0_t1_loop.trips) : Fin 2 → Nat :=
  let c0_i32_29 : BitVec 32 := 0#32
  let c1_i32 : BitVec 32 := 1#32
  let arg22 : BitVec 32 := Scf.iv c0_i32_29 c1_i32 k0_t1
  let c64_i32 : BitVec 32 := 64#32
  let v54 : BitVec 32 := Scalar.muli arg22 c64_i32
  let v55 : BitVec 32 := v54
  let v2856 : Index := Scalar.indexCast v55
  let c4352 : Index := 4352#32
  ![v2856.toNat, 4352]
def k0_off19 (k0_t1 : Fin k0_t1_loop.trips) : Fin 2 → Nat :=
  let c0_i32_29 : BitVec 32 := 0#32
  let c1_i32 : BitVec 32 := 1#32
  let arg22 : BitVec 32 := Scf.iv c0_i32_29 c1_i32 k0_t1
  let c64_i32 : BitVec 32 := 64#32
  let v54 : BitVec 32 := Scalar.muli arg22 c64_i32
  let v55 : BitVec 32 := v54
  let v2858 : Index := Scalar.indexCast v55
  let c384 : Index := 384#32
  ![v2858.toNat, 384]
def k0_off20 (k0_t1 : Fin k0_t1_loop.trips) : Fin 2 → Nat :=
  let c0_i32_29 : BitVec 32 := 0#32
  let c1_i32 : BitVec 32 := 1#32
  let arg22 : BitVec 32 := Scf.iv c0_i32_29 c1_i32 k0_t1
  let c64_i32 : BitVec 32 := 64#32
  let v54 : BitVec 32 := Scalar.muli arg22 c64_i32
  let v55 : BitVec 32 := v54
  let v2868 : Index := Scalar.indexCast v55
  let c384_635 : Index := 384#32
  ![v2868.toNat, 384]
def k0_off21 (k0_t1 : Fin k0_t1_loop.trips) : Fin 2 → Nat :=
  let c0_i32_29 : BitVec 32 := 0#32
  let c1_i32 : BitVec 32 := 1#32
  let arg22 : BitVec 32 := Scf.iv c0_i32_29 c1_i32 k0_t1
  let c64_i32 : BitVec 32 := 64#32
  let v54 : BitVec 32 := Scalar.muli arg22 c64_i32
  let v55 : BitVec 32 := v54
  let v2952 : Index := Scalar.indexCast v55
  let c1408 : Index := 1408#32
  ![v2952.toNat, 1408]
def k0_off22 (k0_t1 : Fin k0_t1_loop.trips) : Fin 2 → Nat :=
  let c0_i32_29 : BitVec 32 := 0#32
  let c1_i32 : BitVec 32 := 1#32
  let arg22 : BitVec 32 := Scf.iv c0_i32_29 c1_i32 k0_t1
  let c64_i32 : BitVec 32 := 64#32
  let v54 : BitVec 32 := Scalar.muli arg22 c64_i32
  let v55 : BitVec 32 := v54
  let v2956 : Index := Scalar.indexCast v55
  let c2432 : Index := 2432#32
  ![v2956.toNat, 2432]
def k0_off23 (k0_t1 : Fin k0_t1_loop.trips) : Fin 2 → Nat :=
  let c0_i32_29 : BitVec 32 := 0#32
  let c1_i32 : BitVec 32 := 1#32
  let arg22 : BitVec 32 := Scf.iv c0_i32_29 c1_i32 k0_t1
  let c64_i32 : BitVec 32 := 64#32
  let v54 : BitVec 32 := Scalar.muli arg22 c64_i32
  let v55 : BitVec 32 := v54
  let v3783 : Index := Scalar.indexCast v55
  let c3456 : Index := 3456#32
  ![v3783.toNat, 3456]
def k0_off24 (k0_t1 : Fin k0_t1_loop.trips) : Fin 2 → Nat :=
  let c0_i32_29 : BitVec 32 := 0#32
  let c1_i32 : BitVec 32 := 1#32
  let arg22 : BitVec 32 := Scf.iv c0_i32_29 c1_i32 k0_t1
  let c64_i32 : BitVec 32 := 64#32
  let v54 : BitVec 32 := Scalar.muli arg22 c64_i32
  let v55 : BitVec 32 := v54
  let v3790 : Index := Scalar.indexCast v55
  let c4480 : Index := 4480#32
  ![v3790.toNat, 4480]
def k0_off25 (k0_t1 : Fin k0_t1_loop.trips) : Fin 2 → Nat :=
  let c0_i32_29 : BitVec 32 := 0#32
  let c1_i32 : BitVec 32 := 1#32
  let arg22 : BitVec 32 := Scf.iv c0_i32_29 c1_i32 k0_t1
  let c64_i32 : BitVec 32 := 64#32
  let v54 : BitVec 32 := Scalar.muli arg22 c64_i32
  let v55 : BitVec 32 := v54
  let v3792 : Index := Scalar.indexCast v55
  let c512_854 : Index := 512#32
  ![v3792.toNat, 512]
def k0_off26 (k0_t1 : Fin k0_t1_loop.trips) : Fin 2 → Nat :=
  let c0_i32_29 : BitVec 32 := 0#32
  let c1_i32 : BitVec 32 := 1#32
  let arg22 : BitVec 32 := Scf.iv c0_i32_29 c1_i32 k0_t1
  let c64_i32 : BitVec 32 := 64#32
  let v54 : BitVec 32 := Scalar.muli arg22 c64_i32
  let v55 : BitVec 32 := v54
  let v3802 : Index := Scalar.indexCast v55
  let c512_857 : Index := 512#32
  ![v3802.toNat, 512]
def k0_off27 (k0_t1 : Fin k0_t1_loop.trips) : Fin 2 → Nat :=
  let c0_i32_29 : BitVec 32 := 0#32
  let c1_i32 : BitVec 32 := 1#32
  let arg22 : BitVec 32 := Scf.iv c0_i32_29 c1_i32 k0_t1
  let c64_i32 : BitVec 32 := 64#32
  let v54 : BitVec 32 := Scalar.muli arg22 c64_i32
  let v55 : BitVec 32 := v54
  let v3886 : Index := Scalar.indexCast v55
  let c1536 : Index := 1536#32
  ![v3886.toNat, 1536]
def k0_off28 (k0_t1 : Fin k0_t1_loop.trips) : Fin 2 → Nat :=
  let c0_i32_29 : BitVec 32 := 0#32
  let c1_i32 : BitVec 32 := 1#32
  let arg22 : BitVec 32 := Scf.iv c0_i32_29 c1_i32 k0_t1
  let c64_i32 : BitVec 32 := 64#32
  let v54 : BitVec 32 := Scalar.muli arg22 c64_i32
  let v55 : BitVec 32 := v54
  let v3890 : Index := Scalar.indexCast v55
  let c2560 : Index := 2560#32
  ![v3890.toNat, 2560]
def k0_off29 (k0_t1 : Fin k0_t1_loop.trips) : Fin 2 → Nat :=
  let c0_i32_29 : BitVec 32 := 0#32
  let c1_i32 : BitVec 32 := 1#32
  let arg22 : BitVec 32 := Scf.iv c0_i32_29 c1_i32 k0_t1
  let c64_i32 : BitVec 32 := 64#32
  let v54 : BitVec 32 := Scalar.muli arg22 c64_i32
  let v55 : BitVec 32 := v54
  let v4717 : Index := Scalar.indexCast v55
  let c3584 : Index := 3584#32
  ![v4717.toNat, 3584]
def k0_off30 (k0_t1 : Fin k0_t1_loop.trips) : Fin 2 → Nat :=
  let c0_i32_29 : BitVec 32 := 0#32
  let c1_i32 : BitVec 32 := 1#32
  let arg22 : BitVec 32 := Scf.iv c0_i32_29 c1_i32 k0_t1
  let c64_i32 : BitVec 32 := 64#32
  let v54 : BitVec 32 := Scalar.muli arg22 c64_i32
  let v55 : BitVec 32 := v54
  let v4724 : Index := Scalar.indexCast v55
  let c4608 : Index := 4608#32
  ![v4724.toNat, 4608]
def k0_off31 (k0_t1 : Fin k0_t1_loop.trips) : Fin 2 → Nat :=
  let c0_i32_29 : BitVec 32 := 0#32
  let c1_i32 : BitVec 32 := 1#32
  let arg22 : BitVec 32 := Scf.iv c0_i32_29 c1_i32 k0_t1
  let c64_i32 : BitVec 32 := 64#32
  let v54 : BitVec 32 := Scalar.muli arg22 c64_i32
  let v55 : BitVec 32 := v54
  let v4726 : Index := Scalar.indexCast v55
  let c640 : Index := 640#32
  ![v4726.toNat, 640]
def k0_off32 (k0_t1 : Fin k0_t1_loop.trips) : Fin 2 → Nat :=
  let c0_i32_29 : BitVec 32 := 0#32
  let c1_i32 : BitVec 32 := 1#32
  let arg22 : BitVec 32 := Scf.iv c0_i32_29 c1_i32 k0_t1
  let c64_i32 : BitVec 32 := 64#32
  let v54 : BitVec 32 := Scalar.muli arg22 c64_i32
  let v55 : BitVec 32 := v54
  let v4736 : Index := Scalar.indexCast v55
  let c640_1078 : Index := 640#32
  ![v4736.toNat, 640]
def k0_off33 (k0_t1 : Fin k0_t1_loop.trips) : Fin 2 → Nat :=
  let c0_i32_29 : BitVec 32 := 0#32
  let c1_i32 : BitVec 32 := 1#32
  let arg22 : BitVec 32 := Scf.iv c0_i32_29 c1_i32 k0_t1
  let c64_i32 : BitVec 32 := 64#32
  let v54 : BitVec 32 := Scalar.muli arg22 c64_i32
  let v55 : BitVec 32 := v54
  let v4820 : Index := Scalar.indexCast v55
  let c1664 : Index := 1664#32
  ![v4820.toNat, 1664]
def k0_off34 (k0_t1 : Fin k0_t1_loop.trips) : Fin 2 → Nat :=
  let c0_i32_29 : BitVec 32 := 0#32
  let c1_i32 : BitVec 32 := 1#32
  let arg22 : BitVec 32 := Scf.iv c0_i32_29 c1_i32 k0_t1
  let c64_i32 : BitVec 32 := 64#32
  let v54 : BitVec 32 := Scalar.muli arg22 c64_i32
  let v55 : BitVec 32 := v54
  let v4824 : Index := Scalar.indexCast v55
  let c2688 : Index := 2688#32
  ![v4824.toNat, 2688]
def k0_off35 (k0_t1 : Fin k0_t1_loop.trips) : Fin 2 → Nat :=
  let c0_i32_29 : BitVec 32 := 0#32
  let c1_i32 : BitVec 32 := 1#32
  let arg22 : BitVec 32 := Scf.iv c0_i32_29 c1_i32 k0_t1
  let c64_i32 : BitVec 32 := 64#32
  let v54 : BitVec 32 := Scalar.muli arg22 c64_i32
  let v55 : BitVec 32 := v54
  let v5651 : Index := Scalar.indexCast v55
  let c3712 : Index := 3712#32
  ![v5651.toNat, 3712]
def k0_off36 (k0_t1 : Fin k0_t1_loop.trips) : Fin 2 → Nat :=
  let c0_i32_29 : BitVec 32 := 0#32
  let c1_i32 : BitVec 32 := 1#32
  let arg22 : BitVec 32 := Scf.iv c0_i32_29 c1_i32 k0_t1
  let c64_i32 : BitVec 32 := 64#32
  let v54 : BitVec 32 := Scalar.muli arg22 c64_i32
  let v55 : BitVec 32 := v54
  let v5658 : Index := Scalar.indexCast v55
  let c4736 : Index := 4736#32
  ![v5658.toNat, 4736]
def k0_off37 (k0_t1 : Fin k0_t1_loop.trips) : Fin 2 → Nat :=
  let c0_i32_29 : BitVec 32 := 0#32
  let c1_i32 : BitVec 32 := 1#32
  let arg22 : BitVec 32 := Scf.iv c0_i32_29 c1_i32 k0_t1
  let c64_i32 : BitVec 32 := 64#32
  let v54 : BitVec 32 := Scalar.muli arg22 c64_i32
  let v55 : BitVec 32 := v54
  let v5660 : Index := Scalar.indexCast v55
  let c768 : Index := 768#32
  ![v5660.toNat, 768]
def k0_off38 (k0_t1 : Fin k0_t1_loop.trips) : Fin 2 → Nat :=
  let c0_i32_29 : BitVec 32 := 0#32
  let c1_i32 : BitVec 32 := 1#32
  let arg22 : BitVec 32 := Scf.iv c0_i32_29 c1_i32 k0_t1
  let c64_i32 : BitVec 32 := 64#32
  let v54 : BitVec 32 := Scalar.muli arg22 c64_i32
  let v55 : BitVec 32 := v54
  let v5670 : Index := Scalar.indexCast v55
  let c768_1299 : Index := 768#32
  ![v5670.toNat, 768]
def k0_off39 (k0_t1 : Fin k0_t1_loop.trips) : Fin 2 → Nat :=
  let c0_i32_29 : BitVec 32 := 0#32
  let c1_i32 : BitVec 32 := 1#32
  let arg22 : BitVec 32 := Scf.iv c0_i32_29 c1_i32 k0_t1
  let c64_i32 : BitVec 32 := 64#32
  let v54 : BitVec 32 := Scalar.muli arg22 c64_i32
  let v55 : BitVec 32 := v54
  let v5754 : Index := Scalar.indexCast v55
  let c1792 : Index := 1792#32
  ![v5754.toNat, 1792]
def k0_off40 (k0_t1 : Fin k0_t1_loop.trips) : Fin 2 → Nat :=
  let c0_i32_29 : BitVec 32 := 0#32
  let c1_i32 : BitVec 32 := 1#32
  let arg22 : BitVec 32 := Scf.iv c0_i32_29 c1_i32 k0_t1
  let c64_i32 : BitVec 32 := 64#32
  let v54 : BitVec 32 := Scalar.muli arg22 c64_i32
  let v55 : BitVec 32 := v54
  let v5758 : Index := Scalar.indexCast v55
  let c2816 : Index := 2816#32
  ![v5758.toNat, 2816]
def k0_off41 (k0_t1 : Fin k0_t1_loop.trips) : Fin 2 → Nat :=
  let c0_i32_29 : BitVec 32 := 0#32
  let c1_i32 : BitVec 32 := 1#32
  let arg22 : BitVec 32 := Scf.iv c0_i32_29 c1_i32 k0_t1
  let c64_i32 : BitVec 32 := 64#32
  let v54 : BitVec 32 := Scalar.muli arg22 c64_i32
  let v55 : BitVec 32 := v54
  let v6585 : Index := Scalar.indexCast v55
  let c3840 : Index := 3840#32
  ![v6585.toNat, 3840]
def k0_off42 (k0_t1 : Fin k0_t1_loop.trips) : Fin 2 → Nat :=
  let c0_i32_29 : BitVec 32 := 0#32
  let c1_i32 : BitVec 32 := 1#32
  let arg22 : BitVec 32 := Scf.iv c0_i32_29 c1_i32 k0_t1
  let c64_i32 : BitVec 32 := 64#32
  let v54 : BitVec 32 := Scalar.muli arg22 c64_i32
  let v55 : BitVec 32 := v54
  let v6592 : Index := Scalar.indexCast v55
  let c4864 : Index := 4864#32
  ![v6592.toNat, 4864]
def k0_off43 (k0_t1 : Fin k0_t1_loop.trips) : Fin 2 → Nat :=
  let c0_i32_29 : BitVec 32 := 0#32
  let c1_i32 : BitVec 32 := 1#32
  let arg22 : BitVec 32 := Scf.iv c0_i32_29 c1_i32 k0_t1
  let c64_i32 : BitVec 32 := 64#32
  let v54 : BitVec 32 := Scalar.muli arg22 c64_i32
  let v55 : BitVec 32 := v54
  let v6594 : Index := Scalar.indexCast v55
  let c896 : Index := 896#32
  ![v6594.toNat, 896]
def k0_off44 (k0_t1 : Fin k0_t1_loop.trips) : Fin 2 → Nat :=
  let c0_i32_29 : BitVec 32 := 0#32
  let c1_i32 : BitVec 32 := 1#32
  let arg22 : BitVec 32 := Scf.iv c0_i32_29 c1_i32 k0_t1
  let c64_i32 : BitVec 32 := 64#32
  let v54 : BitVec 32 := Scalar.muli arg22 c64_i32
  let v55 : BitVec 32 := v54
  let v6604 : Index := Scalar.indexCast v55
  let c896_1520 : Index := 896#32
  ![v6604.toNat, 896]
def k0_off45 (k0_t1 : Fin k0_t1_loop.trips) : Fin 2 → Nat :=
  let c0_i32_29 : BitVec 32 := 0#32
  let c1_i32 : BitVec 32 := 1#32
  let arg22 : BitVec 32 := Scf.iv c0_i32_29 c1_i32 k0_t1
  let c64_i32 : BitVec 32 := 64#32
  let v54 : BitVec 32 := Scalar.muli arg22 c64_i32
  let v55 : BitVec 32 := v54
  let v6688 : Index := Scalar.indexCast v55
  let c1920 : Index := 1920#32
  ![v6688.toNat, 1920]
def k0_off46 (k0_t1 : Fin k0_t1_loop.trips) : Fin 2 → Nat :=
  let c0_i32_29 : BitVec 32 := 0#32
  let c1_i32 : BitVec 32 := 1#32
  let arg22 : BitVec 32 := Scf.iv c0_i32_29 c1_i32 k0_t1
  let c64_i32 : BitVec 32 := 64#32
  let v54 : BitVec 32 := Scalar.muli arg22 c64_i32
  let v55 : BitVec 32 := v54
  let v6692 : Index := Scalar.indexCast v55
  let c2944 : Index := 2944#32
  ![v6692.toNat, 2944]
def k0_off47 (k0_t1 : Fin k0_t1_loop.trips) : Fin 2 → Nat :=
  let c0_i32_29 : BitVec 32 := 0#32
  let c1_i32 : BitVec 32 := 1#32
  let arg22 : BitVec 32 := Scf.iv c0_i32_29 c1_i32 k0_t1
  let c64_i32 : BitVec 32 := 64#32
  let v54 : BitVec 32 := Scalar.muli arg22 c64_i32
  let v55 : BitVec 32 := v54
  let v7519 : Index := Scalar.indexCast v55
  let c3968 : Index := 3968#32
  ![v7519.toNat, 3968]
def k0_off48 (k0_t1 : Fin k0_t1_loop.trips) : Fin 2 → Nat :=
  let c0_i32_29 : BitVec 32 := 0#32
  let c1_i32 : BitVec 32 := 1#32
  let arg22 : BitVec 32 := Scf.iv c0_i32_29 c1_i32 k0_t1
  let c64_i32 : BitVec 32 := 64#32
  let v54 : BitVec 32 := Scalar.muli arg22 c64_i32
  let v55 : BitVec 32 := v54
  let v7526 : Index := Scalar.indexCast v55
  let c4992 : Index := 4992#32
  ![v7526.toNat, 4992]
def k0_cond2 (i : grid0.Coords) : BitVec 1 :=
  let arg0 : BitVec 32 := BitVec.ofNat 32 (i 0).val
  let c15_i32_31 : BitVec 32 := 15#32
  let v51 : BitVec 1 := Scalar.cmpi .eq arg0 c15_i32_31
  let v52 : BitVec 32 := Scalar.extui v51
  let c0_i32_32 : BitVec 32 := 0#32
  let v53 : BitVec 1 := Scalar.cmpi .ne v52 c0_i32_32
  v53

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_7 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S3x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S31x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x7168 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S32x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ConvReferenceIdeal.lean ====
abbrev S8192x7168 : Shape := ⟨2, ![8192, 7168]⟩
abbrev S3x1024 : Shape := ⟨2, ![3, 1024]⟩
abbrev S31x1024 : Shape := ⟨2, ![31, 1024]⟩
abbrev S8192x1024 : Shape := ⟨2, ![8192, 1024]⟩
abbrev S3x8192x8192 : Shape := ⟨3, ![3, 8192, 8192]⟩
abbrev S_ : Shape := ⟨0, ![]⟩
abbrev S3x1x1024 : Shape := ⟨3, ![3, 1, 1024]⟩
abbrev S3x8192x1024 : Shape := ⟨3, ![3, 8192, 1024]⟩
abbrev S31x8192x8192 : Shape := ⟨3, ![31, 8192, 8192]⟩
abbrev S31x1x1024 : Shape := ⟨3, ![31, 1, 1024]⟩
abbrev S31x8192x1024 : Shape := ⟨3, ![31, 8192, 1024]⟩
abbrev S1024x8192 : Shape := ⟨2, ![1024, 8192]⟩
abbrev S5x1024 : Shape := ⟨2, ![5, 1024]⟩
abbrev S8x1024 : Shape := ⟨2, ![8, 1024]⟩
abbrev S1x1024 : Shape := ⟨2, ![1, 1024]⟩
abbrev S32x1024 : Shape := ⟨2, ![32, 1024]⟩

abbrev nBuf : Space → Nat
  | .hbm => 102
  | .vmem => 0
  | .smem => 0
  | _ => 0

abbrev bufTy : (tb : Table) → Fin (tcTables nBuf tb) → BufTy
  | .hbm, ⟨0, _⟩ => ⟨S8192x7168, .f32⟩
  | .hbm, ⟨1, _⟩ => ⟨S3x1024, .f32⟩
  | .hbm, ⟨2, _⟩ => ⟨S31x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S3x8192x8192, .i32⟩
  | .hbm, ⟨17, _⟩ => ⟨S3x8192x8192, .i32⟩
  | .hbm, ⟨18, _⟩ => ⟨S3x8192x8192, .i32⟩
  | .hbm, ⟨19, _⟩ => ⟨S_, .i32⟩
  | .hbm, ⟨20, _⟩ => ⟨S3x8192x8192, .i32⟩
  | .hbm, ⟨21, _⟩ => ⟨S3x8192x8192, .i32⟩
  | .hbm, ⟨22, _⟩ => ⟨S3x8192x8192, .i32⟩
  | .hbm, ⟨23, _⟩ => ⟨S3x8192x8192, .i1⟩
  | .hbm, ⟨24, _⟩ => ⟨S_, .f32⟩
  | .hbm, ⟨25, _⟩ => ⟨S_, .f32⟩
  | .hbm, ⟨26, _⟩ => ⟨S3x8192x8192, .f32⟩
  | .hbm, ⟨27, _⟩ => ⟨S3x8192x8192, .f32⟩
  | .hbm, ⟨28, _⟩ => ⟨S3x8192x8192, .f32⟩
  | .hbm, ⟨29, _⟩ => ⟨S3x1x1024, .f32⟩
  | .hbm, ⟨30, _⟩ => ⟨S3x8192x1024, .f32⟩
  | .hbm, ⟨31, _⟩ => ⟨S3x8192x1024, .f32⟩
  | .hbm, ⟨32, _⟩ => ⟨S3x8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S31x8192x8192, .i32⟩
  | .hbm, ⟨49, _⟩ => ⟨S31x8192x8192, .i32⟩
  | .hbm, ⟨50, _⟩ => ⟨S31x8192x8192, .i32⟩
  | .hbm, ⟨51, _⟩ => ⟨S_, .i32⟩
  | .hbm, ⟨52, _⟩ => ⟨S31x8192x8192, .i32⟩
  | .hbm, ⟨53, _⟩ => ⟨S31x8192x8192, .i32⟩
  | .hbm, ⟨54, _⟩ => ⟨S31x8192x8192, .i32⟩
  | .hbm, ⟨55, _⟩ => ⟨S31x8192x8192, .i1⟩
  | .hbm, ⟨56, _⟩ => ⟨S_, .f32⟩
  | .hbm, ⟨57, _⟩ => ⟨S_, .f32⟩
  | .hbm, ⟨58, _⟩ => ⟨S31x8192x8192, .f32⟩
  | .hbm, ⟨59, _⟩ => ⟨S31x8192x8192, .f32⟩
  | .hbm, ⟨60, _⟩ => ⟨S31x8192x8192, .f32⟩
  | .hbm, ⟨61, _⟩ => ⟨S31x1x1024, .f32⟩
  | .hbm, ⟨62, _⟩ => ⟨S31x8192x1024, .f32⟩
  | .hbm, ⟨63, _⟩ => ⟨S31x8192x1024, .f32⟩
  | .hbm, ⟨64, _⟩ => ⟨S31x8192x1024, .f32⟩
  | .hbm, ⟨65, _⟩ => ⟨S_, .f32⟩
  | .hbm, ⟨66, _⟩ => ⟨S8192x1024, .f32⟩
  | .hbm, ⟨67, _⟩ => ⟨S31x8192x1024, .f32⟩
  | .hbm, ⟨68, _⟩ => ⟨S31x8192x1024, .f32⟩
  | .hbm, ⟨69, _⟩ => ⟨S31x8192x1024, .f32⟩
  | .hbm, ⟨70, _⟩ => ⟨S31x8192x1024, .f32⟩
  | .hbm, ⟨71, _⟩ => ⟨S_, .f32⟩
  | .hbm, ⟨72, _⟩ => ⟨S31x1024, .f32⟩
  | .hbm, ⟨73, _⟩ => ⟨S31x1x1024, .f32⟩
  | .hbm, ⟨74, _⟩ => ⟨S1024x8192, .f32⟩
  | .hbm, ⟨75, _⟩ => ⟨S8192x1024, .f32⟩
  | .hbm, ⟨76, _⟩ => ⟨S_, .f32⟩
  | .hbm, ⟨77, _⟩ => ⟨S31x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S3x8192x1024, .f32⟩
  | .hbm, ⟨82, _⟩ => ⟨S3x8192x1024, .f32⟩
  | .hbm, ⟨83, _⟩ => ⟨S3x8192x1024, .f32⟩
  | .hbm, ⟨84, _⟩ => ⟨S3x8192x1024, .f32⟩
  | .hbm, ⟨85, _⟩ => ⟨S_, .f32⟩
  | .hbm, ⟨86, _⟩ => ⟨S3x1024, .f32⟩
  | .hbm, ⟨87, _⟩ => ⟨S3x1x1024, .f32⟩
  | .hbm, ⟨88, _⟩ => ⟨S1024x8192, .f32⟩
  | .hbm, ⟨89, _⟩ => ⟨S8192x1024, .f32⟩
  | .hbm, ⟨90, _⟩ => ⟨S_, .f32⟩
  | .hbm, ⟨91, _⟩ => ⟨S3x1024, .f32⟩
  | .hbm, ⟨92, _⟩ => ⟨S8192x1024, .f32⟩
  | .hbm, ⟨93, _⟩ => ⟨S8192x1024, .f32⟩
  | .hbm, ⟨94, _⟩ => ⟨S8192x7168, .f32⟩
  | .hbm, ⟨95, _⟩ => ⟨S8192x7168, .bf16⟩
  | .hbm, ⟨96, _⟩ => ⟨S_, .f32⟩
  | .hbm, ⟨97, _⟩ => ⟨S5x1024, .f32⟩
  | .hbm, ⟨98, _⟩ => ⟨S8x1024, .f32⟩
  | .hbm, ⟨99, _⟩ => ⟨S_, .f32⟩
  | .hbm, ⟨100, _⟩ => ⟨S1x1024, .f32⟩
  | .hbm, ⟨101, _⟩ => ⟨S32x1024, .f32⟩
  | _, _ => ⟨S8192x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_cst_7 : Ref sig .tc := ⟨.hbm, 57, rfl⟩
abbrev main_call1_v0 : Ref sig .tc := ⟨.hbm, 58, rfl⟩
abbrev main_call1_v1 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_9 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_12 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_13 : Ref sig .tc := ⟨.hbm, 96, rfl⟩
abbrev main_v69 : Ref sig .tc := ⟨.hbm, 97, rfl⟩
abbrev main_v70 : Ref sig .tc := ⟨.hbm, 98, rfl⟩
abbrev main_cst_14 : Ref sig .tc := ⟨.hbm, 99, rfl⟩
abbrev main_v71 : Ref sig .tc := ⟨.hbm, 100, rfl⟩
abbrev main_v72 : Ref sig .tc := ⟨.hbm, 101, rfl⟩

abbrev nD : Nat := 1
abbrev τ : Topo := Topo.v7x

variable {F : FTy → Type} [FloatOps F]
-- ==== Out.lean ====
abbrev S8192x1024 : Shape := ⟨2, ![8192, 1024]⟩
abbrev S8192x7168 : Shape := ⟨2, ![8192, 7168]⟩
abbrev S1024x1024 : Shape := ⟨2, ![1024, 1024]⟩
abbrev S8192x1 : Shape := ⟨2, ![8192, 1]⟩
abbrev S512x1024 : Shape := ⟨2, ![512, 1024]⟩
abbrev S512x1 : Shape := ⟨2, ![512, 1]⟩
abbrev S512 : Shape := ⟨1, ![512]⟩

abbrev nBuf : Space → Nat
  | .hbm => 18
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x7168, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S8192x1024, .bf16⟩
  | .hbm, ⟨8, _⟩ => ⟨S8192x1024, .bf16⟩
  | .hbm, ⟨9, _⟩ => ⟨S8192x7168, .bf16⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S8192x1024, .bf16⟩
  | .hbm, ⟨14, _⟩ => ⟨S8192x1024, .bf16⟩
  | .hbm, ⟨15, _⟩ => ⟨S8192x1024, .bf16⟩
  | .hbm, ⟨16, _⟩ => ⟨S8192x1024, .f32⟩
  | .hbm, ⟨17, _⟩ => ⟨S8192x1, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .f32⟩
  | .local _ .vmem, ⟨20, _⟩ => ⟨S512x1024, .f32⟩
  | .local _ .vmem, ⟨21, _⟩ => ⟨S512x1, .f32⟩
  | .local _ .vmem, ⟨22, _⟩ => ⟨S512x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== OutReferenceIdeal.lean ====
abbrev S8192x1024 : Shape := ⟨2, ![8192, 1024]⟩
abbrev S8192x7168 : Shape := ⟨2, ![8192, 7168]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩

abbrev nBuf : Space → Nat
  | .hbm => 66
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x7168, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S8192x1, .f32⟩
  | .hbm, ⟨59, _⟩ => ⟨S8192x1024, .bf16⟩
  | .hbm, ⟨60, _⟩ => ⟨S8192x1024, .bf16⟩
  | .hbm, ⟨61, _⟩ => ⟨S8192x1024, .bf16⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== Pre.lean ====
abbrev S8192x7168 : Shape := ⟨2, ![8192, 7168]⟩
abbrev S3x1024 : Shape := ⟨2, ![3, 1024]⟩
abbrev S31x1024 : Shape := ⟨2, ![31, 1024]⟩
abbrev S1024 : Shape := ⟨1, ![1024]⟩
abbrev S1x1024 : Shape := ⟨2, ![1, 1024]⟩
abbrev S8192x1024 : Shape := ⟨2, ![8192, 1024]⟩
abbrev S8192x1 : Shape := ⟨2, ![8192, 1]⟩
abbrev S512x1024 : Shape := ⟨2, ![512, 1024]⟩
abbrev S32x1024 : Shape := ⟨2, ![32, 1024]⟩
abbrev S512x1 : Shape := ⟨2, ![512, 1]⟩
abbrev S544x1024 : Shape := ⟨2, ![544, 1024]⟩
abbrev S64x128 : Shape := ⟨2, ![64, 128]⟩
abbrev S96x128 : Shape := ⟨2, ![96, 128]⟩
abbrev S1x128 : Shape := ⟨2, ![1, 128]⟩
abbrev S512 : Shape := ⟨1, ![512]⟩

abbrev nBuf : Space → Nat
  | .hbm => 15
  | .vmem => 36
  | .smem => 0
  | _ => 0

abbrev bufTy : (tb : Table) → Fin (tcTables nBuf tb) → BufTy
  | .hbm, ⟨0, _⟩ => ⟨S8192x7168, .f32⟩
  | .hbm, ⟨1, _⟩ => ⟨S3x1024, .f32⟩
  | .hbm, ⟨2, _⟩ => ⟨S31x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S8192x7168, .bf16⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S8192x1024, .bf16⟩
  | .hbm, ⟨11, _⟩ => ⟨S8192x1024, .bf16⟩
  | .hbm, ⟨12, _⟩ => ⟨S8192x1024, .f32⟩
  | .hbm, ⟨13, _⟩ => ⟨S8192x1, .f32⟩
  | .hbm, ⟨14, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S32x1024, .bf16⟩
  | .local _ .vmem, ⟨11, _⟩ => ⟨S32x1024, .bf16⟩
  | .local _ .vmem, ⟨12, _⟩ => ⟨S32x1024, .bf16⟩
  | .local _ .vmem, ⟨13, _⟩ => ⟨S32x1024, .bf16⟩
  | .local _ .vmem, ⟨14, _⟩ => ⟨S32x1024, .bf16⟩
  | .local _ .vmem, ⟨15, _⟩ => ⟨S32x1024, .bf16⟩
  | .local _ .vmem, ⟨16, _⟩ => ⟨S32x1024, .bf16⟩
  | .local _ .vmem, ⟨17, _⟩ => ⟨S32x1024, .bf16⟩
  | .local _ .vmem, ⟨18, _⟩ => ⟨S3x1024, .f32⟩
  | .local _ .vmem, ⟨19, _⟩ => ⟨S31x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .f32⟩
  | .local _ .vmem, ⟨28, _⟩ => ⟨S512x1024, .f32⟩
  | .local _ .vmem, ⟨29, _⟩ => ⟨S512x1, .f32⟩
  | .local _ .vmem, ⟨30, _⟩ => ⟨S512x1, .f32⟩
  | .local _ .vmem, ⟨31, _⟩ => ⟨S512x1024, .bf16⟩
  | .local _ .vmem, ⟨32, _⟩ => ⟨S512x1024, .bf16⟩
  | .local _ .vmem, ⟨33, _⟩ => ⟨S544x1024, .f32⟩
  | .local _ .vmem, ⟨34, _⟩ => ⟨S544x1024, .f32⟩
  | .local _ .vmem, ⟨35, _⟩ => ⟨S512x1024, .f32⟩
  | _, _ => ⟨S8192x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_scratch0 : Ref sig .tc := ⟨.vmem, 33, rfl⟩
abbrev cc0_scratch1 : Ref sig .tc := ⟨.vmem, 34, rfl⟩
abbrev cc0_scratch2 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_22 : BitVec 32 := 0#32
  let c8_i32 : BitVec 32 := 8#32
  let v49 : BitVec 32 := Scalar.addi c0_i32_22 c8_i32
  let c1_i32 : BitVec 32 := 1#32
  ⟨c0_i32_22, v49, c1_i32⟩
def k0_mult1 (k0_t1 : Fin k0_t1_loop.trips) : BitVec 32 :=
  let c0_i32_22 : BitVec 32 := 0#32
  let c1_i32 : BitVec 32 := 1#32
  let arg23 : BitVec 32 := Scf.iv c0_i32_22 c1_i32 k0_t1
  let c64_i32 : BitVec 32 := 64#32
  let v81 : BitVec 32 := Scalar.muli arg23 c64_i32
  v81
def k0_off1 (k0_t1 : Fin k0_t1_loop.trips) : Fin 2 → Nat :=
  let c0_i32_22 : BitVec 32 := 0#32
  let c1_i32 : BitVec 32 := 1#32
  let arg23 : BitVec 32 := Scf.iv c0_i32_22 c1_i32 k0_t1
  let c64_i32 : BitVec 32 := 64#32
  let v81 : BitVec 32 := Scalar.muli arg23 c64_i32
  let v82 : BitVec 32 := v81
  let v84 : Index := Scalar.indexCast v82
  let c0_41 : Index := 0#32
  ![v84.toNat, 0]
def k0_off2 (k0_t1 : Fin k0_t1_loop.trips) : Fin 2 → Nat :=
  let c0_i32_22 : BitVec 32 := 0#32
  let c1_i32 : BitVec 32 := 1#32
  let arg23 : BitVec 32 := Scf.iv c0_i32_22 c1_i32 k0_t1
  let c64_i32 : BitVec 32 := 64#32
  let v81 : BitVec 32 := Scalar.muli arg23 c64_i32
  let v82 : BitVec 32 := v81
  let v104 : Index := Scalar.indexCast v82
  let c0_46 : Index := 0#32
  ![v104.toNat, 0]
def k0_off3 (k0_t1 : Fin k0_t1_loop.trips) : Fin 2 → Nat :=
  let c0_i32_22 : BitVec 32 := 0#32
  let c1_i32 : BitVec 32 := 1#32
  let arg23 : BitVec 32 := Scf.iv c0_i32_22 c1_i32 k0_t1
  let c64_i32 : BitVec 32 := 64#32
  let v81 : BitVec 32 := Scalar.muli arg23 c64_i32
  let v82 : BitVec 32 := v81
  let v288 : Index := Scalar.indexCast v82
  let c128 : Index := 128#32
  ![v288.toNat, 128]
def k0_off4 (k0_t1 : Fin k0_t1_loop.trips) : Fin 2 → Nat :=
  let c0_i32_22 : BitVec 32 := 0#32
  let c1_i32 : BitVec 32 := 1#32
  let arg23 : BitVec 32 := Scf.iv c0_i32_22 c1_i32 k0_t1
  let c64_i32 : BitVec 32 := 64#32
  let v81 : BitVec 32 := Scalar.muli arg23 c64_i32
  let v82 : BitVec 32 := v81
  let v308 : Index := Scalar.indexCast v82
  let c128_99 : Index := 128#32
  ![v308.toNat, 128]
def k0_off5 (k0_t1 : Fin k0_t1_loop.trips) : Fin 2 → Nat :=
  let c0_i32_22 : BitVec 32 := 0#32
  let c1_i32 : BitVec 32 := 1#32
  let arg23 : BitVec 32 := Scf.iv c0_i32_22 c1_i32 k0_t1
  let c64_i32 : BitVec 32 := 64#32
  let v81 : BitVec 32 := Scalar.muli arg23 c64_i32
  let v82 : BitVec 32 := v81
  let v492 : Index := Scalar.indexCast v82
  let c256 : Index := 256#32
  ![v492.toNat, 256]
def k0_off6 (k0_t1 : Fin k0_t1_loop.trips) : Fin 2 → Nat :=
  let c0_i32_22 : BitVec 32 := 0#32
  let c1_i32 : BitVec 32 := 1#32
  let arg23 : BitVec 32 := Scf.iv c0_i32_22 c1_i32 k0_t1
  let c64_i32 : BitVec 32 := 64#32
  let v81 : BitVec 32 := Scalar.muli arg23 c64_i32
  let v82 : BitVec 32 := v81
  let v512 : Index := Scalar.indexCast v82
  let c256_185 : Index := 256#32
  ![v512.toNat, 256]
def k0_off7 (k0_t1 : Fin k0_t1_loop.trips) : Fin 2 → Nat :=
  let c0_i32_22 : BitVec 32 := 0#32
  let c1_i32 : BitVec 32 := 1#32
  let arg23 : BitVec 32 := Scf.iv c0_i32_22 c1_i32 k0_t1
  let c64_i32 : BitVec 32 := 64#32
  let v81 : BitVec 32 := Scalar.muli arg23 c64_i32
  let v82 : BitVec 32 := v81
  let v696 : Index := Scalar.indexCast v82
  let c384 : Index := 384#32
  ![v696.toNat, 384]
def k0_off8 (k0_t1 : Fin k0_t1_loop.trips) : Fin 2 → Nat :=
  let c0_i32_22 : BitVec 32 := 0#32
  let c1_i32 : BitVec 32 := 1#32
  let arg23 : BitVec 32 := Scf.iv c0_i32_22 c1_i32 k0_t1
  let c64_i32 : BitVec 32 := 64#32
  let v81 : BitVec 32 := Scalar.muli arg23 c64_i32
  let v82 : BitVec 32 := v81
  let v716 : Index := Scalar.indexCast v82
  let c384_271 : Index := 384#32
  ![v716.toNat, 384]
def k0_off9 (k0_t1 : Fin k0_t1_loop.trips) : Fin 2 → Nat :=
  let c0_i32_22 : BitVec 32 := 0#32
  let c1_i32 : BitVec 32 := 1#32
  let arg23 : BitVec 32 := Scf.iv c0_i32_22 c1_i32 k0_t1
  let c64_i32 : BitVec 32 := 64#32
  let v81 : BitVec 32 := Scalar.muli arg23 c64_i32
  let v82 : BitVec 32 := v81
  let v900 : Index := Scalar.indexCast v82
  let c512 : Index := 512#32
  ![v900.toNat, 512]
def k0_off10 (k0_t1 : Fin k0_t1_loop.trips) : Fin 2 → Nat :=
  let c0_i32_22 : BitVec 32 := 0#32
  let c1_i32 : BitVec 32 := 1#32
  let arg23 : BitVec 32 := Scf.iv c0_i32_22 c1_i32 k0_t1
  let c64_i32 : BitVec 32 := 64#32
  let v81 : BitVec 32 := Scalar.muli arg23 c64_i32
  let v82 : BitVec 32 := v81
  let v920 : Index := Scalar.indexCast v82
  let c512_357 : Index := 512#32
  ![v920.toNat, 512]
def k0_off11 (k0_t1 : Fin k0_t1_loop.trips) : Fin 2 → Nat :=
  let c0_i32_22 : BitVec 32 := 0#32
  let c1_i32 : BitVec 32 := 1#32
  let arg23 : BitVec 32 := Scf.iv c0_i32_22 c1_i32 k0_t1
  let c64_i32 : BitVec 32 := 64#32
  let v81 : BitVec 32 := Scalar.muli arg23 c64_i32
  let v82 : BitVec 32 := v81
  let v1104 : Index := Scalar.indexCast v82
  let c640 : Index := 640#32
  ![v1104.toNat, 640]
def k0_off12 (k0_t1 : Fin k0_t1_loop.trips) : Fin 2 → Nat :=
  let c0_i32_22 : BitVec 32 := 0#32
  let c1_i32 : BitVec 32 := 1#32
  let arg23 : BitVec 32 := Scf.iv c0_i32_22 c1_i32 k0_t1
  let c64_i32 : BitVec 32 := 64#32
  let v81 : BitVec 32 := Scalar.muli arg23 c64_i32
  let v82 : BitVec 32 := v81
  let v1124 : Index := Scalar.indexCast v82
  let c640_443 : Index := 640#32
  ![v1124.toNat, 640]
def k0_off13 (k0_t1 : Fin k0_t1_loop.trips) : Fin 2 → Nat :=
  let c0_i32_22 : BitVec 32 := 0#32
  let c1_i32 : BitVec 32 := 1#32
  let arg23 : BitVec 32 := Scf.iv c0_i32_22 c1_i32 k0_t1
  let c64_i32 : BitVec 32 := 64#32
  let v81 : BitVec 32 := Scalar.muli arg23 c64_i32
  let v82 : BitVec 32 := v81
  let v1308 : Index := Scalar.indexCast v82
  let c768 : Index := 768#32
  ![v1308.toNat, 768]
def k0_off14 (k0_t1 : Fin k0_t1_loop.trips) : Fin 2 → Nat :=
  let c0_i32_22 : BitVec 32 := 0#32
  let c1_i32 : BitVec 32 := 1#32
  let arg23 : BitVec 32 := Scf.iv c0_i32_22 c1_i32 k0_t1
  let c64_i32 : BitVec 32 := 64#32
  let v81 : BitVec 32 := Scalar.muli arg23 c64_i32
  let v82 : BitVec 32 := v81
  let v1328 : Index := Scalar.indexCast v82
  let c768_529 : Index := 768#32
  ![v1328.toNat, 768]
def k0_off15 (k0_t1 : Fin k0_t1_loop.trips) : Fin 2 → Nat :=
  let c0_i32_22 : BitVec 32 := 0#32
  let c1_i32 : BitVec 32 := 1#32
  let arg23 : BitVec 32 := Scf.iv c0_i32_22 c1_i32 k0_t1
  let c64_i32 : BitVec 32 := 64#32
  let v81 : BitVec 32 := Scalar.muli arg23 c64_i32
  let v82 : BitVec 32 := v81
  let v1512 : Index := Scalar.indexCast v82
  let c896 : Index := 896#32
  ![v1512.toNat, 896]
def k0_off16 (k0_t1 : Fin k0_t1_loop.trips) : Fin 2 → Nat :=
  let c0_i32_22 : BitVec 32 := 0#32
  let c1_i32 : BitVec 32 := 1#32
  let arg23 : BitVec 32 := Scf.iv c0_i32_22 c1_i32 k0_t1
  let c64_i32 : BitVec 32 := 64#32
  let v81 : BitVec 32 := Scalar.muli arg23 c64_i32
  let v82 : BitVec 32 := v81
  let v1532 : Index := Scalar.indexCast v82
  let c896_615 : Index := 896#32
  ![v1532.toNat, 896]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_6 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_7 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_8 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S3x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S31x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== PreReferenceIdeal.lean ====
abbrev S8192x7168 : Shape := ⟨2, ![8192, 7168]⟩
abbrev S3x1024 : Shape := ⟨2, ![3, 1024]⟩
abbrev S31x1024 : Shape := ⟨2, ![31, 1024]⟩
abbrev S1024 : Shape := ⟨1, ![1024]⟩
abbrev S8192x1024 : Shape := ⟨2, ![8192, 1024]⟩
abbrev S3x8192x8192 : Shape := ⟨3, ![3, 8192, 8192]⟩
abbrev S_ : Shape := ⟨0, ![]⟩
abbrev S3x1x1024 : Shape := ⟨3, ![3, 1, 1024]⟩
abbrev S3x8192x1024 : Shape := ⟨3, ![3, 8192, 1024]⟩
abbrev S31x8192x8192 : Shape := ⟨3, ![31, 8192, 8192]⟩
abbrev S31x1x1024 : Shape := ⟨3, ![31, 1, 1024]⟩
abbrev S31x8192x1024 : Shape := ⟨3, ![31, 8192, 1024]⟩
abbrev S1x1024 : Shape := ⟨2, ![1, 1024]⟩
abbrev S8192 : Shape := ⟨1, ![8192]⟩
abbrev S8192x1 : Shape := ⟨2, ![8192, 1]⟩

abbrev nBuf : Space → Nat
  | .hbm => 106
  | .vmem => 0
  | .smem => 0
  | _ => 0

abbrev bufTy : (tb : Table) → Fin (tcTables nBuf tb) → BufTy
  | .hbm, ⟨0, _⟩ => ⟨S8192x7168, .f32⟩
  | .hbm, ⟨1, _⟩ => ⟨S3x1024, .f32⟩
  | .hbm, ⟨2, _⟩ => ⟨S31x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S3x8192x8192, .i32⟩
  | .hbm, ⟨15, _⟩ => ⟨S3x8192x8192, .i32⟩
  | .hbm, ⟨16, _⟩ => ⟨S3x8192x8192, .i32⟩
  | .hbm, ⟨17, _⟩ => ⟨S_, .i32⟩
  | .hbm, ⟨18, _⟩ => ⟨S3x8192x8192, .i32⟩
  | .hbm, ⟨19, _⟩ => ⟨S3x8192x8192, .i32⟩
  | .hbm, ⟨20, _⟩ => ⟨S3x8192x8192, .i32⟩
  | .hbm, ⟨21, _⟩ => ⟨S3x8192x8192, .i1⟩
  | .hbm, ⟨22, _⟩ => ⟨S_, .f32⟩
  | .hbm, ⟨23, _⟩ => ⟨S_, .f32⟩
  | .hbm, ⟨24, _⟩ => ⟨S3x8192x8192, .f32⟩
  | .hbm, ⟨25, _⟩ => ⟨S3x8192x8192, .f32⟩
  | .hbm, ⟨26, _⟩ => ⟨S3x8192x8192, .f32⟩
  | .hbm, ⟨27, _⟩ => ⟨S3x1x1024, .f32⟩
  | .hbm, ⟨28, _⟩ => ⟨S3x8192x1024, .f32⟩
  | .hbm, ⟨29, _⟩ => ⟨S3x8192x1024, .f32⟩
  | .hbm, ⟨30, _⟩ => ⟨S3x8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S31x8192x8192, .i32⟩
  | .hbm, ⟨43, _⟩ => ⟨S31x8192x8192, .i32⟩
  | .hbm, ⟨44, _⟩ => ⟨S31x8192x8192, .i32⟩
  | .hbm, ⟨45, _⟩ => ⟨S_, .i32⟩
  | .hbm, ⟨46, _⟩ => ⟨S31x8192x8192, .i32⟩
  | .hbm, ⟨47, _⟩ => ⟨S31x8192x8192, .i32⟩
  | .hbm, ⟨48, _⟩ => ⟨S31x8192x8192, .i32⟩
  | .hbm, ⟨49, _⟩ => ⟨S31x8192x8192, .i1⟩
  | .hbm, ⟨50, _⟩ => ⟨S_, .f32⟩
  | .hbm, ⟨51, _⟩ => ⟨S_, .f32⟩
  | .hbm, ⟨52, _⟩ => ⟨S31x8192x8192, .f32⟩
  | .hbm, ⟨53, _⟩ => ⟨S31x8192x8192, .f32⟩
  | .hbm, ⟨54, _⟩ => ⟨S31x8192x8192, .f32⟩
  | .hbm, ⟨55, _⟩ => ⟨S31x1x1024, .f32⟩
  | .hbm, ⟨56, _⟩ => ⟨S31x8192x1024, .f32⟩
  | .hbm, ⟨57, _⟩ => ⟨S31x8192x1024, .f32⟩
  | .hbm, ⟨58, _⟩ => ⟨S31x8192x1024, .f32⟩
  | .hbm, ⟨59, _⟩ => ⟨S_, .f32⟩
  | .hbm, ⟨60, _⟩ => ⟨S8192x1024, .f32⟩
  | .hbm, ⟨61, _⟩ => ⟨S1x1024, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S8192, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S8192, .f32⟩
  | .hbm, ⟨75, _⟩ => ⟨S8192x1, .f32⟩
  | .hbm, ⟨76, _⟩ => ⟨S_, .f32⟩
  | .hbm, ⟨77, _⟩ => ⟨S8192x1, .f32⟩
  | .hbm, ⟨78, _⟩ => ⟨S8192x1, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S8192x1, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S1x1024, .f32⟩
  | .hbm, ⟨88, _⟩ => ⟨S8192x1024, .f32⟩
  | .hbm, ⟨89, _⟩ => ⟨S8192x1024, .f32⟩
  | .hbm, ⟨90, _⟩ => ⟨S1x1024, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S8192x1024, .f32⟩
  | .hbm, ⟨95, _⟩ => ⟨S_, .f32⟩
  | .hbm, ⟨96, _⟩ => ⟨S8192x1024, .f32⟩
  | .hbm, ⟨97, _⟩ => ⟨S8192x1024, .f32⟩
  | .hbm, ⟨98, _⟩ => ⟨S_, .f32⟩
  | .hbm, ⟨99, _⟩ => ⟨S8192x1024, .f32⟩
  | .hbm, ⟨100, _⟩ => ⟨S8192x1024, .f32⟩
  | .hbm, ⟨101, _⟩ => ⟨S8192x1024, .f32⟩
  | .hbm, ⟨102, _⟩ => ⟨S8192x1024, .bf16⟩
  | .hbm, ⟨103, _⟩ => ⟨S8192x1024, .f32⟩
  | .hbm, ⟨104, _⟩ => ⟨S8192x1024, .bf16⟩
  | .hbm, ⟨105, _⟩ => ⟨S8192x1024, .bf16⟩
  | _, _ => ⟨S8192x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_cst_6 : Ref sig .tc := ⟨.hbm, 51, rfl⟩
abbrev main_call1_v0 : Ref sig .tc := ⟨.hbm, 52, rfl⟩
abbrev main_call1_v1 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_call2_v0 : Ref sig .tc := ⟨.hbm, 93, rfl⟩
abbrev main_call2_v1 : Ref sig .tc := ⟨.hbm, 94, rfl⟩
abbrev main_call2_cst : Ref sig .tc := ⟨.hbm, 95, rfl⟩
abbrev main_call2_v2 : Ref sig .tc := ⟨.hbm, 96, rfl⟩
abbrev main_call2_v3 : Ref sig .tc := ⟨.hbm, 97, rfl⟩
abbrev main_call2_cst_0 : Ref sig .tc := ⟨.hbm, 98, rfl⟩
abbrev main_call2_v4 : Ref sig .tc := ⟨.hbm, 99, rfl⟩
abbrev main_call2_v5 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩

abbrev nD : Nat := 1
abbrev τ : Topo := Topo.v7x

variable {F : FTy → Type} [FloatOps F]
-- ==== Gw.lean ====
abbrev S8192x1024 : Shape := ⟨2, ![8192, 1024]⟩
abbrev S1024x7168 : Shape := ⟨2, ![1024, 7168]⟩
abbrev S8192x7168 : Shape := ⟨2, ![8192, 7168]⟩
abbrev S2048x1024 : Shape := ⟨2, ![2048, 1024]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x7168, .f32⟩
  | .hbm, ⟨2, _⟩ => ⟨S8192x7168, .f32⟩
  | .hbm, ⟨3, _⟩ => ⟨S8192x1024, .bf16⟩
  | .hbm, ⟨4, _⟩ => ⟨S8192x7168, .bf16⟩
  | .hbm, ⟨5, _⟩ => ⟨S1024x7168, .f32⟩
  | .hbm, ⟨6, _⟩ => ⟨S1024x7168, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 7, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GwReferenceIdeal.lean ====
abbrev S8192x1024 : Shape := ⟨2, ![8192, 1024]⟩
abbrev S1024x7168 : Shape := ⟨2, ![1024, 7168]⟩
abbrev S8192x7168 : Shape := ⟨2, ![8192, 7168]⟩
abbrev S7168x1024 : Shape := ⟨2, ![7168, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x7168, .f32⟩
  | .hbm, ⟨2, _⟩ => ⟨S8192x7168, .f32⟩
  | .hbm, ⟨3, _⟩ => ⟨S8192x7168, .f32⟩
  | .hbm, ⟨4, _⟩ => ⟨S7168x1024, .f32⟩
  | .hbm, ⟨5, _⟩ => ⟨S1024x7168, .f32⟩
  | .hbm, ⟨6, _⟩ => ⟨S1024x7168, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Gx.lean ====
abbrev S8192x1024 : Shape := ⟨2, ![8192, 1024]⟩
abbrev S1024x7168 : Shape := ⟨2, ![1024, 7168]⟩
abbrev S8192x7168 : Shape := ⟨2, ![8192, 7168]⟩
abbrev S512x1024 : Shape := ⟨2, ![512, 1024]⟩
abbrev S512x7168 : Shape := ⟨2, ![512, 7168]⟩

abbrev nBuf : Space → Nat
  | .hbm => 7
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x7168, .f32⟩
  | .hbm, ⟨2, _⟩ => ⟨S8192x1024, .f32⟩
  | .hbm, ⟨3, _⟩ => ⟨S8192x7168, .f32⟩
  | .hbm, ⟨4, _⟩ => ⟨S8192x7168, .bf16⟩
  | .hbm, ⟨5, _⟩ => ⟨S1024x7168, .bf16⟩
  | .hbm, ⟨6, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x7168, .bf16⟩
  | .local _ .vmem, ⟨3, _⟩ => ⟨S512x7168, .bf16⟩
  | .local _ .vmem, ⟨4, _⟩ => ⟨S1024x7168, .bf16⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x7168 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GxReferenceIdeal.lean ====
abbrev S8192x1024 : Shape := ⟨2, ![8192, 1024]⟩
abbrev S1024x7168 : Shape := ⟨2, ![1024, 7168]⟩
abbrev S8192x7168 : Shape := ⟨2, ![8192, 7168]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x7168, .f32⟩
  | .hbm, ⟨2, _⟩ => ⟨S8192x1024, .f32⟩
  | .hbm, ⟨3, _⟩ => ⟨S8192x7168, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x7168, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Adam.lean ====
abbrev S1024x1792 : Shape := ⟨2, ![1024, 1792]⟩
abbrev S256x1792 : Shape := ⟨2, ![256, 1792]⟩

abbrev nBuf : Space → Nat
  | .hbm => 8
  | .vmem => 16
  | .smem => 0
  | _ => 0

abbrev bufTy : (tb : Table) → Fin (tcTables nBuf tb) → BufTy
  | .hbm, ⟨0, _⟩ => ⟨S1024x1792, .f32⟩
  | .hbm, ⟨1, _⟩ => ⟨S1024x1792, .f32⟩
  | .hbm, ⟨2, _⟩ => ⟨S1024x1792, .f32⟩
  | .hbm, ⟨3, _⟩ => ⟨S1024x1792, .f32⟩
  | .hbm, ⟨4, _⟩ => ⟨S1024x1792, .f32⟩
  | .hbm, ⟨5, _⟩ => ⟨S1024x1792, .f32⟩
  | .hbm, ⟨6, _⟩ => ⟨S1024x1792, .f32⟩
  | .hbm, ⟨7, _⟩ => ⟨S1024x1792, .f32⟩
  | .local _ .vmem, ⟨0, _⟩ => ⟨S256x1792, .f32⟩
  | .local _ .vmem, ⟨1, _⟩ => ⟨S256x1792, .f32⟩
  | .local _ .vmem, ⟨2, _⟩ => ⟨S256x1792, .f32⟩
  | .local _ .vmem, ⟨3, _⟩ => ⟨S256x1792, .f32⟩
  | .local _ .vmem, ⟨4, _⟩ => ⟨S256x1792, .f32⟩
  | .local _ .vmem, ⟨5, _⟩ => ⟨S256x1792, .f32⟩
  | .local _ .vmem, ⟨6, _⟩ => ⟨S256x1792, .f32⟩
  | .local _ .vmem, ⟨7, _⟩ => ⟨S256x1792, .f32⟩
  | .local _ .vmem, ⟨8, _⟩ => ⟨S256x1792, .f32⟩
  | .local _ .vmem, ⟨9, _⟩ => ⟨S256x1792, .f32⟩
  | .local _ .vmem, ⟨10, _⟩ => ⟨S256x1792, .f32⟩
  | .local _ .vmem, ⟨11, _⟩ => ⟨S256x1792, .f32⟩
  | .local _ .vmem, ⟨12, _⟩ => ⟨S256x1792, .f32⟩
  | .local _ .vmem, ⟨13, _⟩ => ⟨S256x1792, .f32⟩
  | .local _ .vmem, ⟨14, _⟩ => ⟨S256x1792, .f32⟩
  | .local _ .vmem, ⟨15, _⟩ => ⟨S256x1792, .f32⟩
  | _, _ => ⟨S1024x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1792 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamReferenceIdeal.lean ====
abbrev S1024x1792 : Shape := ⟨2, ![1024, 1792]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1792, .f32⟩
  | .hbm, ⟨1, _⟩ => ⟨S1024x1792, .f32⟩
  | .hbm, ⟨2, _⟩ => ⟨S1024x1792, .f32⟩
  | .hbm, ⟨3, _⟩ => ⟨S1024x1792, .f32⟩
  | .hbm, ⟨4, _⟩ => ⟨S_, .f32⟩
  | .hbm, ⟨5, _⟩ => ⟨S1024x1792, .f32⟩
  | .hbm, ⟨6, _⟩ => ⟨S1024x1792, .f32⟩
  | .hbm, ⟨7, _⟩ => ⟨S_, .f32⟩
  | .hbm, ⟨8, _⟩ => ⟨S1024x1792, .f32⟩
  | .hbm, ⟨9, _⟩ => ⟨S1024x1792, .f32⟩
  | .hbm, ⟨10, _⟩ => ⟨S1024x1792, .f32⟩
  | .hbm, ⟨11, _⟩ => ⟨S_, .f32⟩
  | .hbm, ⟨12, _⟩ => ⟨S1024x1792, .f32⟩
  | .hbm, ⟨13, _⟩ => ⟨S1024x1792, .f32⟩
  | .hbm, ⟨14, _⟩ => ⟨S1024x1792, .f32⟩
  | .hbm, ⟨15, _⟩ => ⟨S_, .f32⟩
  | .hbm, ⟨16, _⟩ => ⟨S1024x1792, .f32⟩
  | .hbm, ⟨17, _⟩ => ⟨S1024x1792, .f32⟩
  | .hbm, ⟨18, _⟩ => ⟨S1024x1792, .f32⟩
  | .hbm, ⟨19, _⟩ => ⟨S_, .f32⟩
  | .hbm, ⟨20, _⟩ => ⟨S1024x1792, .f32⟩
  | .hbm, ⟨21, _⟩ => ⟨S1024x1792, .f32⟩
  | .hbm, ⟨22, _⟩ => ⟨S_, .f32⟩
  | .hbm, ⟨23, _⟩ => ⟨S1024x1792, .f32⟩
  | .hbm, ⟨24, _⟩ => ⟨S1024x1792, .f32⟩
  | .hbm, ⟨25, _⟩ => ⟨S1024x1792, .f32⟩
  | .hbm, ⟨26, _⟩ => ⟨S_, .f32⟩
  | .hbm, ⟨27, _⟩ => ⟨S1024x1792, .f32⟩
  | .hbm, ⟨28, _⟩ => ⟨S1024x1792, .f32⟩
  | .hbm, ⟨29, _⟩ => ⟨S1024x1792, .f32⟩
  | .hbm, ⟨30, _⟩ => ⟨S_, .f32⟩
  | .hbm, ⟨31, _⟩ => ⟨S1024x1792, .f32⟩
  | .hbm, ⟨32, _⟩ => ⟨S1024x1792, .f32⟩
  | .hbm, ⟨33, _⟩ => ⟨S1024x1792, .f32⟩
  | .hbm, ⟨34, _⟩ => ⟨S_, .f32⟩
  | .hbm, ⟨35, _⟩ => ⟨S1024x1792, .f32⟩
  | .hbm, ⟨36, _⟩ => ⟨S1024x1792, .f32⟩
  | _, _ => ⟨S1024x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Sum.lean ====
abbrev S8x56x1024 : Shape := ⟨3, ![8, 56, 1024]⟩
abbrev S56x1024 : Shape := ⟨2, ![56, 1024]⟩
abbrev S1x56x1024 : Shape := ⟨3, ![1, 56, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x56x1024, .f32⟩
  | .hbm, ⟨1, _⟩ => ⟨S56x1024, .f32⟩
  | .local _ .vmem, ⟨0, _⟩ => ⟨S8x56x1024, .f32⟩
  | .local _ .vmem, ⟨1, _⟩ => ⟨S56x1024, .f32⟩
  | _, _ => ⟨S8x56x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x56x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S56x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== SumReferenceIdeal.lean ====
abbrev S8x56x1024 : Shape := ⟨3, ![8, 56, 1024]⟩
abbrev S_ : Shape := ⟨0, ![]⟩
abbrev S56x1024 : Shape := ⟨2, ![56, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x56x1024, .f32⟩
  | .hbm, ⟨1, _⟩ => ⟨S_, .f32⟩
  | .hbm, ⟨2, _⟩ => ⟨S56x1024, .f32⟩
  | _, _ => ⟨S8x56x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Xch.lean ====
abbrev S1024x7168 : Shape := ⟨2, ![1024, 7168]⟩
abbrev S4x512x1792 : Shape := ⟨3, ![4, 512, 1792]⟩
abbrev S4 : Shape := ⟨1, ![4]⟩
abbrev S1 : Shape := ⟨1, ![1]⟩
abbrev S_ : Shape := ⟨0, ![]⟩
abbrev S1x512x1792 : Shape := ⟨3, ![1, 512, 1792]⟩
abbrev S512x1792 : Shape := ⟨2, ![512, 1792]⟩

abbrev nBuf : Space → Nat
  | .hbm => 2
  | .vmem => 0
  | .smem => 0
  | _ => 0

abbrev bufTy : (tb : Table) → Fin (tcTables nBuf tb) → BufTy
  | .hbm, ⟨0, _⟩ => ⟨S1024x7168, .bf16⟩
  | .hbm, ⟨1, _⟩ => ⟨S4x512x1792, .bf16⟩
  | _, _ => ⟨S1024x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 2
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c0_i32 : BitVec 32 := 0#32
  let v3 : BitVec 1 := Scalar.cmpi .eq v2 c0_i32
  let v4 : BitVec 32 := Scalar.extui v3
  let c0_i32_0 : BitVec 32 := 0#32
  let v5 : BitVec 1 := Scalar.cmpi .ne v4 c0_i32_0
  v5

def k0_dev1 : Nat :=
  let c0_i32_14 : BitVec 32 := 0#32
  let c1_i32_12 : BitVec 32 := 1#32
  let c1_i32_13 : BitVec 32 := 1#32
  let v18 : BitVec 32 := Scalar.muli c1_i32_12 c1_i32_13
  let v19 : BitVec 32 := Scalar.addi c0_i32_14 v18
  v19.toNat
def k0_dev2 : Nat :=
  let c0_i32_23 : BitVec 32 := 0#32
  let c1_i32_21 : BitVec 32 := 1#32
  let c1_i32_22 : BitVec 32 := 1#32
  let v27 : BitVec 32 := Scalar.muli c1_i32_21 c1_i32_22
  let v28 : BitVec 32 := Scalar.addi c0_i32_23 v27
  v28.toNat
def k0_dev3 : Nat :=
  let c0_i32_32 : BitVec 32 := 0#32
  let c1_i32_30 : BitVec 32 := 1#32
  let c1_i32_31 : BitVec 32 := 1#32
  let v36 : BitVec 32 := Scalar.muli c1_i32_30 c1_i32_31
  let v37 : BitVec 32 := Scalar.addi c0_i32_32 v36
  v37.toNat
def k0_dev4 : Nat :=
  let c0_i32_40 : BitVec 32 := 0#32
  let c1_i32_38 : BitVec 32 := 1#32
  let c1_i32_39 : BitVec 32 := 1#32
  let v45 : BitVec 32 := Scalar.muli c1_i32_38 c1_i32_39
  let v46 : BitVec 32 := Scalar.addi c0_i32_40 v45
  v46.toNat
def k0_cond2 (d0 : Dev nD) : BitVec 1 :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_1 : BitVec 32 := 1#32
  let v6 : BitVec 1 := Scalar.cmpi .eq v2 c1_i32_1
  let v7 : BitVec 32 := Scalar.extui v6
  let c0_i32_2 : BitVec 32 := 0#32
  let v8 : BitVec 1 := Scalar.cmpi .ne v7 c0_i32_2
  v8

def k0_dev5 : Nat :=
  let c0_i32_14 : BitVec 32 := 0#32
  let c0_i32_12 : BitVec 32 := 0#32
  let c1_i32_13 : BitVec 32 := 1#32
  let v18 : BitVec 32 := Scalar.muli c0_i32_12 c1_i32_13
  let v19 : BitVec 32 := Scalar.addi c0_i32_14 v18
  v19.toNat
def k0_dev6 : Nat :=
  let c0_i32_24 : BitVec 32 := 0#32
  let c0_i32_22 : BitVec 32 := 0#32
  let c1_i32_23 : BitVec 32 := 1#32
  let v27 : BitVec 32 := Scalar.muli c0_i32_22 c1_i32_23
  let v28 : BitVec 32 := Scalar.addi c0_i32_24 v27
  v28.toNat
def k0_dev7 : Nat :=
  let c0_i32_33 : BitVec 32 := 0#32
  let c0_i32_31 : BitVec 32 := 0#32
  let c1_i32_32 : BitVec 32 := 1#32
  let v36 : BitVec 32 := Scalar.muli c0_i32_31 c1_i32_32
  let v37 : BitVec 32 := Scalar.addi c0_i32_33 v36
  v37.toNat
def k0_dev8 : Nat :=
  let c0_i32_41 : BitVec 32 := 0#32
  let c0_i32_39 : BitVec 32 := 0#32
  let c1_i32_40 : BitVec 32 := 1#32
  let v45 : BitVec 32 := Scalar.muli c0_i32_39 c1_i32_40
  let v46 : BitVec 32 := Scalar.addi c0_i32_41 v45
  v46.toNat
-- ==== XchReference.lean ====
abbrev S2048x7168 : Shape := ⟨2, ![2048, 7168]⟩
abbrev S2x2x512x4x1792 : Shape := ⟨5, ![2, 2, 512, 4, 1792]⟩
abbrev S1x1x512x4x1792 : Shape := ⟨5, ![1, 1, 512, 4, 1792]⟩
abbrev S512x4x1792 : Shape := ⟨3, ![512, 4, 1792]⟩
abbrev S1x512x4x1792 : Shape := ⟨4, ![1, 512, 4, 1792]⟩
abbrev S2x512x4x1792 : Shape := ⟨4, ![2, 512, 4, 1792]⟩
abbrev S2x4x512x1792 : Shape := ⟨4, ![2, 4, 512, 1792]⟩
abbrev S8x512x1792 : Shape := ⟨3, ![8, 512, 1792]⟩

abbrev nBuf : Space → Nat
  | .hbm => 11
  | .vmem => 0
  | .smem => 0
  | _ => 0

abbrev bufTy : (tb : Table) → Fin (tcTables nBuf tb) → BufTy
  | .hbm, ⟨0, _⟩ => ⟨S2048x7168, .bf16⟩
  | .hbm, ⟨1, _⟩ => ⟨S2x2x512x4x1792, .bf16⟩
  | .hbm, ⟨2, _⟩ => ⟨S1x1x512x4x1792, .bf16⟩
  | .hbm, ⟨3, _⟩ => ⟨S512x4x1792, .bf16⟩
  | .hbm, ⟨4, _⟩ => ⟨S1x1x512x4x1792, .bf16⟩
  | .hbm, ⟨5, _⟩ => ⟨S512x4x1792, .bf16⟩
  | .hbm, ⟨6, _⟩ => ⟨S1x512x4x1792, .bf16⟩
  | .hbm, ⟨7, _⟩ => ⟨S1x512x4x1792, .bf16⟩
  | .hbm, ⟨8, _⟩ => ⟨S2x512x4x1792, .bf16⟩
  | .hbm, ⟨9, _⟩ => ⟨S2x4x512x1792, .bf16⟩
  | .hbm, ⟨10, _⟩ => ⟨S8x512x1792, .bf16⟩
  | _, _ => ⟨S2048x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩

abbrev nD : Nat := 1
abbrev τ : Topo := Topo.v7x

variable {F : FTy → Type} [FloatOps F]
-- ==== Sct.lean ====
abbrev S4x512x1792 : Shape := ⟨3, ![4, 512, 1792]⟩
abbrev S3x512x1792 : Shape := ⟨3, ![3, 512, 1792]⟩
abbrev S3 : Shape := ⟨1, ![3]⟩
abbrev S1 : Shape := ⟨1, ![1]⟩
abbrev S_ : Shape := ⟨0, ![]⟩
abbrev S1x512x1792 : Shape := ⟨3, ![1, 512, 1792]⟩
abbrev S512x1792 : Shape := ⟨2, ![512, 1792]⟩

abbrev nBuf : Space → Nat
  | .hbm => 2
  | .vmem => 0
  | .smem => 0
  | _ => 0

abbrev bufTy : (tb : Table) → Fin (tcTables nBuf tb) → BufTy
  | .hbm, ⟨0, _⟩ => ⟨S4x512x1792, .bf16⟩
  | .hbm, ⟨1, _⟩ => ⟨S3x512x1792, .bf16⟩
  | _, _ => ⟨S4x512x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 4
abbrev τ : Topo := Topo.v7x

variable {F : FTy → Type} [FloatOps F]

abbrev grid0 : Pipeline.Grid := .none

def k0_cond1 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32 : BitVec 32 := 0#32
  let v6 : BitVec 1 := Scalar.cmpi .eq v2 c0_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_2 : BitVec 32 := 0#32
  let v7 : BitVec 1 := Scalar.cmpi .eq v5 c0_i32_2
  let v8 : BitVec 1 := Scalar.andi v6 v7
  let v9 : BitVec 32 := Scalar.extui v8
  let c0_i32_3 : BitVec 32 := 0#32
  let v10 : BitVec 1 := Scalar.cmpi .ne v9 c0_i32_3
  v10

def k0_dev1 : Nat :=
  let c0_i32_36 : BitVec 32 := 0#32
  let c1_i32_33 : BitVec 32 := 1#32
  let c2_i32_35 : BitVec 32 := 2#32
  let v52 : BitVec 32 := Scalar.muli c1_i32_33 c2_i32_35
  let v53 : BitVec 32 := Scalar.addi c0_i32_36 v52
  let c0_i32_34 : BitVec 32 := 0#32
  let c1_i32_37 : BitVec 32 := 1#32
  let v54 : BitVec 32 := Scalar.muli c0_i32_34 c1_i32_37
  let v55 : BitVec 32 := Scalar.addi v53 v54
  v55.toNat
def k0_dev2 : Nat :=
  let c0_i32_49 : BitVec 32 := 0#32
  let c0_i32_46 : BitVec 32 := 0#32
  let c2_i32_48 : BitVec 32 := 2#32
  let v64 : BitVec 32 := Scalar.muli c0_i32_46 c2_i32_48
  let v65 : BitVec 32 := Scalar.addi c0_i32_49 v64
  let c1_i32_47 : BitVec 32 := 1#32
  let c1_i32_50 : BitVec 32 := 1#32
  let v66 : BitVec 32 := Scalar.muli c1_i32_47 c1_i32_50
  let v67 : BitVec 32 := Scalar.addi v65 v66
  v67.toNat
def k0_dev3 : Nat :=
  let c0_i32_61 : BitVec 32 := 0#32
  let c1_i32_58 : BitVec 32 := 1#32
  let c2_i32_60 : BitVec 32 := 2#32
  let v76 : BitVec 32 := Scalar.muli c1_i32_58 c2_i32_60
  let v77 : BitVec 32 := Scalar.addi c0_i32_61 v76
  let c1_i32_59 : BitVec 32 := 1#32
  let c1_i32_62 : BitVec 32 := 1#32
  let v78 : BitVec 32 := Scalar.muli c1_i32_59 c1_i32_62
  let v79 : BitVec 32 := Scalar.addi v77 v78
  v79.toNat
def k0_cond2 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_4 : BitVec 32 := 0#32
  let v11 : BitVec 1 := Scalar.cmpi .eq v2 c0_i32_4
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v12 : BitVec 1 := Scalar.cmpi .eq v5 c1_i32_5
  let v13 : BitVec 1 := Scalar.andi v11 v12
  let v14 : BitVec 32 := Scalar.extui v13
  let c0_i32_6 : BitVec 32 := 0#32
  let v15 : BitVec 1 := Scalar.cmpi .ne v14 c0_i32_6
  v15

def k0_dev4 : Nat :=
  let c0_i32_35 : BitVec 32 := 0#32
  let c1_i32_32 : BitVec 32 := 1#32
  let c2_i32_34 : BitVec 32 := 2#32
  let v52 : BitVec 32 := Scalar.muli c1_i32_32 c2_i32_34
  let v53 : BitVec 32 := Scalar.addi c0_i32_35 v52
  let c1_i32_33 : BitVec 32 := 1#32
  let c1_i32_36 : BitVec 32 := 1#32
  let v54 : BitVec 32 := Scalar.muli c1_i32_33 c1_i32_36
  let v55 : BitVec 32 := Scalar.addi v53 v54
  v55.toNat
def k0_dev5 : Nat :=
  let c0_i32_48 : BitVec 32 := 0#32
  let c0_i32_45 : BitVec 32 := 0#32
  let c2_i32_47 : BitVec 32 := 2#32
  let v64 : BitVec 32 := Scalar.muli c0_i32_45 c2_i32_47
  let v65 : BitVec 32 := Scalar.addi c0_i32_48 v64
  let c0_i32_46 : BitVec 32 := 0#32
  let c1_i32_49 : BitVec 32 := 1#32
  let v66 : BitVec 32 := Scalar.muli c0_i32_46 c1_i32_49
  let v67 : BitVec 32 := Scalar.addi v65 v66
  v67.toNat
def k0_dev6 : Nat :=
  let c0_i32_61 : BitVec 32 := 0#32
  let c1_i32_58 : BitVec 32 := 1#32
  let c2_i32_60 : BitVec 32 := 2#32
  let v76 : BitVec 32 := Scalar.muli c1_i32_58 c2_i32_60
  let v77 : BitVec 32 := Scalar.addi c0_i32_61 v76
  let c0_i32_59 : BitVec 32 := 0#32
  let c1_i32_62 : BitVec 32 := 1#32
  let v78 : BitVec 32 := Scalar.muli c0_i32_59 c1_i32_62
  let v79 : BitVec 32 := Scalar.addi v77 v78
  v79.toNat
def k0_cond3 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_7 : BitVec 32 := 1#32
  let v16 : BitVec 1 := Scalar.cmpi .eq v2 c1_i32_7
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_8 : BitVec 32 := 0#32
  let v17 : BitVec 1 := Scalar.cmpi .eq v5 c0_i32_8
  let v18 : BitVec 1 := Scalar.andi v16 v17
  let v19 : BitVec 32 := Scalar.extui v18
  let c0_i32_9 : BitVec 32 := 0#32
  let v20 : BitVec 1 := Scalar.cmpi .ne v19 c0_i32_9
  v20

def k0_dev7 : Nat :=
  let c0_i32_36 : BitVec 32 := 0#32
  let c0_i32_33 : BitVec 32 := 0#32
  let c2_i32_35 : BitVec 32 := 2#32
  let v52 : BitVec 32 := Scalar.muli c0_i32_33 c2_i32_35
  let v53 : BitVec 32 := Scalar.addi c0_i32_36 v52
  let c0_i32_34 : BitVec 32 := 0#32
  let c1_i32_37 : BitVec 32 := 1#32
  let v54 : BitVec 32 := Scalar.muli c0_i32_34 c1_i32_37
  let v55 : BitVec 32 := Scalar.addi v53 v54
  v55.toNat
def k0_dev8 : Nat :=
  let c0_i32_48 : BitVec 32 := 0#32
  let c1_i32_45 : BitVec 32 := 1#32
  let c2_i32_47 : BitVec 32 := 2#32
  let v64 : BitVec 32 := Scalar.muli c1_i32_45 c2_i32_47
  let v65 : BitVec 32 := Scalar.addi c0_i32_48 v64
  let c1_i32_46 : BitVec 32 := 1#32
  let c1_i32_49 : BitVec 32 := 1#32
  let v66 : BitVec 32 := Scalar.muli c1_i32_46 c1_i32_49
  let v67 : BitVec 32 := Scalar.addi v65 v66
  v67.toNat
def k0_dev9 : Nat :=
  let c0_i32_61 : BitVec 32 := 0#32
  let c0_i32_58 : BitVec 32 := 0#32
  let c2_i32_60 : BitVec 32 := 2#32
  let v76 : BitVec 32 := Scalar.muli c0_i32_58 c2_i32_60
  let v77 : BitVec 32 := Scalar.addi c0_i32_61 v76
  let c1_i32_59 : BitVec 32 := 1#32
  let c1_i32_62 : BitVec 32 := 1#32
  let v78 : BitVec 32 := Scalar.muli c1_i32_59 c1_i32_62
  let v79 : BitVec 32 := Scalar.addi v77 v78
  v79.toNat
def k0_cond4 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_10 : BitVec 32 := 1#32
  let v21 : BitVec 1 := Scalar.cmpi .eq v2 c1_i32_10
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_11 : BitVec 32 := 1#32
  let v22 : BitVec 1 := Scalar.cmpi .eq v5 c1_i32_11
  let v23 : BitVec 1 := Scalar.andi v21 v22
  let v24 : BitVec 32 := Scalar.extui v23
  let c0_i32_12 : BitVec 32 := 0#32
  let v25 : BitVec 1 := Scalar.cmpi .ne v24 c0_i32_12
  v25

def k0_dev10 : Nat :=
  let c0_i32_36 : BitVec 32 := 0#32
  let c0_i32_33 : BitVec 32 := 0#32
  let c2_i32_35 : BitVec 32 := 2#32
  let v52 : BitVec 32 := Scalar.muli c0_i32_33 c2_i32_35
  let v53 : BitVec 32 := Scalar.addi c0_i32_36 v52
  let c1_i32_34 : BitVec 32 := 1#32
  let c1_i32_37 : BitVec 32 := 1#32
  let v54 : BitVec 32 := Scalar.muli c1_i32_34 c1_i32_37
  let v55 : BitVec 32 := Scalar.addi v53 v54
  v55.toNat
def k0_dev11 : Nat :=
  let c0_i32_49 : BitVec 32 := 0#32
  let c1_i32_46 : BitVec 32 := 1#32
  let c2_i32_48 : BitVec 32 := 2#32
  let v64 : BitVec 32 := Scalar.muli c1_i32_46 c2_i32_48
  let v65 : BitVec 32 := Scalar.addi c0_i32_49 v64
  let c0_i32_47 : BitVec 32 := 0#32
  let c1_i32_50 : BitVec 32 := 1#32
  let v66 : BitVec 32 := Scalar.muli c0_i32_47 c1_i32_50
  let v67 : BitVec 32 := Scalar.addi v65 v66
  v67.toNat
def k0_dev12 : Nat :=
  let c0_i32_62 : BitVec 32 := 0#32
  let c0_i32_59 : BitVec 32 := 0#32
  let c2_i32_61 : BitVec 32 := 2#32
  let v76 : BitVec 32 := Scalar.muli c0_i32_59 c2_i32_61
  let v77 : BitVec 32 := Scalar.addi c0_i32_62 v76
  let c0_i32_60 : BitVec 32 := 0#32
  let c1_i32_63 : BitVec 32 := 1#32
  let v78 : BitVec 32 := Scalar.muli c0_i32_60 c1_i32_63
  let v79 : BitVec 32 := Scalar.addi v77 v78
  v79.toNat
-- ==== SctReference.lean ====
abbrev S16x512x1792 : Shape := ⟨3, ![16, 512, 1792]⟩
abbrev S1x512x1792 : Shape := ⟨3, ![1, 512, 1792]⟩
abbrev S12x512x1792 : Shape := ⟨3, ![12, 512, 1792]⟩

abbrev nBuf : Space → Nat
  | .hbm => 14
  | .vmem => 0
  | .smem => 0
  | _ => 0

abbrev bufTy : (tb : Table) → Fin (tcTables nBuf tb) → BufTy
  | .hbm, ⟨0, _⟩ => ⟨S16x512x1792, .bf16⟩
  | .hbm, ⟨1, _⟩ => ⟨S1x512x1792, .bf16⟩
  | .hbm, ⟨2, _⟩ => ⟨S1x512x1792, .bf16⟩
  | .hbm, ⟨3, _⟩ => ⟨S1x512x1792, .bf16⟩
  | .hbm, ⟨4, _⟩ => ⟨S1x512x1792, .bf16⟩
  | .hbm, ⟨5, _⟩ => ⟨S1x512x1792, .bf16⟩
  | .hbm, ⟨6, _⟩ => ⟨S1x512x1792, .bf16⟩
  | .hbm, ⟨7, _⟩ => ⟨S1x512x1792, .bf16⟩
  | .hbm, ⟨8, _⟩ => ⟨S1x512x1792, .bf16⟩
  | .hbm, ⟨9, _⟩ => ⟨S1x512x1792, .bf16⟩
  | .hbm, ⟨10, _⟩ => ⟨S1x512x1792, .bf16⟩
  | .hbm, ⟨11, _⟩ => ⟨S1x512x1792, .bf16⟩
  | .hbm, ⟨12, _⟩ => ⟨S1x512x1792, .bf16⟩
  | .hbm, ⟨13, _⟩ => ⟨S12x512x1792, .bf16⟩
  | _, _ => ⟨S16x512x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩

abbrev nD : Nat := 1
abbrev τ : Topo := Topo.v7x

variable {F : FTy → Type} [FloatOps F]
-- ==== Pc.lean ====
abbrev S1024x1792 : Shape := ⟨2, ![1024, 1792]⟩
abbrev S_ : Shape := ⟨0, ![]⟩
abbrev S2 : Shape := ⟨1, ![2]⟩
abbrev S1024x7168 : Shape := ⟨2, ![1024, 7168]⟩
abbrev S256x1792 : Shape := ⟨2, ![256, 1792]⟩
abbrev S1 : Shape := ⟨1, ![1]⟩

abbrev nBuf : Space → Nat
  | .hbm => 4
  | .vmem => 4
  | .smem => 1
  | _ => 0

abbrev bufTy : (tb : Table) → Fin (tcTables nBuf tb) → BufTy
  | .hbm, ⟨0, _⟩ => ⟨S1024x1792, .f32⟩
  | .hbm, ⟨1, _⟩ => ⟨S_, .i32⟩
  | .hbm, ⟨2, _⟩ => ⟨S1024x7168, .bf16⟩
  | .hbm, ⟨3, _⟩ => ⟨S1024x1792, .bf16⟩
  | .local _ .vmem, ⟨0, _⟩ => ⟨S256x1792, .f32⟩
  | .local _ .vmem, ⟨1, _⟩ => ⟨S256x1792, .f32⟩
  | .local _ .vmem, ⟨2, _⟩ => ⟨S256x1792, .bf16⟩
  | .local _ .vmem, ⟨3, _⟩ => ⟨S256x1792, .bf16⟩
  | .local _ .smem, ⟨0, _⟩ => ⟨S2, .i32⟩
  | _, _ => ⟨S1024x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v1 : Ref sig .tc := ⟨.hbm, 2, rfl⟩
abbrev main_v2 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (inb_S2_S1_0 : ∀ a, (![0] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  ![arg0.toNat, v0.toNat]

abbrev stage0_0 : Fin 2 → Memref sig .tc .vmem S256x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== PcReference.lean ====
abbrev S1024x1792 : Shape := ⟨2, ![1024, 1792]⟩

abbrev nBuf : Space → Nat
  | .hbm => 2
  | .vmem => 0
  | .smem => 0
  | _ => 0

abbrev bufTy : (tb : Table) → Fin (tcTables nBuf tb) → BufTy
  | .hbm, ⟨0, _⟩ => ⟨S1024x1792, .f32⟩
  | .hbm, ⟨1, _⟩ => ⟨S1024x1792, .bf16⟩
  | _, _ => ⟨S1024x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Pa.lean ====
abbrev S1024x7168 : Shape := ⟨2, ![1024, 7168]⟩
abbrev S4x512x1792 : Shape := ⟨3, ![4, 512, 1792]⟩
abbrev S_ : Shape := ⟨0, ![]⟩
abbrev S2 : Shape := ⟨1, ![2]⟩
abbrev S512x1792 : Shape := ⟨2, ![512, 1792]⟩
abbrev S1 : Shape := ⟨1, ![1]⟩
abbrev S1x512x1792 : Shape := ⟨3, ![1, 512, 1792]⟩
abbrev S3x512x1792 : Shape := ⟨3, ![3, 512, 1792]⟩

abbrev nBuf : Space → Nat
  | .hbm => 5
  | .vmem => 6
  | .smem => 1
  | _ => 0

abbrev bufTy : (tb : Table) → Fin (tcTables nBuf tb) → BufTy
  | .hbm, ⟨0, _⟩ => ⟨S1024x7168, .f32⟩
  | .hbm, ⟨1, _⟩ => ⟨S4x512x1792, .bf16⟩
  | .hbm, ⟨2, _⟩ => ⟨S_, .i32⟩
  | .hbm, ⟨3, _⟩ => ⟨S4x512x1792, .bf16⟩
  | .hbm, ⟨4, _⟩ => ⟨S3x512x1792, .bf16⟩
  | .local _ .vmem, ⟨0, _⟩ => ⟨S512x1792, .f32⟩
  | .local _ .vmem, ⟨1, _⟩ => ⟨S512x1792, .f32⟩
  | .local _ .vmem, ⟨2, _⟩ => ⟨S1x512x1792, .bf16⟩
  | .local _ .vmem, ⟨3, _⟩ => ⟨S1x512x1792, .bf16⟩
  | .local _ .vmem, ⟨4, _⟩ => ⟨S1x512x1792, .bf16⟩
  | .local _ .vmem, ⟨5, _⟩ => ⟨S1x512x1792, .bf16⟩
  | .local _ .smem, ⟨0, _⟩ => ⟨S2, .i32⟩
  | _, _ => ⟨S1024x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (inb_S2_S1_0 : ∀ a, (![0] : Fin 1 → Nat) a + S1.size a ≤ S2.size a) (pf : pre0.Contents (Elt F)) (i : grid0.Coords) : Fin 2 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c1_i32 : BitVec 32 := 1#32
  let v1 : BitVec 32 := Scalar.muli v0 c1_i32
  let v2 : BitVec 32 := Scalar.addi v1 arg1
  let c0 : Index := 0#32
  let v3 : BitVec 32 := pf.at 0 (Rect.unit (s := S2) ![0] S1.size inb_S2_S1_0) numel1_S1
  let c1_i32_0 : BitVec 32 := 1#32
  let v4 : BitVec 32 := Scalar.addi v3 c1_i32_0
  let v5 : BitVec 32 := Scalar.addi v4 arg0
  let c4_i32 : BitVec 32 := 4#32
  let c0_i32 : BitVec 32 := 0#32
  let v6 : BitVec 1 := Scalar.cmpi .eq c4_i32 c0_i32
  let c1_i32_1 : BitVec 32 := 1#32
  let v7 : BitVec 32 := Scalar.select v6 c1_i32_1 c4_i32
  let v8 : BitVec 32 := Scalar.remsi v5 v7
  let c0_i32_2 : BitVec 32 := 0#32
  let v9 : BitVec 1 := Scalar.cmpi .ne v8 c0_i32_2
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let v13 : BitVec 1 := Scalar.andi v12 v9
  let v14 : BitVec 32 := Scalar.addi v8 v7
  let v15 : BitVec 32 := Scalar.select v13 v14 v8
  let c0_i32_5 : BitVec 32 := 0#32
  ![v2.toNat, v15.toNat]

def cc0_transform_1 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let c1_i32 : BitVec 32 := 1#32
  let v1 : BitVec 32 := Scalar.addi v0 c1_i32
  let v2 : BitVec 32 := Scalar.addi v1 arg0
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c0_i32_4 : BitVec 32 := 0#32
  let c0_i32_5 : BitVec 32 := 0#32
  ![v12.toNat, arg1.toNat, c0_i32_4.toNat]

def cc0_transform_2 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let c1_i32 : BitVec 32 := 1#32
  let v1 : BitVec 32 := Scalar.addi v0 c1_i32
  let v2 : BitVec 32 := Scalar.addi v1 arg0
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c0_i32_4 : BitVec 32 := 0#32
  let c0_i32_5 : BitVec 32 := 0#32
  ![v12.toNat, arg1.toNat, c0_i32_4.toNat]

abbrev stage0_0 : Fin 2 → Memref sig .tc .vmem S512x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PaReference.lean ====
abbrev S1024x7168 : Shape := ⟨2, ![1024, 7168]⟩
abbrev S4x512x1792 : Shape := ⟨3, ![4, 512, 1792]⟩
abbrev S512x7168 : Shape := ⟨2, ![512, 7168]⟩
abbrev S512x4x1792 : Shape := ⟨3, ![512, 4, 1792]⟩
abbrev S3x512x1792 : Shape := ⟨3, ![3, 512, 1792]⟩

abbrev nBuf : Space → Nat
  | .hbm => 10
  | .vmem => 0
  | .smem => 0
  | _ => 0

abbrev bufTy : (tb : Table) → Fin (tcTables nBuf tb) → BufTy
  | .hbm, ⟨0, _⟩ => ⟨S1024x7168, .f32⟩
  | .hbm, ⟨1, _⟩ => ⟨S4x512x1792, .bf16⟩
  | .hbm, ⟨2, _⟩ => ⟨S512x7168, .f32⟩
  | .hbm, ⟨3, _⟩ => ⟨S512x4x1792, .f32⟩
  | .hbm, ⟨4, _⟩ => ⟨S4x512x1792, .f32⟩
  | .hbm, ⟨5, _⟩ => ⟨S3x512x1792, .f32⟩
  | .hbm, ⟨6, _⟩ => ⟨S3x512x1792, .bf16⟩
  | .hbm, ⟨7, _⟩ => ⟨S3x512x1792, .f32⟩
  | .hbm, ⟨8, _⟩ => ⟨S3x512x1792, .f32⟩
  | .hbm, ⟨9, _⟩ => ⟨S3x512x1792, .bf16⟩
  | _, _ => ⟨S1024x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Cs.lean ====
abbrev S1024x7168 : Shape := ⟨2, ![1024, 7168]⟩
abbrev S4x512x1792 : Shape := ⟨3, ![4, 512, 1792]⟩
abbrev S3x512x1792 : Shape := ⟨3, ![3, 512, 1792]⟩
abbrev S_ : Shape := ⟨0, ![]⟩
abbrev S2 : Shape := ⟨1, ![2]⟩
abbrev S1024x1792 : Shape := ⟨2, ![1024, 1792]⟩
abbrev S512x1792 : Shape := ⟨2, ![512, 1792]⟩
abbrev S1 : Shape := ⟨1, ![1]⟩
abbrev S1x512x1792 : Shape := ⟨3, ![1, 512, 1792]⟩

abbrev nBuf : Space → Nat
  | .hbm => 6
  | .vmem => 4
  | .smem => 1
  | _ => 0

abbrev bufTy : (tb : Table) → Fin (tcTables nBuf tb) → BufTy
  | .hbm, ⟨0, _⟩ => ⟨S1024x7168, .f32⟩
  | .hbm, ⟨1, _⟩ => ⟨S4x512x1792, .bf16⟩
  | .hbm, ⟨2, _⟩ => ⟨S3x512x1792, .bf16⟩
  | .hbm, ⟨3, _⟩ => ⟨S_, .i32⟩
  | .hbm, ⟨4, _⟩ => ⟨S1024x1792, .f32⟩
  | .hbm, ⟨5, _⟩ => ⟨S512x1792, .f32⟩
  | .local _ .vmem, ⟨0, _⟩ => ⟨S512x1792, .f32⟩
  | .local _ .vmem, ⟨1, _⟩ => ⟨S1x512x1792, .bf16⟩
  | .local _ .vmem, ⟨2, _⟩ => ⟨S3x512x1792, .bf16⟩
  | .local _ .vmem, ⟨3, _⟩ => ⟨S512x1792, .f32⟩
  | .local _ .smem, ⟨0, _⟩ => ⟨S2, .i32⟩
  | _, _ => ⟨S1024x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (inb_S2_S1_0 : ∀ a, (![0] : Fin 1 → Nat) a + S1.size a ≤ S2.size a) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c1_i32 : BitVec 32 := 1#32
  let v1 : BitVec 32 := Scalar.muli v0 c1_i32
  let v2 : BitVec 32 := Scalar.addi v1 arg0
  let c0 : Index := 0#32
  let v3 : BitVec 32 := pf.at 0 (Rect.unit (s := S2) ![0] S1.size inb_S2_S1_0) numel1_S1
  let c0_i32 : BitVec 32 := 0#32
  ![v2.toNat, v3.toNat]

def cc0_transform_1 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![v2.toNat, c0_i32.toNat]

abbrev stage0_0 : Fin 1 → Memref sig .tc .vmem S512x1792 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512x1792 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x512x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1792 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== CsReferenceIdeal.lean ====
abbrev S1024x7168 : Shape := ⟨2, ![1024, 7168]⟩
abbrev S4x512x1792 : Shape := ⟨3, ![4, 512, 1792]⟩
abbrev S3x512x1792 : Shape := ⟨3, ![3, 512, 1792]⟩
abbrev S512x1792 : Shape := ⟨2, ![512, 1792]⟩
abbrev S1x512x1792 : Shape := ⟨3, ![1, 512, 1792]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S1024x7168, .f32⟩
  | .hbm, ⟨1, _⟩ => ⟨S4x512x1792, .bf16⟩
  | .hbm, ⟨2, _⟩ => ⟨S3x512x1792, .bf16⟩
  | .hbm, ⟨3, _⟩ => ⟨S512x1792, .f32⟩
  | .hbm, ⟨4, _⟩ => ⟨S1x512x1792, .bf16⟩
  | .hbm, ⟨5, _⟩ => ⟨S512x1792, .bf16⟩
  | .hbm, ⟨6, _⟩ => ⟨S512x1792, .f32⟩
  | .hbm, ⟨7, _⟩ => ⟨S512x1792, .f32⟩
  | .hbm, ⟨8, _⟩ => ⟨S3x512x1792, .f32⟩
  | .hbm, ⟨9, _⟩ => ⟨S_, .f32⟩
  | .hbm, ⟨10, _⟩ => ⟨S512x1792, .f32⟩
  | .hbm, ⟨11, _⟩ => ⟨S512x1792, .f32⟩
  | _, _ => ⟨S1024x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.Norm.lean ====
/- Layer normalisation over the extended reals, one row of 1024 numbers at a time, and the equation of its two gradients:
   the closed form a kernel computes and the chain of derivatives that differentiating the forward lines gives.  The
   equation is one of real numbers, so it is stated of rows all of whose entries are real. -/
module

public import Idealize.ShloMosaic.PureOps.Ideal
public import Idealize.ShloMosaic.PureOps.Ideal.Laws
public import Idealize.ShloMosaic.Lib.Pointwise
public import Mathlib.Tactic.Ring
public import Mathlib.Tactic.NormNum

@[expose] public section

noncomputable section

namespace Cert.Norm

open Idealize.ShloMosaic

/-- `x` is a real number. -/
def IsR (x : EReal) : Prop := ∃ r : ℝ, x = (r : EReal)

theorem IsR.coe (r : ℝ) : IsR (r : EReal) := ⟨r, rfl⟩
theorem IsR.zero : IsR 0 := ⟨0, rfl⟩
theorem IsR.add {x y : EReal} (hx : IsR x) (hy : IsR y) : IsR (x + y) := by
  obtain ⟨a, rfl⟩ := hx; obtain ⟨b, rfl⟩ := hy; exact ⟨a + b, (EReal.coe_add a b).symm⟩
theorem IsR.sub {x y : EReal} (hx : IsR x) (hy : IsR y) : IsR (x - y) := by
  obtain ⟨a, rfl⟩ := hx; obtain ⟨b, rfl⟩ := hy; exact ⟨a - b, (EReal.coe_sub a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.neg {x : EReal} (hx : IsR x) : IsR (-x) := by
  obtain ⟨a, rfl⟩ := hx; exact ⟨-a, (EReal.coe_neg a).symm⟩
theorem IsR.max {x y : EReal} (hx : IsR x) (hy : IsR y) : IsR (max x y) := by
  rcases max_choice x y with h | h <;> rw [h] <;> assumption

/-- A sum of real numbers, taken in the extended reals, is the sum. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem IsR.sum {ι : Type} [Fintype ι] {f : ι → EReal} (h : ∀ i, IsR (f i)) : IsR (∑ i, f i) := by
  choose g hg using h
  exact ⟨∑ i, g i, by rw [← coe_sum]; exact Finset.sum_congr rfl fun i _ => hg i⟩

/-- The literal 1024. -/
def w1024 : EReal := Ideal.ofBits FTy.f32 1149239296#32
/-- The literal added to the variance. -/
def wEps : EReal := Ideal.ofBits FTy.f32 925353388#32
/-- The literal 2. -/
def w2 : EReal := Ideal.ofBits FTy.f32 1073741824#32
/-- The literal −1/2. -/
def wNegHalf : EReal := Ideal.ofBits FTy.f32 3204448256#32

/-- `wEps` as a real number. -/
def eps : ℝ := 10995116 / 2 ^ 40

theorem w1024_eq : w1024 = ((1024 : ℝ) : EReal) := by
  simp [w1024, Ideal.ofBits, Ideal.ieee, -EReal.coe_mul]; norm_num
theorem w2_eq : w2 = ((2 : ℝ) : EReal) := by
  simp [w2, Ideal.ofBits, Ideal.ieee, -EReal.coe_mul]; norm_num
theorem wNegHalf_eq : wNegHalf = ((-(1 / 2) : ℝ) : EReal) := by
  simp [wNegHalf, Ideal.ofBits, Ideal.ieee, -EReal.coe_mul]; norm_num
theorem wEps_eq : wEps = ((eps : ℝ) : EReal) := by
  simp [wEps, eps, Ideal.ofBits, Ideal.ieee, -EReal.coe_mul]; norm_num

theorem eps_pos : 0 < eps := by unfold eps; norm_num

/-- A real number over 1024. -/
theorem div1024 (x : ℝ) : Ideal.div (x : EReal) w1024 = ((x / 1024 : ℝ) : EReal) := by
  rw [w1024_eq, Ideal.div_coe (by norm_num), ← EReal.coe_mul]; congr 1; ring

theorem IsR.div1024 {x : EReal} (hx : IsR x) : IsR (Ideal.div x w1024) := by
  obtain ⟨a, rfl⟩ := hx; exact ⟨_, Norm.div1024 a⟩

abbrev Row := Fin 1024 → EReal

def mean (v : Row) : EReal := Ideal.div (∑ k, v k) w1024
def cen (v : Row) : Row := fun c => v c - mean v
def var (v : Row) : EReal := mean fun k => cen v k * cen v k
def rs (v : Row) : EReal := Ideal.rsqrt (var v + wEps)
/-- The normalised row. -/
def nrm (v : Row) : Row := fun c => cen v c * rs v

/-- The gradient of the normalised row in closed form, from the normalised row `n` and the factor `r` of the scale. -/
def lnBwd (d n : Row) (r : EReal) : Row := fun c => r * (d c - mean d - n c * mean fun k => d k * n k)

/-- The factor of the gradient through the variance, in the chain of derivatives. -/
def vjpQ (v d : Row) : EReal :=
  Ideal.div ((∑ k, cen v k * d k) * (wNegHalf * Ideal.div (rs v) (var v + wEps))) w1024

/-- The gradient of the normalised row by the chain of derivatives: through the centred row, the variance and the mean. -/
def lnVjp (v d : Row) : Row := fun c =>
  (d c * rs v + vjpQ v d * (w2 * cen v c))
    + Ideal.div ((∑ k, -(d k * rs v)) + ∑ k, -(vjpQ v d * (w2 * cen v k))) w1024

theorem IsR.mean {v : Row} (h : ∀ c, IsR (v c)) : IsR (mean v) := (IsR.sum h).div1024
theorem IsR.cen {v : Row} (h : ∀ c, IsR (v c)) (c : Fin 1024) : IsR (cen v c) := (h c).sub (IsR.mean h)

section Real
variable (v d : Fin 1024 → ℝ)

def rmean : ℝ := (∑ k, v k) / 1024
def rcen : Fin 1024 → ℝ := fun c => v c - rmean v
def rvar : ℝ := rmean fun k => rcen v k * rcen v k
def rrs : ℝ := (Real.sqrt (rvar v + eps))⁻¹

theorem mean_coe : mean (fun c => (v c : EReal)) = ((rmean v : ℝ) : EReal) := by
  unfold mean; rw [coe_sum, div1024]; rfl

theorem cen_coe (c : Fin 1024) : cen (fun c => (v c : EReal)) c = ((rcen v c : ℝ) : EReal) := by
  unfold cen; rw [mean_coe, ← EReal.coe_sub]; rfl

theorem var_coe : var (fun c => (v c : EReal)) = ((rvar v : ℝ) : EReal) := by
  unfold var
  simp only [cen_coe, ← EReal.coe_mul]
  exact mean_coe fun k => rcen v k * rcen v k

theorem rvar_nonneg : 0 ≤ rvar v := by
  unfold rvar rmean
  exact div_nonneg (Finset.sum_nonneg fun k _ => mul_self_nonneg _) (by norm_num)

theorem var_eps_coe : var (fun c => (v c : EReal)) + wEps = ((rvar v + eps : ℝ) : EReal) := by
  rw [var_coe, wEps_eq, ← EReal.coe_add]

theorem ve_pos : 0 < rvar v + eps := add_pos_of_nonneg_of_pos (rvar_nonneg v) eps_pos

theorem rs_coe : rs (fun c => (v c : EReal)) = ((rrs v : ℝ) : EReal) := by
  unfold rs
  rw [var_eps_coe, Ideal.rsqrt_coe, if_neg (not_lt.2 (ve_pos v).le), if_neg (ve_pos v).ne']
  rfl

theorem rrs_sq : rrs v * rrs v = 1 / (rvar v + eps) := by
  unfold rrs
  rw [← mul_inv, Real.mul_self_sqrt (ve_pos v).le, one_div]

theorem sum_rcen : ∑ k, rcen v k = 0 := by
  unfold rcen
  rw [Finset.sum_sub_distrib]
  simp [rmean]
  ring

/-- The two gradients of real rows. -/
theorem lnVjp_coe : lnVjp (fun c => (v c : EReal)) (fun c => (d c : EReal))
    = lnBwd (fun c => (d c : EReal)) (nrm fun c => (v c : EReal)) (rs fun c => (v c : EReal)) := by
  funext c
  unfold lnVjp lnBwd vjpQ nrm
  simp only [cen_coe, rs_coe, var_eps_coe, w2_eq, wNegHalf_eq, Ideal.div_coe (ve_pos v).ne', ← EReal.coe_mul,
    ← EReal.coe_neg, coe_sum, ← EReal.coe_add, div1024, mean_coe, ← EReal.coe_sub]
  congr 1
  have h1 : ∀ (a b : ℝ), ∑ k, -(a * (b * rcen v k)) = 0 := fun a b => by
    have : ∀ k, -(a * (b * rcen v k)) = -(a * b) * rcen v k := fun k => by ring
    rw [Finset.sum_congr rfl fun k _ => this k, ← Finset.mul_sum, sum_rcen, mul_zero]
  have h2 : ∑ k, -(d k * rrs v) = -((∑ k, d k) * rrs v) := by
    rw [Finset.sum_neg_distrib, Finset.sum_mul]
  have h3 : ∑ k, d k * (rcen v k * rrs v) = (∑ k, rcen v k * d k) * rrs v := by
    rw [Finset.sum_mul]; exact Finset.sum_congr rfl fun k _ => by ring
  rw [h1, h2]
  unfold rmean
  rw [h3]
  have e : rrs v * (1 / (rvar v + eps)) = rrs v * rrs v * rrs v := by rw [rrs_sq]; ring
  rw [e]
  ring
end Real

theorem IsR.rs {v : Row} (h : ∀ c, IsR (v c)) : IsR (rs v) := by
  choose v' hv using h
  obtain rfl : v = fun c => (v' c : EReal) := funext hv
  exact ⟨_, rs_coe v'⟩

theorem IsR.nrm {v : Row} (h : ∀ c, IsR (v c)) (c : Fin 1024) : IsR (nrm v c) := (IsR.cen h c).mul (IsR.rs h)

theorem IsR.lnBwd {d n : Row} {r : EReal} (hd : ∀ c, IsR (d c)) (hn : ∀ c, IsR (n c)) (hr : IsR r) (c : Fin 1024) :
    IsR (lnBwd d n r c) :=
  hr.mul (((hd c).sub (IsR.mean hd)).sub ((hn c).mul (IsR.mean fun k => (hd k).mul (hn k))))

/-- Of real rows the chain of derivatives gives the closed form. -/
theorem lnVjp_eq {v d : Row} (hv : ∀ c, IsR (v c)) (hd : ∀ c, IsR (d c)) : lnVjp v d = lnBwd d (nrm v) (rs v) := by
  choose v' hv using hv
  choose d' hd using hd
  obtain rfl : v = fun c => (v' c : EReal) := funext hv
  obtain rfl : d = fun c => (d' c : EReal) := funext hd
  exact lnVjp_coe v' d'

end Cert.Norm
-- ==== Proof.MlpSpec.lean ====
/- The perceptron block of the step with its loss and its gradients, one row of 1024 numbers at a time, over the extended
   reals: what every array of the block holds in a row, as a function of that row of the block's input. -/
module

public import proofs.«01_k».proof.Proof.Norm

@[expose] public section

noncomputable section

namespace Cert.MlpSpec

open Idealize.ShloMosaic Cert.Norm

abbrev Wide := Fin 4096 → EReal

/-- The literal that scales the residual. -/
def wAlpha : EReal := Ideal.ofBits FTy.f32 1066940400#32
/-- The literal 1/1024. -/
def wInv : EReal := Ideal.ofBits FTy.f32 981467136#32

theorem wAlpha_real : IsR wAlpha :=
  ⟨9975792 / 2 ^ 23, by simp [wAlpha, Ideal.ofBits, Ideal.ieee, -EReal.coe_mul]; norm_num⟩
theorem wInv_eq : wInv = ((1 / 1024 : ℝ) : EReal) := by
  simp [wInv, Ideal.ofBits, Ideal.ieee, -EReal.coe_mul]; norm_num
theorem wInv_real : IsR wInv := ⟨_, wInv_eq⟩

/-- The block's parameters: scale and shift of the two normalisations, the two matrices. -/
structure Par where
  g1 : Row
  b1 : Row
  wu : Fin 1024 → Wide
  wd : Fin 4096 → Row
  g2 : Row
  b2 : Row

/-- Every parameter is a real number. -/
structure Par.Real (P : Par) : Prop where
  g1 : ∀ c, IsR (P.g1 c)
  b1 : ∀ c, IsR (P.b1 c)
  wu : ∀ c f, IsR (P.wu c f)
  wd : ∀ f c, IsR (P.wd f c)
  g2 : ∀ c, IsR (P.g2 c)
  b2 : ∀ c, IsR (P.b2 c)

variable (P : Par) (v τ : Row)

/-- The block's input after the first normalisation. -/
def x1 : Row := fun c => nrm v c * P.g1 c + P.b1 c
/-- The hidden layer before and after the rectifier, and squared. -/
def pre : Wide := fun f => ∑ c, x1 P v c * P.wu c f
def relu : Wide := fun f => max (pre P v f) 0
def hid : Wide := fun f => relu P v f * relu P v f
/-- The residual sum that the second normalisation takes. -/
def r2 : Row := fun c => wAlpha * x1 P v c + ∑ f, hid P v f * P.wd f c
def n2 : Row := nrm (r2 P v)
/-- The error of the output, and the loss's gradient in the output. -/
def err : Row := fun c => n2 P v c * P.g2 c + P.b2 c - τ c
def dx2 : Row := fun c => err P v τ c * wInv
/-- The gradient in the residual sum. -/
def dr2 : Row := lnBwd (fun c => dx2 P v τ c * P.g2 c) (n2 P v) (rs (r2 P v))
/-- The gradient in the hidden layer before the rectifier. -/
def dpre : Wide := fun f => (∑ c, dr2 P v τ c * P.wd f c) * (w2 * relu P v f)
/-- The gradient in `x1`, and in the block's input. -/
def dx1 : Row := fun c => wAlpha * dr2 P v τ c + ∑ f, dpre P v τ f * P.wu c f
def dr1 : Row := lnBwd (fun c => dx1 P v τ c * P.g1 c) (nrm v) (rs v)

/-- The five rows of sums over the whole sequence, of which a row of the input adds this. -/
def sums (q : Fin 8) : Row := fun c =>
  match q with
  | 0 => err P v τ c * err P v τ c
  | 1 => dx2 P v τ c * n2 P v c
  | 2 => dx2 P v τ c
  | 3 => dx1 P v τ c * nrm v c
  | 4 => dx1 P v τ c
  | _ => 0

variable {P v τ}

theorem x1_real (hP : P.Real) (hv : ∀ c, IsR (v c)) (c : Fin 1024) : IsR (x1 P v c) :=
  ((IsR.nrm hv c).mul (hP.g1 c)).add (hP.b1 c)
theorem relu_real (hP : P.Real) (hv : ∀ c, IsR (v c)) (f : Fin 4096) : IsR (relu P v f) :=
  (IsR.sum fun c => (x1_real hP hv c).mul (hP.wu c f)).max IsR.zero
theorem r2_real (hP : P.Real) (hv : ∀ c, IsR (v c)) (c : Fin 1024) : IsR (r2 P v c) :=
  (wAlpha_real.mul (x1_real hP hv c)).add
    (IsR.sum fun f => ((relu_real hP hv f).mul (relu_real hP hv f)).mul (hP.wd f c))
theorem dx2_real (hP : P.Real) (hv : ∀ c, IsR (v c)) (hτ : ∀ c, IsR (τ c)) (c : Fin 1024) : IsR (dx2 P v τ c) :=
  ((((IsR.nrm (r2_real hP hv) c).mul (hP.g2 c)).add (hP.b2 c)).sub (hτ c)).mul wInv_real
theorem dr2_real (hP : P.Real) (hv : ∀ c, IsR (v c)) (hτ : ∀ c, IsR (τ c)) (c : Fin 1024) : IsR (dr2 P v τ c) :=
  IsR.lnBwd (fun c => (dx2_real hP hv hτ c).mul (hP.g2 c)) (IsR.nrm (r2_real hP hv)) (IsR.rs (r2_real hP hv)) c
theorem dpre_real (hP : P.Real) (hv : ∀ c, IsR (v c)) (hτ : ∀ c, IsR (τ c)) (f : Fin 4096) : IsR (dpre P v τ f) :=
  (IsR.sum fun c => (dr2_real hP hv hτ c).mul (hP.wd f c)).mul (IsR.mul ⟨2, w2_eq⟩ (relu_real hP hv f))
theorem dx1_real (hP : P.Real) (hv : ∀ c, IsR (v c)) (hτ : ∀ c, IsR (τ c)) (c : Fin 1024) : IsR (dx1 P v τ c) :=
  (wAlpha_real.mul (dr2_real hP hv hτ c)).add (IsR.sum fun f => (dpre_real hP hv hτ f).mul (hP.wu c f))

/-- `dr2` by the chain of derivatives. -/
theorem dr2_eq (hP : P.Real) (hv : ∀ c, IsR (v c)) (hτ : ∀ c, IsR (τ c)) :
    lnVjp (r2 P v) (fun c => dx2 P v τ c * P.g2 c) = dr2 P v τ :=
  lnVjp_eq (r2_real hP hv) fun c => (dx2_real hP hv hτ c).mul (hP.g2 c)

/-- `dr1` by the chain of derivatives. -/
theorem dr1_eq (hP : P.Real) (hv : ∀ c, IsR (v c)) (hτ : ∀ c, IsR (τ c)) :
    lnVjp v (fun c => dx1 P v τ c * P.g1 c) = dr1 P v τ :=
  lnVjp_eq hv fun c => (dx1_real hP hv hτ c).mul (hP.g1 c)

end Cert.MlpSpec
-- ==== Proof.MlpRef.lean ====
/- The perceptron block's reference, read one row at a time: each of its arrays at a row is the function of that row of its
   input which MlpSpec names. -/
module

public import proofs.«01_k».proof.Proof.MlpSpec
public import proofs.«01_k».proof.Proof.Gen.MlpReferenceIdeal.Read
public import Idealize.ShloMosaic.Lib.Pointwise

@[expose] public section

set_option maxRecDepth 16384

noncomputable section

namespace Cert.MlpRef

open Cert.MlpReferenceIdeal Cert.MlpReferenceIdeal.Gen Cert.MlpReferenceIdeal.Read Idealize.ShloMosaic Idealize.ShloMosaic.TcCoe
open Cert.Norm Cert.MlpSpec

/-- The parameters that the argument arrays hold. -/
def par (x1 x2 : (⟨S1024, .f32⟩ : BufTy).Contents (Elt Ideal)) (x3 : (⟨S1024x4096, .f32⟩ : BufTy).Contents (Elt Ideal))
    (x4 : (⟨S4096x1024, .f32⟩ : BufTy).Contents (Elt Ideal)) (x5 x6 : (⟨S1024, .f32⟩ : BufTy).Contents (Elt Ideal)) : Par where
  g1 := fun c => x1 (ix1 c)
  b1 := fun c => x2 (ix1 c)
  wu := fun c f => x3 (ix2 c f)
  wd := fun f c => x4 (ix2 f c)
  g2 := fun c => x5 (ix1 c)
  b2 := fun c => x6 (ix1 c)

/-- A row of an array. -/
def row (x : (⟨S8192x1024, .f32⟩ : BufTy).Contents (Elt Ideal)) (i : Fin 8192) : Row := fun c => x (ix2 i c)

variable (x0 : (⟨S8192x1024, .f32⟩ : BufTy).Contents (Elt Ideal)) (x1 x2 : (⟨S1024, .f32⟩ : BufTy).Contents (Elt Ideal))
  (x3 : (⟨S1024x4096, .f32⟩ : BufTy).Contents (Elt Ideal)) (x4 : (⟨S4096x1024, .f32⟩ : BufTy).Contents (Elt Ideal))
  (x5 x6 : (⟨S1024, .f32⟩ : BufTy).Contents (Elt Ideal)) (x7 : (⟨S8192x1024, .f32⟩ : BufTy).Contents (Elt Ideal))

theorem at_v7 (i : Fin 8192) (c : Fin 1024) : val_main_v7 (F := Ideal) x0 (ix2 i c) = cen (row x0 i) c := by
  pointwise [val_main_v7, val_main_v6, val_main_v5, val_main_v4, val_main_v3, val_main_v2, val_main_cst_1, val_main_cst_2]
  rfl

theorem at_v16 (i : Fin 8192) (c : Fin 1024) : val_main_v16 (F := Ideal) x0 (ix2 i c) = cen (row x0 i) c := at_v7 x0 i c

theorem at_v18 (i : Fin 8192) : val_main_v18 (F := Ideal) x0 (ix2 i 0) = var (row x0 i) + wEps := by
  pointwise [val_main_v18, val_main_v17, val_main_v14, val_main_v13, val_main_v12, val_main_v11, val_main_v8, val_main_cst_4,
    val_main_cst_5, val_main_cst_6, at_v7]
  rfl

theorem at_v19 (i : Fin 8192) : val_main_v19 (F := Ideal) x0 (ix2 i 0) = rs (row x0 i) := by
  pointwise [val_main_v19, at_v18]
  rfl

theorem at_v22 (i : Fin 8192) : val_main_v22 (F := Ideal) x0 (ix2 i 0)
    = wNegHalf * Ideal.div (rs (row x0 i)) (var (row x0 i) + wEps) := by
  pointwise [val_main_v22, val_main_v21, val_main_v20, val_main_cst_7, at_v18, at_v19]
  rfl

theorem at_v24 (i : Fin 8192) (c : Fin 1024) : val_main_v24 (F := Ideal) x0 (ix2 i c) = nrm (row x0 i) c := by
  pointwise [val_main_v24, val_main_v23, at_v16, at_v19]
  rfl

theorem at_v30 (i : Fin 8192) (c : Fin 1024) :
    val_main_v30 (F := Ideal) x0 x1 x2 (ix2 i c) = MlpSpec.x1 (par x1 x2 x3 x4 x5 x6) (row x0 i) c := by
  pointwise [val_main_v30, val_main_v29, val_main_v28, val_main_v27, val_main_v26, val_main_v25, at_v24]
  rfl

theorem at_v32 (i : Fin 8192) (f : Fin 4096) :
    val_main_v32 (F := Ideal) x0 x1 x2 x3 (ix2 i f) = pre (par x1 x2 x3 x4 x5 x6) (row x0 i) f := by
  pointwise [val_main_v32, val_main_v31, val_main_v0, val_main_cst, at_v30 x0 x1 x2 x3 x4 x5 x6]
  rfl

theorem at_v33 (i : Fin 8192) (f : Fin 4096) :
    val_main_v33 (F := Ideal) x0 x1 x2 x3 (ix2 i f) = relu (par x1 x2 x3 x4 x5 x6) (row x0 i) f := by
  pointwise [val_main_v33, val_main_call0_v0, val_main_call0_cst, at_v32 x0 x1 x2 x3 x4 x5 x6]
  rfl

theorem at_v37 (i : Fin 8192) (f : Fin 4096) :
    val_main_v37 (F := Ideal) x0 x1 x2 x3 (ix2 i f) = hid (par x1 x2 x3 x4 x5 x6) (row x0 i) f := by
  pointwise [val_main_v37, at_v33 x0 x1 x2 x3 x4 x5 x6]
  rfl

theorem at_v44 (i : Fin 8192) (c : Fin 1024) :
    val_main_v44 (F := Ideal) x0 x1 x2 x3 x4 (ix2 i c) = r2 (par x1 x2 x3 x4 x5 x6) (row x0 i) c := by
  pointwise [val_main_v44, val_main_v43, val_main_v42, val_main_v41, val_main_v40, val_main_v1, val_main_cst_0, val_main_cst_11,
    at_v30 x0 x1 x2 x3 x4 x5 x6, at_v37 x0 x1 x2 x3 x4 x5 x6]
  rfl

theorem at_v50 (i : Fin 8192) (c : Fin 1024) :
    val_main_v50 (F := Ideal) x0 x1 x2 x3 x4 (ix2 i c) = cen (r2 (par x1 x2 x3 x4 x5 x6) (row x0 i)) c := by
  pointwise [val_main_v50, val_main_v49, val_main_v48, val_main_v47, val_main_v46, val_main_v45, val_main_cst_12, val_main_cst_13,
    at_v44 x0 x1 x2 x3 x4 x5 x6]
  rfl

theorem at_v59 (i : Fin 8192) (c : Fin 1024) :
    val_main_v59 (F := Ideal) x0 x1 x2 x3 x4 (ix2 i c) = cen (r2 (par x1 x2 x3 x4 x5 x6) (row x0 i)) c :=
  at_v50 x0 x1 x2 x3 x4 x5 x6 i c

theorem at_v61 (i : Fin 8192) :
    val_main_v61 (F := Ideal) x0 x1 x2 x3 x4 (ix2 i 0) = var (r2 (par x1 x2 x3 x4 x5 x6) (row x0 i)) + wEps := by
  pointwise [val_main_v61, val_main_v60, val_main_v57, val_main_v56, val_main_v55, val_main_v54, val_main_v51, val_main_cst_15,
    val_main_cst_16, val_main_cst_17, at_v50 x0 x1 x2 x3 x4 x5 x6]
  rfl

theorem at_v62 (i : Fin 8192) :
    val_main_v62 (F := Ideal) x0 x1 x2 x3 x4 (ix2 i 0) = rs (r2 (par x1 x2 x3 x4 x5 x6) (row x0 i)) := by
  pointwise [val_main_v62, at_v61 x0 x1 x2 x3 x4 x5 x6]
  rfl

theorem at_v65 (i : Fin 8192) : val_main_v65 (F := Ideal) x0 x1 x2 x3 x4 (ix2 i 0)
    = wNegHalf * Ideal.div (rs (r2 (par x1 x2 x3 x4 x5 x6) (row x0 i))) (var (r2 (par x1 x2 x3 x4 x5 x6) (row x0 i)) + wEps) := by
  pointwise [val_main_v65, val_main_v64, val_main_v63, val_main_cst_18, at_v61 x0 x1 x2 x3 x4 x5 x6, at_v62 x0 x1 x2 x3 x4 x5 x6]
  rfl

theorem at_v67 (i : Fin 8192) (c : Fin 1024) :
    val_main_v67 (F := Ideal) x0 x1 x2 x3 x4 (ix2 i c) = n2 (par x1 x2 x3 x4 x5 x6) (row x0 i) c := by
  pointwise [val_main_v67, val_main_v66, at_v59 x0 x1 x2 x3 x4 x5 x6, at_v62 x0 x1 x2 x3 x4 x5 x6]
  rfl

theorem at_v74 (i : Fin 8192) (c : Fin 1024) : val_main_v74 (F := Ideal) x0 x1 x2 x3 x4 x5 x6 x7 (ix2 i c)
    = err (par x1 x2 x3 x4 x5 x6) (row x0 i) (row x7 i) c := by
  pointwise [val_main_v74, val_main_v73, val_main_v72, val_main_v71, val_main_v70, val_main_v69, val_main_v68,
    at_v67 x0 x1 x2 x3 x4 x5 x6]
  rfl

/-- Half over 1024, times twice a number. -/
theorem half_two (e : EReal) :
    Ideal.div (Ideal.ofBits FTy.f32 1056964608#32) w1024 * (w2 * e) = e * wInv := by
  have h : Ideal.ofBits FTy.f32 1056964608#32 = ((1 / 2 : ℝ) : EReal) := by
    simp [Ideal.ofBits, Ideal.ieee, -EReal.coe_mul]; norm_num
  rw [h, div1024, w2_eq, wInv_eq, ← mul_assoc, ← EReal.coe_mul, mul_comm]
  norm_num

theorem at_v89 (i : Fin 8192) (c : Fin 1024) : val_main_v89 (F := Ideal) x0 x1 x2 x3 x4 x5 x6 x7 (ix2 i c)
    = dx2 (par x1 x2 x3 x4 x5 x6) (row x0 i) (row x7 i) c := by
  pointwise [val_main_v89, val_main_v88, val_main_v87, val_main_v86, val_main_v85, val_main_v84, val_main_v77, val_main_v76,
    val_main_cst_19, val_main_cst_25, val_main_cst_26, val_main_cst_27, at_v74 x0 x1 x2 x3 x4 x5 x6 x7]
  exact half_two _

theorem at_v97 (i : Fin 8192) (c : Fin 1024) : val_main_v97 (F := Ideal) x0 x1 x2 x3 x4 x5 x6 x7 (ix2 i c)
    = dx2 (par x1 x2 x3 x4 x5 x6) (row x0 i) (row x7 i) c * x5 (ix1 c) := by
  pointwise [val_main_v97, val_main_v96, val_main_v68, at_v89 x0 x1 x2 x3 x4 x5 x6 x7]

theorem at_v110 (i : Fin 8192) : val_main_v110 (F := Ideal) x0 x1 x2 x3 x4 x5 x6 x7 (ix1 i)
    = vjpQ (r2 (par x1 x2 x3 x4 x5 x6) (row x0 i)) fun c => dx2 (par x1 x2 x3 x4 x5 x6) (row x0 i) (row x7 i) c * x5 (ix1 c) := by
  pointwise [val_main_v110, val_main_v109, val_main_v108, val_main_v104, val_main_v101, val_main_v100, val_main_v99,
    val_main_cst_32, val_main_cst_34, val_main_cst_35, at_v59 x0 x1 x2 x3 x4 x5 x6, at_v97 x0 x1 x2 x3 x4 x5 x6 x7]
  refine (Fin.sum_univ_one _).trans ?_
  rw [at_v65 x0 x1 x2 x3 x4 x5 x6]
  rfl

theorem at_v122' (i : Fin 8192) (c : Fin 1024) : val_main_v122 (F := Ideal) x0 x1 x2 x3 x4 x5 x6 x7 (ix2 i c)
    = lnVjp (r2 (par x1 x2 x3 x4 x5 x6) (row x0 i)) (fun c => dx2 (par x1 x2 x3 x4 x5 x6) (row x0 i) (row x7 i) c * x5 (ix1 c)) c := by
  pointwise [val_main_v122, val_main_v121, val_main_v120, val_main_v119, val_main_v118, val_main_v117, val_main_v116,
    val_main_v115, val_main_v114, val_main_v113, val_main_v112, val_main_v111, val_main_v107, val_main_v106, val_main_v105,
    val_main_v103, val_main_v102, val_main_v53, val_main_v52, val_main_cst_14, val_main_cst_33, val_main_cst_36,
    val_main_cst_37, val_main_cst_38, at_v50 x0 x1 x2 x3 x4 x5 x6, at_v62 x0 x1 x2 x3 x4 x5 x6, at_v97 x0 x1 x2 x3 x4 x5 x6 x7,
    at_v110 x0 x1 x2 x3 x4 x5 x6 x7]
  exact congrArg (_ + ·) (Fin.sum_univ_one _)

/-- Where the rectifier is zero so is twice its value. -/
theorem sel_relu (p d : EReal) : (if 0 < p then d * (w2 * max p 0) else 0) = d * (w2 * max p 0) := by
  split
  · rfl
  · rename_i h; rw [max_eq_right (not_lt.1 h), mul_zero, mul_zero]

variable {x0 x1 x2 x3 x4 x5 x6 x7} (hP : (par x1 x2 x3 x4 x5 x6).Real) (h0 : ∀ i c, IsR (row x0 i c))
  (h7 : ∀ i c, IsR (row x7 i c))
include hP h0 h7

theorem at_v122 (i : Fin 8192) (c : Fin 1024) : val_main_v122 (F := Ideal) x0 x1 x2 x3 x4 x5 x6 x7 (ix2 i c)
    = dr2 (par x1 x2 x3 x4 x5 x6) (row x0 i) (row x7 i) c := by
  rw [at_v122']
  exact congrFun (dr2_eq hP (h0 i) (h7 i)) c

theorem at_v128 (i : Fin 8192) (f : Fin 4096) : val_main_v128 (F := Ideal) x0 x1 x2 x3 x4 x5 x6 x7 (ix2 i f)
    = dpre (par x1 x2 x3 x4 x5 x6) (row x0 i) (row x7 i) f := by
  pointwise [val_main_v128, val_main_v127, val_main_v126, val_main_v125, val_main_v39, val_main_v38, val_main_v35, val_main_v34,
    val_main_cst_8, val_main_cst_10, val_main_cst_40, at_v122 hP h0 h7, at_v33 x0 x1 x2 x3 x4 x5 x6, at_v32 x0 x1 x2 x3 x4 x5 x6]
  exact sel_relu _ _

theorem at_v130 (i : Fin 8192) (c : Fin 1024) : val_main_v130 (F := Ideal) x0 x1 x2 x3 x4 x5 x6 x7 (ix2 i c)
    = dx1 (par x1 x2 x3 x4 x5 x6) (row x0 i) (row x7 i) c := by
  pointwise [val_main_v130, val_main_v129, val_main_v124, val_main_v123, val_main_cst_39, at_v122 hP h0 h7, at_v128 hP h0 h7]
  rfl

theorem at_v138 (i : Fin 8192) (c : Fin 1024) : val_main_v138 (F := Ideal) x0 x1 x2 x3 x4 x5 x6 x7 (ix2 i c)
    = dx1 (par x1 x2 x3 x4 x5 x6) (row x0 i) (row x7 i) c * x1 (ix1 c) := by
  pointwise [val_main_v138, val_main_v137, val_main_v25, at_v130 hP h0 h7]

theorem at_v151 (i : Fin 8192) : val_main_v151 (F := Ideal) x0 x1 x2 x3 x4 x5 x6 x7 (ix1 i)
    = vjpQ (row x0 i) fun c => dx1 (par x1 x2 x3 x4 x5 x6) (row x0 i) (row x7 i) c * x1 (ix1 c) := by
  pointwise [val_main_v151, val_main_v150, val_main_v149, val_main_v145, val_main_v142, val_main_v141, val_main_v140,
    val_main_cst_45, val_main_cst_47, val_main_cst_48, at_v16 x0, at_v138 hP h0 h7]
  refine (Fin.sum_univ_one _).trans ?_
  rw [at_v22 x0]
  rfl

theorem at_v163 (i : Fin 8192) (c : Fin 1024) : val_main_v163 (F := Ideal) x0 x1 x2 x3 x4 x5 x6 x7 (ix2 i c)
    = dr1 (par x1 x2 x3 x4 x5 x6) (row x0 i) (row x7 i) c := by
  rw [← dr1_eq hP (h0 i) (h7 i)]
  pointwise [val_main_v163, val_main_v162, val_main_v161, val_main_v160, val_main_v159, val_main_v158, val_main_v157,
    val_main_v156, val_main_v155, val_main_v154, val_main_v153, val_main_v152, val_main_v148, val_main_v147, val_main_v146,
    val_main_v144, val_main_v143, val_main_v10, val_main_v9, val_main_cst_3, val_main_cst_46, val_main_cst_49,
    val_main_cst_50, val_main_cst_51, at_v7 x0, at_v19 x0, at_v138 hP h0 h7, at_v151 hP h0 h7]
  exact congrArg (_ + ·) (Fin.sum_univ_one _)

theorem at_v176 (q : Fin 8) (c : Fin 1024) : val_main_v176 (F := Ideal) x0 x1 x2 x3 x4 x5 x6 x7 (ix2 q c)
    = ∑ i, sums (par x1 x2 x3 x4 x5 x6) (row x0 i) (row x7 i) q c := by
  pointwise [val_main_v176, val_main_v175, val_main_v174, val_main_v173, val_main_v172, val_main_v171, val_main_v170,
    val_main_v169, val_main_v139, val_main_v136, val_main_v135, val_main_v134, val_main_v133, val_main_v132, val_main_v131,
    val_main_v98, val_main_v95, val_main_v94, val_main_v93, val_main_v92, val_main_v91, val_main_v90, val_main_v83,
    val_main_v75, val_main_cst_24, val_main_cst_28, val_main_cst_29, val_main_cst_30, val_main_cst_31, val_main_cst_41,
    val_main_cst_42, val_main_cst_43, val_main_cst_44, val_main_cst_52, at_v130 hP h0 h7, at_v24 x0,
    at_v89 x0 x1 x2 x3 x4 x5 x6 x7, at_v67 x0 x1 x2 x3 x4 x5 x6, at_v74 x0 x1 x2 x3 x4 x5 x6 x7]
  fin_vals q with hk
  all_goals simp only [hk, Nat.reduceSub, Nat.reduceLT, ↓reduceDIte]
  · obtain rfl : q = 0 := Fin.ext hk; rfl
  · obtain rfl : q = 1 := Fin.ext hk
    exact (Fin.sum_univ_one _).trans (Finset.sum_congr rfl fun i _ => mul_comm _ _)
  · obtain rfl : q = 2 := Fin.ext hk; exact Fin.sum_univ_one _
  · obtain rfl : q = 3 := Fin.ext hk
    exact (Fin.sum_univ_one _).trans (Finset.sum_congr rfl fun i _ => mul_comm _ _)
  · obtain rfl : q = 4 := Fin.ext hk; exact Fin.sum_univ_one _
  · obtain rfl : q = 5 := Fin.ext hk; exact (Finset.sum_eq_zero fun i _ => rfl).symm
  · obtain rfl : q = 6 := Fin.ext hk; exact (Finset.sum_eq_zero fun i _ => rfl).symm
  · obtain rfl : q = 7 := Fin.ext hk; exact (Finset.sum_eq_zero fun i _ => rfl).symm

end Cert.MlpRef
-- ==== Proof.MlpBlock.lean ====
/- What one grid point of the perceptron kernel computes, over the extended reals: from the blocks of 256 rows that it loads,
   each value it stores is the function of those rows that MlpSpec names. -/
module

public import proofs.«01_k».proof.Proof.MlpSpec
public import proofs.«01_k».proof.Proof.Gen.Mlp.Skeleton
public import Idealize.ShloMosaic.Lib.Pointwise
public import Idealize.ShloMosaic.Lib.Pipeline.ValueKit

@[expose] public section

set_option maxRecDepth 16384

noncomputable section

namespace Cert.MlpBlock

open Cert.Mlp Cert.Mlp.Gen Idealize.ShloMosaic Idealize.ShloMosaic.TcCoe
open Cert.Norm Cert.MlpSpec

/-- A block of 256 rows, of floats of either width: over the extended reals the two hold the same numbers. -/
def arr (f : Fin 256 → Row) : FVec Ideal S256x1024 .f32 := fun i => f (i 0) (i 1)
def arrH (f : Fin 256 → Row) : FVec Ideal S256x1024 .bf16 := fun i => f (i 0) (i 1)
/-- A column of 256 numbers, a single row, a square matrix. -/
def col (f : Fin 256 → EReal) : FVec Ideal S256x1 .f32 := fun i => f (i 0)
def one (f : Row) : FVec Ideal S1x1024 .f32 := fun i => f (i 1)
def mat (f : Fin 1024 → Row) : FVec Ideal S1024x1024 .bf16 := fun i => f (i 0) (i 1)

theorem arr_at (f : Fin 256 → Row) (y : Fin 256) (c : Fin 1024) : arr f (ix2 y c) = f y c := rfl
theorem arrH_at (f : Fin 256 → Row) (y : Fin 256) (c : Fin 1024) : arrH f (ix2 y c) = f y c := rfl
theorem col_at (f : Fin 256 → EReal) (y : Fin 256) : col f (ix2 y 0) = f y := rfl
theorem col_at' (f : Fin 256 → EReal) (y : Fin 256) (z : Fin 1) : col f (ix2 y z) = f y := rfl
theorem one_at (f : Row) (z : Fin 1) (c : Fin 1024) : one f (ix2 z c) = f c := rfl
theorem mat_at (f : Fin 1024 → Row) (a b : Fin 1024) : mat f (ix2 a b) = f a b := rfl

theorem arr_of {A : FVec Ideal S256x1024 .f32} {f : Fin 256 → Row} (h : ∀ y c, A (ix2 y c) = f y c) : A = arr f := by
  funext i; rw [show i = ix2 (i 0) (i 1) from eq_ix2 i]; exact h _ _
theorem arrH_of {A : FVec Ideal S256x1024 .bf16} {f : Fin 256 → Row} (h : ∀ y c, A (ix2 y c) = f y c) : A = arrH f := by
  funext i; rw [show i = ix2 (i 0) (i 1) from eq_ix2 i]; exact h _ _
theorem col_of {A : FVec Ideal S256x1 .f32} {f : Fin 256 → EReal} (h : ∀ y, A (ix2 y 0) = f y) : A = col f := by
  funext i; rw [show i = ix2 (i 0) 0 from (eq_ix2 i).trans (congrArg (ix2 (i 0)) (Fin.fin_one_eq_zero (i 1)))]; exact h _
theorem one_of {A : FVec Ideal S1x1024 .f32} {f : Row} (h : ∀ c, A (ix2 0 c) = f c) : A = one f := by
  funext i; rw [show i = ix2 0 (i 1) from (eq_ix2 i).trans (congrArg (fun z => ix2 z (i 1)) (Fin.fin_one_eq_zero (i 0)))]; exact h _

/-- Column `b` of the `q`-th of the four blocks of hidden columns. -/
def ch (q : Fin 4) (b : Fin 1024) : Fin 4096 := ⟨1024 * q + b, by omega⟩

/-- A sum over the hidden columns, block by block. -/
theorem sum_ch (g : Fin 4096 → EReal) :
    ∑ f, g f = ∑ b, g (ch 0 b) + ∑ b, g (ch 1 b) + ∑ b, g (ch 2 b) + ∑ b, g (ch 3 b) := by
  rw [← (finProdFinEquiv (m := 4) (n := 1024)).sum_comp g, Fintype.sum_prod_type, Fin.sum_univ_four]
  have e : ∀ (q : Fin 4) (b : Fin 1024), (finProdFinEquiv (q, b) : Fin 4096) = ch q b := fun q b => Fin.ext (by
    simp [finProdFinEquiv, ch]; omega)
  simp only [e]

variable (P : Par) (v τ : Fin 256 → Row)

abbrev wuQ (q : Fin 4) := mat fun a b => P.wu a (ch q b)
abbrev wdQ (q : Fin 4) := mat fun a b => P.wd (ch q a) b
abbrev reluQ (q : Fin 4) := arr fun y b => relu P (v y) (ch q b)
abbrev hidQ (q : Fin 4) := arrH fun y b => hid P (v y) (ch q b)
abbrev dpreQ (q : Fin 4) := arrH fun y b => dpre P (v y) (τ y) (ch q b)

/-- The part of the second product, and of the gradient's, that a block of hidden columns adds. -/
def ffQ (q : Fin 4) (w : Row) : Row := fun c => ∑ b, hid P w (ch q b) * P.wd (ch q b) c
def dxQ (q : Fin 4) (w t : Row) : Row := fun c => ∑ b, dpre P w t (ch q b) * P.wu c (ch q b)

theorem pay1 : k0_pay1 (arr fun y => nrm (v y)) = arr fun y => nrm (v y) := arr_of fun y c => by
  pointwise [k0_pay1, arr_at]

theorem pay2 : k0_pay2 (arr fun y => nrm (v y)) (one P.g1) (one P.b1) = arr fun y => x1 P (v y) := arr_of fun y c => by
  pointwise [k0_pay2, k0_pay1, arr_at, one_at]
  rfl

theorem pay3 : k0_pay3 (arr fun y => nrm (v y)) (one P.g1) (one P.b1) = arrH fun y => x1 P (v y) := arrH_of fun y c => by
  pointwise [k0_pay3, pay2 P v, arr_at]

theorem pay4 (q : Fin 4) : k0_pay4 (arr fun y => nrm (v y)) (one P.g1) (one P.b1) (wuQ P q) = reluQ P v q := arr_of fun y c => by
  pointwise [k0_pay4, pay3 P v, arrH_at, mat_at]
  rfl

theorem pay5 (q : Fin 4) : k0_pay5 (arr fun y => nrm (v y)) (one P.g1) (one P.b1) (wuQ P q) = reluQ P v q := arr_of fun y c => by
  pointwise [k0_pay5, pay4 P v, arr_at]

theorem pay6 (q : Fin 4) : k0_pay6 (arr fun y => nrm (v y)) (one P.g1) (one P.b1) (wuQ P q) = hidQ P v q := arrH_of fun y c => by
  pointwise [k0_pay6, pay4 P v, arr_at]
  rfl

theorem pay7 (q : Fin 4) : k0_pay7 (arr fun y => nrm (v y)) (one P.g1) (one P.b1) (wuQ P q) (wdQ P q)
    = arr fun y => ffQ P q (v y) := arr_of fun y c => by
  pointwise [k0_pay7, pay6 P v, arrH_at, mat_at]
  rfl

theorem pay8 (q : Fin 4) : k0_pay8 (arr fun y => nrm (v y)) (one P.g1) (one P.b1) (wuQ P q)
    = arr fun y b => pre P (v y) (ch q b) := arr_of fun y c => by
  pointwise [k0_pay8, pay3 P v, arrH_at, mat_at]
  rfl

theorem pay10 (q : Fin 4) : k0_pay10 (arr fun y b => pre P (v y) (ch q b)) k0_pay9 = reluQ P v q := arr_of fun y c => by
  pointwise [k0_pay10, k0_pay9, arr_at]
  rfl

theorem pay11 (q : Fin 4) : k0_pay11 (arr fun y b => pre P (v y) (ch q b)) k0_pay9 = reluQ P v q := arr_of fun y c => by
  pointwise [k0_pay11, pay10 P v, arr_at]

theorem pay12 (q : Fin 4) : k0_pay12 (arr fun y b => pre P (v y) (ch q b)) k0_pay9 = hidQ P v q := arrH_of fun y c => by
  pointwise [k0_pay12, pay10 P v, arr_at]
  rfl

theorem pay13 (q : Fin 4) : k0_pay13 (arrH fun y => x1 P (v y)) (wuQ P q) = reluQ P v q := arr_of fun y c => by
  pointwise [k0_pay13, arrH_at, mat_at]
  rfl

theorem pay14 (q : Fin 4) : k0_pay14 (arrH fun y => x1 P (v y)) (wuQ P q) = reluQ P v q := arr_of fun y c => by
  pointwise [k0_pay14, pay13 P v, arr_at]

theorem pay15 (q : Fin 4) : k0_pay15 (arrH fun y => x1 P (v y)) (wuQ P q) = hidQ P v q := arrH_of fun y c => by
  pointwise [k0_pay15, pay13 P v, arr_at]
  rfl

theorem pay16 : k0_pay16 (arrH fun y => x1 P (v y)) (arr fun y => ffQ P 0 (v y)) (arr fun y b => pre P (v y) (ch 1 b)) k0_pay9
    (wdQ P 1) (wuQ P 2) (wdQ P 2) = arr fun y c => ffQ P 0 (v y) c + ffQ P 1 (v y) c + ffQ P 2 (v y) c := arr_of fun y c => by
  pointwise [k0_pay16, pay12 P v, pay15 P v, arr_at, arrH_at, mat_at]
  rfl

theorem pay17 (q : Fin 4) : k0_pay17 (arrH fun y => x1 P (v y)) (wuQ P q) = reluQ P v q := arr_of fun y c => by
  pointwise [k0_pay17, arrH_at, mat_at]
  rfl

theorem pay18 (q : Fin 4) : k0_pay18 (reluQ P v q) = reluQ P v q := arr_of fun y c => by
  pointwise [k0_pay18, arr_at]

theorem pay19 (q : Fin 4) : k0_pay19 (reluQ P v q) = hidQ P v q := arrH_of fun y c => by
  pointwise [k0_pay19, arr_at]
  rfl

abbrev ff3 := arr fun y c => ffQ P 0 (v y) c + ffQ P 1 (v y) c + ffQ P 2 (v y) c

theorem r2_ch (w : Row) (c : Fin 1024) :
    wAlpha * x1 P w c + (ffQ P 0 w c + ffQ P 1 w c + ffQ P 2 w c + ∑ b, hid P w (ch 3 b) * P.wd (ch 3 b) c) = r2 P w c := by
  unfold r2; rw [sum_ch]; rfl

theorem pay20 : k0_pay20 (arr fun y => x1 P (v y)) (ff3 P v) (reluQ P v 3) (wdQ P 3) = arr fun y => cen (r2 P (v y)) :=
  arr_of fun y c => by
  pointwise [k0_pay20, pay19 P v, arr_at, arrH_at, mat_at]
  exact congrArg₂ (fun a b => a - Ideal.div b w1024) (r2_ch P (v y) c) (Finset.sum_congr rfl fun x _ => r2_ch P (v y) x)

theorem pay21 : k0_pay21 (arr fun y => x1 P (v y)) (ff3 P v) (reluQ P v 3) (wdQ P 3) = col fun y => rs (r2 P (v y)) :=
  col_of fun y => by
  pointwise [k0_pay21, pay20 P v, arr_at]
  rfl

theorem pay22 : k0_pay22 (arr fun y => x1 P (v y)) (ff3 P v) (reluQ P v 3) (wdQ P 3) = arr fun y => n2 P (v y) :=
  arr_of fun y c => by
  pointwise [k0_pay22, pay20 P v, pay21 P v, arr_at, col_at']
  rfl

theorem pay23 : k0_pay23 (arr fun y => x1 P (v y)) (ff3 P v) (reluQ P v 3) (wdQ P 3) (one P.g2) (one P.b2) (arr τ)
    = arr fun y => err P (v y) (τ y) := arr_of fun y c => by
  pointwise [k0_pay23, pay22 P v, arr_at, one_at]
  rfl

theorem pay24 : k0_pay24 (arr fun y => x1 P (v y)) (ff3 P v) (reluQ P v 3) (wdQ P 3) (one P.g2) (one P.b2) (arr τ)
    = arr fun y => dx2 P (v y) (τ y) := arr_of fun y c => by
  pointwise [k0_pay24, pay23 P v τ, arr_at]
  rfl

theorem pay25 : k0_pay25 (col fun y => rs (r2 P (v y))) (arr fun y => n2 P (v y)) (arr fun y => dx2 P (v y) (τ y)) (one P.g2)
    = arr fun y => dr2 P (v y) (τ y) := arr_of fun y c => by
  pointwise [k0_pay25, arr_at, col_at', one_at]
  rfl

theorem pay26 : k0_pay26 (col fun y => rs (r2 P (v y))) (arr fun y => n2 P (v y)) (arr fun y => dx2 P (v y) (τ y)) (one P.g2)
    = arrH fun y => dr2 P (v y) (τ y) := arrH_of fun y c => by
  pointwise [k0_pay26, pay25 P v τ, arr_at]

theorem pay27 (q : Fin 4) : k0_pay27 (col fun y => rs (r2 P (v y))) (arr fun y => n2 P (v y)) (arr fun y => dx2 P (v y) (τ y))
    (one P.g2) (wdQ P q) (reluQ P v q) = dpreQ P v τ q := arrH_of fun y c => by
  pointwise [k0_pay27, pay26 P v τ, arr_at, arrH_at, mat_at]
  rfl

theorem pay28 (q : Fin 4) : k0_pay28 (col fun y => rs (r2 P (v y))) (arr fun y => n2 P (v y)) (arr fun y => dx2 P (v y) (τ y))
    (one P.g2) (wdQ P q) (reluQ P v q) (wuQ P q)
    = arr fun y c => wAlpha * dr2 P (v y) (τ y) c + dxQ P q (v y) (τ y) c := arr_of fun y c => by
  pointwise [k0_pay28, pay27 P v τ, pay25 P v τ, arr_at, arrH_at, mat_at]
  rfl

theorem pay29 (q : Fin 4) : k0_pay29 (arrH fun y => dr2 P (v y) (τ y)) (wdQ P q) (reluQ P v q) = dpreQ P v τ q :=
  arrH_of fun y c => by
  pointwise [k0_pay29, arr_at, arrH_at, mat_at]
  rfl

theorem pay30 (q : Fin 4) : k0_pay30 (arrH fun y => dr2 P (v y) (τ y)) (wdQ P q) (reluQ P v q) = dpreQ P v τ q :=
  arrH_of fun y c => by
  pointwise [k0_pay30, arr_at, arrH_at, mat_at]
  rfl

abbrev dx3 := arr fun y c =>
  wAlpha * dr2 P (v y) (τ y) c + dxQ P 0 (v y) (τ y) c + dxQ P 1 (v y) (τ y) c + dxQ P 2 (v y) (τ y) c

theorem pay31 : k0_pay31 (arrH fun y => dr2 P (v y) (τ y))
    (arr fun y c => wAlpha * dr2 P (v y) (τ y) c + dxQ P 0 (v y) (τ y) c) (wdQ P 1) (reluQ P v 1) (wuQ P 1)
    (wdQ P 2) (reluQ P v 2) (wuQ P 2) = dx3 P v τ := arr_of fun y c => by
  pointwise [k0_pay31, pay29 P v τ, pay30 P v τ, arr_at, arrH_at, mat_at]
  rfl

abbrev dhQ (q : Fin 4) := arr fun y b => ∑ c, dr2 P (v y) (τ y) c * P.wd (ch q b) c

theorem pay32 (q : Fin 4) : k0_pay32 (arrH fun y => dr2 P (v y) (τ y)) (wdQ P q) = dhQ P v τ q := arr_of fun y c => by
  pointwise [k0_pay32, arrH_at, mat_at]

theorem pay34 (q : Fin 4) : k0_pay34 (dhQ P v τ q) (reluQ P v q) k0_pay33 = dpreQ P v τ q := arrH_of fun y c => by
  pointwise [k0_pay34, k0_pay33, arr_at]
  rfl

theorem dx1_ch (w t : Row) (c : Fin 1024) : wAlpha * dr2 P w t c + dxQ P 0 w t c + dxQ P 1 w t c + dxQ P 2 w t c
    + ∑ b, dpre P w t (ch 3 b) * P.wu c (ch 3 b) = dx1 P w t c := by
  unfold dx1; rw [sum_ch]; simp only [← add_assoc]; rfl

theorem pay35 : k0_pay35 (dx3 P v τ) (dhQ P v τ 3) (reluQ P v 3) k0_pay33 (wuQ P 3) = arr fun y => dx1 P (v y) (τ y) :=
  arr_of fun y c => by
  rw [← dx1_ch]
  pointwise [k0_pay35, pay34 P v τ, arr_at, arrH_at, mat_at]

theorem pay36 : k0_pay36 (arr fun y => nrm (v y)) (dx3 P v τ) (dhQ P v τ 3) (reluQ P v 3) k0_pay33 (wuQ P 3) (one P.g1)
    (col fun y => rs (v y)) = arr fun y => dr1 P (v y) (τ y) := arr_of fun y c => by
  pointwise [k0_pay36, pay35 P v τ, arr_at, col_at', one_at]
  rfl

theorem pay37 : k0_pay37 (arr fun y => nrm (v y)) (dx3 P v τ) (dhQ P v τ 3) (reluQ P v 3) k0_pay33 (wuQ P 3) (one P.g1)
    (col fun y => rs (v y)) = arrH fun y => dr1 P (v y) (τ y) := arrH_of fun y c => by
  pointwise [k0_pay37, pay36 P v τ, arr_at]

variable (u : Row)

theorem pay40 : k0_pay40 (k0_pay39 (arr fun y => err P (v y) (τ y))) (one u)
    = one fun c => u c + ∑ y, sums P (v y) (τ y) 0 c := one_of fun c => by
  pointwise [k0_pay40, k0_pay39, arr_at, one_at]
  rfl
theorem pay41 : k0_pay41 (arr fun y => n2 P (v y)) (arr fun y => dx2 P (v y) (τ y)) (one u)
    = one fun c => u c + ∑ y, sums P (v y) (τ y) 1 c := one_of fun c => by
  pointwise [k0_pay41, arr_at, one_at]
  rfl
theorem pay42 : k0_pay42 (arr fun y => dx2 P (v y) (τ y)) (one u)
    = one fun c => u c + ∑ y, sums P (v y) (τ y) 2 c := one_of fun c => by
  pointwise [k0_pay42, arr_at, one_at]
  rfl
theorem pay43 : k0_pay43 (arr fun y => nrm (v y)) (arr fun y => dx1 P (v y) (τ y)) (one u)
    = one fun c => u c + ∑ y, sums P (v y) (τ y) 3 c := one_of fun c => by
  pointwise [k0_pay43, arr_at, one_at]
  rfl
theorem pay44 : k0_pay44 (arr fun y => dx1 P (v y) (τ y)) (one u)
    = one fun c => u c + ∑ y, sums P (v y) (τ y) 4 c := one_of fun c => by
  pointwise [k0_pay44, arr_at, one_at]
  rfl

end Cert.MlpBlock
-- ==== Proof.MlpIn.lean ====
/- The blocks that a grid point of the perceptron kernel is given: its 256 rows, normalized by the host's lines, and the weights. -/
module

public import proofs.«01_k».proof.Proof.MlpBlock
public import proofs.«01_k».proof.Proof.Gen.Mlp.Value
public import Idealize.ShloMosaic.Lib.StableHlo.ReadAt

@[expose] public section

set_option maxRecDepth 16384

noncomputable section

namespace Cert.MlpArray

open Cert.Mlp Cert.Mlp.Gen Idealize.ShloMosaic Idealize.ShloMosaic.TcCoe
open Cert.Norm Cert.MlpSpec Cert.MlpBlock

variable (m : (ℓ : Loc nD τ sig) → Buf (Elt Ideal) ℓ) (c : Dev nD)

/-- Row `i` of the first argument and of the targets, in the memory `m`. -/
def row0 (i : Fin 8192) : Row := fun k => m ((c : Thread nD τ).loc main_arg0) (ix2 i k)
def row7 (i : Fin 8192) : Row := fun k => m ((c : Thread nD τ).loc main_arg7) (ix2 i k)
/-- The weights in the memory `m`. -/
def par : Par where
  g1 k := m ((c : Thread nD τ).loc main_arg1) (ix1 k)
  b1 k := m ((c : Thread nD τ).loc main_arg2) (ix1 k)
  wu a b := m ((c : Thread nD τ).loc main_arg3) (ix2 a b)
  wd a b := m ((c : Thread nD τ).loc main_arg4) (ix2 a b)
  g2 k := m ((c : Thread nD τ).loc main_arg5) (ix1 k)
  b2 k := m ((c : Thread nD τ).loc main_arg6) (ix1 k)

/-! ## What the host's lines leave before the launch -/

theorem V_n1 (i : Fin 8192) (k : Fin 1024) : V m c main_v15 (ix2 i k) = nrm (row0 m c i) k := by
  unfold V; after_reads_at; rfl
theorem V_rs (i : Fin 8192) (z : Fin 1) : V m c main_v13 (ix2 i z) = rs (row0 m c i) := by
  unfold V; after_reads_at; rfl
theorem V_wu (a : Fin 1024) (b : Fin 4096) : V m c main_v16 (ix2 a b) = (par m c).wu a b := by
  unfold V; after_reads_at; rfl
theorem V_wd (a : Fin 4096) (b : Fin 1024) : V m c main_v17 (ix2 a b) = (par m c).wd a b := by
  unfold V; after_reads_at; rfl
theorem V_g1 (k : Fin 1024) : V m c main_v18 (ix2 0 k) = (par m c).g1 k := by unfold V; after_reads_at; rfl
theorem V_b1 (k : Fin 1024) : V m c main_v19 (ix2 0 k) = (par m c).b1 k := by unfold V; after_reads_at; rfl
theorem V_g2 (k : Fin 1024) : V m c main_v20 (ix2 0 k) = (par m c).g2 k := by unfold V; after_reads_at; rfl
theorem V_b2 (k : Fin 1024) : V m c main_v21 (ix2 0 k) = (par m c).b2 k := by unfold V; after_reads_at; rfl

/-! ## The blocks -/

theorem idxR0 : ∀ t : Fin cfg0.N, win0_0.index t 0 = t ∧ win0_0.index t 1 = 0 := by decide +kernel
theorem idxR1 : ∀ t : Fin cfg0.N, win0_1.index t 0 = t ∧ win0_1.index t 1 = 0 := by decide +kernel
theorem idxR2 : ∀ t : Fin cfg0.N, win0_2.index t 0 = t ∧ win0_2.index t 1 = 0 := by decide +kernel
theorem idxW3 : ∀ t : Fin cfg0.N, win0_3.index t 0 = 0 ∧ win0_3.index t 1 = 0 := by decide +kernel
theorem idxW4 : ∀ t : Fin cfg0.N, win0_4.index t 0 = 0 ∧ win0_4.index t 1 = 0 := by decide +kernel
theorem idxW5 : ∀ t : Fin cfg0.N, win0_5.index t 0 = 0 ∧ win0_5.index t 1 = 0 := by decide +kernel
theorem idxW6 : ∀ t : Fin cfg0.N, win0_6.index t 0 = 0 ∧ win0_6.index t 1 = 0 := by decide +kernel
theorem idxW7 : ∀ t : Fin cfg0.N, win0_7.index t 0 = 0 ∧ win0_7.index t 1 = 0 := by decide +kernel
theorem idxW8 : ∀ t : Fin cfg0.N, win0_8.index t 0 = 0 ∧ win0_8.index t 1 = 0 := by decide +kernel

variable (t : Fin cfg0.N)

/-- The row of the whole array that row `y` of point `t`'s block is. -/
def rowAt (y : Fin 256) : Fin 8192 := ⟨256 * t + y, by have := t.isLt; have : cfg0.N = 32 := rfl; omega⟩
abbrev vR : Fin 256 → Row := fun y => row0 m c (rowAt t y)
abbrev tR : Fin 256 → Row := fun y => row7 m c (rowAt t y)

theorem in0 : iblk m c 0 t = arr fun y => nrm (vR m c t y) := arr_of fun y k => by
  refine Eq.trans (?_ : _ = V m c main_v15 (ix2 (rowAt t y) k)) (V_n1 m c _ _)
  blk_ext [iblk, rowAt, idxR0 t]
theorem in1 : iblk m c 1 t = col fun y => rs (vR m c t y) := col_of fun y => by
  refine Eq.trans (?_ : _ = V m c main_v13 (ix2 (rowAt t y) 0)) (V_rs m c _ _)
  blk_ext [iblk, rowAt, idxR1 t]
theorem in2 : iblk m c 2 t = arr fun y => tR m c t y := arr_of fun y k => by
  blk_ext [iblk, V, rowAt, row7, idxR2 t]
theorem in5 : iblk m c 5 t = one (par m c).g1 := one_of fun k => by
  refine Eq.trans (?_ : _ = V m c main_v18 (ix2 0 k)) (V_g1 m c _)
  blk_ext [iblk, idxW5 t]
theorem in6 : iblk m c 6 t = one (par m c).b1 := one_of fun k => by
  refine Eq.trans (?_ : _ = V m c main_v19 (ix2 0 k)) (V_b1 m c _)
  blk_ext [iblk, idxW6 t]
theorem in7 : iblk m c 7 t = one (par m c).g2 := one_of fun k => by
  refine Eq.trans (?_ : _ = V m c main_v20 (ix2 0 k)) (V_g2 m c _)
  blk_ext [iblk, idxW7 t]
theorem in8 : iblk m c 8 t = one (par m c).b2 := one_of fun k => by
  refine Eq.trans (?_ : _ = V m c main_v21 (ix2 0 k)) (V_b2 m c _)
  blk_ext [iblk, idxW8 t]

theorem in3_at (a : Fin 1024) (b : Fin 4096) : iblk m c 3 t (ix2 a b) = (par m c).wu a b := by
  refine Eq.trans (?_ : _ = V m c main_v16 (ix2 a b)) (V_wu m c _ _)
  blk_ext [iblk, idxW3 t]
theorem in4_at (a : Fin 4096) (b : Fin 1024) : iblk m c 4 t (ix2 a b) = (par m c).wd a b := by
  refine Eq.trans (?_ : _ = V m c main_v17 (ix2 a b)) (V_wd m c _ _)
  blk_ext [iblk, idxW4 t]

/-- The kernel loads the weights in four square parts. -/
theorem mat_of {A : FVec Ideal S1024x1024 .bf16} {f : Fin 1024 → Row} (h : ∀ y k, A (ix2 y k) = f y k) : A = mat f := by
  funext i; rw [show i = ix2 (i 0) (i 1) from eq_ix2 i]; exact h _ _

theorem ld3 (o : Fin 2 → ℕ) (q : Fin 4) (h0 : o 0 = 0) (h1 : o 1 = 1024 * q) (inb) :
    View.ld (iblk m c 3 t) (Rect.unit (s := S1024x4096) o ![1024, 1024] inb) = wuQ (par m c) q := mat_of fun a b =>
  (View.ld_unit_apply_of (iblk m c 3 t) o ![1024, 1024] inb (ix2 a b) (ix2 a (ch q b)) (fun d => by
    revert d; exact Fin.forall_fin_two.2 ⟨by simp [h0], by simp [h1, ch]⟩)).trans (in3_at m c t _ _)
theorem ld4 (o : Fin 2 → ℕ) (q : Fin 4) (h0 : o 0 = 1024 * q) (h1 : o 1 = 0) (inb) :
    View.ld (iblk m c 4 t) (Rect.unit (s := S4096x1024) o ![1024, 1024] inb) = wdQ (par m c) q := mat_of fun a b =>
  (View.ld_unit_apply_of (iblk m c 4 t) o ![1024, 1024] inb (ix2 a b) (ix2 (ch q a) b) (fun d => by
    revert d; exact Fin.forall_fin_two.2 ⟨by simp [h0, ch], by simp [h1]⟩)).trans (in4_at m c t _ _)

end Cert.MlpArray
-- ==== Proof.Rows.lean ====
/- Writing one row at a time into an array of a few rows of 1024 columns, and reading such a row. -/
module

public import Idealize.ShloMosaic.Lib.Pointwise
public import Idealize.ShloMosaic.Lib.WritesUnit
public import Idealize.ShloMosaic.Lib.VecWindow
public import Idealize.ShloMosaic.Lib.Pipeline.FrameBody
public import Idealize.ShloMosaic.Lib.Pipeline.ValueKit

@[expose] public section

namespace Cert.Rows

open Idealize.ShloMosaic

variable {R : ℕ} {Val : EltTy → Type} {e : EltTy} [∀ e, Nonempty (Val e)]

/-- After a write of row `j`, the newest of the list, row `j` holds what was written and the others what they held. -/
theorem canon_row (j : Fin R) (off : Fin 2 → ℕ) (h0 : off 0 = j) (h1 : off 1 = 0) (inb)
    (w : (⟨2, ![1, 1024]⟩ : Shape).Idx → Val e) (L : List (View.Piece Val (⟨2, ![R, 1024]⟩ : Shape) e)) (q : Fin R) (k : Fin 1024) :
    View.canon ((⟨Rect.unit (s := ⟨2, ![R, 1024]⟩) off ![1, 1024] inb, w⟩ : View.Piece Val _ e) :: L) (ix2 q k)
      = if q = j then w (ix2 0 k) else View.canon L (ix2 q k) := by
  by_cases hq : q = j
  · rw [if_pos hq]
    have hy : (Rect.unit (s := ⟨2, ![R, 1024]⟩) off ![1, 1024] inb).emb (ix2 0 k) = ix2 q k := funext fun a => Fin.ext (by
      show off a + 1 * _ = _
      revert a; exact Fin.forall_fin_two.2 ⟨by simp [h0, hq], by simp [h1]⟩)
    rw [← hy]
    exact View.canon_cons_emb (Rect.unit (s := ⟨2, ![R, 1024]⟩) off ![1, 1024] inb) w L (ix2 0 k)
  · rw [if_neg hq]
    refine View.canon_cons_of_not_mem _ _ fun hm => hq ?_
    have := (Rect.mem_set_unit (inb := inb)).1 hm (0 : Fin 2)
    rw [h0] at this
    have h2 : (j : ℕ) ≤ q ∧ (q : ℕ) < j + 1 := this
    exact Fin.ext (by omega)

theorem canon_all (off : Fin 2 → ℕ) (h : ∀ a, off a = 0) (inb)
    (w : (⟨2, ![R, 1024]⟩ : Shape).Idx → Val e) (L : List (View.Piece Val (⟨2, ![R, 1024]⟩ : Shape) e)) :
    View.canon ((⟨Rect.unit (s := ⟨2, ![R, 1024]⟩) off ![R, 1024] inb, w⟩ : View.Piece Val _ e) :: L) = w :=
  View.canon_cons_unit_lit inb w L h

variable {sig : RefSig} {κ : Kind} {sp : Space}

theorem read_row (v : View sig κ sp (⟨2, ![R, 1024]⟩ : Shape) e) (f : v.ty.Contents Val) (j : Fin R) (off : Fin 2 → ℕ)
    (h0 : off 0 = j) (h1 : off 1 = 0) (inb)
    (w : (⟨2, ![1, 1024]⟩ : Shape).Idx → Val e) (L : List (View.Piece Val (⟨2, ![R, 1024]⟩ : Shape) e)) (q : Fin R) (k : Fin 1024) :
    v.read Val (v.writes Val f ((⟨Rect.unit (s := ⟨2, ![R, 1024]⟩) off ![1, 1024] inb, w⟩ : View.Piece Val _ e) :: L)) (ix2 q k)
      = if q = j then w (ix2 0 k) else v.read Val (v.writes Val f L) (ix2 q k) := by
  by_cases hq : q = j
  · rw [if_pos hq]
    exact View.read_writes_cons_unit_of_mem v f inb w L _ (ix2 0 k) rfl
      (Fin.forall_fin_two.2 ⟨by simp [h0, hq], by simp [h1]⟩)
  · rw [if_neg hq]
    refine View.read_writes_cons_unit_of_not_mem v f inb w L _ rfl 0 ?_
    have : (q : ℕ) ≠ j := fun e => hq (Fin.ext e)
    simp [h0]; omega

/-- The load of row `j`. -/
theorem ld_row (X : (⟨2, ![R, 1024]⟩ : Shape).Idx → Val e) (j : Fin R) (off : Fin 2 → ℕ) (h0 : off 0 = j) (h1 : off 1 = 0) (inb) :
    View.ld X (Rect.unit (s := ⟨2, ![R, 1024]⟩) off ![1, 1024] inb) = fun i => X (ix2 j (i 1)) := by
  funext i
  refine View.ld_unit_apply_of X off ![1, 1024] inb i (ix2 j (i 1)) fun a => ?_
  have z : ((i 0 : Fin 1) : ℕ) = 0 := congrArg Fin.val (Fin.fin_one_eq_zero (i 0))
  revert a
  refine Fin.forall_fin_two.2 ⟨?_, ?_⟩
  · rw [h0]
    exact (congrArg (j.val + ·) z).symm
  · rw [h1]; exact (Nat.zero_add _).symm

/-- The load of a whole block. -/
theorem readAt_all {n k : ℕ} (v : View sig κ sp (⟨2, ![n, k]⟩ : Shape) e) (f : v.ty.Contents Val) (inb) :
    v.readAt Val (Rect.unit (s := ⟨2, ![n, k]⟩) ![0, 0] ![n, k] inb).toLoadRect f = v.read Val f :=
  View.readAt_full v f inb

/-- Row `j`, by itself. -/
def row (X : (⟨2, ![R, 1024]⟩ : Shape).Idx → Val e) (j : Fin R) : (⟨2, ![1, 1024]⟩ : Shape).Idx → Val e := fun i => X (ix2 j (i 1))

/-- The load of row `j` of any contents. -/
theorem readAt_row (v : View sig κ sp (⟨2, ![R, 1024]⟩ : Shape) e) (f : v.ty.Contents Val) (j : Fin R) (off : Fin 2 → ℕ)
    (h0 : off 0 = j) (h1 : off 1 = 0) (inb) :
    v.readAt Val (Rect.unit (s := ⟨2, ![R, 1024]⟩) off ![1, 1024] inb).toLoadRect f = row (v.read Val f) j :=
  (View.readAt_eq_ld v f _).trans (ld_row _ j off h0 h1 inb)

/-- Row `q` after a write of another row. -/
theorem row_write (v : View sig κ sp (⟨2, ![R, 1024]⟩ : Shape) e) (f : v.ty.Contents Val) (j : Fin R) (off : Fin 2 → ℕ)
    (h0 : off 0 = j) (h1 : off 1 = 0) (inb)
    (w : (⟨2, ![1, 1024]⟩ : Shape).Idx → Val e) (L : List (View.Piece Val (⟨2, ![R, 1024]⟩ : Shape) e)) (q : Fin R) (h : q ≠ j) :
    row (v.read Val (v.writes Val f ((⟨Rect.unit (s := ⟨2, ![R, 1024]⟩) off ![1, 1024] inb, w⟩ : View.Piece Val _ e) :: L))) q
      = row (v.read Val (v.writes Val f L)) q :=
  funext fun i => (read_row v f j off h0 h1 inb w L q (i 1)).trans (if_neg h)

/-- A block stored whole, read back. -/
theorem read_all {n k : ℕ} (v : View sig κ sp (⟨2, ![n, k]⟩ : Shape) e) (f : v.ty.Contents Val) (inb)
    (w : (⟨2, ![n, k]⟩ : Shape).Idx → Val e) (L : List (View.Piece Val (⟨2, ![n, k]⟩ : Shape) e)) :
    v.read Val (v.writes Val f ((⟨Rect.unit (s := ⟨2, ![n, k]⟩) ![0, 0] ![n, k] inb, w⟩ : View.Piece Val _ e) :: L)) = w :=
  View.read_writes_full v f inb w L

/-- The choice among three rows and the rest. -/
def sel {α : Type*} (q : Fin 8) (a0 a1 a2 r : α) : α := if q = 2 then a2 else if q = 1 then a1 else if q = 0 then a0 else r

/-- Eight rows: the first three given, the others of `y`. -/
def rows3 {α : Type*} (w0 w1 w2 : (⟨2, ![1, 1024]⟩ : Shape).Idx → α) (y : (⟨2, ![8, 1024]⟩ : Shape).Idx → α) :
    (⟨2, ![8, 1024]⟩ : Shape).Idx → α := fun j => sel (j 0) (w0 (ix2 0 (j 1))) (w1 (ix2 0 (j 1))) (w2 (ix2 0 (j 1))) (y j)

/-- Rows 0, 1 and 2 written over a block of eight rows that reads `y`. -/
theorem three_rows (v : View sig κ sp (⟨2, ![8, 1024]⟩ : Shape) e) (f : v.ty.Contents Val) (i0 i1 i2)
    (w0 w1 w2 : (⟨2, ![1, 1024]⟩ : Shape).Idx → Val e) (L : List (View.Piece Val (⟨2, ![8, 1024]⟩ : Shape) e))
    (y : (⟨2, ![8, 1024]⟩ : Shape).Idx → Val e) (h : v.read Val (v.writes Val f L) = y) :
    v.read Val (v.writes Val f ((⟨Rect.unit (s := ⟨2, ![8, 1024]⟩) ![2, 0] ![1, 1024] i2, w2⟩ : View.Piece Val (⟨2, ![8, 1024]⟩ : Shape) e) ::
      (⟨Rect.unit (s := ⟨2, ![8, 1024]⟩) ![1, 0] ![1, 1024] i1, w1⟩ : View.Piece Val (⟨2, ![8, 1024]⟩ : Shape) e) :: (⟨Rect.unit (s := ⟨2, ![8, 1024]⟩) ![0, 0] ![1, 1024] i0, w0⟩ : View.Piece Val (⟨2, ![8, 1024]⟩ : Shape) e) :: L)) = rows3 w0 w1 w2 y := by
  subst h
  have key : ∀ (q : Fin 8) (k : Fin 1024), v.read Val (v.writes Val f ((⟨Rect.unit (s := ⟨2, ![8, 1024]⟩) ![2, 0] ![1, 1024] i2, w2⟩ : View.Piece Val (⟨2, ![8, 1024]⟩ : Shape) e) ::
      (⟨Rect.unit (s := ⟨2, ![8, 1024]⟩) ![1, 0] ![1, 1024] i1, w1⟩ : View.Piece Val (⟨2, ![8, 1024]⟩ : Shape) e) :: (⟨Rect.unit (s := ⟨2, ![8, 1024]⟩) ![0, 0] ![1, 1024] i0, w0⟩ : View.Piece Val (⟨2, ![8, 1024]⟩ : Shape) e) :: L)) (ix2 q k)
      = sel q (w0 (ix2 0 k)) (w1 (ix2 0 k)) (w2 (ix2 0 k)) (v.read Val (v.writes Val f L) (ix2 q k)) :=
    fun q k => by
      rw [read_row (R := 8) v f 2 ![2, 0] rfl rfl, read_row (R := 8) v f 1 ![1, 0] rfl rfl, read_row (R := 8) v f 0 ![0, 0] rfl rfl]
      rfl
  refine funext fun j => (congrArg _ (eq_ix2 j)).trans ((key (j 0) (j 1)).trans ?_)
  exact congrArg (fun z => sel (j 0) (w0 (ix2 0 (j 1))) (w1 (ix2 0 (j 1))) (w2 (ix2 0 (j 1))) (v.read Val (v.writes Val f L) z)) (eq_ix2 j).symm

end Cert.Rows
-- ==== Proof.MlpOut.lean ====
/- What each grid point of the perceptron kernel leaves in the blocks of its results: the functions of its rows. -/
module

public import proofs.«01_k».proof.Proof.MlpIn
public import proofs.«01_k».proof.Proof.Rows
public import Idealize.ShloMosaic.Lib.Pipeline.ReadBack

@[expose] public section

set_option maxRecDepth 16384

noncomputable section

namespace Cert.MlpArray

open Cert.Mlp Cert.Mlp.Gen Idealize.ShloMosaic Idealize.ShloMosaic.TcCoe
open Cert.Norm Cert.MlpSpec Cert.MlpBlock

variable (m : (ℓ : Loc nD τ sig) → Buf (Elt Ideal) ℓ) (c : Dev nD) (t : Fin cfg0.N)

theorem l30 : View.ld (iblk m c 3 t) (Rect.unit ![0, 0] ![1024, 1024] inb_S1024x4096_S1024x1024_0_0) = wuQ (par m c) 0 :=
  ld3 m c t _ 0 rfl rfl _
theorem l31 : View.ld (iblk m c 3 t) (Rect.unit ![0, 1024] ![1024, 1024] inb_S1024x4096_S1024x1024_0_1024) = wuQ (par m c) 1 :=
  ld3 m c t _ 1 rfl rfl _
theorem l32 : View.ld (iblk m c 3 t) (Rect.unit ![0, 2048] ![1024, 1024] inb_S1024x4096_S1024x1024_0_2048) = wuQ (par m c) 2 :=
  ld3 m c t _ 2 rfl rfl _
theorem l33 : View.ld (iblk m c 3 t) (Rect.unit ![0, 3072] ![1024, 1024] inb_S1024x4096_S1024x1024_0_3072) = wuQ (par m c) 3 :=
  ld3 m c t _ 3 rfl rfl _
theorem l40 : View.ld (iblk m c 4 t) (Rect.unit ![0, 0] ![1024, 1024] inb_S4096x1024_S1024x1024_0_0) = wdQ (par m c) 0 :=
  ld4 m c t _ 0 rfl rfl _
theorem l41 : View.ld (iblk m c 4 t) (Rect.unit ![1024, 0] ![1024, 1024] inb_S4096x1024_S1024x1024_1024_0) = wdQ (par m c) 1 :=
  ld4 m c t _ 1 rfl rfl _
theorem l42 : View.ld (iblk m c 4 t) (Rect.unit ![2048, 0] ![1024, 1024] inb_S4096x1024_S1024x1024_2048_0) = wdQ (par m c) 2 :=
  ld4 m c t _ 2 rfl rfl _
theorem l43 : View.ld (iblk m c 4 t) (Rect.unit ![3072, 0] ![1024, 1024] inb_S4096x1024_S1024x1024_3072_0) = wdQ (par m c) 3 :=
  ld4 m c t _ 3 rfl rfl _

theorem out9 : (outsAt0 m c t.val t.isLt).1 = arrH fun y => x1 (par m c) (vR m c t y) := by
  by_cases h : t.val % 32 = 0
  · rw [outsAt0_A m c t h]; frame_out
    simp only [in0, in5, in6, pay3]
  · rw [outsAt0_B m c t h]; frame_out
    simp only [in0, in5, in6, pay3]

theorem out12 : (outsAt0 m c t.val t.isLt).2.2.2.1 = arrH fun y => dr2 (par m c) (vR m c t y) (tR m c t y) := by
  by_cases h : t.val % 32 = 0
  on_goal 1 => rw [outsAt0_A m c t h]
  on_goal 2 => rw [outsAt0_B m c t h]
  all_goals
    frame_out
    simp only [in0, in1, in2, in5, in6, in7, in8, l30, l31, l32, l33, l40, l41, l42, l43, pay1, pay2, pay3, pay4, pay5, pay6,
      pay7, pay8, pay10, pay11, pay12, pay13, pay14, pay15, pay16, pay17, pay18, pay19, pay20, pay21, pay22, pay23, pay24, pay25,
      pay26, pay27, pay28, pay29, pay30, pay31, pay32, pay34, pay35, pay36, pay37]

theorem out13 : (outsAt0 m c t.val t.isLt).2.2.2.2.1 = arr fun y => dr1 (par m c) (vR m c t y) (tR m c t y) := by
  by_cases h : t.val % 32 = 0
  on_goal 1 => rw [outsAt0_A m c t h]
  on_goal 2 => rw [outsAt0_B m c t h]
  all_goals
    frame_out
    simp (disch := decide) only [↓ View.readCov_skip, ↓ View.readCov_cons_toLoadRect, ↓ View.readCov_fill]
    simp only [in0, in1, in2, in5, in6, in7, in8, l30, l31, l32, l33, l40, l41, l42, l43, pay1, pay2, pay3, pay4, pay5, pay6,
      pay7, pay8, pay10, pay11, pay12, pay13, pay14, pay15, pay16, pay17, pay18, pay19, pay20, pay21, pay22, pay23, pay24, pay25,
      pay26, pay27, pay28, pay29, pay30, pay31, pay32, pay34, pay35, pay36, pay37]

theorem out14 : (outsAt0 m c t.val t.isLt).2.2.2.2.2.1 = arrH fun y => dr1 (par m c) (vR m c t y) (tR m c t y) := by
  by_cases h : t.val % 32 = 0
  on_goal 1 => rw [outsAt0_A m c t h]
  on_goal 2 => rw [outsAt0_B m c t h]
  all_goals
    frame_out
    simp (disch := decide) only [↓ View.readCov_skip, ↓ View.readCov_cons_toLoadRect, ↓ View.readCov_fill]
    simp only [in0, in1, in2, in5, in6, in7, in8, l30, l31, l32, l33, l40, l41, l42, l43, pay1, pay2, pay3, pay4, pay5, pay6,
      pay7, pay8, pay10, pay11, pay12, pay13, pay14, pay15, pay16, pay17, pay18, pay19, pay20, pay21, pay22, pay23, pay24, pay25,
      pay26, pay27, pay28, pay29, pay30, pay31, pay32, pay34, pay35, pay36, pay37]

/-- A block of 256 rows of hidden columns. -/
def wide (f : Fin 256 → Wide) : FVec Ideal S256x4096 .bf16 := fun i => f (i 0) (i 1)

/-- The hidden columns that a block of them holds, at their places in the whole array. -/
theorem hid_at (q : Fin 4) (x : S256x1024.Idx) (y : Fin 256) (f : Fin 4096) (h0 : (y : ℕ) = ((x 0 : Fin 256) : ℕ))
    (h1 : (f : ℕ) = 1024 * q + ((x 1 : Fin 1024) : ℕ)) : hidQ (par m c) (vR m c t) q x = hid (par m c) (vR m c t y) f := by
  have e0 : (x 0 : Fin 256) = y := Fin.ext (by omega)
  have e1 : ch q (x 1 : Fin 1024) = f := Fin.ext (by simp only [ch]; omega)
  rw [← e0, ← e1]; rfl
theorem dpre_at (q : Fin 4) (x : S256x1024.Idx) (y : Fin 256) (f : Fin 4096) (h0 : (y : ℕ) = ((x 0 : Fin 256) : ℕ))
    (h1 : (f : ℕ) = 1024 * q + ((x 1 : Fin 1024) : ℕ)) :
    dpreQ (par m c) (vR m c t) (tR m c t) q x = dpre (par m c) (vR m c t y) (tR m c t y) f := by
  have e0 : (x 0 : Fin 256) = y := Fin.ext (by omega)
  have e1 : ch q (x 1 : Fin 1024) = f := Fin.ext (by simp only [ch]; omega)
  rw [← e0, ← e1]; rfl

theorem out10 (y : Fin 256) (f : Fin 4096) : (outsAt0 m c t.val t.isLt).2.1 (ix2 y f) = hid (par m c) (vR m c t y) f := by
  by_cases h : t.val % 32 = 0
  on_goal 1 => rw [outsAt0_A m c t h]
  on_goal 2 => rw [outsAt0_B m c t h]
  all_goals
    frame_out
    simp only [in0, in1, in2, in5, in6, in7, in8, l30, l31, l32, l33, l40, l41, l42, l43, pay1, pay2, pay3, pay4, pay5, pay6,
      pay7, pay8, pay10, pay11, pay12, pay13, pay14, pay15, pay16, pay17, pay18, pay19, pay20, pay21, pay22, pay23, pay24, pay25,
      pay26, pay27, pay28, pay29, pay30, pay31, pay32, pay34, pay35, pay36, pay37]
    canon_tiles x h
    · exact hid_at m c t 3 x y f h0 h1
    · exact hid_at m c t 2 x y f h0 h1
    · exact hid_at m c t 1 x y f h0 h1
    · exact hid_at m c t 0 x y f h0 (h1.trans (Nat.zero_add _).symm)

theorem out11 (y : Fin 256) (f : Fin 4096) : (outsAt0 m c t.val t.isLt).2.2.1 (ix2 y f) = dpre (par m c) (vR m c t y) (tR m c t y) f := by
  by_cases h : t.val % 32 = 0
  on_goal 1 => rw [outsAt0_A m c t h]
  on_goal 2 => rw [outsAt0_B m c t h]
  all_goals
    frame_out
    simp (disch := decide) only [↓ View.readCov_skip, ↓ View.readCov_cons_toLoadRect, ↓ View.readCov_fill]
    simp only [in0, in1, in2, in5, in6, in7, in8, l30, l31, l32, l33, l40, l41, l42, l43, pay1, pay2, pay3, pay4, pay5, pay6,
      pay7, pay8, pay10, pay11, pay12, pay13, pay14, pay15, pay16, pay17, pay18, pay19, pay20, pay21, pay22, pay23, pay24, pay25,
      pay26, pay27, pay28, pay29, pay30, pay31, pay32, pay34, pay35, pay36, pay37]
    canon_tiles x h
    · exact dpre_at m c t 3 x y f h0 h1
    · exact dpre_at m c t 2 x y f h0 h1
    · exact dpre_at m c t 1 x y f h0 h1
    · exact dpre_at m c t 0 x y f h0 (h1.trans (Nat.zero_add _).symm)

/-! ## The sums that the points add up -/

/-- What point `t` adds to row `q` of the sums. -/
def term (t : Fin cfg0.N) (q : Fin 8) (k : Fin 1024) : EReal := ∑ y, sums (par m c) (vR m c t y) (tR m c t y) q k

theorem sums_cases (P : Par) (v τ : Fin 256 → Row) (X : S8x1024.Idx → EReal) (q : Fin 8) (k : Fin 1024) :
    (if q = 4 then one (fun k => X (ix2 4 k) + ∑ y, sums P (v y) (τ y) 4 k) (ix2 0 k)
      else if q = 3 then one (fun k => X (ix2 3 k) + ∑ y, sums P (v y) (τ y) 3 k) (ix2 0 k)
      else if q = 2 then one (fun k => X (ix2 2 k) + ∑ y, sums P (v y) (τ y) 2 k) (ix2 0 k)
      else if q = 1 then one (fun k => X (ix2 1 k) + ∑ y, sums P (v y) (τ y) 1 k) (ix2 0 k)
      else if q = 0 then one (fun k => X (ix2 0 k) + ∑ y, sums P (v y) (τ y) 0 k) (ix2 0 k)
      else X (ix2 q k)) = X (ix2 q k) + ∑ y, sums P (v y) (τ y) q k := by
  fin_cases q <;> first | rfl | exact ((congrArg (_ + ·) Finset.sum_const_zero).trans (add_zero _)).symm

theorem ld15 (X : FVec Ideal S8x1024 .f32) (j : Fin 8) (off : Fin 2 → ℕ) (h0 : off 0 = j) (h1 : off 1 = 0) (inb) :
    View.ld (Val := Elt Ideal) (e' := .f32) X (Rect.unit (s := S8x1024) off ![1, 1024] inb) = one fun k => X (ix2 j k) :=
  Rows.ld_row (Val := Elt Ideal) (e := .f32) X j off h0 h1 inb

theorem out15_A (h : t.val % 32 = 0) (q : Fin 8) (k : Fin 1024) :
    (outsAt0 m c t.val t.isLt).2.2.2.2.2.2 (ix2 q k) = 0 + term m c t q k := by
  rw [outsAt0_A m c t h]
  frame_out
  simp (disch := decide) only [↓ View.readCov_skip, ↓ View.readCov_cons_toLoadRect, ↓ View.readCov_fill]
  simp only [in0, in1, in2, in5, in6, in7, in8, l30, l31, l32, l33, l40, l41, l42, l43, pay1, pay2, pay3, pay4, pay5, pay6,
      pay7, pay8, pay10, pay11, pay12, pay13, pay14, pay15, pay16, pay17, pay18, pay19, pay20, pay21, pay22, pay23, pay24, pay25,
      pay26, pay27, pay28, pay29, pay30, pay31, pay32, pay34, pay35, pay36, pay37]
  simp only [ld15 _ 0 ![0, 0] rfl rfl, ld15 _ 1 ![1, 0] rfl rfl, ld15 _ 2 ![2, 0] rfl rfl, ld15 _ 3 ![3, 0] rfl rfl, ld15 _ 4 ![4, 0] rfl rfl, pay40, pay41, pay42, pay43, pay44]
  rw [Rows.canon_row (R := 8) 4 ![4, 0] rfl rfl, Rows.canon_row (R := 8) 3 ![3, 0] rfl rfl, Rows.canon_row (R := 8) 2 ![2, 0] rfl rfl, Rows.canon_row (R := 8) 1 ![1, 0] rfl rfl, Rows.canon_row (R := 8) 0 ![0, 0] rfl rfl, Rows.canon_all (R := 8) ![0, 0] (by decide)]
  refine (sums_cases _ _ _ (k0_pay38 (F := Ideal)) q k).trans ?_
  exact congrArg (· + _) (by pointwise [k0_pay38])

theorem out15_B (h : ¬t.val % 32 = 0) (q : Fin 8) (k : Fin 1024) :
    (outsAt0 m c t.val t.isLt).2.2.2.2.2.2 (ix2 q k)
      = (outsAt0 m c (t.val - 1) (Nat.lt_of_le_of_lt (Nat.sub_le _ _) t.isLt)).2.2.2.2.2.2 (ix2 q k) + term m c t q k := by
  rw [outsAt0_B m c t h]
  frame_out
  simp (disch := decide) only [↓ View.readCov_skip, ↓ View.readCov_cons_toLoadRect, ↓ View.readCov_fill]
  simp only [in0, in1, in2, in5, in6, in7, in8, l30, l31, l32, l33, l40, l41, l42, l43, pay1, pay2, pay3, pay4, pay5, pay6,
      pay7, pay8, pay10, pay11, pay12, pay13, pay14, pay15, pay16, pay17, pay18, pay19, pay20, pay21, pay22, pay23, pay24, pay25,
      pay26, pay27, pay28, pay29, pay30, pay31, pay32, pay34, pay35, pay36, pay37]
  simp only [ld15 _ 0 ![0, 0] rfl rfl, ld15 _ 1 ![1, 0] rfl rfl, ld15 _ 2 ![2, 0] rfl rfl, ld15 _ 3 ![3, 0] rfl rfl, ld15 _ 4 ![4, 0] rfl rfl, pay40, pay41, pay42, pay43, pay44]
  rw [Rows.read_row (R := 8) _ _ 4 ![4, 0] rfl rfl, Rows.read_row (R := 8) _ _ 3 ![3, 0] rfl rfl, Rows.read_row (R := 8) _ _ 2 ![2, 0] rfl rfl, Rows.read_row (R := 8) _ _ 1 ![1, 0] rfl rfl, Rows.read_row (R := 8) _ _ 0 ![0, 0] rfl rfl]
  rw [View.writes_nil, Memref.IsWhole.read_unread]
  exact sums_cases _ _ _ _ q k

end Cert.MlpArray
-- ==== Proof.MlpArray.lean ====
/- The arrays that the perceptron kernel has written when it ends: row `i` of each is the function of row `i` of the arguments,
   and the last array holds the sums over all rows. -/
module

public import proofs.«01_k».proof.Proof.MlpOut

@[expose] public section

set_option maxRecDepth 16384

noncomputable section

namespace Cert.MlpArray

open Cert.Mlp Cert.Mlp.Gen Idealize.ShloMosaic Idealize.ShloMosaic.TcCoe
open Cert.Norm Cert.MlpSpec Cert.MlpBlock

variable (m : (ℓ : Loc nD τ sig) → Buf (Elt Ideal) ℓ) (c : Dev nD)

theorem idxO9 : ∀ t : Fin cfg0.N, win0_9.index t 0 = t ∧ win0_9.index t 1 = 0 := by decide +kernel
theorem idxO10 : ∀ t : Fin cfg0.N, win0_10.index t 0 = t ∧ win0_10.index t 1 = 0 := by decide +kernel
theorem idxO11 : ∀ t : Fin cfg0.N, win0_11.index t 0 = t ∧ win0_11.index t 1 = 0 := by decide +kernel
theorem idxO12 : ∀ t : Fin cfg0.N, win0_12.index t 0 = t ∧ win0_12.index t 1 = 0 := by decide +kernel
theorem idxO13 : ∀ t : Fin cfg0.N, win0_13.index t 0 = t ∧ win0_13.index t 1 = 0 := by decide +kernel
theorem idxO14 : ∀ t : Fin cfg0.N, win0_14.index t 0 = t ∧ win0_14.index t 1 = 0 := by decide +kernel

/-- An array of 8192 rows, and one of 8192 rows of hidden columns. -/
def all (f : Fin 8192 → Row) : S8192x1024.Idx → EReal := fun i => f (i 0) (i 1)
def allW (f : Fin 8192 → Wide) : S8192x4096.Idx → EReal := fun i => f (i 0) (i 1)

theorem all_at (f : Fin 8192 → Row) (t : Fin cfg0.N) (j : S8192x1024.Idx) (y : S256x1024.Idx)
    (h0 : ((j 0 : Fin 8192) : ℕ) = t * 256 + ((y 0 : Fin 256) : ℕ)) (h1 : ((j 1 : Fin 1024) : ℕ) = ((y 1 : Fin 1024) : ℕ)) :
    f (rowAt t (y 0)) (y 1) = all f j := by
  have e0 : rowAt t (y 0) = (j 0 : Fin 8192) := Fin.ext (by simp only [rowAt]; omega)
  have e1 : (y 1 : Fin 1024) = (j 1 : Fin 1024) := Fin.ext h1.symm
  unfold all
  rw [e0]; exact congrArg _ e1
theorem allW_at (f : Fin 8192 → Wide) (t : Fin cfg0.N) (j : S8192x4096.Idx) (y : S256x4096.Idx)
    (h0 : ((j 0 : Fin 8192) : ℕ) = t * 256 + ((y 0 : Fin 256) : ℕ)) (h1 : ((j 1 : Fin 4096) : ℕ) = ((y 1 : Fin 4096) : ℕ)) :
    f (rowAt t (y 0)) (y 1) = allW f j := by
  have e0 : rowAt t (y 0) = (j 0 : Fin 8192) := Fin.ext (by simp only [rowAt]; omega)
  have e1 : (y 1 : Fin 4096) = (j 1 : Fin 4096) := Fin.ext h1.symm
  unfold allW
  rw [e0]; exact congrArg _ e1

theorem all9 : (dats m 0 c).arrAt 9 (cfgs 0).N = all fun i => x1 (par m c) (row0 m c i) := by
  refine (dats m 0 c).arrAt_eq_of_covers 9 _ (by decide +kernel) fun t hf y => ?_
  blk_simp
  rw [after0_9, out9]
  refine all_at (fun i => x1 (par m c) (row0 m c i)) t _ y ?_ ?_ <;> blk_simp [idxO9 t] <;> omega

theorem all10 : (dats m 0 c).arrAt 10 (cfgs 0).N = allW fun i => hid (par m c) (row0 m c i) := by
  refine (dats m 0 c).arrAt_eq_of_covers 10 _ (by decide +kernel) fun t hf y => ?_
  blk_simp
  rw [after0_10]
  refine Eq.trans (?_ : _ = (fun i => hid (par m c) (row0 m c i)) (rowAt t (y 0)) (y 1)) ?_
  · refine (congrArg _ (eq_ix2 y)).trans (out10 m c t (y 0) (y 1))
  · refine allW_at (fun i => hid (par m c) (row0 m c i)) t _ y ?_ ?_ <;> blk_simp [idxO10 t] <;> omega

theorem all11 : (dats m 0 c).arrAt 11 (cfgs 0).N = allW fun i => dpre (par m c) (row0 m c i) (row7 m c i) := by
  refine (dats m 0 c).arrAt_eq_of_covers 11 _ (by decide +kernel) fun t hf y => ?_
  blk_simp
  rw [after0_11]
  refine Eq.trans (?_ : _ = (fun i => dpre (par m c) (row0 m c i) (row7 m c i)) (rowAt t (y 0)) (y 1)) ?_
  · refine (congrArg _ (eq_ix2 y)).trans (out11 m c t (y 0) (y 1))
  · refine allW_at (fun i => dpre (par m c) (row0 m c i) (row7 m c i)) t _ y ?_ ?_ <;> blk_simp [idxO11 t] <;> omega

theorem all12 : (dats m 0 c).arrAt 12 (cfgs 0).N = all fun i => dr2 (par m c) (row0 m c i) (row7 m c i) := by
  refine (dats m 0 c).arrAt_eq_of_covers 12 _ (by decide +kernel) fun t hf y => ?_
  blk_simp
  rw [after0_12, out12]
  refine all_at (fun i => dr2 (par m c) (row0 m c i) (row7 m c i)) t _ y ?_ ?_ <;> blk_simp [idxO12 t] <;> omega

theorem all13 : (dats m 0 c).arrAt 13 (cfgs 0).N = all fun i => dr1 (par m c) (row0 m c i) (row7 m c i) := by
  refine (dats m 0 c).arrAt_eq_of_covers 13 _ (by decide +kernel) fun t hf y => ?_
  blk_simp
  rw [after0_13, out13]
  refine all_at (fun i => dr1 (par m c) (row0 m c i) (row7 m c i)) t _ y ?_ ?_ <;> blk_simp [idxO13 t] <;> omega

theorem all14 : (dats m 0 c).arrAt 14 (cfgs 0).N = all fun i => dr1 (par m c) (row0 m c i) (row7 m c i) := by
  refine (dats m 0 c).arrAt_eq_of_covers 14 _ (by decide +kernel) fun t hf y => ?_
  blk_simp
  rw [after0_14, out14]
  refine all_at (fun i => dr1 (par m c) (row0 m c i) (row7 m c i)) t _ y ?_ ?_ <;> blk_simp [idxO14 t] <;> omega

/-- The rows of all the blocks are the rows of the array, each once. -/
theorem sum_rows (g : Fin 8192 → EReal) : ∑ t : Fin cfg0.N, ∑ y, g (rowAt t y) = ∑ i, g i := by
  rw [← (finProdFinEquiv (m := 32) (n := 256)).sum_comp g, Fintype.sum_prod_type]
  refine Finset.sum_congr rfl fun t _ => Finset.sum_congr rfl fun y _ => congrArg g (Fin.ext ?_)
  simp [finProdFinEquiv, rowAt]; omega

/-- The last grid point. -/
def tLast : Fin cfg0.N := ⟨31, by decide⟩

theorem all15 : (dats m 0 c).arrAt 15 (cfgs 0).N
    = fun i => ∑ r, sums (par m c) (row0 m c r) (row7 m c r) (i 0) (i 1) := by
  refine (dats m 0 c).arrAt_eq_of_after_last 15 tLast (by decide +kernel) _ fun j => ?_
  rw [after0_15, eq_ix2 j]
  refine (Pipeline.eq_sum_fin_of_reset_step_last (fun n h => (outsAt0 m c n h).2.2.2.2.2.2 (ix2 (j 0) (j 1))) 32 0
    (fun t => term m c t (j 0) (j 1)) (fun t h => out15_A m c t h _ _) (fun t h => out15_B m c t h _ _) (by decide) tLast
    rfl).trans ?_
  rw [zero_add]
  exact sum_rows fun r => sums (par m c) (row0 m c r) (row7 m c r) (j 0) (j 1)

end Cert.MlpArray
-- ==== Proof.Finite.lean ====
/- An array that a precondition finds finite holds real numbers. -/
module

public import proofs.«01_k».proof.Proof.Norm
public import Idealize.ShloMosaic.Lib.ReduceAll
public import Idealize.ShloMosaic.Lib.Pointwise

@[expose] public section

set_option maxRecDepth 16384

noncomputable section

namespace Cert.Norm

open Idealize.ShloMosaic

theorem wInf_eq : Ideal.ofBits .f32 0x7F800000#32 = ⊤ := by
  simp [Ideal.ofBits, Ideal.ieee]

theorem isR_of_lt (x : EReal) (h : max x (-x) < ⊤) : IsR x := by
  induction x with
  | bot => simp at h
  | top => simp at h
  | coe r => exact .coe r

/-- `jnp.all(jnp.abs(X) < jnp.inf)`, read back. -/
theorem isR_of_all {s u t : Shape} {axes : List (Fin s.rank)} [Subsingleton t.Idx] (X : FVec Ideal s .f32)
    (hb : (⟨0, ![]⟩ : Shape).BroadcastsInDim s ![]) (init : u.Idx → BitVec 1) (h : s.ReducesTo axes t) (hu : 0 < u.numel) (j : t.Idx)
    (e : Host.reduce IntOp.andi
      (cmpf .olt (Host.absf X) (broadcastInDim s ![] hb (constant ⟨0, ![]⟩ .f32 0x7F800000#32))) init h hu j = 1#1)
    (i : s.Idx) : IsR (X i) := by
  have := Host.reduce_andi_all _ init h hu j e i
  revert this
  pointwise [wInf_eq]
  intro this
  refine isR_of_lt _ ?_
  by_contra hc
  exact absurd this (by rw [show decide (FloatOps.absf (X i) < (⊤ : EReal)) = false from decide_eq_false hc]; decide)

end Cert.Norm
-- ==== Proof.MlpPre.lean ====
/- What the perceptron's precondition says of its arguments: each of their elements is a real number. -/
module

public import proofs.«01_k».proof.Proof.MlpSpec
public import proofs.«01_k».proof.Proof.Finite
public import proofs.«01_k».proof.Proof.Gen.Pre_finite_mlp

@[expose] public section

set_option maxRecDepth 16384

noncomputable section

namespace Cert.MlpPre

open Idealize.ShloMosaic Cert.Norm Cert.Pre_finite_mlp

instance : Subsingleton S_.Idx := ⟨fun a b => funext fun k => k.elim0⟩

variable (x0 x7 : FVec Ideal S8192x1024 .f32) (x1 x2 x5 x6 : FVec Ideal S1024 .f32) (x3 : FVec Ideal S1024x4096 .f32)
  (x4 : FVec Ideal S4096x1024 .f32)

theorem reals (h : fn x0 x1 x2 x3 x4 x5 x6 x7 = fun _ => 1#1) :
    (∀ i, IsR (x0 i)) ∧ (∀ i, IsR (x1 i)) ∧ (∀ i, IsR (x2 i)) ∧ (∀ i, IsR (x3 i)) ∧ (∀ i, IsR (x4 i)) ∧ (∀ i, IsR (x5 i))
      ∧ (∀ i, IsR (x6 i)) ∧ (∀ i, IsR (x7 i)) := by
  have h := congrFun h (fun a => a.elim0)
  unfold fn fn_part1 fn_part2 at h
  simp only [andi, IntOp.andi_eq_one] at h
  obtain ⟨⟨⟨⟨⟨⟨⟨h0, h1⟩, h2⟩, h3⟩, h4⟩, h5⟩, h6⟩, h7⟩ := h
  exact ⟨isR_of_all _ _ _ _ _ _ h0, isR_of_all _ _ _ _ _ _ h1, isR_of_all _ _ _ _ _ _ h2, isR_of_all _ _ _ _ _ _ h3,
    isR_of_all _ _ _ _ _ _ h4, isR_of_all _ _ _ _ _ _ h5, isR_of_all _ _ _ _ _ _ h6, isR_of_all _ _ _ _ _ _ h7⟩

end Cert.MlpPre
-- ==== Proof.MlpClaim.lean ====
/- The perceptron's two programs compute the same arrays, and each keeps its arguments. -/
module

public import proofs.«01_k».proof.Proof.MlpRef
public import proofs.«01_k».proof.Proof.MlpArray
public import proofs.«01_k».proof.Proof.MlpPre
public import proofs.«01_k».proof.Proof.Gen.MlpIdeal
public import proofs.«01_k».proof.Defs

@[expose] public section

set_option maxRecDepth 16384

noncomputable section

namespace Cert.MlpRef

open Cert.MlpReferenceIdeal Cert.MlpReferenceIdeal.Gen Cert.MlpReferenceIdeal.Read Idealize.ShloMosaic Idealize.ShloMosaic.TcCoe
open Cert.Norm Cert.MlpSpec Cert.MlpArray

variable {x0 : (⟨S8192x1024, .f32⟩ : BufTy).Contents (Elt Ideal)} {x1 x2 : (⟨S1024, .f32⟩ : BufTy).Contents (Elt Ideal)}
  {x3 : (⟨S1024x4096, .f32⟩ : BufTy).Contents (Elt Ideal)} {x4 : (⟨S4096x1024, .f32⟩ : BufTy).Contents (Elt Ideal)}
  {x5 x6 : (⟨S1024, .f32⟩ : BufTy).Contents (Elt Ideal)} {x7 : (⟨S8192x1024, .f32⟩ : BufTy).Contents (Elt Ideal)}
  (hP : (par x1 x2 x3 x4 x5 x6).Real) (h0 : ∀ i c, IsR (row x0 i c)) (h7 : ∀ i c, IsR (row x7 i c))

theorem res0 : val_main_v164 (F := Ideal) x0 x1 x2 = all fun i => MlpSpec.x1 (par x1 x2 x3 x4 x5 x6) (row x0 i) := by
  funext j; rw [eq_ix2 j]
  exact at_v30 x0 x1 x2 x3 x4 x5 x6 _ _
theorem res1 : val_main_v165 (F := Ideal) x0 x1 x2 x3 = allW fun i => hid (par x1 x2 x3 x4 x5 x6) (row x0 i) := by
  funext j; rw [eq_ix2 j]
  exact at_v37 x0 x1 x2 x3 x4 x5 x6 _ _
include hP h0 h7
theorem res2 : val_main_v166 (F := Ideal) x0 x1 x2 x3 x4 x5 x6 x7
    = allW fun i => dpre (par x1 x2 x3 x4 x5 x6) (row x0 i) (row x7 i) := by
  funext j; rw [eq_ix2 j]
  exact at_v128 hP h0 h7 _ _
theorem res3 : val_main_v167 (F := Ideal) x0 x1 x2 x3 x4 x5 x6 x7
    = all fun i => dr2 (par x1 x2 x3 x4 x5 x6) (row x0 i) (row x7 i) := by
  funext j; rw [eq_ix2 j]
  exact at_v122 hP h0 h7 _ _
theorem res4 : val_main_v163 (F := Ideal) x0 x1 x2 x3 x4 x5 x6 x7
    = all fun i => dr1 (par x1 x2 x3 x4 x5 x6) (row x0 i) (row x7 i) := by
  funext j; rw [eq_ix2 j]
  exact at_v163 hP h0 h7 _ _
theorem res5 : val_main_v168 (F := Ideal) x0 x1 x2 x3 x4 x5 x6 x7
    = all fun i => dr1 (par x1 x2 x3 x4 x5 x6) (row x0 i) (row x7 i) := by
  funext j; rw [eq_ix2 j]
  exact at_v163 hP h0 h7 _ _
theorem res6 : val_main_v176 (F := Ideal) x0 x1 x2 x3 x4 x5 x6 x7
    = fun j => ∑ i, sums (par x1 x2 x3 x4 x5 x6) (row x0 i) (row x7 i) (j 0) (j 1) := by
  funext j; rw [eq_ix2 j]
  exact at_v176 hP h0 h7 _ _

end Cert.MlpRef

namespace Cert.MlpClaim

open Idealize.ShloMosaic Idealize.ShloMosaic.TcCoe Idealize.SL.Sem
open Cert.Norm Cert.MlpSpec Cert.MlpArray

theorem frame_kernel : Cert.quiescent_Mlp (hMlp := Cert.Mlp.Gen.facts) := fun m ρ _ => Cert.Mlp.Gen.frame m ρ

/-- The ideal program is the kernel's own text: its run is the kernel's at the extended reals. -/
theorem frame_ideal : Cert.quiescent_MlpIdeal (hMlpIdeal := Cert.MlpIdeal.Gen.facts) := fun m ρ _ =>
  cast (by sl_kernel_rfl) (Cert.Mlp.Gen.frame (F := Ideal) m ρ)

theorem frame_ref : Cert.quiescent_MlpReferenceIdeal (hMlpReferenceIdeal := Cert.MlpReferenceIdeal.Gen.facts) := fun m ρ _ =>
  (θ_run Cert.MlpReferenceIdeal.defs _ _).mono (fun r h => ⟨fun c => (h c).2.2.2.2.2.2.2, sem_eq_zero_of_no_sems (by decide) r.2⟩)
    (Cert.MlpReferenceIdeal.Value.run m ρ)

/-- The arrays of the kernel's run. -/
theorem run_kernel (m : (ℓ : Loc Mlp.nD Mlp.τ Mlp.sig) → Buf (Elt Ideal) ℓ) (ρ : Dev Mlp.nD → PrngReg) :
    θ_run (Mlp.defs (F := Ideal)) (onTc (τ := Mlp.τ) (Mlp.main (F := Ideal))) ⟨m, fun _ => 0, ρ⟩ fun r => ∀ c : Dev Mlp.nD,
      r.2.mem ((c : Thread Mlp.nD Mlp.τ).loc Mlp.main_v22_0) = (all fun i => x1 (par m c) (row0 m c i))
      ∧ r.2.mem ((c : Thread Mlp.nD Mlp.τ).loc Mlp.main_v22_1) = (allW fun i => hid (par m c) (row0 m c i))
      ∧ r.2.mem ((c : Thread Mlp.nD Mlp.τ).loc Mlp.main_v22_2) = (allW fun i => dpre (par m c) (row0 m c i) (row7 m c i))
      ∧ r.2.mem ((c : Thread Mlp.nD Mlp.τ).loc Mlp.main_v22_3) = (all fun i => dr2 (par m c) (row0 m c i) (row7 m c i))
      ∧ r.2.mem ((c : Thread Mlp.nD Mlp.τ).loc Mlp.main_v22_4) = (all fun i => dr1 (par m c) (row0 m c i) (row7 m c i))
      ∧ r.2.mem ((c : Thread Mlp.nD Mlp.τ).loc Mlp.main_v22_5) = (all fun i => dr1 (par m c) (row0 m c i) (row7 m c i))
      ∧ r.2.mem ((c : Thread Mlp.nD Mlp.τ).loc Mlp.main_v22_6) = (fun j => ∑ i, sums (par m c) (row0 m c i) (row7 m c i) (j 0) (j 1))
      ∧ r.2.mem ((c : Thread Mlp.nD Mlp.τ).loc Mlp.main_arg0) = m ((c : Thread Mlp.nD Mlp.τ).loc Mlp.main_arg0)
      ∧ r.2.mem ((c : Thread Mlp.nD Mlp.τ).loc Mlp.main_arg1) = m ((c : Thread Mlp.nD Mlp.τ).loc Mlp.main_arg1)
      ∧ r.2.mem ((c : Thread Mlp.nD Mlp.τ).loc Mlp.main_arg2) = m ((c : Thread Mlp.nD Mlp.τ).loc Mlp.main_arg2)
      ∧ r.2.mem ((c : Thread Mlp.nD Mlp.τ).loc Mlp.main_arg3) = m ((c : Thread Mlp.nD Mlp.τ).loc Mlp.main_arg3)
      ∧ r.2.mem ((c : Thread Mlp.nD Mlp.τ).loc Mlp.main_arg4) = m ((c : Thread Mlp.nD Mlp.τ).loc Mlp.main_arg4)
      ∧ r.2.mem ((c : Thread Mlp.nD Mlp.τ).loc Mlp.main_arg5) = m ((c : Thread Mlp.nD Mlp.τ).loc Mlp.main_arg5)
      ∧ r.2.mem ((c : Thread Mlp.nD Mlp.τ).loc Mlp.main_arg6) = m ((c : Thread Mlp.nD Mlp.τ).loc Mlp.main_arg6)
      ∧ r.2.mem ((c : Thread Mlp.nD Mlp.τ).loc Mlp.main_arg7) = m ((c : Thread Mlp.nD Mlp.τ).loc Mlp.main_arg7) :=
  (θ_run _ _ _).mono (fun r h c => by
    obtain ⟨h0, h1, h2, h3, h4, h5, h6, hargs⟩ := h c
    exact ⟨h0.trans (all9 m c), h1.trans (all10 m c), h2.trans (all11 m c), h3.trans (all12 m c), h4.trans (all13 m c),
      h5.trans (all14 m c), h6.trans (all15 m c), hargs⟩) (Cert.Mlp.Value.run_blocks (F := Ideal) m ρ)

/-- The columns' sums, an array. -/
def sumsOf (m : (ℓ : Loc Mlp.nD Mlp.τ Mlp.sig) → Buf (Elt Ideal) ℓ) (c : Dev Mlp.nD) : Mlp.S8x1024.Idx → EReal :=
  fun j => ∑ i, sums (par m c) (row0 m c i) (row7 m c i) (j 0) (j 1)

section Ref

variable (m : (ℓ : Loc MlpReferenceIdeal.nD MlpReferenceIdeal.τ MlpReferenceIdeal.sig) → Buf (Elt Ideal) ℓ) (c : Dev MlpReferenceIdeal.nD)

/-- The reference's parameters and rows, as its arguments hold them. -/
def parR : Par := MlpRef.par (m (c.tc.loc MlpReferenceIdeal.main_arg1)) (m (c.tc.loc MlpReferenceIdeal.main_arg2))
  (m (c.tc.loc MlpReferenceIdeal.main_arg3)) (m (c.tc.loc MlpReferenceIdeal.main_arg4))
  (m (c.tc.loc MlpReferenceIdeal.main_arg5)) (m (c.tc.loc MlpReferenceIdeal.main_arg6))
def rowR0 : Fin 8192 → Row := MlpRef.row (m (c.tc.loc MlpReferenceIdeal.main_arg0))
def rowR7 : Fin 8192 → Row := MlpRef.row (m (c.tc.loc MlpReferenceIdeal.main_arg7))

/-- The arrays of the reference's run, where its arguments are real. -/
theorem run_ref (ρ : Dev MlpReferenceIdeal.nD → PrngReg) (hP : ∀ c, (parR m c).Real) (h0 : ∀ c i k, IsR (rowR0 m c i k))
    (h7 : ∀ c i k, IsR (rowR7 m c i k)) :
    θ_run (MlpReferenceIdeal.defs (F := Ideal)) (onTc (τ := MlpReferenceIdeal.τ) (MlpReferenceIdeal.main (F := Ideal))) ⟨m, fun _ => 0, ρ⟩
    fun r => ∀ c : Dev MlpReferenceIdeal.nD,
      r.2.mem ((c.tc : Thread MlpReferenceIdeal.nD MlpReferenceIdeal.τ).loc MlpReferenceIdeal.main_v164) = (all fun i => x1 (parR m c) (rowR0 m c i))
      ∧ r.2.mem ((c.tc : Thread MlpReferenceIdeal.nD MlpReferenceIdeal.τ).loc MlpReferenceIdeal.main_v165) = (allW fun i => hid (parR m c) (rowR0 m c i))
      ∧ r.2.mem ((c.tc : Thread MlpReferenceIdeal.nD MlpReferenceIdeal.τ).loc MlpReferenceIdeal.main_v166) = (allW fun i => dpre (parR m c) (rowR0 m c i) (rowR7 m c i))
      ∧ r.2.mem ((c.tc : Thread MlpReferenceIdeal.nD MlpReferenceIdeal.τ).loc MlpReferenceIdeal.main_v167) = (all fun i => dr2 (parR m c) (rowR0 m c i) (rowR7 m c i))
      ∧ r.2.mem ((c.tc : Thread MlpReferenceIdeal.nD MlpReferenceIdeal.τ).loc MlpReferenceIdeal.main_v163) = (all fun i => dr1 (parR m c) (rowR0 m c i) (rowR7 m c i))
      ∧ r.2.mem ((c.tc : Thread MlpReferenceIdeal.nD MlpReferenceIdeal.τ).loc MlpReferenceIdeal.main_v168) = (all fun i => dr1 (parR m c) (rowR0 m c i) (rowR7 m c i))
      ∧ r.2.mem ((c.tc : Thread MlpReferenceIdeal.nD MlpReferenceIdeal.τ).loc MlpReferenceIdeal.main_v176) = (fun j => ∑ i, sums (parR m c) (rowR0 m c i) (rowR7 m c i) (j 0) (j 1))
      ∧ r.2.mem ((c.tc : Thread MlpReferenceIdeal.nD MlpReferenceIdeal.τ).loc MlpReferenceIdeal.main_arg0) = m ((c.tc : Thread MlpReferenceIdeal.nD MlpReferenceIdeal.τ).loc MlpReferenceIdeal.main_arg0)
      ∧ r.2.mem ((c.tc : Thread MlpReferenceIdeal.nD MlpReferenceIdeal.τ).loc MlpReferenceIdeal.main_arg1) = m ((c.tc : Thread MlpReferenceIdeal.nD MlpReferenceIdeal.τ).loc MlpReferenceIdeal.main_arg1)
      ∧ r.2.mem ((c.tc : Thread MlpReferenceIdeal.nD MlpReferenceIdeal.τ).loc MlpReferenceIdeal.main_arg2) = m ((c.tc : Thread MlpReferenceIdeal.nD MlpReferenceIdeal.τ).loc MlpReferenceIdeal.main_arg2)
      ∧ r.2.mem ((c.tc : Thread MlpReferenceIdeal.nD MlpReferenceIdeal.τ).loc MlpReferenceIdeal.main_arg3) = m ((c.tc : Thread MlpReferenceIdeal.nD MlpReferenceIdeal.τ).loc MlpReferenceIdeal.main_arg3)
      ∧ r.2.mem ((c.tc : Thread MlpReferenceIdeal.nD MlpReferenceIdeal.τ).loc MlpReferenceIdeal.main_arg4) = m ((c.tc : Thread MlpReferenceIdeal.nD MlpReferenceIdeal.τ).loc MlpReferenceIdeal.main_arg4)
      ∧ r.2.mem ((c.tc : Thread MlpReferenceIdeal.nD MlpReferenceIdeal.τ).loc MlpReferenceIdeal.main_arg5) = m ((c.tc : Thread MlpReferenceIdeal.nD MlpReferenceIdeal.τ).loc MlpReferenceIdeal.main_arg5)
      ∧ r.2.mem ((c.tc : Thread MlpReferenceIdeal.nD MlpReferenceIdeal.τ).loc MlpReferenceIdeal.main_arg6) = m ((c.tc : Thread MlpReferenceIdeal.nD MlpReferenceIdeal.τ).loc MlpReferenceIdeal.main_arg6)
      ∧ r.2.mem ((c.tc : Thread MlpReferenceIdeal.nD MlpReferenceIdeal.τ).loc MlpReferenceIdeal.main_arg7) = m ((c.tc : Thread MlpReferenceIdeal.nD MlpReferenceIdeal.τ).loc MlpReferenceIdeal.main_arg7) :=
  (θ_run _ _ _).mono (fun r h c => by
    obtain ⟨e0, e1, e2, e3, e4, e5, e6, hkeep⟩ := h c
    exact ⟨e0.trans ((Cert.MlpReferenceIdeal.Read.val_main_v164_eq _).trans MlpRef.res0),
      e1.trans ((Cert.MlpReferenceIdeal.Read.val_main_v165_eq _).trans MlpRef.res1),
      e2.trans ((Cert.MlpReferenceIdeal.Read.val_main_v166_eq _).trans (MlpRef.res2 (hP c) (h0 c) (h7 c))),
      e3.trans ((Cert.MlpReferenceIdeal.Read.val_main_v167_eq _).trans (MlpRef.res3 (hP c) (h0 c) (h7 c))),
      e4.trans ((Cert.MlpReferenceIdeal.Read.val_main_v163_eq _).trans (MlpRef.res4 (hP c) (h0 c) (h7 c))),
      e5.trans ((Cert.MlpReferenceIdeal.Read.val_main_v168_eq _).trans (MlpRef.res5 (hP c) (h0 c) (h7 c))),
      e6.trans ((Cert.MlpReferenceIdeal.Read.val_main_v176_eq _).trans (MlpRef.res6 (hP c) (h0 c) (h7 c))), hkeep⟩)
    (Cert.MlpReferenceIdeal.Value.run m ρ)

end Ref

theorem algebraic : Cert.algebraic_MlpIdeal_MlpReferenceIdeal_pre_finite_mlp (hMlpIdeal := Cert.MlpIdeal.Gen.facts)
    (hMlpReferenceIdeal := Cert.MlpReferenceIdeal.Gen.facts) (hPre_finite_mlp := Cert.Pre_finite_mlp.Gen.facts) := by
  intro m g m' g' hpre hargs
  have eP : ∀ c, parR m' c = par m c := fun c => by
    obtain ⟨a0, a1, a2, a3, a4, a5, a6, a7⟩ := hargs c
    unfold parR
    rw [a1, a2, a3, a4, a5, a6]; rfl
  have e0 : ∀ c, rowR0 m' c = row0 m c := fun c => by unfold rowR0; rw [(hargs c).1]; rfl
  have e7 : ∀ c, rowR7 m' c = row7 m c := fun c => by unfold rowR7; rw [(hargs c).2.2.2.2.2.2.2]; rfl
  have hr : ∀ c, (par m c).Real ∧ (∀ i k, IsR (row0 m c i k)) ∧ ∀ i k, IsR (row7 m c i k) := fun c => by
    obtain ⟨p0, p1, p2, p3, p4, p5, p6, p7⟩ := Cert.MlpPre.reals _ _ _ _ _ _ _ _ (hpre c)
    exact ⟨⟨fun k => p1 _, fun k => p2 _, fun k f => p3 _, fun f k => p4 _, fun k => p5 _, fun k => p6 _⟩, fun i k => p0 _, fun i k => p7 _⟩
  have hR := run_ref m' g' (fun c => by rw [eP]; exact (hr c).1) (fun c => by rw [e0]; exact (hr c).2.1) fun c => by rw [e7]; exact (hr c).2.2
  simp only [eP, e0, e7] at hR
  exact ⟨fun c => all fun i => x1 (par m c) (row0 m c i), fun c => allW fun i => hid (par m c) (row0 m c i),
    fun c => allW fun i => dpre (par m c) (row0 m c i) (row7 m c i), fun c => all fun i => dr2 (par m c) (row0 m c i) (row7 m c i),
    fun c => all fun i => dr1 (par m c) (row0 m c i) (row7 m c i), fun c => all fun i => dr1 (par m c) (row0 m c i) (row7 m c i),
    fun c => sumsOf m c, cast (by sl_kernel_rfl) (run_kernel m g), hR⟩

end Cert.MlpClaim
-- ==== Proof.MixSpec.lean ====
/- The gradients of the mixer's gates and of its second branch's normalisation, one row of 1024 numbers at a time, over the
   extended reals. -/
module

public import proofs.«01_k».proof.Proof.Norm

@[expose] public section

noncomputable section

namespace Cert.MixSpec

open Idealize.ShloMosaic Cert.Norm

/-- The logistic function. -/
abbrev sig (x : EReal) : EReal := Ideal.logistic x

/-- The parameters: the output matrix, the branches' matrices, and the second branch's scale, shift and bias. -/
structure Par where
  wo : Fin 1024 → Row
  woa : Fin 1024 → Row
  wob : Fin 1024 → Row
  g : Row
  b : Row
  bias : Row

/-- A row of the arguments: the first branch's factor and the two gates, the convolutions' outputs, and the gradient of the
    mixer's output. -/
structure In where
  ba : Row
  ga : Row
  gb : Row
  ca : Row
  cb : Row
  dm : Row

variable (P : Par) (v : In)

/-- The gradient of the gated sum. -/
def dme : Row := fun k => ∑ j, v.dm j * P.wo k j
def dya : Row := fun k => dme P v k * sig (v.ga k)
def dyb : Row := fun k => dme P v k * sig (v.gb k)
/-- The branches' outputs before their gates. -/
def ya : Row := fun k => ∑ c, v.ba c * v.ca c * P.woa c k
def u1 : Row := fun k => v.cb k + P.bias k
def u2 : Row := fun k => nrm (u1 P v) k * P.g k + P.b k
def u3 : Row := fun k => u2 P v k * sig (u2 P v k)
def yb : Row := fun k => ∑ c, u3 P v c * P.wob c k
/-- The gradients of the gates. -/
def dga : Row := fun k => dya P v k * ya P v k * (1 - sig (v.ga k))
def dgb : Row := fun k => dyb P v k * yb P v k * (1 - sig (v.gb k))
/-- The gradients of the first branch's two factors. -/
def dy : Row := fun k => ∑ j, dya P v j * P.woa k j
def dba : Row := fun k => dy P v k * v.ca k
def dca : Row := fun k => dy P v k * v.ba k
/-- The gradients of the second branch, through its matrix, its gate and its normalisation. -/
def du3 : Row := fun k => ∑ j, dyb P v j * P.wob k j
def du2 : Row := fun k => du3 P v k * (sig (u2 P v k) * (1 + u2 P v k * (1 - sig (u2 P v k))))
def du1 : Row := lnBwd (fun k => du2 P v k * P.g k) (nrm (u1 P v)) (rs (u1 P v))

/-- The three rows of sums over the whole sequence, of which a row adds this. -/
def sums (q : Fin 8) : Row := fun k =>
  match q with
  | 0 => du2 P v k * nrm (u1 P v) k
  | 1 => du2 P v k
  | 2 => du1 P v k
  | _ => 0

theorem one_real : IsR 1 := ⟨1, rfl⟩

/-- What the second branch's gradient needs of the parameters and of a row. -/
structure Par.Real : Prop where
  wo : ∀ a c, IsR (P.wo a c)
  wob : ∀ a c, IsR (P.wob a c)
  g : ∀ c, IsR (P.g c)
  b : ∀ c, IsR (P.b c)
  bias : ∀ c, IsR (P.bias c)
structure In.Real : Prop where
  cb : ∀ c, IsR (v.cb c)
  dm : ∀ c, IsR (v.dm c)

variable {P v}

theorem u1_real (hP : P.Real) (hv : v.Real) (c : Fin 1024) : IsR (u1 P v c) := (hv.cb c).add (hP.bias c)
theorem u2_real (hP : P.Real) (hv : v.Real) (c : Fin 1024) : IsR (u2 P v c) :=
  ((IsR.nrm (u1_real hP hv) c).mul (hP.g c)).add (hP.b c)
theorem sig_any (x : EReal) : IsR (sig x) := by
  induction x using EReal.rec with
  | bot => exact ⟨0, Ideal.logistic_bot⟩
  | coe r => exact ⟨_, Ideal.logistic_coe r⟩
  | top => exact ⟨1, Ideal.logistic_top⟩
theorem du3_real (hP : P.Real) (hv : v.Real) (c : Fin 1024) : IsR (du3 P v c) :=
  IsR.sum fun j => ((IsR.sum fun k => (hv.dm k).mul (hP.wo j k)).mul (sig_any _)).mul (hP.wob c j)
theorem du2_real (hP : P.Real) (hv : v.Real) (c : Fin 1024) : IsR (du2 P v c) :=
  (du3_real hP hv c).mul ((sig_any _).mul (one_real.add ((u2_real hP hv c).mul (one_real.sub (sig_any _)))))

/-- `du2` by the chain of derivatives. -/
theorem du2_eq (hP : P.Real) (hv : v.Real) (c : Fin 1024) :
    du3 P v c * sig (u2 P v c) + u2 P v c * du3 P v c * (sig (u2 P v c) * (1 - sig (u2 P v c))) = du2 P v c := by
  unfold du2
  obtain ⟨a, ha⟩ := du3_real hP hv c
  obtain ⟨u, hu⟩ := u2_real hP hv c
  obtain ⟨s, hs⟩ := sig_any (u2 P v c)
  rw [ha, hs, hu, show (1 : EReal) = ((1 : ℝ) : EReal) from rfl]
  simp only [← EReal.coe_mul, ← EReal.coe_sub, ← EReal.coe_add]
  congr 1; ring

/-- `du1` by the chain of derivatives. -/
theorem du1_eq (hP : P.Real) (hv : v.Real) : lnVjp (u1 P v) (fun c => du2 P v c * P.g c) = du1 P v :=
  lnVjp_eq (u1_real hP hv) fun c => (du2_real hP hv c).mul (hP.g c)

end Cert.MixSpec
-- ==== Proof.Arrays.lean ====
/- Arrays of rows of 1024 numbers over the extended reals, where a float of either width is the same number. -/
module

public import proofs.«01_k».proof.Proof.Norm

@[expose] public section

noncomputable section

namespace Cert.Arrays

open Idealize.ShloMosaic Cert.Norm

variable {N M : ℕ} {φ : FTy}

/-- An array of `N` rows. -/
def arr (φ : FTy) (f : Fin N → Row) : FVec Ideal ⟨2, ![N, 1024]⟩ φ := fun i => f (i 0) (i 1)
/-- A column of `N` numbers. -/
def col (f : Fin N → EReal) : FVec Ideal ⟨2, ![N, 1]⟩ .f32 := fun i => f (i 0)
/-- A single row. -/
def one (f : Row) : FVec Ideal ⟨2, ![1, 1024]⟩ .f32 := fun i => f (i 1)

theorem arr_at (f : Fin N → Row) (y : Fin N) (c : Fin 1024) : arr φ f (ix2 y c) = f y c := rfl
theorem col_at (f : Fin N → EReal) (y : Fin N) (z : Fin 1) : col f (ix2 y z) = f y := rfl
theorem one_at (f : Row) (z : Fin 1) (c : Fin 1024) : one f (ix2 z c) = f c := rfl

theorem arr_of {A : FVec Ideal ⟨2, ![N, 1024]⟩ φ} {f : Fin N → Row} (h : ∀ y c, A (ix2 y c) = f y c) : A = arr φ f := by
  funext i; rw [show i = ix2 (i 0) (i 1) from eq_ix2 i]; exact h _ _
theorem col_of {A : FVec Ideal ⟨2, ![N, 1]⟩ .f32} {f : Fin N → EReal} (h : ∀ y, A (ix2 y 0) = f y) : A = col f := by
  funext i; rw [show i = ix2 (i 0) 0 from (eq_ix2 i).trans (congrArg (ix2 (i 0)) (Fin.fin_one_eq_zero (i 1)))]; exact h _
theorem one_of {A : FVec Ideal ⟨2, ![1, 1024]⟩ .f32} {f : Row} (h : ∀ c, A (ix2 0 c) = f c) : A = one f := by
  funext i; rw [show i = ix2 0 (i 1) from (eq_ix2 i).trans (congrArg (fun z => ix2 z (i 1)) (Fin.fin_one_eq_zero (i 0)))]; exact h _

/-- Row `y` of block `t`, of blocks of 512 rows of a sequence of 8192. -/
def rowAt (t : ℕ) (h : t < 16) (y : Fin 512) : Fin 8192 := ⟨512 * t + y, by omega⟩

/-- The rows of all the blocks are the rows of the sequence, each once. -/
theorem sum_rows (g : Fin 8192 → EReal) : ∑ t : Fin 16, ∑ y, g (rowAt t t.isLt y) = ∑ i, g i := by
  rw [← (finProdFinEquiv (m := 16) (n := 512)).sum_comp g, Fintype.sum_prod_type]
  refine Finset.sum_congr rfl fun t _ => Finset.sum_congr rfl fun y _ => congrArg g (Fin.ext ?_)
  simp [finProdFinEquiv, rowAt]; omega

/-- An array of 8192 rows, of floats of either width. -/
def all (f : Fin 8192 → Row) : (⟨2, ![8192, 1024]⟩ : Shape).Idx → EReal := fun i => f (i 0) (i 1)

theorem all_at (f : Fin 8192 → Row) (t : ℕ) (h : t < 16) (j : (⟨2, ![8192, 1024]⟩ : Shape).Idx) (y : (⟨2, ![512, 1024]⟩ : Shape).Idx)
    (h0 : ((j 0 : Fin 8192) : ℕ) = t * 512 + ((y 0 : Fin 512) : ℕ)) (h1 : ((j 1 : Fin 1024) : ℕ) = ((y 1 : Fin 1024) : ℕ)) :
    f (rowAt t h (y 0)) (y 1) = all f j := by
  have e0 : rowAt t h (y 0) = (j 0 : Fin 8192) := Fin.ext (by simp only [rowAt]; omega)
  have e1 : (y 1 : Fin 1024) = (j 1 : Fin 1024) := Fin.ext h1.symm
  unfold all
  rw [e0]; exact congrArg _ e1

end Cert.Arrays
-- ==== Proof.MixRef.lean ====
/- The mixer's reference, read one row at a time: each of its arrays at a row is the function of that row of its arguments
   which MixSpec names. -/
module

public import proofs.«01_k».proof.Proof.MixSpec
public import proofs.«01_k».proof.Proof.Arrays
public import proofs.«01_k».proof.Proof.Gen.MixReferenceIdeal.Read
public import Idealize.ShloMosaic.Lib.Pointwise

@[expose] public section

set_option maxRecDepth 16384

noncomputable section

namespace Cert.MixRef

open Cert.MixReferenceIdeal Cert.MixReferenceIdeal.Gen Cert.MixReferenceIdeal.Read Idealize.ShloMosaic Idealize.ShloMosaic.TcCoe
open Cert.Norm Cert.MixSpec Cert.Arrays

/-- Column `k` of the `q`-th of the seven parts of a row of the projection. -/
def part (q : Fin 7) (k : Fin 1024) : Fin 7168 := ⟨1024 * q + k, by omega⟩

/-- The parameters that the argument arrays hold. -/
def par (x3 x4 x5 : (⟨S1024, .f32⟩ : BufTy).Contents (Elt Ideal)) (x6 x7 x8 : (⟨S1024x1024, .f32⟩ : BufTy).Contents (Elt Ideal)) : Par where
  wo a b := x8 (ix2 a b)
  woa a b := x6 (ix2 a b)
  wob a b := x7 (ix2 a b)
  g k := x4 (ix1 k)
  b k := x5 (ix1 k)
  bias k := x3 (ix1 k)

/-- Row `i` of the argument arrays. -/
def inp (x0 : (⟨S8192x7168, .f32⟩ : BufTy).Contents (Elt Ideal)) (x1 x2 x9 : (⟨S8192x1024, .f32⟩ : BufTy).Contents (Elt Ideal))
    (i : Fin 8192) : In where
  ba k := x0 (ix2 i (part 0 k))
  ga k := x0 (ix2 i (part 5 k))
  gb k := x0 (ix2 i (part 6 k))
  ca k := x1 (ix2 i k)
  cb k := x2 (ix2 i k)
  dm k := x9 (ix2 i k)

variable (x0 : (⟨S8192x7168, .f32⟩ : BufTy).Contents (Elt Ideal)) (x1 x2 : (⟨S8192x1024, .f32⟩ : BufTy).Contents (Elt Ideal))
  (x3 x4 x5 : (⟨S1024, .f32⟩ : BufTy).Contents (Elt Ideal)) (x6 x7 x8 : (⟨S1024x1024, .f32⟩ : BufTy).Contents (Elt Ideal))
  (x9 : (⟨S8192x1024, .f32⟩ : BufTy).Contents (Elt Ideal))
include x0 x1 x2 x3 x4 x5 x6 x7 x8 x9

theorem at_v0 (i : Fin 8192) (k : Fin 1024) : val_main_v0 (F := Ideal) x0 (ix2 i k) = (inp x0 x1 x2 x9 i).ba k := by
  pointwise [val_main_v0]
  exact congrArg x0 (congrArg (ix2 i) (Fin.ext (by simp [part])))

theorem at_v5 (i : Fin 8192) (k : Fin 1024) : val_main_v5 (F := Ideal) x0 (ix2 i k) = (inp x0 x1 x2 x9 i).ga k := by
  pointwise [val_main_v5]
  rfl

theorem at_v6 (i : Fin 8192) (k : Fin 1024) : val_main_v6 (F := Ideal) x0 (ix2 i k) = (inp x0 x1 x2 x9 i).gb k := by
  pointwise [val_main_v6]
  rfl

theorem at_v10 (i : Fin 8192) (k : Fin 1024) : val_main_v10 (F := Ideal) x0 x1 x6 (ix2 i k) = ya (par x3 x4 x5 x6 x7 x8) (inp x0 x1 x2 x9 i) k := by
  pointwise [val_main_v10, val_main_v9, val_main_v8, val_main_v7, val_main_cst, at_v0 x0 x1 x2 x3 x4 x5 x6 x7 x8 x9]
  rfl

theorem at_v13 (i : Fin 8192) (k : Fin 1024) : val_main_v13 (F := Ideal) x2 x3 (ix2 i k) = u1 (par x3 x4 x5 x6 x7 x8) (inp x0 x1 x2 x9 i) k := by
  pointwise [val_main_v13, val_main_v12, val_main_v11]
  rfl

theorem at_v19 (i : Fin 8192) (k : Fin 1024) : val_main_v19 (F := Ideal) x2 x3 (ix2 i k) = cen (u1 (par x3 x4 x5 x6 x7 x8) (inp x0 x1 x2 x9 i)) k := by
  pointwise [val_main_v19, val_main_v18, val_main_v17, val_main_v16, val_main_v15, val_main_v14, val_main_cst_0, val_main_cst_1, at_v13 x0 x1 x2 x3 x4 x5 x6 x7 x8 x9]
  rfl

theorem at_v28 (i : Fin 8192) (k : Fin 1024) : val_main_v28 (F := Ideal) x2 x3 (ix2 i k) = cen (u1 (par x3 x4 x5 x6 x7 x8) (inp x0 x1 x2 x9 i)) k := by
  pointwise [val_main_v28, val_main_v27, val_main_v17, val_main_v16, val_main_v15, val_main_v14, val_main_cst_0, val_main_cst_1, at_v13 x0 x1 x2 x3 x4 x5 x6 x7 x8 x9]
  rfl

theorem at_v30 (i : Fin 8192) : val_main_v30 (F := Ideal) x2 x3 (ix2 i 0) = var (u1 (par x3 x4 x5 x6 x7 x8) (inp x0 x1 x2 x9 i)) + wEps := by
  pointwise [val_main_v30, val_main_v29, val_main_v26, val_main_v25, val_main_v24, val_main_v23, val_main_v20, val_main_cst_3, val_main_cst_4, val_main_cst_5, at_v19 x0 x1 x2 x3 x4 x5 x6 x7 x8 x9]
  rfl

theorem at_v31 (i : Fin 8192) : val_main_v31 (F := Ideal) x2 x3 (ix2 i 0) = rs (u1 (par x3 x4 x5 x6 x7 x8) (inp x0 x1 x2 x9 i)) := by
  pointwise [val_main_v31, at_v30 x0 x1 x2 x3 x4 x5 x6 x7 x8 x9]
  rfl

theorem at_v34 (i : Fin 8192) : val_main_v34 (F := Ideal) x2 x3 (ix2 i 0) = wNegHalf * Ideal.div (rs (u1 (par x3 x4 x5 x6 x7 x8) (inp x0 x1 x2 x9 i))) (var (u1 (par x3 x4 x5 x6 x7 x8) (inp x0 x1 x2 x9 i)) + wEps) := by
  pointwise [val_main_v34, val_main_v33, val_main_v32, val_main_cst_6, at_v30 x0 x1 x2 x3 x4 x5 x6 x7 x8 x9, at_v31 x0 x1 x2 x3 x4 x5 x6 x7 x8 x9]
  rfl

theorem at_v36 (i : Fin 8192) (k : Fin 1024) : val_main_v36 (F := Ideal) x2 x3 (ix2 i k) = nrm (u1 (par x3 x4 x5 x6 x7 x8) (inp x0 x1 x2 x9 i)) k := by
  pointwise [val_main_v36, val_main_v35, at_v28 x0 x1 x2 x3 x4 x5 x6 x7 x8 x9, at_v31 x0 x1 x2 x3 x4 x5 x6 x7 x8 x9]
  rfl

theorem at_v42 (i : Fin 8192) (k : Fin 1024) : val_main_v42 (F := Ideal) x2 x3 x4 x5 (ix2 i k) = u2 (par x3 x4 x5 x6 x7 x8) (inp x0 x1 x2 x9 i) k := by
  pointwise [val_main_v42, val_main_v41, val_main_v40, val_main_v39, val_main_v38, val_main_v37, at_v36 x0 x1 x2 x3 x4 x5 x6 x7 x8 x9]
  rfl

theorem at_v43_2 (i : Fin 8192) (k : Fin 1024) : val_main_v43_2 (F := Ideal) x2 x3 x4 x5 (ix2 i k) = sig (u2 (par x3 x4 x5 x6 x7 x8) (inp x0 x1 x2 x9 i) k) := by
  pointwise [val_main_v43_2, val_main_call0_v4, val_main_call0_v3, val_main_call0_v2, val_main_call0_v1, val_main_call0_v0, val_main_call0_cst, val_main_call0_cst_0, at_v42 x0 x1 x2 x3 x4 x5 x6 x7 x8 x9]
  rfl

theorem at_v43_1 (i : Fin 8192) (k : Fin 1024) : val_main_v43_1 (F := Ideal) x2 x3 x4 x5 (ix2 i k) = sig (u2 (par x3 x4 x5 x6 x7 x8) (inp x0 x1 x2 x9 i) k) * (1 - sig (u2 (par x3 x4 x5 x6 x7 x8) (inp x0 x1 x2 x9 i) k)) := by
  pointwise [val_main_v43_1, val_main_call0_v7, val_main_call0_v6, val_main_call0_cst_1, at_v43_2 x0 x1 x2 x3 x4 x5 x6 x7 x8 x9]

theorem at_v45 (i : Fin 8192) (k : Fin 1024) : val_main_v45 (F := Ideal) x2 x3 x4 x5 x7 (ix2 i k) = yb (par x3 x4 x5 x6 x7 x8) (inp x0 x1 x2 x9 i) k := by
  pointwise [val_main_v45, val_main_v44, val_main_v43_0, val_main_v7, val_main_cst, at_v42 x0 x1 x2 x3 x4 x5 x6 x7 x8 x9, at_v43_2 x0 x1 x2 x3 x4 x5 x6 x7 x8 x9]
  rfl

theorem at_v51 (i : Fin 8192) (k : Fin 1024) : val_main_v51 (F := Ideal) x0 (ix2 i k) = sig ((inp x0 x1 x2 x9 i).ga k) := by
  pointwise [val_main_v51, val_main_v50, val_main_v49, val_main_v48, val_main_v47, val_main_v46, val_main_cst_7, val_main_cst_8, at_v5 x0 x1 x2 x3 x4 x5 x6 x7 x8 x9]
  rfl

theorem at_v61 (i : Fin 8192) (k : Fin 1024) : val_main_v61 (F := Ideal) x0 (ix2 i k) = sig ((inp x0 x1 x2 x9 i).gb k) := by
  pointwise [val_main_v61, val_main_v60, val_main_v59, val_main_v58, val_main_v57, val_main_v56, val_main_cst_10, val_main_cst_11, at_v6 x0 x1 x2 x3 x4 x5 x6 x7 x8 x9]
  rfl

theorem at_v68 (i : Fin 8192) (k : Fin 1024) : val_main_v68 (F := Ideal) x8 x9 (ix2 i k) = dme (par x3 x4 x5 x6 x7 x8) (inp x0 x1 x2 x9 i) k := by
  pointwise [val_main_v68]
  rfl

theorem at_v69 (i : Fin 8192) (k : Fin 1024) : val_main_v69 (F := Ideal) x0 x8 x9 (ix2 i k) = dyb (par x3 x4 x5 x6 x7 x8) (inp x0 x1 x2 x9 i) k := by
  pointwise [val_main_v69, at_v61 x0 x1 x2 x3 x4 x5 x6 x7 x8 x9, at_v68 x0 x1 x2 x3 x4 x5 x6 x7 x8 x9]
  exact mul_comm _ _

theorem at_v72 (i : Fin 8192) (k : Fin 1024) : val_main_v72 (F := Ideal) x0 x8 x9 (ix2 i k) = dya (par x3 x4 x5 x6 x7 x8) (inp x0 x1 x2 x9 i) k := by
  pointwise [val_main_v72, at_v51 x0 x1 x2 x3 x4 x5 x6 x7 x8 x9, at_v68 x0 x1 x2 x3 x4 x5 x6 x7 x8 x9]
  exact mul_comm _ _

theorem at_v71 (i : Fin 8192) (k : Fin 1024) : val_main_v71 (F := Ideal) x0 x2 x3 x4 x5 x7 x8 x9 (ix2 i k) = dgb (par x3 x4 x5 x6 x7 x8) (inp x0 x1 x2 x9 i) k := by
  pointwise [val_main_v71, val_main_v70, val_main_v64, val_main_v63, val_main_v62, val_main_cst_12, at_v61 x0 x1 x2 x3 x4 x5 x6 x7 x8 x9, at_v68 x0 x1 x2 x3 x4 x5 x6 x7 x8 x9, at_v45 x0 x1 x2 x3 x4 x5 x6 x7 x8 x9]
  unfold dgb dyb; ac_rfl

theorem at_v74 (i : Fin 8192) (k : Fin 1024) : val_main_v74 (F := Ideal) x0 x1 x6 x8 x9 (ix2 i k) = dga (par x3 x4 x5 x6 x7 x8) (inp x0 x1 x2 x9 i) k := by
  pointwise [val_main_v74, val_main_v73, val_main_v54, val_main_v53, val_main_v52, val_main_cst_9, at_v51 x0 x1 x2 x3 x4 x5 x6 x7 x8 x9, at_v68 x0 x1 x2 x3 x4 x5 x6 x7 x8 x9, at_v10 x0 x1 x2 x3 x4 x5 x6 x7 x8 x9]
  unfold dga dya; ac_rfl

theorem at_v75 (i : Fin 8192) (k : Fin 1024) : val_main_v75 (F := Ideal) x0 x7 x8 x9 (ix2 i k) = du3 (par x3 x4 x5 x6 x7 x8) (inp x0 x1 x2 x9 i) k := by
  pointwise [val_main_v75, at_v69 x0 x1 x2 x3 x4 x5 x6 x7 x8 x9]
  rfl

theorem at_v113 (i : Fin 8192) (k : Fin 1024) : val_main_v113 (F := Ideal) x0 x6 x8 x9 (ix2 i k) = dy (par x3 x4 x5 x6 x7 x8) (inp x0 x1 x2 x9 i) k := by
  pointwise [val_main_v113, at_v72 x0 x1 x2 x3 x4 x5 x6 x7 x8 x9]
  rfl

theorem at_v114 (i : Fin 8192) (k : Fin 1024) : val_main_v114 (F := Ideal) x0 x6 x8 x9 (ix2 i k) = dca (par x3 x4 x5 x6 x7 x8) (inp x0 x1 x2 x9 i) k := by
  pointwise [val_main_v114, at_v113 x0 x1 x2 x3 x4 x5 x6 x7 x8 x9, at_v0 x0 x1 x2 x3 x4 x5 x6 x7 x8 x9]
  exact mul_comm _ _

theorem at_v115 (i : Fin 8192) (k : Fin 1024) : val_main_v115 (F := Ideal) x0 x1 x6 x8 x9 (ix2 i k) = dba (par x3 x4 x5 x6 x7 x8) (inp x0 x1 x2 x9 i) k := by
  pointwise [val_main_v115, at_v113 x0 x1 x2 x3 x4 x5 x6 x7 x8 x9]
  rfl

variable {x0 x1 x2 x3 x4 x5 x6 x7 x8 x9} (hP : (par x3 x4 x5 x6 x7 x8).Real) (hv : ∀ i, (inp x0 x1 x2 x9 i).Real)
include hP hv

theorem at_v76 (i : Fin 8192) (k : Fin 1024) : val_main_v76 (F := Ideal) x0 x2 x3 x4 x5 x7 x8 x9 (ix2 i k) = du2 (par x3 x4 x5 x6 x7 x8) (inp x0 x1 x2 x9 i) k := by
  pointwise [val_main_v76, val_main_call1_v2, val_main_call1_v1, val_main_call1_v0, at_v75 x0 x1 x2 x3 x4 x5 x6 x7 x8 x9, at_v43_2 x0 x1 x2 x3 x4 x5 x6 x7 x8 x9, at_v43_1 x0 x1 x2 x3 x4 x5 x6 x7 x8 x9, at_v42 x0 x1 x2 x3 x4 x5 x6 x7 x8 x9]
  exact du2_eq hP (hv i) k

theorem at_v84 (i : Fin 8192) (k : Fin 1024) : val_main_v84 (F := Ideal) x0 x2 x3 x4 x5 x7 x8 x9 (ix2 i k) = du2 (par x3 x4 x5 x6 x7 x8) (inp x0 x1 x2 x9 i) k * (par x3 x4 x5 x6 x7 x8).g k := by
  pointwise [val_main_v84, val_main_v83, val_main_v37, at_v76 hP hv]
  rfl

theorem at_v97 (i : Fin 8192) : val_main_v97 (F := Ideal) x0 x2 x3 x4 x5 x7 x8 x9 (ix1 i) = vjpQ (u1 (par x3 x4 x5 x6 x7 x8) (inp x0 x1 x2 x9 i)) fun k => du2 (par x3 x4 x5 x6 x7 x8) (inp x0 x1 x2 x9 i) k * (par x3 x4 x5 x6 x7 x8).g k := by
  pointwise [val_main_v97, val_main_v96, val_main_v95, val_main_v91, val_main_v88, val_main_v87, val_main_v86, val_main_cst_17, val_main_cst_19, val_main_cst_20, at_v28 x0 x1 x2 x3 x4 x5 x6 x7 x8 x9, at_v84 hP hv]
  refine (Fin.sum_univ_one _).trans ?_
  rw [at_v34 x0 x1 x2 x3 x4 x5 x6 x7 x8 x9]
  rfl

theorem at_v109 (i : Fin 8192) (k : Fin 1024) : val_main_v109 (F := Ideal) x0 x2 x3 x4 x5 x7 x8 x9 (ix2 i k) = du1 (par x3 x4 x5 x6 x7 x8) (inp x0 x1 x2 x9 i) k := by
  rw [← du1_eq hP (hv i)]
  pointwise [val_main_v109, val_main_v108, val_main_v107, val_main_v106, val_main_v105, val_main_v104, val_main_v103, val_main_v102, val_main_v101, val_main_v100, val_main_v99, val_main_v98, val_main_v94, val_main_v93, val_main_v92, val_main_v90, val_main_v89, val_main_v22, val_main_v21, val_main_cst_2, val_main_cst_18, val_main_cst_21, val_main_cst_22, val_main_cst_23, at_v19 x0 x1 x2 x3 x4 x5 x6 x7 x8 x9, at_v31 x0 x1 x2 x3 x4 x5 x6 x7 x8 x9, at_v84 hP hv, at_v97 hP hv]
  exact congrArg (_ + ·) (Fin.sum_univ_one _)

/-- The three rows of sums, and rows of zeros. -/
theorem at_v128 (q : Fin 8) (k : Fin 1024) : val_main_v128 (F := Ideal) x0 x2 x3 x4 x5 x7 x8 x9 (ix2 q k)
    = ∑ i, sums (par x3 x4 x5 x6 x7 x8) (inp x0 x1 x2 x9 i) q k := by
  pointwise [val_main_v128, val_main_v127, val_main_v126, val_main_v125, val_main_v124, val_main_v123, val_main_v112, val_main_v111,
    val_main_v110, val_main_v85, val_main_v82, val_main_v81, val_main_v80, val_main_v79, val_main_v78, val_main_v77,
    val_main_cst_13, val_main_cst_14, val_main_cst_15, val_main_cst_16, val_main_cst_24, val_main_cst_25, val_main_cst_26,
    at_v109 hP hv, at_v76 hP hv, at_v36 x0 x1 x2 x3 x4 x5 x6 x7 x8 x9]
  fin_vals q with hk
  all_goals simp only [hk, Nat.reduceSub, Nat.reduceLT, ↓reduceDIte]
  · obtain rfl : q = 0 := Fin.ext hk
    exact (Fin.sum_univ_one _).trans (Finset.sum_congr rfl fun i _ => mul_comm _ _)
  · obtain rfl : q = 1 := Fin.ext hk; exact Fin.sum_univ_one _
  · obtain rfl : q = 2 := Fin.ext hk; exact Fin.sum_univ_one _
  · obtain rfl : q = 3 := Fin.ext hk; exact (Finset.sum_eq_zero fun i _ => rfl).symm
  · obtain rfl : q = 4 := Fin.ext hk; exact (Finset.sum_eq_zero fun i _ => rfl).symm
  · obtain rfl : q = 5 := Fin.ext hk; exact (Finset.sum_eq_zero fun i _ => rfl).symm
  · obtain rfl : q = 6 := Fin.ext hk; exact (Finset.sum_eq_zero fun i _ => rfl).symm
  · obtain rfl : q = 7 := Fin.ext hk; exact (Finset.sum_eq_zero fun i _ => rfl).symm

end Cert.MixRef
-- ==== Proof.MixRun.lean ====
/- The mixer's backward body at one grid point: what it leaves in each block, written with the payloads. -/
module

public import proofs.«01_k».proof.Proof.Gen.Mix.Frame.Runs
public import proofs.«01_k».proof.Proof.Rows
public import Idealize.ShloMosaic.Lib.VecWindow

@[expose] public section

set_option maxRecDepth 16384

noncomputable section

namespace Cert.MixRun

open Cert.Mix Cert.Mix.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The blocks that one grid point reads. -/
structure Blk (F : FTy → Type) [FloatOps F] where
  dmix : Vec F S512x1024 .bf16
  ba : Vec F S512x1024 .bf16
  ga : Vec F S512x1024 .bf16
  gb : Vec F S512x1024 .bf16
  ya : Vec F S512x1024 .bf16
  yb : Vec F S512x1024 .bf16
  conva : Vec F S512x1024 .bf16
  nb : Vec F S512x1024 .f32
  rstd : Vec F S512x1 .f32
  wo : Vec F S1024x1024 .bf16
  woa : Vec F S1024x1024 .bf16
  wob : Vec F S1024x1024 .bf16
  g : Vec F S1x1024 .f32
  b : Vec F S1x1024 .f32

namespace Blk

variable (B : Blk F)

def dya : Vec F S512x1024 .bf16 := k0_pay8 B.dmix B.wo B.ga
def dyb : Vec F S512x1024 .bf16 := k0_pay9 B.dmix B.wo B.gb
def dga : Vec F S512x1024 .bf16 := k0_pay10 B.dmix B.wo B.ga B.ya
def dgb : Vec F S512x1024 .bf16 := k0_pay12 (k0_pay11 B.dmix B.wo B.gb B.yb)
def dba : Vec F S512x1024 .bf16 := k0_pay14 B.dya B.woa B.conva
def dca : Vec F S512x1024 .bf16 := k0_pay15 B.dya B.woa B.ba
def du3 : FVec F S512x1024 .f32 := k0_pay16 B.dyb B.wob
def sg : FVec F S512x1024 .f32 := k0_pay19 B.nb B.g B.b
def usg : FVec F S512x1024 .f32 := k0_pay20 B.nb B.g B.b
def du2 : FVec F S512x1024 .f32 := k0_pay21 B.du3 B.sg B.usg
def du1f : FVec F S512x1024 .f32 := k0_pay22 B.du3 (k0_pay17 B.nb) B.sg B.usg B.g B.rstd
def du1 : Vec F S512x1024 .bf16 := k0_pay23 B.du3 (k0_pay17 B.nb) B.sg B.usg B.g B.rstd

/-- The three rows of sums after this point, from what they were. -/
def step (y : Vec F S8x1024 .f32) : Vec F S8x1024 .f32 :=
  Rows.rows3 (k0_pay25 B.du3 (k0_pay17 B.nb) B.sg B.usg (Rows.row y (0 : Fin 8))) (k0_pay1 B.du2 (Rows.row y (1 : Fin 8)))
    (k0_pay2 B.du1f (Rows.row y (2 : Fin 8))) y

end Blk

set_option maxHeartbeats 4000000 in
theorem run_next {a1 a2 a3 a4 a5 a6 a7 : Memref sig .tc .vmem S512x1024 .bf16} {a8 : Memref sig .tc .vmem S512x1024 .f32} {a9 : Memref sig .tc .vmem S512x1 .f32} {a10 a11 a12 : Memref sig .tc .vmem S1024x1024 .bf16} {a13 a14 : Memref sig .tc .vmem S1x1024 .f32} {a15 a16 a17 a18 a19 a20 a21 : Memref sig .tc .vmem S512x1024 .bf16} {a22 : Memref sig .tc .vmem S8x1024 .f32} (c : Dev nD) (i : grid0.Coords)
    (h1 : a1.IsWhole) (h2 : a2.IsWhole) (h3 : a3.IsWhole) (h4 : a4.IsWhole) (h5 : a5.IsWhole) (h6 : a6.IsWhole) (h7 : a7.IsWhole) (h8 : a8.IsWhole) (h9 : a9.IsWhole) (h10 : a10.IsWhole) (h11 : a11.IsWhole) (h12 : a12.IsWhole) (h13 : a13.IsWhole) (h14 : a14.IsWhole) (h15 : a15.IsWhole) (h16 : a16.IsWhole) (h17 : a17.IsWhole) (h18 : a18.IsWhole) (h19 : a19.IsWhole) (h20 : a20.IsWhole) (h21 : a21.IsWhole) (h22 : a22.IsWhole) (hc : ¬cond0_0 i) (B : Blk F) (y : Vec F S8x1024 .f32) (E : Set ℕ) (K : PUnit → sProp 𝕄) :
    iprop(owns c.tc a1 fullShare B.dmix ∗ owns c.tc a2 fullShare B.ba ∗ owns c.tc a3 fullShare B.ga ∗ owns c.tc a4 fullShare B.gb ∗ owns c.tc a5 fullShare B.ya ∗ owns c.tc a6 fullShare B.yb ∗ owns c.tc a7 fullShare B.conva ∗ owns c.tc a8 fullShare B.nb ∗ owns c.tc a9 fullShare B.rstd ∗ owns c.tc a10 fullShare B.wo ∗ owns c.tc a11 fullShare B.woa ∗ owns c.tc a12 fullShare B.wob ∗ owns c.tc a13 fullShare B.g ∗ owns c.tc a14 fullShare B.b
      ∗ (∃ d, owns c.tc a15 fullShare d) ∗ (∃ d, owns c.tc a16 fullShare d) ∗ (∃ d, owns c.tc a17 fullShare d) ∗ (∃ d, owns c.tc a18 fullShare d) ∗ (∃ d, owns c.tc a19 fullShare d) ∗ (∃ d, owns c.tc a20 fullShare d) ∗ (∃ d, owns c.tc a21 fullShare d) ∗ owns c.tc a22 fullShare y
      ∗ (iprop(owns c.tc a1 fullShare B.dmix ∗ owns c.tc a2 fullShare B.ba ∗ owns c.tc a3 fullShare B.ga ∗ owns c.tc a4 fullShare B.gb ∗ owns c.tc a5 fullShare B.ya ∗ owns c.tc a6 fullShare B.yb ∗ owns c.tc a7 fullShare B.conva ∗ owns c.tc a8 fullShare B.nb ∗ owns c.tc a9 fullShare B.rstd ∗ owns c.tc a10 fullShare B.wo ∗ owns c.tc a11 fullShare B.woa ∗ owns c.tc a12 fullShare B.wob ∗ owns c.tc a13 fullShare B.g ∗ owns c.tc a14 fullShare B.b
        ∗ owns c.tc a15 fullShare B.dya ∗ owns c.tc a16 fullShare B.dyb ∗ owns c.tc a17 fullShare B.dba ∗ owns c.tc a18 fullShare B.dga ∗ owns c.tc a19 fullShare B.dgb ∗ owns c.tc a20 fullShare B.dca ∗ owns c.tc a21 fullShare B.du1 ∗ owns c.tc a22 fullShare (B.step y)) -∗ K ⟨⟩))
      ⊢ wp frame (wpE (defs₀ (F := F)) Variants.none c none) E (cc0_mixer_bwd_local i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22) K := by
  obtain ⟨x0, x1, x2, x3, x4, x5, x6, x7, x8, x9, x10, x11, x12, x13⟩ := B
  simp only [cc0_mixer_bwd_local_eq_skeleton]; unfold cc0_mixer_bwd_local_skel
  simp only [k0_part1_eq_skeleton, k0_part2_eq_skeleton, k0_part3_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%d14, %f14, %e14, H14⟩, ⟨%d15, %f15, %e15, H15⟩, ⟨%d16, %f16, %e16, H16⟩, ⟨%d17, %f17, %e17, H17⟩, ⟨%d18, %f18, %e18, H18⟩, ⟨%d19, %f19, %e19, H19⟩, ⟨%d20, %f20, %e20, H20⟩, ⟨%f21, %e21, H21⟩, Hk⟩
  obtain rfl := h1.eq_unread e0; obtain rfl := h2.eq_unread e1; obtain rfl := h3.eq_unread e2; obtain rfl := h4.eq_unread e3; obtain rfl := h5.eq_unread e4; obtain rfl := h6.eq_unread e5; obtain rfl := h7.eq_unread e6; obtain rfl := h8.eq_unread e7; obtain rfl := h9.eq_unread e8; obtain rfl := h10.eq_unread e9; obtain rfl := h11.eq_unread e10; obtain rfl := h12.eq_unread e11; obtain rfl := h13.eq_unread e12; obtain rfl := h14.eq_unread e13; obtain rfl := h22.eq_unread e21
  sl_exec (disch := first | sl_exact hc)
  sl_step
  iapply Hk
  isplitl [H0]; · (iexists _; isplitr; · ipureintro; exact h1.read_unread _); iexact H0
  isplitl [H1]; · (iexists _; isplitr; · ipureintro; exact h2.read_unread _); iexact H1
  isplitl [H2]; · (iexists _; isplitr; · ipureintro; exact h3.read_unread _); iexact H2
  isplitl [H3]; · (iexists _; isplitr; · ipureintro; exact h4.read_unread _); iexact H3
  isplitl [H4]; · (iexists _; isplitr; · ipureintro; exact h5.read_unread _); iexact H4
  isplitl [H5]; · (iexists _; isplitr; · ipureintro; exact h6.read_unread _); iexact H5
  isplitl [H6]; · (iexists _; isplitr; · ipureintro; exact h7.read_unread _); iexact H6
  isplitl [H7]; · (iexists _; isplitr; · ipureintro; exact h8.read_unread _); iexact H7
  isplitl [H8]; · (iexists _; isplitr; · ipureintro; exact h9.read_unread _); iexact H8
  isplitl [H9]; · (iexists _; isplitr; · ipureintro; exact h10.read_unread _); iexact H9
  isplitl [H10]; · (iexists _; isplitr; · ipureintro; exact h11.read_unread _); iexact H10
  isplitl [H11]; · (iexists _; isplitr; · ipureintro; exact h12.read_unread _); iexact H11
  isplitl [H12]; · (iexists _; isplitr; · ipureintro; exact h13.read_unread _); iexact H12
  isplitl [H13]; · (iexists _; isplitr; · ipureintro; exact h14.read_unread _); iexact H13
  isplitl [H14]; · (iexists _; isplitr; swap; iexact H14); ipureintro; rw [View.read_writes_full]; sl_unfold_run_names; simp (disch := assumption) only [Rows.readAt_all, Memref.IsWhole.read_unread]; rfl
  isplitl [H15]; · (iexists _; isplitr; swap; iexact H15); ipureintro; rw [View.read_writes_full]; sl_unfold_run_names; simp (disch := assumption) only [Rows.readAt_all, Memref.IsWhole.read_unread]; rfl
  isplitl [H16]; · (iexists _; isplitr; swap; iexact H16); ipureintro; rw [View.read_writes_full]; sl_unfold_run_names; simp (disch := assumption) only [Rows.readAt_all, Memref.IsWhole.read_unread]; rfl
  isplitl [H17]; · (iexists _; isplitr; swap; iexact H17); ipureintro; rw [View.read_writes_full]; sl_unfold_run_names; simp (disch := assumption) only [Rows.readAt_all, Memref.IsWhole.read_unread]; rfl
  isplitl [H18]; · (iexists _; isplitr; swap; iexact H18); ipureintro; rw [View.read_writes_full]; sl_unfold_run_names; simp (disch := assumption) only [Rows.readAt_all, Memref.IsWhole.read_unread]; rfl
  isplitl [H19]; · (iexists _; isplitr; swap; iexact H19); ipureintro; rw [View.read_writes_full]; sl_unfold_run_names; simp (disch := assumption) only [Rows.readAt_all, Memref.IsWhole.read_unread]; rfl
  isplitl [H20]; · (iexists _; isplitr; swap; iexact H20); ipureintro; rw [View.read_writes_full]; sl_unfold_run_names; simp (disch := assumption) only [Rows.readAt_all, Memref.IsWhole.read_unread]; rfl
  iexists _; isplitr; swap; · iexact H21
  ipureintro
  sl_unfold_run_names; simp (disch := assumption) only [Rows.readAt_all, Memref.IsWhole.read_unread]
  rw [Rows.readAt_row (Val := Elt F) (e := .f32) a22.view _ (0 : Fin 8) ![0, 0] rfl rfl, Rows.readAt_row (Val := Elt F) (e := .f32) a22.view _ (1 : Fin 8) ![1, 0] rfl rfl, Rows.readAt_row (Val := Elt F) (e := .f32) a22.view _ (2 : Fin 8) ![2, 0] rfl rfl, h22.read_unread]
  exact Rows.three_rows (Val := Elt F) (e := .f32) a22.view _ _ _ _ _ _ _ _ _ (h22.read_unread _)

set_option maxHeartbeats 4000000 in
theorem run_first {a1 a2 a3 a4 a5 a6 a7 : Memref sig .tc .vmem S512x1024 .bf16} {a8 : Memref sig .tc .vmem S512x1024 .f32} {a9 : Memref sig .tc .vmem S512x1 .f32} {a10 a11 a12 : Memref sig .tc .vmem S1024x1024 .bf16} {a13 a14 : Memref sig .tc .vmem S1x1024 .f32} {a15 a16 a17 a18 a19 a20 a21 : Memref sig .tc .vmem S512x1024 .bf16} {a22 : Memref sig .tc .vmem S8x1024 .f32} (c : Dev nD) (i : grid0.Coords)
    (h1 : a1.IsWhole) (h2 : a2.IsWhole) (h3 : a3.IsWhole) (h4 : a4.IsWhole) (h5 : a5.IsWhole) (h6 : a6.IsWhole) (h7 : a7.IsWhole) (h8 : a8.IsWhole) (h9 : a9.IsWhole) (h10 : a10.IsWhole) (h11 : a11.IsWhole) (h12 : a12.IsWhole) (h13 : a13.IsWhole) (h14 : a14.IsWhole) (h15 : a15.IsWhole) (h16 : a16.IsWhole) (h17 : a17.IsWhole) (h18 : a18.IsWhole) (h19 : a19.IsWhole) (h20 : a20.IsWhole) (h21 : a21.IsWhole) (h22 : a22.IsWhole) (hc : cond0_0 i) (B : Blk F) (y : Vec F S8x1024 .f32) (E : Set ℕ) (K : PUnit → sProp 𝕄) :
    iprop(owns c.tc a1 fullShare B.dmix ∗ owns c.tc a2 fullShare B.ba ∗ owns c.tc a3 fullShare B.ga ∗ owns c.tc a4 fullShare B.gb ∗ owns c.tc a5 fullShare B.ya ∗ owns c.tc a6 fullShare B.yb ∗ owns c.tc a7 fullShare B.conva ∗ owns c.tc a8 fullShare B.nb ∗ owns c.tc a9 fullShare B.rstd ∗ owns c.tc a10 fullShare B.wo ∗ owns c.tc a11 fullShare B.woa ∗ owns c.tc a12 fullShare B.wob ∗ owns c.tc a13 fullShare B.g ∗ owns c.tc a14 fullShare B.b
      ∗ (∃ d, owns c.tc a15 fullShare d) ∗ (∃ d, owns c.tc a16 fullShare d) ∗ (∃ d, owns c.tc a17 fullShare d) ∗ (∃ d, owns c.tc a18 fullShare d) ∗ (∃ d, owns c.tc a19 fullShare d) ∗ (∃ d, owns c.tc a20 fullShare d) ∗ (∃ d, owns c.tc a21 fullShare d) ∗ owns c.tc a22 fullShare y
      ∗ (iprop(owns c.tc a1 fullShare B.dmix ∗ owns c.tc a2 fullShare B.ba ∗ owns c.tc a3 fullShare B.ga ∗ owns c.tc a4 fullShare B.gb ∗ owns c.tc a5 fullShare B.ya ∗ owns c.tc a6 fullShare B.yb ∗ owns c.tc a7 fullShare B.conva ∗ owns c.tc a8 fullShare B.nb ∗ owns c.tc a9 fullShare B.rstd ∗ owns c.tc a10 fullShare B.wo ∗ owns c.tc a11 fullShare B.woa ∗ owns c.tc a12 fullShare B.wob ∗ owns c.tc a13 fullShare B.g ∗ owns c.tc a14 fullShare B.b
        ∗ owns c.tc a15 fullShare B.dya ∗ owns c.tc a16 fullShare B.dyb ∗ owns c.tc a17 fullShare B.dba ∗ owns c.tc a18 fullShare B.dga ∗ owns c.tc a19 fullShare B.dgb ∗ owns c.tc a20 fullShare B.dca ∗ owns c.tc a21 fullShare B.du1 ∗ owns c.tc a22 fullShare (B.step k0_pay24)) -∗ K ⟨⟩))
      ⊢ wp frame (wpE (defs₀ (F := F)) Variants.none c none) E (cc0_mixer_bwd_local i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22) K := by
  obtain ⟨x0, x1, x2, x3, x4, x5, x6, x7, x8, x9, x10, x11, x12, x13⟩ := B
  simp only [cc0_mixer_bwd_local_eq_skeleton]; unfold cc0_mixer_bwd_local_skel
  simp only [k0_part1_eq_skeleton, k0_part2_eq_skeleton, k0_part3_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%d14, %f14, %e14, H14⟩, ⟨%d15, %f15, %e15, H15⟩, ⟨%d16, %f16, %e16, H16⟩, ⟨%d17, %f17, %e17, H17⟩, ⟨%d18, %f18, %e18, H18⟩, ⟨%d19, %f19, %e19, H19⟩, ⟨%d20, %f20, %e20, H20⟩, ⟨%f21, %e21, H21⟩, Hk⟩
  obtain rfl := h1.eq_unread e0; obtain rfl := h2.eq_unread e1; obtain rfl := h3.eq_unread e2; obtain rfl := h4.eq_unread e3; obtain rfl := h5.eq_unread e4; obtain rfl := h6.eq_unread e5; obtain rfl := h7.eq_unread e6; obtain rfl := h8.eq_unread e7; obtain rfl := h9.eq_unread e8; obtain rfl := h10.eq_unread e9; obtain rfl := h11.eq_unread e10; obtain rfl := h12.eq_unread e11; obtain rfl := h13.eq_unread e12; obtain rfl := h14.eq_unread e13; obtain rfl := h22.eq_unread e21
  sl_exec (disch := first | sl_exact hc)
  sl_step
  iapply Hk
  isplitl [H0]; · (iexists _; isplitr; · ipureintro; exact h1.read_unread _); iexact H0
  isplitl [H1]; · (iexists _; isplitr; · ipureintro; exact h2.read_unread _); iexact H1
  isplitl [H2]; · (iexists _; isplitr; · ipureintro; exact h3.read_unread _); iexact H2
  isplitl [H3]; · (iexists _; isplitr; · ipureintro; exact h4.read_unread _); iexact H3
  isplitl [H4]; · (iexists _; isplitr; · ipureintro; exact h5.read_unread _); iexact H4
  isplitl [H5]; · (iexists _; isplitr; · ipureintro; exact h6.read_unread _); iexact H5
  isplitl [H6]; · (iexists _; isplitr; · ipureintro; exact h7.read_unread _); iexact H6
  isplitl [H7]; · (iexists _; isplitr; · ipureintro; exact h8.read_unread _); iexact H7
  isplitl [H8]; · (iexists _; isplitr; · ipureintro; exact h9.read_unread _); iexact H8
  isplitl [H9]; · (iexists _; isplitr; · ipureintro; exact h10.read_unread _); iexact H9
  isplitl [H10]; · (iexists _; isplitr; · ipureintro; exact h11.read_unread _); iexact H10
  isplitl [H11]; · (iexists _; isplitr; · ipureintro; exact h12.read_unread _); iexact H11
  isplitl [H12]; · (iexists _; isplitr; · ipureintro; exact h13.read_unread _); iexact H12
  isplitl [H13]; · (iexists _; isplitr; · ipureintro; exact h14.read_unread _); iexact H13
  isplitl [H14]; · (iexists _; isplitr; swap; iexact H14); ipureintro; rw [View.read_writes_full]; sl_unfold_run_names; simp (disch := assumption) only [Rows.readAt_all, Memref.IsWhole.read_unread]; rfl
  isplitl [H15]; · (iexists _; isplitr; swap; iexact H15); ipureintro; rw [View.read_writes_full]; sl_unfold_run_names; simp (disch := assumption) only [Rows.readAt_all, Memref.IsWhole.read_unread]; rfl
  isplitl [H16]; · (iexists _; isplitr; swap; iexact H16); ipureintro; rw [View.read_writes_full]; sl_unfold_run_names; simp (disch := assumption) only [Rows.readAt_all, Memref.IsWhole.read_unread]; rfl
  isplitl [H17]; · (iexists _; isplitr; swap; iexact H17); ipureintro; rw [View.read_writes_full]; sl_unfold_run_names; simp (disch := assumption) only [Rows.readAt_all, Memref.IsWhole.read_unread]; rfl
  isplitl [H18]; · (iexists _; isplitr; swap; iexact H18); ipureintro; rw [View.read_writes_full]; sl_unfold_run_names; simp (disch := assumption) only [Rows.readAt_all, Memref.IsWhole.read_unread]; rfl
  isplitl [H19]; · (iexists _; isplitr; swap; iexact H19); ipureintro; rw [View.read_writes_full]; sl_unfold_run_names; simp (disch := assumption) only [Rows.readAt_all, Memref.IsWhole.read_unread]; rfl
  isplitl [H20]; · (iexists _; isplitr; swap; iexact H20); ipureintro; rw [View.read_writes_full]; sl_unfold_run_names; simp (disch := assumption) only [Rows.readAt_all, Memref.IsWhole.read_unread]; rfl
  iexists _; isplitr; swap; · iexact H21
  ipureintro
  sl_unfold_run_names; simp (disch := assumption) only [Rows.readAt_all, Memref.IsWhole.read_unread]
  unfold View.readCov
  simp only [Rows.readAt_row (Val := Elt F) (e := .f32) a22.view _ (0 : Fin 8) ![0, 0] rfl rfl, Rows.readAt_row (Val := Elt F) (e := .f32) a22.view _ (1 : Fin 8) ![1, 0] rfl rfl, Rows.readAt_row (Val := Elt F) (e := .f32) a22.view _ (2 : Fin 8) ![2, 0] rfl rfl, Rows.row_write (Val := Elt F) (e := .f32) (R := 8) _ _ 0 ![0, 0] rfl rfl _ _ _ 1 (by decide), Rows.row_write (Val := Elt F) (e := .f32) (R := 8) _ _ 0 ![0, 0] rfl rfl _ _ _ 2 (by decide), Rows.row_write (Val := Elt F) (e := .f32) (R := 8) _ _ 1 ![1, 0] rfl rfl _ _ _ 2 (by decide), Rows.read_all]
  exact Rows.three_rows (Val := Elt F) (e := .f32) a22.view _ _ _ _ _ _ _ _ _ (Rows.read_all _ _ _ _ _)

end Cert.MixRun
-- ==== Proof.MixBlock.lean ====
/- What one grid point of the mixer's backward kernel computes, over the extended reals: each value it stores is the function of
   its 512 rows that MixSpec names. -/
module

public import proofs.«01_k».proof.Proof.MixSpec
public import proofs.«01_k».proof.Proof.Arrays
public import proofs.«01_k».proof.Proof.MixRun
public import Idealize.ShloMosaic.Lib.Pointwise
public import Idealize.ShloMosaic.Lib.Pipeline.ValueKit

@[expose] public section

set_option maxRecDepth 16384

noncomputable section

namespace Cert.MixBlock

open Cert.Mix Cert.Mix.Gen Cert.MixRun Idealize.ShloMosaic Idealize.ShloMosaic.TcCoe
open Cert.Norm Cert.MixSpec Cert.Arrays

variable (P : Par) (v : Fin 512 → In)

/-- The blocks that a grid point with the rows `v` is given. -/
def blkOf : Blk Ideal where
  dmix := arr .bf16 fun y => (v y).dm
  ba := arr .bf16 fun y => (v y).ba
  ga := arr .bf16 fun y => (v y).ga
  gb := arr .bf16 fun y => (v y).gb
  ya := arr .bf16 fun y => ya P (v y)
  yb := arr .bf16 fun y => yb P (v y)
  conva := arr .bf16 fun y => (v y).ca
  nb := arr .f32 fun y => nrm (u1 P (v y))
  rstd := col fun y => rs (u1 P (v y))
  wo := arr .bf16 P.wo
  woa := arr .bf16 P.woa
  wob := arr .bf16 P.wob
  g := one P.g
  b := one P.b

theorem pay3 : k0_pay3 (F := Ideal) (arr .bf16 fun y => (v y).dm) (arr .bf16 P.wo) = arr .f32 fun y => dme P (v y) := arr_of fun y c => by
  pointwise [k0_pay3, arr_at]
  rfl

theorem pay6 : k0_pay6 (F := Ideal) (arr .bf16 fun y => (v y).dm) (arr .bf16 P.wo) (arr .bf16 fun y => (v y).ga) = arr .f32 fun y => dya P (v y) := arr_of fun y c => by
  pointwise [k0_pay6, k0_pay4, pay3 P v, arr_at]
  rfl

theorem pay7 : k0_pay7 (F := Ideal) (arr .bf16 fun y => (v y).dm) (arr .bf16 P.wo) (arr .bf16 fun y => (v y).gb) = arr .f32 fun y => dyb P (v y) := arr_of fun y c => by
  pointwise [k0_pay7, k0_pay5, pay3 P v, arr_at]
  rfl

theorem dya_eq : (blkOf P v).dya = arr .bf16 fun y => dya P (v y) := arr_of fun y c => by
  pointwise [Blk.dya, blkOf, k0_pay8, pay6 P v, arr_at]

theorem dyb_eq : (blkOf P v).dyb = arr .bf16 fun y => dyb P (v y) := arr_of fun y c => by
  pointwise [Blk.dyb, blkOf, k0_pay9, pay7 P v, arr_at]

theorem dga_eq : (blkOf P v).dga = arr .bf16 fun y => dga P (v y) := arr_of fun y c => by
  pointwise [Blk.dga, blkOf, k0_pay10, k0_pay4, pay6 P v, arr_at]
  rfl

theorem dgb_eq : (blkOf P v).dgb = arr .bf16 fun y => dgb P (v y) := arr_of fun y c => by
  pointwise [Blk.dgb, blkOf, k0_pay12, k0_pay11, k0_pay5, pay7 P v, arr_at]
  rfl

theorem pay13 : k0_pay13 (F := Ideal) (arr .bf16 fun y => dya P (v y)) (arr .bf16 P.woa) = arr .f32 fun y => dy P (v y) := arr_of fun y c => by
  pointwise [k0_pay13, arr_at]
  rfl

theorem dba_eq : (blkOf P v).dba = arr .bf16 fun y => dba P (v y) := by
  unfold Blk.dba; rw [dya_eq]
  exact arr_of fun y c => by
    pointwise [blkOf, k0_pay14, pay13 P v, arr_at]
    rfl

theorem dca_eq : (blkOf P v).dca = arr .bf16 fun y => dca P (v y) := by
  unfold Blk.dca; rw [dya_eq]
  exact arr_of fun y c => by
    pointwise [blkOf, k0_pay15, pay13 P v, arr_at]
    rfl

theorem du3_eq : (blkOf P v).du3 = arr .f32 fun y => du3 P (v y) := by
  unfold Blk.du3; rw [dyb_eq]
  exact arr_of fun y c => by
    pointwise [blkOf, k0_pay16, arr_at]
    rfl

theorem pay17 : k0_pay17 (F := Ideal) (arr .f32 fun y => nrm (u1 P (v y))) = arr .f32 fun y => nrm (u1 P (v y)) := arr_of fun y c => by
  pointwise [k0_pay17, arr_at]

theorem pay18 : k0_pay18 (F := Ideal) (arr .f32 fun y => nrm (u1 P (v y))) (one P.g) (one P.b) = arr .f32 fun y => u2 P (v y) := arr_of fun y c => by
  pointwise [k0_pay18, pay17 P v, arr_at, one_at]
  rfl

theorem sg_eq : (blkOf P v).sg = arr .f32 fun y k => sig (u2 P (v y) k) := arr_of fun y c => by
  pointwise [Blk.sg, blkOf, k0_pay19, pay18 P v, arr_at]

theorem usg_eq : (blkOf P v).usg = arr .f32 fun y k => u2 P (v y) k * (1 - sig (u2 P (v y) k)) := arr_of fun y c => by
  pointwise [Blk.usg, blkOf, k0_pay20, k0_pay19, pay18 P v, arr_at]

theorem pay21 : k0_pay21 (F := Ideal) (arr .f32 fun y => du3 P (v y)) (arr .f32 fun y k => sig (u2 P (v y) k))
    (arr .f32 fun y k => u2 P (v y) k * (1 - sig (u2 P (v y) k))) = arr .f32 fun y => du2 P (v y) := arr_of fun y c => by
  pointwise [k0_pay21, arr_at]
  rfl

theorem du2_eq : (blkOf P v).du2 = arr .f32 fun y => du2 P (v y) := by
  unfold Blk.du2; rw [du3_eq, sg_eq, usg_eq, pay21]

theorem du1f_eq : (blkOf P v).du1f = arr .f32 fun y => du1 P (v y) := by
  unfold Blk.du1f; rw [du3_eq, sg_eq, usg_eq]
  exact arr_of fun y c => by
    pointwise [blkOf, k0_pay22, pay17 P v, pay21 P v, arr_at, one_at, col_at]
    rfl

theorem du1_eq : (blkOf P v).du1 = arr .bf16 fun y => du1 P (v y) := arr_of fun y c =>
  (show (blkOf P v).du1 (ix2 y c) = (blkOf P v).du1f (ix2 y c) from rfl).trans (congrFun (du1f_eq P v) _)

theorem step_at (X : Vec Ideal S8x1024 .f32) (q : Fin 8) (k : Fin 1024) :
    (blkOf P v).step X (ix2 q k) = X (ix2 q k) + ∑ y, sums P (v y) q k := by
  unfold Blk.step
  rw [du3_eq, sg_eq, usg_eq, du2_eq, du1f_eq]
  have e0 : k0_pay25 (F := Ideal) (arr .f32 fun y => du3 P (v y)) (k0_pay17 (blkOf P v).nb) (arr .f32 fun y k => sig (u2 P (v y) k))
      (arr .f32 fun y k => u2 P (v y) k * (1 - sig (u2 P (v y) k))) (Rows.row X (0 : Fin 8))
      = one fun k => X (ix2 0 k) + ∑ y, sums P (v y) 0 k := one_of fun k => by
    pointwise [blkOf, k0_pay25, pay17 P v, pay21 P v, arr_at, Rows.row]
    rfl
  have e1 : k0_pay1 (F := Ideal) (arr .f32 fun y => du2 P (v y)) (Rows.row X (1 : Fin 8))
      = one fun k => X (ix2 1 k) + ∑ y, sums P (v y) 1 k := one_of fun k => by
    pointwise [k0_pay1, arr_at, Rows.row]
    rfl
  have e2 : k0_pay2 (F := Ideal) (arr .f32 fun y => du1 P (v y)) (Rows.row X (2 : Fin 8))
      = one fun k => X (ix2 2 k) + ∑ y, sums P (v y) 2 k := one_of fun k => by
    pointwise [k0_pay2, arr_at, Rows.row]
    rfl
  rw [e0, e1, e2]
  have z : ∀ q' : Fin 8, 2 < q'.val → ∑ y, sums P (v y) q' k = 0 := fun q' h => Finset.sum_eq_zero fun y _ => by
    fin_cases q' <;> first | rfl | exact absurd h (by decide)
  fin_cases q
  all_goals first
    | rfl
    | exact ((congrArg (_ + ·) (z _ (by decide))).trans (add_zero _)).symm

end Cert.MixBlock
-- ==== Proof.MixFrame.lean ====
/- The mixer's backward call: what its windows hold at every grid point, and that the call terminates with its arguments unchanged. -/
module

public import proofs.«01_k».proof.Proof.MixRun
public import Idealize.ShloMosaic.Lib.Claim

@[expose] public section

set_option maxRecDepth 16384

noncomputable section

namespace Cert.MixRun

open Cert.Mix Cert.Mix.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What point `t` reads. -/
abbrev blk (c : Dev nD) (t : Fin cfg0.N) : Blk F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t⟩

/-- The three rows of sums after point `n`. -/
def acc (c : Dev nD) : (n : ℕ) → n < cfg0.N → Vec F S8x1024 .f32
  | 0, h => (blk m c ⟨0, h⟩).step k0_pay24
  | n + 1, h => (blk m c ⟨n + 1, h⟩).step (acc c n (Nat.lt_of_succ_lt h))

theorem acc_first (c : Dev nD) (t : Fin cfg0.N) (h : t.val % 16 = 0) : acc m c t.val t.isLt = (blk m c t).step k0_pay24 := by
  obtain ⟨n, hn⟩ := t
  have hN : n < 16 := lt_of_lt_of_eq hn N_0
  obtain rfl : n = 0 := by dsimp only at h; omega
  rfl

theorem acc_next (c : Dev nD) (t : Fin cfg0.N) (h : ¬t.val % 16 = 0) :
    acc m c t.val t.isLt = (blk m c t).step (acc m c (t.val - 1) (Nat.lt_of_le_of_lt (Nat.sub_le _ _) t.isLt)) := by
  obtain ⟨n, hn⟩ := t
  cases n with
  | zero => exact absurd rfl h
  | succ k => rfl

/-- The contents of every window's buffer after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (blk m c t).dya
    | ⟨15, _⟩ => (blk m c t).dyb
    | ⟨16, _⟩ => (blk m c t).dba
    | ⟨17, _⟩ => (blk m c t).dga
    | ⟨18, _⟩ => (blk m c t).dgb
    | ⟨19, _⟩ => (blk m c t).dca
    | ⟨20, _⟩ => (blk m c t).du1
    | ⟨21, _⟩ => acc m c t.val t.isLt
    | ⟨_ + 22, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = (blk m c t).dya := by dsimp only [dats]
theorem after_15 (c : Dev nD) (t : Fin cfg0.N) : (dats m 0 c).after 15 t = (blk m c t).dyb := by dsimp only [dats]
theorem after_16 (c : Dev nD) (t : Fin cfg0.N) : (dats m 0 c).after 16 t = (blk m c t).dba := by dsimp only [dats]
theorem after_17 (c : Dev nD) (t : Fin cfg0.N) : (dats m 0 c).after 17 t = (blk m c t).dga := by dsimp only [dats]
theorem after_18 (c : Dev nD) (t : Fin cfg0.N) : (dats m 0 c).after 18 t = (blk m c t).dgb := by dsimp only [dats]
theorem after_19 (c : Dev nD) (t : Fin cfg0.N) : (dats m 0 c).after 19 t = (blk m c t).dca := by dsimp only [dats]
theorem after_20 (c : Dev nD) (t : Fin cfg0.N) : (dats m 0 c).after 20 t = (blk m c t).du1 := by dsimp only [dats]
theorem after_21 (c : Dev nD) (t : Fin cfg0.N) : (dats m 0 c).after 21 t = acc m c t.val t.isLt := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d

/-- After the first point the sums' buffer holds what the point before left. -/
theorem before_sums (c : Dev nD) (t : Fin cfg0.N) (h : ¬t.val % 16 = 0) (d) :
    (dats m 0 c).before 21 t d = acc m c (t.val - 1) (Nat.lt_of_le_of_lt (Nat.sub_le _ _) t.isLt) := by
  have hN : t.val < 16 := lt_of_lt_of_eq t.isLt (show cfg0.N = 16 from N_0)
  rw [Dat.before_out_kept _ 21 rfl t (by omega) (Bool.eq_false_iff.mpr fun h => by have := (flush0_21 _).mp h; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns c.tc (ms0_0 t) fullShare ((dats m 0 c).before 0 t d))
    ∗ (∃ d, owns c.tc (ms0_1 t) fullShare ((dats m 0 c).before 1 t d))
    ∗ (∃ d, owns c.tc (ms0_2 t) fullShare ((dats m 0 c).before 2 t d))
    ∗ (∃ d, owns c.tc (ms0_3 t) fullShare ((dats m 0 c).before 3 t d))
    ∗ (∃ d, owns c.tc (ms0_4 t) fullShare ((dats m 0 c).before 4 t d))
    ∗ (∃ d, owns c.tc (ms0_5 t) fullShare ((dats m 0 c).before 5 t d))
    ∗ (∃ d, owns c.tc (ms0_6 t) fullShare ((dats m 0 c).before 6 t d))
    ∗ (∃ d, owns c.tc (ms0_7 t) fullShare ((dats m 0 c).before 7 t d))
    ∗ (∃ d, owns c.tc (ms0_8 t) fullShare ((dats m 0 c).before 8 t d))
    ∗ (∃ d, owns c.tc (ms0_9 t) fullShare ((dats m 0 c).before 9 t d))
    ∗ (∃ d, owns c.tc (ms0_10 t) fullShare ((dats m 0 c).before 10 t d))
    ∗ (∃ d, owns c.tc (ms0_11 t) fullShare ((dats m 0 c).before 11 t d))
    ∗ (∃ d, owns c.tc (ms0_12 t) fullShare ((dats m 0 c).before 12 t d))
    ∗ (∃ d, owns c.tc (ms0_13 t) fullShare ((dats m 0 c).before 13 t d))
    ∗ (∃ d, owns c.tc (ms0_14 t) fullShare ((dats m 0 c).before 14 t d))
    ∗ (∃ d, owns c.tc (ms0_15 t) fullShare ((dats m 0 c).before 15 t d))
    ∗ (∃ d, owns c.tc (ms0_16 t) fullShare ((dats m 0 c).before 16 t d))
    ∗ (∃ d, owns c.tc (ms0_17 t) fullShare ((dats m 0 c).before 17 t d))
    ∗ (∃ d, owns c.tc (ms0_18 t) fullShare ((dats m 0 c).before 18 t d))
    ∗ (∃ d, owns c.tc (ms0_19 t) fullShare ((dats m 0 c).before 19 t d))
    ∗ (∃ d, owns c.tc (ms0_20 t) fullShare ((dats m 0 c).before 20 t d))
    ∗ (∃ d, owns c.tc (ms0_21 t) fullShare ((dats m 0 c).before 21 t d)))

def bodyPost (c : Dev nD) (t : Fin cfg0.N) : sProp 𝕄 :=
  iprop((dats m 0 c).Φ t.succ ∗ (dats m 0 c).owesAt () t.succ
    ∗ owns c.tc (ms0_0 t) fullShare ((dats m 0 c).after 0 t)
    ∗ owns c.tc (ms0_1 t) fullShare ((dats m 0 c).after 1 t)
    ∗ owns c.tc (ms0_2 t) fullShare ((dats m 0 c).after 2 t)
    ∗ owns c.tc (ms0_3 t) fullShare ((dats m 0 c).after 3 t)
    ∗ owns c.tc (ms0_4 t) fullShare ((dats m 0 c).after 4 t)
    ∗ owns c.tc (ms0_5 t) fullShare ((dats m 0 c).after 5 t)
    ∗ owns c.tc (ms0_6 t) fullShare ((dats m 0 c).after 6 t)
    ∗ owns c.tc (ms0_7 t) fullShare ((dats m 0 c).after 7 t)
    ∗ owns c.tc (ms0_8 t) fullShare ((dats m 0 c).after 8 t)
    ∗ owns c.tc (ms0_9 t) fullShare ((dats m 0 c).after 9 t)
    ∗ owns c.tc (ms0_10 t) fullShare ((dats m 0 c).after 10 t)
    ∗ owns c.tc (ms0_11 t) fullShare ((dats m 0 c).after 11 t)
    ∗ owns c.tc (ms0_12 t) fullShare ((dats m 0 c).after 12 t)
    ∗ owns c.tc (ms0_13 t) fullShare ((dats m 0 c).after 13 t)
    ∗ owns c.tc (ms0_14 t) fullShare ((dats m 0 c).after 14 t)
    ∗ owns c.tc (ms0_15 t) fullShare ((dats m 0 c).after 15 t)
    ∗ owns c.tc (ms0_16 t) fullShare ((dats m 0 c).after 16 t)
    ∗ owns c.tc (ms0_17 t) fullShare ((dats m 0 c).after 17 t)
    ∗ owns c.tc (ms0_18 t) fullShare ((dats m 0 c).after 18 t)
    ∗ owns c.tc (ms0_19 t) fullShare ((dats m 0 c).after 19 t)
    ∗ owns c.tc (ms0_20 t) fullShare ((dats m 0 c).after 20 t)
    ∗ owns c.tc (ms0_21 t) fullShare ((dats m 0 c).after 21 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21]
  have hN : t.val < 16 := lt_of_lt_of_eq t.isLt (show cfg0.N = 16 from N_0)
  by_cases h0 : t.val % 16 = 0
  · rw [acc_first m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
    iapply (run_first c (grid0.coords t) _ _ _ _ _ _ _ _ _ _ _ _ _ _ _ _ _ _ _ _ _ _ ((hcond0_0 t).mpr h0) (blk m c t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexact H21
    iintro ⟨H0, H1, H2, H3, H4, H5, H6, H7, H8, H9, H10, H11, H12, H13, H14, H15, H16, H17, H18, H19, H20, H21⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  · rw [acc_next m c t h0]; simp only [before_sums m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
    iapply (run_next c (grid0.coords t) _ _ _ _ _ _ _ _ _ _ _ _ _ _ _ _ _ _ _ _ _ _ (fun h => h0 ((hcond0_0 t).mp h)) (blk m c t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexact H21
    iintro ⟨H0, H1, H2, H3, H4, H5, H6, H7, H8, H9, H10, H11, H12, H13, H14, H15, H16, H17, H18, H19, H20, H21⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21

theorem defs₀_row (t : Fin cfg0.N) : defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The call terminates; its arrays end as the windows' contents say, and every counter is zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_main m ρ)) ((θ_run defs _ _).mono (fun _ h => h.2) (run_main_quiescent m ρ))

end Cert.MixRun
-- ==== Proof.MixIn.lean ====
/- The blocks that a grid point of the mixer's backward kernel is given: its 512 rows and the parameters. -/
module

public import proofs.«01_k».proof.Proof.MixBlock
public import proofs.«01_k».proof.Proof.MixFrame
public import Idealize.ShloMosaic.Lib.StableHlo.ReadAt

@[expose] public section

set_option maxRecDepth 16384

noncomputable section

namespace Cert.MixArray

open Cert.Mix Cert.Mix.Gen Cert.MixRun Idealize.ShloMosaic Idealize.ShloMosaic.TcCoe
open Cert.Norm Cert.MixSpec Cert.Arrays Cert.MixBlock

variable (m : (ℓ : Loc nD τ sig) → Buf (Elt Ideal) ℓ) (c : Dev nD)

/-- Column `k` of the `q`-th of the seven parts of a row of the projection. -/
def part (q : Fin 7) (k : Fin 1024) : Fin 7168 := ⟨1024 * q + k, by omega⟩

/-- Row `i` of the arguments, in the memory `m`. -/
def inp (i : Fin 8192) : In where
  ba k := m ((c : Thread nD τ).loc main_arg0) (ix2 i (part 0 k))
  ga k := m ((c : Thread nD τ).loc main_arg0) (ix2 i (part 5 k))
  gb k := m ((c : Thread nD τ).loc main_arg0) (ix2 i (part 6 k))
  ca k := m ((c : Thread nD τ).loc main_arg1) (ix2 i k)
  cb k := m ((c : Thread nD τ).loc main_arg2) (ix2 i k)
  dm k := m ((c : Thread nD τ).loc main_arg9) (ix2 i k)
/-- The parameters in the memory `m`. -/
def par : Par where
  wo a b := m ((c : Thread nD τ).loc main_arg8) (ix2 a b)
  woa a b := m ((c : Thread nD τ).loc main_arg6) (ix2 a b)
  wob a b := m ((c : Thread nD τ).loc main_arg7) (ix2 a b)
  g k := m ((c : Thread nD τ).loc main_arg4) (ix1 k)
  b k := m ((c : Thread nD τ).loc main_arg5) (ix1 k)
  bias k := m ((c : Thread nD τ).loc main_arg3) (ix1 k)

/-! ## What the host's lines leave before the launch -/

theorem V_dm (i : Fin 8192) (k : Fin 1024) : V m c main_v48 (ix2 i k) = (inp m c i).dm k := by unfold V; after_reads_at; rfl
theorem V_p (i : Fin 8192) (f : Fin 7168) : V m c main_v49 (ix2 i f) = m ((c : Thread nD τ).loc main_arg0) (ix2 i f) := by
  unfold V; after_reads_at
theorem V_nb (i : Fin 8192) (k : Fin 1024) : V m c main_v18 (ix2 i k) = nrm (u1 (par m c) (inp m c i)) k := by
  unfold V; after_reads_at; rfl
theorem V_rs (i : Fin 8192) (z : Fin 1) : V m c main_v16 (ix2 i z) = rs (u1 (par m c) (inp m c i)) := by
  unfold V; after_reads_at; rfl
theorem V_ya (i : Fin 8192) (k : Fin 1024) : V m c main_v50 (ix2 i k) = ya (par m c) (inp m c i) k := by
  unfold V; after_reads_at; rfl
theorem V_yb (i : Fin 8192) (k : Fin 1024) : V m c main_v51 (ix2 i k) = yb (par m c) (inp m c i) k := by
  unfold V; after_reads_at
  rfl
theorem V_ca (i : Fin 8192) (k : Fin 1024) : V m c main_v52 (ix2 i k) = (inp m c i).ca k := by unfold V; after_reads_at; rfl
theorem V_wo (a b : Fin 1024) : V m c main_v53 (ix2 a b) = (par m c).wo a b := by unfold V; after_reads_at; rfl
theorem V_woa (a b : Fin 1024) : V m c main_v54 (ix2 a b) = (par m c).woa a b := by unfold V; after_reads_at; rfl
theorem V_wob (a b : Fin 1024) : V m c main_v55 (ix2 a b) = (par m c).wob a b := by unfold V; after_reads_at; rfl
theorem V_g (k : Fin 1024) : V m c main_v56 (ix2 0 k) = (par m c).g k := by unfold V; after_reads_at; rfl
theorem V_b (k : Fin 1024) : V m c main_v57 (ix2 0 k) = (par m c).b k := by unfold V; after_reads_at; rfl

/-! ## The blocks -/

theorem idx0 : ∀ t : Fin cfg0.N, win0_0.index t 0 = t ∧ win0_0.index t 1 = 0 := by decide +kernel
theorem idx1 : ∀ t : Fin cfg0.N, win0_1.index t 0 = t ∧ win0_1.index t 1 = 0 := by decide +kernel
theorem idx2 : ∀ t : Fin cfg0.N, win0_2.index t 0 = t ∧ win0_2.index t 1 = 5 := by decide +kernel
theorem idx3 : ∀ t : Fin cfg0.N, win0_3.index t 0 = t ∧ win0_3.index t 1 = 6 := by decide +kernel
theorem idx4 : ∀ t : Fin cfg0.N, win0_4.index t 0 = t ∧ win0_4.index t 1 = 0 := by decide +kernel
theorem idx5 : ∀ t : Fin cfg0.N, win0_5.index t 0 = t ∧ win0_5.index t 1 = 0 := by decide +kernel
theorem idx6 : ∀ t : Fin cfg0.N, win0_6.index t 0 = t ∧ win0_6.index t 1 = 0 := by decide +kernel
theorem idx7 : ∀ t : Fin cfg0.N, win0_7.index t 0 = t ∧ win0_7.index t 1 = 0 := by decide +kernel
theorem idx8 : ∀ t : Fin cfg0.N, win0_8.index t 0 = t ∧ win0_8.index t 1 = 0 := by decide +kernel
theorem idx9 : ∀ t : Fin cfg0.N, win0_9.index t 0 = 0 ∧ win0_9.index t 1 = 0 := by decide +kernel
theorem idx10 : ∀ t : Fin cfg0.N, win0_10.index t 0 = 0 ∧ win0_10.index t 1 = 0 := by decide +kernel
theorem idx11 : ∀ t : Fin cfg0.N, win0_11.index t 0 = 0 ∧ win0_11.index t 1 = 0 := by decide +kernel
theorem idx12 : ∀ t : Fin cfg0.N, win0_12.index t 0 = 0 ∧ win0_12.index t 1 = 0 := by decide +kernel
theorem idx13 : ∀ t : Fin cfg0.N, win0_13.index t 0 = 0 ∧ win0_13.index t 1 = 0 := by decide +kernel

variable (t : Fin cfg0.N)

theorem lt16 : t.val < 16 := lt_of_lt_of_eq t.isLt N_0
/-- The rows of point `t`. -/
abbrev rows : Fin 512 → In := fun y => inp m c (rowAt t (lt16 t) y)

theorem in0 : iblk m c 0 t = arr .bf16 fun y => (rows m c t y).dm := arr_of fun y k => by
  refine Eq.trans (?_ : _ = V m c main_v48 (ix2 (rowAt t (lt16 t) y) k)) (V_dm m c _ _)
  blk_ext [iblk, rowAt, idx0 t]
theorem in1 : iblk m c 1 t = arr .bf16 fun y => (rows m c t y).ba := arr_of fun y k => by
  refine Eq.trans (?_ : _ = V m c main_v49 (ix2 (rowAt t (lt16 t) y) (part 0 k))) (V_p m c _ _)
  blk_ext [iblk, rowAt, part, idx1 t]
theorem in2 : iblk m c 2 t = arr .bf16 fun y => (rows m c t y).ga := arr_of fun y k => by
  refine Eq.trans (?_ : _ = V m c main_v49 (ix2 (rowAt t (lt16 t) y) (part 5 k))) (V_p m c _ _)
  blk_ext [iblk, rowAt, part, idx2 t]
theorem in3 : iblk m c 3 t = arr .bf16 fun y => (rows m c t y).gb := arr_of fun y k => by
  refine Eq.trans (?_ : _ = V m c main_v49 (ix2 (rowAt t (lt16 t) y) (part 6 k))) (V_p m c _ _)
  blk_ext [iblk, rowAt, part, idx3 t]
theorem in4 : iblk m c 4 t = arr .bf16 fun y => ya (par m c) (rows m c t y) := arr_of fun y k => by
  refine Eq.trans (?_ : _ = V m c main_v50 (ix2 (rowAt t (lt16 t) y) k)) (V_ya m c _ _)
  blk_ext [iblk, rowAt, idx4 t]
theorem in5 : iblk m c 5 t = arr .bf16 fun y => yb (par m c) (rows m c t y) := arr_of fun y k => by
  refine Eq.trans (?_ : _ = V m c main_v51 (ix2 (rowAt t (lt16 t) y) k)) (V_yb m c _ _)
  blk_ext [iblk, rowAt, idx5 t]
theorem in6 : iblk m c 6 t = arr .bf16 fun y => (rows m c t y).ca := arr_of fun y k => by
  refine Eq.trans (?_ : _ = V m c main_v52 (ix2 (rowAt t (lt16 t) y) k)) (V_ca m c _ _)
  blk_ext [iblk, rowAt, idx6 t]
theorem in7 : iblk m c 7 t = arr .f32 fun y => nrm (u1 (par m c) (rows m c t y)) := arr_of fun y k => by
  refine Eq.trans (?_ : _ = V m c main_v18 (ix2 (rowAt t (lt16 t) y) k)) (V_nb m c _ _)
  blk_ext [iblk, rowAt, idx7 t]
theorem in8 : iblk m c 8 t = col fun y => rs (u1 (par m c) (rows m c t y)) := col_of fun y => by
  refine Eq.trans (?_ : _ = V m c main_v16 (ix2 (rowAt t (lt16 t) y) 0)) (V_rs m c _ _)
  blk_ext [iblk, rowAt, idx8 t]
theorem in9 : iblk m c 9 t = arr .bf16 (par m c).wo := arr_of fun a b => by
  refine Eq.trans (?_ : _ = V m c main_v53 (ix2 a b)) (V_wo m c _ _)
  blk_ext [iblk, idx9 t]
theorem in10 : iblk m c 10 t = arr .bf16 (par m c).woa := arr_of fun a b => by
  refine Eq.trans (?_ : _ = V m c main_v54 (ix2 a b)) (V_woa m c _ _)
  blk_ext [iblk, idx10 t]
theorem in11 : iblk m c 11 t = arr .bf16 (par m c).wob := arr_of fun a b => by
  refine Eq.trans (?_ : _ = V m c main_v55 (ix2 a b)) (V_wob m c _ _)
  blk_ext [iblk, idx11 t]
theorem in12 : iblk m c 12 t = one (par m c).g := one_of fun k => by
  refine Eq.trans (?_ : _ = V m c main_v56 (ix2 0 k)) (V_g m c _)
  blk_ext [iblk, idx12 t]
theorem in13 : iblk m c 13 t = one (par m c).b := one_of fun k => by
  refine Eq.trans (?_ : _ = V m c main_v57 (ix2 0 k)) (V_b m c _)
  blk_ext [iblk, idx13 t]

/-- What point `t` reads. -/
theorem blk_eq : blk m c t = blkOf (par m c) (rows m c t) := by
  unfold blk blkOf
  rw [in0, in1, in2, in3, in4, in5, in6, in7, in8, in9, in10, in11, in12, in13]

end Cert.MixArray
-- ==== Proof.MixArray.lean ====
/- The arrays that the mixer's backward kernel has written when it ends: row `i` of each is the function of row `i` of the
   arguments, and the last array holds the sums over all rows. -/
module

public import proofs.«01_k».proof.Proof.MixIn

@[expose] public section

set_option maxRecDepth 16384

noncomputable section

namespace Cert.MixArray

open Cert.Mix Cert.Mix.Gen Cert.MixRun Idealize.ShloMosaic Idealize.ShloMosaic.TcCoe
open Cert.Norm Cert.MixSpec Cert.Arrays Cert.MixBlock

variable (m : (ℓ : Loc nD τ sig) → Buf (Elt Ideal) ℓ) (c : Dev nD)

theorem idx14 : ∀ t : Fin cfg0.N, win0_14.index t 0 = t ∧ win0_14.index t 1 = 0 := by decide +kernel
theorem idx15 : ∀ t : Fin cfg0.N, win0_15.index t 0 = t ∧ win0_15.index t 1 = 0 := by decide +kernel
theorem idx16 : ∀ t : Fin cfg0.N, win0_16.index t 0 = t ∧ win0_16.index t 1 = 0 := by decide +kernel
theorem idx17 : ∀ t : Fin cfg0.N, win0_17.index t 0 = t ∧ win0_17.index t 1 = 0 := by decide +kernel
theorem idx18 : ∀ t : Fin cfg0.N, win0_18.index t 0 = t ∧ win0_18.index t 1 = 0 := by decide +kernel
theorem idx19 : ∀ t : Fin cfg0.N, win0_19.index t 0 = t ∧ win0_19.index t 1 = 0 := by decide +kernel
theorem idx20 : ∀ t : Fin cfg0.N, win0_20.index t 0 = t ∧ win0_20.index t 1 = 0 := by decide +kernel

theorem all14 : (dats m 0 c).arrAt 14 (cfgs 0).N = all fun i => dya (par m c) (inp m c i) := by
  refine (dats m 0 c).arrAt_eq_of_covers 14 _ (by decide +kernel) fun t hf y => ?_
  blk_simp
  rw [after_14, blk_eq, MixBlock.dya_eq]
  refine all_at (fun i => dya (par m c) (inp m c i)) t (lt16 t) _ y ?_ ?_ <;> blk_simp [idx14 t] <;> omega

theorem all15 : (dats m 0 c).arrAt 15 (cfgs 0).N = all fun i => dyb (par m c) (inp m c i) := by
  refine (dats m 0 c).arrAt_eq_of_covers 15 _ (by decide +kernel) fun t hf y => ?_
  blk_simp
  rw [after_15, blk_eq, MixBlock.dyb_eq]
  refine all_at (fun i => dyb (par m c) (inp m c i)) t (lt16 t) _ y ?_ ?_ <;> blk_simp [idx15 t] <;> omega

theorem all16 : (dats m 0 c).arrAt 16 (cfgs 0).N = all fun i => dba (par m c) (inp m c i) := by
  refine (dats m 0 c).arrAt_eq_of_covers 16 _ (by decide +kernel) fun t hf y => ?_
  blk_simp
  rw [after_16, blk_eq, MixBlock.dba_eq]
  refine all_at (fun i => dba (par m c) (inp m c i)) t (lt16 t) _ y ?_ ?_ <;> blk_simp [idx16 t] <;> omega

theorem all17 : (dats m 0 c).arrAt 17 (cfgs 0).N = all fun i => dga (par m c) (inp m c i) := by
  refine (dats m 0 c).arrAt_eq_of_covers 17 _ (by decide +kernel) fun t hf y => ?_
  blk_simp
  rw [after_17, blk_eq, MixBlock.dga_eq]
  refine all_at (fun i => dga (par m c) (inp m c i)) t (lt16 t) _ y ?_ ?_ <;> blk_simp [idx17 t] <;> omega

theorem all18 : (dats m 0 c).arrAt 18 (cfgs 0).N = all fun i => dgb (par m c) (inp m c i) := by
  refine (dats m 0 c).arrAt_eq_of_covers 18 _ (by decide +kernel) fun t hf y => ?_
  blk_simp
  rw [after_18, blk_eq, MixBlock.dgb_eq]
  refine all_at (fun i => dgb (par m c) (inp m c i)) t (lt16 t) _ y ?_ ?_ <;> blk_simp [idx18 t] <;> omega

theorem all19 : (dats m 0 c).arrAt 19 (cfgs 0).N = all fun i => dca (par m c) (inp m c i) := by
  refine (dats m 0 c).arrAt_eq_of_covers 19 _ (by decide +kernel) fun t hf y => ?_
  blk_simp
  rw [after_19, blk_eq, MixBlock.dca_eq]
  refine all_at (fun i => dca (par m c) (inp m c i)) t (lt16 t) _ y ?_ ?_ <;> blk_simp [idx19 t] <;> omega

theorem all20 : (dats m 0 c).arrAt 20 (cfgs 0).N = all fun i => du1 (par m c) (inp m c i) := by
  refine (dats m 0 c).arrAt_eq_of_covers 20 _ (by decide +kernel) fun t hf y => ?_
  blk_simp
  rw [after_20, blk_eq, MixBlock.du1_eq]
  refine all_at (fun i => du1 (par m c) (inp m c i)) t (lt16 t) _ y ?_ ?_ <;> blk_simp [idx20 t] <;> omega

/-- What point `t` adds to row `q` of the sums. -/
def term (t : Fin cfg0.N) (q : Fin 8) (k : Fin 1024) : EReal := ∑ y, sums (par m c) (rows m c t y) q k

/-- The last grid point. -/
def tLast : Fin cfg0.N := ⟨15, by decide⟩

theorem all21 : (dats m 0 c).arrAt 21 (cfgs 0).N = fun i => ∑ r, sums (par m c) (inp m c r) (i 0) (i 1) := by
  refine (dats m 0 c).arrAt_eq_of_after_last 21 tLast (by decide +kernel) _ fun j => ?_
  rw [after_21, eq_ix2 j]
  refine (Pipeline.eq_sum_fin_of_reset_step_last (fun n h => acc m c n h (ix2 (j 0) (j 1))) 16 0
    (fun t => term m c t (j 0) (j 1)) (fun t h => ?_) (fun t h => ?_) (by decide) tLast rfl).trans ?_
  · rw [acc_first m c t h, blk_eq]
    exact (step_at _ _ _ (j 0) (j 1)).trans (congrArg (· + _) (by pointwise [k0_pay24]))
  · rw [acc_next m c t h, blk_eq]
    exact step_at _ _ _ (j 0) (j 1)
  · rw [zero_add]
    exact sum_rows fun r => sums (par m c) (inp m c r) (j 0) (j 1)

end Cert.MixArray
-- ==== Proof.MixPre.lean ====
/- What the mixer's precondition says of its arguments: each element of those it names is a real number. -/
module

public import proofs.«01_k».proof.Proof.Norm
public import proofs.«01_k».proof.Proof.Finite
public import proofs.«01_k».proof.Proof.Gen.Pre_finite_mix

@[expose] public section

set_option maxRecDepth 16384

noncomputable section

namespace Cert.MixPre

open Idealize.ShloMosaic Cert.Norm Cert.Pre_finite_mix

instance : Subsingleton S_.Idx := ⟨fun a b => funext fun k => k.elim0⟩

variable (x0 : FVec Ideal S8192x7168 .f32) (x1 x2 x9 : FVec Ideal S8192x1024 .f32) (x3 x4 x5 : FVec Ideal S1024 .f32)
  (x6 x7 x8 : FVec Ideal S1024x1024 .f32)

theorem reals (h : fn x0 x1 x2 x3 x4 x5 x6 x7 x8 x9 = fun _ => 1#1) :
    (∀ i, IsR (x2 i)) ∧ (∀ i, IsR (x3 i)) ∧ (∀ i, IsR (x4 i)) ∧ (∀ i, IsR (x5 i)) ∧ (∀ i, IsR (x7 i)) ∧ (∀ i, IsR (x8 i))
      ∧ (∀ i, IsR (x9 i)) := by
  have h := congrFun h (fun a => a.elim0)
  unfold fn fn_part1 at h
  simp only [andi, IntOp.andi_eq_one] at h
  obtain ⟨⟨⟨⟨⟨⟨h2, h3⟩, h4⟩, h5⟩, h7⟩, h8⟩, h9⟩ := h
  exact ⟨isR_of_all _ _ _ _ _ _ h2, isR_of_all _ _ _ _ _ _ h3, isR_of_all _ _ _ _ _ _ h4, isR_of_all _ _ _ _ _ _ h5,
    isR_of_all _ _ _ _ _ _ h7, isR_of_all _ _ _ _ _ _ h8, isR_of_all _ _ _ _ _ _ h9⟩

end Cert.MixPre
-- ==== Proof.MixClaim.lean ====
/- The mixer's two programs compute the same arrays, and each keeps its arguments. -/
module

public import proofs.«01_k».proof.Proof.MixRef
public import proofs.«01_k».proof.Proof.MixArray
public import proofs.«01_k».proof.Proof.MixPre
public import proofs.«01_k».proof.Proof.Gen.MixIdeal
public import proofs.«01_k».proof.Defs

@[expose] public section

set_option maxRecDepth 16384

noncomputable section

namespace Cert.MixRef

open Cert.MixReferenceIdeal Cert.MixReferenceIdeal.Gen Cert.MixReferenceIdeal.Read Idealize.ShloMosaic Idealize.ShloMosaic.TcCoe
open Cert.Norm Cert.MixSpec Cert.Arrays

variable {x0 : (⟨S8192x7168, .f32⟩ : BufTy).Contents (Elt Ideal)} {x1 x2 : (⟨S8192x1024, .f32⟩ : BufTy).Contents (Elt Ideal)}
  {x3 x4 x5 : (⟨S1024, .f32⟩ : BufTy).Contents (Elt Ideal)} {x6 x7 x8 : (⟨S1024x1024, .f32⟩ : BufTy).Contents (Elt Ideal)}
  {x9 : (⟨S8192x1024, .f32⟩ : BufTy).Contents (Elt Ideal)} (hP : (par x3 x4 x5 x6 x7 x8).Real) (hv : ∀ i, (inp x0 x1 x2 x9 i).Real)

theorem res0 : val_main_v116 (F := Ideal) x0 x8 x9 = all fun i => dya (par x3 x4 x5 x6 x7 x8) (inp x0 x1 x2 x9 i) := by
  funext j; rw [eq_ix2 j]
  exact at_v72 x0 x1 x2 x3 x4 x5 x6 x7 x8 x9 _ _
theorem res1 : val_main_v117 (F := Ideal) x0 x8 x9 = all fun i => dyb (par x3 x4 x5 x6 x7 x8) (inp x0 x1 x2 x9 i) := by
  funext j; rw [eq_ix2 j]
  exact at_v69 x0 x1 x2 x3 x4 x5 x6 x7 x8 x9 _ _
theorem res2 : val_main_v118 (F := Ideal) x0 x1 x6 x8 x9 = all fun i => dba (par x3 x4 x5 x6 x7 x8) (inp x0 x1 x2 x9 i) := by
  funext j; rw [eq_ix2 j]
  exact at_v115 x0 x1 x2 x3 x4 x5 x6 x7 x8 x9 _ _
theorem res3 : val_main_v119 (F := Ideal) x0 x1 x6 x8 x9 = all fun i => dga (par x3 x4 x5 x6 x7 x8) (inp x0 x1 x2 x9 i) := by
  funext j; rw [eq_ix2 j]
  exact at_v74 x0 x1 x2 x3 x4 x5 x6 x7 x8 x9 _ _
theorem res4 : val_main_v120 (F := Ideal) x0 x2 x3 x4 x5 x7 x8 x9 = all fun i => dgb (par x3 x4 x5 x6 x7 x8) (inp x0 x1 x2 x9 i) := by
  funext j; rw [eq_ix2 j]
  exact at_v71 x0 x1 x2 x3 x4 x5 x6 x7 x8 x9 _ _
theorem res5 : val_main_v121 (F := Ideal) x0 x6 x8 x9 = all fun i => dca (par x3 x4 x5 x6 x7 x8) (inp x0 x1 x2 x9 i) := by
  funext j; rw [eq_ix2 j]
  exact at_v114 x0 x1 x2 x3 x4 x5 x6 x7 x8 x9 _ _
include hP hv
theorem res6 : val_main_v122 (F := Ideal) x0 x2 x3 x4 x5 x7 x8 x9 = all fun i => du1 (par x3 x4 x5 x6 x7 x8) (inp x0 x1 x2 x9 i) := by
  funext j; rw [eq_ix2 j]
  exact at_v109 hP hv _ _
theorem res7 : val_main_v128 (F := Ideal) x0 x2 x3 x4 x5 x7 x8 x9 = fun j => ∑ i, sums (par x3 x4 x5 x6 x7 x8) (inp x0 x1 x2 x9 i) (j 0) (j 1) := by
  funext j; rw [eq_ix2 j]
  exact at_v128 hP hv _ _

end Cert.MixRef

namespace Cert.MixClaim

open Idealize.ShloMosaic Idealize.ShloMosaic.TcCoe Idealize.SL.Sem
open Cert.Norm Cert.MixSpec Cert.Arrays Cert.MixArray

theorem frame_kernel : Cert.quiescent_Mix (hMix := Cert.Mix.Gen.facts) := fun m ρ _ => Cert.MixRun.frame m ρ

/-- The ideal program is the kernel's own text: its run is the kernel's at the extended reals. -/
theorem frame_ideal : Cert.quiescent_MixIdeal (hMixIdeal := Cert.MixIdeal.Gen.facts) := fun m ρ _ =>
  cast (by sl_kernel_rfl) (Cert.MixRun.frame (F := Ideal) m ρ)

theorem frame_ref : Cert.quiescent_MixReferenceIdeal (hMixReferenceIdeal := Cert.MixReferenceIdeal.Gen.facts) := fun m ρ _ =>
  (θ_run Cert.MixReferenceIdeal.defs _ _).mono (fun r h => ⟨fun c => (h c).2.2.2.2.2.2.2.2, sem_eq_zero_of_no_sems (by decide) r.2⟩)
    (Cert.MixReferenceIdeal.Value.run m ρ)

section Kernel

variable (m : (ℓ : Loc Mix.nD Mix.τ Mix.sig) → Buf (Elt Ideal) ℓ) (c : Dev Mix.nD)

/-- The gradient of the first branch's output. -/
def res0 : Mix.S8192x1024.Idx → EReal := all fun i => dya (par m c) (inp m c i)
/-- The gradient of the second branch's output. -/
def res1 : Mix.S8192x1024.Idx → EReal := all fun i => dyb (par m c) (inp m c i)
/-- The gradient of the first branch's factor. -/
def res2 : Mix.S8192x1024.Idx → EReal := all fun i => dba (par m c) (inp m c i)
/-- The gradients of the gates. -/
def res3 : Mix.S8192x1024.Idx → EReal := all fun i => dga (par m c) (inp m c i)
/-- The gradient of the second gate. -/
def res4 : Mix.S8192x1024.Idx → EReal := all fun i => dgb (par m c) (inp m c i)
/-- The gradient of the first convolution's output. -/
def res5 : Mix.S8192x1024.Idx → EReal := all fun i => dca (par m c) (inp m c i)
/-- The gradient of the second convolution's output, before its bias. -/
def res6 : Mix.S8192x1024.Idx → EReal := all fun i => du1 (par m c) (inp m c i)
/-- The sums over the sequence. -/
def res7 : Mix.S8x1024.Idx → EReal := fun j => ∑ i, sums (par m c) (inp m c i) (j 0) (j 1)

set_option maxHeartbeats 2000000 in
/-- The arrays of the kernel's run. -/
theorem run_kernel (ρ : Dev Mix.nD → PrngReg) :
    θ_run (Mix.defs (F := Ideal)) (onTc (τ := Mix.τ) (Mix.main (F := Ideal))) ⟨m, fun _ => 0, ρ⟩ fun r => ∀ c : Dev Mix.nD,
      r.2.mem ((c.tc : Thread Mix.nD Mix.τ).loc Mix.main_v58_0) = res0 m c
      ∧ r.2.mem ((c.tc : Thread Mix.nD Mix.τ).loc Mix.main_v58_1) = res1 m c
      ∧ r.2.mem ((c.tc : Thread Mix.nD Mix.τ).loc Mix.main_v58_2) = res2 m c
      ∧ r.2.mem ((c.tc : Thread Mix.nD Mix.τ).loc Mix.main_v58_3) = res3 m c
      ∧ r.2.mem ((c.tc : Thread Mix.nD Mix.τ).loc Mix.main_v58_4) = res4 m c
      ∧ r.2.mem ((c.tc : Thread Mix.nD Mix.τ).loc Mix.main_v58_5) = res5 m c
      ∧ r.2.mem ((c.tc : Thread Mix.nD Mix.τ).loc Mix.main_v58_6) = res6 m c
      ∧ r.2.mem ((c.tc : Thread Mix.nD Mix.τ).loc Mix.main_v58_7) = res7 m c
      ∧ r.2.mem ((c.tc : Thread Mix.nD Mix.τ).loc Mix.main_arg0) = m ((c.tc : Thread Mix.nD Mix.τ).loc Mix.main_arg0)
      ∧ r.2.mem ((c.tc : Thread Mix.nD Mix.τ).loc Mix.main_arg1) = m ((c.tc : Thread Mix.nD Mix.τ).loc Mix.main_arg1)
      ∧ r.2.mem ((c.tc : Thread Mix.nD Mix.τ).loc Mix.main_arg2) = m ((c.tc : Thread Mix.nD Mix.τ).loc Mix.main_arg2)
      ∧ r.2.mem ((c.tc : Thread Mix.nD Mix.τ).loc Mix.main_arg3) = m ((c.tc : Thread Mix.nD Mix.τ).loc Mix.main_arg3)
      ∧ r.2.mem ((c.tc : Thread Mix.nD Mix.τ).loc Mix.main_arg4) = m ((c.tc : Thread Mix.nD Mix.τ).loc Mix.main_arg4)
      ∧ r.2.mem ((c.tc : Thread Mix.nD Mix.τ).loc Mix.main_arg5) = m ((c.tc : Thread Mix.nD Mix.τ).loc Mix.main_arg5)
      ∧ r.2.mem ((c.tc : Thread Mix.nD Mix.τ).loc Mix.main_arg6) = m ((c.tc : Thread Mix.nD Mix.τ).loc Mix.main_arg6)
      ∧ r.2.mem ((c.tc : Thread Mix.nD Mix.τ).loc Mix.main_arg7) = m ((c.tc : Thread Mix.nD Mix.τ).loc Mix.main_arg7)
      ∧ r.2.mem ((c.tc : Thread Mix.nD Mix.τ).loc Mix.main_arg8) = m ((c.tc : Thread Mix.nD Mix.τ).loc Mix.main_arg8)
      ∧ r.2.mem ((c.tc : Thread Mix.nD Mix.τ).loc Mix.main_arg9) = m ((c.tc : Thread Mix.nD Mix.τ).loc Mix.main_arg9) :=
  (θ_run _ _ _).mono (fun r h c => by
    have hw := (h.1 c).1
    exact ⟨(hw 14).trans (all14 m c), (hw 15).trans (all15 m c), (hw 16).trans (all16 m c), (hw 17).trans (all17 m c), (hw 18).trans (all18 m c), (hw 19).trans (all19 m c), (hw 20).trans (all20 m c), (hw 21).trans (all21 m c), h.2.1 c⟩)
    (θ_run_and (Cert.MixRun.run_main (F := Ideal) m ρ) (Cert.MixRun.frame (F := Ideal) m ρ))

end Kernel

section Ref

variable (m : (ℓ : Loc MixReferenceIdeal.nD MixReferenceIdeal.τ MixReferenceIdeal.sig) → Buf (Elt Ideal) ℓ) (c : Dev MixReferenceIdeal.nD)

/-- The reference's parameters and rows, as its arguments hold them. -/
def parR : Par := MixRef.par (m (c.tc.loc MixReferenceIdeal.main_arg3)) (m (c.tc.loc MixReferenceIdeal.main_arg4)) (m (c.tc.loc MixReferenceIdeal.main_arg5))
  (m (c.tc.loc MixReferenceIdeal.main_arg6)) (m (c.tc.loc MixReferenceIdeal.main_arg7)) (m (c.tc.loc MixReferenceIdeal.main_arg8))
def inpR : Fin 8192 → In := MixRef.inp (m (c.tc.loc MixReferenceIdeal.main_arg0)) (m (c.tc.loc MixReferenceIdeal.main_arg1)) (m (c.tc.loc MixReferenceIdeal.main_arg2))
  (m (c.tc.loc MixReferenceIdeal.main_arg9))

/-- The arrays of the reference's run, where its arguments are real. -/
theorem run_ref (ρ : Dev MixReferenceIdeal.nD → PrngReg) (hP : ∀ c, (parR m c).Real) (hv : ∀ c i, (inpR m c i).Real) :
    θ_run (MixReferenceIdeal.defs (F := Ideal)) (onTc (τ := MixReferenceIdeal.τ) (MixReferenceIdeal.main (F := Ideal))) ⟨m, fun _ => 0, ρ⟩
    fun r => ∀ c : Dev MixReferenceIdeal.nD,
      r.2.mem ((c.tc : Thread MixReferenceIdeal.nD MixReferenceIdeal.τ).loc MixReferenceIdeal.main_v116) = (all fun i => dya (parR m c) (inpR m c i))
      ∧ r.2.mem ((c.tc : Thread MixReferenceIdeal.nD MixReferenceIdeal.τ).loc MixReferenceIdeal.main_v117) = (all fun i => dyb (parR m c) (inpR m c i))
      ∧ r.2.mem ((c.tc : Thread MixReferenceIdeal.nD MixReferenceIdeal.τ).loc MixReferenceIdeal.main_v118) = (all fun i => dba (parR m c) (inpR m c i))
      ∧ r.2.mem ((c.tc : Thread MixReferenceIdeal.nD MixReferenceIdeal.τ).loc MixReferenceIdeal.main_v119) = (all fun i => dga (parR m c) (inpR m c i))
      ∧ r.2.mem ((c.tc : Thread MixReferenceIdeal.nD MixReferenceIdeal.τ).loc MixReferenceIdeal.main_v120) = (all fun i => dgb (parR m c) (inpR m c i))
      ∧ r.2.mem ((c.tc : Thread MixReferenceIdeal.nD MixReferenceIdeal.τ).loc MixReferenceIdeal.main_v121) = (all fun i => dca (parR m c) (inpR m c i))
      ∧ r.2.mem ((c.tc : Thread MixReferenceIdeal.nD MixReferenceIdeal.τ).loc MixReferenceIdeal.main_v122) = (all fun i => du1 (parR m c) (inpR m c i))
      ∧ r.2.mem ((c.tc : Thread MixReferenceIdeal.nD MixReferenceIdeal.τ).loc MixReferenceIdeal.main_v128) = (fun j => ∑ i, sums (parR m c) (inpR m c i) (j 0) (j 1))
      ∧ r.2.mem ((c.tc : Thread MixReferenceIdeal.nD MixReferenceIdeal.τ).loc MixReferenceIdeal.main_arg0) = m ((c.tc : Thread MixReferenceIdeal.nD MixReferenceIdeal.τ).loc MixReferenceIdeal.main_arg0)
      ∧ r.2.mem ((c.tc : Thread MixReferenceIdeal.nD MixReferenceIdeal.τ).loc MixReferenceIdeal.main_arg1) = m ((c.tc : Thread MixReferenceIdeal.nD MixReferenceIdeal.τ).loc MixReferenceIdeal.main_arg1)
      ∧ r.2.mem ((c.tc : Thread MixReferenceIdeal.nD MixReferenceIdeal.τ).loc MixReferenceIdeal.main_arg2) = m ((c.tc : Thread MixReferenceIdeal.nD MixReferenceIdeal.τ).loc MixReferenceIdeal.main_arg2)
      ∧ r.2.mem ((c.tc : Thread MixReferenceIdeal.nD MixReferenceIdeal.τ).loc MixReferenceIdeal.main_arg3) = m ((c.tc : Thread MixReferenceIdeal.nD MixReferenceIdeal.τ).loc MixReferenceIdeal.main_arg3)
      ∧ r.2.mem ((c.tc : Thread MixReferenceIdeal.nD MixReferenceIdeal.τ).loc MixReferenceIdeal.main_arg4) = m ((c.tc : Thread MixReferenceIdeal.nD MixReferenceIdeal.τ).loc MixReferenceIdeal.main_arg4)
      ∧ r.2.mem ((c.tc : Thread MixReferenceIdeal.nD MixReferenceIdeal.τ).loc MixReferenceIdeal.main_arg5) = m ((c.tc : Thread MixReferenceIdeal.nD MixReferenceIdeal.τ).loc MixReferenceIdeal.main_arg5)
      ∧ r.2.mem ((c.tc : Thread MixReferenceIdeal.nD MixReferenceIdeal.τ).loc MixReferenceIdeal.main_arg6) = m ((c.tc : Thread MixReferenceIdeal.nD MixReferenceIdeal.τ).loc MixReferenceIdeal.main_arg6)
      ∧ r.2.mem ((c.tc : Thread MixReferenceIdeal.nD MixReferenceIdeal.τ).loc MixReferenceIdeal.main_arg7) = m ((c.tc : Thread MixReferenceIdeal.nD MixReferenceIdeal.τ).loc MixReferenceIdeal.main_arg7)
      ∧ r.2.mem ((c.tc : Thread MixReferenceIdeal.nD MixReferenceIdeal.τ).loc MixReferenceIdeal.main_arg8) = m ((c.tc : Thread MixReferenceIdeal.nD MixReferenceIdeal.τ).loc MixReferenceIdeal.main_arg8)
      ∧ r.2.mem ((c.tc : Thread MixReferenceIdeal.nD MixReferenceIdeal.τ).loc MixReferenceIdeal.main_arg9) = m ((c.tc : Thread MixReferenceIdeal.nD MixReferenceIdeal.τ).loc MixReferenceIdeal.main_arg9) :=
  (θ_run _ _ _).mono (fun r h c => by
    obtain ⟨e0, e1, e2, e3, e4, e5, e6, e7, hkeep⟩ := h c
    exact ⟨e0.trans ((Cert.MixReferenceIdeal.Read.val_main_v116_eq _).trans (MixRef.res0)),
      e1.trans ((Cert.MixReferenceIdeal.Read.val_main_v117_eq _).trans (MixRef.res1)),
      e2.trans ((Cert.MixReferenceIdeal.Read.val_main_v118_eq _).trans (MixRef.res2)),
      e3.trans ((Cert.MixReferenceIdeal.Read.val_main_v119_eq _).trans (MixRef.res3)),
      e4.trans ((Cert.MixReferenceIdeal.Read.val_main_v120_eq _).trans (MixRef.res4)),
      e5.trans ((Cert.MixReferenceIdeal.Read.val_main_v121_eq _).trans (MixRef.res5)),
      e6.trans ((Cert.MixReferenceIdeal.Read.val_main_v122_eq _).trans (MixRef.res6 (hP c) (hv c))),
      e7.trans ((Cert.MixReferenceIdeal.Read.val_main_v128_eq _).trans (MixRef.res7 (hP c) (hv c))), hkeep⟩)
    (Cert.MixReferenceIdeal.Value.run m ρ)

end Ref

set_option maxHeartbeats 2000000 in
theorem algebraic : Cert.algebraic_MixIdeal_MixReferenceIdeal_pre_finite_mix (hMixIdeal := Cert.MixIdeal.Gen.facts)
    (hMixReferenceIdeal := Cert.MixReferenceIdeal.Gen.facts) (hPre_finite_mix := Cert.Pre_finite_mix.Gen.facts) := by
  intro m g m' g' hpre hargs
  have eP : ∀ c, parR m' c = par m c := fun c => by
    obtain ⟨a0, a1, a2, a3, a4, a5, a6, a7, a8, a9⟩ := hargs c
    unfold parR
    rw [a3, a4, a5, a6, a7, a8]; rfl
  have ev : ∀ c, inpR m' c = inp m c := fun c => by
    obtain ⟨a0, a1, a2, a3, a4, a5, a6, a7, a8, a9⟩ := hargs c
    unfold inpR
    rw [a0, a1, a2, a9]; rfl
  have hr : ∀ c, (par m c).Real ∧ ∀ i, (inp m c i).Real := fun c => by
    obtain ⟨p2, p3, p4, p5, p7, p8, p9⟩ := Cert.MixPre.reals _ _ _ _ _ _ _ _ _ _ (hpre c)
    exact ⟨⟨fun a k => p8 _, fun a k => p7 _, fun k => p4 _, fun k => p5 _, fun k => p3 _⟩, fun i => ⟨fun k => p2 _, fun k => p9 _⟩⟩
  have hR := run_ref m' g' (fun c => by rw [eP]; exact (hr c).1) fun c => by rw [ev]; exact (hr c).2
  simp only [eP, ev] at hR
  exact ⟨fun c => res0 m c, fun c => res1 m c, fun c => res2 m c, fun c => res3 m c, fun c => res4 m c, fun c => res5 m c, fun c => res6 m c, fun c => res7 m c, cast (by sl_kernel_rfl) (run_kernel m g), hR⟩

end Cert.MixClaim
-- ==== Proof.ConvSpec.lean ====
/- A causal filter's gradients as sums: over the taps for the filtered rows, over the rows for the filter. -/
module

public import Mathlib.Data.EReal.Operations
public import Mathlib.Algebra.BigOperators.Fin
public import Mathlib.Algebra.BigOperators.Intervals
public import Mathlib.Tactic.Ring

@[expose] public section

noncomputable section

namespace Cert.ConvSpec

open Finset

/-- Entry `n` of a column of 8192 entries, zero after its end. -/
def ext (X : Fin 8192 → EReal) (n : ℕ) : EReal := if h : n < 8192 then X ⟨n, h⟩ else 0

/-- The gradient of a causal filter's argument at row `n`: the filter run against the rows from `n` on. -/
def back {K : ℕ} (w : Fin K → EReal) (X : Fin 8192 → EReal) (n : ℕ) : EReal := ∑ k : Fin K, w k * ext X (n + (K - 1 - k.val))

/-- The gradient of tap `k`. -/
def grad (K : ℕ) (X Z : Fin 8192 → EReal) (k : ℕ) : EReal := ∑ s ∈ range 8192, ext X (s + (K - 1 - k)) * ext Z s

theorem ext_val (X : Fin 8192 → EReal) (i : Fin 8192) : ext X i.val = X i := dif_pos i.isLt

theorem sum_ext (X : Fin 8192 → EReal) (n : ℕ) : (∑ t : Fin 8192, if t.val = n then X t else 0) = ext X n := by
  unfold ext
  split
  · rename_i h
    rw [Finset.sum_eq_single (⟨n, h⟩ : Fin 8192)]
    · simp
    · intro b _ hb
      rw [if_neg fun e => hb (Fin.ext e)]
    · intro h'; exact absurd (mem_univ _) h'
  · rename_i h
    refine Finset.sum_eq_zero fun t _ => if_neg fun e => h ?_
    rw [← e]; exact t.isLt

/-- One where row `s` is the row that tap `k` of `K` reads for row `t`. -/
def hit (K : ℕ) (k t s : ℕ) : EReal := if s + (K - 1) = t + k then 1 else 0

theorem mul_hit (K k t s : ℕ) (a : EReal) : a * hit K k t s = if s + (K - 1) = t + k then a else 0 := by
  unfold hit; split <;> simp
theorem hit_mul (K k t s : ℕ) (a : EReal) : hit K k t s * a = if s + (K - 1) = t + k then a else 0 := by
  unfold hit; split <;> simp

theorem back_eq {K : ℕ} (w : Fin K → EReal) (X : Fin 8192 → EReal) (s : Fin 8192) :
    (∑ k : Fin K, ∑ t : Fin 8192, w k * X t * hit K k.val t.val s.val) = back w X s.val := by
  unfold back
  refine Finset.sum_congr rfl fun k _ => ?_
  rw [← sum_ext]
  have e : ∀ t : Fin 8192, w k * X t * hit K k.val t.val s.val = if t.val = s.val + (K - 1 - k.val) then w k * X t else 0 := fun t => by
    rw [mul_hit]
    have := k.isLt
    by_cases h : t.val = s.val + (K - 1 - k.val)
    · rw [if_pos h, if_pos (by omega)]
    · rw [if_neg h, if_neg (by omega)]
  simp only [e]
  by_cases h : s.val + (K - 1 - k.val) < 8192
  · rw [Finset.sum_eq_single (⟨_, h⟩ : Fin 8192) (fun b _ hb => if_neg fun e => hb (Fin.ext e)) (fun h' => absurd (mem_univ _) h'),
      Finset.sum_eq_single (⟨_, h⟩ : Fin 8192) (fun b _ hb => if_neg fun e => hb (Fin.ext e)) (fun h' => absurd (mem_univ _) h')]
    simp
  · rw [Finset.sum_eq_zero fun t _ => if_neg fun e => h (by rw [← e]; exact t.isLt),
      Finset.sum_eq_zero fun t _ => if_neg fun e => h (by rw [← e]; exact t.isLt), mul_zero]

theorem grad_eq (K : ℕ) (X Z : Fin 8192 → EReal) (k : Fin K) :
    (∑ t : Fin 8192, X t * ∑ s : Fin 8192, hit K k.val t.val s.val * Z s) = grad K X Z k.val := by
  have hk := k.isLt
  unfold grad
  rw [Finset.sum_range]
  have e1 : ∀ t : Fin 8192, X t * ∑ s : Fin 8192, hit K k.val t.val s.val * Z s
      = ∑ s : Fin 8192, if t.val = s.val + (K - 1 - k.val) then X t * Z s else 0 := fun t => by
    simp only [hit_mul]
    by_cases h : K - 1 - k.val ≤ t.val
    · have hs : t.val - (K - 1 - k.val) < 8192 := lt_of_le_of_lt (Nat.sub_le _ _) t.isLt
      rw [Finset.sum_eq_single (⟨_, hs⟩ : Fin 8192) (fun b _ hb => if_neg fun e => hb (Fin.ext (by dsimp only; omega))) (fun h' => absurd (mem_univ _) h'),
        Finset.sum_eq_single (⟨_, hs⟩ : Fin 8192) (fun b _ hb => if_neg fun e => hb (Fin.ext (by dsimp only; omega))) (fun h' => absurd (mem_univ _) h'),
        if_pos (by dsimp only; omega), if_pos (by dsimp only; omega)]
    · rw [Finset.sum_eq_zero fun s _ => if_neg (by omega), Finset.sum_eq_zero fun s _ => if_neg (by omega), mul_zero]
  simp only [e1]
  rw [Finset.sum_comm]
  refine Finset.sum_congr rfl fun s _ => ?_
  rw [ext_val]
  by_cases h : s.val + (K - 1 - k.val) < 8192
  · rw [Finset.sum_eq_single (⟨_, h⟩ : Fin 8192) (fun b _ hb => if_neg fun e => hb (Fin.ext e)) (fun h' => absurd (mem_univ _) h')]
    simp [ext, h]
  · rw [Finset.sum_eq_zero fun t _ => if_neg fun e => h (by rw [← e]; exact t.isLt)]
    simp [ext, h]

/-! ## The rows in the kernel's order -/

theorem sum_mul_range (f : ℕ → EReal) (a b : ℕ) : (∑ s ∈ range (b * a), f s) = ∑ i ∈ range a, ∑ j ∈ range b, f (b * i + j) := by
  induction a with
  | zero => simp
  | succ a ih => rw [Nat.mul_succ, Finset.sum_range_add, ih, Finset.sum_range_succ]

theorem sum_tiles (f : ℕ → EReal) :
    (∑ r ∈ range 8, ∑ t ∈ range 16, ∑ u ∈ range 8, ∑ g ∈ range 8, f (512 * t + (64 * u + (8 * g + r)))) = ∑ s ∈ range 8192, f s := by
  rw [show (8192 : ℕ) = 512 * 16 from rfl, sum_mul_range f 16 512, Finset.sum_comm]
  refine Finset.sum_congr rfl fun t _ => ?_
  rw [show (512 : ℕ) = 64 * 8 from rfl, sum_mul_range (fun n => f (64 * 8 * t + n)) 8 64, Finset.sum_comm]
  refine Finset.sum_congr rfl fun u _ => ?_
  rw [show (64 : ℕ) = 8 * 8 from rfl, sum_mul_range (fun n => f (8 * 8 * 8 * t + (8 * 8 * u + n))) 8 8, Finset.sum_comm]

/-- A list of steps of which each changes what is observed only if it is step `p`. -/
theorem foldl_once {σ ι β : Type*} [DecidableEq ι] (step : σ → ι → σ) (obs : σ → β) (g : β → β) (p : ι)
    (h : ∀ s l, obs (step s l) = if l = p then g (obs s) else obs s) (ls : List ι) (hd : ls.Nodup) :
    ∀ s, obs (ls.foldl step s) = if p ∈ ls then g (obs s) else obs s := by
  induction ls with
  | nil => intro s; simp
  | cons l ls ih =>
    intro s
    rw [List.nodup_cons] at hd
    rw [List.foldl_cons, ih hd.2, h]
    by_cases hl : l = p
    · subst hl
      rw [if_neg hd.1, if_pos rfl, if_pos (List.mem_cons_self ..)]
    · rw [if_neg hl]
      by_cases hm : p ∈ ls
      · rw [if_pos hm, if_pos (List.mem_cons_of_mem _ hm)]
      · rw [if_neg hm, if_neg (by rw [List.mem_cons]; rintro (e | e); exacts [hl e.symm, hm e])]

/-- A list of steps of which each adds its own amount. -/
theorem foldl_add {σ ι : Type*} (step : σ → ι → σ) (obs : σ → EReal) (f : ι → EReal) (h : ∀ s l, obs (step s l) = obs s + f l) (ls : List ι) :
    ∀ s, obs (ls.foldl step s) = obs s + (ls.map f).sum := by
  induction ls with
  | nil => intro s; simp
  | cons l ls ih => intro s; rw [List.foldl_cons, ih, h, List.map_cons, List.sum_cons, add_assoc]

/-- The amounts of a list that holds every index once. -/
theorem sum_all {K : ℕ} (ls : List (Fin K)) (hp : ls.Perm (List.finRange K)) (f : Fin K → EReal) : (ls.map f).sum = ∑ k, f k := by
  rw [(hp.map f).sum_eq, Fin.sum_univ_def]

end Cert.ConvSpec
-- ==== Proof.ConvRef.lean ====
/- The convolutions' reference, read one element at a time. -/
module

public import proofs.«01_k».proof.Proof.ConvSpec
public import proofs.«01_k».proof.Proof.Gen.ConvReferenceIdeal.Read
public import Idealize.ShloMosaic.Lib.Pointwise

@[expose] public section

set_option maxRecDepth 16384

noncomputable section

namespace Cert.ConvRef

open Cert.ConvReferenceIdeal Cert.ConvReferenceIdeal.Gen Cert.ConvReferenceIdeal.Read Idealize.ShloMosaic Idealize.ShloMosaic.TcCoe
open Cert.ConvSpec

/-! ## The rows that a tap reads -/

theorem row_eq (K k t s : ℕ) (hK : K ≤ 32) (hk : k < K) (ht : t < 8192) (hs : s < 8192) :
    (BitVec.ofNat 32 s = BitVec.ofNat 32 t - BitVec.ofNat 32 (K - 1) + BitVec.ofNat 32 k) ↔ s + (K - 1) = t + k := by
  rw [← BitVec.toNat_inj]
  simp only [BitVec.toNat_add, BitVec.toNat_sub, BitVec.toNat_ofNat]
  omega

theorem select_hit {p : Prop} [Decidable p] (a b : BitVec 32) (h : a = b ↔ p) :
    Scalar.select (IntOp.cmpi CmpIPredicate.eq a b) (1 : EReal) 0 = if p then 1 else 0 := by
  by_cases e : a = b
  · rw [if_pos (h.1 e)]; subst e; simp [Scalar.select, IntOp.cmpi]
  · rw [if_neg (fun hp => e (h.2 hp))]; simp only [Scalar.select, IntOp.cmpi, beq_false_of_ne e]; rfl

theorem hitA (k : Fin 3) (t s : Fin 8192) : val_main_v15 (F := Ideal) (ix3 k t s) = hit 3 k.val t.val s.val := by
  pointwise [val_main_v15, val_main_v14, val_main_v13, val_main_v12, val_main_v11, val_main_v10, val_main_v9, val_main_v8, val_main_c, val_main_call0_v0,
    val_main_call0_v1, val_main_cst, val_main_cst_0]
  exact select_hit _ _ (row_eq 3 k.val t.val s.val (by decide) k.isLt t.isLt s.isLt)

theorem hitB (k : Fin 31) (t s : Fin 8192) : val_main_v38 (F := Ideal) (ix3 k t s) = hit 31 k.val t.val s.val := by
  pointwise [val_main_v38, val_main_v37, val_main_v36, val_main_v35, val_main_v34, val_main_v33, val_main_v32, val_main_v31, val_main_c_5, val_main_call1_v0,
    val_main_call1_v1, val_main_cst_6, val_main_cst_7]
  exact select_hit _ _ (row_eq 31 k.val t.val s.val (by decide) k.isLt t.isLt s.isLt)

variable (x0 : (⟨S8192x7168, .f32⟩ : BufTy).Contents (Elt Ideal)) (x1 : (⟨S3x1024, .f32⟩ : BufTy).Contents (Elt Ideal))
  (x2 : (⟨S31x1024, .f32⟩ : BufTy).Contents (Elt Ideal)) (x3 x4 x5 x6 x7 : (⟨S8192x1024, .f32⟩ : BufTy).Contents (Elt Ideal))

def part (q : Fin 7) (k : Fin 1024) : Fin 7168 := ⟨1024 * q + k, by omega⟩

/-! ## The arguments, column by column -/

def proj (b : Fin 7) (q : Fin 1024) (i : Fin 8192) : EReal := x0 (ix2 i (part b q))
def rows (x : (⟨S8192x1024, .f32⟩ : BufTy).Contents (Elt Ideal)) (q : Fin 1024) (i : Fin 8192) : EReal := x (ix2 i q)
def sg (q : Fin 1024) (i : Fin 8192) : EReal := Ideal.logistic (proj x0 4 q i)
def za (q : Fin 1024) (i : Fin 8192) : EReal := proj x0 1 q i * proj x0 2 q i
def zb (q : Fin 1024) (i : Fin 8192) : EReal := proj x0 3 q i * sg x0 q i
def dzA (q : Fin 1024) (i : Fin 8192) : EReal := back (fun κ : Fin 3 => x1 (ix2 κ q)) (rows x4 q) i.val
def dzB (q : Fin 1024) (i : Fin 8192) : EReal := back (fun κ : Fin 31 => x2 (ix2 κ q)) (rows x5 q) i.val

theorem at_v7 (i : Fin 8192) (q : Fin 1024) : val_main_v7 (F := Ideal) x0 (ix2 i q) = za x0 q i := by
  pointwise [val_main_v7, val_main_v1, val_main_v2]
  rfl
theorem at_v26 (i : Fin 8192) (q : Fin 1024) : val_main_v26 (F := Ideal) x0 (ix2 i q) = sg x0 q i := by
  pointwise [val_main_v26, val_main_v25, val_main_cst_3, val_main_v24, val_main_v23, val_main_cst_2, val_main_v22, val_main_v21, val_main_v4]
  rfl
theorem at_v30 (i : Fin 8192) (q : Fin 1024) : val_main_v30 (F := Ideal) x0 (ix2 i q) = zb x0 q i := by
  pointwise [val_main_v30, val_main_v3, at_v26]
  rfl

theorem at_v63 (i : Fin 8192) (q : Fin 1024) : val_main_v63 (F := Ideal) x1 x4 (ix2 i q) = dzA x1 x4 q i := by
  refine Eq.trans ?_ (back_eq (fun κ : Fin 3 => x1 (ix2 κ q)) (rows x4 q) i)
  pointwise [val_main_v63, val_main_v62, val_main_v58, val_main_v57, val_main_v16, val_main_v56, hitA]
  rfl

theorem at_v51 (i : Fin 8192) (q : Fin 1024) : val_main_v51 (F := Ideal) x2 x5 (ix2 i q) = dzB x2 x5 q i := by
  refine Eq.trans ?_ (back_eq (fun κ : Fin 31 => x2 (ix2 κ q)) (rows x5 q) i)
  pointwise [val_main_v51, val_main_v50, val_main_v46, val_main_v45, val_main_v39, val_main_v44, hitB]
  rfl

theorem at_v64 (k : Fin 3) (q : Fin 1024) : val_main_v64 (F := Ideal) x0 x4 (ix2 k q) = grad 3 (rows x4 q) (za x0 q) k.val := by
  refine Eq.trans ?_ (grad_eq 3 (rows x4 q) (za x0 q) k)
  pointwise [val_main_v64, val_main_cst_12, val_main_v61, val_main_v60, val_main_cst_11, val_main_v59, val_main_v56, val_main_v17, hitA, at_v7]
  exact Fin.sum_univ_one _

theorem at_v52 (k : Fin 31) (q : Fin 1024) : val_main_v52 (F := Ideal) x0 x5 (ix2 k q) = grad 31 (rows x5 q) (zb x0 q) k.val := by
  refine Eq.trans ?_ (grad_eq 31 (rows x5 q) (zb x0 q) k)
  pointwise [val_main_v52, val_main_cst_10, val_main_v49, val_main_v48, val_main_cst_9, val_main_v47, val_main_v44, val_main_v40, hitB, at_v30]
  exact Fin.sum_univ_one _

theorem at_v65 (i : Fin 8192) (q : Fin 1024) : val_main_v65 (F := Ideal) x0 x1 x4 (ix2 i q) = dzA x1 x4 q i * proj x0 1 q i := by
  pointwise [val_main_v65, val_main_v1, at_v63]
  exact mul_comm _ _
theorem at_v66 (i : Fin 8192) (q : Fin 1024) : val_main_v66 (F := Ideal) x0 x1 x4 (ix2 i q) = dzA x1 x4 q i * proj x0 2 q i := by
  pointwise [val_main_v66, val_main_v2, at_v63]
  rfl
theorem at_v54 (i : Fin 8192) (q : Fin 1024) : val_main_v54 (F := Ideal) x0 x2 x5 (ix2 i q) = dzB x2 x5 q i * sg x0 q i := by
  pointwise [val_main_v54, at_v51, at_v26]
theorem at_v55 (i : Fin 8192) (q : Fin 1024) :
    val_main_v55 (F := Ideal) x0 x2 x5 (ix2 i q) = dzB x2 x5 q i * sg x0 q i * proj x0 3 q i * (1 - sg x0 q i) := by
  pointwise [val_main_v55, val_main_v53, val_main_v3, val_main_v29, val_main_v28, val_main_v27, val_main_cst_4, at_v51, at_v26]
  refine (show _ = proj x0 3 q i * dzB x2 x5 q i * (sg x0 q i * (1 - sg x0 q i)) from rfl).trans ?_
  ac_rfl

/-- Part `b` of the gradient of the projection. -/
def grads (b : ℕ) (q : Fin 1024) (i : Fin 8192) : EReal :=
  if b = 0 then rows x3 q i
  else if b = 1 then dzA x1 x4 q i * proj x0 2 q i
  else if b = 2 then dzA x1 x4 q i * proj x0 1 q i
  else if b = 3 then dzB x2 x5 q i * sg x0 q i
  else if b = 4 then dzB x2 x5 q i * sg x0 q i * proj x0 3 q i * (1 - sg x0 q i)
  else if b = 5 then rows x6 q i
  else rows x7 q i

theorem grads_of (i : Fin 8192) (j : Fin 7168) (n : ℕ) (q : Fin 1024) (h : j.val = 1024 * n + q.val) :
    grads x0 x1 x2 x3 x4 x5 x6 x7 (j.val / 1024) ⟨j.val % 1024, Nat.mod_lt _ (by decide)⟩ i = grads x0 x1 x2 x3 x4 x5 x6 x7 n q i := by
  rw [show j.val / 1024 = n by omega, show (⟨j.val % 1024, Nat.mod_lt _ (by decide)⟩ : Fin 1024) = q from Fin.ext (by dsimp only; omega)]

theorem at_v68 (i : Fin 8192) (j : Fin 7168) : val_main_v68 (F := Ideal) x0 x1 x2 x3 x4 x5 x6 x7 (ix2 i j)
    = grads x0 x1 x2 x3 x4 x5 x6 x7 (j.val / 1024) ⟨j.val % 1024, Nat.mod_lt _ (by decide)⟩ i := by
  pointwise [val_main_v68, val_main_v67, at_v65, at_v66, at_v54, at_v55]
  split
  · exact (grads_of x0 x1 x2 x3 x4 x5 x6 x7 i j 0 ⟨j.val, by omega⟩ (by dsimp only; omega)).symm
  split
  · exact (grads_of x0 x1 x2 x3 x4 x5 x6 x7 i j 1 ⟨j.val - 1024, by omega⟩ (by dsimp only; omega)).symm
  split
  · exact (grads_of x0 x1 x2 x3 x4 x5 x6 x7 i j 2 ⟨j.val - 1024 - 1024, by omega⟩ (by dsimp only; omega)).symm
  split
  · exact (grads_of x0 x1 x2 x3 x4 x5 x6 x7 i j 3 ⟨j.val - 1024 - 1024 - 1024, by omega⟩ (by dsimp only; omega)).symm
  split
  · exact (grads_of x0 x1 x2 x3 x4 x5 x6 x7 i j 4 ⟨j.val - 1024 - 1024 - 1024 - 1024, by omega⟩ (by dsimp only; omega)).symm
  split
  · exact (grads_of x0 x1 x2 x3 x4 x5 x6 x7 i j 5 ⟨j.val - 1024 - 1024 - 1024 - 1024 - 1024, by omega⟩ (by dsimp only; omega)).symm
  exact (grads_of x0 x1 x2 x3 x4 x5 x6 x7 i j 6 ⟨j.val - 1024 - 1024 - 1024 - 1024 - 1024 - 1024, by omega⟩ (by dsimp only; omega)).symm

theorem at_v70 (k : Fin 8) (q : Fin 1024) : val_main_v70 (F := Ideal) x0 x4 (ix2 k q) = if k.val < 3 then grad 3 (rows x4 q) (za x0 q) k.val else 0 := by
  pointwise [val_main_v70, val_main_v69, val_main_cst_13, at_v64]
  exact dite_eq_ite

theorem at_v72 (k : Fin 32) (q : Fin 1024) : val_main_v72 (F := Ideal) x0 x5 (ix2 k q) = if k.val < 31 then grad 31 (rows x5 q) (zb x0 q) k.val else 0 := by
  pointwise [val_main_v72, val_main_v71, val_main_cst_14, at_v52]
  exact dite_eq_ite

end Cert.ConvRef
-- ==== Proof.Blocks.lean ====
/- Reading and writing one rectangular block of an array of two axes. -/
module

public import Idealize.ShloMosaic.Lib.Pointwise
public import Idealize.ShloMosaic.Lib.WritesUnit
public import Idealize.ShloMosaic.Lib.VecWindow
public import Idealize.ShloMosaic.Lib.Pipeline.FrameBody
public import Idealize.ShloMosaic.Lib.Pipeline.ValueKit

@[expose] public section

namespace Cert.Blocks

open Idealize.ShloMosaic

/-- An array of two axes. -/
abbrev Sh (r c : ℕ) : Shape := ⟨2, ![r, c]⟩

variable {α : Type} {R C n m : ℕ}

/-- The block of `n` rows and `m` columns whose first entry is `(r, c)`. -/
def ldb (n m : ℕ) (X : (Sh R C).Idx → α) (r c : ℕ) (hr : r + n ≤ R) (hc : c + m ≤ C) : (Sh n m).Idx → α := fun i =>
  X (ix2 ⟨r + (i 0).val, lt_of_lt_of_le (Nat.add_lt_add_left (i 0).isLt r) hr⟩ ⟨c + (i 1).val, lt_of_lt_of_le (Nat.add_lt_add_left (i 1).isLt c) hc⟩)

/-- The array after the block at `(r, c)` is set to `w`. -/
def stb (X : (Sh R C).Idx → α) (r c : ℕ) (w : (Sh n m).Idx → α) : (Sh R C).Idx → α := fun j =>
  if h : (r ≤ (j 0).val ∧ (j 0).val < r + n) ∧ (c ≤ (j 1).val ∧ (j 1).val < c + m) then
    w (ix2 ⟨(j 0).val - r, by omega⟩ ⟨(j 1).val - c, by omega⟩)
  else X j

theorem stb_at (X : (Sh R C).Idx → α) (r c : ℕ) (w : (Sh n m).Idx → α) (a : Fin R) (b : Fin C) :
    stb X r c w (ix2 a b)
      = if h : (r ≤ a.val ∧ a.val < r + n) ∧ (c ≤ b.val ∧ b.val < c + m) then w (ix2 ⟨a.val - r, by omega⟩ ⟨b.val - c, by omega⟩) else X (ix2 a b) := rfl

variable {Val : EltTy → Type} {e : EltTy} [∀ e, Nonempty (Val e)] {sig : RefSig} {κ : Kind} {sp : Space}

theorem readAt_ldb (v : View sig κ sp (Sh R C) e) (f : v.ty.Contents Val) (off : Fin 2 → ℕ) (r c : ℕ) (h0 : off 0 = r) (h1 : off 1 = c)
    (hr : r + n ≤ R) (hc : c + m ≤ C) (inb) :
    v.readAt Val (Rect.unit (s := Sh R C) off ![n, m] inb).toLoadRect f = ldb n m (v.read Val f) r c hr hc := by
  refine (View.readAt_eq_ld v f _).trans (funext fun i => View.ld_unit_apply_of (v.read Val f) off ![n, m] inb i
    (ix2 ⟨r + (i 0).val, lt_of_lt_of_le (Nat.add_lt_add_left (i 0).isLt r) hr⟩ ⟨c + (i 1).val, lt_of_lt_of_le (Nat.add_lt_add_left (i 1).isLt c) hc⟩) ?_)
  exact Fin.forall_fin_two.2 ⟨by rw [h0]; rfl, by rw [h1]; rfl⟩

theorem read_stb (v : View sig κ sp (Sh R C) e) (f : v.ty.Contents Val) (off : Fin 2 → ℕ) (r c : ℕ) (h0 : off 0 = r) (h1 : off 1 = c)
    (inb) (w : (Sh n m).Idx → Val e) (L : List (View.Piece Val (Sh R C) e)) :
    v.read Val (v.writes Val f ((⟨Rect.unit (s := Sh R C) off ![n, m] inb, w⟩ : View.Piece Val _ e) :: L))
      = stb (v.read Val (v.writes Val f L)) r c w := by
  funext j
  unfold stb
  split
  · rename_i h
    refine View.read_writes_cons_unit_of_mem v f inb w L j (ix2 ⟨(j 0).val - r, by omega⟩ ⟨(j 1).val - c, by omega⟩) rfl ?_
    exact Fin.forall_fin_two.2 ⟨by rw [h0]; show (j 0).val = r + ((j 0).val - r); omega, by rw [h1]; show (j 1).val = c + ((j 1).val - c); omega⟩
  · rename_i h
    by_cases h' : r ≤ (j 0).val ∧ (j 0).val < r + n
    · refine View.read_writes_cons_unit_of_not_mem v f inb w L j rfl 1 ?_
      rw [h1]; show (j 1).val < c ∨ c + m ≤ (j 1).val; omega
    · refine View.read_writes_cons_unit_of_not_mem v f inb w L j rfl 0 ?_
      rw [h0]; show (j 0).val < r ∨ r + n ≤ (j 0).val; omega

end Cert.Blocks
-- ==== Proof.ConvProg.lean ====
/- One trip of the convolutions' backward loop, written once for any lane group and any tap: the printed trip is the eight
   lane groups one after another, and a lane group is its taps one after another. -/
module

public import proofs.«01_k».proof.Proof.Gen.Conv.Skeleton
public import Idealize.ShloMosaic.Lib.Tactic

@[expose] public section

set_option maxRecDepth 65536

noncomputable section

namespace Cert.ConvProg

open Cert.Conv Cert.Conv.Gen Idealize.ShloMosaic Idealize.SL.Sem

variable {F : FTy → Type} [FloatOps F]

abbrev Sh (r c : ℕ) : Shape := ⟨2, ![r, c]⟩

/-- Row `64 k` of trip `k`, as the body computes it, and column `c`. -/
def off (k : Fin k0_t1_loop.trips) (c : ℕ) : Fin 2 → ℕ :=
  ![(Scalar.indexCast (Scalar.muli (Scf.iv 0#32 1#32 k) 64#32)).toNat, c]

theorem off_in : ∀ (k : Fin k0_t1_loop.trips) (l : Fin 8) (a), off k (128 * l.val) a + S64x128.size a ≤ S512x1024.size a := by
  decide +kernel
theorem off_win : ∀ (k : Fin k0_t1_loop.trips) (l : Fin 8) (a), off k (128 * l.val) a + S96x128.size a ≤ S544x1024.size a := by
  decide +kernel
theorem off_out : ∀ (k : Fin k0_t1_loop.trips) (l : Fin 8) (b : Fin 7) (a),
    off k (1024 * b.val + 128 * l.val) a + S64x128.size a ≤ S512x7168.size a := by decide +kernel
theorem off_packed : ∀ (k : Fin k0_t1_loop.trips) (l : Fin 8) (b : Fin 7),
    (Rect.unit (s := S512x7168) (off k (1024 * b.val + 128 * l.val)) S64x128.size (off_out k l b)).PackedRows (EltTy.packing .bf16) := by
  decide +kernel

theorem row_in {K : ℕ} (k : Fin K) (l : Fin 8) : ∀ a, (![k.val, 128 * l.val] : Fin 2 → ℕ) a + S1x128.size a ≤ (Sh K 1024).size a :=
  Fin.forall_fin_two.mpr ⟨Nat.succ_le_of_lt k.isLt, by show 128 * l.val + 128 ≤ 1024; omega⟩
theorem acc_in {K : ℕ} (k : Fin K) (l : Fin 8) : ∀ a, (![8 * k.val, 128 * l.val] : Fin 2 → ℕ) a + S8x128.size a ≤ (Sh (8 * K) 1024).size a :=
  Fin.forall_fin_two.mpr ⟨by show 8 * k.val + 8 ≤ 8 * K; omega, by show 128 * l.val + 128 ≤ 1024; omega⟩

theorem slices_win (q : ℕ) (h : q ≤ 4) : S96x128.Slices ![8 * q, 0] S64x128 := by
  obtain rfl | rfl | rfl | rfl | rfl : q = 0 ∨ q = 1 ∨ q = 2 ∨ q = 3 ∨ q = 4 := by omega
  all_goals decide

/-- The rows that tap `k` of `K` multiplies: those `K - 1 - k` further on in the window. -/
def slice {K : ℕ} (hK : K ≤ 33) (k : Fin K) (w : FVec F S96x128 .f32) : FVec F S64x128 .f32 :=
  extractStridedSlice S64x128 ![8 * ((K - 1 - k.val) / 8), 0]
    (bif Nat.beq ((K - 1 - k.val) % 8) 0 then w
      else dynamicRotate 0 (BitVec.ofNat 32 (96 - (K - 1 - k.val) % 8)) none w rotates_S96x128_d0)
    (slices_win _ (by omega))

theorem slices_acc (g : Fin 8) : S64x128.Slices ![8 * g.val, 0] S8x128 := by revert g; decide

/-- The eight groups of eight rows, added. -/
def rows8 (v : FVec F S64x128 .f32) : FVec F S8x128 .f32 :=
  let g (i : Fin 8) : FVec F S8x128 .f32 := extractStridedSlice S8x128 ![8 * i.val, 0] v (slices_acc i)
  addf (addf (addf (addf (addf (addf (addf (g 0) (g 1)) (g 2)) (g 3)) (g 4)) (g 5)) (g 6)) (g 7)

/-- What tap `k` leaves in its eight rows of the sums, which held `y`. -/
def accum {K : ℕ} (hK : K ≤ 33) (k : Fin K) (w : FVec F S96x128 .f32) (z : FVec F S64x128 .f32) (y : FVec F S8x128 .f32) : FVec F S8x128 .f32 :=
  shapeCast S8x128 (addf y (rows8 (mulf (slice hK k w) z))) shapeCasts_S8x128_S8x128

/-- The filtered rows after tap `k`. -/
def filt {K : ℕ} (hK : K ≤ 33) (k : Fin K) (w : FVec F S96x128 .f32) (c : Vec F S1x128 .f32) (a : FVec F S64x128 .f32) : FVec F S64x128 .f32 :=
  addf a (mulf (broadcastTo S64x128 c broadcasts_S1x128_S64x128) (slice hK k w))

abbrev P (F : FTy → Type) [FloatOps F] := Prog (TpuEff nD τ sig (Elt F) Λ₀ .tc)

/-- Tap `k` in lane group `l`. -/
def tap {K : ℕ} (hK : K ≤ 33) (cw : Memref sig .tc .vmem (Sh K 1024) .f32) (ac : Memref sig .tc .vmem (Sh (8 * K) 1024) .f32) (l : Fin 8)
    (w : FVec F S96x128 .f32) (z : FVec F S64x128 .f32) (k : Fin K) (a : FVec F S64x128 .f32) : P F (FVec F S64x128 .f32) := do
  let c : Vec F S1x128 .f32 ← Prog.lift (.load cw (Rect.unit (s := Sh K 1024) ![k.val, 128 * l.val] S1x128.size (row_in k l)).toLoadRect (View.loadsAt_vmem h_S1x128))
  let y : Vec F S8x128 .f32 ← Prog.lift (.load ac (Rect.unit (s := Sh (8 * K) 1024) ![8 * k.val, 128 * l.val] S8x128.size (acc_in k l)).toLoadRect (View.loadsAt_vmem h_S8x128))
  let _ : Vec F S8x128 .f32 ← Prog.lift (.load ac (Rect.unit (s := Sh (8 * K) 1024) ![8 * k.val, 128 * l.val] S8x128.size (acc_in k l)).toLoadRect (View.loadsAt_vmem h_S8x128))
  Prog.lift (.store ac (Rect.unit (s := Sh (8 * K) 1024) ![8 * k.val, 128 * l.val] S8x128.size (acc_in k l)) (accum hK k w z y) Finset.univ (View.stores_vmem_bits_univ h_S8x128 rfl) (.inl rfl))
  pure (filt hK k w c a)

/-- The taps of a list, one after another. -/
def taps {K : ℕ} (hK : K ≤ 33) (cw : Memref sig .tc .vmem (Sh K 1024) .f32) (ac : Memref sig .tc .vmem (Sh (8 * K) 1024) .f32) (l : Fin 8)
    (w : FVec F S96x128 .f32) (z : FVec F S64x128 .f32) : List (Fin K) → FVec F S64x128 .f32 → P F (FVec F S64x128 .f32)
  | [], a => pure a
  | k :: ks, a => do
    let a' ← tap hK cw ac l w z k a
    taps hK cw ac l w z ks a'

def zero64 : FVec F S64x128 .f32 := broadcast S64x128 (Scalar.ofBits .f32 0x00000000#32)

def tapsA : List (Fin 3) := [2, 1, 0]
def tapsB : List (Fin 31) := [6, 14, 22, 30, 5, 13, 21, 29, 4, 12, 20, 28, 3, 11, 19, 27, 2, 10, 18, 26, 1, 9, 17, 25, 0, 8, 16, 24, 7, 15, 23]

def wide (v : Vec F S64x128 .bf16) : FVec F S64x128 .f32 := extf .f32 (shapeCast S64x128 v shapeCasts_S64x128_S64x128) bitsLt_bf16_f32
def prod (u v : FVec F S64x128 .f32) : FVec F S64x128 .bf16 := truncf .bf16 (mulf u v) bitsLt_bf16_f32
/-- The gradient of the gate's argument. -/
def gate (a v s : FVec F S64x128 .f32) : FVec F S64x128 .bf16 :=
  truncf .bf16 (mulf (mulf (mulf a s) v) (subf (broadcast S64x128 (Scalar.ofBits .f32 0x3F800000#32)) s)) bitsLt_bf16_f32

section Lane

variable (ca : Memref sig .tc .vmem S512x1024 .bf16) (va : Memref sig .tc .vmem S512x1024 .bf16) (vb : Memref sig .tc .vmem S512x1024 .bf16)
  (cwa : Memref sig .tc .vmem (Sh 3 1024) .f32) (cwb : Memref sig .tc .vmem (Sh 31 1024) .f32)
  (dp : Memref sig .tc .vmem S512x7168 .bf16) (hdp : dp.IsWhole)
  (wa : Memref sig .tc .vmem S544x1024 .f32) (wb : Memref sig .tc .vmem S544x1024 .f32) (sg : Memref sig .tc .vmem S512x1024 .f32)
  (aca : Memref sig .tc .vmem (Sh (8 * 3) 1024) .f32) (acb : Memref sig .tc .vmem (Sh (8 * 31) 1024) .f32)
  (k : Fin k0_t1_loop.trips) (l : Fin 8)

include hdp in
/-- A store into part `b` of the packed gradients. -/
def put (b : Fin 7) (v : FVec F S64x128 .bf16) : P F PUnit := do
  let _ : Vec F S64x128 .bf16 ← Prog.lift (.load dp (Rect.unit (s := S512x7168) (off k (1024 * b.val + 128 * l.val)) S64x128.size (off_out k l b)).toLoadRect (View.loadsAt_vmem h_S64x128))
  Prog.lift (.store dp (Rect.unit (s := S512x7168) (off k (1024 * b.val + 128 * l.val)) S64x128.size (off_out k l b)) v Finset.univ
    (View.stores_vmem h_S64x128 (hdp.storeExact_slice rfl _ (off_packed k l b)) (fun _ => rfl)) (.inl rfl))

def get (x : Memref sig .tc .vmem S512x1024 .bf16) : P F (Vec F S64x128 .bf16) :=
  Prog.lift (.load x (Rect.unit (s := S512x1024) (off k (128 * l.val)) S64x128.size (off_in k l)).toLoadRect (View.loadsAt_vmem h_S64x128))
def getS (x : Memref sig .tc .vmem S512x1024 .f32) : P F (Vec F S64x128 .f32) :=
  Prog.lift (.load x (Rect.unit (s := S512x1024) (off k (128 * l.val)) S64x128.size (off_in k l)).toLoadRect (View.loadsAt_vmem h_S64x128))
def getWin (x : Memref sig .tc .vmem S544x1024 .f32) : P F (Vec F S96x128 .f32) :=
  Prog.lift (.load x (Rect.unit (s := S544x1024) (off k (128 * l.val)) S96x128.size (off_win k l)).toLoadRect (View.loadsAt_vmem h_S96x128))

def laneA : P F PUnit := do
  let c ← get k l ca
  let v ← get k l va
  let w ← getWin k l wa
  let a ← taps (by decide) cwa aca l w (mulf (wide c) (wide v)) tapsA zero64
  put dp hdp k l 1 (prod a (wide v))
  put dp hdp k l 2 (prod a (wide c))

def laneB : P F PUnit := do
  let s ← getS k l sg
  let v ← get k l vb
  let w ← getWin k l wb
  let a ← taps (by decide) cwb acb l w (mulf (wide v) s) tapsB zero64
  put dp hdp k l 3 (prod a s)
  put dp hdp k l 4 (gate a (wide v) s)

def lane : P F PUnit := do
  laneA ca va cwa dp hdp wa aca k l
  laneB vb cwb dp hdp wb sg acb k l

def lanes : List (Fin 8) → P F PUnit
  | [] => pure ⟨⟩
  | l :: ls => do
    lane ca va vb cwa cwb dp hdp wa wb sg aca acb k l
    lanes ls

end Lane

theorem trip_eq {arg1 arg2 : Memref sig .tc .vmem S512x1024 .bf16} {arg3 arg4 : Memref sig .tc .vmem S32x1024 .bf16} {arg5 arg6 arg7 arg8 arg9 arg10 arg11 : Memref sig .tc .vmem S512x1024 .bf16} {arg12 : Memref sig .tc .vmem S3x1024 .f32} {arg13 : Memref sig .tc .vmem S31x1024 .f32} {arg14 : Memref sig .tc .vmem S512x7168 .bf16} {arg15 : Memref sig .tc .vmem S8x1024 .f32} {arg16 : Memref sig .tc .vmem S32x1024 .f32} {arg17 arg18 : Memref sig .tc .vmem S544x1024 .f32} {arg19 : Memref sig .tc .vmem S512x1024 .f32} {arg20 : Memref sig .tc .vmem S24x1024 .f32} {arg21 : Memref sig .tc .vmem S248x1024 .f32} (i : grid0.Coords) {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg13 : arg13.IsWhole} {harg14 : arg14.IsWhole} {harg15 : arg15.IsWhole} {harg16 : arg16.IsWhole} {harg17 : arg17.IsWhole} {harg18 : arg18.IsWhole} {harg19 : arg19.IsWhole} {harg20 : arg20.IsWhole} {harg21 : arg21.IsWhole}
    (k : Fin k0_t1_loop.trips) (u : Unit) :
    k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k u
      = lanes arg5 arg6 arg7 arg12 arg13 arg14 harg14 arg17 arg18 arg19 arg20 arg21 k [0, 1, 2, 3, 4, 5, 6, 7] := by
  sl_kernel_rfl

theorem sums_in {K : ℕ} (k : Fin K) : ∀ a, (![8 * k.val, 0] : Fin 2 → ℕ) a + S8x1024.size a ≤ (Sh (8 * K) 1024).size a :=
  Fin.forall_fin_two.mpr ⟨by show 8 * k.val + 8 ≤ 8 * K; omega, le_refl _⟩
theorem total_in {K N : ℕ} (h : K ≤ N) (k : Fin K) : ∀ a, (![k.val, 0] : Fin 2 → ℕ) a + S1x1024.size a ≤ (Sh N 1024).size a :=
  Fin.forall_fin_two.mpr ⟨by show k.val + 1 ≤ N; omega, le_refl _⟩
theorem all_in (N : ℕ) : ∀ a, (![0, 0] : Fin 2 → ℕ) a + (Sh N 1024).size a ≤ (Sh N 1024).size a :=
  Fin.forall_fin_two.mpr ⟨Nat.le_of_eq (Nat.zero_add _), le_refl _⟩

def zeros (N : ℕ) : FVec F (Sh N 1024) .f32 := broadcast (Sh N 1024) (Scalar.ofBits .f32 0x00000000#32)

/-- Row `k` of a filter's gradient: the sum of its eight rows of sums. -/
def total {K N : ℕ} (h : K ≤ N) (ac : Memref sig .tc .vmem (Sh (8 * K) 1024) .f32) (out : Memref sig .tc .vmem (Sh N 1024) .f32) (k : Fin K) : P F PUnit := do
  let v : Vec F S8x1024 .f32 ← Prog.lift (.load ac (Rect.unit (s := Sh (8 * K) 1024) ![8 * k.val, 0] S8x1024.size (sums_in k)).toLoadRect (View.loadsAt_vmem h_S8x1024))
  let _ : Vec F S1x1024 .f32 ← Prog.lift (.load out (Rect.unit (s := Sh N 1024) ![k.val, 0] S1x1024.size (total_in h k)).toLoadRect (View.loadsAt_vmem h_S1x1024))
  Prog.lift (.store out (Rect.unit (s := Sh N 1024) ![k.val, 0] S1x1024.size (total_in h k)) (k0_pay1040 v) Finset.univ (View.stores_vmem_bits_univ h_S1x1024 rfl) (.inl rfl))

def totals {K N : ℕ} (h : K ≤ N) (ac : Memref sig .tc .vmem (Sh (8 * K) 1024) .f32) (out : Memref sig .tc .vmem (Sh N 1024) .f32) : List (Fin K) → P F PUnit
  | [] => pure ⟨⟩
  | k :: ks => do
    total h ac out k
    totals h ac out ks

def rowsA : List (Fin 3) := [0, 1, 2]
def rowsB : List (Fin 31) := [0, 1, 2, 3, 4, 5, 6, 7, 8, 9, 10, 11, 12, 13, 14, 15, 16, 17, 18, 19, 20, 21, 22, 23, 24, 25, 26, 27, 28, 29, 30]

/-- The last point's lines: both filters' gradients. -/
def fin (oa : Memref sig .tc .vmem (Sh 8 1024) .f32) (ob : Memref sig .tc .vmem (Sh 32 1024) .f32)
    (aca : Memref sig .tc .vmem (Sh (8 * 3) 1024) .f32) (acb : Memref sig .tc .vmem (Sh (8 * 31) 1024) .f32) : P F PUnit := do
  let _ : Vec F (Sh 8 1024) .f32 ← Prog.lift (.load oa (Rect.unit (s := Sh 8 1024) ![0, 0] (Sh 8 1024).size (all_in 8)).toLoadRect (View.loadsAt_vmem h_S8x1024))
  Prog.lift (.store oa (Rect.unit (s := Sh 8 1024) ![0, 0] (Sh 8 1024).size (all_in 8)) (zeros 8) Finset.univ (View.stores_vmem_bits_univ h_S8x1024 rfl) (.inl rfl))
  let _ : Vec F (Sh 32 1024) .f32 ← Prog.lift (.load ob (Rect.unit (s := Sh 32 1024) ![0, 0] (Sh 32 1024).size (all_in 32)).toLoadRect (View.loadsAt_vmem h_S32x1024))
  Prog.lift (.store ob (Rect.unit (s := Sh 32 1024) ![0, 0] (Sh 32 1024).size (all_in 32)) (zeros 32) Finset.univ (View.stores_vmem_bits_univ h_S32x1024 rfl) (.inl rfl))
  totals (by decide) aca oa rowsA
  totals (by decide) acb ob rowsB

/-- The lines before the loop that copy the rows after the block and the gradients that pass through. -/
def middle (v2 : F .f32) (arg4 : Memref sig .tc .vmem S32x1024 .bf16) (arg9 arg10 arg11 : Memref sig .tc .vmem S512x1024 .bf16)
    (arg14 : Memref sig .tc .vmem S512x7168 .bf16) (harg14 : arg14.IsWhole) (arg18 : Memref sig .tc .vmem S544x1024 .f32) : P F PUnit := do
  let v33 : Vec F S32x1024 .bf16 ← Prog.lift (.load arg4 (Rect.unit (s := S32x1024) ![0, 0] S32x1024.size inb_S32x1024_S32x1024_0_0).toLoadRect (View.loadsAt_vmem h_S32x1024))
  let v38 : Vec F S32x1024 .f32 ← Prog.lift (.load arg18 (Rect.unit (s := S544x1024) ![512, 0] S32x1024.size inb_S544x1024_S32x1024_512_0).toLoadRect (View.loadsAt_vmem h_S32x1024))
  Prog.lift (.store arg18 (Rect.unit (s := S544x1024) ![512, 0] S32x1024.size inb_S544x1024_S32x1024_512_0) (k0_pay1 v2 v33) Finset.univ (View.stores_vmem_bits_univ h_S32x1024 rfl) (.inl rfl))
  let v41 : Vec F S512x1024 .bf16 ← Prog.lift (.load arg9 (Rect.unit (s := S512x1024) ![0, 0] S512x1024.size inb_S512x1024_S512x1024_0_0).toLoadRect (View.loadsAt_vmem h_S512x1024))
  let v43 : Vec F S512x1024 .bf16 ← Prog.lift (.load arg14 (Rect.unit (s := S512x7168) ![0, 0] S512x1024.size inb_S512x7168_S512x1024_0_0).toLoadRect (View.loadsAt_vmem h_S512x1024))
  Prog.lift (.store arg14 (Rect.unit (s := S512x7168) ![0, 0] S512x1024.size inb_S512x7168_S512x1024_0_0) (k0_pay2 v41) Finset.univ (View.stores_vmem h_S512x1024 (harg14.storeExact_slice rfl _ packedbf16_S512x7168_S512x1024_0_0) (fun _ => rfl)) (.inl rfl))
  let v44 : Vec F S512x1024 .bf16 ← Prog.lift (.load arg10 (Rect.unit (s := S512x1024) ![0, 0] S512x1024.size inb_S512x1024_S512x1024_0_0).toLoadRect (View.loadsAt_vmem h_S512x1024))
  let v46 : Vec F S512x1024 .bf16 ← Prog.lift (.load arg14 (Rect.unit (s := S512x7168) ![0, 5120] S512x1024.size inb_S512x7168_S512x1024_0_5120).toLoadRect (View.loadsAt_vmem h_S512x1024))
  Prog.lift (.store arg14 (Rect.unit (s := S512x7168) ![0, 5120] S512x1024.size inb_S512x7168_S512x1024_0_5120) (k0_pay3 v44) Finset.univ (View.stores_vmem h_S512x1024 (harg14.storeExact_slice rfl _ packedbf16_S512x7168_S512x1024_0_5120) (fun _ => rfl)) (.inl rfl))
  let v47 : Vec F S512x1024 .bf16 ← Prog.lift (.load arg11 (Rect.unit (s := S512x1024) ![0, 0] S512x1024.size inb_S512x1024_S512x1024_0_0).toLoadRect (View.loadsAt_vmem h_S512x1024))
  let v49 : Vec F S512x1024 .bf16 ← Prog.lift (.load arg14 (Rect.unit (s := S512x7168) ![0, 6144] S512x1024.size inb_S512x7168_S512x1024_0_6144).toLoadRect (View.loadsAt_vmem h_S512x1024))
  Prog.lift (.store arg14 (Rect.unit (s := S512x7168) ![0, 6144] S512x1024.size inb_S512x7168_S512x1024_0_6144) (k0_pay4 v47) Finset.univ (View.stores_vmem h_S512x1024 (harg14.storeExact_slice rfl _ packedbf16_S512x7168_S512x1024_0_6144) (fun _ => rfl)) (.inl rfl))

theorem body_eq {arg1 arg2 : Memref sig .tc .vmem S512x1024 .bf16} {arg3 arg4 : Memref sig .tc .vmem S32x1024 .bf16} {arg5 arg6 arg7 arg8 arg9 arg10 arg11 : Memref sig .tc .vmem S512x1024 .bf16} {arg12 : Memref sig .tc .vmem S3x1024 .f32} {arg13 : Memref sig .tc .vmem S31x1024 .f32} {arg14 : Memref sig .tc .vmem S512x7168 .bf16} {arg15 : Memref sig .tc .vmem S8x1024 .f32} {arg16 : Memref sig .tc .vmem S32x1024 .f32} {arg17 arg18 : Memref sig .tc .vmem S544x1024 .f32} {arg19 : Memref sig .tc .vmem S512x1024 .f32} {arg20 : Memref sig .tc .vmem S24x1024 .f32} {arg21 : Memref sig .tc .vmem S248x1024 .f32} (i : grid0.Coords) {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg13 : arg13.IsWhole} {harg14 : arg14.IsWhole} {harg15 : arg15.IsWhole} {harg16 : arg16.IsWhole} {harg17 : arg17.IsWhole} {harg18 : arg18.IsWhole} {harg19 : arg19.IsWhole} {harg20 : arg20.IsWhole} {harg21 : arg21.IsWhole} :
    cc0_conv_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 = (do
      let ⟨_, v2⟩ ← k0_part168 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
      middle v2 arg4 arg9 arg10 arg11 arg14 harg14 arg18
      Scf.Loop.for k0_t1_loop k0_t1_ok ⟨⟩ (fun k _ => lanes arg5 arg6 arg7 arg12 arg13 arg14 harg14 arg17 arg18 arg19 arg20 arg21 k [0, 1, 2, 3, 4, 5, 6, 7])
      if _h : k0_cond2 i = 1#1 then do
        fin arg15 arg16 arg20 arg21
      else do
        pure ⟨⟩
      pure ⟨⟩) := by
  sl_kernel_rfl

end Cert.ConvProg
-- ==== Proof.ConvRun.lean ====
/- The convolutions' backward body at one grid point: what it leaves in each block. -/
module

public import proofs.«01_k».proof.Proof.Blocks
public import proofs.«01_k».proof.Proof.ConvProg

@[expose] public section

set_option maxRecDepth 16384

noncomputable section

namespace Cert.ConvRun

open Cert.Conv Cert.Conv.Gen Cert.ConvProg Cert.Blocks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Tap

variable {K : ℕ} (hK : K ≤ 33) (W : Vec F (ConvProg.Sh K 1024) .f32) (l : Fin 8) (w : FVec F S96x128 .f32) (z : FVec F S64x128 .f32)

theorem row_le (k : Fin K) : k.val + 1 ≤ K := k.isLt
theorem acc_le (k : Fin K) : 8 * k.val + 8 ≤ 8 * K := by omega
theorem lane_le (l : Fin 8) : 128 * l.val + 128 ≤ 1024 := by omega

/-- The sums after tap `k` in lane group `l`. -/
def stepAcc (y : Vec F (ConvProg.Sh (8 * K) 1024) .f32) (k : Fin K) : Vec F (ConvProg.Sh (8 * K) 1024) .f32 :=
  stb y (8 * k.val) (128 * l.val) (accum hK k w z (ldb 8 128 y (8 * k.val) (128 * l.val) (acc_le k) (lane_le l)))

/-- The filtered rows after tap `k`. -/
def stepFilt (a : FVec F S64x128 .f32) (k : Fin K) : FVec F S64x128 .f32 :=
  filt hK k w (ldb 1 128 W k.val (128 * l.val) (row_le k) (lane_le l)) a

theorem wp_tap (c : Dev nD) {cw : Memref sig .tc .vmem (ConvProg.Sh K 1024) .f32} {ac : Memref sig .tc .vmem (ConvProg.Sh (8 * K) 1024) .f32}
    (hcw : cw.IsWhole) (hac : ac.IsWhole) (y : Vec F (ConvProg.Sh (8 * K) 1024) .f32) (k : Fin K) (a : FVec F S64x128 .f32)
    {E : Set ℕ} {Q : FVec F S64x128 .f32 → sProp 𝕄} :
    iprop(owns c.tc cw fullShare W ∗ owns c.tc ac fullShare y
      ∗ (iprop(owns c.tc cw fullShare W ∗ owns c.tc ac fullShare (stepAcc hK l w z y k)) -∗ Q (stepFilt hK W l w a k)))
      ⊢ wp frame (wpE (defs₀ (F := F)) Variants.none c none) E (tap hK cw ac l w z k a) Q := by
  unfold tap owns stepFilt stepAcc
  iintro ⟨⟨%f0, %e0, H0⟩, ⟨%f1, %e1, H1⟩, Hk⟩
  obtain rfl := hcw.eq_unread e0; obtain rfl := hac.eq_unread e1
  sl_exec
  sl_step
  rw [readAt_ldb (n := 1) (m := 128) cw.view _ _ k.val (128 * l.val) rfl rfl (row_le k) (lane_le l), hcw.read_unread]
  iapply Hk
  isplitl [H0]; · (iexists _; isplitr; · ipureintro; exact hcw.read_unread _); iexact H0
  iexists _; isplitr; swap; · iexact H1
  ipureintro
  sl_unfold_run_names
  rw [read_stb (n := 8) (m := 128) ac.view _ _ (8 * k.val) (128 * l.val) rfl rfl,
    readAt_ldb (n := 8) (m := 128) ac.view _ _ (8 * k.val) (128 * l.val) rfl rfl (acc_le k) (lane_le l)]
  show stb (ac.view.read (Elt F) (hac.unread y)) _ _ _ = _
  rw [hac.read_unread]

theorem wp_taps (c : Dev nD) {cw : Memref sig .tc .vmem (ConvProg.Sh K 1024) .f32} {ac : Memref sig .tc .vmem (ConvProg.Sh (8 * K) 1024) .f32}
    (hcw : cw.IsWhole) (hac : ac.IsWhole) {E : Set ℕ} {Q : FVec F S64x128 .f32 → sProp 𝕄} (ks : List (Fin K)) :
    ∀ (y : Vec F (ConvProg.Sh (8 * K) 1024) .f32) (a : FVec F S64x128 .f32),
    iprop(owns c.tc cw fullShare W ∗ owns c.tc ac fullShare y
      ∗ (iprop(owns c.tc cw fullShare W ∗ owns c.tc ac fullShare (ks.foldl (stepAcc hK l w z) y))
        -∗ Q (ks.foldl (stepFilt hK W l w) a)))
      ⊢ wp frame (wpE (defs₀ (F := F)) Variants.none c none) E (taps hK cw ac l w z ks a) Q := by
  induction ks with
  | nil =>
    intro y a
    iintro ⟨H0, H1, Hk⟩
    unfold taps
    simp only [List.foldl_nil]
    sl_step
    iapply Hk
    isplitl [H0] <;> iassumption
  | cons k ks ih =>
    intro y a
    iintro ⟨H0, H1, Hk⟩
    unfold taps
    simp only [List.foldl_cons]
    rw [wp_bind]
    iapply (wp_tap hK W l w z c hcw hac y k a)
    isplitl [H0]; · iexact H0
    isplitl [H1]; · iexact H1
    iintro ⟨H0, H1⟩
    iapply (ih (stepAcc hK l w z y k) (stepFilt hK W l w a k))
    isplitl [H0]; · iexact H0
    isplitl [H1]; · iexact H1
    iexact Hk

end Tap

theorem trips_eq : k0_t1_loop.trips = 8 := by decide +kernel
theorem off_row : ∀ (k : Fin k0_t1_loop.trips) (c : ℕ), off k c 0 = 64 * k.val := by
  have h : ∀ k : Fin k0_t1_loop.trips, (Scalar.indexCast (Scalar.muli (Scf.iv 0#32 1#32 k) 64#32)).toNat = 64 * k.val := by decide +kernel
  exact fun k _ => h k
theorem trip_le (k : Fin k0_t1_loop.trips) : 64 * k.val + 64 ≤ 512 := by have := lt_of_lt_of_eq k.isLt trips_eq; omega
theorem win_le (k : Fin k0_t1_loop.trips) : 64 * k.val + 96 ≤ 544 := by have := lt_of_lt_of_eq k.isLt trips_eq; omega
theorem part_le (l : Fin 8) (b : Fin 7) : 1024 * b.val + 128 * l.val + 128 ≤ 7168 := by omega

section Mem

variable (c : Dev nD) (k : Fin k0_t1_loop.trips) (l : Fin 8) {E : Set ℕ}

/-- Rows of trip `k`, columns of lane group `l`. -/
abbrev sub {α : Type} (X : S512x1024.Idx → α) : S64x128.Idx → α := ldb 64 128 X (64 * k.val) (128 * l.val) (trip_le k) (lane_le l)
/-- The same rows and the 32 after them. -/
abbrev win {α : Type} (X : S544x1024.Idx → α) : S96x128.Idx → α := ldb 96 128 X (64 * k.val) (128 * l.val) (win_le k) (lane_le l)

theorem wp_get {x : Memref sig .tc .vmem S512x1024 .bf16} (hx : x.IsWhole) (X : Vec F S512x1024 .bf16) {Q : Vec F S64x128 .bf16 → sProp 𝕄} :
    iprop(owns c.tc x fullShare X ∗ (owns c.tc x fullShare X -∗ Q (sub k l X)))
      ⊢ wp frame (wpE (defs₀ (F := F)) Variants.none c none) E (ConvProg.get k l x) Q := by
  unfold ConvProg.get owns
  iintro ⟨⟨%f0, %e0, H0⟩, Hk⟩
  obtain rfl := hx.eq_unread e0
  sl_exec
  sl_step
  rw [readAt_ldb (n := 64) (m := 128) x.view _ _ (64 * k.val) (128 * l.val) (off_row k _) rfl (trip_le k) (lane_le l), hx.read_unread]
  iapply Hk
  iexists _; isplitr; · (ipureintro; exact hx.read_unread _)
  iexact H0

theorem wp_getWin {x : Memref sig .tc .vmem S544x1024 .f32} (hx : x.IsWhole) (X : Vec F S544x1024 .f32) {Q : Vec F S96x128 .f32 → sProp 𝕄} :
    iprop(owns c.tc x fullShare X ∗ (owns c.tc x fullShare X -∗ Q (win k l X)))
      ⊢ wp frame (wpE (defs₀ (F := F)) Variants.none c none) E (getWin k l x) Q := by
  unfold getWin owns
  iintro ⟨⟨%f0, %e0, H0⟩, Hk⟩
  obtain rfl := hx.eq_unread e0
  sl_exec
  sl_step
  rw [readAt_ldb (n := 96) (m := 128) x.view _ _ (64 * k.val) (128 * l.val) (off_row k _) rfl (win_le k) (lane_le l), hx.read_unread]
  iapply Hk
  iexists _; isplitr; · (ipureintro; exact hx.read_unread _)
  iexact H0

theorem wp_getS {x : Memref sig .tc .vmem S512x1024 .f32} (hx : x.IsWhole) (X : Vec F S512x1024 .f32) {Q : Vec F S64x128 .f32 → sProp 𝕄} :
    iprop(owns c.tc x fullShare X ∗ (owns c.tc x fullShare X -∗ Q (sub k l X)))
      ⊢ wp frame (wpE (defs₀ (F := F)) Variants.none c none) E (getS k l x) Q := by
  unfold getS owns
  iintro ⟨⟨%f0, %e0, H0⟩, Hk⟩
  obtain rfl := hx.eq_unread e0
  sl_exec
  sl_step
  rw [readAt_ldb (n := 64) (m := 128) x.view _ _ (64 * k.val) (128 * l.val) (off_row k _) rfl (trip_le k) (lane_le l), hx.read_unread]
  iapply Hk
  iexists _; isplitr; · (ipureintro; exact hx.read_unread _)
  iexact H0

/-- Part `b` of the packed gradients after a store. -/
abbrev putv (b : Fin 7) (v : FVec F S64x128 .bf16) (y : Vec F S512x7168 .bf16) : Vec F S512x7168 .bf16 :=
  stb y (64 * k.val) (1024 * b.val + 128 * l.val) v

theorem wp_put {dp : Memref sig .tc .vmem S512x7168 .bf16} (hdp : dp.IsWhole) (y : Vec F S512x7168 .bf16) (b : Fin 7) (v : FVec F S64x128 .bf16)
    {Q : PUnit → sProp 𝕄} :
    iprop(owns c.tc dp fullShare y ∗ (owns c.tc dp fullShare (putv k l b v y) -∗ Q ⟨⟩))
      ⊢ wp frame (wpE (defs₀ (F := F)) Variants.none c none) E (put dp hdp k l b v) Q := by
  unfold put owns
  iintro ⟨⟨%f0, %e0, H0⟩, Hk⟩
  obtain rfl := hdp.eq_unread e0
  sl_exec
  sl_step
  iapply Hk
  iexists _; isplitr; swap; · iexact H0
  ipureintro
  rw [read_stb (n := 64) (m := 128) dp.view _ _ (64 * k.val) (1024 * b.val + 128 * l.val) (off_row k _) rfl]
  show stb (dp.view.read (Elt F) (hdp.unread y)) _ _ _ = _
  rw [hdp.read_unread]

end Mem

/-- What the loop reads: the saved values, the filters, the incoming gradients with the rows after them, the gate. -/
structure Rd (F : FTy → Type) [FloatOps F] where
  ca : Vec F S512x1024 .bf16
  va : Vec F S512x1024 .bf16
  vb : Vec F S512x1024 .bf16
  cwa : Vec F (ConvProg.Sh 3 1024) .f32
  cwb : Vec F (ConvProg.Sh 31 1024) .f32
  wa : Vec F S544x1024 .f32
  wb : Vec F S544x1024 .f32
  sg : Vec F S512x1024 .f32

/-- What the loop writes: the packed gradients and the sums of both filters' gradients. -/
structure St (F : FTy → Type) [FloatOps F] where
  dp : Vec F S512x7168 .bf16
  aca : Vec F (ConvProg.Sh (8 * 3) 1024) .f32
  acb : Vec F (ConvProg.Sh (8 * 31) 1024) .f32

theorem three : 3 ≤ 33 := by decide
theorem many : 31 ≤ 33 := by decide

section Vals

variable (R : Rd F) (k : Fin k0_t1_loop.trips) (l : Fin 8)

def zA : FVec F S64x128 .f32 := mulf (wide (sub k l R.ca)) (wide (sub k l R.va))
def zB : FVec F S64x128 .f32 := mulf (wide (sub k l R.vb)) (sub k l R.sg)
def filtA : FVec F S64x128 .f32 := tapsA.foldl (stepFilt three R.cwa l (win k l R.wa)) zero64
def filtB : FVec F S64x128 .f32 := tapsB.foldl (stepFilt many R.cwb l (win k l R.wb)) zero64

/-- After lane group `l` of trip `k`. -/
def laneSt (s : St F) (l : Fin 8) : St F where
  dp := putv k l 4 (gate (filtB R k l) (wide (sub k l R.vb)) (sub k l R.sg)) (putv k l 3 (prod (filtB R k l) (sub k l R.sg))
    (putv k l 2 (prod (filtA R k l) (wide (sub k l R.ca))) (putv k l 1 (prod (filtA R k l) (wide (sub k l R.va))) s.dp)))
  aca := tapsA.foldl (stepAcc three l (win k l R.wa) (zA R k l)) s.aca
  acb := tapsB.foldl (stepAcc many l (win k l R.wb) (zB R k l)) s.acb

def groups : List (Fin 8) := [0, 1, 2, 3, 4, 5, 6, 7]

/-- After trip `k`. -/
def tripSt (s : St F) : St F := groups.foldl (laneSt R k) s

/-- After `n` trips. -/
def loopSt (s : St F) : ℕ → St F
  | 0 => s
  | n + 1 => if h : n < k0_t1_loop.trips then tripSt R ⟨n, h⟩ (loopSt s n) else loopSt s n

end Vals

section Loop

variable (c : Dev nD) {E : Set ℕ} {ca va vb : Memref sig .tc .vmem S512x1024 .bf16}
  {cwa : Memref sig .tc .vmem (ConvProg.Sh 3 1024) .f32} {cwb : Memref sig .tc .vmem (ConvProg.Sh 31 1024) .f32}
  {dp : Memref sig .tc .vmem S512x7168 .bf16}
  {wa wb : Memref sig .tc .vmem S544x1024 .f32} {sg : Memref sig .tc .vmem S512x1024 .f32}
  {aca : Memref sig .tc .vmem (ConvProg.Sh (8 * 3) 1024) .f32} {acb : Memref sig .tc .vmem (ConvProg.Sh (8 * 31) 1024) .f32}
  (hca : ca.IsWhole) (hva : va.IsWhole) (hvb : vb.IsWhole) (hcwa : cwa.IsWhole) (hcwb : cwb.IsWhole) (hdp : dp.IsWhole)
  (hwa : wa.IsWhole) (hwb : wb.IsWhole) (hsg : sg.IsWhole) (haca : aca.IsWhole) (hacb : acb.IsWhole)

variable (ca va vb cwa cwb dp wa wb sg aca acb) in
/-- The loop's blocks hold `R` and `s`. -/
def Held (R : Rd F) (s : St F) : sProp 𝕄 :=
  iprop(owns c.tc ca fullShare R.ca ∗ owns c.tc va fullShare R.va ∗ owns c.tc vb fullShare R.vb
    ∗ owns c.tc cwa fullShare R.cwa ∗ owns c.tc cwb fullShare R.cwb
    ∗ owns c.tc wa fullShare R.wa ∗ owns c.tc wb fullShare R.wb ∗ owns c.tc sg fullShare R.sg
    ∗ owns c.tc dp fullShare s.dp ∗ owns c.tc aca fullShare s.aca ∗ owns c.tc acb fullShare s.acb)

variable (R : Rd F) (k : Fin k0_t1_loop.trips)

include hca hva hvb hcwa hcwb hwa hwb hsg haca hacb

theorem wp_lane (s : St F) (l : Fin 8) {Q : PUnit → sProp 𝕄} :
    iprop(Held c ca va vb cwa cwb dp wa wb sg aca acb R s ∗ (Held c ca va vb cwa cwb dp wa wb sg aca acb R (laneSt R k s l) -∗ Q ⟨⟩))
      ⊢ wp frame (wpE (defs₀ (F := F)) Variants.none c none) E (lane ca va vb cwa cwb dp hdp wa wb sg aca acb k l) Q := by
  unfold Held lane laneA laneB
  simp only [wp_bind]
  iintro ⟨⟨Hca, Hva, Hvb, Hcwa, Hcwb, Hwa, Hwb, Hsg, Hdp, Haca, Hacb⟩, Hk⟩
  iapply (wp_get c k l hca R.ca); isplitl [Hca]; · iexact Hca
  iintro Hca
  iapply (wp_get c k l hva R.va); isplitl [Hva]; · iexact Hva
  iintro Hva
  iapply (wp_getWin c k l hwa R.wa); isplitl [Hwa]; · iexact Hwa
  iintro Hwa
  iapply (wp_taps three R.cwa l (win k l R.wa) (zA R k l) c hcwa haca tapsA s.aca zero64)
  isplitl [Hcwa]; · iexact Hcwa
  isplitl [Haca]; · iexact Haca
  iintro ⟨Hcwa, Haca⟩
  iapply (wp_put c k l hdp _ 1 (prod (filtA R k l) (wide (sub k l R.va)))); isplitl [Hdp]; · iexact Hdp
  iintro Hdp
  iapply (wp_put c k l hdp _ 2 (prod (filtA R k l) (wide (sub k l R.ca)))); isplitl [Hdp]; · iexact Hdp
  iintro Hdp
  iapply (wp_getS c k l hsg R.sg); isplitl [Hsg]; · iexact Hsg
  iintro Hsg
  iapply (wp_get c k l hvb R.vb); isplitl [Hvb]; · iexact Hvb
  iintro Hvb
  iapply (wp_getWin c k l hwb R.wb); isplitl [Hwb]; · iexact Hwb
  iintro Hwb
  iapply (wp_taps many R.cwb l (win k l R.wb) (zB R k l) c hcwb hacb tapsB s.acb zero64)
  isplitl [Hcwb]; · iexact Hcwb
  isplitl [Hacb]; · iexact Hacb
  iintro ⟨Hcwb, Hacb⟩
  iapply (wp_put c k l hdp _ 3 (prod (filtB R k l) (sub k l R.sg))); isplitl [Hdp]; · iexact Hdp
  iintro Hdp
  iapply (wp_put c k l hdp _ 4 (gate (filtB R k l) (wide (sub k l R.vb)) (sub k l R.sg))); isplitl [Hdp]; · iexact Hdp
  iintro Hdp
  iapply Hk
  isplitl [Hca]; · iexact Hca
  isplitl [Hva]; · iexact Hva
  isplitl [Hvb]; · iexact Hvb
  isplitl [Hcwa]; · iexact Hcwa
  isplitl [Hcwb]; · iexact Hcwb
  isplitl [Hwa]; · iexact Hwa
  isplitl [Hwb]; · iexact Hwb
  isplitl [Hsg]; · iexact Hsg
  isplitl [Hdp]; · iexact Hdp
  isplitl [Haca]; · iexact Haca
  iexact Hacb

theorem wp_lanes {Q : PUnit → sProp 𝕄} (ls : List (Fin 8)) : ∀ s : St F,
    iprop(Held c ca va vb cwa cwb dp wa wb sg aca acb R s ∗ (Held c ca va vb cwa cwb dp wa wb sg aca acb R (ls.foldl (laneSt R k) s) -∗ Q ⟨⟩))
      ⊢ wp frame (wpE (defs₀ (F := F)) Variants.none c none) E (lanes ca va vb cwa cwb dp hdp wa wb sg aca acb k ls) Q := by
  induction ls with
  | nil =>
    intro s
    iintro ⟨H, Hk⟩
    unfold lanes
    simp only [List.foldl_nil]
    sl_step
    iapply Hk; iexact H
  | cons l ls ih =>
    intro s
    iintro ⟨H, Hk⟩
    unfold lanes
    simp only [List.foldl_cons]
    rw [wp_bind]
    iapply (wp_lane c hca hva hvb hcwa hcwb hdp hwa hwb hsg haca hacb R k s l)
    isplitl [H]; · iexact H
    iintro H
    iapply (ih (laneSt R k s l))
    isplitl [H]; · iexact H
    iexact Hk

end Loop

end Cert.ConvRun
-- ==== Proof.ConvBody.lean ====
/- The convolutions' backward body from its first line to its last, at one grid point. -/
module

public import proofs.«01_k».proof.Proof.ConvRun
public import proofs.«01_k».proof.Proof.Rows

@[expose] public section

set_option maxRecDepth 16384

noncomputable section

namespace Cert.ConvRun

open Cert.Conv Cert.Conv.Gen Cert.ConvProg Cert.Blocks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The blocks that one grid point reads. -/
structure Blk (F : FTy → Type) [FloatOps F] where
  dca : Vec F S512x1024 .bf16
  du1 : Vec F S512x1024 .bf16
  nxa : Vec F S32x1024 .bf16
  nxb : Vec F S32x1024 .bf16
  ca : Vec F S512x1024 .bf16
  va : Vec F S512x1024 .bf16
  vb : Vec F S512x1024 .bf16
  gb : Vec F S512x1024 .bf16
  dba : Vec F S512x1024 .bf16
  dga : Vec F S512x1024 .bf16
  dgb : Vec F S512x1024 .bf16
  cwa : Vec F (ConvProg.Sh 3 1024) .f32
  cwb : Vec F (ConvProg.Sh 31 1024) .f32

/-- 512 rows, then 32 more. -/
def joined {α : Type} (a : S512x1024.Idx → α) (b : S32x1024.Idx → α) : S544x1024.Idx → α := fun j =>
  if h : (j 0).val < 512 then a (ix2 ⟨(j 0).val, h⟩ ⟨(j 1).val, (j 1).isLt⟩)
  else b (ix2 ⟨(j 0).val - 512, by have h2 : (j 0).val < 544 := (j 0).isLt; omega⟩ ⟨(j 1).val, (j 1).isLt⟩)

theorem stb_joined {α : Type} (y : S544x1024.Idx → α) (a : S512x1024.Idx → α) (b : S32x1024.Idx → α) :
    stb (n := 32) (m := 1024) (stb (n := 512) (m := 1024) y 0 0 a) 512 0 b = joined a b := by
  funext j
  have h0 : (j 0).val < 544 := (j 0).isLt
  have h1 : (j 1).val < 1024 := (j 1).isLt
  unfold joined
  split
  · rename_i h
    unfold stb
    rw [dif_neg (by omega), dif_pos (by omega)]; rfl
  · rename_i h
    unfold stb
    rw [dif_pos (by omega)]; rfl

/-- What the loop reads at grid point `i`. -/
def Blk.rd (i : grid0.Coords) (B : Blk F) : Rd F where
  ca := B.ca
  va := B.va
  vb := B.vb
  cwa := B.cwa
  cwb := B.cwb
  wa := joined (k0_pay1073 B.dca) (k0_pay1074 i B.nxa)
  wb := joined (k0_pay1075 B.du1) (k0_pay1 (k0_pay1069 i) B.nxb)
  sg := k0_pay1072 B.gb

/-- The packed gradients before the loop. -/
def Blk.dp0 (B : Blk F) (y : Vec F S512x7168 .bf16) : Vec F S512x7168 .bf16 :=
  stb (n := 512) (m := 1024) (stb (n := 512) (m := 1024) (stb (n := 512) (m := 1024) y 0 0 (k0_pay2 B.dba)) 0 5120 (k0_pay3 B.dga)) 0 6144 (k0_pay4 B.dgb)

section Fin

variable (c : Dev nD) {E : Set ℕ} {K N : ℕ} (h : K ≤ N)

theorem sums_le (k : Fin K) : 8 * k.val + 8 ≤ 8 * K := by omega

def stepTotal (y : Vec F (ConvProg.Sh (8 * K) 1024) .f32) (o : Vec F (ConvProg.Sh N 1024) .f32) (k : Fin K) : Vec F (ConvProg.Sh N 1024) .f32 :=
  stb (n := 1) (m := 1024) o k.val 0 (k0_pay1040 (ldb 8 1024 y (8 * k.val) 0 (sums_le k) (le_refl _)))

theorem wp_total {ac : Memref sig .tc .vmem (ConvProg.Sh (8 * K) 1024) .f32} {out : Memref sig .tc .vmem (ConvProg.Sh N 1024) .f32}
    (hac : ac.IsWhole) (hout : out.IsWhole) (y : Vec F (ConvProg.Sh (8 * K) 1024) .f32) (o : Vec F (ConvProg.Sh N 1024) .f32) (k : Fin K)
    {Q : PUnit → sProp 𝕄} :
    iprop(owns c.tc ac fullShare y ∗ owns c.tc out fullShare o
      ∗ (iprop(owns c.tc ac fullShare y ∗ owns c.tc out fullShare (stepTotal y o k)) -∗ Q ⟨⟩))
      ⊢ wp frame (wpE (defs₀ (F := F)) Variants.none c none) E (total h ac out k) Q := by
  unfold total owns stepTotal
  iintro ⟨⟨%f0, %e0, H0⟩, ⟨%f1, %e1, H1⟩, Hk⟩
  obtain rfl := hac.eq_unread e0; obtain rfl := hout.eq_unread e1
  sl_exec
  sl_step
  iapply Hk
  isplitl [H0]; · (iexists _; isplitr; · ipureintro; exact hac.read_unread _); iexact H0
  iexists _; isplitr; swap; · iexact H1
  ipureintro
  sl_unfold_run_names
  rw [read_stb (n := 1) (m := 1024) out.view _ _ k.val 0 rfl rfl,
    readAt_ldb (n := 8) (m := 1024) ac.view _ _ (8 * k.val) 0 rfl rfl (sums_le k) (le_refl _), hac.read_unread]
  show stb (out.view.read (Elt F) (hout.unread o)) _ _ _ = _
  rw [hout.read_unread]

theorem wp_totals {ac : Memref sig .tc .vmem (ConvProg.Sh (8 * K) 1024) .f32} {out : Memref sig .tc .vmem (ConvProg.Sh N 1024) .f32}
    (hac : ac.IsWhole) (hout : out.IsWhole) (y : Vec F (ConvProg.Sh (8 * K) 1024) .f32) {Q : PUnit → sProp 𝕄} (ks : List (Fin K)) :
    ∀ o : Vec F (ConvProg.Sh N 1024) .f32,
    iprop(owns c.tc ac fullShare y ∗ owns c.tc out fullShare o
      ∗ (iprop(owns c.tc ac fullShare y ∗ owns c.tc out fullShare (ks.foldl (stepTotal y) o)) -∗ Q ⟨⟩))
      ⊢ wp frame (wpE (defs₀ (F := F)) Variants.none c none) E (totals h ac out ks) Q := by
  induction ks with
  | nil =>
    intro o
    iintro ⟨H0, H1, Hk⟩
    unfold totals
    simp only [List.foldl_nil]
    sl_step
    iapply Hk
    isplitl [H0] <;> iassumption
  | cons k ks ih =>
    intro o
    iintro ⟨H0, H1, Hk⟩
    unfold totals
    simp only [List.foldl_cons]
    rw [wp_bind]
    iapply (wp_total c h hac hout y o k)
    isplitl [H0]; · iexact H0
    isplitl [H1]; · iexact H1
    iintro ⟨H0, H1⟩
    iapply (ih (stepTotal y o k))
    isplitl [H0]; · iexact H0
    isplitl [H1]; · iexact H1
    iexact Hk

theorem wp_fin {oa : Memref sig .tc .vmem (ConvProg.Sh 8 1024) .f32} {ob : Memref sig .tc .vmem (ConvProg.Sh 32 1024) .f32}
    {aca : Memref sig .tc .vmem (ConvProg.Sh (8 * 3) 1024) .f32} {acb : Memref sig .tc .vmem (ConvProg.Sh (8 * 31) 1024) .f32}
    (hoa : oa.IsWhole) (hob : ob.IsWhole) (haca : aca.IsWhole) (hacb : acb.IsWhole)
    (ya : Vec F (ConvProg.Sh (8 * 3) 1024) .f32) (yb : Vec F (ConvProg.Sh (8 * 31) 1024) .f32) {Q : PUnit → sProp 𝕄} :
    iprop((∃ d, owns c.tc oa fullShare d) ∗ (∃ d, owns c.tc ob fullShare d)
      ∗ owns c.tc aca fullShare ya ∗ owns c.tc acb fullShare yb
      ∗ (iprop(owns c.tc oa fullShare (rowsA.foldl (stepTotal ya) (zeros 8)) ∗ owns c.tc ob fullShare (rowsB.foldl (stepTotal yb) (zeros 32))
        ∗ owns c.tc aca fullShare ya ∗ owns c.tc acb fullShare yb) -∗ Q ⟨⟩))
      ⊢ wp frame (wpE (defs₀ (F := F)) Variants.none c none) E (fin oa ob aca acb) Q := by
  have step (p : Prog (TpuEff nD τ sig (Elt F) Λ₀ .tc) PUnit) :
      iprop((∃ d, owns c.tc oa fullShare d) ∗ (∃ d, owns c.tc ob fullShare d)
        ∗ (iprop(owns c.tc oa fullShare (zeros 8) ∗ owns c.tc ob fullShare (zeros 32)) -∗
          wp frame (wpE (defs₀ (F := F)) Variants.none c none) E p Q))
      ⊢ wp frame (wpE (defs₀ (F := F)) Variants.none c none) E (do
          let _ : Vec F (ConvProg.Sh 8 1024) .f32 ← Prog.lift (.load oa (Rect.unit (s := ConvProg.Sh 8 1024) ![0, 0] (ConvProg.Sh 8 1024).size (all_in 8)).toLoadRect (View.loadsAt_vmem h_S8x1024))
          Prog.lift (.store oa (Rect.unit (s := ConvProg.Sh 8 1024) ![0, 0] (ConvProg.Sh 8 1024).size (all_in 8)) (zeros 8) Finset.univ (View.stores_vmem_bits_univ h_S8x1024 rfl) (.inl rfl))
          let _ : Vec F (ConvProg.Sh 32 1024) .f32 ← Prog.lift (.load ob (Rect.unit (s := ConvProg.Sh 32 1024) ![0, 0] (ConvProg.Sh 32 1024).size (all_in 32)).toLoadRect (View.loadsAt_vmem h_S32x1024))
          Prog.lift (.store ob (Rect.unit (s := ConvProg.Sh 32 1024) ![0, 0] (ConvProg.Sh 32 1024).size (all_in 32)) (zeros 32) Finset.univ (View.stores_vmem_bits_univ h_S32x1024 rfl) (.inl rfl))
          p) Q := by
    unfold owns
    iintro ⟨⟨%d0, %f0, %e0, H0⟩, ⟨%d1, %f1, %e1, H1⟩, Hk⟩
    sl_exec
    iapply Hk
    isplitl [H0]; · (iexists _; isplitr; swap; iexact H0); ipureintro; exact View.read_writes_full _ _ _ _ _
    iexists _; isplitr; swap; · iexact H1
    ipureintro; exact View.read_writes_full _ _ _ _ _
  unfold fin
  iintro ⟨H0, H1, H2, H3, Hk⟩
  iapply (step _)
  isplitl [H0]; · iexact H0
  isplitl [H1]; · iexact H1
  iintro ⟨H0, H1⟩
  rw [wp_bind]
  iapply (wp_totals c _ haca hoa ya rowsA (zeros 8))
  isplitl [H2]; · iexact H2
  isplitl [H0]; · iexact H0
  iintro ⟨H2, H0⟩
  iapply (wp_totals c _ hacb hob yb rowsB (zeros 32))
  isplitl [H3]; · iexact H3
  isplitl [H1]; · iexact H1
  iintro ⟨H3, H1⟩
  iapply Hk
  isplitl [H0]; · iexact H0
  isplitl [H1]; · iexact H1
  isplitl [H2]; · iexact H2
  iexact H3

end Fin

section Head

variable (c : Dev nD) {E : Set ℕ}

theorem wp_middle {a4 : Memref sig .tc .vmem S32x1024 .bf16} {a9 a10 a11 : Memref sig .tc .vmem S512x1024 .bf16}
    {a14 : Memref sig .tc .vmem S512x7168 .bf16} {a18 : Memref sig .tc .vmem S544x1024 .f32}
    (h4 : a4.IsWhole) (h9 : a9.IsWhole) (h10 : a10.IsWhole) (h11 : a11.IsWhole) (h14 : a14.IsWhole) (h18 : a18.IsWhole)
    (v2 : F .f32) (B : Blk F) (y : Vec F S512x7168 .bf16) (w : Vec F S544x1024 .f32) {Q : PUnit → sProp 𝕄} :
    iprop(owns c.tc a4 fullShare B.nxb ∗ owns c.tc a9 fullShare B.dba ∗ owns c.tc a10 fullShare B.dga
      ∗ owns c.tc a11 fullShare B.dgb ∗ owns c.tc a14 fullShare y ∗ owns c.tc a18 fullShare w
      ∗ (iprop(owns c.tc a4 fullShare B.nxb ∗ owns c.tc a9 fullShare B.dba ∗ owns c.tc a10 fullShare B.dga
        ∗ owns c.tc a11 fullShare B.dgb ∗ owns c.tc a14 fullShare (B.dp0 y)
        ∗ owns c.tc a18 fullShare (stb (n := 32) (m := 1024) w 512 0 (k0_pay1 v2 B.nxb))) -∗ Q ⟨⟩))
      ⊢ wp frame (wpE (defs₀ (F := F)) Variants.none c none) E (middle v2 a4 a9 a10 a11 a14 h14 a18) Q := by
  unfold middle owns Blk.dp0
  iintro ⟨⟨%f0, %e0, H0⟩, ⟨%f1, %e1, H1⟩, ⟨%f2, %e2, H2⟩, ⟨%f3, %e3, H3⟩, ⟨%f4, %e4, H4⟩, ⟨%f5, %e5, H5⟩, Hk⟩
  obtain rfl := h4.eq_unread e0; obtain rfl := h9.eq_unread e1; obtain rfl := h10.eq_unread e2
  obtain rfl := h11.eq_unread e3; obtain rfl := h14.eq_unread e4; obtain rfl := h18.eq_unread e5
  sl_exec
  sl_step
  iapply Hk
  isplitl [H0]; · (iexists _; isplitr; · ipureintro; exact h4.read_unread _); iexact H0
  isplitl [H1]; · (iexists _; isplitr; · ipureintro; exact h9.read_unread _); iexact H1
  isplitl [H2]; · (iexists _; isplitr; · ipureintro; exact h10.read_unread _); iexact H2
  isplitl [H3]; · (iexists _; isplitr; · ipureintro; exact h11.read_unread _); iexact H3
  isplitl [H4]
  · iexists _; isplitr; swap; · iexact H4
    ipureintro
    sl_unfold_run_names
    simp only [Rows.readAt_all, h9.read_unread, h10.read_unread, h11.read_unread]
    rw [read_stb (n := 512) (m := 1024) a14.view _ _ 0 6144 rfl rfl, read_stb (n := 512) (m := 1024) a14.view _ _ 0 5120 rfl rfl,
      read_stb (n := 512) (m := 1024) a14.view _ _ 0 0 rfl rfl]
    show stb (stb (stb (a14.view.read (Elt F) (h14.unread y)) _ _ _) _ _ _) _ _ _ = _
    rw [h14.read_unread]
  iexists _; isplitr; swap; · iexact H5
  ipureintro
  sl_unfold_run_names
  simp only [Rows.readAt_all, h4.read_unread]
  rw [read_stb (n := 32) (m := 1024) a18.view _ _ 512 0 rfl rfl]
  show stb (a18.view.read (Elt F) (h18.unread w)) _ _ _ = _
  rw [h18.read_unread]

variable {a1 : Memref sig .tc .vmem S512x1024 .bf16}
  {a2 : Memref sig .tc .vmem S512x1024 .bf16}
  {a3 : Memref sig .tc .vmem S32x1024 .bf16}
  {a4 : Memref sig .tc .vmem S32x1024 .bf16}
  {a5 : Memref sig .tc .vmem S512x1024 .bf16}
  {a6 : Memref sig .tc .vmem S512x1024 .bf16}
  {a7 : Memref sig .tc .vmem S512x1024 .bf16}
  {a8 : Memref sig .tc .vmem S512x1024 .bf16}
  {a9 : Memref sig .tc .vmem S512x1024 .bf16}
  {a10 : Memref sig .tc .vmem S512x1024 .bf16}
  {a11 : Memref sig .tc .vmem S512x1024 .bf16}
  {a12 : Memref sig .tc .vmem S3x1024 .f32}
  {a13 : Memref sig .tc .vmem S31x1024 .f32}
  {a14 : Memref sig .tc .vmem S512x7168 .bf16}
  {a15 : Memref sig .tc .vmem S8x1024 .f32}
  {a16 : Memref sig .tc .vmem S32x1024 .f32}
  {a17 : Memref sig .tc .vmem S544x1024 .f32}
  {a18 : Memref sig .tc .vmem S544x1024 .f32}
  {a19 : Memref sig .tc .vmem S512x1024 .f32}
  {a20 : Memref sig .tc .vmem S24x1024 .f32}
  {a21 : Memref sig .tc .vmem S248x1024 .f32}
  (h1 : a1.IsWhole) (h2 : a2.IsWhole) (h3 : a3.IsWhole) (h4 : a4.IsWhole) (h5 : a5.IsWhole) (h6 : a6.IsWhole) (h7 : a7.IsWhole) (h8 : a8.IsWhole) (h9 : a9.IsWhole) (h10 : a10.IsWhole) (h11 : a11.IsWhole) (h12 : a12.IsWhole) (h13 : a13.IsWhole) (h14 : a14.IsWhole) (h15 : a15.IsWhole) (h16 : a16.IsWhole) (h17 : a17.IsWhole) (h18 : a18.IsWhole) (h19 : a19.IsWhole) (h20 : a20.IsWhole) (h21 : a21.IsWhole)

/-- The body's first condition: the point is the first. -/
abbrev cond0 (i : grid0.Coords) : Prop := (Scalar.cmpi .ne (Scalar.extui (Scalar.cmpi .eq (BitVec.ofNat 32 (i 0).val) 0#32)) 0#32) = 1#1

theorem wp_head_first (i : grid0.Coords) (hc : cond0 i) (B : Blk F) {Q : (Σ' (_ : BitVec 32), F .f32) → sProp 𝕄} :
    iprop(owns c.tc a8 fullShare B.gb ∗ owns c.tc a1 fullShare B.dca ∗ owns c.tc a3 fullShare B.nxa ∗ owns c.tc a2 fullShare B.du1
      ∗ (∃ d, owns c.tc a19 fullShare d) ∗ (∃ d, owns c.tc a17 fullShare d) ∗ (∃ d, owns c.tc a18 fullShare d) ∗ (∃ d, owns c.tc a20 fullShare d) ∗ (∃ d, owns c.tc a21 fullShare d)
      ∗ (iprop(owns c.tc a8 fullShare B.gb ∗ owns c.tc a1 fullShare B.dca ∗ owns c.tc a3 fullShare B.nxa ∗ owns c.tc a2 fullShare B.du1
        ∗ owns c.tc a19 fullShare (k0_pay1072 B.gb) ∗ owns c.tc a17 fullShare (joined (k0_pay1073 B.dca) (k0_pay1074 i B.nxa))
        ∗ (∃ d, owns c.tc a18 fullShare (stb (n := 512) (m := 1024) d 0 0 (k0_pay1075 B.du1))) ∗ owns c.tc a20 fullShare (k0_pay1070 (F := F)) ∗ owns c.tc a21 fullShare (k0_pay1071 (F := F))) -∗ Q ⟨BitVec.ofNat 32 (i 0).val, k0_pay1069 i⟩))
      ⊢ wp frame (wpE (defs₀ (F := F)) Variants.none c none) E (k0_part168 (F := F) i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21) Q := by
  rw [k0_part168_eq_skeleton]
  unfold k0_part168_skel owns
  iintro ⟨⟨%f8, %e8, H8⟩, ⟨%f1, %e1, H1⟩, ⟨%f3, %e3, H3⟩, ⟨%f2, %e2, H2⟩, ⟨%d19, %f19, %e19, H19⟩, ⟨%d17, %f17, %e17, H17⟩, ⟨%d18, %f18, %e18, H18⟩, ⟨%d20, %f20, %e20, H20⟩, ⟨%d21, %f21, %e21, H21⟩, Hk⟩
  obtain rfl := h8.eq_unread e8; obtain rfl := h1.eq_unread e1; obtain rfl := h3.eq_unread e3; obtain rfl := h2.eq_unread e2
  sl_exec (disch := first | sl_exact hc)
  sl_step
  iapply Hk
  isplitl [H8]; · (iexists _; isplitr; · ipureintro; exact h8.read_unread _); iexact H8
  isplitl [H1]; · (iexists _; isplitr; · ipureintro; exact h1.read_unread _); iexact H1
  isplitl [H3]; · (iexists _; isplitr; · ipureintro; exact h3.read_unread _); iexact H3
  isplitl [H2]; · (iexists _; isplitr; · ipureintro; exact h2.read_unread _); iexact H2
  isplitl [H19]
  · iexists _; isplitr; swap; · iexact H19
    ipureintro
    rw [View.read_writes_full]
    sl_unfold_run_names
    simp only [Rows.readAt_all, h8.read_unread]
  isplitl [H17]
  · iexists _; isplitr; swap; · iexact H17
    ipureintro
    sl_unfold_run_names
    simp only [Rows.readAt_all, h1.read_unread, h3.read_unread]
    rw [read_stb (n := 32) (m := 1024) a17.view _ _ 512 0 rfl rfl, read_stb (n := 512) (m := 1024) a17.view _ _ 0 0 rfl rfl]
    exact stb_joined _ _ _
  isplitl [H18]
  · iexists a18.view.read (Elt F) f18
    iexists _; isplitr; swap; · iexact H18
    ipureintro
    sl_unfold_run_names
    simp only [Rows.readAt_all, h2.read_unread]
    rw [read_stb (n := 512) (m := 1024) a18.view _ _ 0 0 rfl rfl]
    rfl
  isplitl [H20]; · (iexists _; isplitr; swap; iexact H20); ipureintro; rw [View.read_writes_full]
  iexists _; isplitr; swap; · iexact H21
  ipureintro; rw [View.read_writes_full]

theorem wp_head_next (i : grid0.Coords) (hc : ¬cond0 i) (B : Blk F) {Q : (Σ' (_ : BitVec 32), F .f32) → sProp 𝕄} :
    iprop(owns c.tc a8 fullShare B.gb ∗ owns c.tc a1 fullShare B.dca ∗ owns c.tc a3 fullShare B.nxa ∗ owns c.tc a2 fullShare B.du1
      ∗ (∃ d, owns c.tc a19 fullShare d) ∗ (∃ d, owns c.tc a17 fullShare d) ∗ (∃ d, owns c.tc a18 fullShare d)
      ∗ (iprop(owns c.tc a8 fullShare B.gb ∗ owns c.tc a1 fullShare B.dca ∗ owns c.tc a3 fullShare B.nxa ∗ owns c.tc a2 fullShare B.du1
        ∗ owns c.tc a19 fullShare (k0_pay1072 B.gb) ∗ owns c.tc a17 fullShare (joined (k0_pay1073 B.dca) (k0_pay1074 i B.nxa))
        ∗ (∃ d, owns c.tc a18 fullShare (stb (n := 512) (m := 1024) d 0 0 (k0_pay1075 B.du1)))) -∗ Q ⟨BitVec.ofNat 32 (i 0).val, k0_pay1069 i⟩))
      ⊢ wp frame (wpE (defs₀ (F := F)) Variants.none c none) E (k0_part168 (F := F) i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21) Q := by
  rw [k0_part168_eq_skeleton]
  unfold k0_part168_skel owns
  iintro ⟨⟨%f8, %e8, H8⟩, ⟨%f1, %e1, H1⟩, ⟨%f3, %e3, H3⟩, ⟨%f2, %e2, H2⟩, ⟨%d19, %f19, %e19, H19⟩, ⟨%d17, %f17, %e17, H17⟩, ⟨%d18, %f18, %e18, H18⟩, Hk⟩
  obtain rfl := h8.eq_unread e8; obtain rfl := h1.eq_unread e1; obtain rfl := h3.eq_unread e3; obtain rfl := h2.eq_unread e2
  sl_exec (disch := first | sl_exact hc)
  sl_step
  iapply Hk
  isplitl [H8]; · (iexists _; isplitr; · ipureintro; exact h8.read_unread _); iexact H8
  isplitl [H1]; · (iexists _; isplitr; · ipureintro; exact h1.read_unread _); iexact H1
  isplitl [H3]; · (iexists _; isplitr; · ipureintro; exact h3.read_unread _); iexact H3
  isplitl [H2]; · (iexists _; isplitr; · ipureintro; exact h2.read_unread _); iexact H2
  isplitl [H19]
  · iexists _; isplitr; swap; · iexact H19
    ipureintro
    rw [View.read_writes_full]
    sl_unfold_run_names
    simp only [Rows.readAt_all, h8.read_unread]
  isplitl [H17]
  · iexists _; isplitr; swap; · iexact H17
    ipureintro
    sl_unfold_run_names
    simp only [Rows.readAt_all, h1.read_unread, h3.read_unread]
    rw [read_stb (n := 32) (m := 1024) a17.view _ _ 512 0 rfl rfl, read_stb (n := 512) (m := 1024) a17.view _ _ 0 0 rfl rfl]
    exact stb_joined _ _ _

  · iexists a18.view.read (Elt F) f18
    iexists _; isplitr; swap; · iexact H18
    ipureintro
    sl_unfold_run_names
    simp only [Rows.readAt_all, h2.read_unread]
    rw [read_stb (n := 512) (m := 1024) a18.view _ _ 0 0 rfl rfl]
    rfl

end Head

end Cert.ConvRun
-- ==== Proof.ConvPoint.lean ====
/- The convolutions' backward body at one grid point, with everything it reads and writes. -/
module

public import proofs.«01_k».proof.Proof.ConvBody

@[expose] public section

set_option maxRecDepth 16384

noncomputable section

namespace Cert.ConvRun

open Cert.Conv Cert.Conv.Gen Cert.ConvProg Cert.Blocks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The packed gradients, entry by entry -/

/-- Where entry `j` of the packed gradients lies in its block of 64 rows and 128 columns. -/
def cell (j : S512x7168.Idx) : S64x128.Idx := ix2 ⟨(j 0).val % 64, Nat.mod_lt _ (by decide)⟩ ⟨(j 1).val % 128, Nat.mod_lt _ (by decide)⟩

theorem putv_apply (k : Fin k0_t1_loop.trips) (l : Fin 8) (b : Fin 7) (v : FVec F S64x128 .bf16) (y : Vec F S512x7168 .bf16) (j : S512x7168.Idx) :
    putv k l b v y j = if (j 0).val / 64 = k.val ∧ (j 1).val / 128 = 8 * b.val + l.val then v (cell j) else y j := by
  unfold putv stb
  by_cases h : (j 0).val / 64 = k.val ∧ (j 1).val / 128 = 8 * b.val + l.val
  · rw [if_pos h, dif_pos (by omega)]
    unfold cell
    congr 1
    have e0 : (j 0).val - 64 * k.val = (j 0).val % 64 := by omega
    have e1 : (j 1).val - (1024 * b.val + 128 * l.val) = (j 1).val % 128 := by omega
    simp only [e0, e1]
  · rw [if_neg h, dif_neg (by omega)]

section Vals

variable (R : Rd F)

/-- Part `b` of the packed gradients in lane group `l` of trip `k`. -/
def partv (k : Fin k0_t1_loop.trips) (l : Fin 8) (b : ℕ) : FVec F S64x128 .bf16 :=
  if b = 1 then prod (filtA R k l) (wide (sub k l R.va))
  else if b = 2 then prod (filtA R k l) (wide (sub k l R.ca))
  else if b = 3 then prod (filtB R k l) (sub k l R.sg)
  else gate (filtB R k l) (wide (sub k l R.vb)) (sub k l R.sg)

theorem trip_lt (j : S512x7168.Idx) : (j 0).val / 64 < k0_t1_loop.trips := by
  have h : (j 0).val < 512 := (j 0).isLt
  rw [trips_eq]; omega

/-- Entry `j` of the parts that the loop writes. -/
def entry (j : S512x7168.Idx) : Elt F .bf16 :=
  partv R ⟨(j 0).val / 64, trip_lt j⟩ ⟨(j 1).val / 128 % 8, Nat.mod_lt _ (by decide)⟩ ((j 1).val / 1024) (cell j)

theorem lane_dp (k : Fin k0_t1_loop.trips) (s : St F) (l : Fin 8) (j : S512x7168.Idx) (hj : 1024 ≤ (j 1).val ∧ (j 1).val < 5120) :
    (laneSt R k s l).dp j = if (j 0).val / 64 = k.val ∧ (j 1).val / 128 % 8 = l.val then entry R j else s.dp j := by
  show putv k l 4 _ (putv k l 3 _ (putv k l 2 _ (putv k l 1 _ s.dp))) j = _
  rw [putv_apply k l 4, putv_apply k l 3, putv_apply k l 2, putv_apply k l 1]
  by_cases h : (j 0).val / 64 = k.val ∧ (j 1).val / 128 % 8 = l.val
  · rw [if_pos h]
    have ek : (⟨(j 0).val / 64, trip_lt j⟩ : Fin k0_t1_loop.trips) = k := Fin.ext h.1
    have el : (⟨(j 1).val / 128 % 8, Nat.mod_lt _ (by decide)⟩ : Fin 8) = l := Fin.ext h.2
    unfold entry partv
    rw [ek, el]
    have hb : (j 1).val / 1024 = 1 ∨ (j 1).val / 1024 = 2 ∨ (j 1).val / 1024 = 3 ∨ (j 1).val / 1024 = 4 := by omega
    have e : ∀ b : Fin 7, ((j 0).val / 64 = k.val ∧ (j 1).val / 128 = 8 * b.val + l.val) ↔ (j 1).val / 1024 = b.val := by
      intro b; constructor <;> intro h' <;> omega
    simp only [e]
    rcases hb with hb | hb | hb | hb <;> simp [hb]
  · rw [if_neg h, if_neg, if_neg, if_neg, if_neg] <;> intro h' <;> apply h <;>
      (obtain ⟨h1, h2⟩ := h'; refine ⟨h1, ?_⟩; simp at h2; omega)

theorem lane_dp_out (k : Fin k0_t1_loop.trips) (s : St F) (l : Fin 8) (j : S512x7168.Idx) (hj : ¬(1024 ≤ (j 1).val ∧ (j 1).val < 5120)) :
    (laneSt R k s l).dp j = s.dp j := by
  show putv k l 4 _ (putv k l 3 _ (putv k l 2 _ (putv k l 1 _ s.dp))) j = _
  rw [putv_apply k l 4, putv_apply k l 3, putv_apply k l 2, putv_apply k l 1]
  rw [if_neg, if_neg, if_neg, if_neg] <;> intro h' <;> apply hj <;> (obtain ⟨h1, h2⟩ := h'; simp at h2; omega)

theorem lanes_dp (k : Fin k0_t1_loop.trips) (j : S512x7168.Idx) (hj : 1024 ≤ (j 1).val ∧ (j 1).val < 5120) (ls : List (Fin 8)) : ∀ s : St F,
    (ls.foldl (laneSt R k) s).dp j
      = if (j 0).val / 64 = k.val ∧ (⟨(j 1).val / 128 % 8, Nat.mod_lt _ (by decide)⟩ : Fin 8) ∈ ls then entry R j else s.dp j := by
  induction ls with
  | nil => intro s; simp
  | cons l ls ih =>
    intro s
    rw [List.foldl_cons, ih, lane_dp R k s l j hj]
    by_cases hk : (j 0).val / 64 = k.val
    · by_cases hm : (⟨(j 1).val / 128 % 8, Nat.mod_lt _ (by decide)⟩ : Fin 8) ∈ ls
      · simp [hk, hm]
      · simp [hk, hm, Fin.ext_iff]
    · simp [hk]

theorem lanes_dp_out (k : Fin k0_t1_loop.trips) (j : S512x7168.Idx) (hj : ¬(1024 ≤ (j 1).val ∧ (j 1).val < 5120)) (ls : List (Fin 8)) : ∀ s : St F,
    (ls.foldl (laneSt R k) s).dp j = s.dp j := by
  induction ls with
  | nil => intro s; rfl
  | cons l ls ih => intro s; rw [List.foldl_cons, ih, lane_dp_out R k s l j hj]

theorem groups_mem : ∀ l : Fin 8, l ∈ groups := by decide

theorem loop_dp (s : St F) (j : S512x7168.Idx) (hj : 1024 ≤ (j 1).val ∧ (j 1).val < 5120) : ∀ n, n ≤ k0_t1_loop.trips →
    (loopSt R s n).dp j = if (j 0).val / 64 < n then entry R j else s.dp j := by
  intro n
  induction n with
  | zero => intro _; simp [loopSt]
  | succ n ih =>
    intro hn
    unfold loopSt
    rw [dif_pos (Nat.lt_of_succ_le hn)]
    unfold tripSt
    rw [lanes_dp R _ j hj, ih (Nat.le_of_succ_le hn)]
    simp only [groups_mem, and_true]
    by_cases h1 : (j 0).val / 64 = n
    · rw [if_pos h1, if_pos (by omega)]
    · rw [if_neg h1]
      by_cases h2 : (j 0).val / 64 < n
      · rw [if_pos h2, if_pos (by omega)]
      · rw [if_neg h2, if_neg (by omega)]

theorem loop_dp_out (s : St F) (j : S512x7168.Idx) (hj : ¬(1024 ≤ (j 1).val ∧ (j 1).val < 5120)) (n : ℕ) : (loopSt R s n).dp j = s.dp j := by
  induction n with
  | zero => rfl
  | succ n ih =>
    unfold loopSt
    split
    · unfold tripSt; rw [lanes_dp_out R _ j hj, ih]
    · exact ih

/-! ## The sums, apart from the packed gradients -/

def laneA' (k : Fin k0_t1_loop.trips) (y : Vec F (ConvProg.Sh (8 * 3) 1024) .f32) (l : Fin 8) : Vec F (ConvProg.Sh (8 * 3) 1024) .f32 :=
  tapsA.foldl (stepAcc three l (win k l R.wa) (zA R k l)) y
def laneB' (k : Fin k0_t1_loop.trips) (y : Vec F (ConvProg.Sh (8 * 31) 1024) .f32) (l : Fin 8) : Vec F (ConvProg.Sh (8 * 31) 1024) .f32 :=
  tapsB.foldl (stepAcc many l (win k l R.wb) (zB R k l)) y

def loopA (y : Vec F (ConvProg.Sh (8 * 3) 1024) .f32) : ℕ → Vec F (ConvProg.Sh (8 * 3) 1024) .f32
  | 0 => y
  | n + 1 => if h : n < k0_t1_loop.trips then groups.foldl (laneA' R ⟨n, h⟩) (loopA y n) else loopA y n
def loopB (y : Vec F (ConvProg.Sh (8 * 31) 1024) .f32) : ℕ → Vec F (ConvProg.Sh (8 * 31) 1024) .f32
  | 0 => y
  | n + 1 => if h : n < k0_t1_loop.trips then groups.foldl (laneB' R ⟨n, h⟩) (loopB y n) else loopB y n

theorem lanes_aca (k : Fin k0_t1_loop.trips) (ls : List (Fin 8)) : ∀ s : St F, (ls.foldl (laneSt R k) s).aca = ls.foldl (laneA' R k) s.aca := by
  induction ls with
  | nil => intro s; rfl
  | cons l ls ih => intro s; rw [List.foldl_cons, List.foldl_cons, ih]; rfl
theorem lanes_acb (k : Fin k0_t1_loop.trips) (ls : List (Fin 8)) : ∀ s : St F, (ls.foldl (laneSt R k) s).acb = ls.foldl (laneB' R k) s.acb := by
  induction ls with
  | nil => intro s; rfl
  | cons l ls ih => intro s; rw [List.foldl_cons, List.foldl_cons, ih]; rfl

theorem loop_aca (s : St F) (n : ℕ) : (loopSt R s n).aca = loopA R s.aca n := by
  induction n with
  | zero => rfl
  | succ n ih =>
    unfold loopSt loopA
    split
    · unfold tripSt; rw [lanes_aca, ih]
    · exact ih
theorem loop_acb (s : St F) (n : ℕ) : (loopSt R s n).acb = loopB R s.acb n := by
  induction n with
  | zero => rfl
  | succ n ih =>
    unfold loopSt loopB
    split
    · unfold tripSt; rw [lanes_acb, ih]
    · exact ih

end Vals

/-- The packed gradients that the point leaves. -/
def Blk.dpv (i : grid0.Coords) (B : Blk F) : Vec F S512x7168 .bf16 := fun j =>
  if h : (j 1).val < 1024 then k0_pay2 B.dba (ix2 ⟨(j 0).val, (j 0).isLt⟩ ⟨(j 1).val, h⟩)
  else if _h : (j 1).val < 5120 then entry (B.rd i) j
  else if h : (j 1).val < 6144 then k0_pay3 B.dga (ix2 ⟨(j 0).val, (j 0).isLt⟩ ⟨(j 1).val - 5120, by omega⟩)
  else k0_pay4 B.dgb (ix2 ⟨(j 0).val, (j 0).isLt⟩ ⟨(j 1).val - 6144, by have h2 : (j 1).val < 7168 := (j 1).isLt; omega⟩)

theorem dp_final (i : grid0.Coords) (B : Blk F) (y : Vec F S512x7168 .bf16) (a b) :
    (loopSt (B.rd i) ⟨B.dp0 y, a, b⟩ k0_t1_loop.trips).dp = B.dpv i := by
  funext j
  have h0 : (j 0).val < 512 := (j 0).isLt
  have h1 : (j 1).val < 7168 := (j 1).isLt
  by_cases hj : 1024 ≤ (j 1).val ∧ (j 1).val < 5120
  · rw [loop_dp _ _ j hj _ (le_refl _), if_pos (trip_lt j)]
    unfold Blk.dpv
    rw [dif_neg (by omega), dif_pos (by omega)]
  · rw [loop_dp_out _ _ j hj]
    unfold Blk.dpv
    show B.dp0 y j = _
    unfold Blk.dp0
    by_cases c0 : (j 1).val < 1024
    · rw [dif_pos c0]
      unfold stb
      rw [dif_neg (by omega), dif_neg (by omega), dif_pos (by omega)]; rfl
    · rw [dif_neg c0, dif_neg (by omega)]
      by_cases c1 : (j 1).val < 6144
      · rw [dif_pos c1]
        unfold stb
        rw [dif_neg (by omega), dif_pos (by omega)]; rfl
      · rw [dif_neg c1]
        unfold stb
        rw [dif_pos (by omega)]; rfl

section Run

variable (c : Dev nD) {E : Set ℕ}

variable {a1 : Memref sig .tc .vmem S512x1024 .bf16}
  {a2 : Memref sig .tc .vmem S512x1024 .bf16}
  {a3 : Memref sig .tc .vmem S32x1024 .bf16}
  {a4 : Memref sig .tc .vmem S32x1024 .bf16}
  {a5 : Memref sig .tc .vmem S512x1024 .bf16}
  {a6 : Memref sig .tc .vmem S512x1024 .bf16}
  {a7 : Memref sig .tc .vmem S512x1024 .bf16}
  {a8 : Memref sig .tc .vmem S512x1024 .bf16}
  {a9 : Memref sig .tc .vmem S512x1024 .bf16}
  {a10 : Memref sig .tc .vmem S512x1024 .bf16}
  {a11 : Memref sig .tc .vmem S512x1024 .bf16}
  {a12 : Memref sig .tc .vmem S3x1024 .f32}
  {a13 : Memref sig .tc .vmem S31x1024 .f32}
  {a14 : Memref sig .tc .vmem S512x7168 .bf16}
  {a15 : Memref sig .tc .vmem S8x1024 .f32}
  {a16 : Memref sig .tc .vmem S32x1024 .f32}
  {a17 : Memref sig .tc .vmem S544x1024 .f32}
  {a18 : Memref sig .tc .vmem S544x1024 .f32}
  {a19 : Memref sig .tc .vmem S512x1024 .f32}
  {a20 : Memref sig .tc .vmem S24x1024 .f32}
  {a21 : Memref sig .tc .vmem S248x1024 .f32}
  (h1 : a1.IsWhole) (h2 : a2.IsWhole) (h3 : a3.IsWhole) (h4 : a4.IsWhole) (h5 : a5.IsWhole) (h6 : a6.IsWhole) (h7 : a7.IsWhole) (h8 : a8.IsWhole) (h9 : a9.IsWhole) (h10 : a10.IsWhole) (h11 : a11.IsWhole) (h12 : a12.IsWhole) (h13 : a13.IsWhole) (h14 : a14.IsWhole) (h15 : a15.IsWhole) (h16 : a16.IsWhole) (h17 : a17.IsWhole) (h18 : a18.IsWhole) (h19 : a19.IsWhole) (h20 : a20.IsWhole) (h21 : a21.IsWhole)

include h1 h2 h3 h4 h5 h6 h7 h8 h9 h10 h11 h12 h13 h14 h15 h16 h17 h18 h19 h20 h21

/-- The copies before the loop, and the loop. -/
theorem wp_core (i : grid0.Coords) (B : Blk F) (ya : Vec F (ConvProg.Sh (8 * 3) 1024) .f32) (yb : Vec F (ConvProg.Sh (8 * 31) 1024) .f32)
    {p : ConvProg.P F PUnit} {Q : PUnit → sProp 𝕄} :
    iprop(owns c.tc a4 fullShare B.nxb ∗ owns c.tc a5 fullShare B.ca ∗ owns c.tc a6 fullShare B.va ∗ owns c.tc a7 fullShare B.vb ∗ owns c.tc a9 fullShare B.dba ∗ owns c.tc a10 fullShare B.dga ∗ owns c.tc a11 fullShare B.dgb ∗ owns c.tc a12 fullShare B.cwa ∗ owns c.tc a13 fullShare B.cwb
      ∗ (∃ d, owns c.tc a14 fullShare d) ∗ owns c.tc a19 fullShare (k0_pay1072 B.gb) ∗ owns c.tc a17 fullShare (joined (k0_pay1073 B.dca) (k0_pay1074 i B.nxa))
      ∗ (∃ d, owns c.tc a18 fullShare (stb (n := 512) (m := 1024) d 0 0 (k0_pay1075 B.du1))) ∗ owns c.tc a20 fullShare ya ∗ owns c.tc a21 fullShare yb
      ∗ (iprop(owns c.tc a4 fullShare B.nxb ∗ owns c.tc a5 fullShare B.ca ∗ owns c.tc a6 fullShare B.va ∗ owns c.tc a7 fullShare B.vb ∗ owns c.tc a9 fullShare B.dba ∗ owns c.tc a10 fullShare B.dga ∗ owns c.tc a11 fullShare B.dgb ∗ owns c.tc a12 fullShare B.cwa ∗ owns c.tc a13 fullShare B.cwb
        ∗ owns c.tc a14 fullShare (B.dpv i) ∗ (∃ d, owns c.tc a19 fullShare d) ∗ (∃ d, owns c.tc a17 fullShare d) ∗ (∃ d, owns c.tc a18 fullShare d)
        ∗ owns c.tc a20 fullShare (loopA (B.rd i) ya k0_t1_loop.trips) ∗ owns c.tc a21 fullShare (loopB (B.rd i) yb k0_t1_loop.trips))
        -∗ wp frame (wpE (defs₀ (F := F)) Variants.none c none) E p Q))
      ⊢ wp frame (wpE (defs₀ (F := F)) Variants.none c none) E (do
          middle (k0_pay1069 i) a4 a9 a10 a11 a14 h14 a18
          Scf.Loop.for k0_t1_loop k0_t1_ok ⟨⟩ (fun k _ => lanes a5 a6 a7 a12 a13 a14 h14 a17 a18 a19 a20 a21 k [0, 1, 2, 3, 4, 5, 6, 7])
          p) Q := by
  iintro ⟨H4, H5, H6, H7, H9, H10, H11, H12, H13, ⟨%y, H14⟩, H19, H17, ⟨%w, H18⟩, H20, H21, Hk⟩
  simp only [wp_bind]
  iapply (wp_middle c h4 h9 h10 h11 h14 h18 (k0_pay1069 i) B y _)
  isplitl [H4]; · iexact H4
  isplitl [H9]; · iexact H9
  isplitl [H10]; · iexact H10
  isplitl [H11]; · iexact H11
  isplitl [H14]; · iexact H14
  isplitl [H18]; · iexact H18
  iintro ⟨H4, H9, H10, H11, H14, H18⟩
  rw [stb_joined]
  iapply (Scf.wp_for frame (wpE (defs₀ (F := F)) Variants.none c none) E k0_t1_loop.lb k0_t1_loop.ub k0_t1_loop.st k0_t1_ok ⟨⟩ _
    (fun n _ => Held c a5 a6 a7 a12 a13 a14 a17 a18 a19 a20 a21 (B.rd i) (loopSt (B.rd i) ⟨B.dp0 y, ya, yb⟩ n))
    (fun k _ => by
      show _ ⊢ wp frame _ E _ (fun _ => Held c a5 a6 a7 a12 a13 a14 a17 a18 a19 a20 a21 (B.rd i) (loopSt (B.rd i) ⟨B.dp0 y, ya, yb⟩ (k.val + 1)))
      have e : loopSt (B.rd i) ⟨B.dp0 y, ya, yb⟩ (k.val + 1) = groups.foldl (laneSt (B.rd i) k) (loopSt (B.rd i) ⟨B.dp0 y, ya, yb⟩ k.val) :=
        dif_pos k.isLt
      rw [e]
      iintro H
      iapply (wp_lanes c h5 h6 h7 h12 h13 h14 h17 h18 h19 h20 h21 (B.rd i) k groups _)
      isplitl [H]; · iexact H
      iintro H; iexact H))
  isplitl [H5 H6 H7 H12 H13 H14 H17 H18 H19 H20 H21]
  · unfold Held
    isplitl [H5]; · iexact H5
    isplitl [H6]; · iexact H6
    isplitl [H7]; · iexact H7
    isplitl [H12]; · iexact H12
    isplitl [H13]; · iexact H13
    isplitl [H17]; · iexact H17
    isplitl [H18]; · iexact H18
    isplitl [H19]; · iexact H19
    isplitl [H14]; · iexact H14
    isplitl [H20]; · iexact H20
    iexact H21
  iintro %u H
  unfold Held
  icases H with ⟨H5, H6, H7, H12, H13, H17, H18, H19, H14, H20, H21⟩
  iapply Hk
  isplitl [H4]; · iexact H4
  isplitl [H5]; · iexact H5
  isplitl [H6]; · iexact H6
  isplitl [H7]; · iexact H7
  isplitl [H9]; · iexact H9
  isplitl [H10]; · iexact H10
  isplitl [H11]; · iexact H11
  isplitl [H12]; · iexact H12
  isplitl [H13]; · iexact H13
  isplitl [H14]; · (rw [← dp_final i B y ya yb]; iexact H14)
  isplitl [H19]; · (iexists _; iexact H19)
  isplitl [H17]; · (iexists _; iexact H17)
  isplitl [H18]; · (iexists _; iexact H18)
  isplitl [H20]; · (rw [← loop_aca (B.rd i) ⟨B.dp0 y, ya, yb⟩]; iexact H20)
  rw [← loop_acb (B.rd i) ⟨B.dp0 y, ya, yb⟩]; iexact H21

set_option maxHeartbeats 1000000 in
theorem run_first (i : grid0.Coords) (hc : cond0 i) (hd : ¬k0_cond2 i = 1#1) (B : Blk F)
    {Q : PUnit → sProp 𝕄} :
    iprop(owns c.tc a1 fullShare B.dca ∗ owns c.tc a2 fullShare B.du1 ∗ owns c.tc a3 fullShare B.nxa ∗ owns c.tc a4 fullShare B.nxb ∗ owns c.tc a5 fullShare B.ca ∗ owns c.tc a6 fullShare B.va ∗ owns c.tc a7 fullShare B.vb ∗ owns c.tc a8 fullShare B.gb ∗ owns c.tc a9 fullShare B.dba ∗ owns c.tc a10 fullShare B.dga ∗ owns c.tc a11 fullShare B.dgb ∗ owns c.tc a12 fullShare B.cwa ∗ owns c.tc a13 fullShare B.cwb
      ∗ (∃ d, owns c.tc a14 fullShare d)  ∗ (∃ d, owns c.tc a17 fullShare d) ∗ (∃ d, owns c.tc a18 fullShare d) ∗ (∃ d, owns c.tc a19 fullShare d)
      ∗ (∃ d, owns c.tc a20 fullShare d) ∗ (∃ d, owns c.tc a21 fullShare d)
      ∗ (iprop(owns c.tc a1 fullShare B.dca ∗ owns c.tc a2 fullShare B.du1 ∗ owns c.tc a3 fullShare B.nxa ∗ owns c.tc a4 fullShare B.nxb ∗ owns c.tc a5 fullShare B.ca ∗ owns c.tc a6 fullShare B.va ∗ owns c.tc a7 fullShare B.vb ∗ owns c.tc a8 fullShare B.gb ∗ owns c.tc a9 fullShare B.dba ∗ owns c.tc a10 fullShare B.dga ∗ owns c.tc a11 fullShare B.dgb ∗ owns c.tc a12 fullShare B.cwa ∗ owns c.tc a13 fullShare B.cwb
        ∗ owns c.tc a14 fullShare (B.dpv i)
        ∗ (∃ d, owns c.tc a17 fullShare d) ∗ (∃ d, owns c.tc a18 fullShare d) ∗ (∃ d, owns c.tc a19 fullShare d)
        ∗ owns c.tc a20 fullShare (loopA (B.rd i) k0_pay1070 k0_t1_loop.trips) ∗ owns c.tc a21 fullShare (loopB (B.rd i) k0_pay1071 k0_t1_loop.trips)) -∗ Q ⟨⟩))
      ⊢ wp frame (wpE (defs₀ (F := F)) Variants.none c none) E (cc0_conv_bwd (F := F) i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21) Q := by
  rw [body_eq]
  iintro ⟨H1, H2, H3, H4, H5, H6, H7, H8, H9, H10, H11, H12, H13, H14, H17, H18, H19, H20, H21, Hk⟩
  rw [wp_bind]
  iapply (wp_head_first c h1 h2 h3 h4 h5 h6 h7 h8 h9 h10 h11 h12 h13 h14 h15 h16 h17 h18 h19 h20 h21 i hc B)
  isplitl [H8]; · iexact H8
  isplitl [H1]; · iexact H1
  isplitl [H3]; · iexact H3
  isplitl [H2]; · iexact H2
  isplitl [H19]; · iexact H19
  isplitl [H17]; · iexact H17
  isplitl [H18]; · iexact H18
  isplitl [H20]; · iexact H20
  isplitl [H21]; · iexact H21
  iintro ⟨H8, H1, H3, H2, H19, H17, H18, H20, H21⟩
  iapply (wp_core c h1 h2 h3 h4 h5 h6 h7 h8 h9 h10 h11 h12 h13 h14 h15 h16 h17 h18 h19 h20 h21 i B k0_pay1070 k0_pay1071)
  isplitl [H4]; · iexact H4
  isplitl [H5]; · iexact H5
  isplitl [H6]; · iexact H6
  isplitl [H7]; · iexact H7
  isplitl [H9]; · iexact H9
  isplitl [H10]; · iexact H10
  isplitl [H11]; · iexact H11
  isplitl [H12]; · iexact H12
  isplitl [H13]; · iexact H13
  isplitl [H14]; · iexact H14
  isplitl [H19]; · iexact H19
  isplitl [H17]; · iexact H17
  isplitl [H18]; · iexact H18
  isplitl [H20]; · iexact H20
  isplitl [H21]; · iexact H21
  iintro ⟨H4, H5, H6, H7, H9, H10, H11, H12, H13, H14, H19, H17, H18, H20, H21⟩
  rw [dif_neg hd]
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H17]; · iexact H17
  isplitl [H18]; · iexact H18
  isplitl [H19]; · iexact H19
  isplitl [H20]; · iexact H20
  iexact H21

set_option maxHeartbeats 1000000 in
theorem run_mid (i : grid0.Coords) (hc : ¬cond0 i) (hd : ¬k0_cond2 i = 1#1) (B : Blk F) (ya : Vec F (ConvProg.Sh (8 * 3) 1024) .f32) (yb : Vec F (ConvProg.Sh (8 * 31) 1024) .f32)
    {Q : PUnit → sProp 𝕄} :
    iprop(owns c.tc a1 fullShare B.dca ∗ owns c.tc a2 fullShare B.du1 ∗ owns c.tc a3 fullShare B.nxa ∗ owns c.tc a4 fullShare B.nxb ∗ owns c.tc a5 fullShare B.ca ∗ owns c.tc a6 fullShare B.va ∗ owns c.tc a7 fullShare B.vb ∗ owns c.tc a8 fullShare B.gb ∗ owns c.tc a9 fullShare B.dba ∗ owns c.tc a10 fullShare B.dga ∗ owns c.tc a11 fullShare B.dgb ∗ owns c.tc a12 fullShare B.cwa ∗ owns c.tc a13 fullShare B.cwb
      ∗ (∃ d, owns c.tc a14 fullShare d)  ∗ (∃ d, owns c.tc a17 fullShare d) ∗ (∃ d, owns c.tc a18 fullShare d) ∗ (∃ d, owns c.tc a19 fullShare d)
      ∗ owns c.tc a20 fullShare ya ∗ owns c.tc a21 fullShare yb
      ∗ (iprop(owns c.tc a1 fullShare B.dca ∗ owns c.tc a2 fullShare B.du1 ∗ owns c.tc a3 fullShare B.nxa ∗ owns c.tc a4 fullShare B.nxb ∗ owns c.tc a5 fullShare B.ca ∗ owns c.tc a6 fullShare B.va ∗ owns c.tc a7 fullShare B.vb ∗ owns c.tc a8 fullShare B.gb ∗ owns c.tc a9 fullShare B.dba ∗ owns c.tc a10 fullShare B.dga ∗ owns c.tc a11 fullShare B.dgb ∗ owns c.tc a12 fullShare B.cwa ∗ owns c.tc a13 fullShare B.cwb
        ∗ owns c.tc a14 fullShare (B.dpv i)
        ∗ (∃ d, owns c.tc a17 fullShare d) ∗ (∃ d, owns c.tc a18 fullShare d) ∗ (∃ d, owns c.tc a19 fullShare d)
        ∗ owns c.tc a20 fullShare (loopA (B.rd i) ya k0_t1_loop.trips) ∗ owns c.tc a21 fullShare (loopB (B.rd i) yb k0_t1_loop.trips)) -∗ Q ⟨⟩))
      ⊢ wp frame (wpE (defs₀ (F := F)) Variants.none c none) E (cc0_conv_bwd (F := F) i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21) Q := by
  rw [body_eq]
  iintro ⟨H1, H2, H3, H4, H5, H6, H7, H8, H9, H10, H11, H12, H13, H14, H17, H18, H19, H20, H21, Hk⟩
  rw [wp_bind]
  iapply (wp_head_next c h1 h2 h3 h4 h5 h6 h7 h8 h9 h10 h11 h12 h13 h14 h15 h16 h17 h18 h19 h20 h21 i hc B)
  isplitl [H8]; · iexact H8
  isplitl [H1]; · iexact H1
  isplitl [H3]; · iexact H3
  isplitl [H2]; · iexact H2
  isplitl [H19]; · iexact H19
  isplitl [H17]; · iexact H17
  isplitl [H18]; · iexact H18
  iintro ⟨H8, H1, H3, H2, H19, H17, H18⟩
  iapply (wp_core c h1 h2 h3 h4 h5 h6 h7 h8 h9 h10 h11 h12 h13 h14 h15 h16 h17 h18 h19 h20 h21 i B ya yb)
  isplitl [H4]; · iexact H4
  isplitl [H5]; · iexact H5
  isplitl [H6]; · iexact H6
  isplitl [H7]; · iexact H7
  isplitl [H9]; · iexact H9
  isplitl [H10]; · iexact H10
  isplitl [H11]; · iexact H11
  isplitl [H12]; · iexact H12
  isplitl [H13]; · iexact H13
  isplitl [H14]; · iexact H14
  isplitl [H19]; · iexact H19
  isplitl [H17]; · iexact H17
  isplitl [H18]; · iexact H18
  isplitl [H20]; · iexact H20
  isplitl [H21]; · iexact H21
  iintro ⟨H4, H5, H6, H7, H9, H10, H11, H12, H13, H14, H19, H17, H18, H20, H21⟩
  rw [dif_neg hd]
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H17]; · iexact H17
  isplitl [H18]; · iexact H18
  isplitl [H19]; · iexact H19
  isplitl [H20]; · iexact H20
  iexact H21

set_option maxHeartbeats 1000000 in
theorem run_last (i : grid0.Coords) (hc : ¬cond0 i) (hd : k0_cond2 i = 1#1) (B : Blk F) (ya : Vec F (ConvProg.Sh (8 * 3) 1024) .f32) (yb : Vec F (ConvProg.Sh (8 * 31) 1024) .f32)
    {Q : PUnit → sProp 𝕄} :
    iprop(owns c.tc a1 fullShare B.dca ∗ owns c.tc a2 fullShare B.du1 ∗ owns c.tc a3 fullShare B.nxa ∗ owns c.tc a4 fullShare B.nxb ∗ owns c.tc a5 fullShare B.ca ∗ owns c.tc a6 fullShare B.va ∗ owns c.tc a7 fullShare B.vb ∗ owns c.tc a8 fullShare B.gb ∗ owns c.tc a9 fullShare B.dba ∗ owns c.tc a10 fullShare B.dga ∗ owns c.tc a11 fullShare B.dgb ∗ owns c.tc a12 fullShare B.cwa ∗ owns c.tc a13 fullShare B.cwb
      ∗ (∃ d, owns c.tc a14 fullShare d) ∗ (∃ d, owns c.tc a15 fullShare d) ∗ (∃ d, owns c.tc a16 fullShare d) ∗ (∃ d, owns c.tc a17 fullShare d) ∗ (∃ d, owns c.tc a18 fullShare d) ∗ (∃ d, owns c.tc a19 fullShare d)
      ∗ owns c.tc a20 fullShare ya ∗ owns c.tc a21 fullShare yb
      ∗ (iprop(owns c.tc a1 fullShare B.dca ∗ owns c.tc a2 fullShare B.du1 ∗ owns c.tc a3 fullShare B.nxa ∗ owns c.tc a4 fullShare B.nxb ∗ owns c.tc a5 fullShare B.ca ∗ owns c.tc a6 fullShare B.va ∗ owns c.tc a7 fullShare B.vb ∗ owns c.tc a8 fullShare B.gb ∗ owns c.tc a9 fullShare B.dba ∗ owns c.tc a10 fullShare B.dga ∗ owns c.tc a11 fullShare B.dgb ∗ owns c.tc a12 fullShare B.cwa ∗ owns c.tc a13 fullShare B.cwb
        ∗ owns c.tc a14 fullShare (B.dpv i) ∗ owns c.tc a15 fullShare (rowsA.foldl (stepTotal (loopA (B.rd i) ya k0_t1_loop.trips)) (zeros 8)) ∗ owns c.tc a16 fullShare (rowsB.foldl (stepTotal (loopB (B.rd i) yb k0_t1_loop.trips)) (zeros 32))
        ∗ (∃ d, owns c.tc a17 fullShare d) ∗ (∃ d, owns c.tc a18 fullShare d) ∗ (∃ d, owns c.tc a19 fullShare d)
        ∗ owns c.tc a20 fullShare (loopA (B.rd i) ya k0_t1_loop.trips) ∗ owns c.tc a21 fullShare (loopB (B.rd i) yb k0_t1_loop.trips)) -∗ Q ⟨⟩))
      ⊢ wp frame (wpE (defs₀ (F := F)) Variants.none c none) E (cc0_conv_bwd (F := F) i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21) Q := by
  rw [body_eq]
  iintro ⟨H1, H2, H3, H4, H5, H6, H7, H8, H9, H10, H11, H12, H13, H14, H15, H16, H17, H18, H19, H20, H21, Hk⟩
  rw [wp_bind]
  iapply (wp_head_next c h1 h2 h3 h4 h5 h6 h7 h8 h9 h10 h11 h12 h13 h14 h15 h16 h17 h18 h19 h20 h21 i hc B)
  isplitl [H8]; · iexact H8
  isplitl [H1]; · iexact H1
  isplitl [H3]; · iexact H3
  isplitl [H2]; · iexact H2
  isplitl [H19]; · iexact H19
  isplitl [H17]; · iexact H17
  isplitl [H18]; · iexact H18
  iintro ⟨H8, H1, H3, H2, H19, H17, H18⟩
  iapply (wp_core c h1 h2 h3 h4 h5 h6 h7 h8 h9 h10 h11 h12 h13 h14 h15 h16 h17 h18 h19 h20 h21 i B ya yb)
  isplitl [H4]; · iexact H4
  isplitl [H5]; · iexact H5
  isplitl [H6]; · iexact H6
  isplitl [H7]; · iexact H7
  isplitl [H9]; · iexact H9
  isplitl [H10]; · iexact H10
  isplitl [H11]; · iexact H11
  isplitl [H12]; · iexact H12
  isplitl [H13]; · iexact H13
  isplitl [H14]; · iexact H14
  isplitl [H19]; · iexact H19
  isplitl [H17]; · iexact H17
  isplitl [H18]; · iexact H18
  isplitl [H20]; · iexact H20
  isplitl [H21]; · iexact H21
  iintro ⟨H4, H5, H6, H7, H9, H10, H11, H12, H13, H14, H19, H17, H18, H20, H21⟩
  rw [dif_pos hd, wp_bind]
  iapply (wp_fin c h15 h16 h20 h21 _ _)
  isplitl [H15]; · iexact H15
  isplitl [H16]; · iexact H16
  isplitl [H20]; · iexact H20
  isplitl [H21]; · iexact H21
  iintro ⟨H15, H16, H20, H21⟩
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

end Run

end Cert.ConvRun
-- ==== Proof.ConvVal.lean ====
/- The convolutions' backward loop over the extended reals: what it adds to the sums and what it writes, as sums over the
   taps and over the rows. -/
module

public import proofs.«01_k».proof.Proof.ConvSpec
public import proofs.«01_k».proof.Proof.ConvPoint
public import Idealize.ShloMosaic.Lib.Pointwise
public import Idealize.ShloMosaic.Lib.KernelVsHost
public import Idealize.ShloMosaic.Lib.Pipeline.ValueKit

@[expose] public section

set_option maxRecDepth 16384

noncomputable section

namespace Cert.ConvVal

open Cert.Conv Cert.Conv.Gen Cert.ConvProg Cert.Blocks Cert.ConvRun Cert.ConvSpec
open Idealize.ShloMosaic Idealize.ShloMosaic.TcCoe

/-! ## One tap -/

theorem rows8_at (v : FVec Ideal S64x128 .f32) (r : Fin 8) (c : Fin 128) :
    rows8 v (ix2 r c) = ∑ g : Fin 8, v (ix2 ⟨8 * g.val + r.val, by omega⟩ c) := by
  have e : ∀ g : Fin 8, extractStridedSlice S8x128 ![8 * g.val, 0] v (slices_acc g) (ix2 r c) = v (ix2 ⟨8 * g.val + r.val, by omega⟩ c) := fun g =>
    extractStridedSlice_apply _ _ _ _ _ (Fin.forall_fin_two.2 ⟨rfl, (Nat.zero_add _).symm⟩)
  rw [Fin.sum_univ_eight, ← e, ← e, ← e, ← e, ← e, ← e, ← e, ← e]
  rfl

section Tap

variable {K : ℕ} (hK : K ≤ 33)

theorem slice_at (k : Fin K) (w : FVec Ideal S96x128 .f32) (r : Fin 64) (c : Fin 128) :
    slice hK k w (ix2 r c) = w (ix2 ⟨r.val + (K - 1 - k.val), by omega⟩ c) := by
  unfold slice
  have hs : K - 1 - k.val ≤ 32 := by omega
  have hr := r.isLt
  by_cases h : (K - 1 - k.val) % 8 = 0
  · rw [show Nat.beq ((K - 1 - k.val) % 8) 0 = true from by rw [h]; rfl]
    refine extractStridedSlice_apply _ _ _ _ _ (Fin.forall_fin_two.2 ⟨?_, ?_⟩)
    · show r.val + (K - 1 - k.val) = 8 * ((K - 1 - k.val) / 8) + r.val; omega
    · show c.val = 0 + c.val; omega
  · rw [show Nat.beq ((K - 1 - k.val) % 8) 0 = false from Bool.eq_false_iff.mpr fun e => h (Nat.eq_of_beq_eq_true e)]
    refine (extractStridedSlice_apply _ _ _ _ (ix2 ⟨8 * ((K - 1 - k.val) / 8) + r.val, by omega⟩ c) (Fin.forall_fin_two.2 ⟨rfl, ?_⟩)).trans ?_
    · show c.val = 0 + c.val; omega
    · refine dynamicRotate_apply _ _ _ rotates_S96x128_d0 _ _ (Fin.forall_fin_two.2 ⟨?_, rfl⟩)
      show r.val + (K - 1 - k.val) = (8 * ((K - 1 - k.val) / 8) + r.val + 96 - (BitVec.ofNat 32 (96 - (K - 1 - k.val) % 8)).toNat % 96) % 96
      rw [BitVec.toNat_ofNat, Nat.mod_eq_of_lt (a := 96 - (K - 1 - k.val) % 8) (by omega)]
      omega

theorem stepFilt_at (W : Vec Ideal (ConvProg.Sh K 1024) .f32) (l : Fin 8) (w : FVec Ideal S96x128 .f32) (a : FVec Ideal S64x128 .f32) (k : Fin K)
    (r : Fin 64) (c : Fin 128) :
    stepFilt hK W l w a k (ix2 r c)
      = a (ix2 r c) + W (ix2 k ⟨128 * l.val + c.val, by omega⟩) * w (ix2 ⟨r.val + (K - 1 - k.val), by omega⟩ c) := by
  have e : stepFilt hK W l w a k (ix2 r c) = a (ix2 r c) + broadcastTo S64x128 (ldb 1 128 W k.val (128 * l.val) (row_le k) (lane_le l)) broadcasts_S1x128_S64x128 (ix2 r c) * slice hK k w (ix2 r c) := rfl
  rw [e, slice_at]
  congr 2

/-- What one trip adds in lane group `l` to row `ρ`, column `c` of the sums. -/
def amount (w : FVec Ideal S96x128 .f32) (z : FVec Ideal S64x128 .f32) (ρ : Fin (8 * K)) (c : Fin 128) : EReal :=
  rows8 (mulf (slice hK ⟨ρ.val / 8, by omega⟩ w) z) (ix2 ⟨ρ.val % 8, Nat.mod_lt _ (by decide)⟩ c)

theorem stepAcc_at (l : Fin 8) (w : FVec Ideal S96x128 .f32) (z : FVec Ideal S64x128 .f32) (y : Vec Ideal (ConvProg.Sh (8 * K) 1024) .f32) (k : Fin K)
    (ρ : Fin (8 * K)) (q : Fin 1024) :
    stepAcc hK l w z y k (ix2 ρ q)
      = if k = ⟨ρ.val / 8, by omega⟩ then
          (if l = ⟨q.val / 128, by omega⟩ then y (ix2 ρ q) + amount hK w z ρ ⟨q.val % 128, Nat.mod_lt _ (by decide)⟩ else y (ix2 ρ q))
        else y (ix2 ρ q) := by
  have hq := q.isLt
  have hr := ρ.isLt
  unfold stepAcc
  rw [stb_at]
  by_cases hk : k = ⟨ρ.val / 8, by omega⟩
  · rw [if_pos hk]
    by_cases hl : l = ⟨q.val / 128, by omega⟩
    · subst hk; subst hl
      rw [if_pos rfl, dif_pos (by refine ⟨⟨?_, ?_⟩, ?_, ?_⟩ <;> (dsimp only; omega))]
      have e0 : (⟨ρ.val - 8 * (ρ.val / 8), by omega⟩ : Fin 8) = ⟨ρ.val % 8, Nat.mod_lt _ (by decide)⟩ := Fin.ext (by dsimp only; omega)
      have e1 : (⟨q.val - 128 * (q.val / 128), by omega⟩ : Fin 128) = ⟨q.val % 128, Nat.mod_lt _ (by decide)⟩ := Fin.ext (by dsimp only; omega)
      dsimp only
      rw [e0, e1]
      unfold accum
      rw [shapeCast_self]
      show y _ + _ = _
      congr 2
      refine congrArg₂ ix2 (Fin.ext ?_) (Fin.ext ?_)
      · show 8 * (ρ.val / 8) + ρ.val % 8 = ρ.val; omega
      · show 128 * (q.val / 128) + q.val % 128 = q.val; omega
    · rw [if_neg hl, dif_neg]
      rintro ⟨-, h1, h2⟩
      exact hl (Fin.ext (by dsimp only at h1 h2 ⊢; omega))
  · rw [if_neg hk, dif_neg]
    rintro ⟨⟨h1, h2⟩, -⟩
    exact hk (Fin.ext (by dsimp only at h1 h2 ⊢; omega))

/-- All taps, each once. -/
theorem taps_at (ks : List (Fin K)) (hd : ks.Nodup) (hm : ∀ k, k ∈ ks) (l : Fin 8) (w : FVec Ideal S96x128 .f32) (z : FVec Ideal S64x128 .f32)
    (y : Vec Ideal (ConvProg.Sh (8 * K) 1024) .f32) (ρ : Fin (8 * K)) (q : Fin 1024) :
    ks.foldl (stepAcc hK l w z) y (ix2 ρ q)
      = if l = ⟨q.val / 128, by omega⟩ then y (ix2 ρ q) + amount hK w z ρ ⟨q.val % 128, Nat.mod_lt _ (by decide)⟩ else y (ix2 ρ q) := by
  rw [foldl_once (stepAcc hK l w z) (fun y => y (ix2 ρ q))
    (fun e => if l = ⟨q.val / 128, by omega⟩ then e + amount hK w z ρ ⟨q.val % 128, Nat.mod_lt _ (by decide)⟩ else e)
    ⟨ρ.val / 8, by omega⟩ (fun y k => stepAcc_at hK l w z y k ρ q) ks hd, if_pos (hm _)]

variable (ks : List (Fin K)) (W : Fin k0_t1_loop.trips → Fin 8 → FVec Ideal S96x128 .f32) (Z : Fin k0_t1_loop.trips → Fin 8 → FVec Ideal S64x128 .f32)

/-- The sums after `n` trips. -/
def sums (y : Vec Ideal (ConvProg.Sh (8 * K) 1024) .f32) : ℕ → Vec Ideal (ConvProg.Sh (8 * K) 1024) .f32
  | 0 => y
  | n + 1 => if h : n < k0_t1_loop.trips then groups.foldl (fun y l => ks.foldl (stepAcc hK l (W ⟨n, h⟩ l) (Z ⟨n, h⟩ l)) y) (sums y n) else sums y n

theorem groups_at (hd : ks.Nodup) (hm : ∀ k, k ∈ ks) (k : Fin k0_t1_loop.trips) (y : Vec Ideal (ConvProg.Sh (8 * K) 1024) .f32) (ρ : Fin (8 * K)) (q : Fin 1024) :
    groups.foldl (fun y l => ks.foldl (stepAcc hK l (W k l) (Z k l)) y) y (ix2 ρ q)
      = y (ix2 ρ q) + amount hK (W k ⟨q.val / 128, by omega⟩) (Z k ⟨q.val / 128, by omega⟩) ρ ⟨q.val % 128, Nat.mod_lt _ (by decide)⟩ := by
  rw [foldl_once (fun y l => ks.foldl (stepAcc hK l (W k l) (Z k l)) y) (fun y => y (ix2 ρ q))
    (fun e => e + amount hK (W k ⟨q.val / 128, by omega⟩) (Z k ⟨q.val / 128, by omega⟩) ρ ⟨q.val % 128, Nat.mod_lt _ (by decide)⟩)
    ⟨q.val / 128, by omega⟩ (fun y l => ?_) groups (by decide), if_pos (groups_mem _)]
  rw [taps_at hK ks hd hm]
  by_cases h : l = ⟨q.val / 128, by omega⟩
  · subst h; rfl
  · rw [if_neg h, if_neg h]

variable (A B : ℕ → Fin 1024 → EReal)

theorem amount_eq (hW : ∀ k l i c, W k l (ix2 i c) = A (64 * k.val + i.val) ⟨128 * l.val + c.val, by omega⟩)
    (hZ : ∀ k l i c, Z k l (ix2 i c) = B (64 * k.val + i.val) ⟨128 * l.val + c.val, by omega⟩)
    (k : Fin k0_t1_loop.trips) (ρ : Fin (8 * K)) (q : Fin 1024) :
    amount hK (W k ⟨q.val / 128, by omega⟩) (Z k ⟨q.val / 128, by omega⟩) ρ ⟨q.val % 128, Nat.mod_lt _ (by decide)⟩
      = ∑ g ∈ Finset.range 8, A (64 * k.val + (8 * g + ρ.val % 8) + (K - 1 - ρ.val / 8)) q * B (64 * k.val + (8 * g + ρ.val % 8)) q := by
  unfold amount
  rw [rows8_at, Finset.sum_range]
  refine Finset.sum_congr rfl fun g _ => ?_
  have eq : (⟨128 * (q.val / 128) + q.val % 128, by omega⟩ : Fin 1024) = q := Fin.ext (by dsimp only; omega)
  refine (congrArg₂ (· * ·) (slice_at hK ⟨ρ.val / 8, by omega⟩ (W k ⟨q.val / 128, by omega⟩) ⟨8 * g.val + ρ.val % 8, by omega⟩ ⟨q.val % 128, Nat.mod_lt _ (by decide)⟩)
    (show _ = Z k ⟨q.val / 128, by omega⟩ (ix2 ⟨8 * g.val + ρ.val % 8, by omega⟩ ⟨q.val % 128, Nat.mod_lt _ (by decide)⟩) from rfl)).trans ?_
  rw [hW, hZ]
  dsimp only
  rw [eq]
  simp only [Nat.add_assoc]

theorem sums_at (hd : ks.Nodup) (hm : ∀ k, k ∈ ks)
    (hW : ∀ k l i c, W k l (ix2 i c) = A (64 * k.val + i.val) ⟨128 * l.val + c.val, by omega⟩)
    (hZ : ∀ k l i c, Z k l (ix2 i c) = B (64 * k.val + i.val) ⟨128 * l.val + c.val, by omega⟩)
    (y : Vec Ideal (ConvProg.Sh (8 * K) 1024) .f32) (ρ : Fin (8 * K)) (q : Fin 1024) : ∀ n, n ≤ k0_t1_loop.trips →
    sums hK ks W Z y n (ix2 ρ q) = y (ix2 ρ q)
      + ∑ u ∈ Finset.range n, ∑ g ∈ Finset.range 8, A (64 * u + (8 * g + ρ.val % 8) + (K - 1 - ρ.val / 8)) q * B (64 * u + (8 * g + ρ.val % 8)) q := by
  intro n
  induction n with
  | zero => intro _; simp [sums]
  | succ n ih =>
    intro hn
    unfold sums
    rw [dif_pos (Nat.lt_of_succ_le hn), groups_at hK ks W Z hd hm, ih (Nat.le_of_succ_le hn), amount_eq hK W Z A B hW hZ, Finset.sum_range_succ (fun u => ∑ g ∈ Finset.range 8, A (64 * u + (8 * g + ρ.val % 8) + (K - 1 - ρ.val / 8)) q * B (64 * u + (8 * g + ρ.val % 8)) q), add_assoc]

/-- The filtered rows. -/
theorem filt_sum (hp : ks.Perm (List.finRange K)) (C : Vec Ideal (ConvProg.Sh K 1024) .f32)
    (hW : ∀ k l i c, W k l (ix2 i c) = A (64 * k.val + i.val) ⟨128 * l.val + c.val, by omega⟩)
    (k : Fin k0_t1_loop.trips) (l : Fin 8) (r : Fin 64) (c : Fin 128) :
    ks.foldl (stepFilt hK C l (W k l)) zero64 (ix2 r c)
      = ∑ κ : Fin K, C (ix2 κ ⟨128 * l.val + c.val, by omega⟩) * A (64 * k.val + r.val + (K - 1 - κ.val)) ⟨128 * l.val + c.val, by omega⟩ := by
  rw [foldl_add (stepFilt hK C l (W k l)) (fun a => a (ix2 r c)) _ (fun a κ => stepFilt_at hK C l (W k l) a κ r c), sum_all ks hp]
  have e0 : (zero64 : FVec Ideal S64x128 .f32) (ix2 r c) = 0 := by pointwise [zero64]
  rw [e0, zero_add]
  refine Finset.sum_congr rfl fun κ _ => ?_
  rw [hW]
  dsimp only
  rw [Nat.add_assoc]

end Tap

theorem tapsA_perm : tapsA.Perm (List.finRange 3) := by decide
theorem tapsB_perm : tapsB.Perm (List.finRange 31) := by decide
theorem tapsA_nodup : tapsA.Nodup := by decide
theorem tapsB_nodup : tapsB.Nodup := by decide
theorem tapsA_mem : ∀ k, k ∈ tapsA := by decide
theorem tapsB_mem : ∀ k, k ∈ tapsB := by decide

theorem loopA_eq (R : Rd Ideal) (y) (n : ℕ) : loopA R y n = sums three tapsA (fun k l => win k l R.wa) (fun k l => zA R k l) y n := by
  induction n with
  | zero => rfl
  | succ n ih => unfold loopA sums; rw [ih]; rfl
theorem loopB_eq (R : Rd Ideal) (y) (n : ℕ) : loopB R y n = sums many tapsB (fun k l => win k l R.wb) (fun k l => zB R k l) y n := by
  induction n with
  | zero => rfl
  | succ n ih => unfold loopB sums; rw [ih]; rfl

/-! ## The rows of a filter's gradient -/

theorem pay1040_at (v : Vec Ideal S8x1024 .f32) (z : Fin 1) (q : Fin 1024) : k0_pay1040 (F := Ideal) v (ix2 z q) = ∑ r : Fin 8, v (ix2 r q) := by
  pointwise [k0_pay1040]

theorem stepTotal_at {K N : ℕ} (y : Vec Ideal (ConvProg.Sh (8 * K) 1024) .f32) (o : Vec Ideal (ConvProg.Sh N 1024) .f32) (k : Fin K) (κ : Fin N) (q : Fin 1024) :
    stepTotal y o k (ix2 κ q) = if h : k.val = κ.val then ∑ r : Fin 8, y (ix2 ⟨8 * k.val + r.val, by omega⟩ q) else o (ix2 κ q) := by
  unfold stepTotal
  rw [stb_at]
  have hq := q.isLt
  by_cases h : k.val = κ.val
  · rw [dif_pos h, dif_pos (by omega), pay1040_at]
    refine Finset.sum_congr rfl fun r _ => congrArg y (congrArg₂ ix2 rfl (Fin.ext ?_))
    show 0 + (q.val - 0) = q.val; omega
  · rw [dif_neg h, dif_neg (by omega)]

end Cert.ConvVal
-- ==== Proof.ConvFrame.lean ====
/- The convolutions' backward call: what its windows and its two carried sums hold at every grid point, and that
   the call terminates with its arguments unchanged. -/
module

public import proofs.«01_k».proof.Proof.ConvPoint
public import proofs.«01_k».proof.Proof.Gen.Conv.Frame.Runs
public import Idealize.ShloMosaic.Lib.Claim

@[expose] public section

set_option maxRecDepth 16384

noncomputable section

namespace Cert.ConvRun

open Cert.Conv Cert.Conv.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What point `t` reads. -/
abbrev blk (c : Dev nD) (t : Fin cfg0.N) : Blk F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t⟩

/-- What the loop of point `t` reads. -/
abbrev rd (c : Dev nD) (t : Fin cfg0.N) : Rd F := (blk m c t).rd (grid0.coords t)

/-- The sums for the 3 taps after point `n`. -/
def sumsA (c : Dev nD) : (n : ℕ) → n < cfg0.N → Vec F (ConvProg.Sh (8 * 3) 1024) .f32
  | 0, h => loopA (rd m c ⟨0, h⟩) k0_pay1070 k0_t1_loop.trips
  | n + 1, h => loopA (rd m c ⟨n + 1, h⟩) (sumsA c n (Nat.lt_of_succ_lt h)) k0_t1_loop.trips

theorem sumsA_first (c : Dev nD) (t : Fin cfg0.N) (h : t.val % 16 = 0) : sumsA m c t.val t.isLt = loopA (rd m c t) k0_pay1070 k0_t1_loop.trips := by
  obtain ⟨n, hn⟩ := t
  have hN : n < 16 := lt_of_lt_of_eq hn N_0
  obtain rfl : n = 0 := by dsimp only at h; omega
  rfl

theorem sumsA_next (c : Dev nD) (t : Fin cfg0.N) (h : ¬t.val % 16 = 0) :
    sumsA m c t.val t.isLt = loopA (rd m c t) (sumsA m c (t.val - 1) (Nat.lt_of_le_of_lt (Nat.sub_le _ _) t.isLt)) k0_t1_loop.trips := by
  obtain ⟨n, hn⟩ := t
  cases n with
  | zero => exact absurd rfl h
  | succ k => rfl

/-- The sums for the 31 taps after point `n`. -/
def sumsB (c : Dev nD) : (n : ℕ) → n < cfg0.N → Vec F (ConvProg.Sh (8 * 31) 1024) .f32
  | 0, h => loopB (rd m c ⟨0, h⟩) k0_pay1071 k0_t1_loop.trips
  | n + 1, h => loopB (rd m c ⟨n + 1, h⟩) (sumsB c n (Nat.lt_of_succ_lt h)) k0_t1_loop.trips

theorem sumsB_first (c : Dev nD) (t : Fin cfg0.N) (h : t.val % 16 = 0) : sumsB m c t.val t.isLt = loopB (rd m c t) k0_pay1071 k0_t1_loop.trips := by
  obtain ⟨n, hn⟩ := t
  have hN : n < 16 := lt_of_lt_of_eq hn N_0
  obtain rfl : n = 0 := by dsimp only at h; omega
  rfl

theorem sumsB_next (c : Dev nD) (t : Fin cfg0.N) (h : ¬t.val % 16 = 0) :
    sumsB m c t.val t.isLt = loopB (rd m c t) (sumsB m c (t.val - 1) (Nat.lt_of_le_of_lt (Nat.sub_le _ _) t.isLt)) k0_t1_loop.trips := by
  obtain ⟨n, hn⟩ := t
  cases n with
  | zero => exact absurd rfl h
  | succ k => rfl

/-- The scratch between points: the two sums at known contents, the rest at any. -/
def held (c : Dev nD) (ya : Vec F (ConvProg.Sh (8 * 3) 1024) .f32) (yb : Vec F (ConvProg.Sh (8 * 31) 1024) .f32) : sProp 𝕄 :=
  iprop(iprop((∃ d, owns c.tc scM0_0 fullShare d) ∗ (∃ d, owns c.tc scM0_1 fullShare d) ∗ (∃ d, owns c.tc scM0_2 fullShare d)
    ∗ owns c.tc scM0_3 fullShare ya ∗ owns c.tc scM0_4 fullShare yb) ∗ (∃ r, prngReg c r))

/-- The scratch before point `n`. -/
def carried (c : Dev nD) : ℕ → sProp 𝕄
  | 0 => Pipeline.ΦA spec0 c
  | n + 1 => if h : n < cfg0.N then held c (sumsA m c n h) (sumsB m c n h) else Pipeline.ΦA spec0 c

/-- The contents of every window's buffer after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (blk m c t).dpv (grid0.coords t)
    | ⟨14, _⟩ => ConvProg.rowsA.foldl (stepTotal (sumsA m c t.val t.isLt)) (ConvProg.zeros 8)
    | ⟨15, _⟩ => ConvProg.rowsB.foldl (stepTotal (sumsB m c t.val t.isLt)) (ConvProg.zeros 32)
    | ⟨_ + 16, h⟩ => absurd h (Nat.not_lt.2 (Nat.le_add_left _ _))
  Φ t := carried m c t.val
  q w := Pipeline.shareOf spec0 w
  owed _ := 0

theorem A_eq (c : Dev nD) (w : Fin cfg0.W) : (dats m 0 c).A w = V m c (Pipeline.arrRef spec0 w) := by
  dsimp only [dats]

theorem Φ_succ (c : Dev nD) (t : Fin cfg0.N) : (dats m 0 c).Φ t.succ = held c (sumsA m c t.val t.isLt) (sumsB m c t.val t.isLt) := by
  show carried m c (t.val + 1) = _
  exact dif_pos t.isLt

theorem Φ_first (c : Dev nD) (t : Fin cfg0.N) (h : t.val % 16 = 0) : (dats m 0 c).Φ t.castSucc = Pipeline.ΦA spec0 c := by
  obtain ⟨n, hn⟩ := t
  have hN : n < 16 := lt_of_lt_of_eq hn N_0
  obtain rfl : n = 0 := by dsimp only at h; omega
  rfl

theorem Φ_next (c : Dev nD) (t : Fin cfg0.N) (h : ¬t.val % 16 = 0) :
    (dats m 0 c).Φ t.castSucc = held c (sumsA m c (t.val - 1) (Nat.lt_of_le_of_lt (Nat.sub_le _ _) t.isLt)) (sumsB m c (t.val - 1) (Nat.lt_of_le_of_lt (Nat.sub_le _ _) t.isLt)) := by
  obtain ⟨n, hn⟩ := t
  cases n with
  | zero => exact absurd rfl h
  | succ k =>
    show carried m c (k + 1) = _
    exact dif_pos (Nat.lt_of_succ_lt hn)

theorem held_ends (c : Dev nD) (ya) (yb) : held (F := F) c ya yb ⊢ Pipeline.ΦA spec0 c := by
  rw [PhiA0_eq]
  unfold held
  iintro ⟨⟨H0, H1, H2, H3, H4⟩, Hp⟩
  isplitr [Hp]
  · isplitl [H0]; · iexact H0
    isplitl [H1]; · iexact H1
    isplitl [H2]; · iexact H2
    isplitl [H3]; · (iexists _; iexact H3)
    iexists _; iexact H4
  · iexact Hp

theorem Φ_last (c : Dev nD) : (dats m 0 c).Φ (Fin.last cfg0.N) ⊢ Pipeline.ΦA spec0 c := by
  have e : (dats m 0 c).Φ (Fin.last cfg0.N) = held c (sumsA m c 15 (by rw [show cfg0.N = 16 from N_0]; decide)) (sumsB m c 15 (by rw [show cfg0.N = 16 from N_0]; decide)) :=
    Φ_succ m c ⟨15, by rw [show cfg0.N = 16 from N_0]; decide⟩
  rw [e]
  exact held_ends c _ _

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = (blk m c t).dpv (grid0.coords t) := by dsimp only [dats]
theorem after_14 (c : Dev nD) (t : Fin cfg0.N) : (dats m 0 c).after 14 t = ConvProg.rowsA.foldl (stepTotal (sumsA m c t.val t.isLt)) (ConvProg.zeros 8) := by dsimp only [dats]
theorem after_15 (c : Dev nD) (t : Fin cfg0.N) : (dats m 0 c).after 15 t = ConvProg.rowsB.foldl (stepTotal (sumsB m c t.val t.isLt)) (ConvProg.zeros 32) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d

def bodyPre (c : Dev nD) (t : Fin cfg0.N) : sProp 𝕄 :=
  iprop((dats m 0 c).Φ t.castSucc ∗ (dats m 0 c).owesAt () t.castSucc
    ∗ (∃ d, owns c.tc (ms0_0 t) fullShare ((dats m 0 c).before 0 t d))
    ∗ (∃ d, owns c.tc (ms0_1 t) fullShare ((dats m 0 c).before 1 t d))
    ∗ (∃ d, owns c.tc (ms0_2 t) fullShare ((dats m 0 c).before 2 t d))
    ∗ (∃ d, owns c.tc (ms0_3 t) fullShare ((dats m 0 c).before 3 t d))
    ∗ (∃ d, owns c.tc (ms0_4 t) fullShare ((dats m 0 c).before 4 t d))
    ∗ (∃ d, owns c.tc (ms0_5 t) fullShare ((dats m 0 c).before 5 t d))
    ∗ (∃ d, owns c.tc (ms0_6 t) fullShare ((dats m 0 c).before 6 t d))
    ∗ (∃ d, owns c.tc (ms0_7 t) fullShare ((dats m 0 c).before 7 t d))
    ∗ (∃ d, owns c.tc (ms0_8 t) fullShare ((dats m 0 c).before 8 t d))
    ∗ (∃ d, owns c.tc (ms0_9 t) fullShare ((dats m 0 c).before 9 t d))
    ∗ (∃ d, owns c.tc (ms0_10 t) fullShare ((dats m 0 c).before 10 t d))
    ∗ (∃ d, owns c.tc (ms0_11 t) fullShare ((dats m 0 c).before 11 t d))
    ∗ (∃ d, owns c.tc (ms0_12 t) fullShare ((dats m 0 c).before 12 t d))
    ∗ (∃ d, owns c.tc (ms0_13 t) fullShare ((dats m 0 c).before 13 t d))
    ∗ (∃ d, owns c.tc (ms0_14 t) fullShare ((dats m 0 c).before 14 t d))
    ∗ (∃ d, owns c.tc (ms0_15 t) fullShare ((dats m 0 c).before 15 t d)))

def bodyPost (c : Dev nD) (t : Fin cfg0.N) : sProp 𝕄 :=
  iprop((dats m 0 c).Φ t.succ ∗ (dats m 0 c).owesAt () t.succ
    ∗ owns c.tc (ms0_0 t) fullShare ((dats m 0 c).after 0 t)
    ∗ owns c.tc (ms0_1 t) fullShare ((dats m 0 c).after 1 t)
    ∗ owns c.tc (ms0_2 t) fullShare ((dats m 0 c).after 2 t)
    ∗ owns c.tc (ms0_3 t) fullShare ((dats m 0 c).after 3 t)
    ∗ owns c.tc (ms0_4 t) fullShare ((dats m 0 c).after 4 t)
    ∗ owns c.tc (ms0_5 t) fullShare ((dats m 0 c).after 5 t)
    ∗ owns c.tc (ms0_6 t) fullShare ((dats m 0 c).after 6 t)
    ∗ owns c.tc (ms0_7 t) fullShare ((dats m 0 c).after 7 t)
    ∗ owns c.tc (ms0_8 t) fullShare ((dats m 0 c).after 8 t)
    ∗ owns c.tc (ms0_9 t) fullShare ((dats m 0 c).after 9 t)
    ∗ owns c.tc (ms0_10 t) fullShare ((dats m 0 c).after 10 t)
    ∗ owns c.tc (ms0_11 t) fullShare ((dats m 0 c).after 11 t)
    ∗ owns c.tc (ms0_12 t) fullShare ((dats m 0 c).after 12 t)
    ∗ owns c.tc (ms0_13 t) fullShare ((dats m 0 c).after 13 t)
    ∗ (dats m 0 c).leavesExact 14 t ∗ (dats m 0 c).leavesExact 15 t)

theorem live_14 (c : Dev nD) (t : Fin cfg0.N) (h : ¬cond0_0 (grid0.coords t)) (h' : cond0_1 (grid0.coords t)) :
    (dats m 0 c).leavesExact 14 t = owns c.tc (ms0_14 t) fullShare ((dats m 0 c).after 14 t) := by
  unfold Dat.leavesExact; rw [show cfg0.idle 14 (cfg0.grid.coords t) = false from liveAt0_14_C t h h']
theorem live_15 (c : Dev nD) (t : Fin cfg0.N) (h : ¬cond0_0 (grid0.coords t)) (h' : cond0_1 (grid0.coords t)) :
    (dats m 0 c).leavesExact 15 t = owns c.tc (ms0_15 t) fullShare ((dats m 0 c).after 15 t) := by
  unfold Dat.leavesExact; rw [show cfg0.idle 15 (cfg0.grid.coords t) = false from liveAt0_15_C t h h']

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12]
  rw [Φ_succ m c t, show (dats m 0 c).owesAt () t.succ = (dats m 0 c).owesAt () t.castSucc from rfl,
    after_0, after_1, after_2, after_3, after_4, after_5, after_6, after_7, after_8, after_9, after_10, after_11, after_12, after_13]
  have hN : t.val < 16 := lt_of_lt_of_eq t.isLt (show cfg0.N = 16 from N_0)
  by_cases h0 : t.val % 16 = 0
  · have h1 : ¬t.val % 16 = 15 := by omega
    rw [Dat.leavesExact_idle (dats m 0 c) 14 t (idleAt0_14_A t ((hcond0_0 t).mpr h0) (fun h => h1 ((hcond0_1 t).mp h))) (noFlush0_14_A t ((hcond0_0 t).mpr h0) (fun h => h1 ((hcond0_1 t).mp h))), Dat.leavesExact_idle (dats m 0 c) 15 t (idleAt0_15_A t ((hcond0_0 t).mpr h0) (fun h => h1 ((hcond0_1 t).mp h))) (noFlush0_15_A t ((hcond0_0 t).mpr h0) (fun h => h1 ((hcond0_1 t).mp h))),
      Φ_first m c t h0, sumsA_first m c t h0, sumsB_first m c t h0, PhiA0_eq]
    unfold held
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    icases HΦ with ⟨⟨S0, S1, S2, S3, S4⟩, Hp⟩
    iapply (run_first c _ _ _ _ _ _ _ _ _ _ _ _ _ _ _ _ _ _ _ _ _ (grid0.coords t) ((hcond0_0 t).mpr h0) (fun h => h1 ((hcond0_1 t).mp h)) (blk m c t) )
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · (iexists _; iexact H13)
    isplitl [S0]; · iexact S0
    isplitl [S1]; · iexact S1
    isplitl [S2]; · iexact S2
    isplitl [S3]; · iexact S3
    isplitl [S4]; · iexact S4
    iintro ⟨H0, H1, H2, H3, H4, H5, H6, H7, H8, H9, H10, H11, H12, H13, S0, S1, S2, S3, S4⟩
    isplitl [S0 S1 S2 S3 S4 Hp]
    · isplitr [Hp]
      · isplitl [S0]; · iexact S0
        isplitl [S1]; · iexact S1
        isplitl [S2]; · iexact S2
        isplitl [S3]; · iexact S3
        iexact S4
      · iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · (iexists _; iexact H14)
    iexists _; iexact H15
  · rw [Φ_next m c t h0]
    by_cases h1 : t.val % 16 = 15
    · rw [live_14 m c t (fun h => h0 ((hcond0_0 t).mp h)) ((hcond0_1 t).mpr h1), live_15 m c t (fun h => h0 ((hcond0_0 t).mp h)) ((hcond0_1 t).mpr h1),
        after_14, after_15, sumsA_next m c t h0, sumsB_next m c t h0]
      unfold held
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      icases HΦ with ⟨⟨S0, S1, S2, S3, S4⟩, Hp⟩
      iapply (run_last c _ _ _ _ _ _ _ _ _ _ _ _ _ _ _ _ _ _ _ _ _ (grid0.coords t) (fun h => h0 ((hcond0_0 t).mp h)) ((hcond0_1 t).mpr h1) (blk m c t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · (iexists _; iexact H13)
      isplitl [H14]; · (iexists _; iexact H14)
      isplitl [H15]; · (iexists _; iexact H15)
      isplitl [S0]; · iexact S0
      isplitl [S1]; · iexact S1
      isplitl [S2]; · iexact S2
      isplitl [S3]; · iexact S3
      isplitl [S4]; · iexact S4
      iintro ⟨H0, H1, H2, H3, H4, H5, H6, H7, H8, H9, H10, H11, H12, H13, H14, H15, S0, S1, S2, S3, S4⟩
      isplitl [S0 S1 S2 S3 S4 Hp]
      · isplitr [Hp]
        · isplitl [S0]; · iexact S0
          isplitl [S1]; · iexact S1
          isplitl [S2]; · iexact S2
          isplitl [S3]; · iexact S3
          iexact S4
        · iexact Hp
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    · rw [Dat.leavesExact_idle (dats m 0 c) 14 t (idleAt0_14_B t (fun h => h0 ((hcond0_0 t).mp h)) (fun h => h1 ((hcond0_1 t).mp h))) (noFlush0_14_B t (fun h => h0 ((hcond0_0 t).mp h)) (fun h => h1 ((hcond0_1 t).mp h))), Dat.leavesExact_idle (dats m 0 c) 15 t (idleAt0_15_B t (fun h => h0 ((hcond0_0 t).mp h)) (fun h => h1 ((hcond0_1 t).mp h))) (noFlush0_15_B t (fun h => h0 ((hcond0_0 t).mp h)) (fun h => h1 ((hcond0_1 t).mp h))),
        sumsA_next m c t h0, sumsB_next m c t h0]
      unfold held
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      icases HΦ with ⟨⟨S0, S1, S2, S3, S4⟩, Hp⟩
      iapply (run_mid c _ _ _ _ _ _ _ _ _ _ _ _ _ _ _ _ _ _ _ _ _ (grid0.coords t) (fun h => h0 ((hcond0_0 t).mp h)) (fun h => h1 ((hcond0_1 t).mp h)) (blk m c t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · (iexists _; iexact H13)
      isplitl [S0]; · iexact S0
      isplitl [S1]; · iexact S1
      isplitl [S2]; · iexact S2
      isplitl [S3]; · iexact S3
      isplitl [S4]; · iexact S4
      iintro ⟨H0, H1, H2, H3, H4, H5, H6, H7, H8, H9, H10, H11, H12, H13, S0, S1, S2, S3, S4⟩
      isplitl [S0 S1 S2 S3 S4 Hp]
      · isplitr [Hp]
        · isplitl [S0]; · iexact S0
          isplitl [S1]; · iexact S1
          isplitl [S2]; · iexact S2
          isplitl [S3]; · iexact S3
          iexact S4
        · iexact Hp
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · (iexists _; iexact H14)
      iexists _; iexact H15

theorem defs₀_row (t : Fin cfg0.N) : defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The call terminates; its arrays end as the windows' contents say, and every counter is zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := fun _ => .rfl) (hout := Φ_last m)

theorem run_main : θ_run defs (onTc (τ := τ) (main (F := F))) (s₀ m ρ) (Pipeline.FramePost cfgs (dats m) 0 (V m)) :=
  (θ_run defs _ _).mono (fun _ h => h.1) (run_main_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.ConvRun
-- ==== Proof.ConvIn.lean ====
/- The blocks that a grid point of the convolutions' backward kernel is given, and what its loop reads. -/
module

public import proofs.«01_k».proof.Proof.ConvVal
public import proofs.«01_k».proof.Proof.ConvFrame
public import Idealize.ShloMosaic.Lib.StableHlo.ReadAt

@[expose] public section

set_option maxRecDepth 16384

noncomputable section

namespace Cert.ConvIn

open Cert.Conv Cert.Conv.Gen Cert.ConvRun Cert.ConvSpec Cert.ConvVal Idealize.ShloMosaic Idealize.ShloMosaic.TcCoe

variable (m : (ℓ : Loc nD τ sig) → Buf (Elt Ideal) ℓ) (c : Dev nD)

/-- Column `k` of the `q`-th of the seven parts of a row of the projection. -/
def part (q : Fin 7) (k : Fin 1024) : Fin 7168 := ⟨1024 * q + k, by omega⟩
/-- Row `y` of block `t`, of blocks of 512 rows of a sequence of 8192. -/
def rowAt (t : ℕ) (h : t < 16) (y : Fin 512) : Fin 8192 := ⟨512 * t + y, by omega⟩

/-! ## The arguments, column by column, in the memory `m` -/

def proj (b : Fin 7) (q : Fin 1024) (i : Fin 8192) : EReal := m ((c : Thread nD τ).loc main_arg0) (ix2 i (part b q))
def cwa (k : Fin 3) (q : Fin 1024) : EReal := m ((c : Thread nD τ).loc main_arg1) (ix2 k q)
def cwb (k : Fin 31) (q : Fin 1024) : EReal := m ((c : Thread nD τ).loc main_arg2) (ix2 k q)
def dba (q : Fin 1024) (i : Fin 8192) : EReal := m ((c : Thread nD τ).loc main_arg3) (ix2 i q)
def dca (q : Fin 1024) (i : Fin 8192) : EReal := m ((c : Thread nD τ).loc main_arg4) (ix2 i q)
def du1 (q : Fin 1024) (i : Fin 8192) : EReal := m ((c : Thread nD τ).loc main_arg5) (ix2 i q)
def dga (q : Fin 1024) (i : Fin 8192) : EReal := m ((c : Thread nD τ).loc main_arg6) (ix2 i q)
def dgb (q : Fin 1024) (i : Fin 8192) : EReal := m ((c : Thread nD τ).loc main_arg7) (ix2 i q)
/-- The gate. -/
def sg (q : Fin 1024) (i : Fin 8192) : EReal := Ideal.logistic (proj m c 4 q i)
/-- The filters' arguments. -/
def za (q : Fin 1024) (i : Fin 8192) : EReal := proj m c 1 q i * proj m c 2 q i
def zb (q : Fin 1024) (i : Fin 8192) : EReal := proj m c 3 q i * sg m c q i

/-! ## What the host's lines leave before the launch -/

theorem V_dca (i : Fin 8192) (k : Fin 1024) : V m c main_v0 (ix2 i k) = dca m c k i := by unfold V; after_reads_at; rfl
theorem V_du1 (i : Fin 8192) (k : Fin 1024) : V m c main_v1 (ix2 i k) = du1 m c k i := by unfold V; after_reads_at; rfl
theorem V_p (i : Fin 8192) (b : Fin 7) (k : Fin 1024) : V m c main_v2 (ix2 i (part b k)) = proj m c b k i := by unfold V; after_reads_at; rfl
theorem V_dba (i : Fin 8192) (k : Fin 1024) : V m c main_v3 (ix2 i k) = dba m c k i := by unfold V; after_reads_at; rfl
theorem V_dga (i : Fin 8192) (k : Fin 1024) : V m c main_v4 (ix2 i k) = dga m c k i := by unfold V; after_reads_at; rfl
theorem V_dgb (i : Fin 8192) (k : Fin 1024) : V m c main_v5 (ix2 i k) = dgb m c k i := by unfold V; after_reads_at; rfl
theorem V_cwa (i : Fin 3) (k : Fin 1024) : V m c main_arg1 (ix2 i k) = cwa m c i k := by rw [V_main_arg1]; rfl
theorem V_cwb (i : Fin 31) (k : Fin 1024) : V m c main_arg2 (ix2 i k) = cwb m c i k := by rw [V_main_arg2]; rfl

/-! ## The blocks -/

theorem idx0 : ∀ t : Fin cfg0.N, win0_0.index t 0 = t ∧ win0_0.index t 1 = 0 := by decide +kernel
theorem idx1 : ∀ t : Fin cfg0.N, win0_1.index t 0 = t ∧ win0_1.index t 1 = 0 := by decide +kernel
theorem idx2 : ∀ t : Fin cfg0.N, win0_2.index t 0 = min (16 * (t.val + 1)) 255 ∧ win0_2.index t 1 = 0 := by decide +kernel
theorem idx3 : ∀ t : Fin cfg0.N, win0_3.index t 0 = min (16 * (t.val + 1)) 255 ∧ win0_3.index t 1 = 0 := by decide +kernel
theorem idx4 : ∀ t : Fin cfg0.N, win0_4.index t 0 = t ∧ win0_4.index t 1 = 1 := by decide +kernel
theorem idx5 : ∀ t : Fin cfg0.N, win0_5.index t 0 = t ∧ win0_5.index t 1 = 2 := by decide +kernel
theorem idx6 : ∀ t : Fin cfg0.N, win0_6.index t 0 = t ∧ win0_6.index t 1 = 3 := by decide +kernel
theorem idx7 : ∀ t : Fin cfg0.N, win0_7.index t 0 = t ∧ win0_7.index t 1 = 4 := by decide +kernel
theorem idx8 : ∀ t : Fin cfg0.N, win0_8.index t 0 = t ∧ win0_8.index t 1 = 0 := by decide +kernel
theorem idx9 : ∀ t : Fin cfg0.N, win0_9.index t 0 = t ∧ win0_9.index t 1 = 0 := by decide +kernel
theorem idx10 : ∀ t : Fin cfg0.N, win0_10.index t 0 = t ∧ win0_10.index t 1 = 0 := by decide +kernel
theorem idx11 : ∀ t : Fin cfg0.N, win0_11.index t 0 = 0 ∧ win0_11.index t 1 = 0 := by decide +kernel
theorem idx12 : ∀ t : Fin cfg0.N, win0_12.index t 0 = 0 ∧ win0_12.index t 1 = 0 := by decide +kernel

variable (t : Fin cfg0.N)

theorem lt16 : t.val < 16 := lt_of_lt_of_eq t.isLt N_0

theorem in0 (y : Fin 512) (k : Fin 1024) : (iblk m c 0 t : Vec Ideal S512x1024 .bf16) (ix2 y k) = dca m c k (rowAt t (lt16 t) y) := by
  refine Eq.trans (?_ : _ = V m c main_v0 (ix2 (rowAt t (lt16 t) y) k)) (V_dca m c _ _)
  blk_ext [iblk, rowAt, idx0 t]
theorem in1 (y : Fin 512) (k : Fin 1024) : (iblk m c 1 t : Vec Ideal S512x1024 .bf16) (ix2 y k) = du1 m c k (rowAt t (lt16 t) y) := by
  refine Eq.trans (?_ : _ = V m c main_v1 (ix2 (rowAt t (lt16 t) y) k)) (V_du1 m c _ _)
  blk_ext [iblk, rowAt, idx1 t]
theorem in2 (h : t.val < 15) (y : Fin 32) (k : Fin 1024) :
    (iblk m c 2 t : Vec Ideal S32x1024 .bf16) (ix2 y k) = dca m c k ⟨512 * t.val + (512 + y.val), by omega⟩ := by
  refine Eq.trans (?_ : _ = V m c main_v0 (ix2 (⟨512 * t.val + (512 + y.val), by omega⟩ : Fin 8192) k)) (V_dca m c _ _)
  blk_ext [iblk, idx2 t]
theorem in3 (h : t.val < 15) (y : Fin 32) (k : Fin 1024) :
    (iblk m c 3 t : Vec Ideal S32x1024 .bf16) (ix2 y k) = du1 m c k ⟨512 * t.val + (512 + y.val), by omega⟩ := by
  refine Eq.trans (?_ : _ = V m c main_v1 (ix2 (⟨512 * t.val + (512 + y.val), by omega⟩ : Fin 8192) k)) (V_du1 m c _ _)
  blk_ext [iblk, idx3 t]
theorem in4 (y : Fin 512) (k : Fin 1024) : (iblk m c 4 t : Vec Ideal S512x1024 .bf16) (ix2 y k) = proj m c 1 k (rowAt t (lt16 t) y) := by
  refine Eq.trans (?_ : _ = V m c main_v2 (ix2 (rowAt t (lt16 t) y) (part 1 k))) (V_p m c _ _ _)
  blk_ext [iblk, rowAt, part, idx4 t]
theorem in5 (y : Fin 512) (k : Fin 1024) : (iblk m c 5 t : Vec Ideal S512x1024 .bf16) (ix2 y k) = proj m c 2 k (rowAt t (lt16 t) y) := by
  refine Eq.trans (?_ : _ = V m c main_v2 (ix2 (rowAt t (lt16 t) y) (part 2 k))) (V_p m c _ _ _)
  blk_ext [iblk, rowAt, part, idx5 t]
theorem in6 (y : Fin 512) (k : Fin 1024) : (iblk m c 6 t : Vec Ideal S512x1024 .bf16) (ix2 y k) = proj m c 3 k (rowAt t (lt16 t) y) := by
  refine Eq.trans (?_ : _ = V m c main_v2 (ix2 (rowAt t (lt16 t) y) (part 3 k))) (V_p m c _ _ _)
  blk_ext [iblk, rowAt, part, idx6 t]
theorem in7 (y : Fin 512) (k : Fin 1024) : (iblk m c 7 t : Vec Ideal S512x1024 .bf16) (ix2 y k) = proj m c 4 k (rowAt t (lt16 t) y) := by
  refine Eq.trans (?_ : _ = V m c main_v2 (ix2 (rowAt t (lt16 t) y) (part 4 k))) (V_p m c _ _ _)
  blk_ext [iblk, rowAt, part, idx7 t]
theorem in8 (y : Fin 512) (k : Fin 1024) : (iblk m c 8 t : Vec Ideal S512x1024 .bf16) (ix2 y k) = dba m c k (rowAt t (lt16 t) y) := by
  refine Eq.trans (?_ : _ = V m c main_v3 (ix2 (rowAt t (lt16 t) y) k)) (V_dba m c _ _)
  blk_ext [iblk, rowAt, idx8 t]
theorem in9 (y : Fin 512) (k : Fin 1024) : (iblk m c 9 t : Vec Ideal S512x1024 .bf16) (ix2 y k) = dga m c k (rowAt t (lt16 t) y) := by
  refine Eq.trans (?_ : _ = V m c main_v4 (ix2 (rowAt t (lt16 t) y) k)) (V_dga m c _ _)
  blk_ext [iblk, rowAt, idx9 t]
theorem in10 (y : Fin 512) (k : Fin 1024) : (iblk m c 10 t : Vec Ideal S512x1024 .bf16) (ix2 y k) = dgb m c k (rowAt t (lt16 t) y) := by
  refine Eq.trans (?_ : _ = V m c main_v5 (ix2 (rowAt t (lt16 t) y) k)) (V_dgb m c _ _)
  blk_ext [iblk, rowAt, idx10 t]
theorem in11 (y : Fin 3) (k : Fin 1024) : (iblk m c 11 t : Vec Ideal S3x1024 .f32) (ix2 y k) = cwa m c y k := by
  refine Eq.trans (?_ : _ = V m c main_arg1 (ix2 y k)) (V_cwa m c _ _)
  blk_ext [iblk, idx11 t]
theorem in12 (y : Fin 31) (k : Fin 1024) : (iblk m c 12 t : Vec Ideal S31x1024 .f32) (ix2 y k) = cwb m c y k := by
  refine Eq.trans (?_ : _ = V m c main_arg2 (ix2 y k)) (V_cwb m c _ _)
  blk_ext [iblk, idx12 t]

/-! ## What the loop reads -/

theorem keep_eq : k0_pay1069 (F := Ideal) (grid0.coords t) = if t.val < 15 then 1 else 0 := by
  have h : ∀ t : Fin cfg0.N, Scalar.extui (Scalar.cmpi .slt (BitVec.ofNat 32 ((grid0.coords t) 0).val) 15#32) = if t.val < 15 then 1#32 else 0#32 := by
    decide +kernel
  unfold k0_pay1069
  dsimp only
  rw [h t]
  split
  · pointwise
    rw [show (1#32 : BitVec 32).toInt = 1 from rfl]; simp
  · pointwise
    rw [show (0#32 : BitVec 32).toInt = 0 from rfl]; simp

theorem joined_at {α : Type} (a : S512x1024.Idx → α) (b : S32x1024.Idx → α) (i : Fin 544) (q : Fin 1024) :
    joined a b (ix2 i q) = if h : i.val < 512 then a (ix2 ⟨i.val, h⟩ q) else b (ix2 ⟨i.val - 512, by omega⟩ q) := rfl

theorem halo_a (i : grid0.Coords) (v : Vec Ideal S32x1024 .bf16) (j : S32x1024.Idx) :
    k0_pay1074 (F := Ideal) i v j = (v j : EReal) * (k0_pay1069 (F := Ideal) i : EReal) := by pointwise [k0_pay1074]
theorem halo_b (e : EReal) (v : Vec Ideal S32x1024 .bf16) (j : S32x1024.Idx) : k0_pay1 (F := Ideal) e v j = (v j : EReal) * e := by pointwise [k0_pay1]

theorem wide_at (v : Vec Ideal S64x128 .bf16) (j : S64x128.Idx) : ConvProg.wide v j = v j := by pointwise [ConvProg.wide]
theorem prod_at (u v : FVec Ideal S64x128 .f32) (j : S64x128.Idx) : ConvProg.prod u v j = u j * v j := by pointwise [ConvProg.prod]
theorem gate_at (a v s : FVec Ideal S64x128 .f32) (j : S64x128.Idx) : ConvProg.gate a v s j = a j * s j * v j * (1 - s j) := by pointwise [ConvProg.gate]

/-- The rows of `dca` from the point's first on, with zeros after the last. -/
theorem wa_at (i : Fin 544) (q : Fin 1024) : (rd m c t).wa (ix2 i q) = ext (dca m c q) (512 * t.val + i.val) := by
  have ht := lt16 t
  show joined (k0_pay1073 (F := Ideal) (iblk m c 0 t)) (k0_pay1074 (F := Ideal) (grid0.coords t) (iblk m c 2 t)) (ix2 i q) = _
  rw [joined_at]
  unfold ext
  by_cases h : i.val < 512
  · rw [dif_pos h, dif_pos (by omega)]
    exact (show k0_pay1073 (F := Ideal) (iblk m c 0 t) (ix2 ⟨i.val, h⟩ q) = (iblk m c 0 t : Vec Ideal S512x1024 .bf16) (ix2 ⟨i.val, h⟩ q) by pointwise [k0_pay1073]).trans (in0 m c t _ _)
  · rw [dif_neg h]
    rw [halo_a, keep_eq]
    by_cases h2 : t.val < 15
    · rw [if_pos h2, mul_one, dif_pos (by omega)]
      exact (in2 m c t h2 _ q).trans (congrArg _ (Fin.ext (by dsimp only; omega)))
    · rw [if_neg h2, mul_zero, dif_neg (by omega)]

theorem wb_at (i : Fin 544) (q : Fin 1024) : (rd m c t).wb (ix2 i q) = ext (du1 m c q) (512 * t.val + i.val) := by
  have ht := lt16 t
  show joined (k0_pay1075 (F := Ideal) (iblk m c 1 t)) (k0_pay1 (F := Ideal) (k0_pay1069 (grid0.coords t)) (iblk m c 3 t)) (ix2 i q) = _
  rw [joined_at]
  unfold ext
  by_cases h : i.val < 512
  · rw [dif_pos h, dif_pos (by omega)]
    exact (show k0_pay1075 (F := Ideal) (iblk m c 1 t) (ix2 ⟨i.val, h⟩ q) = (iblk m c 1 t : Vec Ideal S512x1024 .bf16) (ix2 ⟨i.val, h⟩ q) by pointwise [k0_pay1075]).trans (in1 m c t _ _)
  · rw [dif_neg h]
    rw [halo_b, keep_eq]
    by_cases h2 : t.val < 15
    · rw [if_pos h2, mul_one, dif_pos (by omega)]
      exact (in3 m c t h2 _ q).trans (congrArg _ (Fin.ext (by dsimp only; omega)))
    · rw [if_neg h2, mul_zero, dif_neg (by omega)]

variable (k : Fin k0_t1_loop.trips) (l : Fin 8)

theorem trip8 : k.val < 8 := lt_of_lt_of_eq k.isLt trips_eq

/-- The row of the sequence, and the column, that a trip's cell is at. -/
def row (r : Fin 64) : Fin 8192 := ⟨512 * t.val + (64 * k.val + r.val), by have := lt16 t; have := trip8 k; omega⟩
def col (x : Fin 128) : Fin 1024 := ⟨128 * l.val + x.val, by omega⟩

variable (r : Fin 64) (x : Fin 128)

theorem winA (i : Fin 96) : win k l (rd m c t).wa (ix2 i x) = ext (dca m c (col l x)) (512 * t.val + (64 * k.val + i.val)) :=
  wa_at m c t ⟨64 * k.val + i.val, by have := trip8 k; omega⟩ (col l x)
theorem winB (i : Fin 96) : win k l (rd m c t).wb (ix2 i x) = ext (du1 m c (col l x)) (512 * t.val + (64 * k.val + i.val)) :=
  wb_at m c t ⟨64 * k.val + i.val, by have := trip8 k; omega⟩ (col l x)

theorem ca_at : ConvProg.wide (sub k l (rd m c t).ca) (ix2 r x) = proj m c 1 (col l x) (row t k r) :=
  (wide_at _ _).trans (in4 m c t ⟨64 * k.val + r.val, by have := trip8 k; omega⟩ (col l x))
theorem va_at : ConvProg.wide (sub k l (rd m c t).va) (ix2 r x) = proj m c 2 (col l x) (row t k r) :=
  (wide_at _ _).trans (in5 m c t ⟨64 * k.val + r.val, by have := trip8 k; omega⟩ (col l x))
theorem vb_at : ConvProg.wide (sub k l (rd m c t).vb) (ix2 r x) = proj m c 3 (col l x) (row t k r) :=
  (wide_at _ _).trans (in6 m c t ⟨64 * k.val + r.val, by have := trip8 k; omega⟩ (col l x))
theorem sg_at : sub k l (rd m c t).sg (ix2 r x) = sg m c (col l x) (row t k r) := by
  refine (show _ = Ideal.logistic ((iblk m c 7 t : Vec Ideal S512x1024 .bf16) (ix2 ⟨64 * k.val + r.val, by have := trip8 k; omega⟩ (col l x))) from ?_).trans
    (congrArg Ideal.logistic (in7 m c t _ _))
  show k0_pay1072 (F := Ideal) (iblk m c 7 t) (ix2 ⟨64 * k.val + r.val, by have := trip8 k; omega⟩ (col l x)) = _
  pointwise [k0_pay1072]

theorem zA_at : zA (rd m c t) k l (ix2 r x) = za m c (col l x) (row t k r) := by
  refine (show _ = ConvProg.wide (sub k l (rd m c t).ca) (ix2 r x) * ConvProg.wide (sub k l (rd m c t).va) (ix2 r x) from rfl).trans ?_
  rw [ca_at, va_at]; rfl
theorem zB_at : zB (rd m c t) k l (ix2 r x) = zb m c (col l x) (row t k r) := by
  refine (show _ = ConvProg.wide (sub k l (rd m c t).vb) (ix2 r x) * sub k l (rd m c t).sg (ix2 r x) from rfl).trans ?_
  rw [vb_at, sg_at]; rfl

/-- A row, of the sequence, as a number. -/
theorem ext_row (X : Fin 8192 → EReal) : ext X (512 * t.val + (64 * k.val + r.val)) = X (row t k r) := ext_val X (row t k r)

/-! ## The filtered rows -/

theorem filtA_at : filtA (rd m c t) k l (ix2 r x) = back (fun κ => cwa m c κ (col l x)) (dca m c (col l x)) (row t k r).val := by
  refine (filt_sum three ConvProg.tapsA (fun k l => win k l (rd m c t).wa) (fun n q => ext (dca m c q) (512 * t.val + n)) tapsA_perm (rd m c t).cwa
    (fun k l i x => winA m c t k l x i) k l r x).trans ?_
  unfold back
  refine Finset.sum_congr rfl fun κ _ => congrArg₂ (· * ·) (in11 m c t κ (col l x)) (congrArg _ ?_)
  simp only [row]; omega
theorem filtB_at : filtB (rd m c t) k l (ix2 r x) = back (fun κ => cwb m c κ (col l x)) (du1 m c (col l x)) (row t k r).val := by
  refine (filt_sum many ConvProg.tapsB (fun k l => win k l (rd m c t).wb) (fun n q => ext (du1 m c q) (512 * t.val + n)) tapsB_perm (rd m c t).cwb
    (fun k l i x => winB m c t k l x i) k l r x).trans ?_
  unfold back
  refine Finset.sum_congr rfl fun κ _ => congrArg₂ (· * ·) (in12 m c t κ (col l x)) (congrArg _ ?_)
  simp only [row]; omega

end Cert.ConvIn
-- ==== Proof.ConvArray.lean ====
/- The arrays that the convolutions' backward kernel has written when it ends: the packed gradient of the projection, and the
   gradients of both filters. -/
module

public import proofs.«01_k».proof.Proof.ConvIn

@[expose] public section

set_option maxRecDepth 16384

noncomputable section

namespace Cert.ConvIn

open Cert.Conv Cert.Conv.Gen Cert.ConvRun Cert.ConvSpec Cert.ConvVal Idealize.ShloMosaic Idealize.ShloMosaic.TcCoe

variable (m : (ℓ : Loc nD τ sig) → Buf (Elt Ideal) ℓ) (c : Dev nD)

/-- The gradient of the first filter's argument, and of the second's. -/
def dzA (q : Fin 1024) (i : Fin 8192) : EReal := back (fun κ => cwa m c κ q) (dca m c q) i.val
def dzB (q : Fin 1024) (i : Fin 8192) : EReal := back (fun κ => cwb m c κ q) (du1 m c q) i.val

/-- Part `b` of the gradient of the projection. -/
def grads (b : ℕ) (q : Fin 1024) (i : Fin 8192) : EReal :=
  if b = 0 then dba m c q i
  else if b = 1 then dzA m c q i * proj m c 2 q i
  else if b = 2 then dzA m c q i * proj m c 1 q i
  else if b = 3 then dzB m c q i * sg m c q i
  else if b = 4 then dzB m c q i * sg m c q i * proj m c 3 q i * (1 - sg m c q i)
  else if b = 5 then dga m c q i
  else dgb m c q i

/-- The parts side by side. -/
def packed : S8192x7168.Idx → EReal := fun j => grads m c ((j 1).val / 1024) ⟨(j 1).val % 1024, Nat.mod_lt _ (by decide)⟩ (j 0)

theorem copy2 (v : Vec Ideal S512x1024 .bf16) (j) : k0_pay2 (F := Ideal) v j = v j := by pointwise [k0_pay2]
theorem copy3 (v : Vec Ideal S512x1024 .bf16) (j) : k0_pay3 (F := Ideal) v j = v j := by pointwise [k0_pay3]
theorem copy4 (v : Vec Ideal S512x1024 .bf16) (j) : k0_pay4 (F := Ideal) v j = v j := by pointwise [k0_pay4]

variable (t : Fin cfg0.N)

theorem part_at (k : Fin k0_t1_loop.trips) (l : Fin 8) (b : ℕ) (hb : 1 ≤ b ∧ b < 5) (r : Fin 64) (x : Fin 128) :
    partv (rd m c t) k l b (ix2 r x) = grads m c b (col l x) (row t k r) := by
  unfold partv grads
  rw [if_neg (by omega : ¬b = 0)]
  by_cases h1 : b = 1
  · rw [if_pos h1, if_pos h1, prod_at, filtA_at, va_at]; rfl
  · rw [if_neg h1, if_neg h1]
    by_cases h2 : b = 2
    · rw [if_pos h2, if_pos h2, prod_at, filtA_at, ca_at]; rfl
    · rw [if_neg h2, if_neg h2]
      by_cases h3 : b = 3
      · rw [if_pos h3, if_pos h3, prod_at, filtB_at, sg_at]; rfl
      · rw [if_neg h3, if_neg h3, if_pos (by omega : b = 4), gate_at, filtB_at, vb_at, sg_at]; rfl

theorem dpv_at (j : S512x7168.Idx) :
    (blk m c t).dpv (grid0.coords t) j = grads m c ((j 1).val / 1024) ⟨(j 1).val % 1024, Nat.mod_lt _ (by decide)⟩ (rowAt t (lt16 t) (j 0)) := by
  have h0 : (j 0).val < 512 := (j 0).isLt
  have hj : (j 1).val < 7168 := (j 1).isLt
  unfold Blk.dpv
  by_cases h1 : (j 1).val < 1024
  · rw [dif_pos h1]
    unfold grads
    rw [if_pos (by omega)]
    refine (show _ = (iblk m c 8 t : Vec Ideal S512x1024 .bf16) (ix2 ⟨(j 0).val, h0⟩ ⟨(j 1).val, h1⟩) from copy2 _ _).trans ((in8 m c t _ _).trans ?_)
    exact congrArg₂ (dba m c) (Fin.ext (by dsimp only; omega)) rfl
  · rw [dif_neg h1]
    by_cases h2 : (j 1).val < 5120
    · rw [dif_pos h2]
      refine (part_at m c t _ _ _ (by omega) _ _).trans ?_
      refine congrArg₂ (grads m c _) (Fin.ext ?_) (Fin.ext ?_)
      · simp only [col]; omega
      · simp only [row, rowAt]; omega
    · rw [dif_neg h2]
      unfold grads
      rw [if_neg (by omega), if_neg (by omega), if_neg (by omega), if_neg (by omega), if_neg (by omega)]
      by_cases h3 : (j 1).val < 6144
      · rw [dif_pos h3, if_pos (by omega)]
        refine (show _ = (iblk m c 9 t : Vec Ideal S512x1024 .bf16) (ix2 ⟨(j 0).val, h0⟩ ⟨(j 1).val - 5120, by omega⟩) from copy3 _ _).trans ((in9 m c t _ _).trans ?_)
        exact congrArg₂ (dga m c) (Fin.ext (by dsimp only; omega)) rfl
      · rw [dif_neg h3, if_neg (by omega)]
        refine (show _ = (iblk m c 10 t : Vec Ideal S512x1024 .bf16) (ix2 ⟨(j 0).val, h0⟩ ⟨(j 1).val - 6144, by omega⟩) from copy4 _ _).trans ((in10 m c t _ _).trans ?_)
        exact congrArg₂ (dgb m c) (Fin.ext (by dsimp only; omega)) rfl

/-! ## The sums over the points -/

theorem sumsA_at (ρ : Fin (8 * 3)) (q : Fin 1024) : ∀ (n : ℕ) (h : n < cfg0.N), sumsA m c n h (ix2 ρ q)
    = ∑ t ∈ Finset.range (n + 1), ∑ u ∈ Finset.range 8, ∑ g ∈ Finset.range 8,
      ext (dca m c q) (512 * t + (64 * u + (8 * g + ρ.val % 8)) + (3 - 1 - ρ.val / 8)) * ext (za m c q) (512 * t + (64 * u + (8 * g + ρ.val % 8))) := by
  have step (t : Fin cfg0.N) (y) : loopA (rd m c t) y k0_t1_loop.trips (ix2 ρ q) = y (ix2 ρ q) + ∑ u ∈ Finset.range 8, ∑ g ∈ Finset.range 8,
      ext (dca m c q) (512 * t.val + (64 * u + (8 * g + ρ.val % 8)) + (3 - 1 - ρ.val / 8)) * ext (za m c q) (512 * t.val + (64 * u + (8 * g + ρ.val % 8))) := by
    rw [loopA_eq]
    refine (sums_at three ConvProg.tapsA (fun k l => win k l (rd m c t).wa) (fun k l => zA (rd m c t) k l) (fun n q => ext (dca m c q) (512 * t.val + n))
      (fun n q => ext (za m c q) (512 * t.val + n)) tapsA_nodup tapsA_mem (fun k l i x => winA m c t k l x i)
      (fun k l i x => (zA_at m c t k l i x).trans (ext_row t k i (za m c (col l x))).symm) y ρ q _ le_rfl).trans ?_
    rw [trips_eq]
    refine congrArg _ (Finset.sum_congr rfl fun u _ => Finset.sum_congr rfl fun g _ => ?_)
    simp only [Nat.add_assoc]
  intro n
  induction n with
  | zero =>
    intro h
    rw [show sumsA m c 0 h = loopA (rd m c ⟨0, h⟩) (k0_pay1070 (F := Ideal)) k0_t1_loop.trips from sumsA_first m c ⟨0, h⟩ rfl, step ⟨0, h⟩, show k0_pay1070 (F := Ideal) (ix2 ρ q) = 0 by pointwise [k0_pay1070], zero_add, Finset.sum_range_one]
  | succ n ih =>
    intro h
    rw [show sumsA m c (n + 1) h = loopA (rd m c ⟨n + 1, h⟩) (sumsA m c n (Nat.lt_of_succ_lt h)) k0_t1_loop.trips from
      sumsA_next m c ⟨n + 1, h⟩ (by have := lt_of_lt_of_eq h N_0; dsimp only; omega), step ⟨n + 1, h⟩, ih, Finset.sum_range_succ (fun t => ∑ u ∈ Finset.range 8, ∑ g ∈ Finset.range 8,
      ext (dca m c q) (512 * t + (64 * u + (8 * g + ρ.val % 8)) + (3 - 1 - ρ.val / 8)) * ext (za m c q) (512 * t + (64 * u + (8 * g + ρ.val % 8)))) (n + 1)]

theorem sumsB_at (ρ : Fin (8 * 31)) (q : Fin 1024) : ∀ (n : ℕ) (h : n < cfg0.N), sumsB m c n h (ix2 ρ q)
    = ∑ t ∈ Finset.range (n + 1), ∑ u ∈ Finset.range 8, ∑ g ∈ Finset.range 8,
      ext (du1 m c q) (512 * t + (64 * u + (8 * g + ρ.val % 8)) + (31 - 1 - ρ.val / 8)) * ext (zb m c q) (512 * t + (64 * u + (8 * g + ρ.val % 8))) := by
  have step (t : Fin cfg0.N) (y) : loopB (rd m c t) y k0_t1_loop.trips (ix2 ρ q) = y (ix2 ρ q) + ∑ u ∈ Finset.range 8, ∑ g ∈ Finset.range 8,
      ext (du1 m c q) (512 * t.val + (64 * u + (8 * g + ρ.val % 8)) + (31 - 1 - ρ.val / 8)) * ext (zb m c q) (512 * t.val + (64 * u + (8 * g + ρ.val % 8))) := by
    rw [loopB_eq]
    refine (sums_at many ConvProg.tapsB (fun k l => win k l (rd m c t).wb) (fun k l => zB (rd m c t) k l) (fun n q => ext (du1 m c q) (512 * t.val + n))
      (fun n q => ext (zb m c q) (512 * t.val + n)) tapsB_nodup tapsB_mem (fun k l i x => winB m c t k l x i)
      (fun k l i x => (zB_at m c t k l i x).trans (ext_row t k i (zb m c (col l x))).symm) y ρ q _ le_rfl).trans ?_
    rw [trips_eq]
    refine congrArg _ (Finset.sum_congr rfl fun u _ => Finset.sum_congr rfl fun g _ => ?_)
    simp only [Nat.add_assoc]
  intro n
  induction n with
  | zero =>
    intro h
    rw [show sumsB m c 0 h = loopB (rd m c ⟨0, h⟩) (k0_pay1071 (F := Ideal)) k0_t1_loop.trips from sumsB_first m c ⟨0, h⟩ rfl, step ⟨0, h⟩, show k0_pay1071 (F := Ideal) (ix2 ρ q) = 0 by pointwise [k0_pay1071], zero_add, Finset.sum_range_one]
  | succ n ih =>
    intro h
    rw [show sumsB m c (n + 1) h = loopB (rd m c ⟨n + 1, h⟩) (sumsB m c n (Nat.lt_of_succ_lt h)) k0_t1_loop.trips from
      sumsB_next m c ⟨n + 1, h⟩ (by have := lt_of_lt_of_eq h N_0; dsimp only; omega), step ⟨n + 1, h⟩, ih, Finset.sum_range_succ (fun t => ∑ u ∈ Finset.range 8, ∑ g ∈ Finset.range 8,
      ext (du1 m c q) (512 * t + (64 * u + (8 * g + ρ.val % 8)) + (31 - 1 - ρ.val / 8)) * ext (zb m c q) (512 * t + (64 * u + (8 * g + ρ.val % 8)))) (n + 1)]

/-! ## The rows of the filters' gradients -/

theorem foldl_same {σ ι β : Type*} (step : σ → ι → σ) (obs : σ → β) (h : ∀ s l, obs (step s l) = obs s) (ls : List ι) : ∀ s, obs (ls.foldl step s) = obs s := by
  induction ls with
  | nil => intro s; rfl
  | cons l ls ih => intro s; exact (ih (step s l)).trans (h s l)

theorem totals_at {K N : ℕ} (y : Vec Ideal (ConvProg.Sh (8 * K) 1024) .f32) (rows : List (Fin K)) (hd : rows.Nodup) (hm : ∀ k, k ∈ rows) (κ : Fin N) (q : Fin 1024) :
    rows.foldl (stepTotal y) (ConvProg.zeros (F := Ideal) N) (ix2 κ q) = if h : κ.val < K then ∑ r : Fin 8, y (ix2 ⟨8 * κ.val + r.val, by omega⟩ q) else 0 := by
  by_cases h : κ.val < K
  · rw [dif_pos h, foldl_once (stepTotal y) (fun o => o (ix2 κ q)) (fun _ => ∑ r : Fin 8, y (ix2 ⟨8 * κ.val + r.val, by omega⟩ q)) ⟨κ.val, h⟩ (fun o k => ?_) rows hd,
      if_pos (hm _)]
    rw [stepTotal_at]
    by_cases e : k = ⟨κ.val, h⟩
    · subst e; rw [dif_pos rfl, if_pos rfl]
    · rw [if_neg e, dif_neg fun e2 => e (Fin.ext e2)]
  · rw [dif_neg h]
    refine (foldl_same (stepTotal y) (fun o => o (ix2 κ q)) (fun o k => ?_) rows _).trans ?_
    · rw [stepTotal_at, dif_neg (by omega)]
    · show ConvProg.zeros (F := Ideal) N (ix2 κ q) = 0
      pointwise [ConvProg.zeros]

/-- The gradient of a filter of `K` taps, in the first rows of an array. -/
def rowsOf (K N : ℕ) (X Z : Fin 1024 → Fin 8192 → EReal) : (ConvProg.Sh N 1024).Idx → EReal := fun j => if (j 0).val < K then grad K (X (j 1)) (Z (j 1)) (j 0).val else 0

theorem totalsA (j : (ConvProg.Sh 8 1024).Idx) (h : 15 < cfg0.N) :
    ConvProg.rowsA.foldl (stepTotal (sumsA m c 15 h)) (ConvProg.zeros (F := Ideal) 8) j = rowsOf 3 8 (dca m c) (za m c) j := by
  obtain ⟨κ, q, rfl⟩ : ∃ (κ : Fin 8) (q : Fin 1024), j = ix2 κ q := ⟨j 0, j 1, eq_ix2 j⟩
  rw [totals_at _ _ (by decide) (by decide)]
  show _ = if κ.val < 3 then grad 3 (dca m c q) (za m c q) κ.val else 0
  by_cases h3 : κ.val < 3
  · rw [dif_pos h3, if_pos h3]
    unfold grad
    rw [← sum_tiles (fun s => ext (dca m c q) (s + (3 - 1 - κ.val)) * ext (za m c q) s), Finset.sum_range]
    refine Finset.sum_congr rfl fun r _ => ?_
    rw [sumsA_at]
    have e1 : (8 * κ.val + r.val) % 8 = r.val := by omega
    have e2 : (8 * κ.val + r.val) / 8 = κ.val := by omega
    simp only [e1, e2]
  · rw [dif_neg h3, if_neg h3]

theorem totalsB (j : (ConvProg.Sh 32 1024).Idx) (h : 15 < cfg0.N) :
    ConvProg.rowsB.foldl (stepTotal (sumsB m c 15 h)) (ConvProg.zeros (F := Ideal) 32) j = rowsOf 31 32 (du1 m c) (zb m c) j := by
  obtain ⟨κ, q, rfl⟩ : ∃ (κ : Fin 32) (q : Fin 1024), j = ix2 κ q := ⟨j 0, j 1, eq_ix2 j⟩
  rw [totals_at _ _ (by decide) (by decide)]
  show _ = if κ.val < 31 then grad 31 (du1 m c q) (zb m c q) κ.val else 0
  by_cases h3 : κ.val < 31
  · rw [dif_pos h3, if_pos h3]
    unfold grad
    rw [← sum_tiles (fun s => ext (du1 m c q) (s + (31 - 1 - κ.val)) * ext (zb m c q) s), Finset.sum_range]
    refine Finset.sum_congr rfl fun r _ => ?_
    rw [sumsB_at]
    have e1 : (8 * κ.val + r.val) % 8 = r.val := by omega
    have e2 : (8 * κ.val + r.val) / 8 = κ.val := by omega
    simp only [e1, e2]
  · rw [dif_neg h3, if_neg h3]

/-! ## The arrays -/

theorem idx13 : ∀ t : Fin cfg0.N, win0_13.index t 0 = t ∧ win0_13.index t 1 = 0 := by decide +kernel

theorem packed_at (j : S8192x7168.Idx) (y : S512x7168.Idx) (h0 : (j 0).val = t.val * 512 + (y 0).val) (h1 : (j 1).val = (y 1).val) :
    grads m c ((y 1).val / 1024) ⟨(y 1).val % 1024, Nat.mod_lt _ (by decide)⟩ (rowAt t (lt16 t) (y 0)) = packed m c j := by
  have e0 : rowAt t (lt16 t) (y 0) = (j 0 : Fin 8192) := Fin.ext (by simp only [rowAt]; omega)
  unfold packed
  rw [e0]; simp only [h1]

theorem all13 : (dats m 0 c).arrAt 13 (cfgs 0).N = packed m c := by
  refine (dats m 0 c).arrAt_eq_of_covers 13 _ (by decide +kernel) fun t hf y => ?_
  blk_simp
  rw [after_13, dpv_at]
  refine packed_at m c t _ y ?_ ?_ <;> blk_simp [idx13 t] <;> omega

/-- The last point. -/
def tLast : Fin cfg0.N := ⟨15, by decide⟩

theorem all14 : (dats m 0 c).arrAt 14 (cfgs 0).N = rowsOf 3 8 (dca m c) (za m c) := by
  refine (dats m 0 c).arrAt_eq_of_after_last 14 tLast (by decide +kernel) _ fun j => ?_
  rw [after_14]
  exact totalsA m c j _

theorem all15 : (dats m 0 c).arrAt 15 (cfgs 0).N = rowsOf 31 32 (du1 m c) (zb m c) := by
  refine (dats m 0 c).arrAt_eq_of_after_last 15 tLast (by decide +kernel) _ fun j => ?_
  rw [after_15]
  exact totalsB m c j _

end Cert.ConvIn
-- ==== Proof.ConvClaim.lean ====
/- The convolutions' two backward programs compute the same arrays, and each keeps its arguments. -/
module

public import proofs.«01_k».proof.Proof.ConvRef
public import proofs.«01_k».proof.Proof.ConvArray
public import proofs.«01_k».proof.Proof.Gen.ConvIdeal
public import proofs.«01_k».proof.Defs

@[expose] public section

set_option maxRecDepth 16384

noncomputable section

namespace Cert.ConvRef

open Cert.ConvReferenceIdeal Cert.ConvReferenceIdeal.Gen Cert.ConvReferenceIdeal.Read Idealize.ShloMosaic Idealize.ShloMosaic.TcCoe
open Cert.ConvSpec

variable {x0 : (⟨S8192x7168, .f32⟩ : BufTy).Contents (Elt Ideal)} {x1 : (⟨S3x1024, .f32⟩ : BufTy).Contents (Elt Ideal)}
  {x2 : (⟨S31x1024, .f32⟩ : BufTy).Contents (Elt Ideal)} {x3 x4 x5 x6 x7 : (⟨S8192x1024, .f32⟩ : BufTy).Contents (Elt Ideal)}

theorem res0 : val_main_v68 (F := Ideal) x0 x1 x2 x3 x4 x5 x6 x7
    = fun j => grads x0 x1 x2 x3 x4 x5 x6 x7 ((j 1).val / 1024) ⟨(j 1).val % 1024, Nat.mod_lt _ (by decide)⟩ (j 0) := by
  funext j; rw [eq_ix2 j]
  exact at_v68 x0 x1 x2 x3 x4 x5 x6 x7 _ _
theorem res1 : val_main_v70 (F := Ideal) x0 x4 = Cert.ConvIn.rowsOf 3 8 (rows x4) (za x0) := by
  funext j; rw [eq_ix2 j]
  exact at_v70 x0 x4 _ _
theorem res2 : val_main_v72 (F := Ideal) x0 x5 = Cert.ConvIn.rowsOf 31 32 (rows x5) (zb x0) := by
  funext j; rw [eq_ix2 j]
  exact at_v72 x0 x5 _ _

end Cert.ConvRef

namespace Cert.ConvClaim

open Idealize.ShloMosaic Idealize.ShloMosaic.TcCoe Idealize.SL.Sem
open Cert.ConvSpec Cert.ConvIn

theorem frame_kernel : Cert.quiescent_Conv (hConv := Cert.Conv.Gen.facts) := fun m ρ _ => Cert.ConvRun.frame m ρ

/-- The ideal program is the kernel's own text: its run is the kernel's at the extended reals. -/
theorem frame_ideal : Cert.quiescent_ConvIdeal (hConvIdeal := Cert.ConvIdeal.Gen.facts) := fun m ρ _ =>
  cast (by sl_kernel_rfl) (Cert.ConvRun.frame (F := Ideal) m ρ)

theorem frame_ref : Cert.quiescent_ConvReferenceIdeal (hConvReferenceIdeal := Cert.ConvReferenceIdeal.Gen.facts) := fun m ρ _ =>
  (θ_run Cert.ConvReferenceIdeal.defs _ _).mono (fun r h => ⟨fun c => (h c).2.2.2, sem_eq_zero_of_no_sems (by decide) r.2⟩)
    (Cert.ConvReferenceIdeal.Value.run m ρ)

section Kernel

variable (m : (ℓ : Loc Conv.nD Conv.τ Conv.sig) → Buf (Elt Ideal) ℓ) (c : Dev Conv.nD)

/-- The gradient of the projection. -/
def res0 : Conv.S8192x7168.Idx → EReal := packed m c
/-- The gradient of the first filter, in the first rows. -/
def res1 : Conv.S8x1024.Idx → EReal := rowsOf 3 8 (dca m c) (za m c)
/-- The gradient of the second filter, in the first rows. -/
def res2 : Conv.S32x1024.Idx → EReal := rowsOf 31 32 (du1 m c) (zb m c)

set_option maxHeartbeats 2000000 in
/-- The arrays of the kernel's run. -/
theorem run_kernel (ρ : Dev Conv.nD → PrngReg) :
    θ_run (Conv.defs (F := Ideal)) (onTc (τ := Conv.τ) (Conv.main (F := Ideal))) ⟨m, fun _ => 0, ρ⟩ fun r => ∀ c : Dev Conv.nD,
      r.2.mem ((c.tc : Thread Conv.nD Conv.τ).loc Conv.main_v6_0) = res0 m c
      ∧ r.2.mem ((c.tc : Thread Conv.nD Conv.τ).loc Conv.main_v6_1) = res1 m c
      ∧ r.2.mem ((c.tc : Thread Conv.nD Conv.τ).loc Conv.main_v6_2) = res2 m c
      ∧ r.2.mem ((c.tc : Thread Conv.nD Conv.τ).loc Conv.main_arg0) = m ((c.tc : Thread Conv.nD Conv.τ).loc Conv.main_arg0)
      ∧ r.2.mem ((c.tc : Thread Conv.nD Conv.τ).loc Conv.main_arg1) = m ((c.tc : Thread Conv.nD Conv.τ).loc Conv.main_arg1)
      ∧ r.2.mem ((c.tc : Thread Conv.nD Conv.τ).loc Conv.main_arg2) = m ((c.tc : Thread Conv.nD Conv.τ).loc Conv.main_arg2)
      ∧ r.2.mem ((c.tc : Thread Conv.nD Conv.τ).loc Conv.main_arg3) = m ((c.tc : Thread Conv.nD Conv.τ).loc Conv.main_arg3)
      ∧ r.2.mem ((c.tc : Thread Conv.nD Conv.τ).loc Conv.main_arg4) = m ((c.tc : Thread Conv.nD Conv.τ).loc Conv.main_arg4)
      ∧ r.2.mem ((c.tc : Thread Conv.nD Conv.τ).loc Conv.main_arg5) = m ((c.tc : Thread Conv.nD Conv.τ).loc Conv.main_arg5)
      ∧ r.2.mem ((c.tc : Thread Conv.nD Conv.τ).loc Conv.main_arg6) = m ((c.tc : Thread Conv.nD Conv.τ).loc Conv.main_arg6)
      ∧ r.2.mem ((c.tc : Thread Conv.nD Conv.τ).loc Conv.main_arg7) = m ((c.tc : Thread Conv.nD Conv.τ).loc Conv.main_arg7) :=
  (θ_run _ _ _).mono (fun r h c => by
    have hw := (h.1 c).1
    exact ⟨(hw 13).trans (all13 m c), (hw 14).trans (all14 m c), (hw 15).trans (all15 m c), h.2.1 c⟩)
    (θ_run_and (Cert.ConvRun.run_main (F := Ideal) m ρ) (Cert.ConvRun.frame (F := Ideal) m ρ))

end Kernel

section Ref

variable (m : (ℓ : Loc ConvReferenceIdeal.nD ConvReferenceIdeal.τ ConvReferenceIdeal.sig) → Buf (Elt Ideal) ℓ) (c : Dev ConvReferenceIdeal.nD)

/-- The reference's arrays, of its arguments. -/
def packedR : ConvReferenceIdeal.S8192x7168.Idx → EReal := fun j =>
  ConvRef.grads (m (c.tc.loc ConvReferenceIdeal.main_arg0)) (m (c.tc.loc ConvReferenceIdeal.main_arg1)) (m (c.tc.loc ConvReferenceIdeal.main_arg2))
    (m (c.tc.loc ConvReferenceIdeal.main_arg3)) (m (c.tc.loc ConvReferenceIdeal.main_arg4)) (m (c.tc.loc ConvReferenceIdeal.main_arg5))
    (m (c.tc.loc ConvReferenceIdeal.main_arg6)) (m (c.tc.loc ConvReferenceIdeal.main_arg7))
    ((j 1).val / 1024) ⟨(j 1).val % 1024, Nat.mod_lt _ (by decide)⟩ (j 0)
def rowsAR : ConvReferenceIdeal.S8x1024.Idx → EReal :=
  rowsOf 3 8 (ConvRef.rows (m (c.tc.loc ConvReferenceIdeal.main_arg4))) (ConvRef.za (m (c.tc.loc ConvReferenceIdeal.main_arg0)))
def rowsBR : ConvReferenceIdeal.S32x1024.Idx → EReal :=
  rowsOf 31 32 (ConvRef.rows (m (c.tc.loc ConvReferenceIdeal.main_arg5))) (ConvRef.zb (m (c.tc.loc ConvReferenceIdeal.main_arg0)))

/-- The arrays of the reference's run. -/
theorem run_ref (ρ : Dev ConvReferenceIdeal.nD → PrngReg) :
    θ_run (ConvReferenceIdeal.defs (F := Ideal)) (onTc (τ := ConvReferenceIdeal.τ) (ConvReferenceIdeal.main (F := Ideal))) ⟨m, fun _ => 0, ρ⟩
    fun r => ∀ c : Dev ConvReferenceIdeal.nD,
      r.2.mem ((c.tc : Thread ConvReferenceIdeal.nD ConvReferenceIdeal.τ).loc ConvReferenceIdeal.main_v68) = packedR m c
      ∧ r.2.mem ((c.tc : Thread ConvReferenceIdeal.nD ConvReferenceIdeal.τ).loc ConvReferenceIdeal.main_v70) = rowsAR m c
      ∧ r.2.mem ((c.tc : Thread ConvReferenceIdeal.nD ConvReferenceIdeal.τ).loc ConvReferenceIdeal.main_v72) = rowsBR m c
      ∧ r.2.mem ((c.tc : Thread ConvReferenceIdeal.nD ConvReferenceIdeal.τ).loc ConvReferenceIdeal.main_arg0) = m ((c.tc : Thread ConvReferenceIdeal.nD ConvReferenceIdeal.τ).loc ConvReferenceIdeal.main_arg0)
      ∧ r.2.mem ((c.tc : Thread ConvReferenceIdeal.nD ConvReferenceIdeal.τ).loc ConvReferenceIdeal.main_arg1) = m ((c.tc : Thread ConvReferenceIdeal.nD ConvReferenceIdeal.τ).loc ConvReferenceIdeal.main_arg1)
      ∧ r.2.mem ((c.tc : Thread ConvReferenceIdeal.nD ConvReferenceIdeal.τ).loc ConvReferenceIdeal.main_arg2) = m ((c.tc : Thread ConvReferenceIdeal.nD ConvReferenceIdeal.τ).loc ConvReferenceIdeal.main_arg2)
      ∧ r.2.mem ((c.tc : Thread ConvReferenceIdeal.nD ConvReferenceIdeal.τ).loc ConvReferenceIdeal.main_arg3) = m ((c.tc : Thread ConvReferenceIdeal.nD ConvReferenceIdeal.τ).loc ConvReferenceIdeal.main_arg3)
      ∧ r.2.mem ((c.tc : Thread ConvReferenceIdeal.nD ConvReferenceIdeal.τ).loc ConvReferenceIdeal.main_arg4) = m ((c.tc : Thread ConvReferenceIdeal.nD ConvReferenceIdeal.τ).loc ConvReferenceIdeal.main_arg4)
      ∧ r.2.mem ((c.tc : Thread ConvReferenceIdeal.nD ConvReferenceIdeal.τ).loc ConvReferenceIdeal.main_arg5) = m ((c.tc : Thread ConvReferenceIdeal.nD ConvReferenceIdeal.τ).loc ConvReferenceIdeal.main_arg5)
      ∧ r.2.mem ((c.tc : Thread ConvReferenceIdeal.nD ConvReferenceIdeal.τ).loc ConvReferenceIdeal.main_arg6) = m ((c.tc : Thread ConvReferenceIdeal.nD ConvReferenceIdeal.τ).loc ConvReferenceIdeal.main_arg6)
      ∧ r.2.mem ((c.tc : Thread ConvReferenceIdeal.nD ConvReferenceIdeal.τ).loc ConvReferenceIdeal.main_arg7) = m ((c.tc : Thread ConvReferenceIdeal.nD ConvReferenceIdeal.τ).loc ConvReferenceIdeal.main_arg7) :=
  (θ_run _ _ _).mono (fun r h c => by
    obtain ⟨e0, e1, e2, hkeep⟩ := h c
    exact ⟨e0.trans ((Cert.ConvReferenceIdeal.Read.val_main_v68_eq _ _).trans (ConvRef.res0)),
      e1.trans ((Cert.ConvReferenceIdeal.Read.val_main_v70_eq _ _).trans (ConvRef.res1)),
      e2.trans ((Cert.ConvReferenceIdeal.Read.val_main_v72_eq _ _).trans (ConvRef.res2)), hkeep⟩)
    (Cert.ConvReferenceIdeal.Value.run m ρ)

end Ref

set_option maxHeartbeats 2000000 in
theorem algebraic : Cert.algebraic_ConvIdeal_ConvReferenceIdeal (hConvIdeal := Cert.ConvIdeal.Gen.facts)
    (hConvReferenceIdeal := Cert.ConvReferenceIdeal.Gen.facts) := by
  intro m g m' g' _ hargs
  have e0 : ∀ c, packedR m' c = res0 m c := fun c => by
    obtain ⟨a0, a1, a2, a3, a4, a5, a6, a7⟩ := hargs c
    unfold packedR
    rw [a0, a1, a2, a3, a4, a5, a6, a7]; rfl
  have e1 : ∀ c, rowsAR m' c = res1 m c := fun c => by
    obtain ⟨a0, a1, a2, a3, a4, a5, a6, a7⟩ := hargs c
    unfold rowsAR
    rw [a0, a4]; rfl
  have e2 : ∀ c, rowsBR m' c = res2 m c := fun c => by
    obtain ⟨a0, a1, a2, a3, a4, a5, a6, a7⟩ := hargs c
    unfold rowsBR
    rw [a0, a5]; rfl
  have hR := run_ref m' g'
  simp only [e0, e1, e2] at hR
  exact ⟨fun c => res0 m c, fun c => res1 m c, fun c => res2 m c, cast (by sl_kernel_rfl) (run_kernel m g), hR⟩

end Cert.ConvClaim
-- ==== Proof.OutSpec.lean ====
/- The mixer's output and the layer norm of what it is added to, one row of 1024 numbers at a time, over the extended reals. -/
module

public import proofs.«01_k».proof.Proof.Arrays

@[expose] public section

set_option maxRecDepth 16384

noncomputable section

namespace Cert.OutSpec

open Idealize.ShloMosaic Cert.Norm

/-- The logistic function. -/
abbrev sig (x : EReal) : EReal := Ideal.logistic x

/-- The literal that the residual is multiplied by. -/
def wAlpha : EReal := Ideal.ofBits FTy.f32 0x3F9837F0#32

/-- The three matrices. -/
structure Par where
  wa : Fin 1024 → Row
  wb : Fin 1024 → Row
  wo : Fin 1024 → Row

/-- A row of the arguments: the residual, the two branches and their gates. -/
structure In where
  x : Row
  a : Row
  b : Row
  ga : Row
  gb : Row

variable (P : Par) (v : In)

/-- The branches' outputs, their gated sum, and the residual with the mixer's output added. -/
def ya : Row := fun k => ∑ c, v.a c * P.wa c k
def yb : Row := fun k => ∑ c, v.b c * P.wb c k
def merged : Row := fun k => sig (v.ga k) * ya P v k + sig (v.gb k) * yb P v k
def r1 : Row := fun k => wAlpha * v.x k + ∑ c, merged P v c * P.wo c k

end Cert.OutSpec

namespace Cert.Arrays

open Idealize.ShloMosaic Cert.Norm

/-- A column of 8192 numbers. -/
def allCol (f : Fin 8192 → EReal) : (⟨2, ![8192, 1]⟩ : Shape).Idx → EReal := fun i => f (i 0)

theorem allCol_at (f : Fin 8192 → EReal) (t : ℕ) (h : t < 16) (j : (⟨2, ![8192, 1]⟩ : Shape).Idx) (y : (⟨2, ![512, 1]⟩ : Shape).Idx)
    (h0 : ((j 0 : Fin 8192) : ℕ) = t * 512 + ((y 0 : Fin 512) : ℕ)) : f (rowAt t h (y 0)) = allCol f j :=
  congrArg f (Fin.ext (by simp only [rowAt]; omega))

end Cert.Arrays
-- ==== Proof.OutRef.lean ====
/- The mixer output's reference, read one row at a time: each of its arrays at a row is the function of that row of its
   arguments which OutSpec names. -/
module

public import proofs.«01_k».proof.Proof.OutSpec
public import proofs.«01_k».proof.Proof.Gen.OutReferenceIdeal.Read
public import Idealize.ShloMosaic.Lib.Pointwise

@[expose] public section

set_option maxRecDepth 16384

noncomputable section

namespace Cert.OutRef

open Cert.OutReferenceIdeal Cert.OutReferenceIdeal.Gen Cert.OutReferenceIdeal.Read Idealize.ShloMosaic Idealize.ShloMosaic.TcCoe
open Cert.Norm Cert.OutSpec Cert.Arrays

/-- Column `k` of the `q`-th of the seven parts of a row of the projection. -/
def part (q : Fin 7) (k : Fin 1024) : Fin 7168 := ⟨1024 * q + k, by omega⟩

/-- The matrices that the argument arrays hold. -/
def par (x4 x5 x6 : (⟨S1024x1024, .f32⟩ : BufTy).Contents (Elt Ideal)) : Par where
  wa a b := x4 (ix2 a b)
  wb a b := x5 (ix2 a b)
  wo a b := x6 (ix2 a b)

/-- Row `i` of the argument arrays. -/
def inp (x0 : (⟨S8192x1024, .f32⟩ : BufTy).Contents (Elt Ideal)) (x1 : (⟨S8192x7168, .f32⟩ : BufTy).Contents (Elt Ideal))
    (x2 x3 : (⟨S8192x1024, .f32⟩ : BufTy).Contents (Elt Ideal)) (i : Fin 8192) : In where
  x k := x0 (ix2 i k)
  a k := x2 (ix2 i k)
  b k := x3 (ix2 i k)
  ga k := x1 (ix2 i (part 5 k))
  gb k := x1 (ix2 i (part 6 k))

variable (x0 : (⟨S8192x1024, .f32⟩ : BufTy).Contents (Elt Ideal)) (x1 : (⟨S8192x7168, .f32⟩ : BufTy).Contents (Elt Ideal))
  (x2 x3 : (⟨S8192x1024, .f32⟩ : BufTy).Contents (Elt Ideal)) (x4 x5 x6 : (⟨S1024x1024, .f32⟩ : BufTy).Contents (Elt Ideal))
include x0 x1 x2 x3 x4 x5 x6

theorem at_v7 (i : Fin 8192) (k : Fin 1024) : val_main_v7 (F := Ideal) x2 x4 (ix2 i k) = ya (par x4 x5 x6) (inp x0 x1 x2 x3 i) k := by
  pointwise [val_main_v7]
  rfl
theorem at_v8 (i : Fin 8192) (k : Fin 1024) : val_main_v8 (F := Ideal) x3 x5 (ix2 i k) = yb (par x4 x5 x6) (inp x0 x1 x2 x3 i) k := by
  pointwise [val_main_v8]
  rfl
theorem at_v23 (i : Fin 8192) (k : Fin 1024) : val_main_v23 (F := Ideal) x1 x2 x3 x4 x5 (ix2 i k) = merged (par x4 x5 x6) (inp x0 x1 x2 x3 i) k := by
  pointwise [val_main_v23, val_main_v22, val_main_v21, val_main_v20, val_main_v19, val_main_v18, val_main_v17, val_main_v16, val_main_v15, val_main_v14, val_main_v13, val_main_v12, val_main_v11, val_main_v10, val_main_v9, val_main_v6, val_main_v5, val_main_cst, val_main_cst_0, val_main_cst_1, val_main_cst_2, at_v7 x0 x1 x2 x3 x4 x5 x6, at_v8 x0 x1 x2 x3 x4 x5 x6]
  rfl
theorem at_v27 (i : Fin 8192) (k : Fin 1024) : val_main_v27 (F := Ideal) x0 x1 x2 x3 x4 x5 x6 (ix2 i k) = r1 (par x4 x5 x6) (inp x0 x1 x2 x3 i) k := by
  pointwise [val_main_v27, val_main_v26, val_main_v25, val_main_v24, val_main_cst_3, at_v23 x0 x1 x2 x3 x4 x5 x6]
  rfl
theorem at_v33 (i : Fin 8192) (k : Fin 1024) : val_main_v33 (F := Ideal) x0 x1 x2 x3 x4 x5 x6 (ix2 i k) = cen (r1 (par x4 x5 x6) (inp x0 x1 x2 x3 i)) k := by
  pointwise [val_main_v33, val_main_v32, val_main_v31, val_main_v30, val_main_v29, val_main_v28, val_main_cst_4, val_main_cst_5, at_v27 x0 x1 x2 x3 x4 x5 x6]
  rfl
theorem at_v46 (i : Fin 8192) (k : Fin 1024) : val_main_v46 (F := Ideal) x0 x1 x2 x3 x4 x5 x6 (ix2 i k) = cen (r1 (par x4 x5 x6) (inp x0 x1 x2 x3 i)) k := by
  pointwise [val_main_v46, val_main_v45, val_main_v31, val_main_v30, val_main_v29, val_main_v28, val_main_cst_4, val_main_cst_5, at_v27 x0 x1 x2 x3 x4 x5 x6]
  rfl
theorem at_v41 (i : Fin 8192) : val_main_v41 (F := Ideal) x0 x1 x2 x3 x4 x5 x6 (ix2 i 0) = rs (r1 (par x4 x5 x6) (inp x0 x1 x2 x3 i)) := by
  pointwise [val_main_v41, val_main_v40, val_main_v39, val_main_v38, val_main_v37, val_main_v36, val_main_v35, val_main_v34, val_main_cst_6, val_main_cst_7, val_main_cst_8, at_v33 x0 x1 x2 x3 x4 x5 x6]
  rfl
theorem at_v48 (i : Fin 8192) (k : Fin 1024) : val_main_v48 (F := Ideal) x0 x1 x2 x3 x4 x5 x6 (ix2 i k) = nrm (r1 (par x4 x5 x6) (inp x0 x1 x2 x3 i)) k := by
  pointwise [val_main_v48, val_main_v47, at_v46 x0 x1 x2 x3 x4 x5 x6, at_v41 x0 x1 x2 x3 x4 x5 x6]
  rfl
end Cert.OutRef
-- ==== Proof.OutArray.lean ====
/- The blocks that a grid point of the mixer's output kernel is given, its 512 rows and the three matrices, and the arrays that
   the kernel has written when it ends: row `i` of each is the function of row `i` of the arguments. -/
module

public import proofs.«01_k».proof.Proof.OutSpec
public import proofs.«01_k».proof.Proof.Gen.Out.Value
public import Idealize.ShloMosaic.Lib.Pointwise
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.OutArray

open Cert.Out Cert.Out.Gen Idealize.ShloMosaic Idealize.ShloMosaic.TcCoe
open Cert.Norm Cert.OutSpec Cert.Arrays

variable (m : (ℓ : Loc nD τ sig) → Buf (Elt Ideal) ℓ) (c : Dev nD)

/-- Column `k` of the `q`-th of the seven parts of a row of the projection. -/
def part (q : Fin 7) (k : Fin 1024) : Fin 7168 := ⟨1024 * q + k, by omega⟩

/-- Row `i` of the arguments, in the memory `m`. -/
def inp (i : Fin 8192) : In where
  x k := m ((c : Thread nD τ).loc main_arg0) (ix2 i k)
  a k := m ((c : Thread nD τ).loc main_arg2) (ix2 i k)
  b k := m ((c : Thread nD τ).loc main_arg3) (ix2 i k)
  ga k := m ((c : Thread nD τ).loc main_arg1) (ix2 i (part 5 k))
  gb k := m ((c : Thread nD τ).loc main_arg1) (ix2 i (part 6 k))
/-- The matrices in the memory `m`. -/
def par : Par where
  wa a b := m ((c : Thread nD τ).loc main_arg4) (ix2 a b)
  wb a b := m ((c : Thread nD τ).loc main_arg5) (ix2 a b)
  wo a b := m ((c : Thread nD τ).loc main_arg6) (ix2 a b)

/-! ## What the host's lines leave before the launch -/

theorem V_a (i : Fin 8192) (k : Fin 1024) : V m c main_v0 (ix2 i k) = (inp m c i).a k := by unfold V; after_reads_at; rfl
theorem V_b (i : Fin 8192) (k : Fin 1024) : V m c main_v1 (ix2 i k) = (inp m c i).b k := by unfold V; after_reads_at; rfl
theorem V_p (i : Fin 8192) (f : Fin 7168) : V m c main_v2 (ix2 i f) = m ((c : Thread nD τ).loc main_arg1) (ix2 i f) := by
  unfold V; after_reads_at
theorem V_x (i : Fin 8192) (k : Fin 1024) : V m c main_arg0 (ix2 i k) = (inp m c i).x k := by rw [V_main_arg0]; rfl
theorem V_wa (a b : Fin 1024) : V m c main_v3 (ix2 a b) = (par m c).wa a b := by unfold V; after_reads_at; rfl
theorem V_wb (a b : Fin 1024) : V m c main_v4 (ix2 a b) = (par m c).wb a b := by unfold V; after_reads_at; rfl
theorem V_wo (a b : Fin 1024) : V m c main_v5 (ix2 a b) = (par m c).wo a b := by unfold V; after_reads_at; rfl

/-! ## The blocks -/

theorem idx0 : ∀ t : Fin cfg0.N, win0_0.index t 0 = t ∧ win0_0.index t 1 = 0 := by decide +kernel
theorem idx1 : ∀ t : Fin cfg0.N, win0_1.index t 0 = t ∧ win0_1.index t 1 = 0 := by decide +kernel
theorem idx2 : ∀ t : Fin cfg0.N, win0_2.index t 0 = t ∧ win0_2.index t 1 = 5 := by decide +kernel
theorem idx3 : ∀ t : Fin cfg0.N, win0_3.index t 0 = t ∧ win0_3.index t 1 = 6 := by decide +kernel
theorem idx4 : ∀ t : Fin cfg0.N, win0_4.index t 0 = t ∧ win0_4.index t 1 = 0 := by decide +kernel
theorem idx5 : ∀ t : Fin cfg0.N, win0_5.index t 0 = 0 ∧ win0_5.index t 1 = 0 := by decide +kernel
theorem idx6 : ∀ t : Fin cfg0.N, win0_6.index t 0 = 0 ∧ win0_6.index t 1 = 0 := by decide +kernel
theorem idx7 : ∀ t : Fin cfg0.N, win0_7.index t 0 = 0 ∧ win0_7.index t 1 = 0 := by decide +kernel
theorem idx8 : ∀ t : Fin cfg0.N, win0_8.index t 0 = t ∧ win0_8.index t 1 = 0 := by decide +kernel
theorem idx9 : ∀ t : Fin cfg0.N, win0_9.index t 0 = t ∧ win0_9.index t 1 = 0 := by decide +kernel
theorem idx10 : ∀ t : Fin cfg0.N, win0_10.index t 0 = t ∧ win0_10.index t 1 = 0 := by decide +kernel
theorem idx11 : ∀ t : Fin cfg0.N, win0_11.index t 0 = t ∧ win0_11.index t 1 = 0 := by decide +kernel
theorem idx12 : ∀ t : Fin cfg0.N, win0_12.index t 0 = t ∧ win0_12.index t 1 = 0 := by decide +kernel

section Point

variable (t : Fin cfg0.N)

theorem lt16 : t.val < 16 := lt_of_lt_of_eq t.isLt N_0
/-- The rows of point `t`. -/
abbrev rows : Fin 512 → In := fun y => inp m c (rowAt t (lt16 t) y)

theorem in0 : iblk m c 0 t = arr .bf16 fun y => (rows m c t y).a := arr_of fun y k => by
  refine Eq.trans (?_ : _ = V m c main_v0 (ix2 (rowAt t (lt16 t) y) k)) (V_a m c _ _)
  blk_ext [iblk, rowAt, idx0 t]
theorem in1 : iblk m c 1 t = arr .bf16 fun y => (rows m c t y).b := arr_of fun y k => by
  refine Eq.trans (?_ : _ = V m c main_v1 (ix2 (rowAt t (lt16 t) y) k)) (V_b m c _ _)
  blk_ext [iblk, rowAt, idx1 t]
theorem in2 : iblk m c 2 t = arr .bf16 fun y => (rows m c t y).ga := arr_of fun y k => by
  refine Eq.trans (?_ : _ = V m c main_v2 (ix2 (rowAt t (lt16 t) y) (part 5 k))) (V_p m c _ _)
  blk_ext [iblk, rowAt, part, idx2 t]
theorem in3 : iblk m c 3 t = arr .bf16 fun y => (rows m c t y).gb := arr_of fun y k => by
  refine Eq.trans (?_ : _ = V m c main_v2 (ix2 (rowAt t (lt16 t) y) (part 6 k))) (V_p m c _ _)
  blk_ext [iblk, rowAt, part, idx3 t]
theorem in4 : iblk m c 4 t = arr .f32 fun y => (rows m c t y).x := arr_of fun y k => by
  refine Eq.trans (?_ : _ = V m c main_arg0 (ix2 (rowAt t (lt16 t) y) k)) (V_x m c _ _)
  blk_ext [iblk, rowAt, idx4 t]
theorem in5 : iblk m c 5 t = arr .bf16 (par m c).wa := arr_of fun a b => by
  refine Eq.trans (?_ : _ = V m c main_v3 (ix2 a b)) (V_wa m c _ _)
  blk_ext [iblk, idx5 t]
theorem in6 : iblk m c 6 t = arr .bf16 (par m c).wb := arr_of fun a b => by
  refine Eq.trans (?_ : _ = V m c main_v4 (ix2 a b)) (V_wb m c _ _)
  blk_ext [iblk, idx6 t]
theorem in7 : iblk m c 7 t = arr .bf16 (par m c).wo := arr_of fun a b => by
  refine Eq.trans (?_ : _ = V m c main_v5 (ix2 a b)) (V_wo m c _ _)
  blk_ext [iblk, idx7 t]

end Point

/-! ## What a grid point computes of its blocks -/

section Payload

variable (P : Par) (v : Fin 512 → In)

theorem pay4 : k0_pay4 (F := Ideal) (arr .bf16 fun y => (v y).a) (arr .bf16 P.wa) = arr .f32 fun y => ya P (v y) := arr_of fun y k => by
  pointwise [k0_pay4, arr_at]
  rfl
theorem pay5 : k0_pay5 (F := Ideal) (arr .bf16 fun y => (v y).b) (arr .bf16 P.wb) = arr .f32 fun y => yb P (v y) := arr_of fun y k => by
  pointwise [k0_pay5, arr_at]
  rfl
theorem pay6 : k0_pay6 (F := Ideal) (arr .bf16 fun y => (v y).a) (arr .bf16 P.wa) = arr .bf16 fun y => ya P (v y) := arr_of fun y k => by
  pointwise [k0_pay6, pay4 P v, arr_at]
theorem pay7 : k0_pay7 (F := Ideal) (arr .bf16 fun y => (v y).b) (arr .bf16 P.wb) = arr .bf16 fun y => yb P (v y) := arr_of fun y k => by
  pointwise [k0_pay7, pay5 P v, arr_at]
theorem pay8 : k0_pay8 (F := Ideal) (arr .bf16 fun y => (v y).a) (arr .bf16 P.wa) (arr .bf16 fun y => (v y).b) (arr .bf16 P.wb)
    (arr .bf16 fun y => (v y).ga) (arr .bf16 fun y => (v y).gb) = arr .bf16 fun y => merged P (v y) := arr_of fun y k => by
  pointwise [k0_pay8, pay4 P v, pay5 P v, arr_at]
  rfl
theorem pay9 : k0_pay9 (F := Ideal) (arr .f32 fun y => (v y).x) = arr .f32 fun y k => wAlpha * (v y).x k := arr_of fun y k => by
  pointwise [k0_pay9, arr_at]
  rfl
theorem pay1 : k0_pay1 (F := Ideal) (arr .bf16 fun y => merged P (v y)) (arr .f32 fun y k => wAlpha * (v y).x k) (arr .bf16 P.wo)
    = arr .f32 fun y => cen (r1 P (v y)) := arr_of fun y k => by
  pointwise [k0_pay1, arr_at]
  rfl
theorem pay2 : k0_pay2 (F := Ideal) (arr .bf16 fun y => merged P (v y)) (arr .f32 fun y k => wAlpha * (v y).x k) (arr .bf16 P.wo)
    = col fun y => rs (r1 P (v y)) := col_of fun y => by
  pointwise [k0_pay2, pay1 P v, arr_at]
  rfl
theorem pay3 : k0_pay3 (F := Ideal) (arr .bf16 fun y => merged P (v y)) (arr .f32 fun y k => wAlpha * (v y).x k) (arr .bf16 P.wo)
    = arr .f32 fun y => nrm (r1 P (v y)) := arr_of fun y k => by
  pointwise [k0_pay3, pay1 P v, pay2 P v, arr_at, col_at]
  rfl

end Payload

/-! ## The arrays -/

theorem all8 : (dats m 0 c).arrAt 8 (cfgs 0).N = all fun i => ya (par m c) (inp m c i) := by
  refine (dats m 0 c).arrAt_eq_of_covers 8 _ (by decide +kernel) fun t hf y => ?_
  blk_simp
  rw [after0_8]
  unfold_out out0_8
  frame_out
  simp only [in0, in1, in2, in3, in4, in5, in6, in7, pay9, pay8, pay6]
  refine all_at (fun i => ya (par m c) (inp m c i)) t (lt16 t) _ y ?_ ?_ <;> blk_simp [idx8 t] <;> omega

theorem all9 : (dats m 0 c).arrAt 9 (cfgs 0).N = all fun i => yb (par m c) (inp m c i) := by
  refine (dats m 0 c).arrAt_eq_of_covers 9 _ (by decide +kernel) fun t hf y => ?_
  blk_simp
  rw [after0_9]
  unfold_out out0_9
  frame_out
  simp only [in0, in1, in2, in3, in4, in5, in6, in7, pay9, pay8, pay7]
  refine all_at (fun i => yb (par m c) (inp m c i)) t (lt16 t) _ y ?_ ?_ <;> blk_simp [idx9 t] <;> omega

theorem all10 : (dats m 0 c).arrAt 10 (cfgs 0).N = all fun i => merged (par m c) (inp m c i) := by
  refine (dats m 0 c).arrAt_eq_of_covers 10 _ (by decide +kernel) fun t hf y => ?_
  blk_simp
  rw [after0_10]
  unfold_out out0_10
  frame_out
  simp only [in0, in1, in2, in3, in4, in5, in6, in7, pay9, pay8, pay8]
  refine all_at (fun i => merged (par m c) (inp m c i)) t (lt16 t) _ y ?_ ?_ <;> blk_simp [idx10 t] <;> omega

theorem all11 : (dats m 0 c).arrAt 11 (cfgs 0).N = all fun i => nrm (r1 (par m c) (inp m c i)) := by
  refine (dats m 0 c).arrAt_eq_of_covers 11 _ (by decide +kernel) fun t hf y => ?_
  blk_simp
  rw [after0_11]
  unfold_out out0_11
  frame_out
  simp only [in0, in1, in2, in3, in4, in5, in6, in7, pay9, pay8, pay3]
  refine all_at (fun i => nrm (r1 (par m c) (inp m c i))) t (lt16 t) _ y ?_ ?_ <;> blk_simp [idx11 t] <;> omega

theorem all12 : (dats m 0 c).arrAt 12 (cfgs 0).N = allCol fun i => rs (r1 (par m c) (inp m c i)) := by
  refine (dats m 0 c).arrAt_eq_of_covers 12 _ (by decide +kernel) fun t hf y => ?_
  blk_simp
  rw [after0_12]
  unfold_out out0_12
  frame_out
  simp only [in0, in1, in2, in3, in4, in5, in6, in7, pay9, pay8, pay2]
  refine allCol_at (fun i => rs (r1 (par m c) (inp m c i))) t (lt16 t) _ y ?_; blk_simp [idx12 t]

end Cert.OutArray
-- ==== Proof.OutClaim.lean ====
/- The mixer output's two programs compute the same arrays, and each keeps its arguments. -/
module

public import proofs.«01_k».proof.Proof.OutRef
public import proofs.«01_k».proof.Proof.OutArray
public import proofs.«01_k».proof.Proof.Gen.OutIdeal
public import proofs.«01_k».proof.Defs

@[expose] public section

set_option maxRecDepth 16384

noncomputable section

namespace Cert.OutRef

open Cert.OutReferenceIdeal Cert.OutReferenceIdeal.Gen Cert.OutReferenceIdeal.Read Idealize.ShloMosaic Idealize.ShloMosaic.TcCoe
open Cert.Norm Cert.OutSpec Cert.Arrays

variable {x0 : (⟨S8192x1024, .f32⟩ : BufTy).Contents (Elt Ideal)} {x1 : (⟨S8192x7168, .f32⟩ : BufTy).Contents (Elt Ideal)}
  {x2 x3 : (⟨S8192x1024, .f32⟩ : BufTy).Contents (Elt Ideal)} {x4 x5 x6 : (⟨S1024x1024, .f32⟩ : BufTy).Contents (Elt Ideal)}
include x0 x1 x2 x3 x4 x5 x6

theorem res0 : val_main_v42 (F := Ideal) x2 x4 = all fun i => ya (par x4 x5 x6) (inp x0 x1 x2 x3 i) := by
  funext j; rw [eq_ix2 j]
  exact at_v7 x0 x1 x2 x3 x4 x5 x6 _ _
theorem res1 : val_main_v43 (F := Ideal) x3 x5 = all fun i => yb (par x4 x5 x6) (inp x0 x1 x2 x3 i) := by
  funext j; rw [eq_ix2 j]
  exact at_v8 x0 x1 x2 x3 x4 x5 x6 _ _
theorem res2 : val_main_v44 (F := Ideal) x1 x2 x3 x4 x5 = all fun i => merged (par x4 x5 x6) (inp x0 x1 x2 x3 i) := by
  funext j; rw [eq_ix2 j]
  exact at_v23 x0 x1 x2 x3 x4 x5 x6 _ _
theorem res3 : val_main_v48 (F := Ideal) x0 x1 x2 x3 x4 x5 x6 = all fun i => nrm (r1 (par x4 x5 x6) (inp x0 x1 x2 x3 i)) := by
  funext j; rw [eq_ix2 j]
  exact at_v48 x0 x1 x2 x3 x4 x5 x6 _ _
theorem res4 : val_main_v41 (F := Ideal) x0 x1 x2 x3 x4 x5 x6 = allCol fun i => rs (r1 (par x4 x5 x6) (inp x0 x1 x2 x3 i)) := by
  funext j; rw [show j = ix2 (j 0) 0 from (eq_ix2 j).trans (congrArg (ix2 (j 0)) (Fin.fin_one_eq_zero (j 1)))]
  exact at_v41 x0 x1 x2 x3 x4 x5 x6 _

end Cert.OutRef

namespace Cert.OutClaim

open Idealize.ShloMosaic Idealize.ShloMosaic.TcCoe Idealize.SL.Sem
open Cert.Norm Cert.OutSpec Cert.Arrays Cert.OutArray

theorem frame_kernel : Cert.quiescent_Out (hOut := Cert.Out.Gen.facts) := fun m ρ _ => Cert.Out.Gen.frame m ρ

/-- The ideal program is the kernel's own text: its run is the kernel's at the extended reals. -/
theorem frame_ideal : Cert.quiescent_OutIdeal (hOutIdeal := Cert.OutIdeal.Gen.facts) := fun m ρ _ =>
  cast (by sl_kernel_rfl) (Cert.Out.Gen.frame (F := Ideal) m ρ)

theorem frame_ref : Cert.quiescent_OutReferenceIdeal (hOutReferenceIdeal := Cert.OutReferenceIdeal.Gen.facts) := fun m ρ _ =>
  (θ_run Cert.OutReferenceIdeal.defs _ _).mono (fun r h => ⟨fun c => (h c).2.2.2.2.2, sem_eq_zero_of_no_sems (by decide) r.2⟩)
    (Cert.OutReferenceIdeal.Value.run m ρ)

section Kernel

variable (m : (ℓ : Loc Out.nD Out.τ Out.sig) → Buf (Elt Ideal) ℓ) (c : Dev Out.nD)

/-- The first branch's output. -/
def res0 : Out.S8192x1024.Idx → EReal := all fun i => ya (par m c) (inp m c i)
/-- The second branch's output. -/
def res1 : Out.S8192x1024.Idx → EReal := all fun i => yb (par m c) (inp m c i)
/-- The gated sum. -/
def res2 : Out.S8192x1024.Idx → EReal := all fun i => merged (par m c) (inp m c i)
/-- The normalised rows. -/
def res3 : Out.S8192x1024.Idx → EReal := all fun i => nrm (r1 (par m c) (inp m c i))
/-- The rows' reciprocal deviations. -/
def res4 : Out.S8192x1.Idx → EReal := allCol fun i => rs (r1 (par m c) (inp m c i))

set_option maxHeartbeats 2000000 in
/-- The arrays of the kernel's run. -/
theorem run_kernel (ρ : Dev Out.nD → PrngReg) :
    θ_run (Out.defs (F := Ideal)) (onTc (τ := Out.τ) (Out.main (F := Ideal))) ⟨m, fun _ => 0, ρ⟩ fun r => ∀ c : Dev Out.nD,
      r.2.mem ((c.tc : Thread Out.nD Out.τ).loc Out.main_v6_0) = res0 m c
      ∧ r.2.mem ((c.tc : Thread Out.nD Out.τ).loc Out.main_v6_1) = res1 m c
      ∧ r.2.mem ((c.tc : Thread Out.nD Out.τ).loc Out.main_v6_2) = res2 m c
      ∧ r.2.mem ((c.tc : Thread Out.nD Out.τ).loc Out.main_v6_3) = res3 m c
      ∧ r.2.mem ((c.tc : Thread Out.nD Out.τ).loc Out.main_v6_4) = res4 m c
      ∧ r.2.mem ((c.tc : Thread Out.nD Out.τ).loc Out.main_arg0) = m ((c.tc : Thread Out.nD Out.τ).loc Out.main_arg0)
      ∧ r.2.mem ((c.tc : Thread Out.nD Out.τ).loc Out.main_arg1) = m ((c.tc : Thread Out.nD Out.τ).loc Out.main_arg1)
      ∧ r.2.mem ((c.tc : Thread Out.nD Out.τ).loc Out.main_arg2) = m ((c.tc : Thread Out.nD Out.τ).loc Out.main_arg2)
      ∧ r.2.mem ((c.tc : Thread Out.nD Out.τ).loc Out.main_arg3) = m ((c.tc : Thread Out.nD Out.τ).loc Out.main_arg3)
      ∧ r.2.mem ((c.tc : Thread Out.nD Out.τ).loc Out.main_arg4) = m ((c.tc : Thread Out.nD Out.τ).loc Out.main_arg4)
      ∧ r.2.mem ((c.tc : Thread Out.nD Out.τ).loc Out.main_arg5) = m ((c.tc : Thread Out.nD Out.τ).loc Out.main_arg5)
      ∧ r.2.mem ((c.tc : Thread Out.nD Out.τ).loc Out.main_arg6) = m ((c.tc : Thread Out.nD Out.τ).loc Out.main_arg6) :=
  (θ_run _ _ _).mono (fun r h c => by
    obtain ⟨h0, h1, h2, h3, h4, hargs⟩ := h c
    exact ⟨h0.trans (all8 m c), h1.trans (all9 m c), h2.trans (all10 m c), h3.trans (all11 m c), h4.trans (all12 m c), hargs⟩)
    (Cert.Out.Value.run_blocks (F := Ideal) m ρ)

end Kernel

section Ref

variable (m : (ℓ : Loc OutReferenceIdeal.nD OutReferenceIdeal.τ OutReferenceIdeal.sig) → Buf (Elt Ideal) ℓ) (c : Dev OutReferenceIdeal.nD)

/-- The reference's matrices and rows, as its arguments hold them. -/
def parR : Par := OutRef.par (m (c.tc.loc OutReferenceIdeal.main_arg4)) (m (c.tc.loc OutReferenceIdeal.main_arg5)) (m (c.tc.loc OutReferenceIdeal.main_arg6))
def inpR : Fin 8192 → In := OutRef.inp (m (c.tc.loc OutReferenceIdeal.main_arg0)) (m (c.tc.loc OutReferenceIdeal.main_arg1)) (m (c.tc.loc OutReferenceIdeal.main_arg2))
  (m (c.tc.loc OutReferenceIdeal.main_arg3))

/-- The arrays of the reference's run. -/
theorem run_ref (ρ : Dev OutReferenceIdeal.nD → PrngReg) :
    θ_run (OutReferenceIdeal.defs (F := Ideal)) (onTc (τ := OutReferenceIdeal.τ) (OutReferenceIdeal.main (F := Ideal))) ⟨m, fun _ => 0, ρ⟩
    fun r => ∀ c : Dev OutReferenceIdeal.nD,
      r.2.mem ((c.tc : Thread OutReferenceIdeal.nD OutReferenceIdeal.τ).loc OutReferenceIdeal.main_v42) = (all fun i => ya (parR m c) (inpR m c i))
      ∧ r.2.mem ((c.tc : Thread OutReferenceIdeal.nD OutReferenceIdeal.τ).loc OutReferenceIdeal.main_v43) = (all fun i => yb (parR m c) (inpR m c i))
      ∧ r.2.mem ((c.tc : Thread OutReferenceIdeal.nD OutReferenceIdeal.τ).loc OutReferenceIdeal.main_v44) = (all fun i => merged (parR m c) (inpR m c i))
      ∧ r.2.mem ((c.tc : Thread OutReferenceIdeal.nD OutReferenceIdeal.τ).loc OutReferenceIdeal.main_v48) = (all fun i => nrm (r1 (parR m c) (inpR m c i)))
      ∧ r.2.mem ((c.tc : Thread OutReferenceIdeal.nD OutReferenceIdeal.τ).loc OutReferenceIdeal.main_v41) = (allCol fun i => rs (r1 (parR m c) (inpR m c i)))
      ∧ r.2.mem ((c.tc : Thread OutReferenceIdeal.nD OutReferenceIdeal.τ).loc OutReferenceIdeal.main_arg0) = m ((c.tc : Thread OutReferenceIdeal.nD OutReferenceIdeal.τ).loc OutReferenceIdeal.main_arg0)
      ∧ r.2.mem ((c.tc : Thread OutReferenceIdeal.nD OutReferenceIdeal.τ).loc OutReferenceIdeal.main_arg1) = m ((c.tc : Thread OutReferenceIdeal.nD OutReferenceIdeal.τ).loc OutReferenceIdeal.main_arg1)
      ∧ r.2.mem ((c.tc : Thread OutReferenceIdeal.nD OutReferenceIdeal.τ).loc OutReferenceIdeal.main_arg2) = m ((c.tc : Thread OutReferenceIdeal.nD OutReferenceIdeal.τ).loc OutReferenceIdeal.main_arg2)
      ∧ r.2.mem ((c.tc : Thread OutReferenceIdeal.nD OutReferenceIdeal.τ).loc OutReferenceIdeal.main_arg3) = m ((c.tc : Thread OutReferenceIdeal.nD OutReferenceIdeal.τ).loc OutReferenceIdeal.main_arg3)
      ∧ r.2.mem ((c.tc : Thread OutReferenceIdeal.nD OutReferenceIdeal.τ).loc OutReferenceIdeal.main_arg4) = m ((c.tc : Thread OutReferenceIdeal.nD OutReferenceIdeal.τ).loc OutReferenceIdeal.main_arg4)
      ∧ r.2.mem ((c.tc : Thread OutReferenceIdeal.nD OutReferenceIdeal.τ).loc OutReferenceIdeal.main_arg5) = m ((c.tc : Thread OutReferenceIdeal.nD OutReferenceIdeal.τ).loc OutReferenceIdeal.main_arg5)
      ∧ r.2.mem ((c.tc : Thread OutReferenceIdeal.nD OutReferenceIdeal.τ).loc OutReferenceIdeal.main_arg6) = m ((c.tc : Thread OutReferenceIdeal.nD OutReferenceIdeal.τ).loc OutReferenceIdeal.main_arg6) :=
  (θ_run _ _ _).mono (fun r h c => by
    obtain ⟨e0, e1, e2, e3, e4, hkeep⟩ := h c
    exact ⟨e0.trans ((Cert.OutReferenceIdeal.Read.val_main_v42_eq _ _).trans (OutRef.res0)),
      e1.trans ((Cert.OutReferenceIdeal.Read.val_main_v43_eq _ _).trans (OutRef.res1)),
      e2.trans ((Cert.OutReferenceIdeal.Read.val_main_v44_eq _ _ _ _ _).trans (OutRef.res2)),
      e3.trans ((Cert.OutReferenceIdeal.Read.val_main_v48_eq _ _).trans (OutRef.res3)),
      e4.trans ((Cert.OutReferenceIdeal.Read.val_main_v41_eq _ _).trans (OutRef.res4)), hkeep⟩)
    (Cert.OutReferenceIdeal.Value.run m ρ)

end Ref

set_option maxHeartbeats 2000000 in
theorem algebraic : Cert.algebraic_OutIdeal_OutReferenceIdeal (hOutIdeal := Cert.OutIdeal.Gen.facts)
    (hOutReferenceIdeal := Cert.OutReferenceIdeal.Gen.facts) := by
  intro m g m' g' _ hargs
  have eP : ∀ c, parR m' c = par m c := fun c => by
    obtain ⟨a0, a1, a2, a3, a4, a5, a6⟩ := hargs c
    unfold parR
    rw [a4, a5, a6]; rfl
  have ev : ∀ c, inpR m' c = inp m c := fun c => by
    obtain ⟨a0, a1, a2, a3, a4, a5, a6⟩ := hargs c
    unfold inpR
    rw [a0, a1, a2, a3]; rfl
  have hR := run_ref m' g'
  simp only [eP, ev] at hR
  exact ⟨fun c => res0 m c, fun c => res1 m c, fun c => res2 m c, fun c => res3 m c, fun c => res4 m c, cast (by sl_kernel_rfl) (run_kernel m g), hR⟩

end Cert.OutClaim
-- ==== Proof.PreSpec.lean ====
/- The two causal convolutions, the gates before them, and the layer norm and swish after the second, over the extended reals:
   row `i` of each result as a function of the argument columns. -/
module

public import proofs.«01_k».proof.Proof.ConvSpec
public import proofs.«01_k».proof.Proof.OutSpec

@[expose] public section

set_option maxRecDepth 16384

noncomputable section

namespace Cert.PreSpec

open Finset Idealize.ShloMosaic Cert.Norm Cert.ConvSpec

/-- Entry `n` of a column of 8192 entries with 32 zeros in front. -/
def front (X : Fin 8192 → EReal) (n : ℕ) : EReal := if h : 32 ≤ n ∧ n < 8224 then X ⟨n - 32, by omega⟩ else 0

/-- Row `n` of a column after a causal filter: the last tap reads row `n`. -/
def fwd {K : ℕ} (w : Fin K → EReal) (X : Fin 8192 → EReal) (n : ℕ) : EReal := ∑ k : Fin K, w k * front X (n + (32 - (K - 1) + k.val))

theorem front_own (X : Fin 8192 → EReal) (i : Fin 8192) (n : ℕ) (h : n = i.val + 32) : front X n = X i := by
  subst h
  unfold front
  rw [dif_pos (by omega)]
  exact congrArg X (Fin.ext (Nat.add_sub_cancel _ _))

theorem sum_front {K : ℕ} (hK : K ≤ 33) (X : Fin 8192 → EReal) (t : Fin 8192) (k : Fin K) :
    (∑ s : Fin 8192, hit K k.val t.val s.val * X s) = front X (t.val + (32 - (K - 1) + k.val)) := by
  have hk := k.isLt
  have ht := t.isLt
  simp only [hit_mul]
  unfold front
  split
  · rename_i h
    rw [Finset.sum_eq_single (⟨t.val + (32 - (K - 1) + k.val) - 32, by omega⟩ : Fin 8192)]
    · rw [if_pos (by dsimp only; omega)]
    · intro b _ hb
      rw [if_neg fun e => hb (Fin.ext (by dsimp only; omega))]
    · intro h'; exact absurd (mem_univ _) h'
  · rename_i h
    exact Finset.sum_eq_zero fun s _ => if_neg fun e => h (by have := s.isLt; omega)

theorem fwd_eq {K : ℕ} (hK : K ≤ 33) (w : Fin K → EReal) (X : Fin 8192 → EReal) (t : Fin 8192) :
    (∑ k : Fin K, w k * ∑ s : Fin 8192, hit K k.val t.val s.val * X s) = fwd w X t.val :=
  Finset.sum_congr rfl fun k _ => congrArg (w k * ·) (sum_front hK X t k)

/-- The arguments: the projection's parts, both filters, the bias, and the layer norm's scale and shift. -/
structure Arg where
  p : Fin 7 → Fin 8192 → Row
  wa : Fin 3 → Row
  wb : Fin 31 → Row
  bias : Row
  gam : Row
  bet : Row

variable (A : Arg)

/-- The filters' arguments, column by column. -/
def za (q : Fin 1024) (i : Fin 8192) : EReal := A.p 1 i q * A.p 2 i q
def zb (q : Fin 1024) (i : Fin 8192) : EReal := A.p 3 i q * Ideal.logistic (A.p 4 i q)

/-- The first convolution, the other branch's factor times it, the second convolution with its bias, the normalised row scaled and shifted, and
    the swish of that. -/
def ca (i : Fin 8192) : Row := fun q => fwd (fun k => A.wa k q) (za A q) i.val
def ya (i : Fin 8192) : Row := fun q => A.p 0 i q * ca A i q
def u1 (i : Fin 8192) : Row := fun q => fwd (fun k => A.wb k q) (zb A q) i.val + A.bias q
def u2 (i : Fin 8192) : Row := fun q => nrm (u1 A i) q * A.gam q + A.bet q
def u3 (i : Fin 8192) : Row := fun q => u2 A i q * Ideal.logistic (u2 A i q)

end Cert.PreSpec
-- ==== Proof.PreRef.lean ====
/- The convolutions' forward reference, read one row at a time: each of its arrays at a row is the function of the arguments which PreSpec
   names. -/
module

public import proofs.«01_k».proof.Proof.PreSpec
public import proofs.«01_k».proof.Proof.ConvRef
public import proofs.«01_k».proof.Proof.Gen.PreReferenceIdeal.Read
public import Idealize.ShloMosaic.Lib.Pointwise

@[expose] public section

set_option maxRecDepth 16384

noncomputable section

namespace Cert.PreRef

open Cert.PreReferenceIdeal Cert.PreReferenceIdeal.Gen Cert.PreReferenceIdeal.Read Idealize.ShloMosaic Idealize.ShloMosaic.TcCoe
open Cert.Norm Cert.ConvSpec Cert.PreSpec Cert.Arrays

theorem hitA (k : Fin 3) (t s : Fin 8192) : val_main_v15 (F := Ideal) (ix3 k t s) = hit 3 k.val t.val s.val := by
  pointwise [val_main_v15, val_main_v14, val_main_v13, val_main_v12, val_main_v11, val_main_v10, val_main_v9, val_main_v8, val_main_c, val_main_call0_v0, val_main_call0_v1, val_main_cst, val_main_cst_0]
  exact ConvRef.select_hit _ _ (ConvRef.row_eq 3 k.val t.val s.val (by decide) k.isLt t.isLt s.isLt)

theorem hitB (k : Fin 31) (t s : Fin 8192) : val_main_v35 (F := Ideal) (ix3 k t s) = hit 31 k.val t.val s.val := by
  pointwise [val_main_v35, val_main_v34, val_main_v33, val_main_v32, val_main_v31, val_main_v30, val_main_v29, val_main_v28, val_main_c_4, val_main_call1_v0, val_main_call1_v1, val_main_cst_5, val_main_cst_6]
  exact ConvRef.select_hit _ _ (ConvRef.row_eq 31 k.val t.val s.val (by decide) k.isLt t.isLt s.isLt)

variable (x0 : (⟨S8192x7168, .f32⟩ : BufTy).Contents (Elt Ideal)) (x1 : (⟨S3x1024, .f32⟩ : BufTy).Contents (Elt Ideal))
  (x2 : (⟨S31x1024, .f32⟩ : BufTy).Contents (Elt Ideal)) (x3 x4 x5 : (⟨S1024, .f32⟩ : BufTy).Contents (Elt Ideal))

/-- Column `k` of the `q`-th of the seven parts of a row of the projection. -/
def part (q : Fin 7) (k : Fin 1024) : Fin 7168 := ⟨1024 * q + k, by omega⟩

/-- The arguments that the argument arrays hold. -/
def arg : Arg where
  p b i q := x0 (ix2 i (part b q))
  wa k q := x1 (ix2 k q)
  wb k q := x2 (ix2 k q)
  bias q := x3 (ix1 q)
  gam q := x4 (ix1 q)
  bet q := x5 (ix1 q)

include x0 x1 x2 x3 x4 x5

theorem at_v7 (i : Fin 8192) (q : Fin 1024) : val_main_v7 (F := Ideal) x0 (ix2 i q) = za (arg x0 x1 x2 x3 x4 x5) q i := by
  pointwise [val_main_v7, val_main_v1, val_main_v2]
  rfl
theorem at_v27 (i : Fin 8192) (q : Fin 1024) : val_main_v27 (F := Ideal) x0 (ix2 i q) = zb (arg x0 x1 x2 x3 x4 x5) q i := by
  pointwise [val_main_v27, val_main_v26, val_main_cst_3, val_main_v25, val_main_v24, val_main_v23, val_main_cst_2, val_main_v22, val_main_v21, val_main_v3, val_main_v4]
  rfl
theorem at_v20 (i : Fin 8192) (q : Fin 1024) : val_main_v20 (F := Ideal) x0 x1 (ix2 i q) = ca (arg x0 x1 x2 x3 x4 x5) i q := by
  refine Eq.trans ?_ (fwd_eq (by decide) (fun k => x1 (ix2 k q)) (za (arg x0 x1 x2 x3 x4 x5) q) i)
  pointwise [val_main_v20, val_main_cst_1, val_main_v19, val_main_v18, val_main_v17, val_main_v16, hitA, at_v7 x0 x1 x2 x3 x4 x5]
theorem at_v43 (i : Fin 8192) (q : Fin 1024) : val_main_v43 (F := Ideal) x0 x2 x3 (ix2 i q) = u1 (arg x0 x1 x2 x3 x4 x5) i q := by
  unfold u1
  refine Eq.trans ?_ (congrArg (· + x3 (ix1 q)) (fwd_eq (by decide) (fun k => x2 (ix2 k q)) (zb (arg x0 x1 x2 x3 x4 x5) q) i))
  pointwise [val_main_v43, val_main_v42, val_main_v41, val_main_v40, val_main_cst_7, val_main_v39, val_main_v38, val_main_v37, val_main_v36, hitB, at_v27 x0 x1 x2 x3 x4 x5]
theorem at_v49 (i : Fin 8192) (k : Fin 1024) : val_main_v49 (F := Ideal) x0 x2 x3 (ix2 i k) = cen (u1 (arg x0 x1 x2 x3 x4 x5) i) k := by
  pointwise [val_main_v49, val_main_v48, val_main_v47, val_main_v46, val_main_v45, val_main_v44, val_main_cst_8, val_main_cst_9, at_v43 x0 x1 x2 x3 x4 x5]
  rfl
theorem at_v59 (i : Fin 8192) (k : Fin 1024) : val_main_v59 (F := Ideal) x0 x2 x3 (ix2 i k) = cen (u1 (arg x0 x1 x2 x3 x4 x5) i) k := by
  pointwise [val_main_v59, val_main_v58, val_main_v47, val_main_v46, val_main_v45, val_main_v44, val_main_cst_8, val_main_cst_9, at_v43 x0 x1 x2 x3 x4 x5]
  rfl
theorem at_v57 (i : Fin 8192) : val_main_v57 (F := Ideal) x0 x2 x3 (ix2 i 0) = rs (u1 (arg x0 x1 x2 x3 x4 x5) i) := by
  pointwise [val_main_v57, val_main_v56, val_main_v55, val_main_v54, val_main_v53, val_main_v52, val_main_v51, val_main_v50, val_main_cst_10, val_main_cst_11, val_main_cst_12, at_v49 x0 x1 x2 x3 x4 x5]
  rfl
theorem at_v61 (i : Fin 8192) (k : Fin 1024) : val_main_v61 (F := Ideal) x0 x2 x3 (ix2 i k) = nrm (u1 (arg x0 x1 x2 x3 x4 x5) i) k := by
  pointwise [val_main_v61, val_main_v60, at_v59 x0 x1 x2 x3 x4 x5, at_v57 x0 x1 x2 x3 x4 x5]
  rfl
theorem at_v67 (i : Fin 8192) (k : Fin 1024) : val_main_v67 (F := Ideal) x0 x2 x3 x4 x5 (ix2 i k) = u2 (arg x0 x1 x2 x3 x4 x5) i k := by
  pointwise [val_main_v67, val_main_v66, val_main_v65, val_main_v64, val_main_v63, val_main_v62, at_v61 x0 x1 x2 x3 x4 x5]
  rfl
theorem at_v69 (i : Fin 8192) (k : Fin 1024) : val_main_v69 (F := Ideal) x0 x1 (ix2 i k) = ca (arg x0 x1 x2 x3 x4 x5) i k := by
  pointwise [val_main_v69, at_v20 x0 x1 x2 x3 x4 x5]
theorem at_v71 (i : Fin 8192) (k : Fin 1024) : val_main_v71 (F := Ideal) x0 x1 (ix2 i k) = ya (arg x0 x1 x2 x3 x4 x5) i k := by
  pointwise [val_main_v71, val_main_v70, val_main_v0, at_v20 x0 x1 x2 x3 x4 x5]
  exact congrArg (fun j => x0 (ix2 i j) * ca (arg x0 x1 x2 x3 x4 x5) i k) (Fin.ext (by simp [part]))
theorem at_v72 (i : Fin 8192) (k : Fin 1024) : val_main_v72 (F := Ideal) x0 x2 x3 x4 x5 (ix2 i k) = u3 (arg x0 x1 x2 x3 x4 x5) i k := by
  pointwise [val_main_v72, val_main_v68, val_main_call2_v5, val_main_call2_cst_0, val_main_call2_v4, val_main_call2_v3, val_main_call2_v2, val_main_call2_cst,
    val_main_call2_v1, val_main_call2_v0, at_v67 x0 x1 x2 x3 x4 x5]
  rfl
end Cert.PreRef
-- ==== Proof.PreProg.lean ====
/- The convolutions' forward body, written once for any lane group and any tap: the printed loop is the eight lane groups
   one after another, and a lane group is its taps one after another. -/
module

public import proofs.«01_k».proof.Proof.Gen.Pre.Skeleton
public import Idealize.ShloMosaic.Lib.Tactic

@[expose] public section

set_option maxRecDepth 65536

noncomputable section

namespace Cert.PreProg

open Cert.Pre Cert.Pre.Gen Idealize.ShloMosaic Idealize.SL.Sem

variable {F : FTy → Type} [FloatOps F]

abbrev Sh (r c : ℕ) : Shape := ⟨2, ![r, c]⟩

/-- Row `64 k` of trip `k`, as the body computes it, and column `c`. -/
def off (k : Fin k0_t1_loop.trips) (c : ℕ) : Fin 2 → ℕ :=
  ![(Scalar.indexCast (Scalar.muli (Scf.iv 0#32 1#32 k) 64#32)).toNat, c]

theorem off_in : ∀ (k : Fin k0_t1_loop.trips) (l : Fin 8) (a), off k (128 * l.val) a + S64x128.size a ≤ S512x1024.size a := by
  decide +kernel
theorem off_win : ∀ (k : Fin k0_t1_loop.trips) (l : Fin 8) (a), off k (128 * l.val) a + S96x128.size a ≤ S544x1024.size a := by
  decide +kernel
theorem off_packed : ∀ (k : Fin k0_t1_loop.trips) (l : Fin 8),
    (Rect.unit (s := S512x1024) (off k (128 * l.val)) S64x128.size (off_in k l)).PackedRows (EltTy.packing .bf16) := by
  decide +kernel
theorem row_in {K : ℕ} (k : Fin K) (l : Fin 8) : ∀ a, (![k.val, 128 * l.val] : Fin 2 → ℕ) a + S1x128.size a ≤ (Sh K 1024).size a :=
  Fin.forall_fin_two.mpr ⟨Nat.succ_le_of_lt k.isLt, by show 128 * l.val + 128 ≤ 1024; omega⟩

theorem slices_win (q : ℕ) (h : q ≤ 4) : S96x128.Slices ![8 * q, 0] S64x128 := by
  obtain rfl | rfl | rfl | rfl | rfl : q = 0 ∨ q = 1 ∨ q = 2 ∨ q = 3 ∨ q = 4 := by omega
  all_goals decide

/-- How far into the window tap `k` of `K` starts: the window has the 32 rows before the trip's own in front of them. -/
abbrev lag {K : ℕ} (k : Fin K) : ℕ := 32 - (K - 1) + k.val

/-- The rows that tap `k` multiplies. -/
def slice {K : ℕ} (hK : K ≤ 33) (k : Fin K) (w : FVec F S96x128 .f32) : FVec F S64x128 .f32 :=
  extractStridedSlice S64x128 ![8 * (lag k / 8), 0]
    (bif Nat.beq (lag k % 8) 0 then w else dynamicRotate 0 (BitVec.ofNat 32 (96 - lag k % 8)) none w rotates_S96x128_d0)
    (slices_win _ (by unfold lag; omega))

/-- The filtered rows after tap `k`. -/
def filt {K : ℕ} (hK : K ≤ 33) (k : Fin K) (w : FVec F S96x128 .f32) (c : Vec F S1x128 .f32) (a : FVec F S64x128 .f32) : FVec F S64x128 .f32 :=
  addf a (mulf (broadcastTo S64x128 c broadcasts_S1x128_S64x128) (slice hK k w))

abbrev P (F : FTy → Type) [FloatOps F] := Prog (TpuEff nD τ sig (Elt F) Λ₀ .tc)

/-- Row `k` of a filter, or the bias, in the columns of lane group `l`. -/
def getRow {K : ℕ} (cw : Memref sig .tc .vmem (Sh K 1024) .f32) (k : Fin K) (l : Fin 8) : P F (Vec F S1x128 .f32) :=
  Prog.lift (.load cw (Rect.unit (s := Sh K 1024) ![k.val, 128 * l.val] S1x128.size (row_in k l)).toLoadRect (View.loadsAt_vmem h_S1x128))

/-- The taps of a list in lane group `l`, one after another. -/
def taps {K : ℕ} (hK : K ≤ 33) (cw : Memref sig .tc .vmem (Sh K 1024) .f32) (l : Fin 8)
    (w : FVec F S96x128 .f32) : List (Fin K) → FVec F S64x128 .f32 → P F (FVec F S64x128 .f32)
  | [], a => pure a
  | k :: ks, a => do
    let c ← getRow cw k l
    taps hK cw l w ks (filt hK k w c a)

def zero64 : FVec F S64x128 .f32 := broadcast S64x128 (Scalar.ofBits .f32 0x00000000#32)

def tapsA : List (Fin 3) := [2, 0, 1]
def tapsB : List (Fin 31) := [6, 14, 22, 30, 7, 15, 23, 0, 8, 16, 24, 1, 9, 17, 25, 2, 10, 18, 26, 3, 11, 19, 27, 4, 12, 20, 28, 5, 13, 21, 29]

def narrow (a : FVec F S64x128 .f32) : FVec F S64x128 .bf16 := truncf .bf16 a bitsLt_bf16_f32
/-- The other branch's factor times the filtered rows. -/
def gated (b : Vec F S64x128 .bf16) (a : FVec F S64x128 .f32) : FVec F S64x128 .bf16 :=
  truncf .bf16 (mulf (extf .f32 (shapeCast S64x128 b shapeCasts_S64x128_S64x128) bitsLt_bf16_f32) a) bitsLt_bf16_f32
/-- The filtered rows and the bias. -/
def biased (a : FVec F S64x128 .f32) (b : Vec F S1x128 .f32) : FVec F S64x128 .f32 :=
  shapeCast S64x128 (addf a (broadcastTo S64x128 (shapeCast S1x128 b shapeCasts_S1x128_S1x128) broadcasts_S1x128_S64x128)) shapeCasts_S64x128_S64x128

section Lane

variable (ba : Memref sig .tc .vmem S512x1024 .bf16) (cwa : Memref sig .tc .vmem (Sh 3 1024) .f32) (cwb : Memref sig .tc .vmem (Sh 31 1024) .f32)
  (bias : Memref sig .tc .vmem (Sh 1 1024) .f32) (oa : Memref sig .tc .vmem S512x1024 .bf16) (hoa : oa.IsWhole)
  (oy : Memref sig .tc .vmem S512x1024 .bf16) (hoy : oy.IsWhole)
  (za : Memref sig .tc .vmem S544x1024 .f32) (zb : Memref sig .tc .vmem S544x1024 .f32) (u1 : Memref sig .tc .vmem S512x1024 .f32)
  (k : Fin k0_t1_loop.trips) (l : Fin 8)

def getWin (x : Memref sig .tc .vmem S544x1024 .f32) : P F (Vec F S96x128 .f32) :=
  Prog.lift (.load x (Rect.unit (s := S544x1024) (off k (128 * l.val)) S96x128.size (off_win k l)).toLoadRect (View.loadsAt_vmem h_S96x128))
def get (x : Memref sig .tc .vmem S512x1024 .bf16) : P F (Vec F S64x128 .bf16) :=
  Prog.lift (.load x (Rect.unit (s := S512x1024) (off k (128 * l.val)) S64x128.size (off_in k l)).toLoadRect (View.loadsAt_vmem h_S64x128))

/-- A store into a result's rows of trip `k`, columns of lane group `l`. -/
def put (x : Memref sig .tc .vmem S512x1024 .bf16) (hx : x.IsWhole) (v : FVec F S64x128 .bf16) : P F PUnit := do
  let _ : Vec F S64x128 .bf16 ← Prog.lift (.load x (Rect.unit (s := S512x1024) (off k (128 * l.val)) S64x128.size (off_in k l)).toLoadRect (View.loadsAt_vmem h_S64x128))
  Prog.lift (.store x (Rect.unit (s := S512x1024) (off k (128 * l.val)) S64x128.size (off_in k l)) v Finset.univ
    (View.stores_vmem h_S64x128 (hx.storeExact_slice rfl _ (off_packed k l)) (fun _ => rfl)) (.inl rfl))
def putS (x : Memref sig .tc .vmem S512x1024 .f32) (v : FVec F S64x128 .f32) : P F PUnit := do
  let _ : Vec F S64x128 .f32 ← Prog.lift (.load x (Rect.unit (s := S512x1024) (off k (128 * l.val)) S64x128.size (off_in k l)).toLoadRect (View.loadsAt_vmem h_S64x128))
  Prog.lift (.store x (Rect.unit (s := S512x1024) (off k (128 * l.val)) S64x128.size (off_in k l)) v Finset.univ
    (View.stores_vmem_bits_univ h_S64x128 rfl) (.inl rfl))

def laneA : P F PUnit := do
  let w ← getWin k l za
  let a ← taps (by decide) cwa l w tapsA zero64
  put k l oa hoa (narrow a)
  let b ← get k l ba
  put k l oy hoy (gated b a)

def laneB : P F PUnit := do
  let w ← getWin k l zb
  let a ← taps (by decide) cwb l w tapsB zero64
  let b ← getRow bias 0 l
  putS k l u1 (biased a b)

def lane : P F PUnit := do
  laneA ba cwa oa hoa oy hoy za k l
  laneB cwb bias zb u1 k l

def lanes : List (Fin 8) → P F PUnit
  | [] => pure ⟨⟩
  | l :: ls => do
    lane ba cwa cwb bias oa hoa oy hoy za zb u1 k l
    lanes ls

end Lane

theorem trip_eq {arg1 arg2 arg3 arg4 arg5 : Memref sig .tc .vmem S512x1024 .bf16} {arg6 arg7 arg8 arg9 : Memref sig .tc .vmem S32x1024 .bf16} {arg10 : Memref sig .tc .vmem S3x1024 .f32} {arg11 : Memref sig .tc .vmem S31x1024 .f32} {arg12 arg13 arg14 : Memref sig .tc .vmem S1x1024 .f32} {arg15 arg16 : Memref sig .tc .vmem S512x1024 .bf16} {arg17 : Memref sig .tc .vmem S512x1024 .f32} {arg18 : Memref sig .tc .vmem S512x1 .f32} {arg19 : Memref sig .tc .vmem S512x1024 .bf16} {arg20 arg21 : Memref sig .tc .vmem S544x1024 .f32} {arg22 : Memref sig .tc .vmem S512x1024 .f32} (i : grid0.Coords) {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg13 : arg13.IsWhole} {harg14 : arg14.IsWhole} {harg15 : arg15.IsWhole} {harg16 : arg16.IsWhole} {harg17 : arg17.IsWhole} {harg18 : arg18.IsWhole} {harg19 : arg19.IsWhole} {harg20 : arg20.IsWhole} {harg21 : arg21.IsWhole} {harg22 : arg22.IsWhole}
    (v37 : FVec F S512x1024 .f32) (k : Fin k0_t1_loop.trips) (u : Unit) :
    k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v37 k u
      = lanes arg1 arg10 arg11 arg12 arg15 harg15 arg16 harg16 arg20 arg21 arg22 k [0, 1, 2, 3, 4, 5, 6, 7] := by
  sl_kernel_rfl

/-- The lines before the loop: the two gates' products, the rows before the block in front. -/
def head (i : grid0.Coords) (arg2 arg3 arg4 arg5 : Memref sig .tc .vmem S512x1024 .bf16) (arg6 arg7 arg8 arg9 : Memref sig .tc .vmem S32x1024 .bf16)
    (arg20 arg21 : Memref sig .tc .vmem S544x1024 .f32) : P F PUnit := do
  let v3 : Vec F S32x1024 .bf16 ← Prog.lift (.load arg6 (Rect.unit (s := S32x1024) ![0, 0] S32x1024.size inb_S32x1024_S32x1024_0_0).toLoadRect (View.loadsAt_vmem h_S32x1024))
  let v6 : Vec F S32x1024 .bf16 ← Prog.lift (.load arg7 (Rect.unit (s := S32x1024) ![0, 0] S32x1024.size inb_S32x1024_S32x1024_0_0).toLoadRect (View.loadsAt_vmem h_S32x1024))
  let _ : Vec F S32x1024 .f32 ← Prog.lift (.load arg20 (Rect.unit (s := S544x1024) ![0, 0] S32x1024.size inb_S544x1024_S32x1024_0_0).toLoadRect (View.loadsAt_vmem h_S32x1024))
  Prog.lift (.store arg20 (Rect.unit (s := S544x1024) ![0, 0] S32x1024.size inb_S544x1024_S32x1024_0_0) (k0_pay138 i v3 v6) Finset.univ (View.stores_vmem_bits_univ h_S32x1024 rfl) (.inl rfl))
  let v15 : Vec F S32x1024 .bf16 ← Prog.lift (.load arg8 (Rect.unit (s := S32x1024) ![0, 0] S32x1024.size inb_S32x1024_S32x1024_0_0).toLoadRect (View.loadsAt_vmem h_S32x1024))
  let v18 : Vec F S32x1024 .bf16 ← Prog.lift (.load arg9 (Rect.unit (s := S32x1024) ![0, 0] S32x1024.size inb_S32x1024_S32x1024_0_0).toLoadRect (View.loadsAt_vmem h_S32x1024))
  let _ : Vec F S32x1024 .f32 ← Prog.lift (.load arg21 (Rect.unit (s := S544x1024) ![0, 0] S32x1024.size inb_S544x1024_S32x1024_0_0).toLoadRect (View.loadsAt_vmem h_S32x1024))
  Prog.lift (.store arg21 (Rect.unit (s := S544x1024) ![0, 0] S32x1024.size inb_S544x1024_S32x1024_0_0) (k0_pay139 i v15 v18) Finset.univ (View.stores_vmem_bits_univ h_S32x1024 rfl) (.inl rfl))
  let v28 : Vec F S512x1024 .bf16 ← Prog.lift (.load arg2 (Rect.unit (s := S512x1024) ![0, 0] S512x1024.size inb_S512x1024_S512x1024_0_0).toLoadRect (View.loadsAt_vmem h_S512x1024))
  let v31 : Vec F S512x1024 .bf16 ← Prog.lift (.load arg3 (Rect.unit (s := S512x1024) ![0, 0] S512x1024.size inb_S512x1024_S512x1024_0_0).toLoadRect (View.loadsAt_vmem h_S512x1024))
  let _ : Vec F S512x1024 .f32 ← Prog.lift (.load arg20 (Rect.unit (s := S544x1024) ![32, 0] S512x1024.size inb_S544x1024_S512x1024_32_0).toLoadRect (View.loadsAt_vmem h_S512x1024))
  Prog.lift (.store arg20 (Rect.unit (s := S544x1024) ![32, 0] S512x1024.size inb_S544x1024_S512x1024_32_0) (k0_pay140 v28 v31) Finset.univ (View.stores_vmem_bits_univ h_S512x1024 rfl) (.inl rfl))
  let v38 : Vec F S512x1024 .bf16 ← Prog.lift (.load arg4 (Rect.unit (s := S512x1024) ![0, 0] S512x1024.size inb_S512x1024_S512x1024_0_0).toLoadRect (View.loadsAt_vmem h_S512x1024))
  let v41 : Vec F S512x1024 .bf16 ← Prog.lift (.load arg5 (Rect.unit (s := S512x1024) ![0, 0] S512x1024.size inb_S512x1024_S512x1024_0_0).toLoadRect (View.loadsAt_vmem h_S512x1024))
  let _ : Vec F S512x1024 .f32 ← Prog.lift (.load arg21 (Rect.unit (s := S544x1024) ![32, 0] S512x1024.size inb_S544x1024_S512x1024_32_0).toLoadRect (View.loadsAt_vmem h_S512x1024))
  Prog.lift (.store arg21 (Rect.unit (s := S544x1024) ![32, 0] S512x1024.size inb_S544x1024_S512x1024_32_0) (k0_pay141 v38 v41) Finset.univ (View.stores_vmem_bits_univ h_S512x1024 rfl) (.inl rfl))

/-- The lines after the loop, up to the first factor of the layer norm's scale. -/
def mid (arg13 : Memref sig .tc .vmem (Sh 1 1024) .f32) (arg17 : Memref sig .tc .vmem S512x1024 .f32) (arg18 : Memref sig .tc .vmem S512x1 .f32)
    (arg22 : Memref sig .tc .vmem S512x1024 .f32) : P F (Σ' (_ : FVec F S512x1024 .f32), Vec F S1x1024 .f32) := do
  let v50 : Vec F S512x1024 .f32 ← Prog.lift (.load arg22 (Rect.unit (s := S512x1024) ![0, 0] S512x1024.size inb_S512x1024_S512x1024_0_0).toLoadRect (View.loadsAt_vmem h_S512x1024))
  let _ : Vec F S512x1024 .f32 ← Prog.lift (.load arg17 (Rect.unit (s := S512x1024) ![0, 0] S512x1024.size inb_S512x1024_S512x1024_0_0).toLoadRect (View.loadsAt_vmem h_S512x1024))
  Prog.lift (.store arg17 (Rect.unit (s := S512x1024) ![0, 0] S512x1024.size inb_S512x1024_S512x1024_0_0) (k0_pay145 v50) Finset.univ (View.stores_vmem_bits_univ h_S512x1024 rfl) (.inl rfl))
  let _ : Vec F S512x1 .f32 ← Prog.lift (.load arg18 (Rect.unit (s := S512x1) ![0, 0] S512x1.size inb_S512x1_S512x1_0_0).toLoadRect (View.loadsAt_vmem h_S512x1))
  Prog.lift (.store arg18 (Rect.unit (s := S512x1) ![0, 0] S512x1.size inb_S512x1_S512x1_0_0) (k0_pay144 v50) Finset.univ (View.stores_vmem_bits_univ h_S512x1 rfl) (.inl rfl))
  let v69 : Vec F S1x1024 .f32 ← Prog.lift (.load arg13 (Rect.unit (s := S1x1024) ![0, 0] S1x1024.size inb_S1x1024_S1x1024_0_0).toLoadRect (View.loadsAt_vmem h_S1x1024))
  pure ⟨k0_pay145 v50, v69⟩

/-- The last lines: scale, shift and swish. -/
def fin (arg14 : Memref sig .tc .vmem (Sh 1 1024) .f32) (arg19 : Memref sig .tc .vmem S512x1024 .bf16) (harg19 : arg19.IsWhole)
    (v : Σ' (_ : FVec F S512x1024 .f32), Vec F S1x1024 .f32) : P F PUnit := do
  let v73 : Vec F S1x1024 .f32 ← Prog.lift (.load arg14 (Rect.unit (s := S1x1024) ![0, 0] S1x1024.size inb_S1x1024_S1x1024_0_0).toLoadRect (View.loadsAt_vmem h_S1x1024))
  let _ : Vec F S512x1024 .bf16 ← Prog.lift (.load arg19 (Rect.unit (s := S512x1024) ![0, 0] S512x1024.size inb_S512x1024_S512x1024_0_0).toLoadRect (View.loadsAt_vmem h_S512x1024))
  Prog.lift (.store arg19 (Rect.unit (s := S512x1024) ![0, 0] S512x1024.size inb_S512x1024_S512x1024_0_0) (k0_pay1 v.1 v.2 v73) Finset.univ (View.stores_vmem h_S512x1024 (harg19.storeExact_slice rfl _ packedbf16_S512x1024_S512x1024_0_0) (fun _ => rfl)) (.inl rfl))
  pure ⟨⟩

theorem body_nested {arg1 arg2 arg3 arg4 arg5 : Memref sig .tc .vmem S512x1024 .bf16} {arg6 arg7 arg8 arg9 : Memref sig .tc .vmem S32x1024 .bf16} {arg10 : Memref sig .tc .vmem S3x1024 .f32} {arg11 : Memref sig .tc .vmem S31x1024 .f32} {arg12 arg13 arg14 : Memref sig .tc .vmem S1x1024 .f32} {arg15 arg16 : Memref sig .tc .vmem S512x1024 .bf16} {arg17 : Memref sig .tc .vmem S512x1024 .f32} {arg18 : Memref sig .tc .vmem S512x1 .f32} {arg19 : Memref sig .tc .vmem S512x1024 .bf16} {arg20 arg21 : Memref sig .tc .vmem S544x1024 .f32} {arg22 : Memref sig .tc .vmem S512x1024 .f32} (i : grid0.Coords) {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg13 : arg13.IsWhole} {harg14 : arg14.IsWhole} {harg15 : arg15.IsWhole} {harg16 : arg16.IsWhole} {harg17 : arg17.IsWhole} {harg18 : arg18.IsWhole} {harg19 : arg19.IsWhole} {harg20 : arg20.IsWhole} {harg21 : arg21.IsWhole} {harg22 : arg22.IsWhole} :
    cc0_conv_fwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 = ((do
      head i arg2 arg3 arg4 arg5 arg6 arg7 arg8 arg9 arg20 arg21
      (do
        Scf.Loop.for k0_t1_loop k0_t1_ok ⟨⟩ (fun k _ => lanes arg1 arg10 arg11 arg12 arg15 harg15 arg16 harg16 arg20 arg21 arg22 k [0, 1, 2, 3, 4, 5, 6, 7])
        mid arg13 arg17 arg18 arg22)) >>= fin arg14 arg19 harg19) := by
  sl_kernel_rfl

theorem body_eq {arg1 arg2 arg3 arg4 arg5 : Memref sig .tc .vmem S512x1024 .bf16} {arg6 arg7 arg8 arg9 : Memref sig .tc .vmem S32x1024 .bf16} {arg10 : Memref sig .tc .vmem S3x1024 .f32} {arg11 : Memref sig .tc .vmem S31x1024 .f32} {arg12 arg13 arg14 : Memref sig .tc .vmem S1x1024 .f32} {arg15 arg16 : Memref sig .tc .vmem S512x1024 .bf16} {arg17 : Memref sig .tc .vmem S512x1024 .f32} {arg18 : Memref sig .tc .vmem S512x1 .f32} {arg19 : Memref sig .tc .vmem S512x1024 .bf16} {arg20 arg21 : Memref sig .tc .vmem S544x1024 .f32} {arg22 : Memref sig .tc .vmem S512x1024 .f32} (i : grid0.Coords) {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg13 : arg13.IsWhole} {harg14 : arg14.IsWhole} {harg15 : arg15.IsWhole} {harg16 : arg16.IsWhole} {harg17 : arg17.IsWhole} {harg18 : arg18.IsWhole} {harg19 : arg19.IsWhole} {harg20 : arg20.IsWhole} {harg21 : arg21.IsWhole} {harg22 : arg22.IsWhole} :
    cc0_conv_fwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 = (do
      head i arg2 arg3 arg4 arg5 arg6 arg7 arg8 arg9 arg20 arg21
      Scf.Loop.for k0_t1_loop k0_t1_ok ⟨⟩ (fun k _ => lanes arg1 arg10 arg11 arg12 arg15 harg15 arg16 harg16 arg20 arg21 arg22 k [0, 1, 2, 3, 4, 5, 6, 7])
      mid arg13 arg17 arg18 arg22 >>= fin arg14 arg19 harg19) := by
  rw [body_nested, bind_assoc, bind_assoc]

end Cert.PreProg
-- ==== Proof.PreRun.lean ====
/- The convolutions' forward loop: what it leaves in each block. -/
module

public import proofs.«01_k».proof.Proof.Blocks
public import proofs.«01_k».proof.Proof.PreProg

@[expose] public section

set_option maxRecDepth 16384

noncomputable section

namespace Cert.PreRun

open Cert.Pre Cert.Pre.Gen Cert.PreProg Cert.Blocks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem lane_le (l : Fin 8) : 128 * l.val + 128 ≤ 1024 := by omega
theorem row_le {K : ℕ} (k : Fin K) : k.val + 1 ≤ K := k.isLt
theorem trips_eq : k0_t1_loop.trips = 8 := by decide +kernel
theorem off_row : ∀ (k : Fin k0_t1_loop.trips) (c : ℕ), off k c 0 = 64 * k.val := by
  have h : ∀ k : Fin k0_t1_loop.trips, (Scalar.indexCast (Scalar.muli (Scf.iv 0#32 1#32 k) 64#32)).toNat = 64 * k.val := by decide +kernel
  exact fun k _ => h k
theorem trip_le (k : Fin k0_t1_loop.trips) : 64 * k.val + 64 ≤ 512 := by have := lt_of_lt_of_eq k.isLt trips_eq; omega
theorem win_le (k : Fin k0_t1_loop.trips) : 64 * k.val + 96 ≤ 544 := by have := lt_of_lt_of_eq k.isLt trips_eq; omega

/-! ## Blocks of 64 rows and 128 columns that fill an array -/

section Fill

variable {α : Type} (v : Fin k0_t1_loop.trips → Fin 8 → S64x128.Idx → α)

theorem trip_lt (j : S512x1024.Idx) : (j 0).val / 64 < k0_t1_loop.trips := by
  have h : (j 0).val < 512 := (j 0).isLt
  rw [trips_eq]; omega
theorem lane_lt (j : S512x1024.Idx) : (j 1).val / 128 < 8 := by
  have h : (j 1).val < 1024 := (j 1).isLt
  omega

/-- Where entry `j` lies in its block. -/
def cell (j : S512x1024.Idx) : S64x128.Idx := ix2 ⟨(j 0).val % 64, Nat.mod_lt _ (by decide)⟩ ⟨(j 1).val % 128, Nat.mod_lt _ (by decide)⟩

/-- The array whose block of trip `k`, lane group `l` is `v k l`. -/
def whole : S512x1024.Idx → α := fun j => v ⟨(j 0).val / 64, trip_lt j⟩ ⟨(j 1).val / 128, lane_lt j⟩ (cell j)

def groups : List (Fin 8) := [0, 1, 2, 3, 4, 5, 6, 7]
theorem groups_mem : ∀ l : Fin 8, l ∈ groups := by decide

/-- One block written. -/
abbrev fillLane (k : Fin k0_t1_loop.trips) (y : S512x1024.Idx → α) (l : Fin 8) : S512x1024.Idx → α := stb y (64 * k.val) (128 * l.val) (v k l)

/-- The blocks of the first `n` trips written. -/
def fill (y : S512x1024.Idx → α) : ℕ → S512x1024.Idx → α
  | 0 => y
  | n + 1 => if h : n < k0_t1_loop.trips then groups.foldl (fillLane v ⟨n, h⟩) (fill y n) else fill y n

theorem fillLane_at (k : Fin k0_t1_loop.trips) (y : S512x1024.Idx → α) (l : Fin 8) (j : S512x1024.Idx) :
    fillLane v k y l j = if (j 0).val / 64 = k.val ∧ (j 1).val / 128 = l.val then whole v j else y j := by
  unfold fillLane stb
  by_cases h : (j 0).val / 64 = k.val ∧ (j 1).val / 128 = l.val
  · rw [if_pos h, dif_pos (by omega)]
    unfold whole cell
    have ek : (⟨(j 0).val / 64, trip_lt j⟩ : Fin k0_t1_loop.trips) = k := Fin.ext h.1
    have el : (⟨(j 1).val / 128, lane_lt j⟩ : Fin 8) = l := Fin.ext h.2
    have e0 : (j 0).val - 64 * k.val = (j 0).val % 64 := by omega
    have e1 : (j 1).val - 128 * l.val = (j 1).val % 128 := by omega
    simp only [ek, el, e0, e1]
  · rw [if_neg h, dif_neg (by omega)]

theorem fillLanes_at (k : Fin k0_t1_loop.trips) (j : S512x1024.Idx) (ls : List (Fin 8)) : ∀ y : S512x1024.Idx → α,
    ls.foldl (fillLane v k) y j = if (j 0).val / 64 = k.val ∧ (⟨(j 1).val / 128, lane_lt j⟩ : Fin 8) ∈ ls then whole v j else y j := by
  induction ls with
  | nil => intro y; simp
  | cons l ls ih =>
    intro y
    rw [List.foldl_cons, ih, fillLane_at]
    by_cases hk : (j 0).val / 64 = k.val
    · by_cases hm : (⟨(j 1).val / 128, lane_lt j⟩ : Fin 8) ∈ ls
      · simp [hk, hm]
      · simp [hk, hm, Fin.ext_iff]
    · simp [hk]

theorem fill_at (y : S512x1024.Idx → α) (j : S512x1024.Idx) : ∀ n, n ≤ k0_t1_loop.trips →
    fill v y n j = if (j 0).val / 64 < n then whole v j else y j := by
  intro n
  induction n with
  | zero => intro _; simp [fill]
  | succ n ih =>
    intro hn
    unfold fill
    rw [dif_pos (Nat.lt_of_succ_le hn), fillLanes_at, ih (Nat.le_of_succ_le hn)]
    simp only [groups_mem, and_true]
    by_cases h1 : (j 0).val / 64 = n
    · rw [if_pos h1, if_pos (by omega)]
    · rw [if_neg h1]
      by_cases h2 : (j 0).val / 64 < n
      · rw [if_pos h2, if_pos (by omega)]
      · rw [if_neg h2, if_neg (by omega)]

theorem fill_all (y : S512x1024.Idx → α) : fill v y k0_t1_loop.trips = whole v :=
  funext fun j => (fill_at v y j _ (le_refl _)).trans (if_pos (trip_lt j))

end Fill

/-! ## One lane group -/

section Tap

variable {K : ℕ} (hK : K ≤ 33) (W : Vec F (PreProg.Sh K 1024) .f32) (l : Fin 8) (w : FVec F S96x128 .f32)

/-- The filtered rows after tap `k`. -/
def stepFilt (a : FVec F S64x128 .f32) (k : Fin K) : FVec F S64x128 .f32 :=
  filt hK k w (ldb 1 128 W k.val (128 * l.val) (row_le k) (lane_le l)) a

theorem wp_getRow (c : Dev nD) {cw : Memref sig .tc .vmem (PreProg.Sh K 1024) .f32} (hcw : cw.IsWhole) (k : Fin K) {E : Set ℕ} {Q : Vec F S1x128 .f32 → sProp 𝕄} :
    iprop(owns c.tc cw fullShare W ∗ (owns c.tc cw fullShare W -∗ Q (ldb 1 128 W k.val (128 * l.val) (row_le k) (lane_le l))))
      ⊢ wp frame (wpE (defs₀ (F := F)) Variants.none c none) E (getRow cw k l) Q := by
  unfold getRow owns
  iintro ⟨⟨%f0, %e0, H0⟩, Hk⟩
  obtain rfl := hcw.eq_unread e0
  sl_exec
  sl_step
  rw [readAt_ldb (n := 1) (m := 128) cw.view _ _ k.val (128 * l.val) rfl rfl (row_le k) (lane_le l), hcw.read_unread]
  iapply Hk
  iexists _; isplitr; · (ipureintro; exact hcw.read_unread _)
  iexact H0

theorem wp_taps (c : Dev nD) {cw : Memref sig .tc .vmem (PreProg.Sh K 1024) .f32} (hcw : cw.IsWhole) {E : Set ℕ} {Q : FVec F S64x128 .f32 → sProp 𝕄}
    (ks : List (Fin K)) : ∀ a : FVec F S64x128 .f32,
    iprop(owns c.tc cw fullShare W ∗ (owns c.tc cw fullShare W -∗ Q (ks.foldl (stepFilt hK W l w) a)))
      ⊢ wp frame (wpE (defs₀ (F := F)) Variants.none c none) E (taps hK cw l w ks a) Q := by
  induction ks with
  | nil =>
    intro a
    iintro ⟨H0, Hk⟩
    unfold taps
    simp only [List.foldl_nil]
    sl_step
    iapply Hk; iexact H0
  | cons k ks ih =>
    intro a
    unfold taps
    simp only [List.foldl_cons]
    iintro ⟨H0, Hk⟩
    rw [wp_bind]
    iapply (wp_getRow W l c hcw k)
    isplitl [H0]; · iexact H0
    iintro H0
    iapply (ih (stepFilt hK W l w a k))
    isplitl [H0]; · iexact H0
    iexact Hk

end Tap

section Mem

variable (c : Dev nD) (k : Fin k0_t1_loop.trips) (l : Fin 8) {E : Set ℕ}

/-- Rows of trip `k`, columns of lane group `l`. -/
abbrev sub {α : Type} (X : S512x1024.Idx → α) : S64x128.Idx → α := ldb 64 128 X (64 * k.val) (128 * l.val) (trip_le k) (lane_le l)
/-- The 96 rows from there on in an array with 32 rows in front. -/
abbrev win {α : Type} (X : S544x1024.Idx → α) : S96x128.Idx → α := ldb 96 128 X (64 * k.val) (128 * l.val) (win_le k) (lane_le l)

theorem wp_get {x : Memref sig .tc .vmem S512x1024 .bf16} (hx : x.IsWhole) (X : Vec F S512x1024 .bf16) {Q : Vec F S64x128 .bf16 → sProp 𝕄} :
    iprop(owns c.tc x fullShare X ∗ (owns c.tc x fullShare X -∗ Q (sub k l X)))
      ⊢ wp frame (wpE (defs₀ (F := F)) Variants.none c none) E (PreProg.get k l x) Q := by
  unfold PreProg.get owns
  iintro ⟨⟨%f0, %e0, H0⟩, Hk⟩
  obtain rfl := hx.eq_unread e0
  sl_exec
  sl_step
  rw [readAt_ldb (n := 64) (m := 128) x.view _ _ (64 * k.val) (128 * l.val) (off_row k _) rfl (trip_le k) (lane_le l), hx.read_unread]
  iapply Hk
  iexists _; isplitr; · (ipureintro; exact hx.read_unread _)
  iexact H0

theorem wp_getWin {x : Memref sig .tc .vmem S544x1024 .f32} (hx : x.IsWhole) (X : Vec F S544x1024 .f32) {Q : Vec F S96x128 .f32 → sProp 𝕄} :
    iprop(owns c.tc x fullShare X ∗ (owns c.tc x fullShare X -∗ Q (win k l X)))
      ⊢ wp frame (wpE (defs₀ (F := F)) Variants.none c none) E (getWin k l x) Q := by
  unfold getWin owns
  iintro ⟨⟨%f0, %e0, H0⟩, Hk⟩
  obtain rfl := hx.eq_unread e0
  sl_exec
  sl_step
  rw [readAt_ldb (n := 96) (m := 128) x.view _ _ (64 * k.val) (128 * l.val) (off_row k _) rfl (win_le k) (lane_le l), hx.read_unread]
  iapply Hk
  iexists _; isplitr; · (ipureintro; exact hx.read_unread _)
  iexact H0

theorem wp_put {x : Memref sig .tc .vmem S512x1024 .bf16} (hx : x.IsWhole) (y : Vec F S512x1024 .bf16) (v : FVec F S64x128 .bf16) {Q : PUnit → sProp 𝕄} :
    iprop(owns c.tc x fullShare y ∗ (owns c.tc x fullShare (stb y (64 * k.val) (128 * l.val) v) -∗ Q ⟨⟩))
      ⊢ wp frame (wpE (defs₀ (F := F)) Variants.none c none) E (put k l x hx v) Q := by
  unfold put owns
  iintro ⟨⟨%f0, %e0, H0⟩, Hk⟩
  obtain rfl := hx.eq_unread e0
  sl_exec
  sl_step
  iapply Hk
  iexists _; isplitr; swap; · iexact H0
  ipureintro
  rw [read_stb (n := 64) (m := 128) x.view _ _ (64 * k.val) (128 * l.val) (off_row k _) rfl]
  show stb (x.view.read (Elt F) (hx.unread y)) _ _ _ = _
  rw [hx.read_unread]

theorem wp_putS {x : Memref sig .tc .vmem S512x1024 .f32} (hx : x.IsWhole) (y : Vec F S512x1024 .f32) (v : FVec F S64x128 .f32) {Q : PUnit → sProp 𝕄} :
    iprop(owns c.tc x fullShare y ∗ (owns c.tc x fullShare (stb y (64 * k.val) (128 * l.val) v) -∗ Q ⟨⟩))
      ⊢ wp frame (wpE (defs₀ (F := F)) Variants.none c none) E (putS k l x v) Q := by
  unfold putS owns
  iintro ⟨⟨%f0, %e0, H0⟩, Hk⟩
  obtain rfl := hx.eq_unread e0
  sl_exec
  sl_step
  iapply Hk
  iexists _; isplitr; swap; · iexact H0
  ipureintro
  rw [read_stb (n := 64) (m := 128) x.view _ _ (64 * k.val) (128 * l.val) (off_row k _) rfl]
  show stb (x.view.read (Elt F) (hx.unread y)) _ _ _ = _
  rw [hx.read_unread]

end Mem

/-- What the loop reads: the other branch's factor, the filters, the bias, and both convolutions' rows with 32 in front. -/
structure Rd (F : FTy → Type) [FloatOps F] where
  ba : Vec F S512x1024 .bf16
  cwa : Vec F (PreProg.Sh 3 1024) .f32
  cwb : Vec F (PreProg.Sh 31 1024) .f32
  bias : Vec F (PreProg.Sh 1 1024) .f32
  za : Vec F S544x1024 .f32
  zb : Vec F S544x1024 .f32

/-- What the loop writes. -/
structure St (F : FTy → Type) [FloatOps F] where
  oa : Vec F S512x1024 .bf16
  oy : Vec F S512x1024 .bf16
  u1 : Vec F S512x1024 .f32

theorem three : 3 ≤ 33 := by decide
theorem many : 31 ≤ 33 := by decide

section Vals

variable (R : Rd F) (k : Fin k0_t1_loop.trips) (l : Fin 8)

def filtA : FVec F S64x128 .f32 := tapsA.foldl (stepFilt three R.cwa l (win k l R.za)) zero64
def filtB : FVec F S64x128 .f32 := tapsB.foldl (stepFilt many R.cwb l (win k l R.zb)) zero64

def valA : Fin k0_t1_loop.trips → Fin 8 → FVec F S64x128 .bf16 := fun k l => narrow (filtA R k l)
def valY : Fin k0_t1_loop.trips → Fin 8 → FVec F S64x128 .bf16 := fun k l => gated (sub k l R.ba) (filtA R k l)
def valU : Fin k0_t1_loop.trips → Fin 8 → FVec F S64x128 .f32 := fun k l =>
  biased (filtB R k l) (ldb 1 128 R.bias 0 (128 * l.val) (le_refl _) (lane_le l))

/-- After lane group `l` of trip `k`. -/
def laneSt (s : St F) (l : Fin 8) : St F where
  oa := fillLane (valA R) k s.oa l
  oy := fillLane (valY R) k s.oy l
  u1 := fillLane (valU R) k s.u1 l

/-- After `n` trips. -/
def loopSt (s : St F) : ℕ → St F
  | 0 => s
  | n + 1 => if h : n < k0_t1_loop.trips then groups.foldl (laneSt R ⟨n, h⟩) (loopSt s n) else loopSt s n

theorem lanes_parts (ls : List (Fin 8)) : ∀ s : St F, ls.foldl (laneSt R k) s
    = ⟨ls.foldl (fillLane (valA R) k) s.oa, ls.foldl (fillLane (valY R) k) s.oy, ls.foldl (fillLane (valU R) k) s.u1⟩ := by
  induction ls with
  | nil => intro s; rfl
  | cons l ls ih => intro s; rw [List.foldl_cons, ih]; rfl

theorem loop_parts (s : St F) (n : ℕ) : loopSt R s n = ⟨fill (valA R) s.oa n, fill (valY R) s.oy n, fill (valU R) s.u1 n⟩ := by
  induction n with
  | zero => rfl
  | succ n ih =>
    unfold loopSt fill
    by_cases h : n < k0_t1_loop.trips
    · rw [dif_pos h, dif_pos h, dif_pos h, dif_pos h, lanes_parts, ih]
    · rw [dif_neg h, dif_neg h, dif_neg h, dif_neg h, ih]

theorem loop_all (s : St F) : loopSt R s k0_t1_loop.trips = ⟨whole (valA R), whole (valY R), whole (valU R)⟩ := by
  rw [loop_parts, fill_all, fill_all, fill_all]

end Vals

section Loop

variable (c : Dev nD) {E : Set ℕ} {ba : Memref sig .tc .vmem S512x1024 .bf16} {cwa : Memref sig .tc .vmem (PreProg.Sh 3 1024) .f32}
  {cwb : Memref sig .tc .vmem (PreProg.Sh 31 1024) .f32} {bias : Memref sig .tc .vmem (PreProg.Sh 1 1024) .f32}
  {oa oy : Memref sig .tc .vmem S512x1024 .bf16} {za zb : Memref sig .tc .vmem S544x1024 .f32} {u1 : Memref sig .tc .vmem S512x1024 .f32}
  (hba : ba.IsWhole) (hcwa : cwa.IsWhole) (hcwb : cwb.IsWhole) (hbias : bias.IsWhole) (hoa : oa.IsWhole) (hoy : oy.IsWhole)
  (hza : za.IsWhole) (hzb : zb.IsWhole) (hu1 : u1.IsWhole)

variable (ba cwa cwb bias oa oy za zb u1) in
/-- The loop's blocks hold `R` and `s`. -/
def Held (R : Rd F) (s : St F) : sProp 𝕄 :=
  iprop(owns c.tc ba fullShare R.ba ∗ owns c.tc cwa fullShare R.cwa ∗ owns c.tc cwb fullShare R.cwb
    ∗ owns c.tc bias fullShare R.bias ∗ owns c.tc za fullShare R.za ∗ owns c.tc zb fullShare R.zb
    ∗ owns c.tc oa fullShare s.oa ∗ owns c.tc oy fullShare s.oy ∗ owns c.tc u1 fullShare s.u1)

variable (R : Rd F) (k : Fin k0_t1_loop.trips)

include hba hcwa hcwb hbias hza hzb hu1

theorem wp_lane (s : St F) (l : Fin 8) {Q : PUnit → sProp 𝕄} :
    iprop(Held c ba cwa cwb bias oa oy za zb u1 R s ∗ (Held c ba cwa cwb bias oa oy za zb u1 R (laneSt R k s l) -∗ Q ⟨⟩))
      ⊢ wp frame (wpE (defs₀ (F := F)) Variants.none c none) E (lane ba cwa cwb bias oa hoa oy hoy za zb u1 k l) Q := by
  unfold Held lane laneA laneB
  iintro ⟨⟨Hba, Hcwa, Hcwb, Hbias, Hza, Hzb, Hoa, Hoy, Hu1⟩, Hk⟩
  rw [wp_bind, wp_bind]
  iapply (wp_getWin c k l hza R.za); isplitl [Hza]; · iexact Hza
  iintro Hza
  rw [wp_bind]
  iapply (wp_taps three R.cwa l (win k l R.za) c hcwa tapsA zero64); isplitl [Hcwa]; · iexact Hcwa
  iintro Hcwa
  rw [wp_bind]
  iapply (wp_put c k l hoa s.oa (narrow (filtA R k l))); isplitl [Hoa]; · iexact Hoa
  iintro Hoa
  rw [wp_bind]
  iapply (wp_get c k l hba R.ba); isplitl [Hba]; · iexact Hba
  iintro Hba
  iapply (wp_put c k l hoy s.oy (gated (sub k l R.ba) (filtA R k l))); isplitl [Hoy]; · iexact Hoy
  iintro Hoy
  rw [wp_bind]
  iapply (wp_getWin c k l hzb R.zb); isplitl [Hzb]; · iexact Hzb
  iintro Hzb
  rw [wp_bind]
  iapply (wp_taps many R.cwb l (win k l R.zb) c hcwb tapsB zero64); isplitl [Hcwb]; · iexact Hcwb
  iintro Hcwb
  rw [wp_bind]
  iapply (wp_getRow R.bias l c hbias 0); isplitl [Hbias]; · iexact Hbias
  iintro Hbias
  iapply (wp_putS c k l hu1 s.u1 (valU R k l)); isplitl [Hu1]; · iexact Hu1
  iintro Hu1
  iapply Hk
  isplitl [Hba]; · iexact Hba
  isplitl [Hcwa]; · iexact Hcwa
  isplitl [Hcwb]; · iexact Hcwb
  isplitl [Hbias]; · iexact Hbias
  isplitl [Hza]; · iexact Hza
  isplitl [Hzb]; · iexact Hzb
  isplitl [Hoa]; · iexact Hoa
  isplitl [Hoy]; · iexact Hoy
  iexact Hu1

theorem wp_lanes {Q : PUnit → sProp 𝕄} (ls : List (Fin 8)) : ∀ s : St F,
    iprop(Held c ba cwa cwb bias oa oy za zb u1 R s ∗ (Held c ba cwa cwb bias oa oy za zb u1 R (ls.foldl (laneSt R k) s) -∗ Q ⟨⟩))
      ⊢ wp frame (wpE (defs₀ (F := F)) Variants.none c none) E (lanes ba cwa cwb bias oa hoa oy hoy za zb u1 k ls) Q := by
  induction ls with
  | nil =>
    intro s
    iintro ⟨H, Hk⟩
    unfold lanes
    simp only [List.foldl_nil]
    sl_step
    iapply Hk; iexact H
  | cons l ls ih =>
    intro s
    iintro ⟨H, Hk⟩
    unfold lanes
    simp only [List.foldl_cons]
    rw [wp_bind]
    iapply (wp_lane c hba hcwa hcwb hbias hoa hoy hza hzb hu1 R k s l)
    isplitl [H]; · iexact H
    iintro H
    iapply (ih (laneSt R k s l))
    isplitl [H]; · iexact H
    iexact Hk

end Loop

end Cert.PreRun
-- ==== Proof.PrePoint.lean ====
/- The convolutions' forward body from its first line to its last, at one grid point. -/
module

public import proofs.«01_k».proof.Proof.PreRun
public import proofs.«01_k».proof.Proof.Rows

@[expose] public section

set_option maxRecDepth 16384

noncomputable section

namespace Cert.PreRun

open Cert.Pre Cert.Pre.Gen Cert.PreProg Cert.Blocks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The blocks that one grid point reads. -/
structure Blk (F : FTy → Type) [FloatOps F] where
  ba : Vec F S512x1024 .bf16
  ca : Vec F S512x1024 .bf16
  va : Vec F S512x1024 .bf16
  vb : Vec F S512x1024 .bf16
  gb : Vec F S512x1024 .bf16
  hca : Vec F S32x1024 .bf16
  hva : Vec F S32x1024 .bf16
  hvb : Vec F S32x1024 .bf16
  hgb : Vec F S32x1024 .bf16
  cwa : Vec F (PreProg.Sh 3 1024) .f32
  cwb : Vec F (PreProg.Sh 31 1024) .f32
  bias : Vec F (PreProg.Sh 1 1024) .f32
  gam : Vec F (PreProg.Sh 1 1024) .f32
  bet : Vec F (PreProg.Sh 1 1024) .f32

/-- 32 rows, then 512 more. -/
def joined {α : Type} (a : S32x1024.Idx → α) (b : S512x1024.Idx → α) : S544x1024.Idx → α := fun j =>
  if h : (j 0).val < 32 then a (ix2 ⟨(j 0).val, h⟩ ⟨(j 1).val, (j 1).isLt⟩)
  else b (ix2 ⟨(j 0).val - 32, by have h2 : (j 0).val < 544 := (j 0).isLt; omega⟩ ⟨(j 1).val, (j 1).isLt⟩)

theorem stb_joined {α : Type} (y : S544x1024.Idx → α) (a : S32x1024.Idx → α) (b : S512x1024.Idx → α) :
    stb (n := 512) (m := 1024) (stb (n := 32) (m := 1024) y 0 0 a) 32 0 b = joined a b := by
  funext j
  have h0 : (j 0).val < 544 := (j 0).isLt
  have h1 : (j 1).val < 1024 := (j 1).isLt
  unfold joined
  split
  · rename_i h
    unfold stb
    rw [dif_neg (by omega), dif_pos (by omega)]; rfl
  · rename_i h
    unfold stb
    rw [dif_pos (by omega)]; rfl

/-- What the loop reads at grid point `i`. -/
def Blk.rd (i : grid0.Coords) (B : Blk F) : Rd F where
  ba := B.ba
  cwa := B.cwa
  cwb := B.cwb
  bias := B.bias
  za := joined (k0_pay138 i B.hca B.hva) (k0_pay140 B.ca B.va)
  zb := joined (k0_pay139 i B.hvb B.hgb) (k0_pay141 B.vb B.gb)

section Run

variable (c : Dev nD) {E : Set ℕ}

variable {a1 : Memref sig .tc .vmem S512x1024 .bf16}
  {a2 : Memref sig .tc .vmem S512x1024 .bf16}
  {a3 : Memref sig .tc .vmem S512x1024 .bf16}
  {a4 : Memref sig .tc .vmem S512x1024 .bf16}
  {a5 : Memref sig .tc .vmem S512x1024 .bf16}
  {a6 : Memref sig .tc .vmem S32x1024 .bf16}
  {a7 : Memref sig .tc .vmem S32x1024 .bf16}
  {a8 : Memref sig .tc .vmem S32x1024 .bf16}
  {a9 : Memref sig .tc .vmem S32x1024 .bf16}
  {a10 : Memref sig .tc .vmem (PreProg.Sh 3 1024) .f32}
  {a11 : Memref sig .tc .vmem (PreProg.Sh 31 1024) .f32}
  {a12 : Memref sig .tc .vmem (PreProg.Sh 1 1024) .f32}
  {a13 : Memref sig .tc .vmem (PreProg.Sh 1 1024) .f32}
  {a14 : Memref sig .tc .vmem (PreProg.Sh 1 1024) .f32}
  {a15 : Memref sig .tc .vmem S512x1024 .bf16}
  {a16 : Memref sig .tc .vmem S512x1024 .bf16}
  {a17 : Memref sig .tc .vmem S512x1024 .f32}
  {a18 : Memref sig .tc .vmem S512x1 .f32}
  {a19 : Memref sig .tc .vmem S512x1024 .bf16}
  {a20 : Memref sig .tc .vmem S544x1024 .f32}
  {a21 : Memref sig .tc .vmem S544x1024 .f32}
  {a22 : Memref sig .tc .vmem S512x1024 .f32}
  (h1 : a1.IsWhole) (h2 : a2.IsWhole) (h3 : a3.IsWhole) (h4 : a4.IsWhole) (h5 : a5.IsWhole) (h6 : a6.IsWhole) (h7 : a7.IsWhole) (h8 : a8.IsWhole) (h9 : a9.IsWhole) (h10 : a10.IsWhole) (h11 : a11.IsWhole) (h12 : a12.IsWhole) (h13 : a13.IsWhole) (h14 : a14.IsWhole) (h15 : a15.IsWhole) (h16 : a16.IsWhole) (h17 : a17.IsWhole) (h18 : a18.IsWhole) (h19 : a19.IsWhole) (h20 : a20.IsWhole) (h21 : a21.IsWhole) (h22 : a22.IsWhole)

include h1 h2 h3 h4 h5 h6 h7 h8 h9 h10 h11 h12 h13 h14 h15 h16 h17 h18 h19 h20 h21 h22

theorem wp_head (i : grid0.Coords) (B : Blk F) {Q : PUnit → sProp 𝕄} :
    iprop(owns c.tc a2 fullShare B.ca ∗ owns c.tc a3 fullShare B.va ∗ owns c.tc a4 fullShare B.vb ∗ owns c.tc a5 fullShare B.gb ∗ owns c.tc a6 fullShare B.hca ∗ owns c.tc a7 fullShare B.hva ∗ owns c.tc a8 fullShare B.hvb ∗ owns c.tc a9 fullShare B.hgb
      ∗ (∃ d, owns c.tc a20 fullShare d) ∗ (∃ d, owns c.tc a21 fullShare d)
      ∗ (iprop(owns c.tc a2 fullShare B.ca ∗ owns c.tc a3 fullShare B.va ∗ owns c.tc a4 fullShare B.vb ∗ owns c.tc a5 fullShare B.gb ∗ owns c.tc a6 fullShare B.hca ∗ owns c.tc a7 fullShare B.hva ∗ owns c.tc a8 fullShare B.hvb ∗ owns c.tc a9 fullShare B.hgb
        ∗ owns c.tc a20 fullShare (B.rd i).za ∗ owns c.tc a21 fullShare (B.rd i).zb) -∗ Q ⟨⟩))
      ⊢ wp frame (wpE (defs₀ (F := F)) Variants.none c none) E (head i a2 a3 a4 a5 a6 a7 a8 a9 a20 a21) Q := by
  unfold head owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%y20, %f20, %e20, H20⟩, ⟨%y21, %f21, %e21, H21⟩, Hk⟩
  obtain rfl := h2.eq_unread e2
  obtain rfl := h3.eq_unread e3
  obtain rfl := h4.eq_unread e4
  obtain rfl := h5.eq_unread e5
  obtain rfl := h6.eq_unread e6
  obtain rfl := h7.eq_unread e7
  obtain rfl := h8.eq_unread e8
  obtain rfl := h9.eq_unread e9
  sl_exec
  sl_step
  iapply Hk
  isplitl [H2]; · (iexists _; isplitr; · ipureintro; exact h2.read_unread _); iexact H2
  isplitl [H3]; · (iexists _; isplitr; · ipureintro; exact h3.read_unread _); iexact H3
  isplitl [H4]; · (iexists _; isplitr; · ipureintro; exact h4.read_unread _); iexact H4
  isplitl [H5]; · (iexists _; isplitr; · ipureintro; exact h5.read_unread _); iexact H5
  isplitl [H6]; · (iexists _; isplitr; · ipureintro; exact h6.read_unread _); iexact H6
  isplitl [H7]; · (iexists _; isplitr; · ipureintro; exact h7.read_unread _); iexact H7
  isplitl [H8]; · (iexists _; isplitr; · ipureintro; exact h8.read_unread _); iexact H8
  isplitl [H9]; · (iexists _; isplitr; · ipureintro; exact h9.read_unread _); iexact H9
  isplitl [H20]
  · iexists _; isplitr; swap; · iexact H20
    ipureintro
    sl_unfold_run_names
    simp only [Rows.readAt_all, h2.read_unread, h3.read_unread, h6.read_unread, h7.read_unread]
    rw [read_stb (n := 512) (m := 1024) a20.view _ _ 32 0 rfl rfl, read_stb (n := 32) (m := 1024) a20.view _ _ 0 0 rfl rfl]
    exact stb_joined _ _ _
  iexists _; isplitr; swap; · iexact H21
  ipureintro
  sl_unfold_run_names
  simp only [Rows.readAt_all, h4.read_unread, h5.read_unread, h8.read_unread, h9.read_unread]
  rw [read_stb (n := 512) (m := 1024) a21.view _ _ 32 0 rfl rfl, read_stb (n := 32) (m := 1024) a21.view _ _ 0 0 rfl rfl]
  exact stb_joined _ _ _

theorem wp_end (g : Vec F (PreProg.Sh 1 1024) .f32) (b : Vec F (PreProg.Sh 1 1024) .f32) (u : Vec F S512x1024 .f32) {Q : PUnit → sProp 𝕄} :
    iprop(owns c.tc a13 fullShare g ∗ owns c.tc a14 fullShare b ∗ owns c.tc a22 fullShare u ∗ (∃ d, owns c.tc a17 fullShare d) ∗ (∃ d, owns c.tc a18 fullShare d) ∗ (∃ d, owns c.tc a19 fullShare d)
      ∗ (iprop(owns c.tc a13 fullShare g ∗ owns c.tc a14 fullShare b ∗ owns c.tc a22 fullShare u
        ∗ owns c.tc a17 fullShare (k0_pay145 u) ∗ owns c.tc a18 fullShare (k0_pay144 u) ∗ owns c.tc a19 fullShare (k0_pay1 (k0_pay145 u) g b)) -∗ Q ⟨⟩))
      ⊢ wp frame (wpE (defs₀ (F := F)) Variants.none c none) E (mid a13 a17 a18 a22 >>= PreProg.fin a14 a19 h19) Q := by
  unfold mid PreProg.fin owns
  iintro ⟨⟨%f13, %e13, H13⟩, ⟨%f14, %e14, H14⟩, ⟨%f22, %e22, H22⟩, ⟨%y17, %f17, %e17, H17⟩, ⟨%y18, %f18, %e18, H18⟩, ⟨%y19, %f19, %e19, H19⟩, Hk⟩
  obtain rfl := h13.eq_unread e13; obtain rfl := h14.eq_unread e14; obtain rfl := h22.eq_unread e22
  sl_exec
  sl_step
  iapply Hk
  isplitl [H13]; · (iexists _; isplitr; · ipureintro; exact h13.read_unread _); iexact H13
  isplitl [H14]; · (iexists _; isplitr; · ipureintro; exact h14.read_unread _); iexact H14
  isplitl [H22]; · (iexists _; isplitr; · ipureintro; exact h22.read_unread _); iexact H22
  isplitl [H17]
  · iexists _; isplitr; swap; · iexact H17
    ipureintro
    sl_unfold_run_names
    refine (View.read_writes_full _ _ _ _ _).trans ?_
    rw [Rows.readAt_all, h22.read_unread]
  isplitl [H18]
  · iexists _; isplitr; swap; · iexact H18
    ipureintro
    sl_unfold_run_names
    refine (View.read_writes_full _ _ _ _ _).trans ?_
    rw [Rows.readAt_all, h22.read_unread]
  iexists _; isplitr; swap; · iexact H19
  ipureintro
  sl_unfold_run_names
  refine (View.read_writes_full _ _ _ _ _).trans ?_
  simp only [Rows.readAt_all, h22.read_unread, h13.read_unread, h14.read_unread]

set_option maxHeartbeats 1000000 in
theorem run_point (i : grid0.Coords) (B : Blk F) {Q : PUnit → sProp 𝕄} :
    iprop(owns c.tc a1 fullShare B.ba ∗ owns c.tc a2 fullShare B.ca ∗ owns c.tc a3 fullShare B.va ∗ owns c.tc a4 fullShare B.vb ∗ owns c.tc a5 fullShare B.gb ∗ owns c.tc a6 fullShare B.hca ∗ owns c.tc a7 fullShare B.hva ∗ owns c.tc a8 fullShare B.hvb ∗ owns c.tc a9 fullShare B.hgb ∗ owns c.tc a10 fullShare B.cwa ∗ owns c.tc a11 fullShare B.cwb ∗ owns c.tc a12 fullShare B.bias ∗ owns c.tc a13 fullShare B.gam ∗ owns c.tc a14 fullShare B.bet
      ∗ (∃ d, owns c.tc a15 fullShare d) ∗ (∃ d, owns c.tc a16 fullShare d) ∗ (∃ d, owns c.tc a17 fullShare d) ∗ (∃ d, owns c.tc a18 fullShare d) ∗ (∃ d, owns c.tc a19 fullShare d) ∗ (∃ d, owns c.tc a20 fullShare d) ∗ (∃ d, owns c.tc a21 fullShare d) ∗ (∃ d, owns c.tc a22 fullShare d)
      ∗ (iprop(owns c.tc a1 fullShare B.ba ∗ owns c.tc a2 fullShare B.ca ∗ owns c.tc a3 fullShare B.va ∗ owns c.tc a4 fullShare B.vb ∗ owns c.tc a5 fullShare B.gb ∗ owns c.tc a6 fullShare B.hca ∗ owns c.tc a7 fullShare B.hva ∗ owns c.tc a8 fullShare B.hvb ∗ owns c.tc a9 fullShare B.hgb ∗ owns c.tc a10 fullShare B.cwa ∗ owns c.tc a11 fullShare B.cwb ∗ owns c.tc a12 fullShare B.bias ∗ owns c.tc a13 fullShare B.gam ∗ owns c.tc a14 fullShare B.bet
        ∗ owns c.tc a15 fullShare (whole (valA (B.rd i))) ∗ owns c.tc a16 fullShare (whole (valY (B.rd i))) ∗ owns c.tc a17 fullShare (k0_pay145 (whole (valU (B.rd i)))) ∗ owns c.tc a18 fullShare (k0_pay144 (whole (valU (B.rd i)))) ∗ owns c.tc a19 fullShare (k0_pay1 (k0_pay145 (whole (valU (B.rd i)))) B.gam B.bet)
        ∗ (∃ d, owns c.tc a20 fullShare d) ∗ (∃ d, owns c.tc a21 fullShare d) ∗ (∃ d, owns c.tc a22 fullShare d)) -∗ Q ⟨⟩))
      ⊢ wp frame (wpE (defs₀ (F := F)) Variants.none c none) E (cc0_conv_fwd (F := F) i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22) Q := by
  rw [body_eq]
  iintro ⟨H1, H2, H3, H4, H5, H6, H7, H8, H9, H10, H11, H12, H13, H14, ⟨%y15, H15⟩, ⟨%y16, H16⟩, H17, H18, H19, H20, H21, ⟨%y22, H22⟩, Hk⟩
  rw [wp_bind]
  iapply (wp_head c h1 h2 h3 h4 h5 h6 h7 h8 h9 h10 h11 h12 h13 h14 h15 h16 h17 h18 h19 h20 h21 h22 i B)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H20]; · iexact H20
  isplitl [H21]; · iexact H21
  iintro ⟨H2, H3, H4, H5, H6, H7, H8, H9, H20, H21⟩
  rw [wp_bind]
  iapply (Scf.wp_for frame (wpE (defs₀ (F := F)) Variants.none c none) E k0_t1_loop.lb k0_t1_loop.ub k0_t1_loop.st k0_t1_ok ⟨⟩ _
    (fun n _ => Held c a1 a10 a11 a12 a15 a16 a20 a21 a22 (B.rd i) (loopSt (B.rd i) ⟨y15, y16, y22⟩ n))
    (fun k _ => by
      show _ ⊢ wp frame _ E _ (fun _ => Held c a1 a10 a11 a12 a15 a16 a20 a21 a22 (B.rd i) (loopSt (B.rd i) ⟨y15, y16, y22⟩ (k.val + 1)))
      have e : loopSt (B.rd i) ⟨y15, y16, y22⟩ (k.val + 1) = groups.foldl (laneSt (B.rd i) k) (loopSt (B.rd i) ⟨y15, y16, y22⟩ k.val) :=
        dif_pos k.isLt
      rw [e]
      iintro H
      iapply (wp_lanes c h1 h10 h11 h12 h15 h16 h20 h21 h22 (B.rd i) k groups _)
      isplitl [H]; · iexact H
      iintro H; iexact H))
  isplitl [H1 H10 H11 H12 H20 H21 H15 H16 H22]
  · unfold Held
    isplitl [H1]; · iexact H1
    isplitl [H10]; · iexact H10
    isplitl [H11]; · iexact H11
    isplitl [H12]; · iexact H12
    isplitl [H20]; · iexact H20
    isplitl [H21]; · iexact H21
    isplitl [H15]; · iexact H15
    isplitl [H16]; · iexact H16
    iexact H22
  iintro %u H
  rw [show loopSt (B.rd i) ⟨y15, y16, y22⟩ (Scf.Loop.trips ⟨k0_t1_loop.lb, k0_t1_loop.ub, k0_t1_loop.st⟩) = _ from loop_all (B.rd i) ⟨y15, y16, y22⟩]
  unfold Held
  icases H with ⟨H1, H10, H11, H12, H20, H21, H15, H16, H22⟩
  iapply (wp_end c h1 h2 h3 h4 h5 h6 h7 h8 h9 h10 h11 h12 h13 h14 h15 h16 h17 h18 h19 h20 h21 h22 B.gam B.bet (whole (valU (B.rd i))))
  isplitl [H13]; · iexact H13
  isplitl [H14]; · iexact H14
  isplitl [H22]; · iexact H22
  isplitl [H17]; · iexact H17
  isplitl [H18]; · iexact H18
  isplitl [H19]; · iexact H19
  iintro ⟨H13, H14, H22, H17, H18, H19⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · (iexists _; iexact H20)
  isplitl [H21]; · (iexists _; iexact H21)
  iexists _; iexact H22

end Run

end Cert.PreRun
-- ==== Proof.PreFrame.lean ====
/- The convolutions' forward call: what its windows hold at every grid point, and that the call terminates with its
   arguments unchanged. -/
module

public import proofs.«01_k».proof.Proof.PrePoint
public import proofs.«01_k».proof.Proof.Gen.Pre.Frame.Runs
public import Idealize.ShloMosaic.Lib.Claim

@[expose] public section

set_option maxRecDepth 16384

noncomputable section

namespace Cert.PreRun

open Cert.Pre Cert.Pre.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What point `t` reads. -/
abbrev blk (c : Dev nD) (t : Fin cfg0.N) : Blk F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t⟩

/-- What the loop of point `t` reads. -/
abbrev rd (c : Dev nD) (t : Fin cfg0.N) : Rd F := (blk m c t).rd (grid0.coords t)

/-- The contents of every window's buffer after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => whole (valA (rd m c t))
    | ⟨15, _⟩ => whole (valY (rd m c t))
    | ⟨16, _⟩ => k0_pay145 (whole (valU (rd m c t)))
    | ⟨17, _⟩ => k0_pay144 (whole (valU (rd m c t)))
    | ⟨18, _⟩ => k0_pay1 (k0_pay145 (whole (valU (rd m c t)))) (iblk m c 12 t) (iblk m c 13 t)
    | ⟨_ + 19, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = whole (valA (rd m c t)) := by dsimp only [dats]
theorem after_15 (c : Dev nD) (t : Fin cfg0.N) : (dats m 0 c).after 15 t = whole (valY (rd m c t)) := by dsimp only [dats]
theorem after_16 (c : Dev nD) (t : Fin cfg0.N) : (dats m 0 c).after 16 t = k0_pay145 (whole (valU (rd m c t))) := by dsimp only [dats]
theorem after_17 (c : Dev nD) (t : Fin cfg0.N) : (dats m 0 c).after 17 t = k0_pay144 (whole (valU (rd m c t))) := by dsimp only [dats]
theorem after_18 (c : Dev nD) (t : Fin cfg0.N) : (dats m 0 c).after 18 t = k0_pay1 (k0_pay145 (whole (valU (rd m c t)))) (iblk m c 12 t) (iblk m c 13 t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d

def bodyPre (c : Dev nD) (t : Fin cfg0.N) : sProp 𝕄 :=
  iprop((dats m 0 c).Φ t.castSucc ∗ (dats m 0 c).owesAt () t.castSucc
    ∗ (∃ d, owns c.tc (ms0_0 t) fullShare ((dats m 0 c).before 0 t d))
    ∗ (∃ d, owns c.tc (ms0_1 t) fullShare ((dats m 0 c).before 1 t d))
    ∗ (∃ d, owns c.tc (ms0_2 t) fullShare ((dats m 0 c).before 2 t d))
    ∗ (∃ d, owns c.tc (ms0_3 t) fullShare ((dats m 0 c).before 3 t d))
    ∗ (∃ d, owns c.tc (ms0_4 t) fullShare ((dats m 0 c).before 4 t d))
    ∗ (∃ d, owns c.tc (ms0_5 t) fullShare ((dats m 0 c).before 5 t d))
    ∗ (∃ d, owns c.tc (ms0_6 t) fullShare ((dats m 0 c).before 6 t d))
    ∗ (∃ d, owns c.tc (ms0_7 t) fullShare ((dats m 0 c).before 7 t d))
    ∗ (∃ d, owns c.tc (ms0_8 t) fullShare ((dats m 0 c).before 8 t d))
    ∗ (∃ d, owns c.tc (ms0_9 t) fullShare ((dats m 0 c).before 9 t d))
    ∗ (∃ d, owns c.tc (ms0_10 t) fullShare ((dats m 0 c).before 10 t d))
    ∗ (∃ d, owns c.tc (ms0_11 t) fullShare ((dats m 0 c).before 11 t d))
    ∗ (∃ d, owns c.tc (ms0_12 t) fullShare ((dats m 0 c).before 12 t d))
    ∗ (∃ d, owns c.tc (ms0_13 t) fullShare ((dats m 0 c).before 13 t d))
    ∗ (∃ d, owns c.tc (ms0_14 t) fullShare ((dats m 0 c).before 14 t d))
    ∗ (∃ d, owns c.tc (ms0_15 t) fullShare ((dats m 0 c).before 15 t d))
    ∗ (∃ d, owns c.tc (ms0_16 t) fullShare ((dats m 0 c).before 16 t d))
    ∗ (∃ d, owns c.tc (ms0_17 t) fullShare ((dats m 0 c).before 17 t d))
    ∗ (∃ d, owns c.tc (ms0_18 t) fullShare ((dats m 0 c).before 18 t d)))

def bodyPost (c : Dev nD) (t : Fin cfg0.N) : sProp 𝕄 :=
  iprop((dats m 0 c).Φ t.succ ∗ (dats m 0 c).owesAt () t.succ
    ∗ owns c.tc (ms0_0 t) fullShare ((dats m 0 c).after 0 t)
    ∗ owns c.tc (ms0_1 t) fullShare ((dats m 0 c).after 1 t)
    ∗ owns c.tc (ms0_2 t) fullShare ((dats m 0 c).after 2 t)
    ∗ owns c.tc (ms0_3 t) fullShare ((dats m 0 c).after 3 t)
    ∗ owns c.tc (ms0_4 t) fullShare ((dats m 0 c).after 4 t)
    ∗ owns c.tc (ms0_5 t) fullShare ((dats m 0 c).after 5 t)
    ∗ owns c.tc (ms0_6 t) fullShare ((dats m 0 c).after 6 t)
    ∗ owns c.tc (ms0_7 t) fullShare ((dats m 0 c).after 7 t)
    ∗ owns c.tc (ms0_8 t) fullShare ((dats m 0 c).after 8 t)
    ∗ owns c.tc (ms0_9 t) fullShare ((dats m 0 c).after 9 t)
    ∗ owns c.tc (ms0_10 t) fullShare ((dats m 0 c).after 10 t)
    ∗ owns c.tc (ms0_11 t) fullShare ((dats m 0 c).after 11 t)
    ∗ owns c.tc (ms0_12 t) fullShare ((dats m 0 c).after 12 t)
    ∗ owns c.tc (ms0_13 t) fullShare ((dats m 0 c).after 13 t)
    ∗ owns c.tc (ms0_14 t) fullShare ((dats m 0 c).after 14 t)
    ∗ owns c.tc (ms0_15 t) fullShare ((dats m 0 c).after 15 t)
    ∗ owns c.tc (ms0_16 t) fullShare ((dats m 0 c).after 16 t)
    ∗ owns c.tc (ms0_17 t) fullShare ((dats m 0 c).after 17 t)
    ∗ owns c.tc (ms0_18 t) fullShare ((dats m 0 c).after 18 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13]
  rw [show (dats m 0 c).Φ t.castSucc = Pipeline.ΦA spec0 c from rfl, show (dats m 0 c).Φ t.succ = Pipeline.ΦA spec0 c from rfl, PhiA0_eq,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  icases HΦ with ⟨⟨S0, S1, S2⟩, Hp⟩
  iapply (run_point c _ _ _ _ _ _ _ _ _ _ _ _ _ _ _ _ _ _ _ _ _ _ (grid0.coords t) (blk m c t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · (iexists _; iexact H14)
  isplitl [H15]; · (iexists _; iexact H15)
  isplitl [H16]; · (iexists _; iexact H16)
  isplitl [H17]; · (iexists _; iexact H17)
  isplitl [H18]; · (iexists _; iexact H18)
  isplitl [S0]; · iexact S0
  isplitl [S1]; · iexact S1
  isplitl [S2]; · iexact S2
  iintro ⟨H0, H1, H2, H3, H4, H5, H6, H7, H8, H9, H10, H11, H12, H13, H14, H15, H16, H17, H18, S0, S1, S2⟩
  isplitl [S0 S1 S2 Hp]
  · isplitr [Hp]
    · isplitl [S0]; · iexact S0
      isplitl [S1]; · iexact S1
      iexact S2
    · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

theorem defs₀_row (t : Fin cfg0.N) : defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The call terminates; its arrays end as the windows' contents say, and every counter is zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := fun _ => .rfl) (hout := fun _ => .rfl)

theorem run_main : θ_run defs (onTc (τ := τ) (main (F := F))) (s₀ m ρ) (Pipeline.FramePost cfgs (dats m) 0 (V m)) :=
  (θ_run defs _ _).mono (fun _ h => h.1) (run_main_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.PreRun
-- ==== Proof.PreVal.lean ====
/- The blocks that a grid point of the convolutions' forward kernel is given, what its loop leaves, and the arrays that the kernel has
   written when it ends. -/
module

public import proofs.«01_k».proof.Proof.PreSpec
public import proofs.«01_k».proof.Proof.PreFrame
public import Idealize.ShloMosaic.Lib.Pointwise
public import Idealize.ShloMosaic.Lib.KernelVsHost
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.PreVal

open Cert.Pre Cert.Pre.Gen Cert.PreProg Cert.Blocks Cert.PreRun Cert.ConvSpec Cert.PreSpec Cert.Norm Cert.Arrays
open Idealize.ShloMosaic Idealize.ShloMosaic.TcCoe

/-! ## One tap -/

section Tap

variable {K : ℕ} (hK : K ≤ 33)

theorem slice_at (k : Fin K) (w : FVec Ideal S96x128 .f32) (r : Fin 64) (c : Fin 128) :
    slice hK k w (ix2 r c) = w (ix2 ⟨r.val + lag k, by unfold lag; omega⟩ c) := by
  have hs : lag k ≤ 32 := by unfold lag; omega
  have hr := r.isLt
  unfold slice
  by_cases h : lag k % 8 = 0
  · rw [show Nat.beq (lag k % 8) 0 = true from by rw [h]; rfl]
    refine extractStridedSlice_apply _ _ _ _ _ (Fin.forall_fin_two.2 ⟨?_, ?_⟩)
    · show r.val + lag k = 8 * (lag k / 8) + r.val; omega
    · show c.val = 0 + c.val; omega
  · rw [show Nat.beq (lag k % 8) 0 = false from Bool.eq_false_iff.mpr fun e => h (Nat.eq_of_beq_eq_true e)]
    refine (extractStridedSlice_apply _ _ _ _ (ix2 ⟨8 * (lag k / 8) + r.val, by omega⟩ c) (Fin.forall_fin_two.2 ⟨rfl, ?_⟩)).trans ?_
    · show c.val = 0 + c.val; omega
    · refine dynamicRotate_apply _ _ _ rotates_S96x128_d0 _ _ (Fin.forall_fin_two.2 ⟨?_, rfl⟩)
      show r.val + lag k = (8 * (lag k / 8) + r.val + 96 - (BitVec.ofNat 32 (96 - lag k % 8)).toNat % 96) % 96
      rw [BitVec.toNat_ofNat, Nat.mod_eq_of_lt (a := 96 - lag k % 8) (by omega)]
      omega

theorem stepFilt_at (W : Vec Ideal (PreProg.Sh K 1024) .f32) (l : Fin 8) (w : FVec Ideal S96x128 .f32) (a : FVec Ideal S64x128 .f32) (k : Fin K)
    (r : Fin 64) (c : Fin 128) :
    stepFilt hK W l w a k (ix2 r c)
      = a (ix2 r c) + W (ix2 k ⟨128 * l.val + c.val, by omega⟩) * w (ix2 ⟨r.val + lag k, by unfold lag; omega⟩ c) := by
  have e : stepFilt hK W l w a k (ix2 r c) = a (ix2 r c) + broadcastTo S64x128 (ldb 1 128 W k.val (128 * l.val) (row_le k) (lane_le l)) broadcasts_S1x128_S64x128 (ix2 r c) * slice hK k w (ix2 r c) := rfl
  rw [e, slice_at]
  congr 2

/-- The filtered rows. -/
theorem filt_sum (ks : List (Fin K)) (hp : ks.Perm (List.finRange K)) (C : Vec Ideal (PreProg.Sh K 1024) .f32) (w : FVec Ideal S96x128 .f32) (l : Fin 8)
    (r : Fin 64) (c : Fin 128) :
    ks.foldl (stepFilt hK C l w) zero64 (ix2 r c)
      = ∑ κ : Fin K, C (ix2 κ ⟨128 * l.val + c.val, by omega⟩) * w (ix2 ⟨r.val + lag κ, by unfold lag; omega⟩ c) := by
  rw [foldl_add (stepFilt hK C l w) (fun a => a (ix2 r c)) _ (fun a κ => stepFilt_at hK C l w a κ r c), sum_all ks hp]
  have e0 : (zero64 : FVec Ideal S64x128 .f32) (ix2 r c) = 0 := by pointwise [zero64]
  rw [e0, zero_add]

end Tap

theorem tapsA_perm : tapsA.Perm (List.finRange 3) := by decide
theorem tapsB_perm : tapsB.Perm (List.finRange 31) := by decide

variable (m : (ℓ : Loc nD τ sig) → Buf (Elt Ideal) ℓ) (c : Dev nD)

/-- Column `k` of the `q`-th of the seven parts of a row of the projection. -/
def part (q : Fin 7) (k : Fin 1024) : Fin 7168 := ⟨1024 * q + k, by omega⟩

/-- The arguments in the memory `m`. -/
def arg : Arg where
  p b i q := m ((c : Thread nD τ).loc main_arg0) (ix2 i (part b q))
  wa k q := m ((c : Thread nD τ).loc main_arg1) (ix2 k q)
  wb k q := m ((c : Thread nD τ).loc main_arg2) (ix2 k q)
  bias q := m ((c : Thread nD τ).loc main_arg3) (ix1 q)
  gam q := m ((c : Thread nD τ).loc main_arg4) (ix1 q)
  bet q := m ((c : Thread nD τ).loc main_arg5) (ix1 q)

/-! ## What the host's lines leave before the launch -/

theorem V_p (i : Fin 8192) (b : Fin 7) (k : Fin 1024) : V m c main_v0 (ix2 i (part b k)) = (arg m c).p b i k := by unfold V; after_reads_at; rfl
theorem V_bias (z : Fin 1) (k : Fin 1024) : V m c main_v1 (ix2 z k) = (arg m c).bias k := by unfold V; after_reads_at; rfl
theorem V_gam (z : Fin 1) (k : Fin 1024) : V m c main_v2 (ix2 z k) = (arg m c).gam k := by unfold V; after_reads_at; rfl
theorem V_bet (z : Fin 1) (k : Fin 1024) : V m c main_v3 (ix2 z k) = (arg m c).bet k := by unfold V; after_reads_at; rfl
theorem V_wa (i : Fin 3) (k : Fin 1024) : V m c main_arg1 (ix2 i k) = (arg m c).wa i k := by rw [V_main_arg1]; rfl
theorem V_wb (i : Fin 31) (k : Fin 1024) : V m c main_arg2 (ix2 i k) = (arg m c).wb i k := by rw [V_main_arg2]; rfl

/-! ## The blocks -/

theorem idx0 : ∀ t : Fin cfg0.N, win0_0.index t 0 = t ∧ win0_0.index t 1 = 0 := by decide +kernel
theorem idx1 : ∀ t : Fin cfg0.N, win0_1.index t 0 = t ∧ win0_1.index t 1 = 1 := by decide +kernel
theorem idx2 : ∀ t : Fin cfg0.N, win0_2.index t 0 = t ∧ win0_2.index t 1 = 2 := by decide +kernel
theorem idx3 : ∀ t : Fin cfg0.N, win0_3.index t 0 = t ∧ win0_3.index t 1 = 3 := by decide +kernel
theorem idx4 : ∀ t : Fin cfg0.N, win0_4.index t 0 = t ∧ win0_4.index t 1 = 4 := by decide +kernel
theorem idx5 : ∀ t : Fin cfg0.N, win0_5.index t 0 = 16 * t.val - 1 ∧ win0_5.index t 1 = 1 := by decide +kernel
theorem idx6 : ∀ t : Fin cfg0.N, win0_6.index t 0 = 16 * t.val - 1 ∧ win0_6.index t 1 = 2 := by decide +kernel
theorem idx7 : ∀ t : Fin cfg0.N, win0_7.index t 0 = 16 * t.val - 1 ∧ win0_7.index t 1 = 3 := by decide +kernel
theorem idx8 : ∀ t : Fin cfg0.N, win0_8.index t 0 = 16 * t.val - 1 ∧ win0_8.index t 1 = 4 := by decide +kernel
theorem idx9 : ∀ t : Fin cfg0.N, win0_9.index t 0 = 0 ∧ win0_9.index t 1 = 0 := by decide +kernel
theorem idx10 : ∀ t : Fin cfg0.N, win0_10.index t 0 = 0 ∧ win0_10.index t 1 = 0 := by decide +kernel
theorem idx11 : ∀ t : Fin cfg0.N, win0_11.index t 0 = 0 ∧ win0_11.index t 1 = 0 := by decide +kernel
theorem idx12 : ∀ t : Fin cfg0.N, win0_12.index t 0 = 0 ∧ win0_12.index t 1 = 0 := by decide +kernel
theorem idx13 : ∀ t : Fin cfg0.N, win0_13.index t 0 = 0 ∧ win0_13.index t 1 = 0 := by decide +kernel
theorem idx14 : ∀ t : Fin cfg0.N, win0_14.index t 0 = t ∧ win0_14.index t 1 = 0 := by decide +kernel
theorem idx15 : ∀ t : Fin cfg0.N, win0_15.index t 0 = t ∧ win0_15.index t 1 = 0 := by decide +kernel
theorem idx16 : ∀ t : Fin cfg0.N, win0_16.index t 0 = t ∧ win0_16.index t 1 = 0 := by decide +kernel
theorem idx17 : ∀ t : Fin cfg0.N, win0_17.index t 0 = t ∧ win0_17.index t 1 = 0 := by decide +kernel
theorem idx18 : ∀ t : Fin cfg0.N, win0_18.index t 0 = t ∧ win0_18.index t 1 = 0 := by decide +kernel

variable (t : Fin cfg0.N)

theorem lt16 : t.val < 16 := lt_of_lt_of_eq t.isLt N_0

theorem in0 (y : Fin 512) (k : Fin 1024) : (iblk m c 0 t : Vec Ideal S512x1024 .bf16) (ix2 y k) = (arg m c).p 0 (rowAt t (lt16 t) y) k := by
  refine Eq.trans (?_ : _ = V m c main_v0 (ix2 (rowAt t (lt16 t) y) (part 0 k))) (V_p m c _ _ _)
  blk_ext [iblk, rowAt, part, idx0 t]
theorem in1 (y : Fin 512) (k : Fin 1024) : (iblk m c 1 t : Vec Ideal S512x1024 .bf16) (ix2 y k) = (arg m c).p 1 (rowAt t (lt16 t) y) k := by
  refine Eq.trans (?_ : _ = V m c main_v0 (ix2 (rowAt t (lt16 t) y) (part 1 k))) (V_p m c _ _ _)
  blk_ext [iblk, rowAt, part, idx1 t]
theorem in2 (y : Fin 512) (k : Fin 1024) : (iblk m c 2 t : Vec Ideal S512x1024 .bf16) (ix2 y k) = (arg m c).p 2 (rowAt t (lt16 t) y) k := by
  refine Eq.trans (?_ : _ = V m c main_v0 (ix2 (rowAt t (lt16 t) y) (part 2 k))) (V_p m c _ _ _)
  blk_ext [iblk, rowAt, part, idx2 t]
theorem in3 (y : Fin 512) (k : Fin 1024) : (iblk m c 3 t : Vec Ideal S512x1024 .bf16) (ix2 y k) = (arg m c).p 3 (rowAt t (lt16 t) y) k := by
  refine Eq.trans (?_ : _ = V m c main_v0 (ix2 (rowAt t (lt16 t) y) (part 3 k))) (V_p m c _ _ _)
  blk_ext [iblk, rowAt, part, idx3 t]
theorem in4 (y : Fin 512) (k : Fin 1024) : (iblk m c 4 t : Vec Ideal S512x1024 .bf16) (ix2 y k) = (arg m c).p 4 (rowAt t (lt16 t) y) k := by
  refine Eq.trans (?_ : _ = V m c main_v0 (ix2 (rowAt t (lt16 t) y) (part 4 k))) (V_p m c _ _ _)
  blk_ext [iblk, rowAt, part, idx4 t]
theorem in5 (h : 0 < t.val) (y : Fin 32) (k : Fin 1024) :
    (iblk m c 5 t : Vec Ideal S32x1024 .bf16) (ix2 y k) = (arg m c).p 1 ⟨512 * t.val + y.val - 32, by have := lt16 t; omega⟩ k := by
  have := lt16 t
  refine Eq.trans (?_ : _ = V m c main_v0 (ix2 (⟨512 * t.val + y.val - 32, by omega⟩ : Fin 8192) (part 1 k))) (V_p m c _ _ _)
  blk_ext [iblk, part, idx5 t]
theorem in6 (h : 0 < t.val) (y : Fin 32) (k : Fin 1024) :
    (iblk m c 6 t : Vec Ideal S32x1024 .bf16) (ix2 y k) = (arg m c).p 2 ⟨512 * t.val + y.val - 32, by have := lt16 t; omega⟩ k := by
  have := lt16 t
  refine Eq.trans (?_ : _ = V m c main_v0 (ix2 (⟨512 * t.val + y.val - 32, by omega⟩ : Fin 8192) (part 2 k))) (V_p m c _ _ _)
  blk_ext [iblk, part, idx6 t]
theorem in7 (h : 0 < t.val) (y : Fin 32) (k : Fin 1024) :
    (iblk m c 7 t : Vec Ideal S32x1024 .bf16) (ix2 y k) = (arg m c).p 3 ⟨512 * t.val + y.val - 32, by have := lt16 t; omega⟩ k := by
  have := lt16 t
  refine Eq.trans (?_ : _ = V m c main_v0 (ix2 (⟨512 * t.val + y.val - 32, by omega⟩ : Fin 8192) (part 3 k))) (V_p m c _ _ _)
  blk_ext [iblk, part, idx7 t]
theorem in8 (h : 0 < t.val) (y : Fin 32) (k : Fin 1024) :
    (iblk m c 8 t : Vec Ideal S32x1024 .bf16) (ix2 y k) = (arg m c).p 4 ⟨512 * t.val + y.val - 32, by have := lt16 t; omega⟩ k := by
  have := lt16 t
  refine Eq.trans (?_ : _ = V m c main_v0 (ix2 (⟨512 * t.val + y.val - 32, by omega⟩ : Fin 8192) (part 4 k))) (V_p m c _ _ _)
  blk_ext [iblk, part, idx8 t]
theorem in9 (y : Fin 3) (k : Fin 1024) : (iblk m c 9 t : Vec Ideal S3x1024 .f32) (ix2 y k) = (arg m c).wa y k := by
  refine Eq.trans (?_ : _ = V m c main_arg1 (ix2 y k)) (V_wa m c _ _)
  blk_ext [iblk, idx9 t]
theorem in10 (y : Fin 31) (k : Fin 1024) : (iblk m c 10 t : Vec Ideal S31x1024 .f32) (ix2 y k) = (arg m c).wb y k := by
  refine Eq.trans (?_ : _ = V m c main_arg2 (ix2 y k)) (V_wb m c _ _)
  blk_ext [iblk, idx10 t]
theorem in11 (y : Fin 1) (k : Fin 1024) : (iblk m c 11 t : Vec Ideal S1x1024 .f32) (ix2 y k) = (arg m c).bias k := by
  refine Eq.trans (?_ : _ = V m c main_v1 (ix2 y k)) (V_bias m c _ _)
  blk_ext [iblk, idx11 t]
theorem in12 (y : Fin 1) (k : Fin 1024) : (iblk m c 12 t : Vec Ideal S1x1024 .f32) (ix2 y k) = (arg m c).gam k := by
  refine Eq.trans (?_ : _ = V m c main_v2 (ix2 y k)) (V_gam m c _ _)
  blk_ext [iblk, idx12 t]
theorem in13 (y : Fin 1) (k : Fin 1024) : (iblk m c 13 t : Vec Ideal S1x1024 .f32) (ix2 y k) = (arg m c).bet k := by
  refine Eq.trans (?_ : _ = V m c main_v3 (ix2 y k)) (V_bet m c _ _)
  blk_ext [iblk, idx13 t]

/-! ## What the loop reads -/

theorem keep_eq : k0_pay137 (F := Ideal) (grid0.coords t) = if 0 < t.val then 1 else 0 := by
  have h : ∀ t : Fin cfg0.N, Scalar.extui (Scalar.cmpi .sgt (BitVec.ofNat 32 ((grid0.coords t) 0).val) 0#32) = if 0 < t.val then 1#32 else 0#32 := by
    decide +kernel
  unfold k0_pay137
  dsimp only
  rw [h t]
  split
  · pointwise
    rw [show (1#32 : BitVec 32).toInt = 1 from rfl]; simp
  · pointwise
    rw [show (0#32 : BitVec 32).toInt = 0 from rfl]; simp

theorem times {a b a' b' : EReal} (h : a = a') (h' : b = b') : a * b = a' * b' := by rw [h, h']

theorem joined_at {α : Type} (a : S32x1024.Idx → α) (b : S512x1024.Idx → α) (i : Fin 544) (q : Fin 1024) :
    joined a b (ix2 i q) = if h : i.val < 32 then a (ix2 ⟨i.val, h⟩ q) else b (ix2 ⟨i.val - 32, by omega⟩ q) := rfl

theorem halo_a (i : grid0.Coords) (u v : Vec Ideal S32x1024 .bf16) (j : S32x1024.Idx) :
    k0_pay138 (F := Ideal) i u v j = (u j : EReal) * (v j : EReal) * (k0_pay137 (F := Ideal) i : EReal) := by pointwise [k0_pay138]
theorem halo_b (i : grid0.Coords) (u v : Vec Ideal S32x1024 .bf16) (j : S32x1024.Idx) :
    k0_pay139 (F := Ideal) i u v j = (u j : EReal) * Ideal.logistic (v j : EReal) * (k0_pay137 (F := Ideal) i : EReal) := by pointwise [k0_pay139]
theorem own_a (u v : Vec Ideal S512x1024 .bf16) (j : S512x1024.Idx) : k0_pay140 (F := Ideal) u v j = (u j : EReal) * (v j : EReal) := by pointwise [k0_pay140]
theorem own_b (u v : Vec Ideal S512x1024 .bf16) (j : S512x1024.Idx) :
    k0_pay141 (F := Ideal) u v j = (u j : EReal) * Ideal.logistic (v j : EReal) := by pointwise [k0_pay141]

/-- The first filter's rows from 32 before the point's first on, with zeros before the sequence. -/
theorem za_at (i : Fin 544) (q : Fin 1024) : (rd m c t).za (ix2 i q) = front (za (arg m c) q) (512 * t.val + i.val) := by
  have ht := lt16 t
  show joined (k0_pay138 (F := Ideal) (grid0.coords t) (iblk m c 5 t) (iblk m c 6 t)) (k0_pay140 (F := Ideal) (iblk m c 1 t) (iblk m c 2 t)) (ix2 i q) = _
  rw [joined_at]
  by_cases h : i.val < 32
  · rw [dif_pos h, halo_a, keep_eq]
    by_cases h2 : 0 < t.val
    · rw [if_pos h2, mul_one]
      refine (times (in5 m c t h2 _ q) (in6 m c t h2 _ q)).trans ?_
      exact (front_own (za (arg m c) q) _ _ (by dsimp only; omega)).symm
    · rw [if_neg h2, mul_zero]
      unfold front
      rw [dif_neg (by omega)]
  · rw [dif_neg h, own_a]
    refine (times (in1 m c t _ q) (in2 m c t _ q)).trans ?_
    exact (front_own (za (arg m c) q) _ _ (by simp only [rowAt]; omega)).symm

theorem zb_at (i : Fin 544) (q : Fin 1024) : (rd m c t).zb (ix2 i q) = front (zb (arg m c) q) (512 * t.val + i.val) := by
  have ht := lt16 t
  show joined (k0_pay139 (F := Ideal) (grid0.coords t) (iblk m c 7 t) (iblk m c 8 t)) (k0_pay141 (F := Ideal) (iblk m c 3 t) (iblk m c 4 t)) (ix2 i q) = _
  rw [joined_at]
  by_cases h : i.val < 32
  · rw [dif_pos h, halo_b, keep_eq]
    by_cases h2 : 0 < t.val
    · rw [if_pos h2, mul_one]
      refine (times (in7 m c t h2 _ q) (congrArg Ideal.logistic (in8 m c t h2 _ q))).trans ?_
      exact (front_own (zb (arg m c) q) _ _ (by dsimp only; omega)).symm
    · rw [if_neg h2, mul_zero]
      unfold front
      rw [dif_neg (by omega)]
  · rw [dif_neg h, own_b]
    refine (times (in3 m c t _ q) (congrArg Ideal.logistic (in4 m c t _ q))).trans ?_
    exact (front_own (zb (arg m c) q) _ _ (by simp only [rowAt]; omega)).symm

section Cell

variable (k : Fin k0_t1_loop.trips) (l : Fin 8) (r : Fin 64) (x : Fin 128)

theorem trip8 : k.val < 8 := lt_of_lt_of_eq k.isLt trips_eq

/-- The row of the block, and the column, that a trip's cell is at. -/
def row : Fin 512 := ⟨64 * k.val + r.val, by have := trip8 k; omega⟩
def clm : Fin 1024 := ⟨128 * l.val + x.val, by omega⟩

theorem filtA_at : filtA (rd m c t) k l (ix2 r x) = ca (arg m c) (rowAt t (lt16 t) (row k r)) (clm l x) := by
  have := trip8 k
  refine (filt_sum three tapsA tapsA_perm (rd m c t).cwa (win k l (rd m c t).za) l r x).trans ?_
  unfold ca fwd
  refine Finset.sum_congr rfl fun κ _ => times (in9 m c t κ (clm l x)) ?_
  refine (za_at m c t ⟨64 * k.val + (r.val + lag κ), by unfold lag; omega⟩ (clm l x)).trans (congrArg _ ?_)
  simp only [row, rowAt, lag]; omega
theorem filtB_at : filtB (rd m c t) k l (ix2 r x) + (arg m c).bias (clm l x) = u1 (arg m c) (rowAt t (lt16 t) (row k r)) (clm l x) := by
  have := trip8 k
  unfold u1
  refine congrArg (· + (arg m c).bias (clm l x)) ?_
  refine (filt_sum many tapsB tapsB_perm (rd m c t).cwb (win k l (rd m c t).zb) l r x).trans ?_
  unfold fwd
  refine Finset.sum_congr rfl fun κ _ => times (in10 m c t κ (clm l x)) ?_
  refine (zb_at m c t ⟨64 * k.val + (r.val + lag κ), by unfold lag; omega⟩ (clm l x)).trans (congrArg _ ?_)
  simp only [row, rowAt, lag]; omega

theorem narrow_at (a : FVec Ideal S64x128 .f32) (j : S64x128.Idx) : narrow a j = a j := by pointwise [narrow]
theorem gated_at (b : Vec Ideal S64x128 .bf16) (a : FVec Ideal S64x128 .f32) (j : S64x128.Idx) : gated b a j = (b j : EReal) * a j := by pointwise [gated]
theorem biased_at (a : FVec Ideal S64x128 .f32) (b : Vec Ideal S1x128 .f32) : biased a b (ix2 r x) = (a (ix2 r x) : EReal) + b (ix2 0 x) := by pointwise [biased]

theorem valA_at : valA (rd m c t) k l (ix2 r x) = ca (arg m c) (rowAt t (lt16 t) (row k r)) (clm l x) := (narrow_at _ _).trans (filtA_at m c t k l r x)
theorem valY_at : valY (rd m c t) k l (ix2 r x) = ya (arg m c) (rowAt t (lt16 t) (row k r)) (clm l x) :=
  (gated_at _ _ _).trans (times (in0 m c t (row k r) (clm l x)) (filtA_at m c t k l r x))
theorem valU_at : valU (rd m c t) k l (ix2 r x) = u1 (arg m c) (rowAt t (lt16 t) (row k r)) (clm l x) :=
  (biased_at r x _ _).trans ((congrArg (filtB (rd m c t) k l (ix2 r x) + ·) (in11 m c t 0 (clm l x))).trans (filtB_at m c t k l r x))

end Cell

/-- An array filled cell by cell. -/
theorem whole_arr (φ : FTy) (v : Fin k0_t1_loop.trips → Fin 8 → FVec Ideal S64x128 φ) (f : Fin 512 → Row) (h : ∀ k l r x, v k l (ix2 r x) = f (row k r) (clm l x)) :
    (whole v : S512x1024.Idx → EReal) = arr φ f := arr_of fun y q => by
  refine (h _ _ _ _).trans (congrArg₂ f (Fin.ext ?_) (Fin.ext ?_))
  · show 64 * (y.val / 64) + y.val % 64 = y.val; omega
  · show 128 * (q.val / 128) + q.val % 128 = q.val; omega

/-- Row `y` of the point's blocks. -/
abbrev at_ (f : Arg → Fin 8192 → Row) : Fin 512 → Row := fun y => f (arg m c) (rowAt t (lt16 t) y)

theorem blkA : (whole (valA (rd m c t)) : Vec Ideal S512x1024 .bf16) = arr .bf16 (at_ m c t ca) := whole_arr _ _ _ fun k l r x => valA_at m c t k l r x
theorem blkY : (whole (valY (rd m c t)) : Vec Ideal S512x1024 .bf16) = arr .bf16 (at_ m c t ya) := whole_arr _ _ _ fun k l r x => valY_at m c t k l r x
theorem blkU : (whole (valU (rd m c t)) : Vec Ideal S512x1024 .f32) = arr .f32 (at_ m c t u1) := whole_arr _ _ _ fun k l r x => valU_at m c t k l r x
theorem blkG : (iblk m c 12 t : Vec Ideal S1x1024 .f32) = one (arg m c).gam := one_of fun q => in12 m c t 0 q
theorem blkB : (iblk m c 13 t : Vec Ideal S1x1024 .f32) = one (arg m c).bet := one_of fun q => in13 m c t 0 q

/-! ## The layer norm and the swish -/

section Payload

variable (v : Fin 512 → Row) (g b : Row)

theorem pay143 : k0_pay143 (F := Ideal) (arr .f32 v) = arr .f32 fun y => cen (v y) := arr_of fun y k => by
  pointwise [k0_pay143, arr_at]
  rfl
theorem pay144 : k0_pay144 (F := Ideal) (arr .f32 v) = Arrays.col fun y => rs (v y) := col_of fun y => by
  pointwise [k0_pay144, pay143 v, arr_at]
  rfl
theorem pay145 : k0_pay145 (F := Ideal) (arr .f32 v) = arr .f32 fun y => nrm (v y) := arr_of fun y k => by
  pointwise [k0_pay145, pay143 v, pay144 v, arr_at, col_at]
  rfl
theorem pay1 (n : Fin 512 → Row) : k0_pay1 (F := Ideal) (arr .f32 n) (one g) (one b)
    = arr .bf16 fun y k => (n y k * g k + b k) * Ideal.logistic (n y k * g k + b k) := arr_of fun y k => by
  pointwise [k0_pay1, arr_at, one_at]

end Payload

/-! ## The arrays -/

theorem all14 : (dats m 0 c).arrAt 14 (cfgs 0).N = all fun i => ca (arg m c) i := by
  refine (dats m 0 c).arrAt_eq_of_covers 14 _ (by decide +kernel) fun t hf y => ?_
  blk_simp
  rw [after_14, blkA]
  refine all_at (fun i => ca (arg m c) i) t (lt16 t) _ y ?_ ?_ <;> blk_simp [idx14 t] <;> omega

theorem all15 : (dats m 0 c).arrAt 15 (cfgs 0).N = all fun i => ya (arg m c) i := by
  refine (dats m 0 c).arrAt_eq_of_covers 15 _ (by decide +kernel) fun t hf y => ?_
  blk_simp
  rw [after_15, blkY]
  refine all_at (fun i => ya (arg m c) i) t (lt16 t) _ y ?_ ?_ <;> blk_simp [idx15 t] <;> omega

theorem all16 : (dats m 0 c).arrAt 16 (cfgs 0).N = all fun i => nrm (u1 (arg m c) i) := by
  refine (dats m 0 c).arrAt_eq_of_covers 16 _ (by decide +kernel) fun t hf y => ?_
  blk_simp
  rw [after_16, blkU, pay145]
  refine all_at (fun i => nrm (u1 (arg m c) i)) t (lt16 t) _ y ?_ ?_ <;> blk_simp [idx16 t] <;> omega

theorem all17 : (dats m 0 c).arrAt 17 (cfgs 0).N = allCol fun i => rs (u1 (arg m c) i) := by
  refine (dats m 0 c).arrAt_eq_of_covers 17 _ (by decide +kernel) fun t hf y => ?_
  blk_simp
  rw [after_17, blkU, pay144]
  refine allCol_at (fun i => rs (u1 (arg m c) i)) t (lt16 t) _ y ?_; blk_simp [idx17 t]

theorem all18 : (dats m 0 c).arrAt 18 (cfgs 0).N = all fun i => u3 (arg m c) i := by
  refine (dats m 0 c).arrAt_eq_of_covers 18 _ (by decide +kernel) fun t hf y => ?_
  blk_simp
  rw [after_18, blkU, blkG, blkB, pay145, pay1]
  refine all_at (fun i => u3 (arg m c) i) t (lt16 t) _ y ?_ ?_ <;> blk_simp [idx18 t] <;> omega

end Cert.PreVal
-- ==== Proof.PreClaim.lean ====
/- The convolutions' two forward programs compute the same arrays, and each keeps its arguments. -/
module

public import proofs.«01_k».proof.Proof.PreRef
public import proofs.«01_k».proof.Proof.PreVal
public import proofs.«01_k».proof.Proof.Gen.PreIdeal
public import proofs.«01_k».proof.Defs

@[expose] public section

set_option maxRecDepth 16384

noncomputable section

namespace Cert.PreRef

open Cert.PreReferenceIdeal Cert.PreReferenceIdeal.Gen Cert.PreReferenceIdeal.Read Idealize.ShloMosaic Idealize.ShloMosaic.TcCoe
open Cert.Norm Cert.PreSpec Cert.Arrays

variable {x0 : (⟨S8192x7168, .f32⟩ : BufTy).Contents (Elt Ideal)} {x1 : (⟨S3x1024, .f32⟩ : BufTy).Contents (Elt Ideal)}
  {x2 : (⟨S31x1024, .f32⟩ : BufTy).Contents (Elt Ideal)} {x3 x4 x5 : (⟨S1024, .f32⟩ : BufTy).Contents (Elt Ideal)}
include x0 x1 x2 x3 x4 x5

theorem res0 : val_main_v69 (F := Ideal) x0 x1 = all fun i => ca (arg x0 x1 x2 x3 x4 x5) i := by
  funext j; rw [eq_ix2 j]
  exact at_v69 x0 x1 x2 x3 x4 x5 _ _
theorem res1 : val_main_v71 (F := Ideal) x0 x1 = all fun i => ya (arg x0 x1 x2 x3 x4 x5) i := by
  funext j; rw [eq_ix2 j]
  exact at_v71 x0 x1 x2 x3 x4 x5 _ _
theorem res2 : val_main_v61 (F := Ideal) x0 x2 x3 = all fun i => nrm (u1 (arg x0 x1 x2 x3 x4 x5) i) := by
  funext j; rw [eq_ix2 j]
  exact at_v61 x0 x1 x2 x3 x4 x5 _ _
theorem res3 : val_main_v57 (F := Ideal) x0 x2 x3 = allCol fun i => rs (u1 (arg x0 x1 x2 x3 x4 x5) i) := by
  funext j; rw [show j = ix2 (j 0) 0 from (eq_ix2 j).trans (congrArg (ix2 (j 0)) (Fin.fin_one_eq_zero (j 1)))]
  exact at_v57 x0 x1 x2 x3 x4 x5 _
theorem res4 : val_main_v72 (F := Ideal) x0 x2 x3 x4 x5 = all fun i => u3 (arg x0 x1 x2 x3 x4 x5) i := by
  funext j; rw [eq_ix2 j]
  exact at_v72 x0 x1 x2 x3 x4 x5 _ _

end Cert.PreRef

namespace Cert.PreClaim

open Idealize.ShloMosaic Idealize.ShloMosaic.TcCoe Idealize.SL.Sem
open Cert.Norm Cert.PreSpec Cert.Arrays Cert.PreVal

theorem frame_kernel : Cert.quiescent_Pre (hPre := Cert.Pre.Gen.facts) := fun m ρ _ => Cert.PreRun.frame m ρ

/-- The ideal program is the kernel's own text: its run is the kernel's at the extended reals. -/
theorem frame_ideal : Cert.quiescent_PreIdeal (hPreIdeal := Cert.PreIdeal.Gen.facts) := fun m ρ _ =>
  cast (by sl_kernel_rfl) (Cert.PreRun.frame (F := Ideal) m ρ)

theorem frame_ref : Cert.quiescent_PreReferenceIdeal (hPreReferenceIdeal := Cert.PreReferenceIdeal.Gen.facts) := fun m ρ _ =>
  (θ_run Cert.PreReferenceIdeal.defs _ _).mono (fun r h => ⟨fun c => (h c).2.2.2.2.2, sem_eq_zero_of_no_sems (by decide) r.2⟩)
    (Cert.PreReferenceIdeal.Value.run m ρ)

section Kernel

variable (m : (ℓ : Loc Pre.nD Pre.τ Pre.sig) → Buf (Elt Ideal) ℓ) (c : Dev Pre.nD)

/-- The first convolution. -/
def res0 : Pre.S8192x1024.Idx → EReal := all fun i => ca (arg m c) i
/-- The other branch's factor times it. -/
def res1 : Pre.S8192x1024.Idx → EReal := all fun i => ya (arg m c) i
/-- The second convolution's normalised rows. -/
def res2 : Pre.S8192x1024.Idx → EReal := all fun i => nrm (u1 (arg m c) i)
/-- The rows' reciprocal deviations. -/
def res3 : Pre.S8192x1.Idx → EReal := allCol fun i => rs (u1 (arg m c) i)
/-- The swish's output. -/
def res4 : Pre.S8192x1024.Idx → EReal := all fun i => u3 (arg m c) i

set_option maxHeartbeats 2000000 in
/-- The arrays of the kernel's run. -/
theorem run_kernel (ρ : Dev Pre.nD → PrngReg) :
    θ_run (Pre.defs (F := Ideal)) (onTc (τ := Pre.τ) (Pre.main (F := Ideal))) ⟨m, fun _ => 0, ρ⟩ fun r => ∀ c : Dev Pre.nD,
      r.2.mem ((c.tc : Thread Pre.nD Pre.τ).loc Pre.main_v4_0) = res0 m c
      ∧ r.2.mem ((c.tc : Thread Pre.nD Pre.τ).loc Pre.main_v4_1) = res1 m c
      ∧ r.2.mem ((c.tc : Thread Pre.nD Pre.τ).loc Pre.main_v4_2) = res2 m c
      ∧ r.2.mem ((c.tc : Thread Pre.nD Pre.τ).loc Pre.main_v4_3) = res3 m c
      ∧ r.2.mem ((c.tc : Thread Pre.nD Pre.τ).loc Pre.main_v4_4) = res4 m c
      ∧ r.2.mem ((c.tc : Thread Pre.nD Pre.τ).loc Pre.main_arg0) = m ((c.tc : Thread Pre.nD Pre.τ).loc Pre.main_arg0)
      ∧ r.2.mem ((c.tc : Thread Pre.nD Pre.τ).loc Pre.main_arg1) = m ((c.tc : Thread Pre.nD Pre.τ).loc Pre.main_arg1)
      ∧ r.2.mem ((c.tc : Thread Pre.nD Pre.τ).loc Pre.main_arg2) = m ((c.tc : Thread Pre.nD Pre.τ).loc Pre.main_arg2)
      ∧ r.2.mem ((c.tc : Thread Pre.nD Pre.τ).loc Pre.main_arg3) = m ((c.tc : Thread Pre.nD Pre.τ).loc Pre.main_arg3)
      ∧ r.2.mem ((c.tc : Thread Pre.nD Pre.τ).loc Pre.main_arg4) = m ((c.tc : Thread Pre.nD Pre.τ).loc Pre.main_arg4)
      ∧ r.2.mem ((c.tc : Thread Pre.nD Pre.τ).loc Pre.main_arg5) = m ((c.tc : Thread Pre.nD Pre.τ).loc Pre.main_arg5) :=
  (θ_run _ _ _).mono (fun r h c => by
    have hw := (h.1 c).1
    exact ⟨(hw 14).trans (all14 m c), (hw 15).trans (all15 m c), (hw 16).trans (all16 m c), (hw 17).trans (all17 m c), (hw 18).trans (all18 m c), h.2.1 c⟩)
    (θ_run_and (Cert.PreRun.run_main (F := Ideal) m ρ) (Cert.PreRun.frame (F := Ideal) m ρ))

end Kernel

section Ref

variable (m : (ℓ : Loc PreReferenceIdeal.nD PreReferenceIdeal.τ PreReferenceIdeal.sig) → Buf (Elt Ideal) ℓ) (c : Dev PreReferenceIdeal.nD)

/-- The reference's arguments. -/
def argR : Arg := PreRef.arg (m (c.tc.loc PreReferenceIdeal.main_arg0)) (m (c.tc.loc PreReferenceIdeal.main_arg1)) (m (c.tc.loc PreReferenceIdeal.main_arg2))
  (m (c.tc.loc PreReferenceIdeal.main_arg3)) (m (c.tc.loc PreReferenceIdeal.main_arg4)) (m (c.tc.loc PreReferenceIdeal.main_arg5))

/-- The arrays of the reference's run. -/
theorem run_ref (ρ : Dev PreReferenceIdeal.nD → PrngReg) :
    θ_run (PreReferenceIdeal.defs (F := Ideal)) (onTc (τ := PreReferenceIdeal.τ) (PreReferenceIdeal.main (F := Ideal))) ⟨m, fun _ => 0, ρ⟩
    fun r => ∀ c : Dev PreReferenceIdeal.nD,
      r.2.mem ((c.tc : Thread PreReferenceIdeal.nD PreReferenceIdeal.τ).loc PreReferenceIdeal.main_v69) = (all fun i => ca (argR m c) i)
      ∧ r.2.mem ((c.tc : Thread PreReferenceIdeal.nD PreReferenceIdeal.τ).loc PreReferenceIdeal.main_v71) = (all fun i => ya (argR m c) i)
      ∧ r.2.mem ((c.tc : Thread PreReferenceIdeal.nD PreReferenceIdeal.τ).loc PreReferenceIdeal.main_v61) = (all fun i => nrm (u1 (argR m c) i))
      ∧ r.2.mem ((c.tc : Thread PreReferenceIdeal.nD PreReferenceIdeal.τ).loc PreReferenceIdeal.main_v57) = (allCol fun i => rs (u1 (argR m c) i))
      ∧ r.2.mem ((c.tc : Thread PreReferenceIdeal.nD PreReferenceIdeal.τ).loc PreReferenceIdeal.main_v72) = (all fun i => u3 (argR m c) i)
      ∧ r.2.mem ((c.tc : Thread PreReferenceIdeal.nD PreReferenceIdeal.τ).loc PreReferenceIdeal.main_arg0) = m ((c.tc : Thread PreReferenceIdeal.nD PreReferenceIdeal.τ).loc PreReferenceIdeal.main_arg0)
      ∧ r.2.mem ((c.tc : Thread PreReferenceIdeal.nD PreReferenceIdeal.τ).loc PreReferenceIdeal.main_arg1) = m ((c.tc : Thread PreReferenceIdeal.nD PreReferenceIdeal.τ).loc PreReferenceIdeal.main_arg1)
      ∧ r.2.mem ((c.tc : Thread PreReferenceIdeal.nD PreReferenceIdeal.τ).loc PreReferenceIdeal.main_arg2) = m ((c.tc : Thread PreReferenceIdeal.nD PreReferenceIdeal.τ).loc PreReferenceIdeal.main_arg2)
      ∧ r.2.mem ((c.tc : Thread PreReferenceIdeal.nD PreReferenceIdeal.τ).loc PreReferenceIdeal.main_arg3) = m ((c.tc : Thread PreReferenceIdeal.nD PreReferenceIdeal.τ).loc PreReferenceIdeal.main_arg3)
      ∧ r.2.mem ((c.tc : Thread PreReferenceIdeal.nD PreReferenceIdeal.τ).loc PreReferenceIdeal.main_arg4) = m ((c.tc : Thread PreReferenceIdeal.nD PreReferenceIdeal.τ).loc PreReferenceIdeal.main_arg4)
      ∧ r.2.mem ((c.tc : Thread PreReferenceIdeal.nD PreReferenceIdeal.τ).loc PreReferenceIdeal.main_arg5) = m ((c.tc : Thread PreReferenceIdeal.nD PreReferenceIdeal.τ).loc PreReferenceIdeal.main_arg5) :=
  (θ_run _ _ _).mono (fun r h c => by
    obtain ⟨e0, e1, e2, e3, e4, hkeep⟩ := h c
    exact ⟨e0.trans ((Cert.PreReferenceIdeal.Read.val_main_v69_eq _ _).trans (PreRef.res0)),
      e1.trans ((Cert.PreReferenceIdeal.Read.val_main_v71_eq _ _).trans (PreRef.res1)),
      e2.trans ((Cert.PreReferenceIdeal.Read.val_main_v61_eq _ _).trans (PreRef.res2)),
      e3.trans ((Cert.PreReferenceIdeal.Read.val_main_v57_eq _ _).trans (PreRef.res3)),
      e4.trans ((Cert.PreReferenceIdeal.Read.val_main_v72_eq _ _).trans (PreRef.res4)), hkeep⟩)
    (Cert.PreReferenceIdeal.Value.run m ρ)

end Ref

set_option maxHeartbeats 2000000 in
theorem algebraic : Cert.algebraic_PreIdeal_PreReferenceIdeal (hPreIdeal := Cert.PreIdeal.Gen.facts)
    (hPreReferenceIdeal := Cert.PreReferenceIdeal.Gen.facts) := by
  intro m g m' g' _ hargs
  have eA : ∀ c, argR m' c = arg m c := fun c => by
    obtain ⟨a0, a1, a2, a3, a4, a5⟩ := hargs c
    unfold argR
    rw [a0, a1, a2, a3, a4, a5]; rfl
  have hR := run_ref m' g'
  simp only [eA] at hR
  exact ⟨fun c => res0 m c, fun c => res1 m c, fun c => res2 m c, fun c => res3 m c, fun c => res4 m c, cast (by sl_kernel_rfl) (run_kernel m g), hR⟩

end Cert.PreClaim
-- ==== Proof.GwArray.lean ====
/- The gradient of the input projection's weight: the product of the input, transposed, with the cotangent, as the kernel
   accumulates it over four blocks of 2048 rows and as the reference has it. -/
module

public import proofs.«01_k».proof.Proof.Gen.Gw.Value
public import proofs.«01_k».proof.Proof.Gen.GwReferenceIdeal.Read
public import Idealize.ShloMosaic.Lib.Pointwise
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.GwArray

open Idealize.ShloMosaic Idealize.ShloMosaic.TcCoe

/-- The weight's gradient, of the input and the cotangent. -/
def grad (x : (⟨2, ![8192, 1024]⟩ : Shape).Idx → EReal) (dp : (⟨2, ![8192, 7168]⟩ : Shape).Idx → EReal) :
    (⟨2, ![1024, 7168]⟩ : Shape).Idx → EReal := fun i =>
  ∑ s : Fin 8192, x (ix2 s (i 0)) * dp (ix2 s (i 1))

section Kernel

open Cert.Gw Cert.Gw.Gen

variable (m : (ℓ : Loc nD τ sig) → Buf (Elt Ideal) ℓ) (c : Dev nD)

/-- The arguments in the memory `m`. -/
def x : (⟨2, ![8192, 1024]⟩ : Shape).Idx → EReal := m ((c : Thread nD τ).loc main_arg0)
def dp : (⟨2, ![8192, 7168]⟩ : Shape).Idx → EReal := m ((c : Thread nD τ).loc main_arg2)

theorem V_x (i : (⟨2, ![8192, 1024]⟩ : Shape).Idx) : V m c main_v0 i = x m c i := by unfold V; after_reads_at; rfl
theorem V_dp (i : (⟨2, ![8192, 7168]⟩ : Shape).Idx) : V m c main_v1 i = dp m c i := by unfold V; after_reads_at; rfl

theorem idx0 : ∀ t : Fin cfg0.N, win0_0.index t 0 = t % 4 ∧ win0_0.index t 1 = 0 := by decide +kernel
theorem idx1 : ∀ t : Fin cfg0.N, win0_1.index t 0 = t % 4 ∧ win0_1.index t 1 = t / 4 := by decide +kernel
theorem idx2 : ∀ t : Fin cfg0.N, win0_2.index t 0 = 0 ∧ win0_2.index t 1 = t / 4 := by decide +kernel
theorem idx3 : ∀ t : Fin cfg0.N, win0_3.index t 0 = 0 ∧ win0_3.index t 1 = t / 4 := by decide +kernel

/-- What a point adds to its block. -/
def part (A B : (⟨2, ![2048, 1024]⟩ : Shape).Idx → EReal) (y : (⟨2, ![1024, 1024]⟩ : Shape).Idx) : EReal :=
  ∑ k : Fin 2048, A (ix2 k (y 0)) * B (ix2 k (y 1))

theorem pay2 (acc : (⟨2, ![1024, 1024]⟩ : Shape).Idx → EReal) (A B : (⟨2, ![2048, 1024]⟩ : Shape).Idx → EReal)
    (y : (⟨2, ![1024, 1024]⟩ : Shape).Idx) : k0_pay2 (F := Ideal) acc A B y = acc y + part A B y := by
  obtain ⟨p, q, rfl⟩ : ∃ (p : Fin 1024) (q : Fin 1024), y = ix2 p q := ⟨y 0, y 1, eq_ix2 y⟩
  pointwise [k0_pay2]
  rfl

theorem pay1 (y : (⟨2, ![1024, 1024]⟩ : Shape).Idx) : k0_pay1 (F := Ideal) y = 0 := by
  pointwise [k0_pay1]

theorem pay3 (acc : (⟨2, ![1024, 1024]⟩ : Shape).Idx → EReal) : k0_pay3 (F := Ideal) acc = acc := by
  funext y
  pointwise [k0_pay3]

theorem lt28 (t : Fin cfg0.N) : t.val < 28 := lt_of_lt_of_eq t.isLt N_0

theorem in0 (t : Fin cfg0.N) (y : Fin 2048) (k : Fin 1024) (r : Fin 8192) (h : r.val = 2048 * (t % 4) + y) :
    iblk m c 0 t (ix2 y k) = x m c (ix2 r k) := by
  refine Eq.trans (?_ : _ = V m c main_v0 (ix2 r k)) (V_x m c _)
  blk_ext [iblk, idx0 t] <;> omega
theorem in1 (t : Fin cfg0.N) (y : Fin 2048) (k : Fin 1024) (r : Fin 8192) (f : Fin 7168) (h : r.val = 2048 * (t % 4) + y)
    (hf : f.val = 1024 * (t / 4) + k) : iblk m c 1 t (ix2 y k) = dp m c (ix2 r f) := by
  refine Eq.trans (?_ : _ = V m c main_v1 (ix2 r f)) (V_dp m c _)
  blk_ext [iblk, idx1 t] <;> omega

/-- The accumulated block at a point that writes back. -/
theorem acc (t : Fin cfg0.N) (h : t.val % 4 = 3) (y : (⟨2, ![1024, 1024]⟩ : Shape).Idx) (i : (⟨2, ![1024, 7168]⟩ : Shape).Idx)
    (h0 : (i 0).val = (y 0).val) (h1 : (i 1).val = 1024 * (t / 4) + (y 1).val) :
    (outsAt0 m c t.val t.isLt).1 y = grad (x m c) (dp m c) i := by
  rw [Pipeline.eq_sum_fin_of_reset_step_apply_of_flush (fun n h => (outsAt0 m c n h).1) 4 (fun _ => (0 : EReal))
    (fun p y => part (iblk m c 0 p) (iblk m c 1 p) y)
    (fun t h y => by rw [outsAt0_A m c t h (by omega)]; frame_out; rw [pay2, pay1])
    (fun t h y => by
      by_cases h3 : t.val % 4 = 3
      · rw [outsAt0_C m c t h h3]; frame_out; rw [pay2]
      · rw [outsAt0_B m c t h h3]; frame_out; rw [pay2]) t h y, zero_add]
  unfold part grad
  have := lt28 t
  refine Fin.sum_mul_add_congr fun s k hl => ?_
  refine congrArg₂ _ ((in0 m c _ k _ ⟨s.val * 2048 + k.val, hl⟩ (by dsimp only; omega)).trans (congrArg (fun z => x m c (ix2 _ z)) (Fin.ext h0.symm)))
    (in1 m c _ k _ ⟨s.val * 2048 + k.val, hl⟩ (i 1) (by dsimp only; omega) (by dsimp only; omega))

theorem all2 : (dats m 0 c).arrAt 2 (cfgs 0).N = grad (x m c) (dp m c) := by
  refine (dats m 0 c).arrAt_eq_of_covers 2 _ (by decide +kernel) fun t hf y => ?_
  rw [after0_2]
  refine acc m c t ((flush0_2 t).mp hf) y _ ?_ ?_ <;> blk_simp [idx2 t] <;> omega

theorem all3 : (dats m 0 c).arrAt 3 (cfgs 0).N = grad (x m c) (dp m c) := by
  refine (dats m 0 c).arrAt_eq_of_covers 3 _ (by decide +kernel) fun t hf y => ?_
  have h3 := (flush0_3 t).mp hf
  have e : (outsAt0 m c t.val t.isLt).2 = (outsAt0 m c t.val t.isLt).1 := by
    rw [outsAt0_C m c t (by omega) h3]; frame_out; rw [pay3]
  rw [after0_3, e]
  refine acc m c t h3 y _ ?_ ?_ <;> blk_simp [idx3 t] <;> omega

end Kernel

open Cert.GwReferenceIdeal.Read in
theorem ref_grad (x : (⟨2, ![8192, 1024]⟩ : Shape).Idx → EReal) (dp : (⟨2, ![8192, 7168]⟩ : Shape).Idx → EReal) :
    val_main_v2 (F := Ideal) x dp = grad x dp := by
  funext i
  obtain ⟨p, q, rfl⟩ : ∃ (p : Fin 1024) (q : Fin 7168), i = ix2 p q := ⟨i 0, i 1, eq_ix2 i⟩
  pointwise [val_main_v2, val_main_v1]
  exact Finset.sum_congr rfl fun s _ => mul_comm (G := EReal) _ _

open Cert.GwReferenceIdeal.Read in
theorem ref_grad' (x : (⟨2, ![8192, 1024]⟩ : Shape).Idx → EReal) (dp : (⟨2, ![8192, 7168]⟩ : Shape).Idx → EReal) :
    val_main_v3 (F := Ideal) x dp = grad x dp :=
  (show val_main_v3 (F := Ideal) x dp = val_main_v2 (F := Ideal) x dp from rfl).trans (ref_grad x dp)

end Cert.GwArray
-- ==== Proof.GwClaim.lean ====
/- The projection's weight gradient: the two programs compute the same two arrays, and each keeps its arguments. -/
module

public import proofs.«01_k».proof.Proof.GwArray
public import proofs.«01_k».proof.Proof.Gen.GwIdeal
public import proofs.«01_k».proof.Defs

@[expose] public section

set_option maxRecDepth 16384

noncomputable section

namespace Cert.GwClaim

open Idealize.ShloMosaic Idealize.ShloMosaic.TcCoe Idealize.SL.Sem
open Cert.GwArray

theorem frame_kernel : Cert.quiescent_Gw (hGw := Cert.Gw.Gen.facts) := fun m ρ _ => Cert.Gw.Gen.frame m ρ

/-- The ideal program is the kernel's own text: its run is the kernel's at the extended reals. -/
theorem frame_ideal : Cert.quiescent_GwIdeal (hGwIdeal := Cert.GwIdeal.Gen.facts) := fun m ρ _ =>
  cast (by sl_kernel_rfl) (Cert.Gw.Gen.frame (F := Ideal) m ρ)

theorem frame_ref : Cert.quiescent_GwReferenceIdeal (hGwReferenceIdeal := Cert.GwReferenceIdeal.Gen.facts) := fun m ρ _ =>
  (θ_run Cert.GwReferenceIdeal.defs _ _).mono (fun r h => ⟨fun c => (h c).2.2, sem_eq_zero_of_no_sems (by decide) r.2⟩)
    (Cert.GwReferenceIdeal.Value.run m ρ)

set_option maxHeartbeats 2000000 in
/-- The arrays of the kernel's run. -/
theorem run_kernel (m : (ℓ : Loc Gw.nD Gw.τ Gw.sig) → Buf (Elt Ideal) ℓ) (ρ : Dev Gw.nD → PrngReg) :
    θ_run (Gw.defs (F := Ideal)) (onTc (τ := Gw.τ) (Gw.main (F := Ideal))) ⟨m, fun _ => 0, ρ⟩ fun r => ∀ c : Dev Gw.nD,
      r.2.mem ((c.tc : Thread Gw.nD Gw.τ).loc Gw.main_v2_0) = (grad (x m c) (dp m c) : Gw.S1024x7168.Idx → EReal)
      ∧ r.2.mem ((c.tc : Thread Gw.nD Gw.τ).loc Gw.main_v2_1) = (grad (x m c) (dp m c) : Gw.S1024x7168.Idx → EReal)
      ∧ r.2.mem ((c.tc : Thread Gw.nD Gw.τ).loc Gw.main_arg0) = m ((c.tc : Thread Gw.nD Gw.τ).loc Gw.main_arg0)
      ∧ r.2.mem ((c.tc : Thread Gw.nD Gw.τ).loc Gw.main_arg1) = m ((c.tc : Thread Gw.nD Gw.τ).loc Gw.main_arg1)
      ∧ r.2.mem ((c.tc : Thread Gw.nD Gw.τ).loc Gw.main_arg2) = m ((c.tc : Thread Gw.nD Gw.τ).loc Gw.main_arg2) :=
  (θ_run _ _ _).mono (fun r h c => by
    obtain ⟨h0, h1, hargs⟩ := h c
    exact ⟨h0.trans (all2 m c), h1.trans (all3 m c), hargs⟩) (Cert.Gw.Value.run_blocks (F := Ideal) m ρ)

set_option maxHeartbeats 2000000 in
theorem algebraic : Cert.algebraic_GwIdeal_GwReferenceIdeal (hGwIdeal := Cert.GwIdeal.Gen.facts) (hGwReferenceIdeal := Cert.GwReferenceIdeal.Gen.facts) := by
  intro m ρ m' ρ' _ hargs
  refine ⟨fun c => grad (x m c) (dp m c), fun c => grad (x m c) (dp m c), cast (by sl_kernel_rfl) (run_kernel m ρ), ?_⟩
  refine (θ_run _ _ _).mono (fun r h c => ?_) (Cert.GwReferenceIdeal.Value.run m' ρ')
  obtain ⟨h0, h1, hkeep⟩ := h c
  obtain ⟨a0, a1, a2⟩ := hargs c
  exact ⟨h0.trans ((Cert.GwReferenceIdeal.Read.val_main_v2_eq _ _).trans (by rw [a0, a2]; exact ref_grad _ _)), h1.trans ((Cert.GwReferenceIdeal.Read.val_main_v3_eq _ _).trans (by rw [a0, a2]; exact ref_grad' _ _)), hkeep⟩

end Cert.GwClaim
-- ==== Proof.GxArray.lean ====
/- The gradient of the input: row `i` of α·dr₁ + dp·W_inᵀ, as the kernel's 16 blocks of rows write it and as the reference has it. -/
module

public import proofs.«01_k».proof.Proof.Arrays
public import proofs.«01_k».proof.Proof.Gen.Gx.Value
public import proofs.«01_k».proof.Proof.Gen.GxReferenceIdeal.Read
public import Idealize.ShloMosaic.Lib.Pointwise
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.GxArray

open Idealize.ShloMosaic Idealize.ShloMosaic.TcCoe
open Cert.Norm Cert.Arrays

/-- The residual's factor, the number that its literal is. -/
def alpha : EReal := Ideal.ofBits .f32 0x3F9837F0#32

/-- Row `i` of the input's gradient, of the weight, the residual's cotangent and the projection's. -/
def grad (wi : (⟨2, ![1024, 7168]⟩ : Shape).Idx → EReal) (dr : (⟨2, ![8192, 1024]⟩ : Shape).Idx → EReal)
    (dp : (⟨2, ![8192, 7168]⟩ : Shape).Idx → EReal) (i : Fin 8192) : Row := fun k =>
  alpha * dr (ix2 i k) + ∑ f : Fin 7168, dp (ix2 i f) * wi (ix2 k f)

section Kernel

open Cert.Gx Cert.Gx.Gen

variable (m : (ℓ : Loc nD τ sig) → Buf (Elt Ideal) ℓ) (c : Dev nD)

/-- The arguments in the memory `m`. -/
def wi : (⟨2, ![1024, 7168]⟩ : Shape).Idx → EReal := m ((c : Thread nD τ).loc main_arg1)
def dr : (⟨2, ![8192, 1024]⟩ : Shape).Idx → EReal := m ((c : Thread nD τ).loc main_arg2)
def dp : (⟨2, ![8192, 7168]⟩ : Shape).Idx → EReal := m ((c : Thread nD τ).loc main_arg3)

theorem V_dp (i : Fin 8192) (f : Fin 7168) : V m c main_v0 (ix2 i f) = dp m c (ix2 i f) := by unfold V; after_reads_at; rfl
theorem V_wi (k : Fin 1024) (f : Fin 7168) : V m c main_v1 (ix2 k f) = wi m c (ix2 k f) := by unfold V; after_reads_at; rfl
theorem V_dr (i : Fin 8192) (k : Fin 1024) : V m c main_arg2 (ix2 i k) = dr m c (ix2 i k) := by rw [V_main_arg2]; rfl

theorem idx0 : ∀ t : Fin cfg0.N, win0_0.index t 0 = t ∧ win0_0.index t 1 = 0 := by decide +kernel
theorem idx1 : ∀ t : Fin cfg0.N, win0_1.index t 0 = t ∧ win0_1.index t 1 = 0 := by decide +kernel
theorem idx2 : ∀ t : Fin cfg0.N, win0_2.index t 0 = 0 ∧ win0_2.index t 1 = 0 := by decide +kernel
theorem idx3 : ∀ t : Fin cfg0.N, win0_3.index t 0 = t ∧ win0_3.index t 1 = 0 := by decide +kernel

variable (t : Fin cfg0.N)

theorem lt16 : t.val < 16 := lt_of_lt_of_eq t.isLt N_0

theorem in0 (y : Fin 512) (k : Fin 1024) : iblk m c 0 t (ix2 y k) = dr m c (ix2 (rowAt t (lt16 t) y) k) := by
  refine Eq.trans (?_ : _ = V m c main_arg2 (ix2 (rowAt t (lt16 t) y) k)) (V_dr m c _ _)
  blk_ext [iblk, rowAt, idx0 t]
theorem in1 (y : Fin 512) (f : Fin 7168) : iblk m c 1 t (ix2 y f) = dp m c (ix2 (rowAt t (lt16 t) y) f) := by
  refine Eq.trans (?_ : _ = V m c main_v0 (ix2 (rowAt t (lt16 t) y) f)) (V_dp m c _ _)
  blk_ext [iblk, rowAt, idx1 t]
theorem in2 (k : Fin 1024) (f : Fin 7168) : iblk m c 2 t (ix2 k f) = wi m c (ix2 k f) := by
  refine Eq.trans (?_ : _ = V m c main_v1 (ix2 k f)) (V_wi m c _ _)
  blk_ext [iblk, idx2 t]

/-- What a point computes: its 512 rows of the gradient. -/
theorem pay (y : Fin 512) (k : Fin 1024) : k0_pay1 (F := Ideal) (iblk m c 0 t) (iblk m c 1 t) (iblk m c 2 t) (ix2 y k)
    = grad (wi m c) (dr m c) (dp m c) (rowAt t (lt16 t) y) k := by
  pointwise [k0_pay1, in0, in1, in2]
  rfl

theorem all3 : (dats m 0 c).arrAt 3 (cfgs 0).N = all (grad (wi m c) (dr m c) (dp m c)) := by
  refine (dats m 0 c).arrAt_eq_of_covers 3 _ (by decide +kernel) fun t hf y => ?_
  rw [after0_3]; unfold out0_3; frame_out; blk_simp
  refine (congrArg _ (eq_ix2 y)).trans ((pay m c t _ _).trans (all_at _ t (lt16 t) _ y ?_ ?_)) <;> blk_simp [idx3 t] <;> omega

end Kernel

open Cert.GxReferenceIdeal.Read in
theorem ref_grad (wi : (⟨2, ![1024, 7168]⟩ : Shape).Idx → EReal) (dr : (⟨2, ![8192, 1024]⟩ : Shape).Idx → EReal)
    (dp : (⟨2, ![8192, 7168]⟩ : Shape).Idx → EReal) : val_main_v6 (F := Ideal) wi dr dp = all (grad wi dr dp) := by
  funext i
  obtain ⟨p, q, rfl⟩ : ∃ (p : Fin 8192) (q : Fin 1024), i = ix2 p q := ⟨i 0, i 1, eq_ix2 i⟩
  pointwise [val_main_v6, val_main_v5, val_main_v4, val_main_v3, val_main_cst_0]
  exact add_comm (G := EReal) _ _

end Cert.GxArray
-- ==== Proof.GxClaim.lean ====
/- The input's gradient: the two programs compute the same array, and each keeps its arguments. -/
module

public import proofs.«01_k».proof.Proof.GxArray
public import proofs.«01_k».proof.Proof.Gen.GxIdeal
public import proofs.«01_k».proof.Defs

@[expose] public section

set_option maxRecDepth 16384

noncomputable section

namespace Cert.GxClaim

open Idealize.ShloMosaic Idealize.ShloMosaic.TcCoe Idealize.SL.Sem
open Cert.Arrays Cert.GxArray

theorem frame_kernel : Cert.quiescent_Gx (hGx := Cert.Gx.Gen.facts) := fun m ρ _ => Cert.Gx.Gen.frame m ρ

/-- The ideal program is the kernel's own text: its run is the kernel's at the extended reals. -/
theorem frame_ideal : Cert.quiescent_GxIdeal (hGxIdeal := Cert.GxIdeal.Gen.facts) := fun m ρ _ =>
  cast (by sl_kernel_rfl) (Cert.Gx.Gen.frame (F := Ideal) m ρ)

theorem frame_ref : Cert.quiescent_GxReferenceIdeal (hGxReferenceIdeal := Cert.GxReferenceIdeal.Gen.facts) := fun m ρ _ =>
  (θ_run Cert.GxReferenceIdeal.defs _ _).mono (fun r h => ⟨fun c => (h c).2, sem_eq_zero_of_no_sems (by decide) r.2⟩)
    (Cert.GxReferenceIdeal.Value.run m ρ)

set_option maxHeartbeats 2000000 in
/-- The arrays of the kernel's run. -/
theorem run_kernel (m : (ℓ : Loc Gx.nD Gx.τ Gx.sig) → Buf (Elt Ideal) ℓ) (ρ : Dev Gx.nD → PrngReg) :
    θ_run (Gx.defs (F := Ideal)) (onTc (τ := Gx.τ) (Gx.main (F := Ideal))) ⟨m, fun _ => 0, ρ⟩ fun r => ∀ c : Dev Gx.nD,
      r.2.mem ((c.tc : Thread Gx.nD Gx.τ).loc Gx.main_v2) = (all (grad (wi m c) (dr m c) (dp m c)) : Gx.S8192x1024.Idx → EReal)
      ∧ r.2.mem ((c.tc : Thread Gx.nD Gx.τ).loc Gx.main_arg0) = m ((c.tc : Thread Gx.nD Gx.τ).loc Gx.main_arg0)
      ∧ r.2.mem ((c.tc : Thread Gx.nD Gx.τ).loc Gx.main_arg1) = m ((c.tc : Thread Gx.nD Gx.τ).loc Gx.main_arg1)
      ∧ r.2.mem ((c.tc : Thread Gx.nD Gx.τ).loc Gx.main_arg2) = m ((c.tc : Thread Gx.nD Gx.τ).loc Gx.main_arg2)
      ∧ r.2.mem ((c.tc : Thread Gx.nD Gx.τ).loc Gx.main_arg3) = m ((c.tc : Thread Gx.nD Gx.τ).loc Gx.main_arg3) :=
  (θ_run _ _ _).mono (fun r h c => by
    obtain ⟨h0, hargs⟩ := h c
    exact ⟨h0.trans (all3 m c), hargs⟩) (Cert.Gx.Value.run_blocks (F := Ideal) m ρ)

set_option maxHeartbeats 2000000 in
theorem algebraic : Cert.algebraic_GxIdeal_GxReferenceIdeal (hGxIdeal := Cert.GxIdeal.Gen.facts) (hGxReferenceIdeal := Cert.GxReferenceIdeal.Gen.facts) := by
  intro m ρ m' ρ' _ hargs
  refine ⟨fun c => all (grad (wi m c) (dr m c) (dp m c)), cast (by sl_kernel_rfl) (run_kernel m ρ), ?_⟩
  refine (θ_run _ _ _).mono (fun r h c => ?_) (Cert.GxReferenceIdeal.Value.run m' ρ')
  obtain ⟨h0, hkeep⟩ := h c
  obtain ⟨a0, a1, a2, a3⟩ := hargs c
  exact ⟨h0.trans ((Cert.GxReferenceIdeal.Read.val_main_v6_eq _ _ _).trans (by rw [a1, a2, a3]; exact ref_grad _ _ _)), hkeep⟩

end Cert.GxClaim
-- ==== Proof.AdamArray.lean ====
/- The optimiser's arrays: every element of the step, of the two moments and of the gradient handed on is the same function of
   the four arguments' elements there. -/
module

public import proofs.«01_k».proof.Proof.Gen.Adam.Value
public import proofs.«01_k».proof.Proof.Gen.AdamReferenceIdeal.Read
public import Idealize.ShloMosaic.Lib.Pipeline.ValueKit
public import Idealize.ShloMosaic.Lib.Pipeline.ReadBack
public import Idealize.ShloMosaic.Lib.Pipeline.ValueKit.Acc

@[expose] public section

set_option maxRecDepth 16384

noncomputable section

namespace Cert.AdamArray

open Idealize.ShloMosaic Idealize.ShloMosaic.TcCoe

/-- An array of the weight's shape on one device. -/
abbrev Arr : Type := (⟨2, ![1024, 1792]⟩ : Shape).Idx → EReal

/-- The number of a 32-bit word. -/
abbrev lit (w : BitVec 32) : EReal := FloatOps.ofBits (F := Ideal) .f32 w

/-- The first moment after the step. -/
def mom (g a : EReal) : EReal := lit 0x3F666666#32 * a + lit 0x3DCCCCCD#32 * g
/-- The second moment after the step. -/
def vel (g b : EReal) : EReal := lit 0x3F7FBE77#32 * b + lit 0x3A83126F#32 * (g * g)
/-- The step, of the weight, the gradient and the two moments: both moments are divided by their corrections first. -/
def step (w g a b : EReal) : EReal :=
  lit 0xBA83126F#32 *
    (FloatOps.divf (F := Ideal) (φ := .f32) (FloatOps.divf (F := Ideal) (φ := .f32) (mom g a) (lit 0x3F26BD02#32))
      (FloatOps.sqrt (F := Ideal) (φ := .f32) (FloatOps.divf (F := Ideal) (φ := .f32) (vel g b) (lit 0x3C231ACC#32)) + lit 0x322BCC77#32)
      + lit 0x3C23D70A#32 * w)

section Kernel

open Cert.Adam Cert.Adam.Gen

variable (m : (ℓ : Loc nD τ sig) → Buf (Elt Ideal) ℓ) (c : Dev nD)

/-- The weight, the gradient and the moments in the memory `m`. -/
def w : Arr := m ((c : Thread nD τ).loc main_arg0)
def g : Arr := m ((c : Thread nD τ).loc main_arg1)
def a : Arr := m ((c : Thread nD τ).loc main_arg2)
def b : Arr := m ((c : Thread nD τ).loc main_arg3)

theorem all4 : (dats m 0 c).arrAt 4 (cfgs 0).N = g m c := by
  refine (dats m 0 c).arrAt_eq_of_covers 4 _ (by decide +kernel) fun t hf y => ?_
  rw [after0_4]; unfold out0_4; frame_out; blk_simp
  rfl
theorem all5 : (dats m 0 c).arrAt 5 (cfgs 0).N = fun i => step (w m c i) (g m c i) (a m c i) (b m c i) := by
  refine (dats m 0 c).arrAt_eq_of_covers 5 _ (by decide +kernel) fun t hf y => ?_
  rw [after0_5]; unfold out0_5; frame_out; blk_simp
  rfl
theorem all6 : (dats m 0 c).arrAt 6 (cfgs 0).N = fun i => mom (g m c i) (a m c i) := by
  refine (dats m 0 c).arrAt_eq_of_covers 6 _ (by decide +kernel) fun t hf y => ?_
  rw [after0_6]; unfold out0_6; frame_out; blk_simp
  rfl
theorem all7 : (dats m 0 c).arrAt 7 (cfgs 0).N = fun i => vel (g m c i) (b m c i) := by
  refine (dats m 0 c).arrAt_eq_of_covers 7 _ (by decide +kernel) fun t hf y => ?_
  rw [after0_7]; unfold out0_7; frame_out; blk_simp
  rfl

end Kernel

section Reference

open Cert.AdamReferenceIdeal.Read

variable (w g a b : Arr)

theorem ref_mom : val_main_v4 (F := Ideal) g a = fun i => mom (g i) (a i) := rfl
theorem ref_vel : val_main_v10 (F := Ideal) g b = fun i => vel (g i) (b i) := rfl
theorem ref_step : val_main_v23 (F := Ideal) w g a b = fun i => step (w i) (g i) (a i) (b i) := rfl

end Reference

end Cert.AdamArray
-- ==== Proof.AdamClaim.lean ====
/- The optimiser's two programs compute the same arrays, and each keeps its arguments. -/
module

public import proofs.«01_k».proof.Proof.AdamArray
public import proofs.«01_k».proof.Proof.Gen.AdamIdeal
public import proofs.«01_k».proof.Defs

@[expose] public section

set_option maxRecDepth 16384

noncomputable section

namespace Cert.AdamClaim

open Idealize.ShloMosaic Idealize.ShloMosaic.TcCoe Idealize.SL.Sem
open Cert.AdamArray

theorem frame_kernel : Cert.quiescent_Adam (hAdam := Cert.Adam.Gen.facts) := fun m ρ _ => Cert.Adam.Gen.frame m ρ

/-- The ideal program is the kernel's own text: its run is the kernel's at the extended reals. -/
theorem frame_ideal : Cert.quiescent_AdamIdeal (hAdamIdeal := Cert.AdamIdeal.Gen.facts) := fun m ρ _ =>
  cast (by sl_kernel_rfl) (Cert.Adam.Gen.frame (F := Ideal) m ρ)

theorem frame_ref : Cert.quiescent_AdamReferenceIdeal (hAdamReferenceIdeal := Cert.AdamReferenceIdeal.Gen.facts) := fun m ρ _ =>
  (θ_run Cert.AdamReferenceIdeal.defs _ _).mono (fun r h => ⟨fun c => (h c).2.2.2.2, sem_eq_zero_of_no_sems (by decide) r.2⟩)
    (Cert.AdamReferenceIdeal.Value.run m ρ)

set_option maxHeartbeats 2000000 in
/-- The arrays of the kernel's run. -/
theorem run_kernel (m : (ℓ : Loc Adam.nD Adam.τ Adam.sig) → Buf (Elt Ideal) ℓ) (ρ : Dev Adam.nD → PrngReg) :
    θ_run (Adam.defs (F := Ideal)) (onTc (τ := Adam.τ) (Adam.main (F := Ideal))) ⟨m, fun _ => 0, ρ⟩ fun r => ∀ c : Dev Adam.nD,
      r.2.mem ((c.tc : Thread Adam.nD Adam.τ).loc Adam.main_v0_0) = (g m c : Adam.S1024x1792.Idx → EReal)
      ∧ r.2.mem ((c.tc : Thread Adam.nD Adam.τ).loc Adam.main_v0_1) = (fun i => step (w m c i) (g m c i) (a m c i) (b m c i) : Adam.S1024x1792.Idx → EReal)
      ∧ r.2.mem ((c.tc : Thread Adam.nD Adam.τ).loc Adam.main_v0_2) = (fun i => mom (g m c i) (a m c i) : Adam.S1024x1792.Idx → EReal)
      ∧ r.2.mem ((c.tc : Thread Adam.nD Adam.τ).loc Adam.main_v0_3) = (fun i => vel (g m c i) (b m c i) : Adam.S1024x1792.Idx → EReal)
      ∧ r.2.mem ((c.tc : Thread Adam.nD Adam.τ).loc Adam.main_arg0) = m ((c.tc : Thread Adam.nD Adam.τ).loc Adam.main_arg0)
      ∧ r.2.mem ((c.tc : Thread Adam.nD Adam.τ).loc Adam.main_arg1) = m ((c.tc : Thread Adam.nD Adam.τ).loc Adam.main_arg1)
      ∧ r.2.mem ((c.tc : Thread Adam.nD Adam.τ).loc Adam.main_arg2) = m ((c.tc : Thread Adam.nD Adam.τ).loc Adam.main_arg2)
      ∧ r.2.mem ((c.tc : Thread Adam.nD Adam.τ).loc Adam.main_arg3) = m ((c.tc : Thread Adam.nD Adam.τ).loc Adam.main_arg3) :=
  (θ_run _ _ _).mono (fun r h c => by
    obtain ⟨h0, h1, h2, h3, hargs⟩ := h c
    exact ⟨h0.trans (all4 m c), h1.trans (all5 m c), h2.trans (all6 m c), h3.trans (all7 m c), hargs⟩) (Cert.Adam.Value.run_blocks (F := Ideal) m ρ)

set_option maxHeartbeats 2000000 in
theorem algebraic : Cert.algebraic_AdamIdeal_AdamReferenceIdeal (hAdamIdeal := Cert.AdamIdeal.Gen.facts) (hAdamReferenceIdeal := Cert.AdamReferenceIdeal.Gen.facts) := by
  intro m ρ m' ρ' _ hargs
  refine ⟨fun c => g m c, fun c => fun i => step (w m c i) (g m c i) (a m c i) (b m c i), fun c => fun i => mom (g m c i) (a m c i), fun c => fun i => vel (g m c i) (b m c i), cast (by sl_kernel_rfl) (run_kernel m ρ), ?_⟩
  refine (θ_run _ _ _).mono (fun r h c => ?_) (Cert.AdamReferenceIdeal.Value.run m' ρ')
  obtain ⟨h0, h1, h2, h3, hkeep⟩ := h c
  obtain ⟨a0, a1, a2, a3⟩ := hargs c
  exact ⟨h0.trans a1, h1.trans ((Cert.AdamReferenceIdeal.Read.val_main_v23_eq _ _ _ _).trans (by rw [a0, a1, a2, a3]; rfl)), h2.trans ((Cert.AdamReferenceIdeal.Read.val_main_v4_eq _ _).trans (by rw [a1, a2]; rfl)), h3.trans ((Cert.AdamReferenceIdeal.Read.val_main_v10_eq _ _).trans (by rw [a1, a3]; rfl)), hkeep⟩

end Cert.AdamClaim
-- ==== Proof.SumArray.lean ====
/- The sum of the eight devices' parts: the kernel adds them one after the other, the reference over the first axis. -/
module

public import proofs.«01_k».proof.Proof.Gen.Sum.Value
public import proofs.«01_k».proof.Proof.Gen.SumReferenceIdeal.Read
public import Idealize.ShloMosaic.PureOps.Ideal.Laws
public import Idealize.ShloMosaic.Lib.Pipeline.ValueKit
public import Idealize.ShloMosaic.Lib.ValueIdx
public import Idealize.ShloMosaic.Lib.Pointwise

@[expose] public section

set_option maxRecDepth 16384

noncomputable section

namespace Cert.SumArray

open Idealize.ShloMosaic Idealize.ShloMosaic.TcCoe

/-- The eight parts. -/
abbrev Parts : Type := (⟨3, ![8, 56, 1024]⟩ : Shape).Idx → EReal

/-- The sum of the parts at an element. -/
def total (x : Parts) : (⟨2, ![56, 1024]⟩ : Shape).Idx → EReal := fun i => ∑ k : Fin 8, x (ix3 k (i 0) (i 1))

theorem kernel_total (x : Parts) : Cert.Sum.Value.G1 (F := Ideal) x = total x := by
  funext i
  obtain ⟨p, q, rfl⟩ : ∃ (p : Fin 56) (q : Fin 1024), i = ix2 p q := ⟨i 0, i 1, eq_ix2 i⟩
  unfold Cert.Sum.Value.G1
  pointwise [Cert.Sum.Gen.k0_pay1]
  show _ = ∑ k : Fin 8, x (ix3 k p q)
  rw [Fin.sum_univ_eight]

theorem ref_total (x : Parts) : Cert.SumReferenceIdeal.Read.val_main_v0 (F := Ideal) x = total x := by
  funext i
  rw [Cert.SumReferenceIdeal.Read.val_main_v0_apply]
  have e : Cert.SumReferenceIdeal.Read.val_main_cst (F := Ideal) (Shape.Idx.first Cert.SumReferenceIdeal.Gen.h_S_) = 0 := by
    pointwise [Cert.SumReferenceIdeal.Read.val_main_cst]
  rw [e, zero_add]
  refine Finset.sum_congr rfl fun k _ => congrArg x ?_
  funext d; fin_cases d <;> rfl

end Cert.SumArray
-- ==== Proof.SumClaim.lean ====
/- The sum of the devices' parts: the two programs compute the same array, and each keeps its argument. -/
module

public import proofs.«01_k».proof.Proof.SumArray
public import proofs.«01_k».proof.Proof.Gen.SumIdeal
public import proofs.«01_k».proof.Defs

@[expose] public section

set_option maxRecDepth 16384

noncomputable section

namespace Cert.SumClaim

open Idealize.ShloMosaic Idealize.ShloMosaic.TcCoe Idealize.SL.Sem
open Cert.SumArray

theorem frame_kernel : Cert.quiescent_Sum (hSum := Cert.Sum.Gen.facts) := fun m ρ _ => Cert.Sum.Gen.frame m ρ

/-- The ideal program is the kernel's own text: its run is the kernel's at the extended reals. -/
theorem frame_ideal : Cert.quiescent_SumIdeal (hSumIdeal := Cert.SumIdeal.Gen.facts) := fun m ρ _ =>
  cast (by sl_kernel_rfl) (Cert.Sum.Gen.frame (F := Ideal) m ρ)

theorem frame_ref : Cert.quiescent_SumReferenceIdeal (hSumReferenceIdeal := Cert.SumReferenceIdeal.Gen.facts) := fun m ρ _ =>
  (θ_run Cert.SumReferenceIdeal.defs _ _).mono (fun r h => ⟨fun c => (h c).2, sem_eq_zero_of_no_sems (by decide) r.2⟩)
    (Cert.SumReferenceIdeal.Value.run m ρ)

set_option maxHeartbeats 2000000 in
/-- The arrays of the kernel's run. -/
theorem run_kernel (m : (ℓ : Loc Sum.nD Sum.τ Sum.sig) → Buf (Elt Ideal) ℓ) (ρ : Dev Sum.nD → PrngReg) :
    θ_run (Sum.defs (F := Ideal)) (onTc (τ := Sum.τ) (Sum.main (F := Ideal))) ⟨m, fun _ => 0, ρ⟩ fun r => ∀ c : Dev Sum.nD,
      r.2.mem ((c.tc : Thread Sum.nD Sum.τ).loc Sum.main_v0) = (total (m ((c.tc : Thread Sum.nD Sum.τ).loc Sum.main_arg0)) : Sum.S56x1024.Idx → EReal)
      ∧ r.2.mem ((c.tc : Thread Sum.nD Sum.τ).loc Sum.main_arg0) = m ((c.tc : Thread Sum.nD Sum.τ).loc Sum.main_arg0) :=
  (θ_run _ _ _).mono (fun r h c => by
    obtain ⟨h0, hargs⟩ := h c
    exact ⟨h0.trans (kernel_total _), hargs⟩) (Cert.Sum.Value.run (F := Ideal) m ρ)

set_option maxHeartbeats 2000000 in
theorem algebraic : Cert.algebraic_SumIdeal_SumReferenceIdeal (hSumIdeal := Cert.SumIdeal.Gen.facts) (hSumReferenceIdeal := Cert.SumReferenceIdeal.Gen.facts) := by
  intro m ρ m' ρ' _ hargs
  refine ⟨fun c => total (m ((c.tc : Thread Sum.nD Sum.τ).loc Sum.main_arg0)), cast (by sl_kernel_rfl) (run_kernel m ρ), ?_⟩
  refine (θ_run _ _ _).mono (fun r h c => ?_) (Cert.SumReferenceIdeal.Value.run m' ρ')
  obtain ⟨h0, hkeep⟩ := h c
  have a0 := hargs c
  exact ⟨h0.trans ((Cert.SumReferenceIdeal.Read.val_main_v0_eq _).trans (by rw [a0]; exact ref_total _)), hkeep⟩

end Cert.SumClaim
-- ==== Proof.ExchangeLaunch.lean ====
/- The launch of an exchange: one call with no window, in which the devices write into each other's results.

   The call has no handshake at its entry: a device writes another's result as soon as it starts. So the counters of
   all devices AND their arrays go into one step before any starts (`hglob`), which is what this launch adds to the
   library's. -/
module

public import Idealize.ShloMosaic.Lib.Pipeline.Launch
public import Idealize.ShloMosaic.Lib.Pipeline.Kit
public import Idealize.ShloMosaic.Lib.Quiescent
public import Idealize.ShloMosaic.Lib.Tactic

@[expose] public section

noncomputable section

namespace Cert.ExchangeLaunch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

abbrev τ : Topo := Topo.v7x

abbrev noWin {sig : RefSig} : Fin 0 → Pipeline.Window sig .none := Fin.elim0

/-- A call with no window: its body and the counters it names, `n` for its sends and `n` for its receives. -/
structure Site (sig : RefSig) (Λ₀ : Labels) where
  body : Λ₀.Label
  args : Fin Pipeline.Grid.none.N → ((w : Fin 0) → Fin (noWin (sig := sig) w).nbuf) → Λ₀.Args body
  n : ℕ
  sem : Fin n ⊕ Fin n → DmaSem sig

variable {nD : ℕ} {sig : RefSig} {Λ₀ : Labels} {F : FTy → Type} [FloatOps F]

abbrev UU (nD : ℕ) (sig : RefSig) : Type := UR sig nD τ

local notation "𝕄" => MT nD τ sig Unit (Elt F) ℕ (UU nD sig) ℕ

abbrev ER : Emb (UR sig nD τ) (MT nD τ sig Unit (Elt F) ℕ (UU nD sig) ℕ) :=
  (uEmb (nD := nD) (τ := τ) (sig := sig) (Ix := Unit) (Val := Elt F) (Name := ℕ) (U := UU nD sig) (Lvl := ℕ)).toEmb

abbrev 𝒱₀ : Variants := Variants.none

namespace Site
variable (P : Site sig Λ₀)

abbrev osem (k : Fin P.n ⊕ Fin P.n) : SemLoc sig := .dma (P.sem k)

abbrev cfg : Pipeline.Cfg sig Λ₀ where
  grid := .none
  W := 0
  win := noWin
  body := P.body
  bodyArgs := P.args

abbrev cfgs : Fin 1 → Pipeline.Cfg sig Λ₀ := fun _ => P.cfg
abbrev pcfgs : Fin 1 → Pipeline.PCfg sig Λ₀ (Elt F) := fun p => (P.cfgs p).toPCfg

/-- What the launch needs of the layout. -/
structure Facts (nD : ℕ) (P : Site sig Λ₀) : Prop where
  cell : Function.Injective (Pipeline.cellOf (nD := nD) (τ := τ) P.cfgs)
  win : Pipeline.WinFacts P.cfg.spec
  own : Pipeline.OwnSemFacts P.cfg.spec P.osem
  allScoped : ∀ sm : SemLoc sig, sm.isScoped .tc = true
  rest : ∀ {F : FTy → Type} [FloatOps F] (c : Dev nD), (Pipeline.scopedRest (τ := τ) (Ix := Unit) (Name := ℕ) (U := UU nD sig) (Lvl := ℕ) (Val := Elt F) P.cfg.spec c
    : sProp (MT nD τ sig Unit (Elt F) ℕ (UU nD sig) ℕ)) = BI.emp

end Site

variable (P : Site sig Λ₀) (hP : P.Facts nD)

variable (m : (ℓ : Loc nD τ sig) → Buf (Elt F) ℓ) (ρ : Dev nD → PrngReg)

/-- A device's arrays as launched. -/
abbrev bufs (c : Dev nD) : sProp 𝕄 := unscopedBufs c fun b => m ((c : Thread nD τ).loc b)

abbrev own (c : Dev nD) : sProp 𝕄 :=
  Pipeline.ownSems0 (Ix := Unit) (Name := ℕ) (U := UU nD sig) (Lvl := ℕ) (Val := Elt F) (τ := τ) P.osem c

abbrev idle (c : Dev nD) : sProp 𝕄 :=
  Pipeline.idleSems0 (Ix := Unit) (Name := ℕ) (U := UU nD sig) (Lvl := ℕ) (Val := Elt F) (τ := τ) P.cfgs hP.cell (0 : Fin 1) hP.own c

abbrev stageCells (c : Dev nD) : sProp 𝕄 :=
  Pipeline.cellsSems0 (Ix := Unit) (Name := ℕ) (U := UU nD sig) (Lvl := ℕ) (Val := Elt F) (τ := τ) P.cfgs (0 : Fin 1) c

include hP in
omit [FloatOps F] in
theorem sems_split (c : Dev nD) : (scopedSems0 (c.tc : Thread nD τ) : sProp 𝕄) = iprop((stageCells P c ∗ own P c) ∗ idle P hP c) :=
  Pipeline.scopedSems0_split P.cfgs hP.cell (0 : Fin 1) hP.win.to₀ hP.own c

include hP in
omit [FloatOps F] in
theorem bufs_split (c : Dev nD) : (scopedBufs (c.tc : Thread nD τ) : sProp 𝕄)
    = iprop(Dat.staging P.cfg c ∗ Pipeline.scopedRest P.cfg.spec c) :=
  Pipeline.scopedBufs_split P.cfgs (0 : Fin 1) hP.win.to₀.stage_scoped hP.win.to₀.stage_inj (fun w => w.elim0) c

omit [FloatOps F] in
/-- Nothing is held of no windows. -/
theorem none_of {Φ : Fin 0 → sProp 𝕄} : (BI.emp : sProp 𝕄) ⊢ bigSep Finset.univ Φ :=
  Entails.of_eq (by rw [Finset.univ_eq_empty, BI.bigSep_empty])

abbrev DD : Type := (p : Fin 1) → (c : Dev nD) → Dat τ (Elt F) Unit ℕ (UU nD sig) ℕ (Pipeline.pin (P.pcfgs (F := F)) (fun p => (P.cfgs p).toPCfg_adm) p) c

variable (d : DD (nD := nD) (F := F) P) (defs₀ : Defs nD τ sig (Elt F) Λ₀)

/-- What the region takes of a device that owes `O`: no window, so only that. -/
theorem entry (c : Dev nD) (O : CellTallies nD τ sig Unit) (h : (d 0 c).owed 0 = O) :
    (owes (c.tc : Thread nD τ) O ∅ : sProp 𝕄)
      ⊢ Pipeline.EntryPre (Pipeline.pin (P.pcfgs (F := F)) (fun p => (P.cfgs p).toPCfg_adm)) d () (ER (nD := nD) (F := F)) (fun _ => 0) (0 : Fin 1) c := by
  unfold Pipeline.EntryPre Pipeline.PerCore.EntryPre Dat.owesAt
  rw [h]
  have h1 : (BI.emp : sProp 𝕄) ⊢ (d 0 c).arrays fun w => (d 0 c).arrAt w 0 := none_of
  have h2 : (BI.emp : sProp 𝕄) ⊢ Pipeline.PerCore.cellsWaits (fun _ => Pipeline.pin (P.pcfgs (F := F)) fun p => (P.cfgs p).toPCfg_adm) d () 0 c := none_of
  have h3 : (BI.emp : sProp 𝕄) ⊢ Pipeline.PerCore.cellsInit (fun _ => Pipeline.pin (P.pcfgs (F := F)) fun p => (P.cfgs p).toPCfg_adm) d (ER (nD := nD) (F := F)) (fun _ => 0) 0 c := none_of
  have h4 : (BI.emp : sProp 𝕄) ⊢ Pipeline.PerCore.toksInit (fun _ => Pipeline.pin (P.pcfgs (F := F)) fun p => (P.cfgs p).toPCfg_adm) (ER (nD := nD) (F := F)) 0 c := none_of
  iintro HL
  isplitr
  · iapply h1; iempintro
  isplitl [HL]
  · iexists ∅
    isplitr; · ipureintro; rw [Finset.coe_empty]; exact Set.empty_subset _
    iexact HL
  isplitr
  · iapply h2; iempintro
  isplitr
  · iapply h3; iempintro
  iapply h4; iempintro

theorem exit (c : Dev nD) (h : (d 0 c).owed (Fin.last _) = 0) :
    Pipeline.EntryPost (Pipeline.pin (P.pcfgs (F := F)) (fun p => (P.cfgs p).toPCfg_adm)) d () (0 : Fin 1) c
      ⊢ (iprop(∃ W, owes (c.tc : Thread nD τ) (0 : CellTallies nD τ sig Unit) W) : sProp 𝕄) := by
  unfold Pipeline.EntryPost Pipeline.PerCore.EntryPost Dat.owesAt
  rw [h]
  iintro ⟨-, ⟨%W, -, HW⟩⟩
  iexists W; iexact HW

theorem leave (c : Dev nD) (Y : Dev nD → sProp 𝕄) (hout : (d 0 c).Φ (Fin.last _) ⊢ iprop(Y c ∗ own P c)) :
    iprop((d 0 c).Φ (Fin.last _) ∗ stageCells P c ∗ Dat.staging P.cfg c ∗ idle P hP c)
      ⊢ iprop(Y c ∗ scopedSems0 (c.tc : Thread nD τ) ∗ scopedBufs (c.tc : Thread nD τ)) := by
  rw [sems_split P hP, bufs_split P hP, hP.rest]
  iintro ⟨HΦ, Hc, Hs, Hi⟩
  ihave H := hout $$ HΦ
  icases H with ⟨HY, Ho⟩
  isplitl [HY]; · iexact HY
  isplitl [Hc Ho Hi]
  · isplitl [Hc Ho]; · isplitl [Hc] <;> iassumption
    iexact Hi
  isplitl [Hs]; · iexact Hs
  iempintro

set_option maxHeartbeats 1000000 in
theorem region (hbody : ∀ c, BodyObligation (d 0 c) defs₀ 𝒱₀ () Set.univ)
    (S Y : Dev nD → sProp 𝕄) (O₀ : Dev nD → CellTallies nD τ sig Unit)
    (hin : ∀ c, iprop(S c ∗ Pipeline.launchCred O₀ c) ⊢ (d 0 c).Φ 0)
    (hout : ∀ c, (d 0 c).Φ (Fin.last _) ⊢ iprop(Y c ∗ own P c)) (c : Dev nD) (Q : PUnit → sProp 𝕄) :
    iprop(Pipeline.EntryPre (Pipeline.pin (P.pcfgs (F := F)) (fun p => (P.cfgs p).toPCfg_adm)) d () (ER (nD := nD) (F := F)) (fun _ => 0) (0 : Fin 1) c
        ∗ Pipeline.prefHeld (P.pcfgs (F := F) 0).pre c (fun k => k.elim0) ((P.cfgs 0).toPCfg_adm (Val := Elt F)).1
        ∗ iprop(S c ∗ Pipeline.launchCred O₀ c) ∗ idle P hP c ∗ scopedBufs (c.tc : Thread nD τ))
      ⊢ iprop(((Pipeline.EntryPost (Pipeline.pin (P.pcfgs (F := F)) (fun p => (P.cfgs p).toPCfg_adm)) d () (0 : Fin 1) c
              ∗ Y c ∗ scopedSems0 (c.tc : Thread nD τ) ∗ scopedBufs (c.tc : Thread nD τ))
            -∗ wp frame (wpE (Pipeline.defs (P.pcfgs (F := F)) defs₀) (Variants.lift 𝒱₀) (c.tc : Thread nD τ) none) Set.univ (.ret ⟨⟩) Q)
          -∗ wp frame (wpE (Pipeline.defs (P.pcfgs (F := F)) defs₀) (Variants.lift 𝒱₀) (c.tc : Thread nD τ) none) Set.univ
              (.op (.customCall (Pipeline.entry (0 : Fin 1)) ()) fun _ => .ret ⟨⟩) Q) :=
  Pipeline.wp_customCall_entry_frame (P.pcfgs (F := F)) (fun p => (P.cfgs p).toPCfg_adm) d () (ER (nD := nD) (F := F)) (fun _ => 0) hP.cell (0 : Fin 1)
    defs₀ 𝒱₀ (fun k => k.elim0) c Set.univ (fun _ _ => Set.mem_univ _)
    (hbody c).loose (fun w => w.elim0) none (fun u h => nomatch h) (X := iprop(S c ∗ Pipeline.launchCred O₀ c)) (Y := Y c)
    (R := Pipeline.scopedRest P.cfg.spec c) (I := idle P hP c)
    (Entails.of_eq (bufs_split P hP c)) (by iintro ⟨H, -, -⟩; iapply (hin c); iexact H) (leave P hP d c Y (hout c))
    (k := fun _ => .ret ⟨⟩) (Q := Q)

set_option maxHeartbeats 1000000 in
theorem run_core (hbody : ∀ c, BodyObligation (d 0 c) defs₀ 𝒱₀ () Set.univ)
    (O₀ : Dev nD → CellTallies nD τ sig Unit) (howed₀ : ∀ c, (d 0 c).owed 0 = O₀ c) (howedN : ∀ c, (d 0 c).owed (Fin.last _) = 0)
    (S Y : Dev nD → sProp 𝕄)
    (hin : ∀ c, iprop(S c ∗ Pipeline.launchCred O₀ c) ⊢ (d 0 c).Φ 0)
    (hout : ∀ c, (d 0 c).Φ (Fin.last _) ⊢ iprop(Y c ∗ own P c)) (c : Dev nD) :
    iprop(S c ∗ Pipeline.launchCred O₀ c ∗ owes (c.tc : Thread nD τ) (O₀ c) ∅ ∗ scopedBufs (c.tc : Thread nD τ) ∗ idle P hP c)
      ⊢ wp frame (wpE (Pipeline.defs (P.pcfgs (F := F)) defs₀) (Variants.lift 𝒱₀) (c.tc : Thread nD τ) none) Set.univ
          (.op (.customCall (Pipeline.entry (0 : Fin 1)) ()) fun _ => .ret PUnit.unit)
          (fun _ : PUnit => post (liftTc (fun c => iprop(Y c ∗ scopedSems0 (c.tc : Thread nD τ))) BI.emp) (c.tc : Thread nD τ)) := by
  iintro ⟨HS, Hcr, HL, Hsb, Hi⟩
  iapply (region P hP d defs₀ hbody S Y O₀ hin hout c _) $$ [HS Hcr HL Hsb Hi]
  · isplitl [HL]
    · iapply (entry P d c (O₀ c) (howed₀ c)); iexact HL
    isplitr
    · iapply (show (BI.emp : sProp 𝕄) ⊢ Pipeline.prefHeld (P.pcfgs (F := F) 0).pre c (fun k => k.elim0) ((P.cfgs 0).toPCfg_adm (Val := Elt F)).1 from none_of)
      iempintro
    isplitl [HS Hcr]; · isplitl [HS] <;> iassumption
    isplitl [Hi] <;> iassumption
  iintro ⟨Hpost, HY, Hss, -⟩
  rw [wp_ret]; imodintro
  unfold post; simp only [liftTc_tc]
  isplitr [Hpost]
  · isplitl [HY] <;> iassumption
  · iapply (exit P d c (howedN c)); iexact Hpost

include hP in
set_option maxHeartbeats 2000000 in
set_option maxRecDepth 8000 in
theorem launch (hbody : ∀ c, BodyObligation (d 0 c) defs₀ 𝒱₀ () Set.univ)
    (O₀ : Dev nD → CellTallies nD τ sig Unit) (howed₀ : ∀ c, (d 0 c).owed 0 = O₀ c) (howedN : ∀ c, (d 0 c).owed (Fin.last _) = 0)
    (G S Y : Dev nD → sProp 𝕄) (u₀ : UU nD sig)
    (hu₀ : (ownU u₀ : sProp 𝕄) ⊢ |={Set.univ}=> bigSep Finset.univ G)
    (hglob : (bigSep Finset.univ fun c => iprop(own P c ∗ bufs m c ∗ G c) : sProp 𝕄) ⊢ |={Set.univ}=> bigSep Finset.univ S)
    (hin : ∀ c, iprop(S c ∗ Pipeline.launchCred O₀ c) ⊢ (d 0 c).Φ 0)
    (hout : ∀ c, (d 0 c).Φ (Fin.last _) ⊢ iprop(Y c ∗ own P c))
    (QY : Dev nD → MemSt nD τ sig (Elt F) → Prop)
    (hY : ∀ c (s' : Phys nD τ sig (Elt F)), iprop(Y c ∗ SI s') ⊢ |={Set.univ}=> iprop(⌜QY c s'.mem⌝ ∗ SI s')) :
    θ_run (Pipeline.defs P.pcfgs defs₀) (onTc (τ := τ) fun _ => .op (.customCall (Pipeline.entry (0 : Fin 1)) ()) fun _ => .ret PUnit.unit) ⟨m, fun _ => 0, ρ⟩ (fun r => (∀ c, QY c r.2) ∧ r.2.sem = fun _ => 0) := by
  classical
  let pre : Dev nD → sProp 𝕄 := fun c => iprop(S c ∗ Pipeline.launchCred O₀ c ∗ owes (c.tc : Thread nD τ) (O₀ c) ∅
    ∗ scopedBufs (c.tc : Thread nD τ) ∗ idle P hP c)
  let fin : Dev nD → sProp 𝕄 := fun c => iprop(Y c ∗ scopedSems0 (c.tc : Thread nD τ))
  refine (θ_run (Pipeline.defs P.pcfgs defs₀) _ _).mono (Q := fun r => (∀ c : Dev nD, QY c r.2
        ∧ ∀ sm : SemLoc sig, sm.isScoped .tc = true → r.2.sem ((c.tc : Thread nD τ), sm) = 0)
      ∧ ∀ g' : GSem nD τ sig, g'.1.2 ≠ .tc → r.2.sem g' = 0)
    (fun r hr => ⟨fun c => (hr.1 c).1, sem_eq_zero_of_scoped hP.allScoped (sems_of_reads (fun c => (hr.1 c).2) hr.2)⟩)
    (adequate_tpu (Pipeline.defs P.pcfgs defs₀) _ _ _
      (reflect_intro_fupd_tc_sems (X := Unit) (Variants.lift 𝒱₀) (Pipeline.owing O₀) 0 (noBookings fun _ => le_rfl) (Pipeline.owing_of_ne O₀) u₀
        (fun _ => pre) (fun _ => fin) (fun _ => iprop(emp)) Set.univ ?_ (fun _ c => ?_) fun _ => ?_))
  · -- all devices' counters and arrays into one step
    have h1 (c : Dev nD) :
        coreInit (Ix := Unit) (Name := ℕ) (U := UU nD sig) (Lvl := ℕ) (Pipeline.owing O₀) 0 (⟨m, fun _ => 0, ρ⟩ : MemSt nD τ sig (Elt F)) (c.tc : Thread nD τ)
          ⊢ iprop((own P c ∗ bufs m c) ∗ Pipeline.launchCred O₀ c ∗ owes (c.tc : Thread nD τ) (O₀ c) ∅ ∗ scopedBufs (c.tc : Thread nD τ) ∗ idle P hP c) :=
      (Pipeline.coreInit_boundary_owing O₀ m ρ c).trans (by
        unfold boundary
        rw [sems_split P hP]
        iintro ⟨⟨Hsb, ⟨⟨-, Ho⟩, Hi⟩, -⟩, Hub, -, HL, -, -, Hcr⟩
        isplitl [Ho Hub]
        · isplitl [Ho] <;> iassumption
        isplitl [Hcr]; · iexact Hcr
        isplitl [HL]; · iexact HL
        isplitl [Hsb] <;> iassumption)
    have h2 : (bigSep Finset.univ fun c : Dev nD =>
          coreInit (Ix := Unit) (Name := ℕ) (U := UU nD sig) (Lvl := ℕ) (Pipeline.owing O₀) 0 (⟨m, fun _ => 0, ρ⟩ : MemSt nD τ sig (Elt F)) (c.tc : Thread nD τ))
        ⊢ iprop((bigSep Finset.univ fun c : Dev nD => iprop(own P c ∗ bufs m c))
          ∗ bigSep Finset.univ fun c : Dev nD => iprop(Pipeline.launchCred O₀ c ∗ owes (c.tc : Thread nD τ) (O₀ c) ∅ ∗ scopedBufs (c.tc : Thread nD τ) ∗ idle P hP c) : sProp 𝕄) := by
      rw [← bigSep_sep']; exact bigSep_mono fun c _ => h1 c
    have h3 : iprop((bigSep Finset.univ fun c : Dev nD => iprop(own P c ∗ bufs m c)) ∗ bigSep Finset.univ G)
        ⊢ (|={Set.univ}=> bigSep Finset.univ S : sProp 𝕄) := by
      rw [← bigSep_sep']
      refine (bigSep_mono fun c _ => ?_).trans hglob
      show iprop((own P c ∗ bufs m c) ∗ G c) ⊢ iprop(own P c ∗ bufs m c ∗ G c)
      iintro ⟨⟨H1, H2⟩, H3⟩
      isplitl [H1]; · iexact H1
      isplitl [H2] <;> iassumption
    iintro ⟨Hc, Hu⟩
    ihave H := h2 $$ Hc
    icases H with ⟨Hob, Hrest⟩
    imod hu₀ $$ Hu with HG
    imod h3 $$ [Hob HG] with HS
    · isplitl [Hob] <;> iassumption
    imodintro
    iexists ()
    isplitr []
    · simp only [pre]
      rw [bigSep_sep' Finset.univ S]
      isplitl [HS] <;> iassumption
    · iempintro
  · -- one device's run: the region, then the return
    simp only [pre]
    exact run_core P hP d defs₀ hbody O₀ howed₀ howedN S Y hin hout c
  · -- the final memory
    have hcore (c : Dev nD) (s' : Phys nD τ sig (Elt F)) : iprop(fin c ∗ SI s') ⊢ |={Set.univ}=>
        iprop(⌜QY c s'.mem ∧ ∀ sm : SemLoc sig, sm.isScoped .tc = true → s'.mem.sem ((c.tc : Thread nD τ), sm) = 0⌝ ∗ SI s') := by
      simp only [fin]
      iintro ⟨⟨HY, Hss⟩, HSI⟩
      ihave %hz := (tcScoped_read_pers c s') $$ [Hss HSI]
      · isplitl [Hss] <;> iassumption
      imod (hY c s') $$ [HY HSI] with ⟨%hy, HSI⟩
      · isplitl [HY] <;> iassumption
      imodintro
      isplitr
      · ipureintro; exact ⟨hy, hz⟩
      · iexact HSI
    iintro ⟨H, -, Hsc⟩ %s' HSI
    ihave %hsc := (scSems_read_zero m ρ s') $$ [Hsc HSI]
    · isplitl [Hsc] <;> iassumption
    imod (posts_fupd Finset.univ hcore s') $$ [H HSI] with %h
    · isplitl [H] <;> iassumption
    imodintro
    ipureintro
    exact ⟨fun c => h c (Finset.mem_univ c), hsc⟩

end Cert.ExchangeLaunch

end
-- ==== Proof.Exchange.lean ====
/- An exchange: each device starts `n` transfers, each into another device's result, and then waits for its own
   sends and for what the others send it. `mate j c` is the device that `c` sends its `j`-th piece to, and the one it has
   its `j`-th piece from. The run is an induction over the list of the transfers. -/
module

public import proofs.«01_k».proof.Proof.ExchangeLaunch
public import Idealize.ShloMosaic.Lib.Pipeline.BigSepL

@[expose] public section

noncomputable section

namespace Cert.Exchange

open Cert.ExchangeLaunch
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

/-- What an exchange sends where. -/
structure Plan (nD : ℕ) (sig : RefSig) (Λ₀ : Labels) extends Site sig Λ₀ where
  s : Shape
  e : EltTy
  inj : Function.Injective sem
  mate : Fin n → Dev nD → Dev nD
  mate_mate : ∀ j c, mate j (mate j c) = c
  piece : Dev nD → Fin n → Memref sig .tc .hbm s e
  land : Fin n → Memref sig .tc .hbm s e
  wordPiece : ∀ c j, (piece c j).view.WordExact
  wordLand : ∀ j, (land j).view.WordExact
  shared : ∀ j, (land j).view.ref.isScScratch = false
  typed : ∀ j c, DmaTarget.Typed (p := .tc) .hbm (.dma (sem (.inr j)) : SemLoc sig) (.remote (Dev.tc (mate j c) : Thread nD τ) (land j) (.dma (sem (.inl j))) (shared j))
  N : ℕ
  N_pos : 0 < N
  credPiece : ∀ c j, (piece c j).view.dmaCredit = N
  credLand : ∀ j, (land j).view.dmaCredit = N

variable {nD : ℕ} {sig : RefSig} {Λ₀ : Labels} {F : FTy → Type} [FloatOps F]

local notation "𝕄" => MT nD τ sig Unit (Elt F) ℕ (UU nD sig) ℕ

/-- What the pieces hold, and what the planes hold before and after. -/
structure Data (P : Plan nD sig Λ₀) (F : FTy → Type) [FloatOps F] where
  q : Fin P.n → PosShare TreeShare
  fs : ∀ (c : Dev nD) (j : Fin P.n), Buf (Elt F) ((P.piece c j).view.loc (c : Thread nD τ))
  fd : ∀ (c : Dev nD) (j : Fin P.n), Buf (Elt F) ((P.land j).view.loc (c : Thread nD τ))
  fl : ∀ (c : Dev nD) (j : Fin P.n), Buf (Elt F) ((P.land j).view.loc (c : Thread nD τ))
  landing : ∀ (c : Dev nD) (j : Fin P.n), ∀ i ∈ (P.land j).view.set,
    (P.land j).view.write (Elt F) (fd (P.mate j c) j) ((P.piece c j).view.read (Elt F) (fs c j)) Finset.univ i = fl (P.mate j c) j i

variable (P : Plan nD sig Λ₀) (D : Data P F)

abbrev Key : Type := Fin P.n ⊕ Fin P.n

/-! ## The counters and their one round -/

abbrev kcell (ck : Dev nD × Key P) : GSem nD τ sig := ((ck.1 : Thread nD τ), P.osem ck.2)

theorem kcell_inj : Function.Injective (kcell P) := fun ⟨c, k⟩ ⟨c', k'⟩ h =>
  Prod.ext (congrArg (fun g : GSem nD τ sig => g.1.1) h) (P.inj (SemLoc.dma.inj (congrArg Prod.snd h)))

def landPts (c : Dev nD) (j : Fin P.n) (f : Buf (Elt F) ((P.land j).view.loc (c : Thread nD τ))) : sProp 𝕄 :=
  ((P.land j).view.loc (c : Thread nD τ)) ↦[(P.land j).view.set]{fullShare} f
def piecePts (c : Dev nD) (j : Fin P.n) : sProp 𝕄 :=
  ((P.piece c j).view.loc (c : Thread nD τ)) ↦[(P.piece c j).view.set]{D.q j} D.fs c j

instance landPts_storable (c : Dev nD) (j : Fin P.n) (f) : BI.Storable (upEmb : UEmb _ 𝕄) (landPts (F := F) P c j f) := by
  unfold landPts; infer_instance

/-- What a counter's one amount hands its waiter: a landed plane at a receive semaphore, nothing at a send. -/
def payAt (c : Dev nD) : SemLoc sig → sProp 𝕄
  | .dma k => open Classical in if h : ∃ j, k = P.sem (.inr j) then landPts P c h.choose (D.fl c h.choose) else iprop(emp)
  | .reg _ => iprop(emp)

def Rd : Rounds.Schedule (GSem nD τ sig) Unit 𝕄 where
  duties g r := if r = 0 ∧ g.1.2 = .tc then {()} else ∅
  unitless _ := False
  amount _ _ _ := P.N
  payload g _ _ := payAt P D g.1.1 g.2
  amount_pos _ _ _ _ := P.N_pos

instance Rd_storable (g : GSem nD τ sig) (r : ℕ) (d : Unit) : BI.Storable (upEmb : UEmb _ 𝕄) ((Rd P D).payload g r d) := by
  show BI.Storable upEmb (payAt P D g.1.1 g.2)
  unfold payAt; split
  · split <;> infer_instance
  · infer_instance

theorem pay_send (c : Dev nD) (j : Fin P.n) : payAt P D c (P.osem (.inl j)) = iprop(emp) := by
  unfold payAt; exact dif_neg fun ⟨j', h⟩ => nomatch P.inj h
theorem pay_recv (c : Dev nD) (j : Fin P.n) : payAt P D c (P.osem (.inr j)) = landPts P c j (D.fl c j) := by
  have h : ∃ j', P.sem (.inr j) = P.sem (.inr j') := ⟨j, rfl⟩
  have hj : h.choose = j := (Sum.inr.inj (P.inj h.choose_spec)).symm
  unfold payAt; exact (dif_pos h).trans (by rw [hj])

theorem duties_at (ck : Dev nD × Key P) : (Rd P D).duties (kcell P ck) 0 = {()} := by dsimp only [Rd]; exact if_pos ⟨rfl, rfl⟩
theorem duties_after (g : GSem nD τ sig) : ∀ r, 1 ≤ r → (Rd P D).duties g r = ∅ := fun r hr => by
  dsimp only [Rd]; exact if_neg fun h => by omega
theorem expect_at (ck : Dev nD × Key P) : (Rd P D).expect (kcell P ck) 0 = P.N := by
  unfold Schedule.expect Schedule.amountOf; rw [duties_at, Finset.sum_singleton]; rfl

/-! ## What every device knows -/

def known (K : Dev nD × Key P → ℕ) : sProp 𝕄 :=
  iprop((bigSep Finset.univ fun ck => cellInv ER (Rd P D) (K ck) (kcell P ck)) ∗ bigSep Finset.univ fun ck => reached ER (kcell P ck) 0)
instance known_persistent (K : Dev nD × Key P → ℕ) : BI.Persistent (known P D K) := by unfold known; infer_instance

theorem known_inv (K : Dev nD × Key P → ℕ) (ck : Dev nD × Key P) : known P D K ⊢ cellInv ER (Rd P D) (K ck) (kcell P ck) := by
  have h : (bigSep Finset.univ fun ck => (cellInv ER (Rd P D) (K ck) (kcell P ck) : sProp 𝕄)) ⊢ cellInv ER (Rd P D) (K ck) (kcell P ck) :=
    bigSep_elim (Finset.mem_univ ck)
  unfold known; iintro ⟨H, -⟩; iapply h; iexact H
theorem known_reached (K : Dev nD × Key P → ℕ) (ck : Dev nD × Key P) : known P D K ⊢ reached ER (kcell P ck) 0 := by
  have h : (bigSep Finset.univ fun ck => (reached ER (kcell P ck) 0 : sProp 𝕄)) ⊢ reached ER (kcell P ck) 0 :=
    bigSep_elim (Finset.mem_univ ck)
  unfold known; iintro ⟨-, H⟩; iapply h; iexact H

abbrev credAt (c : Dev nD) (k : Key P) : sProp 𝕄 := cred (tallyAt (kcell P (c, k)) () P.N)
abbrev due (c : Dev nD) (j : Fin P.n) : CellTallies nD τ sig Unit := tallyAt (kcell P (P.mate j c, .inr j)) () P.N
def owe (c : Dev nD) (O : CellTallies nD τ sig Unit) : sProp 𝕄 := iprop(∃ W, owes (c : Thread nD τ) O W)

/-- What `c` owes with the transfers of `l` to start. -/
def dues (c : Dev nD) : List (Fin P.n) → CellTallies nD τ sig Unit
  | [] => 0
  | j :: l => dues c l + due P c j

/-! ## One transfer, one wait -/

section Steps
variable (defs₀ : Defs nD τ sig (Elt F) Λ₀) (K : Dev nD × Key P → ℕ) (c : Dev nD)

theorem wp_xsend (j : Fin P.n) {α : Type} {Q : α → sProp 𝕄} {k : PUnit → Prog (TpuEff nD τ sig (Elt F) Λ₀ .tc) α} (O : CellTallies nD τ sig Unit) :
    iprop(known P D K ∗ piecePts P D c j ∗ landPts P (P.mate j c) j (D.fd (P.mate j c) j)
        ∗ owe c (O + due P c j) ∗ dutyTok ER (kcell P (c, .inl j)) 0 () ∗ dutyTok ER (kcell P (P.mate j c, .inr j)) 0 ())
      ⊢ iprop(((credAt P c (.inl j) ∗ owe c O) -∗ wp frame (wpE defs₀ 𝒱₀ (c : Thread nD τ) none) Set.univ (k ⟨⟩) Q)
          -∗ wp frame (wpE defs₀ 𝒱₀ (c : Thread nD τ) none) Set.univ
              (.op (.enqueueDma (P.piece c j) (.remote (Dev.tc (P.mate j c) : Thread nD τ) (P.land j) (P.osem (.inl j)) (P.shared j)) (P.osem (.inr j))
                (P.wordPiece c j) (P.wordLand j) (P.typed j c)) k) Q) := by
  unfold owe piecePts landPts
  iintro ⟨#HK, Ha, Hl, ⟨%W, HO⟩, Ht1, Ht2⟩ Hk
  iapply (Rounds.wp_send_pointsTo 𝒱₀ ER (Rd P D) (c : Thread nD τ) none (κ₁ := K (c, .inl j)) (κ₂ := K (P.mate j c, .inr j))
    (src := P.piece c j) (dst := P.land j) (c' := (P.mate j c : Thread nD τ))
    (sS := P.osem (.inl j)) (sem := P.osem (.inr j)) (r₁ := 0) (r₂ := 0) (d₁ := ()) (d₂ := ()) (fd := D.fd (P.mate j c) j) (q := D.q j) (fs := D.fs c j)
    (by rw [duties_at P D (c, .inl j)]; exact Finset.mem_singleton_self _) (by rw [duties_at P D (P.mate j c, .inr j)]; exact Finset.mem_singleton_self _)
    () () P.N (P.credLand j) rfl rfl O rfl (W := W)
    (by
      show _ ⊢ payAt P D c (P.osem (.inl j))
      rw [pay_send]; iintro -; iempintro)
    (by
      show _ ⊢ payAt P D (P.mate j c) (P.osem (.inr j))
      rw [pay_recv]; unfold landPts
      exact Entails.of_eq (pointsTo_congr fun i hi => D.landing c j i hi))) $$ [Ha Hl HO Ht1 Ht2]
  · isplitr; · iapply (known_inv P D K (c, .inl j)); iexact HK
    isplitr; · iapply (known_inv P D K (P.mate j c, .inr j)); iexact HK
    isplitl [Ha]; · iexact Ha
    isplitl [Hl]; · iexact Hl
    isplitl [HO]; · iexact HO
    isplitl [Ht1]; · iexact Ht1
    isplitr; · iapply (known_reached P D K (c, .inl j)); iexact HK
    isplitl [Ht2]; · iexact Ht2
    iapply (known_reached P D K (P.mate j c, .inr j)); iexact HK
  iintro ⟨Hc, HO⟩
  iapply Hk
  isplitl [Hc]; · iexact Hc
  iexists W; iexact HO

theorem wp_xwait (x : Key P) {s t : Memref sig .tc .hbm P.s P.e} (hN : t.view.dmaCredit = P.N)
    {hsrc : s.view.WordExact} {hdst : t.view.WordExact}
    {α : Type} {Q : α → sProp 𝕄} {k : PUnit → Prog (TpuEff nD τ sig (Elt F) Λ₀ .tc) α} :
    iprop(known P D K ∗ credAt P c x ∗ owe c 0 ∗ atPos ER (kcell P (c, x)) 0 ∅ 0)
      ⊢ iprop(((owe c 0 ∗ semVal (kcell P (c, x)) 0 ∗ payAt P D c (P.osem x)) -∗ wp frame (wpE defs₀ 𝒱₀ (c : Thread nD τ) none) Set.univ (k ⟨⟩) Q)
          -∗ wp frame (wpE defs₀ 𝒱₀ (c : Thread nD τ) none) Set.univ (.op (.waitDma2 (P.sem x) s t hsrc hdst) k) Q) := by
  unfold owe
  iintro ⟨#HK, Hc, ⟨%W, HO⟩, Hat⟩ Hk
  iapply (Rounds.wp_wait_rest_token 𝒱₀ ER (Rd P D) (c : Thread nD τ) none (κ := K (c, x))
      (wpE_waitDma2_eq 𝒱₀ (c : Thread nD τ) none Set.univ) (Set.mem_univ _) () (O := 0) (W := W) (R := 0) (m := 0) (T := ∅)
      (by rw [Nat.zero_add, hN]; exact (expect_at P D (c, x)).symm)) $$ [Hc HO Hat]
  · isplitr; · iapply (known_inv P D K (c, x)); iexact HK
    isplitl [Hc]; · rw [hN]; iexact Hc
    isplitl [HO]; · iexact HO
    isplitr; · rw [MayWait_zero]; iempintro
    iexact Hat
  iintro ⟨HO, Hat, -, Hpay⟩
  ihave Hp := (show bigSep ((Rd P D).duties (kcell P (c, x)) 0 \ ∅) (fun u => (Rd P D).payload (kcell P (c, x)) 0 u) ⊢ payAt P D c (P.osem x) from
    Entails.of_eq (by rw [Finset.sdiff_empty, duties_at, bigSep_singleton]; rfl)) $$ Hpay
  imod (Rounds.cell_close ER (Rd P D) (Set.mem_univ (K (c, x))) (fun h => h) (R := 0 + 1) (duties_after P D (kcell P (c, x)))) $$ [Hat] with Hz
  · isplitr; · iapply (known_inv P D K (c, x)); iexact HK
    iexact Hat
  iapply Hk
  isplitl [HO]; · iexists _; iexact HO
  isplitl [Hz]; · iexact Hz
  iexact Hp

/-! ## All transfers, all waits -/

/-- The transfers of a list, started. -/
def sends {α : Type} (c : Dev nD) : List (Fin P.n) → Prog (TpuEff nD τ sig (Elt F) Λ₀ .tc) α → Prog (TpuEff nD τ sig (Elt F) Λ₀ .tc) α
  | [], k => k
  | j :: l, k => .op (.enqueueDma (P.piece c j) (.remote (Dev.tc (P.mate j c) : Thread nD τ) (P.land j) (P.osem (.inl j)) (P.shared j)) (P.osem (.inr j))
      (P.wordPiece c j) (P.wordLand j) (P.typed j c)) fun _ => sends c l k

/-- Their waits, each send's and the receive's beside it. -/
def waits {α : Type} (c : Dev nD) : List (Fin P.n) → Prog (TpuEff nD τ sig (Elt F) Λ₀ .tc) α → Prog (TpuEff nD τ sig (Elt F) Λ₀ .tc) α
  | [], k => k
  | j :: l, k => .op (.waitDma2 (P.sem (.inl j)) (P.land j) (P.piece c j) (P.wordLand j) (P.wordPiece c j)) fun _ =>
      .op (.waitDma2 (P.sem (.inr j)) (P.piece c j) (P.land j) (P.wordPiece c j) (P.wordLand j)) fun _ => waits c l k

/-- What a transfer needs, and what a pair of waits needs and gives. -/
def sendNeed (j : Fin P.n) : sProp 𝕄 := iprop(piecePts P D c j ∗ landPts P (P.mate j c) j (D.fd (P.mate j c) j)
  ∗ dutyTok ER (kcell P (c, .inl j)) 0 () ∗ dutyTok ER (kcell P (P.mate j c, .inr j)) 0 ())
def waitNeed (j : Fin P.n) : sProp 𝕄 := iprop((atPos ER (kcell P (c, .inl j)) 0 ∅ 0 ∗ atPos ER (kcell P (c, .inr j)) 0 ∅ 0) ∗ credAt P c (.inr j))
def waitGive (j : Fin P.n) : sProp 𝕄 := iprop((semVal (kcell P (c, .inl j)) 0 ∗ semVal (kcell P (c, .inr j)) 0) ∗ landPts P c j (D.fl c j))

theorem wp_sends (l : List (Fin P.n)) {α : Type} {Q : α → sProp 𝕄} (k : Prog (TpuEff nD τ sig (Elt F) Λ₀ .tc) α) :
    iprop(known P D K ∗ bigSepL l (sendNeed P D c) ∗ owe c (dues P c l))
      ⊢ iprop(((bigSepL l (fun j => credAt P c (.inl j)) ∗ owe c 0) -∗ wp frame (wpE defs₀ 𝒱₀ (c : Thread nD τ) none) Set.univ k Q)
          -∗ wp frame (wpE defs₀ 𝒱₀ (c : Thread nD τ) none) Set.univ (sends P c l k) Q) := by
  induction l with
  | nil =>
    unfold sends dues
    iintro ⟨-, He, HO⟩ Hk
    iapply Hk
    isplitl [He]; · iexact He
    iexact HO
  | cons j l ih =>
    rw [BI.bigSepL_cons', BI.bigSepL_cons']
    unfold sends dues
    iintro ⟨#HK, ⟨Hj, Hl⟩, HO⟩ Hk
    ihave Hj := (show sendNeed P D c j ⊢ _ from by unfold sendNeed; exact Entails.refl _) $$ Hj
    icases Hj with ⟨X, L, S, R⟩
    iapply (wp_xsend P D defs₀ K c j (dues P c l)) $$ [X L HO S R]
    · isplitr; · iexact HK
      isplitl [X]; · iexact X
      isplitl [L]; · iexact L
      isplitl [HO]; · iexact HO
      isplitl [S]; · iexact S
      iexact R
    iintro ⟨U, HO⟩
    iapply ih $$ [Hl HO]
    · isplitr; · iexact HK
      isplitl [Hl]; · iexact Hl
      iexact HO
    iintro ⟨Us, HO⟩
    iapply Hk
    isplitr [HO]
    · isplitl [U]; · iexact U
      iexact Us
    iexact HO

theorem wp_waits (l : List (Fin P.n)) {α : Type} {Q : α → sProp 𝕄} (k : Prog (TpuEff nD τ sig (Elt F) Λ₀ .tc) α) :
    iprop(known P D K ∗ (bigSepL l (fun j => credAt P c (.inl j)) ∗ bigSepL l (waitNeed P c)) ∗ owe c 0)
      ⊢ iprop(((bigSepL l (waitGive P D c) ∗ owe c 0) -∗ wp frame (wpE defs₀ 𝒱₀ (c : Thread nD τ) none) Set.univ k Q)
          -∗ wp frame (wpE defs₀ 𝒱₀ (c : Thread nD τ) none) Set.univ (waits P c l k) Q) := by
  induction l with
  | nil =>
    unfold waits
    iintro ⟨-, ⟨-, He⟩, HO⟩ Hk
    iapply Hk
    isplitl [He]; · iexact He
    iexact HO
  | cons j l ih =>
    rw [BI.bigSepL_cons', BI.bigSepL_cons', BI.bigSepL_cons']
    unfold waits
    iintro ⟨#HK, ⟨⟨U, Us⟩, ⟨Hj, Hl⟩⟩, HO⟩ Hk
    ihave Hj := (show waitNeed P c j ⊢ _ from by unfold waitNeed; exact Entails.refl _) $$ Hj
    icases Hj with ⟨⟨A, B⟩, V⟩
    iapply (wp_xwait P D defs₀ K c (.inl j) (P.credPiece c j)) $$ [U HO A]
    · isplitr; · iexact HK
      isplitl [U]; · iexact U
      isplitl [HO]; · iexact HO
      iexact A
    iintro ⟨HO, Z, -⟩
    iapply (wp_xwait P D defs₀ K c (.inr j) (P.credLand j)) $$ [V HO B]
    · isplitr; · iexact HK
      isplitl [V]; · iexact V
      isplitl [HO]; · iexact HO
      iexact B
    iintro ⟨HO, Z', Hp⟩
    iapply ih $$ [Us Hl HO]
    · isplitr; · iexact HK
      isplitl [Us Hl]
      · isplitl [Us]; · iexact Us
        iexact Hl
      iexact HO
    iintro ⟨Hg, HO⟩
    iapply Hk
    isplitr [HO]
    · isplitr [Hg]
      · unfold waitGive
        isplitl [Z Z']
        · isplitl [Z]; · iexact Z
          iexact Z'
        iapply (Entails.of_eq (pay_recv P D c j)); iexact Hp
      iexact Hg
    iexact HO

end Steps

end Cert.Exchange

end
-- ==== Proof.ExchangeRun.lean ====
/- An exchange on all devices: the counters opened, the planes dealt to the devices that fill them, and every run's
   end. What the pieces and planes are of, and that the call's body is the transfers and then the waits, is the
   program's (`hdeal`, `hbody`). -/
module

public import proofs.«01_k».proof.Proof.Exchange
public import Idealize.ShloMosaic.Lib.ValueLayout

@[expose] public section

noncomputable section

namespace Cert.Exchange

open Cert.ExchangeLaunch
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat BodyObligation)

variable {nD : ℕ} {sig : RefSig} {Λ₀ : Labels} {F : FTy → Type} [FloatOps F]

local notation "𝕄" => MT nD τ sig Unit (Elt F) ℕ (UU nD sig) ℕ

variable (m : (ℓ : Loc nD τ sig) → Buf (Elt F) ℓ) (ρ : Dev nD → PrngReg) (defs₀ : Defs nD τ sig (Elt F) Λ₀)
  (P : Plan nD sig Λ₀) (D : Data P F) (order : List (Fin P.n))
  (keep : Dev nD → sProp (MT nD τ sig Unit (Elt F) ℕ (UU nD sig) ℕ))

/-! ## What a device holds -/

def pieces (c : Dev nD) : sProp 𝕄 := bigSep Finset.univ fun j => piecePts P D c j
def planes (c : Dev nD) (f : ∀ j, Buf (Elt F) ((P.land j).view.loc (c : Thread nD τ))) : sProp 𝕄 := bigSep Finset.univ fun j => landPts P c j (f j)
def sendRights (c : Dev nD) : sProp 𝕄 := bigSep Finset.univ fun j => dutyTok ER (kcell P (c, .inl j)) 0 ()
def places (c : Dev nD) : sProp 𝕄 := bigSep Finset.univ fun k => atPos ER (kcell P (c, k)) 0 ∅ 0
def zeros (c : Dev nD) : sProp 𝕄 := bigSep Finset.univ fun k => semVal (kcell P (c, k)) 0
def credits (c : Dev nD) : sProp 𝕄 := bigSep Finset.univ fun j => credAt P c (.inr j)

/-- The right to fill plane `j` of device `c`, and the plane. -/
def fill (cj : Dev nD × Fin P.n) : sProp 𝕄 := iprop(landPts P cj.1 cj.2 (D.fd cj.1 cj.2) ∗ dutyTok ER (kcell P (cj.1, .inr cj.2)) 0 ())
def filled (c : Dev nD) : sProp 𝕄 := bigSep Finset.univ fun j => fill P D (c, j)
def fills (c : Dev nD) : sProp 𝕄 := bigSep Finset.univ fun j => fill P D (P.mate j c, j)

def ready (c : Dev nD) : sProp 𝕄 := iprop((∃ K, known P D K ∗ places P c ∗ sendRights P c ∗ pieces P D c ∗ fills P D c) ∗ keep c)
def before (c : Dev nD) : sProp 𝕄 := iprop(ready P D keep c ∗ credits P c)
def kept (c : Dev nD) : sProp 𝕄 := iprop(keep c ∗ planes P c (D.fl c))
def after (c : Dev nD) : sProp 𝕄 := iprop(kept P D keep c ∗ zeros P c)

theorem needs (c : Dev nD) : iprop(pieces P D c ∗ fills P D c ∗ sendRights P c) ⊢ bigSep Finset.univ (sendNeed P D c) := by
  unfold pieces fills sendRights sendNeed fill
  rw [bigSep_sep', bigSep_sep', bigSep_sep', bigSep_sep']
  iintro ⟨HA, ⟨HL, HR⟩, HS⟩
  isplitl [HA]; · iexact HA
  isplitl [HL]; · iexact HL
  isplitl [HS] <;> iassumption
theorem wants (c : Dev nD) : iprop(places P c ∗ credits P c) ⊢ (bigSep Finset.univ (waitNeed P c) : sProp 𝕄) := by
  unfold places credits waitNeed
  rw [bigSep_sep', bigSep_sep', BI.bigSep_univ_sum]
  exact Entails.refl _
theorem done (c : Dev nD) : bigSep Finset.univ (waitGive P D c) ⊢ iprop(zeros P c ∗ planes P c (D.fl c)) := by
  unfold zeros planes waitGive
  rw [bigSep_sep', bigSep_sep', BI.bigSep_univ_sum]
  exact Entails.refl _

variable (hall : Finset.univ = order.toFinset) (hnd : order.Nodup)

include hall hnd in
theorem run_model (c : Dev nD) {α : Type} (a : α) :
    iprop(before P D keep c ∗ owe c (dues P c order)) ⊢ wp frame (wpE defs₀ 𝒱₀ (c : Thread nD τ) none) Set.univ
      (sends P c order (waits P c order (.ret a))) (fun _ => iprop(after P D keep c ∗ owe c 0)) := by
  have hL (Φ : Fin P.n → sProp 𝕄) : bigSep Finset.univ Φ ⊢ bigSepL order Φ := Entails.of_eq (bigSep_univ_eq_bigSepL order hall hnd Φ)
  have hL' (Φ : Fin P.n → sProp 𝕄) : bigSepL order Φ ⊢ bigSep Finset.univ Φ := Entails.of_eq (bigSep_univ_eq_bigSepL order hall hnd Φ).symm
  unfold before ready
  iintro ⟨⟨⟨⟨%K, #HK, Hp, Hs, Ha, Hf⟩, Hk⟩, Hc⟩, HO⟩
  iapply (wp_sends P D defs₀ K c order _) $$ [Ha Hf Hs HO]
  · isplitr; · iexact HK
    isplitr [HO]
    · iapply (hL _); iapply (needs P D c)
      isplitl [Ha]; · iexact Ha
      isplitl [Hf] <;> iassumption
    iexact HO
  iintro ⟨Hu, HO⟩
  iapply (wp_waits P D defs₀ K c order _) $$ [Hu Hp Hc HO]
  · isplitr; · iexact HK
    isplitr [HO]
    · isplitl [Hu]; · iexact Hu
      iapply (hL _); iapply (wants P c)
      isplitl [Hp] <;> iassumption
    iexact HO
  iintro ⟨Hg, HO⟩
  rw [wp_ret]; imodintro
  ihave Hg := (hL' _) $$ Hg
  ihave Hg := (done P D c) $$ Hg
  icases Hg with ⟨Hz, Hl⟩
  unfold after kept
  isplitr [HO]
  · isplitr [Hz]
    · isplitl [Hk]; · iexact Hk
      iexact Hl
    iexact Hz
  iexact HO

/-! ## The region's data -/

def dats : DD (nD := nD) (F := F) P.toSite := fun _ c =>
  { A := fun w => w.elim0
    after := fun w => w.elim0
    Φ := fun t => match t with
      | ⟨0, _⟩ => before P D keep c
      | ⟨_ + 1, _⟩ => after P D keep c
    q := fun w => w.elim0
    owed := fun t => match t with
      | ⟨0, _⟩ => dues P c order
      | ⟨_ + 1, _⟩ => 0 }

theorem take_owe (c : Dev nD) (t) : (dats P D order keep 0 c).owesAt () t ⊢ owe c ((dats P D order keep 0 c).owed t) := by
  unfold owe Dat.owesAt Pipeline.owesWithin
  iintro ⟨%W, -, HO⟩
  iexists W; iexact HO
theorem give_owe (c : Dev nD) (t) : owe c ((dats P D order keep 0 c).owed t) ⊢ (dats P D order keep 0 c).owesAt () t := by
  unfold owe Dat.owesAt Pipeline.owesWithin
  iintro ⟨%W, HO⟩
  iexists W
  isplitr; · ipureintro; exact fun _ _ => Or.inl trivial
  iexact HO

theorem drop_third {X Y Y' Z : sProp 𝕄} (h : Y ⊢ Y') : iprop(X ∗ Y ∗ Z) ⊢ iprop(X ∗ Y') := by
  iintro ⟨H, HY, -⟩
  isplitl [H]; · iexact H
  iapply h; iexact HY
theorem add_third {X Y Y' Z : sProp 𝕄} (h : Y ⊢ Y') (hz : (BI.emp : sProp 𝕄) ⊢ Z) : iprop(X ∗ Y) ⊢ iprop(X ∗ Y' ∗ Z) := by
  iintro ⟨H, HY⟩
  isplitl [H]; · iexact H
  isplitl [HY]; · iapply h; iexact HY
  iapply hz; iempintro

def point : Fin Pipeline.Grid.none.N := ⟨0, by decide⟩
theorem one_point (t : Fin Pipeline.Grid.none.N) : t = point := by
  have h : Pipeline.Grid.none.N = 1 := by decide
  exact Fin.ext (by have := t.isLt; show t.val = 0; omega)

/-- The call's body is the transfers and then the waits. -/
abbrev IsModel : Prop := ∃ a, ∀ (c : Dev nD) (t) (s) (Q : Λ₀.Result P.body → sProp 𝕄),
  wp frame (wpE defs₀ 𝒱₀ (c : Thread nD τ) none) Set.univ (sends P c order (waits P c order (.ret a))) Q
    ⊢ wp frame (wpE defs₀ 𝒱₀ (c : Thread nD τ) none) Set.univ (defs₀ .tc P.body (P.args t s)) Q

include hall hnd in
/-- The call's body meets the region's contract at its one point. -/
theorem body_ok (hbody : IsModel defs₀ P order) (c : Dev nD) :
    BodyObligation (dats P D order keep 0 c) defs₀ 𝒱₀ () Set.univ := fun t => by
  obtain ⟨a, hb⟩ := hbody
  have ht := one_point t
  subst ht
  exact BI.Entails.trans (drop_third (take_owe P D order keep c (Fin.castSucc point)))
    (BI.Entails.trans (run_model defs₀ P D order keep hall hnd c a)
      (BI.Entails.trans (hb c _ _ _) (wp_mono frame (wpE defs₀ 𝒱₀ (c : Thread nD τ) none) Set.univ fun _ =>
        add_third (give_owe P D order keep c (Fin.succ point)) none_of)))

/-! ## The counters opened -/

def theCells : Finset (GSem nD τ sig) := Finset.univ.map ⟨kcell P, kcell_inj P⟩
def theToks : Finset (GSem nD τ sig × ℕ × Unit) :=
  Finset.univ.map ⟨fun ck : Dev nD × Key P => (kcell P ck, 0, ()), fun _ _ h => kcell_inj P (congrArg Prod.fst h)⟩
def u₀ : UU nD sig := initOf (theCells P) (theToks P)

def opens (c : Dev nD) : sProp 𝕄 := bigSep Finset.univ fun k => roundState ER (Rd P D) (kcell P (c, k)) 0
def invs (c : Dev nD) : sProp 𝕄 := bigSep Finset.univ fun k => iprop(∃ κ : ℕ, cellInv ER (Rd P D) κ (kcell P (c, k)))
def reach (c : Dev nD) : sProp 𝕄 := bigSep Finset.univ fun k => reached ER (kcell P (c, k)) 0
def rights (c : Dev nD) : sProp 𝕄 := bigSep Finset.univ fun k => dutyTok ER (kcell P (c, k)) 0 ()

def G (c : Dev nD) : sProp 𝕄 := iprop(opens P D c ∗ reach P c ∗ places P c ∗ rights P c)

theorem fund : (ownU (u₀ P) : sProp 𝕄) ⊢ |={Set.univ}=> bigSep Finset.univ (G P D) := by
  have hX (Φ : GSem nD τ sig → sProp 𝕄) : bigSep (theCells P) Φ = bigSep Finset.univ fun c : Dev nD => bigSep Finset.univ fun k => Φ (kcell P (c, k)) := by
    unfold theCells; rw [bigSep_map, bigSep_univ_prod]; rfl
  have hT : bigSep (theToks P) (fun x => (dutyTok ER x.1 x.2.1 x.2.2 : sProp 𝕄)) = bigSep Finset.univ fun c : Dev nD => rights P c := by
    unfold theToks; rw [bigSep_map, bigSep_univ_prod]; rfl
  have hG : bigSep Finset.univ (G P D) = iprop((bigSep Finset.univ fun c => opens P D c) ∗ (bigSep Finset.univ fun c => reach P c)
      ∗ (bigSep Finset.univ fun c => places P c) ∗ (bigSep Finset.univ fun c => rights P c) : sProp 𝕄) := by
    unfold G; rw [bigSep_sep', bigSep_sep', bigSep_sep']
  rw [hG]
  iintro Hu
  imod (show (ownU (u₀ P) : sProp 𝕄) ⊢ _ from Rounds.fund ER (Rd P D) (theCells P) (theToks P)) $$ Hu with ⟨Hst, Hr, Hat, Htok⟩
  imodintro
  isplitl [Hst]; · iapply (Entails.of_eq (hX fun g => roundState ER (Rd P D) g 0)); iexact Hst
  isplitl [Hr]; · iapply (Entails.of_eq (hX fun g => reached ER g 0)); iexact Hr
  isplitl [Hat]; · iapply (Entails.of_eq (hX fun g => atPos ER g 0 ∅ 0)); iexact Hat
  iapply (Entails.of_eq hT); iexact Htok

theorem opened (c : Dev nD) : iprop(own P.toSite c ∗ opens P D c) ⊢ |={Set.univ}=> invs P D c := by
  show iprop((bigSep Finset.univ fun k => semVal (kcell P (c, k)) 0) ∗ bigSep Finset.univ fun k => roundState ER (Rd P D) (kcell P (c, k)) 0)
      ⊢ (|={Set.univ}=> bigSep Finset.univ fun k => iprop(∃ κ : ℕ, cellInv ER (Rd P D) κ (kcell P (c, k))) : sProp 𝕄)
  rw [← bigSep_sep']
  exact (bigSep_mono fun k _ => (Rounds.body_intro ER (Rd P D) (kcell P (c, k))).trans inv_alloc).trans (bigSep_fupd _ _)

/-! ## What each device holds at its start -/

theorem rights_split (c : Dev nD) : iprop(rights P c ∗ planes P c (D.fd c)) ⊢ iprop(sendRights P c ∗ filled P D c) := by
  unfold rights sendRights filled fill planes
  rw [bigSep_sep', BI.bigSep_univ_sum]
  show iprop((_ ∗ _) ∗ _) ⊢ iprop(_ ∗ _ ∗ _)
  iintro ⟨⟨HS, HR⟩, HL⟩
  isplitl [HS]; · iexact HS
  isplitl [HL] <;> iassumption

def own1 (c : Dev nD) : sProp 𝕄 := iprop(places P c ∗ sendRights P c ∗ pieces P D c ∗ keep c)

variable (hdeal : ∀ c, bufs m c ⊢ iprop(keep c ∗ pieces P D c ∗ planes P c (D.fd c)))

include hdeal in
theorem core_step (c : Dev nD) : iprop(own P.toSite c ∗ bufs m c ∗ G P D c)
    ⊢ |={Set.univ}=> iprop((invs P D c ∗ reach P c) ∗ own1 P D keep c ∗ filled P D c) := by
  unfold G own1
  iintro ⟨Hv, Hb, Ho, Hr, Hp, Ht⟩
  imod (opened P D c) $$ [Hv Ho] with Hi
  · isplitl [Hv] <;> iassumption
  imodintro
  ihave H := (hdeal c) $$ Hb
  icases H with ⟨HK, HA, HL⟩
  ihave H := (rights_split P D c) $$ [Ht HL]
  · isplitl [Ht] <;> iassumption
  icases H with ⟨Hs, Hd⟩
  isplitl [Hi Hr]; · isplitl [Hi] <;> iassumption
  isplitr [Hd]
  · isplitl [Hp]; · iexact Hp
    isplitl [Hs]; · iexact Hs
    isplitl [HA] <;> iassumption
  iexact Hd

theorem dealt (K : Dev nD × Key P → ℕ) (c : Dev nD) : iprop(known P D K ∗ own1 P D keep c ∗ fills P D c) ⊢ ready P D keep c := by
  unfold own1 ready
  iintro ⟨#HK, ⟨Hp, Hs, HA, HL⟩, Hd⟩
  isplitr [HL]
  · iexists K
    isplitr; · iexact HK
    isplitl [Hp]; · iexact Hp
    isplitl [Hs]; · iexact Hs
    isplitl [HA] <;> iassumption
  iexact HL

theorem share_known {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

def swap : Dev nD × Fin P.n ≃ Dev nD × Fin P.n where
  toFun cj := (P.mate cj.2 cj.1, cj.2)
  invFun cj := (P.mate cj.2 cj.1, cj.2)
  left_inv cj := by show (P.mate cj.2 (P.mate cj.2 cj.1), cj.2) = cj; rw [P.mate_mate]
  right_inv cj := by show (P.mate cj.2 (P.mate cj.2 cj.1), cj.2) = cj; rw [P.mate_mate]

/-- Every plane goes to the device that fills it. -/
theorem swapped : (bigSep Finset.univ fun c : Dev nD => filled P D c) = bigSep Finset.univ fun c : Dev nD => fills P D c := by
  unfold filled fills
  rw [← bigSep_univ_prod fun cj : Dev nD × Fin P.n => fill P D cj, bigSep_univ_equiv (swap P), bigSep_univ_prod]
  rfl

theorem regroup : (bigSep Finset.univ fun c : Dev nD => iprop((invs P D c ∗ reach P c) ∗ own1 P D keep c ∗ filled P D c) : sProp 𝕄)
    ⊢ bigSep Finset.univ (ready P D keep) := by
  rw [bigSep_sep', bigSep_sep', bigSep_sep', swapped]
  have hI : (bigSep Finset.univ fun c : Dev nD => invs P D c) = bigSep Finset.univ fun ck => (iprop(∃ κ : ℕ, cellInv ER (Rd P D) κ (kcell P ck)) : sProp 𝕄) := by
    unfold invs; exact (bigSep_univ_prod (fun ck => (iprop(∃ κ : ℕ, cellInv ER (Rd P D) κ (kcell P ck)) : sProp 𝕄))).symm
  have hR : (bigSep Finset.univ fun c : Dev nD => reach P c) = bigSep Finset.univ fun ck => (reached ER (kcell P ck) 0 : sProp 𝕄) := by
    unfold reach; exact (bigSep_univ_prod (fun ck => (reached ER (kcell P ck) 0 : sProp 𝕄))).symm
  rw [hI, hR]
  iintro ⟨⟨HI, HR⟩, Ho, Hx⟩
  ihave HK := (BI.bigSep_exists_pi Finset.univ (fun (ck : Dev nD × Key P) (κ : ℕ) => (cellInv ER (Rd P D) κ (kcell P ck) : sProp 𝕄))) $$ HI
  icases HK with ⟨%K, HI⟩
  iapply (share_known (R := known P D K) fun c => dealt P D keep K c)
  isplitl [HI HR]
  · unfold known; isplitl [HI]; · iexact HI
    iexact HR
  iapply (Entails.of_eq (bigSep_sep' Finset.univ (fun c : Dev nD => own1 P D keep c) (fun c : Dev nD => fills P D c)).symm)
  isplitl [Ho] <;> iassumption

include hdeal in
theorem glob : (bigSep Finset.univ fun c => iprop(own P.toSite c ∗ bufs m c ∗ G P D c) : sProp 𝕄) ⊢ |={Set.univ}=> bigSep Finset.univ (ready P D keep) :=
  ((bigSep_mono fun c _ => core_step m P D keep hdeal c).trans (bigSep_fupd _ _)).trans (BI.fupd_mono (regroup P D keep))

/-! ## What the launch credits -/

theorem kcell_eq (x y : Dev nD × Key P) : (kcell P x = kcell P y) = (x = y) := propext ⟨fun h => kcell_inj P h, fun h => congrArg (kcell P) h⟩

theorem due_at (d c : Dev nD) (i j : Fin P.n) : due P d i (kcell P (c, .inr j)) () = if i = j ∧ d = P.mate j c then P.N else 0 := by
  unfold due
  simp only [tallyAt_apply, kcell_eq, and_true]
  refine if_congr ⟨fun h => ?_, fun ⟨h, h'⟩ => ?_⟩ rfl rfl
  · have h1 := Sum.inr.inj (congrArg Prod.snd h)
    have h2 : c = P.mate i d := congrArg Prod.fst h
    subst h1; exact ⟨rfl, by rw [h2, P.mate_mate]⟩
  · subst h h'; rw [P.mate_mate]

theorem dues_at (d c : Dev nD) (j : Fin P.n) (l : List (Fin P.n)) (hl : l.Nodup) :
    dues P d l (kcell P (c, .inr j)) () = if j ∈ l ∧ d = P.mate j c then P.N else 0 := by
  induction l with
  | nil => simp [dues]
  | cons i l ih =>
    have hi := List.nodup_cons.mp hl
    have h : dues P d (i :: l) (kcell P (c, .inr j)) () = dues P d l (kcell P (c, .inr j)) () + due P d i (kcell P (c, .inr j)) () := rfl
    rw [h, ih hi.2, due_at]
    by_cases hij : i = j
    · subst hij; simp [hi.1]
    · have hji : j ≠ i := fun h => hij h.symm
      simp [hij, hji]

include hall hnd in
theorem credit_at (c : Dev nD) (j : Fin P.n) :
    tallyOn (kcell P (c, .inr j)) (launchCredit (Pipeline.owing fun d => dues P d order) 0 (kcell P (c, .inr j)))
      = (tallyAt (kcell P (c, .inr j)) () P.N : CellTallies nD τ sig Unit) := by
  have hj : j ∈ order := List.mem_toFinset.mp (hall ▸ Finset.mem_univ j)
  have hd (d : Dev nD) : dues P d order (kcell P (c, .inr j)) () = if d = P.mate j c then P.N else 0 := by
    rw [dues_at P d c j order hnd]; exact if_congr (and_iff_right hj) rfl rfl
  unfold tallyAt; refine congrArg _ (Finsupp.ext fun u => ?_); cases u
  rw [Pipeline.launchCredit_owing, Finsupp.single_eq_same, Finset.sum_congr rfl fun d _ => hd d,
    Finset.sum_ite_eq' Finset.univ (P.mate j c) fun _ => P.N, if_pos (Finset.mem_univ _)]

def recvLoc : Fin P.n ↪ SemLoc sig := ⟨fun j => P.osem (.inr j), fun j j' h => Sum.inr.inj (P.inj (SemLoc.dma.inj h))⟩

include hall hnd in
theorem creds (c : Dev nD) : (Pipeline.launchCred (fun d => dues P d order) c : sProp 𝕄) ⊢ credits P c := by
  unfold Pipeline.launchCred credits
  refine (bigSep_subset (Finset.subset_univ (Finset.univ.map (recvLoc P)))).trans ?_
  rw [bigSep_map]
  exact bigSep_mono fun j _ => Entails.of_eq (congrArg cred (credit_at P order hall hnd c j))

/-! ## The run -/

variable (hP : P.toSite.Facts nD) (hbody : IsModel defs₀ P order) (ends : Dev nD → MemSt nD τ sig (Elt F) → Prop)
  (hend : ∀ c s', iprop(kept P D keep c ∗ SI s') ⊢ |={Set.univ}=> (iprop(⌜ends c s'.mem⌝ ∗ SI s') : sProp (MT nD τ sig Unit (Elt F) ℕ (UU nD sig) ℕ)))

include hall hnd hdeal hP hbody hend in
/-- From any memory with zero counters, over any float values: every fair run of the devices ends as `ends` says, and
    with every counter at zero. -/
theorem run_main : θ_run (Pipeline.defs P.pcfgs defs₀) (onTc (τ := τ) fun _ => .op (.customCall (Pipeline.entry (0 : Fin 1)) ()) fun _ => .ret PUnit.unit)
    ⟨m, fun _ => 0, ρ⟩ (fun r => (∀ c, ends c r.2) ∧ r.2.sem = fun _ => 0) :=
  launch P.toSite hP m ρ (dats P D order keep) defs₀ (body_ok defs₀ P D order keep hall hnd hbody) (fun d => dues P d order) (fun _ => rfl) (fun _ => rfl)
    (G P D) (ready P D keep) (kept P D keep) (u₀ P) (fund P D) (glob m P D keep hdeal)
    (fun c => by
      show iprop(ready P D keep c ∗ Pipeline.launchCred (fun d => dues P d order) c) ⊢ before P D keep c
      unfold before
      iintro ⟨H, Hc⟩
      isplitl [H]; · iexact H
      iapply (creds P order hall hnd c); iexact Hc)
    (fun c => by
      show after P D keep c ⊢ iprop(kept P D keep c ∗ zeros P c)
      unfold after; exact BI.Entails.refl _)
    ends hend

/-! ## One array read by all transfers -/

/-- The share of an array that transfer `j` reads it at, and what is left of it after `n`. -/
def part : ℕ → PosShare TreeShare
  | 0 => fullShare.left
  | j + 1 => (rest (j + 1)).left
where rest : ℕ → PosShare TreeShare
  | 0 => fullShare
  | j + 1 => (rest j).right

theorem parts (ℓ : Loc nD τ sig) (f : Buf (Elt F) ℓ) (n : ℕ) :
    (ℓ ↦{fullShare} f : sProp 𝕄) ⊢ iprop((ℓ ↦{part.rest n} f) ∗ bigSep (Finset.range n) fun j => ℓ ↦{part j} f) := by
  induction n with
  | zero =>
    rw [Finset.range_zero, BI.bigSep_empty]
    exact (sep_emp (PROP := sProp 𝕄)).2
  | succ n ih =>
    have h : (ℓ ↦{part.rest n} f : sProp 𝕄) ⊢ iprop((ℓ ↦{part n} f) ∗ ℓ ↦{part.rest (n + 1)} f) := by
      have := (pointsTo_share (Ix := Unit) (Name := ℕ) (U := UU nD sig) (Lvl := ℕ) (ℓ := ℓ) (I := Finset.univ) (f := f) (PosShare.mem_left_op_right (part.rest n))).1
      cases n <;> exact this
    have hs : bigSep (Finset.range (n + 1)) (fun j => (ℓ ↦{part j} f : sProp 𝕄)) = iprop((ℓ ↦{part n} f) ∗ bigSep (Finset.range n) fun j => ℓ ↦{part j} f) := by
      rw [Finset.range_add_one]; exact BI.bigSep_insert Finset.notMem_range_self
    rw [hs]
    refine ih.trans ((sep_mono_left h).trans ?_)
    iintro ⟨⟨Hp, Hr⟩, Hs⟩
    isplitl [Hr]; · iexact Hr
    isplitl [Hp] <;> iassumption

theorem parts_fin (ℓ : Loc nD τ sig) (f : Buf (Elt F) ℓ) (n : ℕ) :
    (ℓ ↦{fullShare} f : sProp 𝕄) ⊢ iprop((ℓ ↦{part.rest n} f) ∗ bigSep Finset.univ fun j : Fin n => ℓ ↦{part j.val} f) := by
  have h : (Finset.univ : Finset (Fin n)).map Fin.valEmbedding = Finset.range n := by
    rw [Fin.map_valEmbedding_univ]; ext x; simp
  have h2 := parts ℓ f n
  rw [← h, bigSep_map] at h2
  exact h2

/-! ## An argument and a result cut in planes -/

section Arrays
variable (A R : Dev nD → Loc nD τ sig) (fa : ∀ c, Buf (Elt F) (A c)) (fr fl : ∀ c, Buf (Elt F) (R c))
  (hbufs : ∀ c, bufs m c = (iprop((A c ↦{fullShare} fa c) ∗ (R c ↦{fullShare} fr c)) : sProp (MT nD τ sig Unit (Elt F) ℕ (UU nD sig) ℕ)))
  (hpiece : ∀ c j, (A c ↦{part j.val} fa c) ⊢ piecePts P D c j)
  (hfd : ∀ c, (R c ↦{fullShare} fr c) ⊢ planes P c (D.fd c)) (hfl : ∀ c, planes P c (D.fl c) ⊢ (R c ↦{fullShare} fl c))

include hall hnd hP hbody hbufs hpiece hfd hfl in
/-- The run, of devices with one argument, which each transfer reads a part of, and one result that the planes make up. -/
theorem run_arrays : θ_run (Pipeline.defs P.pcfgs defs₀) (onTc (τ := τ) fun _ => .op (.customCall (Pipeline.entry (0 : Fin 1)) ()) fun _ => .ret PUnit.unit)
    ⟨m, fun _ => 0, ρ⟩ (fun r => (∀ c, r.2.mem (A c) = fa c ∧ r.2.mem (R c) = fl c) ∧ r.2.sem = fun _ => 0) := by
  refine run_main m ρ defs₀ P D order (fun c => A c ↦{part.rest P.n} fa c) hall hnd (fun c => ?_) hP hbody
    (fun c s => s.mem (A c) = fa c ∧ s.mem (R c) = fl c) fun c s' => ?_
  · rw [hbufs]
    have h := parts_fin (A c) (fa c) P.n
    have hs : (bigSep Finset.univ fun j : Fin P.n => (A c ↦{part j.val} fa c : sProp 𝕄)) ⊢ pieces P D c := bigSep_mono fun j _ => hpiece c j
    iintro ⟨Ha, Hr⟩
    ihave H := h $$ Ha
    icases H with ⟨Hk, Hs⟩
    isplitl [Hk]; · iexact Hk
    isplitl [Hs]
    · iapply hs; iexact Hs
    iapply (hfd c); iexact Hr
  · unfold kept
    iintro ⟨⟨Ha, Hp⟩, HS⟩
    ihave Hr := (hfl c) $$ Hp
    icombine HS Ha gives %h1
    icombine HS Hr gives %h2
    imodintro
    isplitr
    · ipureintro; exact ⟨funext fun i => h1 i (Finset.mem_univ i), funext fun i => h2 i (Finset.mem_univ i)⟩
    iexact HS
end Arrays

omit [FloatOps F] in
/-- An array is its planes, `k i` the plane that `i` is in. -/
theorem by_planes (ℓ : Loc nD τ sig) {n : ℕ} (I : Fin n → Finset (Idx ℓ)) (k : Idx ℓ → Fin n) (hI : ∀ i j, i ∈ I j ↔ k i = j) (f : Buf (Elt F) ℓ) :
    (ℓ ↦{fullShare} f : sProp 𝕄) = bigSep Finset.univ fun j => ℓ ↦[I j]{fullShare} f := by
  have h := pointsTo_biUnion (Ix := Unit) (Name := ℕ) (U := UU nD sig) (Lvl := ℕ) (ℓ := ℓ) (q := fullShare) (f := f) Finset.univ I
    fun j _ j' _ hj => Finset.disjoint_left.mpr fun i hi hi' => hj (((hI i j).mp hi).symm.trans ((hI i j').mp hi'))
  rw [Finset.eq_univ_iff_forall.mpr fun i => Finset.mem_biUnion.mpr ⟨k i, Finset.mem_univ _, (hI i _).mpr rfl⟩] at h
  exact h

theorem emb_plane {n a b : ℕ} (j : Fin n) (h) (hq : (⟨2, ![a, b]⟩ : Shape).numel = (⟨3, ![1, a, b]⟩ : Shape).numel) (x : (⟨2, ![a, b]⟩ : Shape).Idx) :
    (Rect.unit (s := ⟨3, ![n, a, b]⟩) ![j.val, 0, 0] ![1, a, b] h).emb (Shape.reshapeEquiv hq x) = (ix3 j (x 0) (x 1) : (⟨3, ![n, a, b]⟩ : Shape).Idx) := by
  rw [Shape.reshapeEquiv_cons_one]
  funext d; apply Fin.ext
  match d with
  | ⟨0, _⟩ => show j.val + 1 * 0 = j.val; omega
  | ⟨1, _⟩ => show 0 + 1 * (x 0).val = (x 0).val; omega
  | ⟨2, _⟩ => show 0 + 1 * (x 1).val = (x 1).val; omega

theorem mem_plane {n a b : ℕ} (j : Fin n) (e : (⟨2, ![a, b]⟩ : Shape).Idx ↪ (⟨3, ![n, a, b]⟩ : Shape).Idx) (he : ∀ x, e x = ix3 j (x 0) (x 1))
    (i : (⟨3, ![n, a, b]⟩ : Shape).Idx) : i ∈ Finset.univ.map e ↔ i 0 = j := by
  rw [Finset.mem_map]
  constructor
  · rintro ⟨x, -, rfl⟩; rw [he]; rfl
  · intro h
    refine ⟨ix2 (i 1) (i 2), Finset.mem_univ _, (he _).trans ?_⟩
    exact (congrArg (fun k : Fin n => (ix3 k (i 1) (i 2) : (⟨3, ![n, a, b]⟩ : Shape).Idx)) h.symm).trans (eq_ix3 i).symm

end Cert.Exchange

end
-- ==== Proof.XchRun.lean ====
/- The exchange of a pair of devices' halves: each sends the four column blocks of the other's half of its rows, and ends
   with what the other sends it, in four planes. -/
module

public import proofs.«01_k».proof.Proof.ExchangeRun
public import proofs.«01_k».proof.Proof.Gen.Xch.Launch
public import proofs.«01_k».proof.Proof.Gen.Xch.Skeleton
public import Idealize.ShloMosaic.Lib.ValueLayout

@[expose] public section

noncomputable section

namespace Cert.XchRun

open Cert.Xch hiding τ
open Cert.Xch.Gen Cert.ExchangeLaunch Cert.Exchange
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (UU nD sig) ℕ

/-! ## Who sends what to whom -/

def peer (c : Dev nD) : Dev nD := ⟨1 - c.val, by have := c.isLt; show 1 - c.val < 2; omega⟩
theorem peer_peer (c : Dev nD) : peer (peer c) = c := by revert c; decide

abbrev aM : Memref sig .tc .hbm S1024x7168 .bf16 := Memref.whole main_arg0
abbrev oM : Memref sig .tc .hbm S4x512x1792 .bf16 := Memref.whole main_v1

theorem inb_piece (h : Dev nD) (j : Fin 4) : ∀ a, (![512 * h.val, 1792 * j.val] : Fin 2 → ℕ) a + S512x1792.size a ≤ S1024x7168.size a := by
  revert h j; decide
theorem inb_land (j : Fin 4) : ∀ a, (![j.val, 0, 0] : Fin 3 → ℕ) a + S1x512x1792.size a ≤ S4x512x1792.size a := by
  revert j; decide

/-- Half `h` of the argument's rows, column block `j`. -/
abbrev piece (h : Dev nD) (j : Fin 4) : Memref sig .tc .hbm S512x1792 .bf16 :=
  aM.slice (Rect.unit (s := S1024x7168) ![512 * h.val, 1792 * j.val] S512x1792.size (inb_piece h j)) (fun _ => rfl)
/-- Plane `j` of the result. -/
abbrev land (j : Fin 4) : Memref sig .tc .hbm S512x1792 .bf16 :=
  (oM.slice (Rect.unit (s := S4x512x1792) ![j.val, 0, 0] S1x512x1792.size (inb_land j)) (fun _ => rfl)).squeeze S512x1792 squeezes_S1x512x1792_S512x1792

def semOf : Fin 4 ⊕ Fin 4 → DmaSem sig
  | .inl j => (⟨j.val, by have := j.isLt; show j.val < 8; omega⟩ : Fin 8)
  | .inr j => (⟨4 + j.val, by have := j.isLt; show 4 + j.val < 8; omega⟩ : Fin 8)

abbrev plan : Plan nD sig Λ₀ where
  body := 0
  args t s := (t, s)
  n := 4
  sem := semOf
  s := S512x1792
  e := .bf16
  inj := by decide
  mate _ := peer
  mate_mate _ := peer_peer
  piece c j := piece (peer c) j
  land := land
  wordPiece c j := (Memref.isWhole_whole main_arg0).wordExact_slice rfl _ (by revert j c; decide)
  wordLand j := ((Memref.isWhole_whole main_v1).wordExact_slice rfl _ (by revert j; decide)).reshape _ _
  shared _ := rfl
  typed _ _ := ⟨⟨rfl, Or.inl rfl⟩, trivial⟩
  N := (land 0).view.dmaCredit
  N_pos := View.dmaCredit_pos _ (by decide)
  credPiece _ _ := rfl
  credLand _ := rfl

theorem facts : plan.toSite.Facts nD where
  cell := cellOf_inj
  win := winFacts0
  own := by decide
  allScoped := by decide
  rest c := scopedRest0_eq c

abbrev order : List (Fin 4) := [0, 1, 2, 3]

set_option maxHeartbeats 4000000 in
theorem isModel : IsModel (F := F) defs₀ plan order := by
  refine ⟨PUnit.unit, fun c t s Q => ?_⟩
  show _ ⊢ wp frame (wpE (defs₀ (F := F)) 𝒱₀ (c : Thread nD τ) none) Set.univ
    (cc0_pair_exchange_w_in (F := F) (Memref.whole main_arg0) (Memref.isWhole_whole _) (Memref.whole main_v1) (Memref.isWhole_whole _) cc0_scratch0 cc0_scratch1) Q
  have h : ∀ c : Dev nD, c = 0 ∨ c = 1 := by decide
  simp only [cc0_pair_exchange_w_in_eq_skeleton]; unfold cc0_pair_exchange_w_in_skel
  simp only [Prog.lift, Prog.bind_op, Prog.bind_ret, Prog.pure_eq_ret, wp_deviceId]
  rcases h c with rfl | rfl
  all_goals
    iterate 4 first | rw [dif_pos (by decide +kernel)] | rw [dif_neg (by decide +kernel)]
    simp only [Prog.lift, Prog.bind_op, Prog.bind_ret, Prog.pure_eq_ret, k0_part1_eq_skeleton, k0_part2_eq_skeleton, k0_part3_eq_skeleton, k0_part4_eq_skeleton,
      k0_part5_eq_skeleton, k0_part6_eq_skeleton, k0_part1_skel, k0_part2_skel, k0_part3_skel, k0_part4_skel, k0_part5_skel, k0_part6_skel,
      k0_dev1_eq, k0_dev2_eq, k0_dev3_eq, k0_dev4_eq, k0_dev5_eq, k0_dev6_eq, k0_dev7_eq, k0_dev8_eq]
    exact Entails.refl _

/-! ## What lands -/

theorem emb_land (j : Fin 4) (x : S512x1792.Idx) : (land j).view.emb x = (ix3 j (x 0) (x 1) : S4x512x1792.Idx) := emb_plane j _ _ x
theorem mem_land (j : Fin 4) (i : S4x512x1792.Idx) : i ∈ (land j).view.set ↔ i 0 = j := mem_plane j _ (emb_land j) i

variable (m : (ℓ : Loc nD τ sig) → Buf (Elt F) ℓ) (ρ : Dev nD → PrngReg)

abbrev argOf (c : Dev nD) : (⟨S1024x7168, .bf16⟩ : BufTy).Contents (Elt F) := m ((c : Thread nD τ).loc main_arg0)
abbrev resOf (c : Dev nD) : (⟨S4x512x1792, .bf16⟩ : BufTy).Contents (Elt F) := m ((c : Thread nD τ).loc main_v1)

/-- Half `c` of `f`'s rows, its column blocks stacked. -/
def stacked (c : Dev nD) (f : (⟨S1024x7168, .bf16⟩ : BufTy).Contents (Elt F)) : (⟨S4x512x1792, .bf16⟩ : BufTy).Contents (Elt F) := fun i =>
  f (ix2 ⟨512 * c.val + (i 1).val, by have h1 := c.isLt; have h2 : (i 1).val < 512 := (i 1).isLt; have : c.val < 2 := h1; omega⟩
    ⟨1792 * (i 0).val + (i 2).val, by have h1 : (i 0).val < 4 := (i 0).isLt; have h2 : (i 2).val < 1792 := (i 2).isLt; omega⟩)

/-- What device `c` ends with. -/
def landed (c : Dev nD) : (⟨S4x512x1792, .bf16⟩ : BufTy).Contents (Elt F) := stacked c (argOf m (peer c))

theorem landing (c : Dev nD) (j : Fin 4) (fd : (⟨S4x512x1792, .bf16⟩ : BufTy).Contents (Elt F)) (i : S4x512x1792.Idx) (hi : i ∈ (land j).view.set) :
    (land j).view.write (Elt F) fd ((piece (peer c) j).view.read (Elt F) (argOf m c)) Finset.univ i = landed m (peer c) i := by
  obtain ⟨x, -, rfl⟩ := Finset.mem_map.mp hi
  rw [View.write_emb_of_mem (Val := Elt F) _ _ (Finset.mem_univ x), View.read_apply]
  show argOf m c ((piece (peer c) j).view.emb x) = landed m (peer c) ((land j).view.emb x)
  rw [emb_land]
  unfold landed stacked
  rw [peer_peer]
  refine congrArg (argOf m c) (funext fun a => Fin.ext ?_)
  match a with
  | ⟨0, _⟩ => show 512 * (peer c).val + 1 * (x 0).val = 512 * (peer c).val + (x 0).val; omega
  | ⟨1, _⟩ => show 1792 * j.val + 1 * (x 1).val = 1792 * j.val + (x 1).val; omega

abbrev data : Data plan F where
  q j := part j.val
  fs c _ := argOf m c
  fd c _ := resOf m c
  fl c _ := landed m c
  landing c j i hi := landing m c j _ i hi

theorem planes_eq (c : Dev nD) (f : (⟨S4x512x1792, .bf16⟩ : BufTy).Contents (Elt F)) :
    (((c : Thread nD τ).loc main_v1) ↦{fullShare} (f : Buf (Elt F) ((c : Thread nD τ).loc main_v1)) : sProp 𝕄) = planes plan c fun _ => f :=
  by_planes ((c : Thread nD τ).loc main_v1) (fun j => (land j).view.set) (fun i => (show S4x512x1792.Idx from i) 0) (fun i j => mem_land j i) f

/-- From any memory with zero counters, over any float values: every fair run of the pair ends, each device's
    argument as it was, its result what the other sends, and every counter at zero. -/
theorem run_main : θ_run defs (onTc (τ := τ) (main (F := F))) ⟨m, fun _ => 0, ρ⟩ (fun r => (∀ c : Dev nD,
    r.2.mem ((c : Thread nD τ).loc main_arg0) = argOf m c ∧ r.2.mem ((c : Thread nD τ).loc main_v1) = landed m c) ∧ r.2.sem = fun _ => 0) :=
  run_arrays m ρ defs₀ plan (data m) order (by decide) (by decide) facts isModel (fun c => (c : Thread nD τ).loc main_arg0) (fun c => (c : Thread nD τ).loc main_v1)
    (argOf m) (resOf m) (landed m) (fun c => bigSep_eq_bigSepL_of_eq [main_arg0, main_v1] (by decide) (by decide) _)
    (fun c j => (pointsTo_split_subset (Finset.subset_univ (piece (peer c) j).view.set)).1.trans (sep_elim_left))
    (fun c => Entails.of_eq (planes_eq c _)) (fun c => Entails.of_eq (planes_eq c _).symm)

end Cert.XchRun

end
-- ==== Proof.XchRef.lean ====
/- The exchange's reference: its run, and its result array read at an index. -/
module

public import proofs.«01_k».proof.Proof.Gen.XchReferenceIdeal
public import Idealize.ShloMosaic.Lib.StableHlo.Run
public import Idealize.ShloMosaic.Lib.Pipeline.Value
public import Idealize.ShloMosaic.Lib.ValueIdx

@[expose] public section

set_option maxRecDepth 16384

noncomputable section

namespace Cert.XchRef

open Cert.XchReferenceIdeal Cert.XchReferenceIdeal.Gen Idealize.ShloMosaic Idealize.ShloMosaic.TcCoe Idealize.SL.Sem Idealize.ShloMosaic.StableHlo
open Idealize.ShloMosaic.ValueIdx

variable {F : FTy → Type} [FloatOps F]

abbrev Whole (F : FTy → Type) : Type := (⟨S2048x7168, .bf16⟩ : BufTy).Contents (Elt F)
abbrev Quarters (F : FTy → Type) : Type := (⟨S2x2x512x4x1792, .bf16⟩ : BufTy).Contents (Elt F)
abbrev Cut (F : FTy → Type) : Type := (⟨S1x1x512x4x1792, .bf16⟩ : BufTy).Contents (Elt F)
abbrev Half (F : FTy → Type) : Type := (⟨S512x4x1792, .bf16⟩ : BufTy).Contents (Elt F)
abbrev One (F : FTy → Type) : Type := (⟨S1x512x4x1792, .bf16⟩ : BufTy).Contents (Elt F)
abbrev Both (F : FTy → Type) : Type := (⟨S2x512x4x1792, .bf16⟩ : BufTy).Contents (Elt F)

/-- Half `b` of device `a`'s part. -/
abbrev cut (a b : ℕ) (h : S2x2x512x4x1792.Slices ![a, b, 0, 0, 0] S1x1x512x4x1792) (y : Quarters F) : Cut F :=
  extractStridedSlice S1x1x512x4x1792 ![a, b, 0, 0, 0] y h
/-- A half as one plane of a stack. -/
abbrev lift (x : Half F) : One F := broadcastInDim S1x512x4x1792 ![1, 2, 3] bcast_S512x4x1792_S1x512x4x1792_1_2_3 x
abbrev pair (a b : One F) : Both F :=
  concatenate S2x512x4x1792 0 [⟨S1x512x4x1792, a⟩, ⟨S1x512x4x1792, b⟩] concatenates_S1x512x4x1792_S1x512x4x1792_S2x512x4x1792_d0
abbrev turn (x : Both F) : (⟨S2x4x512x1792, .bf16⟩ : BufTy).Contents (Elt F) :=
  transpose S2x4x512x1792 [0, 2, 1, 3] x transposes_S2x512x4x1792_S2x4x512x1792_0_2_1_3

/-- The ten operations. -/
abbrev ops : List (HloOp τ sig (Elt F)) :=
  [ reshape main_arg0 main_v0 (rfl : (.bf16 : EltTy) = .bf16) shapeCasts_S2048x7168_S2x2x512x4x1792,
    unary main_v0 main_v1 (cut 1 0 slices_S2x2x512x4x1792_S1x1x512x4x1792_1_0_0_0_0 : Quarters F → Cut F),
    reshape main_v1 main_v2 (rfl : (.bf16 : EltTy) = .bf16) shapeCasts_S1x1x512x4x1792_S512x4x1792,
    unary main_v0 main_v3 (cut 0 1 slices_S2x2x512x4x1792_S1x1x512x4x1792_0_1_0_0_0 : Quarters F → Cut F),
    reshape main_v3 main_v4 (rfl : (.bf16 : EltTy) = .bf16) shapeCasts_S1x1x512x4x1792_S512x4x1792,
    unary main_v2 main_v5 (lift : Half F → One F), unary main_v4 main_v6 (lift : Half F → One F),
    binary main_v5 main_v6 main_v7 (pair : One F → One F → Both F),
    unary main_v7 main_v8 (turn : Both F → (⟨S2x4x512x1792, .bf16⟩ : BufTy).Contents (Elt F)),
    reshape main_v8 main_v9 (rfl : (.bf16 : EltTy) = .bf16) shapeCasts_S2x4x512x1792_S8x512x1792 ]

theorem main_ops (c : Dev nD) : main (F := F) c = seq ops := rfl
theorem noBufs : (Finset.univ.filter fun b : Ref sig .tc => b.isScoped) = ∅ := by decide
theorem noSems : (Finset.univ.filter fun sm : SemLoc sig => sm.isScoped .tc) = ∅ := by decide
theorem ops_bufs : (ops : List (HloOp τ sig (Elt F))).Forall fun op => op.bufs ⊆ tcRefs τ sig :=
  ⟨reshape_bufs_sub .., unary_bufs_sub .., reshape_bufs_sub .., unary_bufs_sub .., reshape_bufs_sub .., unary_bufs_sub ..,
    unary_bufs_sub .., binary_bufs_sub .., unary_bufs_sub .., reshape_bufs_sub ..⟩

/-! ## The values -/

/-- The array as halves of the two devices' parts, columns in four blocks. -/
def quarters (g : Whole F) : Quarters F := shapeCast S2x2x512x4x1792 g shapeCasts_S2048x7168_S2x2x512x4x1792
/-- Half `b` of device `a`'s part, on its own. -/
def half (a b : ℕ) (h : S2x2x512x4x1792.Slices ![a, b, 0, 0, 0] S1x1x512x4x1792) (g : Whole F) : Half F := shapeCast S512x4x1792 (cut a b h (quarters g)) shapeCasts_S1x1x512x4x1792_S512x4x1792
/-- The halves that the two devices are given, each from the other's part. -/
def both (g : Whole F) : Both F :=
  pair (lift (half 1 0 slices_S2x2x512x4x1792_S1x1x512x4x1792_1_0_0_0_0 g)) (lift (half 0 1 slices_S2x2x512x4x1792_S1x1x512x4x1792_0_1_0_0_0 g))
/-- The result. -/
def kept (g : Whole F) : (⟨S8x512x1792, .bf16⟩ : BufTy).Contents (Elt F) := shapeCast S8x512x1792 (turn (both g)) shapeCasts_S2x4x512x1792_S8x512x1792

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v9) = kept (F := F) (m ((c.tc : Thread nD τ).loc main_arg0))
      ∧ r.2.mem ((c.tc : Thread nD τ).loc main_arg0) = m ((c.tc : Thread nD τ).loc main_arg0) :=
  (θ_run defs _ _).mono (fun _ h c => ⟨(h c main_v9).trans (by after_results; rfl), (h c main_arg0).trans (by after_results)⟩)
    (run_seq noBufs noSems defs main (fun _ => ops) main_ops (fun _ => ops_bufs) m ρ)

/-! ## Read at an index -/

theorem quarters_apply (g : Whole F) (a b : Fin 2) (r : Fin 512) (q : Fin 4) (k : Fin 1792) :
    quarters g (ix5 a b r q k) = g (ix2 (⟨(a.val * 2 + b.val) * 512 + r.val, by omega⟩ : Fin 2048) (⟨q.val * 1792 + k.val, by omega⟩ : Fin 7168)) := by
  unfold quarters
  refine shapeCast_apply g shapeCasts_S2048x7168_S2x2x512x4x1792 _ _ ?_
  rw [Shape.rowMajor_val_two, Shape.rowMajor_val_five]
  show ((a.val * 2 + b.val) * 512 + r.val) * 7168 + (q.val * 1792 + k.val) = (((a.val * 2 + b.val) * 512 + r.val) * 4 + q.val) * 1792 + k.val
  omega

theorem half_apply (g : Whole F) (a b : Fin 2) (h) (r : Fin 512) (q : Fin 4) (k : Fin 1792) : half a.val b.val h g (ix3 r q k) = quarters g (ix5 a b r q k) := by
  unfold half
  generalize quarters g = y
  refine (shapeCast_apply _ shapeCasts_S1x1x512x4x1792_S512x4x1792 (ix3 r q k) (ix5 (0 : Fin 1) (0 : Fin 1) r q k) ?_).trans ?_
  · rw [Shape.rowMajor_val_five, Shape.rowMajor_val_three]
    show (((0 * 1 + 0) * 512 + r.val) * 4 + q.val) * 1792 + k.val = (r.val * 4 + q.val) * 1792 + k.val
    omega
  · exact extractStridedSlice_apply ![a.val, b.val, 0, 0, 0] y h (ix5 (0 : Fin 1) (0 : Fin 1) r q k) (ix5 a b r q k) (fun i => match i with
      | ⟨0, _⟩ => by show a.val = a.val + 0; rfl
      | ⟨1, _⟩ => by show b.val = b.val + 0; rfl
      | ⟨2, _⟩ => by show r.val = 0 + r.val; omega
      | ⟨3, _⟩ => by show q.val = 0 + q.val; omega
      | ⟨4, _⟩ => by show k.val = 0 + k.val; omega)

theorem lift_apply (x : Half F) (r : Fin 512) (q : Fin 4) (k : Fin 1792) : lift x (ix4 (0 : Fin 1) r q k) = x (ix3 r q k) :=
  broadcastInDim_apply _ bcast_S512x4x1792_S1x512x4x1792_1_2_3 x _ _ (fun a => match a with
    | ⟨0, _⟩ => rfl
    | ⟨1, _⟩ => rfl
    | ⟨2, _⟩ => rfl)

/-- The half that device `c` is given: from the other device's part. -/
theorem both_apply (g : Whole F) (c : Fin 2) (r : Fin 512) (q : Fin 4) (k : Fin 1792) :
    both g (ix4 c r q k) = quarters g (ix5 (⟨1 - c.val, by omega⟩ : Fin 2) c r q k) := by
  have hc : c = 0 ∨ c = 1 := by revert c; decide
  unfold both
  rcases hc with rfl | rfl
  · refine (concatenate_pair_apply_left 0 _ _ concatenates_S1x512x4x1792_S1x512x4x1792_S2x512x4x1792_d0 _ rfl (ix4 (0 : Fin 1) r q k) (fun a => match a with
      | ⟨0, _⟩ => rfl
      | ⟨1, _⟩ => rfl
      | ⟨2, _⟩ => rfl
      | ⟨3, _⟩ => rfl)).trans ?_
    exact (lift_apply _ r q k).trans (half_apply g 1 0 _ r q k)
  · refine (concatenate_pair_apply_right 0 _ _ concatenates_S1x512x4x1792_S1x512x4x1792_S2x512x4x1792_d0 _ rfl rfl (ix4 (0 : Fin 1) r q k) (fun a h => match a, h with
      | ⟨0, _⟩, h => absurd rfl h
      | ⟨1, _⟩, _ => rfl
      | ⟨2, _⟩, _ => rfl
      | ⟨3, _⟩, _ => rfl) rfl).trans ?_
    exact (lift_apply _ r q k).trans (half_apply g 0 1 _ r q k)

/-- The result at device `c`'s plane `q`. -/
theorem kept_apply (g : Whole F) (c : Fin 2) (q : Fin 4) (r : Fin 512) (k : Fin 1792) : kept g (ix3 (⟨c.val * 4 + q.val, by omega⟩ : Fin 8) r k)
      = g (ix2 (⟨((1 - c.val) * 2 + c.val) * 512 + r.val, by omega⟩ : Fin 2048) (⟨q.val * 1792 + k.val, by omega⟩ : Fin 7168)) := by
  unfold kept
  refine (shapeCast_apply _ shapeCasts_S2x4x512x1792_S8x512x1792 _ (ix4 c q r k) ?_).trans ?_
  · rw [Shape.rowMajor_val_four, Shape.rowMajor_val_three]; rfl
  · refine (transpose_apply [0, 2, 1, 3] (both g) transposes_S2x512x4x1792_S2x4x512x1792_0_2_1_3 _ (ix4 c r q k) (fun a => match a with
      | ⟨0, _⟩ => rfl
      | ⟨1, _⟩ => rfl
      | ⟨2, _⟩ => rfl
      | ⟨3, _⟩ => rfl)).trans ?_
    exact (both_apply g c r q k).trans (quarters_apply g _ c r q k)

end Cert.XchRef
-- ==== Proof.XchClaim.lean ====
/- The exchange of a pair of devices' halves: each device ends with what the other sent, which is its part of the
   reference's array, and every semaphore ends at zero. -/
module

public import proofs.«01_k».proof.Proof.XchRun
public import proofs.«01_k».proof.Proof.XchRef
public import proofs.«01_k».proof.Proof.Gen.XchIdeal
public import proofs.«01_k».proof.Proof.Gen.XchReference
public import proofs.«01_k».proof.Defs

@[expose] public section

set_option maxRecDepth 16384

noncomputable section

namespace Cert.XchClaim

open Idealize.ShloMosaic Idealize.ShloMosaic.TcCoe Idealize.SL.Sem
open Idealize.ShloMosaic.ValueIdx
open Cert.XchRun

variable {F : FTy → Type} [FloatOps F]

theorem frame_kernel : Cert.quiescent_Xch (hXch := Cert.Xch.Gen.facts) := fun m ρ _ =>
  (θ_run _ _ _).mono (fun r h => ⟨fun c => (h.1 c).1, h.2⟩) (Cert.XchRun.run_main (F := Bits) m ρ)

theorem quiet (m : (ℓ : Loc Xch.nD Xch.τ Xch.sig) → Buf (Elt Ideal) ℓ) (ρ : Dev Xch.nD → PrngReg) :
    θ_run (Xch.defs (F := Ideal)) (onTc (τ := Xch.τ) (Xch.main (F := Ideal))) ⟨m, fun _ => 0, ρ⟩ fun r => (∀ c : Dev Xch.nD,
      r.2.mem ((c.tc : Thread Xch.nD Xch.τ).loc Xch.main_arg0) = m ((c.tc : Thread Xch.nD Xch.τ).loc Xch.main_arg0)) ∧ r.2.sem = fun _ => 0 :=
  (θ_run _ _ _).mono (fun r h => ⟨fun c => (h.1 c).1, h.2⟩) (Cert.XchRun.run_main (F := Ideal) m ρ)

/-- The ideal program is the kernel's own text: its run is the kernel's at the extended reals. -/
theorem frame_ideal : Cert.quiescent_XchIdeal (hXchIdeal := Cert.XchIdeal.Gen.facts) := fun m ρ _ =>
  cast (by sl_kernel_rfl) (quiet m ρ)

theorem frame_ref : Cert.quiescent_XchReferenceIdeal (hXchReferenceIdeal := Cert.XchReferenceIdeal.Gen.facts) := fun m ρ _ =>
  (θ_run Cert.XchReferenceIdeal.defs _ _).mono (fun r h => ⟨fun c => (h c).2, sem_eq_zero_of_no_sems (by decide) r.2⟩)
    (Cert.XchRef.run m ρ)

theorem frame_bits : Cert.quiescent_XchReference (hXchReference := Cert.XchReference.Gen.facts) := fun m ρ _ =>
  cast (by sl_kernel_rfl) ((θ_run Cert.XchReferenceIdeal.defs _ _).mono
    (fun r h => (⟨fun c => (h c).2, sem_eq_zero_of_no_sems (by decide) r.2⟩ : (∀ c : Dev XchReferenceIdeal.nD,
      r.2.mem ((c.tc : Thread XchReferenceIdeal.nD XchReferenceIdeal.τ).loc XchReferenceIdeal.main_arg0)
        = m ((c.tc : Thread XchReferenceIdeal.nD XchReferenceIdeal.τ).loc XchReferenceIdeal.main_arg0)) ∧ r.2.sem = fun _ => 0))
    (Cert.XchRef.run (F := Bits) m ρ))

/-- What lands on device `c` is its part of the reference's array. -/
theorem landed_block (g : Xch.S1024x7168.Idx → Elt F .bf16) (G : XchReferenceIdeal.S2048x7168.Idx → Elt F .bf16) (c : Fin 2)
    (hg : g = Layout.block ⟨2, ![1024, 7168]⟩ ⟨2, ![2048, 7168]⟩ 0 2 (peer c : Fin 2) G) :
    (stacked (F := F) c g : Xch.S4x512x1792.Idx → Elt F .bf16)
      = Layout.block ⟨3, ![4, 512, 1792]⟩ ⟨3, ![8, 512, 1792]⟩ 0 2 c (Cert.XchRef.kept (F := F) G : XchReferenceIdeal.S8x512x1792.Idx → Elt F .bf16) := by
  funext i
  rw [Layout.block_apply]
  have hi : ∀ h, Layout.Tiles.idx (S := ⟨3, ![4, 512, 1792]⟩) (T := ⟨3, ![8, 512, 1792]⟩) (a := 0) (k := 2) h c i
      = ix3 (⟨c.val * 4 + (i 0).val, by have h0 : (i 0).val < 4 := (i 0).isLt; omega⟩ : Fin 8) (i 1) (i 2) := fun h => by
    funext b
    refine Fin.ext ?_
    rw [Layout.Tiles.idx_val]
    match b with
    | ⟨0, _⟩ => rfl
    | ⟨1, _⟩ => rfl
    | ⟨2, _⟩ => rfl
  rw [hi]
  refine Eq.trans ?_ (Cert.XchRef.kept_apply (F := F) G c (i 0) (i 1) (i 2)).symm
  unfold stacked
  rw [hg, Layout.block_apply]
  refine congrArg G ?_
  funext b
  refine Fin.ext ?_
  rw [Layout.Tiles.idx_val]
  match b with
  | ⟨0, _⟩ =>
    show (1 - c.val) * 1024 + (512 * c.val + (i 1).val) = ((1 - c.val) * 2 + c.val) * 512 + (i 1).val
    omega
  | ⟨1, _⟩ =>
    show 1792 * (i 0).val + (i 2).val = (i 0).val * 1792 + (i 2).val
    omega

/-- The kernel's run, over any float values. -/
theorem run_kernel (m : (ℓ : Loc Xch.nD Xch.τ Xch.sig) → Buf (Elt F) ℓ) (ρ : Dev Xch.nD → PrngReg)
    (G : XchReferenceIdeal.S2048x7168.Idx → Elt F .bf16)
    (h : ∀ c : Dev Xch.nD, m ((c.tc : Thread Xch.nD Xch.τ).loc Xch.main_arg0) = Layout.block ⟨2, ![1024, 7168]⟩ ⟨2, ![2048, 7168]⟩ 0 2 c G) :
    θ_run (Xch.defs (F := F)) (onTc (τ := Xch.τ) (Xch.main (F := F))) ⟨m, fun _ => 0, ρ⟩ fun r => ∀ c : Dev Xch.nD,
      r.2.mem ((c.tc : Thread Xch.nD Xch.τ).loc Xch.main_v1)
        = Layout.block ⟨3, ![4, 512, 1792]⟩ ⟨3, ![8, 512, 1792]⟩ 0 2 c (Cert.XchRef.kept (F := F) G : XchReferenceIdeal.S8x512x1792.Idx → Elt F .bf16)
      ∧ r.2.mem ((c.tc : Thread Xch.nD Xch.τ).loc Xch.main_arg0) = m ((c.tc : Thread Xch.nD Xch.τ).loc Xch.main_arg0) :=
  (θ_run _ _ _).mono (fun r hr c => ⟨(hr.1 c).2.trans (landed_block (argOf m (peer c)) G c (h (peer c))), (hr.1 c).1⟩)
    (Cert.XchRun.run_main (F := F) m ρ)

theorem algebraic : Cert.algebraic_XchIdeal_XchReferenceIdeal (hXchIdeal := Cert.XchIdeal.Gen.facts) (hXchReferenceIdeal := Cert.XchReferenceIdeal.Gen.facts) := by
  intro m ρ m' ρ' _ hargs
  refine ⟨Cert.XchRef.kept (F := Ideal) (m' (((0 : Dev XchReferenceIdeal.nD).tc : Thread XchReferenceIdeal.nD XchReferenceIdeal.τ).loc XchReferenceIdeal.main_arg0)),
    cast (by sl_kernel_rfl) (run_kernel m ρ _ hargs), ?_⟩
  exact (θ_run _ _ _).mono (fun r h => h 0) (Cert.XchRef.run m' ρ')

/-- Nothing but words moves, so the two programs agree to the bit. -/
theorem bitexact : Cert.bitexact_Xch_XchReference (hXch := Cert.Xch.Gen.facts) (hXchReference := Cert.XchReference.Gen.facts) := by
  intro m ρ m' ρ' _ hargs
  refine ⟨Cert.XchRef.kept (F := Bits) (m' (((0 : Dev XchReference.nD).tc : Thread XchReference.nD XchReference.τ).loc XchReference.main_arg0)), run_kernel m ρ _ hargs, ?_⟩
  exact cast (by sl_kernel_rfl) ((θ_run _ _ _).mono (fun r h => h 0) (Cert.XchRef.run (F := Bits) m' ρ'))

end Cert.XchClaim
-- ==== Proof.SctRun.lean ====
/- The scatter among four devices: each sends a plane of its array to each other device, and ends with the three planes
   the others send it. -/
module

public import proofs.«01_k».proof.Proof.ExchangeRun
public import proofs.«01_k».proof.Proof.Gen.Sct.Launch
public import proofs.«01_k».proof.Proof.Gen.Sct.Skeleton
public import Idealize.ShloMosaic.Lib.ValueLayout

@[expose] public section

noncomputable section

namespace Cert.SctRun

open Cert.Sct hiding τ
open Cert.Sct.Gen Cert.ExchangeLaunch Cert.Exchange
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (UU nD sig) ℕ

/-! ## Who sends what to whom -/

/-- Transfer `j` is between the devices that differ in the second coordinate's axis, the first's, or both. -/
def mate (j : Fin 3) (c : Dev nD) : Dev nD :=
  ⟨c.val ^^^ (match j with | 0 => 2 | 1 => 1 | 2 => 3), by revert j c; decide⟩
theorem mate_mate (j : Fin 3) (c : Dev nD) : mate j (mate j c) = c := by revert j c; decide

abbrev aM : Memref sig .tc .hbm S4x512x1792 .bf16 := Memref.whole main_arg0
abbrev oM : Memref sig .tc .hbm S3x512x1792 .bf16 := Memref.whole main_v1

theorem inb_piece (p : Dev nD) : ∀ a, (![p.val, 0, 0] : Fin 3 → ℕ) a + S1x512x1792.size a ≤ S4x512x1792.size a := by
  revert p; decide
theorem inb_land (j : Fin 3) : ∀ a, (![j.val, 0, 0] : Fin 3 → ℕ) a + S1x512x1792.size a ≤ S3x512x1792.size a := by
  revert j; decide

/-- Plane `p` of the argument. -/
abbrev piece (p : Dev nD) : Memref sig .tc .hbm S512x1792 .bf16 :=
  (aM.slice (Rect.unit (s := S4x512x1792) ![p.val, 0, 0] S1x512x1792.size (inb_piece p)) (fun _ => rfl)).squeeze S512x1792 squeezes_S1x512x1792_S512x1792
/-- Plane `j` of the result. -/
abbrev land (j : Fin 3) : Memref sig .tc .hbm S512x1792 .bf16 :=
  (oM.slice (Rect.unit (s := S3x512x1792) ![j.val, 0, 0] S1x512x1792.size (inb_land j)) (fun _ => rfl)).squeeze S512x1792 squeezes_S1x512x1792_S512x1792

def semOf : Fin 3 ⊕ Fin 3 → DmaSem sig
  | .inl j => (⟨j.val, by have := j.isLt; show j.val < 6; omega⟩ : Fin 6)
  | .inr j => (⟨3 + j.val, by have := j.isLt; show 3 + j.val < 6; omega⟩ : Fin 6)

abbrev plan : Plan nD sig Λ₀ where
  body := 0
  args t s := (t, s)
  n := 3
  sem := semOf
  s := S512x1792
  e := .bf16
  inj := by decide
  mate := mate
  mate_mate := mate_mate
  piece c j := piece (mate j c)
  land := land
  wordPiece c j := ((Memref.isWhole_whole main_arg0).wordExact_slice rfl _ (by revert j c; decide)).reshape _ _
  wordLand j := ((Memref.isWhole_whole main_v1).wordExact_slice rfl _ (by revert j; decide)).reshape _ _
  shared _ := rfl
  typed _ _ := ⟨⟨rfl, Or.inl rfl⟩, trivial⟩
  N := (land 0).view.dmaCredit
  N_pos := View.dmaCredit_pos _ (by decide)
  credPiece _ _ := rfl
  credLand _ := rfl

theorem facts : plan.toSite.Facts nD where
  cell := cellOf_inj
  win := winFacts0
  own := by decide
  allScoped := by decide
  rest c := scopedRest0_eq c

abbrev order : List (Fin 3) := [0, 1, 2]

set_option maxHeartbeats 4000000 in
theorem isModel : IsModel (F := F) defs₀ plan order := by
  refine ⟨PUnit.unit, fun c t s Q => ?_⟩
  show _ ⊢ wp frame (wpE (defs₀ (F := F)) 𝒱₀ (c : Thread nD τ) none) Set.univ
    (cc0_chip_scatter_w_in (F := F) (Memref.whole main_arg0) (Memref.isWhole_whole _) (Memref.whole main_v1) (Memref.isWhole_whole _) cc0_scratch0 cc0_scratch1) Q
  have h : ∀ c : Dev nD, c = 0 ∨ c = 1 ∨ c = 2 ∨ c = 3 := by decide
  simp only [cc0_chip_scatter_w_in_eq_skeleton]; unfold cc0_chip_scatter_w_in_skel
  simp only [k0_part13_eq_skeleton]; unfold k0_part13_skel
  simp only [Prog.lift, Prog.bind_op, Prog.bind_ret, Prog.pure_eq_ret, wp_deviceId]
  rcases h c with rfl | rfl | rfl | rfl
  all_goals
    iterate 4 first | rw [dif_pos (by decide +kernel)] | rw [dif_neg (by decide +kernel)]
    simp only [Prog.lift, Prog.bind_op, Prog.bind_ret, Prog.pure_eq_ret, k0_part1_eq_skeleton, k0_part2_eq_skeleton, k0_part3_eq_skeleton, k0_part4_eq_skeleton,
      k0_part1_skel, k0_part2_skel, k0_part3_skel, k0_part4_skel, k0_dev1_eq, k0_dev2_eq, k0_dev3_eq, k0_dev4_eq, k0_dev5_eq, k0_dev6_eq, k0_dev7_eq,
      k0_dev8_eq, k0_dev9_eq, k0_dev10_eq, k0_dev11_eq, k0_dev12_eq]
    iterate 4 first | rw [dif_pos (by decide +kernel)] | rw [dif_neg (by decide +kernel)]
    simp only [Prog.lift, Prog.bind_op, Prog.bind_ret, Prog.pure_eq_ret, k0_part5_eq_skeleton, k0_part6_eq_skeleton, k0_part7_eq_skeleton, k0_part8_eq_skeleton,
      k0_part9_eq_skeleton, k0_part10_eq_skeleton, k0_part11_eq_skeleton, k0_part12_eq_skeleton, k0_part5_skel, k0_part6_skel, k0_part7_skel, k0_part8_skel,
      k0_part9_skel, k0_part10_skel, k0_part11_skel, k0_part12_skel]
    exact Entails.refl _

/-! ## What lands -/

theorem emb_land (j : Fin 3) (x : S512x1792.Idx) : (land j).view.emb x = (ix3 j (x 0) (x 1) : S3x512x1792.Idx) := emb_plane j _ _ x
theorem emb_piece (p : Dev nD) (x : S512x1792.Idx) : (piece p).view.emb x = (ix3 p (x 0) (x 1) : S4x512x1792.Idx) := emb_plane (n := 4) p _ _ x
theorem mem_land (j : Fin 3) (i : S3x512x1792.Idx) : i ∈ (land j).view.set ↔ i 0 = j := mem_plane j _ (emb_land j) i

variable (m : (ℓ : Loc nD τ sig) → Buf (Elt F) ℓ) (ρ : Dev nD → PrngReg)

abbrev argOf (c : Dev nD) : (⟨S4x512x1792, .bf16⟩ : BufTy).Contents (Elt F) := m ((c : Thread nD τ).loc main_arg0)
abbrev resOf (c : Dev nD) : (⟨S3x512x1792, .bf16⟩ : BufTy).Contents (Elt F) := m ((c : Thread nD τ).loc main_v1)

/-- What device `c` ends with: plane `c` of each other device's argument. -/
def landed (c : Dev nD) : (⟨S3x512x1792, .bf16⟩ : BufTy).Contents (Elt F) := fun i => argOf m (mate (i 0) c) (ix3 (n0 := 4) c (i 1) (i 2))

theorem landing (c : Dev nD) (j : Fin 3) (fd : (⟨S3x512x1792, .bf16⟩ : BufTy).Contents (Elt F)) (i : S3x512x1792.Idx) (hi : i ∈ (land j).view.set) :
    (land j).view.write (Elt F) fd ((piece (mate j c)).view.read (Elt F) (argOf m c)) Finset.univ i = landed m (mate j c) i := by
  obtain ⟨x, -, rfl⟩ := Finset.mem_map.mp hi
  rw [View.write_emb_of_mem (Val := Elt F) _ _ (Finset.mem_univ x), View.read_apply]
  show argOf m c ((piece (mate j c)).view.emb x) = landed m (mate j c) ((land j).view.emb x)
  rw [emb_land, emb_piece]
  show _ = argOf m (mate j (mate j c)) _
  rw [mate_mate]

abbrev data : Data plan F where
  q j := part j.val
  fs c _ := argOf m c
  fd c _ := resOf m c
  fl c _ := landed m c
  landing c j i hi := landing m c j _ i hi

theorem planes_eq (c : Dev nD) (f : (⟨S3x512x1792, .bf16⟩ : BufTy).Contents (Elt F)) :
    (((c : Thread nD τ).loc main_v1) ↦{fullShare} (f : Buf (Elt F) ((c : Thread nD τ).loc main_v1)) : sProp 𝕄) = planes plan c fun _ => f :=
  by_planes ((c : Thread nD τ).loc main_v1) (fun j => (land j).view.set) (fun i => (show S3x512x1792.Idx from i) 0) (fun i j => mem_land j i) f

/-- From any memory with zero counters, over any float values: every fair run of the four devices ends, each device's
    argument as it was, its result the planes sent to it, and every counter at zero. -/
theorem run_main : θ_run defs (onTc (τ := τ) (main (F := F))) ⟨m, fun _ => 0, ρ⟩ (fun r => (∀ c : Dev nD,
    r.2.mem ((c : Thread nD τ).loc main_arg0) = argOf m c ∧ r.2.mem ((c : Thread nD τ).loc main_v1) = landed m c) ∧ r.2.sem = fun _ => 0) :=
  run_arrays m ρ defs₀ plan (data m) order (by decide) (by decide) facts isModel (fun c => (c : Thread nD τ).loc main_arg0) (fun c => (c : Thread nD τ).loc main_v1)
    (argOf m) (resOf m) (landed m) (fun c => bigSep_eq_bigSepL_of_eq [main_arg0, main_v1] (by decide) (by decide) _)
    (fun c j => (pointsTo_split_subset (Finset.subset_univ (piece (mate j c)).view.set)).1.trans (sep_elim_left))
    (fun c => Entails.of_eq (planes_eq c _)) (fun c => Entails.of_eq (planes_eq c _).symm)

end Cert.SctRun

end
-- ==== Proof.SctRef.lean ====
/- The scatter's reference: its run, and its result array read at an index. -/
module

public import proofs.«01_k».proof.Proof.Gen.SctReferenceIdeal
public import Idealize.ShloMosaic.Lib.StableHlo.Run
public import Idealize.ShloMosaic.Lib.Pipeline.Value
public import Idealize.ShloMosaic.Lib.ValueIdx

@[expose] public section

set_option maxRecDepth 16384

noncomputable section

namespace Cert.SctRef

open Cert.SctReferenceIdeal Cert.SctReferenceIdeal.Gen Idealize.ShloMosaic Idealize.ShloMosaic.TcCoe Idealize.SL.Sem Idealize.ShloMosaic.StableHlo
open Idealize.ShloMosaic.ValueIdx

variable {F : FTy → Type} [FloatOps F]

abbrev Whole (F : FTy → Type) : Type := (⟨S16x512x1792, .bf16⟩ : BufTy).Contents (Elt F)
abbrev One (F : FTy → Type) : Type := (⟨S1x512x1792, .bf16⟩ : BufTy).Contents (Elt F)

/-- One plane of the array. -/
abbrev plane (p : ℕ) (h : S16x512x1792.Slices ![p, 0, 0] S1x512x1792) (g : Whole F) : One F := extractStridedSlice S1x512x1792 ![p, 0, 0] g h

/-- Twelve planes, stacked. -/
abbrev stack (u : Fin 12 → One F) : (⟨S12x512x1792, .bf16⟩ : BufTy).Contents (Elt F) :=
  concatenate S12x512x1792 0 (List.ofFn fun k : Fin 12 => ⟨S1x512x1792, u k⟩)
    concatenates_S1x512x1792_S1x512x1792_S1x512x1792_S1x512x1792_S1x512x1792_S1x512x1792_S1x512x1792_S1x512x1792_S1x512x1792_S1x512x1792_S1x512x1792_S1x512x1792_S12x512x1792_d0

/-- The thirteen operations. -/
abbrev ops : List (HloOp τ sig (Elt F)) :=
  [ unary main_arg0 main_v0 (plane 8 (by decide) : Whole F → One F), unary main_arg0 main_v1 (plane 4 (by decide) : Whole F → One F),
    unary main_arg0 main_v2 (plane 12 (by decide) : Whole F → One F), unary main_arg0 main_v3 (plane 13 (by decide) : Whole F → One F),
    unary main_arg0 main_v4 (plane 1 (by decide) : Whole F → One F), unary main_arg0 main_v5 (plane 9 (by decide) : Whole F → One F),
    unary main_arg0 main_v6 (plane 2 (by decide) : Whole F → One F), unary main_arg0 main_v7 (plane 14 (by decide) : Whole F → One F),
    unary main_arg0 main_v8 (plane 6 (by decide) : Whole F → One F), unary main_arg0 main_v9 (plane 7 (by decide) : Whole F → One F),
    unary main_arg0 main_v10 (plane 11 (by decide) : Whole F → One F), unary main_arg0 main_v11 (plane 3 (by decide) : Whole F → One F),
    nary ![main_v0, main_v1, main_v2, main_v3, main_v4, main_v5, main_v6, main_v7, main_v8, main_v9, main_v10, main_v11] main_v12 fun u =>
      (stack ![u 0, u 1, u 2, u 3, u 4, u 5, u 6, u 7, u 8, u 9, u 10, u 11] : (⟨S12x512x1792, .bf16⟩ : BufTy).Contents (Elt F)) ]

theorem main_ops (c : Dev nD) : main (F := F) c = seq ops := rfl
theorem noBufs : (Finset.univ.filter fun b : Ref sig .tc => b.isScoped) = ∅ := by decide
theorem noSems : (Finset.univ.filter fun sm : SemLoc sig => sm.isScoped .tc) = ∅ := by decide
theorem ops_bufs : (ops : List (HloOp τ sig (Elt F))).Forall fun op => op.bufs ⊆ tcRefs τ sig := by
  simp only [ops, List.forall_cons, unary_bufs_sub, nary_bufs_sub, List.Forall, and_self]

/-- The plane that is stacked at `k`. -/
def src : Fin 12 → Fin 16 := ![8, 4, 12, 13, 1, 9, 2, 14, 6, 7, 11, 3]

/-- The result. -/
def kept (g : Whole F) : (⟨S12x512x1792, .bf16⟩ : BufTy).Contents (Elt F) := stack fun k => plane (src k).val (by revert k; decide) g

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v12) = kept (F := F) (m ((c.tc : Thread nD τ).loc main_arg0))
      ∧ r.2.mem ((c.tc : Thread nD τ).loc main_arg0) = m ((c.tc : Thread nD τ).loc main_arg0) :=
  (θ_run defs _ _).mono (fun _ h c => ⟨(h c main_v12).trans (by after_results; rfl), (h c main_arg0).trans (by after_results)⟩)
    (run_seq noBufs noSems defs main (fun _ => ops) main_ops (fun _ => ops_bufs) m ρ)

theorem plane_apply (g : Whole F) (p : Fin 16) (h) (r : Fin 512) (q : Fin 1792) : plane p.val h g (ix3 (0 : Fin 1) r q) = g (ix3 p r q) :=
  extractStridedSlice_apply ![p.val, 0, 0] g h (ix3 (0 : Fin 1) r q) (ix3 p r q) (fun a => match a with
    | ⟨0, _⟩ => by show p.val = p.val + 0; rfl
    | ⟨1, _⟩ => by show r.val = 0 + r.val; omega
    | ⟨2, _⟩ => by show q.val = 0 + q.val; omega)

theorem kept_apply (g : Whole F) (k : Fin 12) (r : Fin 512) (q : Fin 1792) : kept g (ix3 k r q) = g (ix3 (src k) r q) := by
  unfold kept stack
  refine (concatenate_ofFn_unit_apply (t := S12x512x1792) (s₁ := S1x512x1792) 0 (fun k => plane (src k).val _ g) concatenates_S1x512x1792_S1x512x1792_S1x512x1792_S1x512x1792_S1x512x1792_S1x512x1792_S1x512x1792_S1x512x1792_S1x512x1792_S1x512x1792_S1x512x1792_S1x512x1792_S12x512x1792_d0 rfl rfl (ix3 k r q) k rfl (ix3 (0 : Fin 1) r q) fun a h => ?_).trans ?_
  · match a, h with
    | ⟨0, _⟩, h => exact absurd rfl h
    | ⟨1, _⟩, _ => rfl
    | ⟨2, _⟩, _ => rfl
  · exact plane_apply g (src k) _ r q

end Cert.SctRef
-- ==== Proof.SctClaim.lean ====
/- The scatter among four devices: each device ends with the planes that the others have for it, which are its part of the
   reference's array, and every semaphore ends at zero. -/
module

public import proofs.«01_k».proof.Proof.SctRun
public import proofs.«01_k».proof.Proof.SctRef
public import proofs.«01_k».proof.Proof.Gen.SctIdeal
public import proofs.«01_k».proof.Proof.Gen.SctReference
public import proofs.«01_k».proof.Defs

@[expose] public section

set_option maxRecDepth 16384

noncomputable section

namespace Cert.SctClaim

open Idealize.ShloMosaic Idealize.ShloMosaic.TcCoe Idealize.SL.Sem
open Idealize.ShloMosaic.ValueIdx
open Cert.SctRun

variable {F : FTy → Type} [FloatOps F]

theorem frame_kernel : Cert.quiescent_Sct (hSct := Cert.Sct.Gen.facts) := fun m ρ _ =>
  (θ_run _ _ _).mono (fun r h => ⟨fun c => (h.1 c).1, h.2⟩) (Cert.SctRun.run_main (F := Bits) m ρ)

theorem quiet (m : (ℓ : Loc Sct.nD Sct.τ Sct.sig) → Buf (Elt Ideal) ℓ) (ρ : Dev Sct.nD → PrngReg) :
    θ_run (Sct.defs (F := Ideal)) (onTc (τ := Sct.τ) (Sct.main (F := Ideal))) ⟨m, fun _ => 0, ρ⟩ fun r => (∀ c : Dev Sct.nD,
      r.2.mem ((c.tc : Thread Sct.nD Sct.τ).loc Sct.main_arg0) = m ((c.tc : Thread Sct.nD Sct.τ).loc Sct.main_arg0)) ∧ r.2.sem = fun _ => 0 :=
  (θ_run _ _ _).mono (fun r h => ⟨fun c => (h.1 c).1, h.2⟩) (Cert.SctRun.run_main (F := Ideal) m ρ)

/-- The ideal program is the kernel's own text: its run is the kernel's at the extended reals. -/
theorem frame_ideal : Cert.quiescent_SctIdeal (hSctIdeal := Cert.SctIdeal.Gen.facts) := fun m ρ _ =>
  cast (by sl_kernel_rfl) (quiet m ρ)

theorem frame_ref : Cert.quiescent_SctReferenceIdeal (hSctReferenceIdeal := Cert.SctReferenceIdeal.Gen.facts) := fun m ρ _ =>
  (θ_run Cert.SctReferenceIdeal.defs _ _).mono (fun r h => ⟨fun c => (h c).2, sem_eq_zero_of_no_sems (by decide) r.2⟩)
    (Cert.SctRef.run m ρ)

theorem frame_bits : Cert.quiescent_SctReference (hSctReference := Cert.SctReference.Gen.facts) := fun m ρ _ =>
  cast (by sl_kernel_rfl) ((θ_run Cert.SctReferenceIdeal.defs _ _).mono
    (fun r h => (⟨fun c => (h c).2, sem_eq_zero_of_no_sems (by decide) r.2⟩ : (∀ c : Dev SctReferenceIdeal.nD,
      r.2.mem ((c.tc : Thread SctReferenceIdeal.nD SctReferenceIdeal.τ).loc SctReferenceIdeal.main_arg0)
        = m ((c.tc : Thread SctReferenceIdeal.nD SctReferenceIdeal.τ).loc SctReferenceIdeal.main_arg0)) ∧ r.2.sem = fun _ => 0))
    (Cert.SctRef.run (F := Bits) m ρ))

theorem src_eq : ∀ (c : Fin 4) (j : Fin 3), Cert.SctRef.src (⟨c.val * 3 + j.val, by omega⟩ : Fin 12) = (⟨(mate j c).val * 4 + c.val, by
    have h : (mate j c).val < 4 := (mate j c).isLt; omega⟩ : Fin 16) := by decide

/-- What lands on device `c` is its part of the reference's array. -/
theorem landed_block (m : (ℓ : Loc Sct.nD Sct.τ Sct.sig) → Buf (Elt F) ℓ) (G : SctReferenceIdeal.S16x512x1792.Idx → Elt F .bf16)
    (h : ∀ c : Dev Sct.nD, argOf m c = Layout.block ⟨3, ![4, 512, 1792]⟩ ⟨3, ![16, 512, 1792]⟩ 0 4 (c : Fin 4) G) (c : Fin 4) :
    (landed m c : Sct.S3x512x1792.Idx → Elt F .bf16)
      = Layout.block ⟨3, ![3, 512, 1792]⟩ ⟨3, ![12, 512, 1792]⟩ 0 4 c (Cert.SctRef.kept (F := F) G : SctReferenceIdeal.S12x512x1792.Idx → Elt F .bf16) := by
  funext i
  rw [Layout.block_apply]
  have hi : ∀ h, Layout.Tiles.idx (S := ⟨3, ![3, 512, 1792]⟩) (T := ⟨3, ![12, 512, 1792]⟩) (a := 0) (k := 4) h c i
      = ix3 (⟨c.val * 3 + (i 0).val, by have h0 : (i 0).val < 3 := (i 0).isLt; omega⟩ : Fin 12) (i 1) (i 2) := fun h => by
    funext b
    refine Fin.ext ?_
    rw [Layout.Tiles.idx_val]
    match b with
    | ⟨0, _⟩ => rfl
    | ⟨1, _⟩ => rfl
    | ⟨2, _⟩ => rfl
  rw [hi]
  refine Eq.trans ?_ (Cert.SctRef.kept_apply (F := F) G _ (i 1) (i 2)).symm
  unfold landed
  rw [h, Layout.block_apply, src_eq c (i 0)]
  refine congrArg G ?_
  funext b
  refine Fin.ext ?_
  rw [Layout.Tiles.idx_val]
  match b with
  | ⟨0, _⟩ => rfl
  | ⟨1, _⟩ => rfl
  | ⟨2, _⟩ => rfl

/-- The kernel's run, over any float values. -/
theorem run_kernel (m : (ℓ : Loc Sct.nD Sct.τ Sct.sig) → Buf (Elt F) ℓ) (ρ : Dev Sct.nD → PrngReg)
    (G : SctReferenceIdeal.S16x512x1792.Idx → Elt F .bf16)
    (h : ∀ c : Dev Sct.nD, m ((c.tc : Thread Sct.nD Sct.τ).loc Sct.main_arg0) = Layout.block ⟨3, ![4, 512, 1792]⟩ ⟨3, ![16, 512, 1792]⟩ 0 4 c G) :
    θ_run (Sct.defs (F := F)) (onTc (τ := Sct.τ) (Sct.main (F := F))) ⟨m, fun _ => 0, ρ⟩ fun r => ∀ c : Dev Sct.nD,
      r.2.mem ((c.tc : Thread Sct.nD Sct.τ).loc Sct.main_v1)
        = Layout.block ⟨3, ![3, 512, 1792]⟩ ⟨3, ![12, 512, 1792]⟩ 0 4 c (Cert.SctRef.kept (F := F) G : SctReferenceIdeal.S12x512x1792.Idx → Elt F .bf16)
      ∧ r.2.mem ((c.tc : Thread Sct.nD Sct.τ).loc Sct.main_arg0) = m ((c.tc : Thread Sct.nD Sct.τ).loc Sct.main_arg0) :=
  (θ_run _ _ _).mono (fun r hr c => ⟨(hr.1 c).2.trans (landed_block m G h c), (hr.1 c).1⟩) (Cert.SctRun.run_main (F := F) m ρ)

theorem algebraic : Cert.algebraic_SctIdeal_SctReferenceIdeal (hSctIdeal := Cert.SctIdeal.Gen.facts) (hSctReferenceIdeal := Cert.SctReferenceIdeal.Gen.facts) := by
  intro m ρ m' ρ' _ hargs
  refine ⟨Cert.SctRef.kept (F := Ideal) (m' (((0 : Dev SctReferenceIdeal.nD).tc : Thread SctReferenceIdeal.nD SctReferenceIdeal.τ).loc SctReferenceIdeal.main_arg0)),
    cast (by sl_kernel_rfl) (run_kernel m ρ _ hargs), ?_⟩
  exact (θ_run _ _ _).mono (fun r h => h 0) (Cert.SctRef.run m' ρ')

/-- Nothing but words moves, so the two programs agree to the bit. -/
theorem bitexact : Cert.bitexact_Sct_SctReference (hSct := Cert.Sct.Gen.facts) (hSctReference := Cert.SctReference.Gen.facts) := by
  intro m ρ m' ρ' _ hargs
  refine ⟨Cert.SctRef.kept (F := Bits) (m' (((0 : Dev SctReference.nD).tc : Thread SctReference.nD SctReference.τ).loc SctReference.main_arg0)), run_kernel m ρ _ hargs, ?_⟩
  exact cast (by sl_kernel_rfl) ((θ_run _ _ _).mono (fun r h => h 0) (Cert.SctRef.run (F := Bits) m' ρ'))

end Cert.SctClaim
-- ==== Proof.PlaceClaim.lean ====
/- The packing of a shard: the kernel rounds its rows into one part of the columns of a larger array, and the result is that
   part. -/
module

public import proofs.«01_k».proof.Proof.Gen.Pc.Frame
public import proofs.«01_k».proof.Proof.Gen.PcReferenceIdeal.Read
public import proofs.«01_k».proof.Proof.Gen.PcIdeal
public import proofs.«01_k».proof.Proof.Gen.PcReference
public import proofs.«01_k».proof.Defs
public import Idealize.ShloMosaic.Lib.Pipeline.ValueKit
public import Idealize.ShloMosaic.Lib.Pipeline.ReadBack
public import Idealize.ShloMosaic.Lib.Pipeline.ValueKit.Acc

@[expose] public section

set_option maxRecDepth 16384

noncomputable section

namespace Cert.PlaceClaim

open Idealize.ShloMosaic Idealize.ShloMosaic.TcCoe Idealize.SL.Sem

variable {F : FTy → Type} [FloatOps F]

section Kernel

open Cert.Pc Cert.Pc.Gen

/-- The position both words of the table name: zero. -/
def zeros : pre0.Contents (Elt F) := fun | ⟨0, _⟩ => fun _ => 0#32 | ⟨_ + 1, h⟩ => absurd h (by simp)

variable (m : (ℓ : Loc nD τ sig) → Buf (Elt F) ℓ) (c : Dev nD)

theorem tbl_eq : tbl m = zeros := by
  funext j x
  match j with
  | ⟨0, _⟩ =>
    refine congrFun (?_ : StableHlo.after (List.flatten [hostOps0]) (fun b => m (0, b)) (Proc.devRef .tc main_v0) = fun _ => 0#32) x
    simp only [hostOps0, List.flatten_cons, List.flatten_nil, List.append_nil, List.cons_append, List.nil_append]
    after_results
    rfl

theorem ok : Ok m := by unfold Ok; rw [tbl_eq]; exact of_decide_eq_true (by sl_kernel_rfl)

theorem cover (a : (pcfg0 (F := F)).Adm) (h : a.1 = zeros) : ((cfg0 a).win 1).CoversWhere fun β => β (1 : Fin 2) = 0 := by
  obtain ⟨t, ht⟩ := a
  subst h
  exact of_decide_eq_true (by sl_kernel_rfl)

/-- The argument rounded, element by element. -/
def rounded (w : S1024x1792.Idx → Elt F .f32) : S1024x1792.Idx → Elt F .bf16 := fun i => FloatOps.truncf .bf16 bitsLt_bf16_f32 (w i)

/-- The rounded rows, in each part of the columns. -/
def parts (w : S1024x1792.Idx → Elt F .f32) : S1024x7168.Idx → Elt F .bf16 := fun i =>
  rounded w (ValueIdx.ix2 (i 0) ⟨(i 1).val % 1792, Nat.mod_lt _ (by decide)⟩)

theorem out (t : Fin (cfgM m (ok m)).N) : outsAt0 m (ok m) c t = k0_pay1 (iblk m (ok m) c 0 t) := by
  unfold outsAt0 out0_A_1; frame_out
  exact congrArg k0_pay1 ((hs0_0 m (ok m) t).read_unread _)

theorem placed (i : S1024x7168.Idx) (hi : (i 1).val / 1792 = 0) :
    (dats m (ok m) 0 c).arrAt 1 (cfgM m (ok m)).N i = parts (m ((c : Thread nD τ).loc main_arg0)) i := by
  refine ((dats m (ok m) 0 c).arrAt_apply_of_coversWhere (P := fun i : S1024x7168.Idx => (i 1).val / 1792 = 0) 1 (parts (m ((c : Thread nD τ).loc main_arg0)))
    (fun β => β (1 : Fin 2) = 0) (cover _ (tbl_eq m)) (fun t hf y => ?_) (fun j => Iff.rfl) i).trans (if_pos hi)
  rw [after0_1, out]
  show rounded (V m c main_arg0) _ = rounded _ _
  rw [V_main_arg0]
  refine congrArg (rounded (m ((c : Thread nD τ).loc main_arg0))) (funext fun a => Fin.ext ?_)
  match a with
  | ⟨0, _⟩ => rfl
  | ⟨1, _⟩ =>
    have hy : (y (1 : Fin 2)).val < 1792 := (y (1 : Fin 2)).isLt
    refine (Pipeline.Window.rect_emb_val ((cfgM m (ok m)).win 0) t y (1 : Fin 2)).trans
      (Eq.trans ?_ (congrArg (· % 1792) (Pipeline.Window.rect_emb_val ((cfgM m (ok m)).win 1) t y (1 : Fin 2)).symm))
    show 0 * 1792 + (y (1 : Fin 2)).val = (((cfgM m (ok m)).win 1).index t (1 : Fin 2) * 1792 + (y (1 : Fin 2)).val) % 1792
    omega

/-- The kernel's run, over any float values: the result is the argument rounded. -/
theorem run_kernel (ρ : Dev nD → PrngReg) :
    θ_run (defs (F := F)) (onTc (τ := τ) (main (F := F))) ⟨m, fun _ => 0, ρ⟩ fun r => ∀ c : Dev nD,
      r.2.mem ((c.tc : Thread nD τ).loc main_v2) = rounded (m ((c.tc : Thread nD τ).loc main_arg0))
      ∧ r.2.mem ((c.tc : Thread nD τ).loc main_arg0) = m ((c.tc : Thread nD τ).loc main_arg0) :=
  (θ_run _ _ _).mono (fun r h c => by
    refine ⟨((h.1 c).2 main_v2 (by show main_v2 ∈ Pipeline.restRefs sig spec0; decide)).trans ?_, h.2 c⟩
    unfold Pipeline.afterTail
    simp only [hostOps1, List.flatten_cons, List.flatten_nil, List.append_nil, List.cons_append, List.nil_append]
    after_results
    funext i
    refine (congrFun (Pipeline.withArrays_arr spec0 winFacts0.arr_inj c (V0 m c) (fun w => (dats m (ok m) 0 c).arrAt w (cfgM m (ok m)).N) 1) _).trans ?_
    refine (placed m c _ ?_).trans ?_
    · show (0 + (i 1).val) / 1792 = 0
      have h1 : (i 1).val < 1792 := (i 1).isLt
      omega
    · refine congrArg (rounded (m ((c : Thread nD τ).loc main_arg0))) (funext fun a => Fin.ext ?_)
      match a with
      | ⟨0, _⟩ => exact Nat.zero_add _
      | ⟨1, _⟩ =>
        show (0 + (i 1).val) % 1792 = (i 1).val
        have h1 : (i 1).val < 1792 := (i 1).isLt
        omega) (θ_run_and (run_main m ρ (ok m)) (unchanged m ρ (ok m)))

end Kernel

theorem frame_kernel : Cert.quiescent_Pc (hPc := Cert.Pc.Gen.facts) := fun m ρ _ => Cert.Pc.Gen.frame m ρ (ok m)

/-- The ideal program is the kernel's own text: its run is the kernel's at the extended reals. -/
theorem frame_ideal : Cert.quiescent_PcIdeal (hPcIdeal := Cert.PcIdeal.Gen.facts) := fun m ρ _ =>
  cast (by sl_kernel_rfl) (Cert.Pc.Gen.frame (F := Ideal) m ρ (ok m))

section Reference

open Cert.PcReferenceIdeal

theorem quiet (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_arg0) = m ((c.tc : Thread nD τ).loc main_arg0)) ∧ r.2.sem = fun _ => 0 :=
  (θ_run _ _ _).mono (fun r h => ⟨fun c => (h c).2, sem_eq_zero_of_no_sems (by decide) r.2⟩) (Cert.PcReferenceIdeal.Value.run m ρ)

theorem run_reference (m : (ℓ : Loc nD τ sig) → Buf (Elt F) ℓ) (ρ : Dev nD → PrngReg) (w : Dev nD → S1024x1792.Idx → Elt F .f32)
    (h : ∀ c : Dev nD, m ((c.tc : Thread nD τ).loc main_arg0) = w c) :
    θ_run (defs (F := F)) (onTc (τ := τ) (main (F := F))) ⟨m, fun _ => 0, ρ⟩ fun r => ∀ c : Dev nD,
      r.2.mem ((c.tc : Thread nD τ).loc main_v0) = rounded (w c) ∧ r.2.mem ((c.tc : Thread nD τ).loc main_arg0) = m ((c.tc : Thread nD τ).loc main_arg0) :=
  (θ_run _ _ _).mono (fun r hr c => ⟨(hr c).1.trans (by rw [h c]; rfl), (hr c).2⟩) (Cert.PcReferenceIdeal.Value.run m ρ)

theorem frame_ref : Cert.quiescent_PcReferenceIdeal (hPcReferenceIdeal := Cert.PcReferenceIdeal.Gen.facts) := fun m ρ _ => quiet m ρ
theorem frame_bits : Cert.quiescent_PcReference (hPcReference := Cert.PcReference.Gen.facts) := fun m ρ _ =>
  cast (by sl_kernel_rfl) (quiet (F := Bits) m ρ)

end Reference

theorem algebraic : Cert.algebraic_PcIdeal_PcReferenceIdeal (hPcIdeal := Cert.PcIdeal.Gen.facts) (hPcReferenceIdeal := Cert.PcReferenceIdeal.Gen.facts) :=
  fun m ρ m' ρ' _ hargs => ⟨fun c => rounded (F := Ideal) (m ((c.tc : Thread Pc.nD Pc.τ).loc Pc.main_arg0)), cast (by sl_kernel_rfl) (run_kernel m ρ),
    run_reference m' ρ' _ hargs⟩

/-- The same operation rounds every element, so the two programs agree to the bit. -/
theorem bitexact : Cert.bitexact_Pc_PcReference (hPc := Cert.Pc.Gen.facts) (hPcReference := Cert.PcReference.Gen.facts) :=
  fun m ρ m' ρ' _ hargs => ⟨fun c => rounded (F := Bits) (m ((c.tc : Thread Pc.nD Pc.τ).loc Pc.main_arg0)), run_kernel m ρ,
    cast (by sl_kernel_rfl) (run_reference (F := Bits) m' ρ' _ hargs)⟩

end Cert.PlaceClaim
-- ==== Proof.PairClaim.lean ====
/- The sum of two devices' parts: to the parts that stay with the pair the kernel adds what the neighbour sent, and rounds. -/
module

public import proofs.«01_k».proof.Proof.Gen.Pa.Frame
public import proofs.«01_k».proof.Proof.Gen.PaReferenceIdeal.Read
public import proofs.«01_k».proof.Proof.Gen.PaIdeal
public import proofs.«01_k».proof.Proof.Gen.PaReference
public import proofs.«01_k».proof.Defs
public import Idealize.ShloMosaic.Lib.Pipeline.ValueKit
public import Idealize.ShloMosaic.Lib.Pipeline.ReadBack
public import Idealize.ShloMosaic.Lib.Pipeline.ValueKit.Acc
public import Idealize.ShloMosaic.Lib.ValueLayout

@[expose] public section

set_option maxRecDepth 16384

noncomputable section

namespace Cert.PairClaim

open Idealize.ShloMosaic Idealize.ShloMosaic.TcCoe Idealize.SL.Sem

variable {F : FTy → Type} [FloatOps F]

section Kernel

open Cert.Pa Cert.Pa.Gen

/-- The position both words of the table name: zero. -/
def zeros : pre0.Contents (Elt F) := fun | ⟨0, _⟩ => fun _ => 0#32 | ⟨_ + 1, h⟩ => absurd h (by simp)

variable (m : (ℓ : Loc nD τ sig) → Buf (Elt F) ℓ) (c : Dev nD)

theorem tbl_eq : tbl m = zeros := by
  funext j x
  match j with
  | ⟨0, _⟩ =>
    refine congrFun (?_ : StableHlo.after (List.flatten [hostOps0]) (fun b => m (0, b)) (Proc.devRef .tc main_v0) = fun _ => 0#32) x
    simp only [hostOps0, List.flatten_cons, List.flatten_nil, List.append_nil, List.cons_append, List.nil_append]
    after_results
    rfl

theorem ok : Ok m := by unfold Ok; rw [tbl_eq]; exact of_decide_eq_true (by sl_kernel_rfl)

theorem cover (a : (pcfg0 (F := F)).Adm) (h : a.1 = zeros) : ((cfg0 a).win 2).CoversWhere fun β => β (0 : Fin 3) ≠ 0 := by
  obtain ⟨t, ht⟩ := a
  subst h
  exact of_decide_eq_true (by sl_kernel_rfl)

/-- Part `p` of the columns of the gradient is added to part `p` of what was sent. -/
theorem same (a : (pcfg0 (F := F)).Adm) (h : a.1 = zeros) : ∀ t : Fin (cfg0 a).N,
    ((cfg0 a).win 0).index t (0 : Fin 2) = ((cfg0 a).win 2).index t (1 : Fin 3)
      ∧ ((cfg0 a).win 0).index t (1 : Fin 2) = ((cfg0 a).win 2).index t (0 : Fin 3) ∧ ((cfg0 a).win 2).index t (2 : Fin 3) = 0 := by
  obtain ⟨t, ht⟩ := a
  subst h
  exact of_decide_eq_true (by sl_kernel_rfl)

/-- An element of the sum of the parts: the gradient's element of that part of the columns and the one sent, added and rounded. -/
def added (g : S1024x7168.Idx → Elt F .f32) (l : S4x512x1792.Idx → Elt F .bf16) : S4x512x1792.Idx → Elt F .bf16 := fun i =>
  FloatOps.truncf .bf16 bitsLt_bf16_f32 (FloatOps.addf
    (g (ValueIdx.ix2 ⟨(i 1).val, Nat.lt_trans (i 1).isLt (by decide)⟩ ⟨(i 0).val * 1792 + (i 2).val, by
      have h0 : (i 0).val < 4 := (i 0).isLt
      have h2 : (i 2).val < 1792 := (i 2).isLt
      omega⟩)) (FloatOps.extf .f32 bitsLt_bf16_f32 (l i)))

theorem pay (g : Vec F S512x1792 .f32) (l : Vec F S1x512x1792 .bf16) (z : S1x512x1792.Idx) :
    k0_pay1 g l z = FloatOps.truncf .bf16 bitsLt_bf16_f32 (FloatOps.addf (g (ValueIdx.ix2 (z 1) (z 2))) (FloatOps.extf .f32 bitsLt_bf16_f32 (l z))) := by
  rw [ValueIdx.eq_ix3 z]
  unfold k0_pay1
  refine (ValueIdx.shapeCast_ab_1ab_apply _ _ _ _ _).trans ?_
  refine congrArg (fun x => FloatOps.truncf .bf16 bitsLt_bf16_f32 (FloatOps.addf (g _) (FloatOps.extf .f32 bitsLt_bf16_f32 x))) ?_
  refine (ValueIdx.shapeCast_1ab_ab_apply _ _ _ _).trans (congrArg l ?_)
  exact congrArg (fun a : Fin 1 => ValueIdx.ix3 a (z 1) (z 2)) (Subsingleton.elim (0 : Fin 1) (z 0))

theorem out (t : Fin (cfgM m (ok m)).N) : outsAt0 m (ok m) c t = k0_pay1 (iblk m (ok m) c 0 t) (iblk m (ok m) c 1 t) := by
  unfold outsAt0 out0_A_2; frame_out
  exact congrArg₂ k0_pay1 ((hs0_0 m (ok m) t).read_unread _) ((hs0_1 m (ok m) t).read_unread _)

theorem placed (i : S4x512x1792.Idx) (hi : (i 0).val / 1 ≠ 0) :
    (dats m (ok m) 0 c).arrAt 2 (cfgM m (ok m)).N i = added (m ((c : Thread nD τ).loc main_arg0)) (m ((c : Thread nD τ).loc main_arg1)) i := by
  refine ((dats m (ok m) 0 c).arrAt_apply_of_coversWhere (P := fun i : S4x512x1792.Idx => (i 0).val / 1 ≠ 0) 2
    (added (m ((c : Thread nD τ).loc main_arg0)) (m ((c : Thread nD τ).loc main_arg1)))
    (fun β => β (0 : Fin 3) ≠ 0) (cover _ (tbl_eq m)) (fun t hf y => ?_) (fun j => Iff.rfl) i).trans (if_pos hi)
  rw [after0_2, out]
  refine (pay _ _ _).trans ?_
  unfold added iblk
  obtain ⟨e0, e1, e2⟩ := same _ (tbl_eq m) t
  have hy : (y (0 : Fin 3)).val < 1 := (y (0 : Fin 3)).isLt
  show FloatOps.truncf .bf16 bitsLt_bf16_f32 (FloatOps.addf (V m c main_arg0 _) (FloatOps.extf .f32 bitsLt_bf16_f32 (V m c main_arg1 _))) = _
  rw [V_main_arg0, V_main_arg1]
  refine congrArg (fun j => FloatOps.truncf .bf16 bitsLt_bf16_f32 (FloatOps.addf (m ((c : Thread nD τ).loc main_arg0) j) _)) (funext fun a => Fin.ext ?_)
  match a with
  | ⟨0, _⟩ =>
    refine (Pipeline.Window.rect_emb_val ((cfgM m (ok m)).win 0) t _ (0 : Fin 2)).trans
      (Eq.trans ?_ (Pipeline.Window.rect_emb_val ((cfgM m (ok m)).win 2) t y (1 : Fin 3)).symm)
    rw [e0]; rfl
  | ⟨1, _⟩ =>
    refine (Pipeline.Window.rect_emb_val ((cfgM m (ok m)).win 0) t _ (1 : Fin 2)).trans
      (Eq.trans ?_ (congrArg₂ (fun a b => a * 1792 + b) (Pipeline.Window.rect_emb_val ((cfgM m (ok m)).win 2) t y (0 : Fin 3)).symm
        (Pipeline.Window.rect_emb_val ((cfgM m (ok m)).win 2) t y (2 : Fin 3)).symm))
    rw [e1, e2]
    exact (by omega : ∀ a b d : ℕ, b < 1 → a * 1792 + d = (a * 1 + b) * 1792 + (0 * 1792 + d)) _ _ _ hy

/-- The three parts behind the first. -/
def behind (x : S4x512x1792.Idx → Elt F .bf16) : S3x512x1792.Idx → Elt F .bf16 := extractStridedSlice S3x512x1792 ![1, 0, 0] x slices_S4x512x1792_S3x512x1792_1_0_0

/-- The kernel's run, over any float values. -/
theorem run_kernel (ρ : Dev nD → PrngReg) :
    θ_run (defs (F := F)) (onTc (τ := τ) (main (F := F))) ⟨m, fun _ => 0, ρ⟩ fun r => ∀ c : Dev nD,
      r.2.mem ((c.tc : Thread nD τ).loc main_v2) = behind (added (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => by
    refine ⟨((h.1 c).2 main_v2 (by show main_v2 ∈ Pipeline.restRefs sig spec0; decide)).trans ?_, h.2 c⟩
    unfold Pipeline.afterTail
    simp only [hostOps1, List.flatten_cons, List.flatten_nil, List.append_nil, List.cons_append, List.nil_append]
    after_results
    funext i
    refine (congrFun (Pipeline.withArrays_arr spec0 winFacts0.arr_inj c (V0 m c) (fun w => (dats m (ok m) 0 c).arrAt w (cfgM m (ok m)).N) 2) _).trans ?_
    refine placed m c _ ?_
    show (1 + (i 0).val) / 1 ≠ 0
    omega) (θ_run_and (run_main m ρ (ok m)) (unchanged m ρ (ok m)))

end Kernel

theorem frame_kernel : Cert.quiescent_Pa (hPa := Cert.Pa.Gen.facts) := fun m ρ _ => Cert.Pa.Gen.frame m ρ (ok m)

/-- The ideal program is the kernel's own text: its run is the kernel's at the extended reals. -/
theorem frame_ideal : Cert.quiescent_PaIdeal (hPaIdeal := Cert.PaIdeal.Gen.facts) := fun m ρ _ =>
  cast (by sl_kernel_rfl) (Cert.Pa.Gen.frame (F := Ideal) m ρ (ok m))

section Reference

open Cert.PaReferenceIdeal

theorem ref_added (g : S1024x7168.Idx → Elt F .f32) (l : S4x512x1792.Idx → Elt F .bf16) :
    (Read.val_main_v7 (F := F) g l : S3x512x1792.Idx → Elt F .bf16) = behind (added g l) := by
  funext i
  rw [Read.val_main_v7_apply, Read.val_main_v6_apply, Read.val_main_v5_apply, Read.val_main_v4_apply, Read.val_main_v3_apply, Read.val_main_v2_apply,
    Read.val_main_v1_apply, Read.val_main_v0_apply]
  have h0 : (i 0).val < 3 := (i 0).isLt
  have h1 : (i 1).val < 512 := (i 1).isLt
  have h2 : (i 2).val < 1792 := (i 2).isLt
  have e : behind (added g l) i = added g l (Read.idx_main_v4 i) := Read.val_main_v4_apply (F := F) (added g l) i
  rw [e]
  refine congrArg (fun j => FloatOps.truncf .bf16 Pa.Gen.bitsLt_bf16_f32 (FloatOps.addf (g j) _)) (funext fun a => Fin.ext ?_)
  match a with
  | ⟨0, _⟩ =>
    show (((i 1).val * 4 + (1 + (i 0).val)) * 1792 + (i 2).val) / 7168 = (i 1).val
    omega
  | ⟨1, _⟩ =>
    show (((i 1).val * 4 + (1 + (i 0).val)) * 1792 + (i 2).val) % 7168 = (1 + (i 0).val) * 1792 + (i 2).val
    omega

theorem quiet (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 :=
  (θ_run _ _ _).mono (fun r h => ⟨fun c => (h c).2, sem_eq_zero_of_no_sems (by decide) r.2⟩) (Cert.PaReferenceIdeal.Value.run m ρ)

theorem run_reference (m : (ℓ : Loc nD τ sig) → Buf (Elt F) ℓ) (ρ : Dev nD → PrngReg) (g : Dev nD → S1024x7168.Idx → Elt F .f32)
    (l : Dev nD → S4x512x1792.Idx → Elt F .bf16)
    (h : ∀ c : Dev nD, m ((c.tc : Thread nD τ).loc main_arg0) = g c ∧ m ((c.tc : Thread nD τ).loc main_arg1) = l c) :
    θ_run (defs (F := F)) (onTc (τ := τ) (main (F := F))) ⟨m, fun _ => 0, ρ⟩ fun r => ∀ c : Dev nD,
      r.2.mem ((c.tc : Thread nD τ).loc main_v7) = behind (added (g c) (l c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r hr c => ⟨(hr c).1.trans ((Read.val_main_v7_eq _ _).trans (by rw [(h c).1, (h c).2]; exact ref_added _ _)), (hr c).2⟩)
    (Cert.PaReferenceIdeal.Value.run m ρ)

theorem frame_ref : Cert.quiescent_PaReferenceIdeal (hPaReferenceIdeal := Cert.PaReferenceIdeal.Gen.facts) := fun m ρ _ => quiet m ρ
theorem frame_bits : Cert.quiescent_PaReference (hPaReference := Cert.PaReference.Gen.facts) := fun m ρ _ =>
  cast (by sl_kernel_rfl) (quiet (F := Bits) m ρ)

end Reference

theorem algebraic : Cert.algebraic_PaIdeal_PaReferenceIdeal (hPaIdeal := Cert.PaIdeal.Gen.facts) (hPaReferenceIdeal := Cert.PaReferenceIdeal.Gen.facts) :=
  fun m ρ m' ρ' _ hargs => ⟨fun c => behind (added (F := Ideal) (m ((c.tc : Thread Pa.nD Pa.τ).loc Pa.main_arg0)) (m ((c.tc : Thread Pa.nD Pa.τ).loc Pa.main_arg1))),
    cast (by sl_kernel_rfl) (run_kernel m ρ), run_reference m' ρ' _ _ hargs⟩

/-- The two programs add and round in the same order, so they agree to the bit. -/
theorem bitexact : Cert.bitexact_Pa_PaReference (hPa := Cert.Pa.Gen.facts) (hPaReference := Cert.PaReference.Gen.facts) :=
  fun m ρ m' ρ' _ hargs => ⟨fun c => behind (added (F := Bits) (m ((c.tc : Thread Pa.nD Pa.τ).loc Pa.main_arg0)) (m ((c.tc : Thread Pa.nD Pa.τ).loc Pa.main_arg1))),
    run_kernel m ρ, cast (by sl_kernel_rfl) (run_reference (F := Bits) m' ρ' _ _ hargs)⟩

end Cert.PairClaim
-- ==== Proof.ChipClaim.lean ====
/- The sum over the devices: to its own part the kernel adds the neighbour's and then, one by one, what the three others sent. -/
module

public import proofs.«01_k».proof.Proof.Gen.Cs.Frame
public import proofs.«01_k».proof.Proof.Gen.CsReferenceIdeal.Read
public import proofs.«01_k».proof.Proof.Gen.CsIdeal
public import proofs.«01_k».proof.Defs
public import Idealize.ShloMosaic.Lib.Pipeline.ValueKit
public import Idealize.ShloMosaic.Lib.Pipeline.ReadBack
public import Idealize.ShloMosaic.Lib.Pipeline.ValueKit.Acc
public import Idealize.ShloMosaic.Lib.ValueLayout

@[expose] public section

set_option maxRecDepth 16384

noncomputable section

namespace Cert.ChipClaim

open Idealize.ShloMosaic Idealize.ShloMosaic.TcCoe Idealize.SL.Sem

variable {F : FTy → Type} [FloatOps F]

section Kernel

open Cert.Cs Cert.Cs.Gen

/-- The position both words of the table name: zero. -/
def zeros : pre0.Contents (Elt F) := fun | ⟨0, _⟩ => fun _ => 0#32 | ⟨_ + 1, h⟩ => absurd h (by simp)

variable (m : (ℓ : Loc nD τ sig) → Buf (Elt F) ℓ) (c : Dev nD)

theorem tbl_eq : tbl m = zeros := by
  funext j x
  match j with
  | ⟨0, _⟩ =>
    refine congrFun (?_ : StableHlo.after (List.flatten [hostOps0]) (fun b => m (0, b)) (Proc.devRef .tc main_v0) = fun _ => 0#32) x
    simp only [hostOps0, List.flatten_cons, List.flatten_nil, List.append_nil, List.cons_append, List.nil_append]
    after_results
    rfl

theorem ok : Ok m := by unfold Ok; rw [tbl_eq]; exact of_decide_eq_true (by sl_kernel_rfl)

theorem cover (a : (pcfg0 (F := F)).Adm) (h : a.1 = zeros) : ((cfg0 a).win 3).CoversWhere fun β => β (0 : Fin 2) = 0 := by
  obtain ⟨t, ht⟩ := a
  subst h
  exact of_decide_eq_true (by sl_kernel_rfl)

/-- Every window of the one grid point is the first. -/
theorem first (a : (pcfg0 (F := F)).Adm) (h : a.1 = zeros) : ∀ t : Fin (cfg0 a).N,
    (((cfg0 a).win 0).index t (0 : Fin 2) = 0 ∧ ((cfg0 a).win 0).index t (1 : Fin 2) = 0)
      ∧ (((cfg0 a).win 3).index t (0 : Fin 2) = 0 ∧ ((cfg0 a).win 3).index t (1 : Fin 2) = 0)
      ∧ (((cfg0 a).win 1).index t (0 : Fin 3) = 0 ∧ ((cfg0 a).win 1).index t (1 : Fin 3) = 0 ∧ ((cfg0 a).win 1).index t (2 : Fin 3) = 0)
      ∧ (((cfg0 a).win 2).index t (0 : Fin 3) = 0 ∧ ((cfg0 a).win 2).index t (1 : Fin 3) = 0 ∧ ((cfg0 a).win 2).index t (2 : Fin 3) = 0) := by
  obtain ⟨t, ht⟩ := a
  subst h
  exact of_decide_eq_true (by sl_kernel_rfl)

/-- An element of the kernel's sum: the gradient's, the neighbour's and the three others', added one after the other. -/
def summed (g : S1024x7168.Idx → Elt F .f32) (l : S4x512x1792.Idx → Elt F .bf16) (r : S3x512x1792.Idx → Elt F .bf16) :
    S512x1792.Idx → Elt F .f32 := fun i =>
  let e (x : Elt F .bf16) : Elt F .f32 := FloatOps.extf .f32 bitsLt_bf16_f32 x
  FloatOps.addf (FloatOps.addf (FloatOps.addf (FloatOps.addf
    (g (ValueIdx.ix2 ⟨(i 0).val, Nat.lt_trans (i 0).isLt (by decide)⟩ ⟨(i 1).val, Nat.lt_trans (i 1).isLt (by decide)⟩))
    (e (l (ValueIdx.ix3 0 (i 0) (i 1))))) (e (r (ValueIdx.ix3 0 (i 0) (i 1))))) (e (r (ValueIdx.ix3 1 (i 0) (i 1))))) (e (r (ValueIdx.ix3 2 (i 0) (i 1))))

theorem flat (x : S1x512x1792.Idx → Elt F .bf16) (i : S512x1792.Idx) :
    shapeCast S512x1792 x shapeCasts_S1x512x1792_S512x1792 i = x (ValueIdx.ix3 0 (i 0) (i 1)) := by
  rw [ValueIdx.eq_ix2 i]
  exact ValueIdx.shapeCast_1ab_ab_apply _ _ _ _

theorem ld (x : Vec F S3x512x1792 .bf16) (o : Fin 3) (h) (z : S1x512x1792.Idx) :
    View.ld x (Rect.unit (s := S3x512x1792) ![o.val, 0, 0] ![1, 512, 1792] h) z = x (ValueIdx.ix3 o (z 1) (z 2)) :=
  congrArg x (funext fun a => Fin.ext (by
    have h0 : (z (0 : Fin 3)).val < 1 := (z (0 : Fin 3)).isLt
    match a with
    | ⟨0, _⟩ => show o.val + 1 * (z (0 : Fin 3)).val = o.val; omega
    | ⟨1, _⟩ => show 0 + 1 * (z (1 : Fin 3)).val = (z (1 : Fin 3)).val; omega
    | ⟨2, _⟩ => show 0 + 1 * (z (2 : Fin 3)).val = (z (2 : Fin 3)).val; omega))

theorem pay (g g' : Vec F S512x1792 .f32) (l l' : Vec F S1x512x1792 .bf16) (r r' : Vec F S3x512x1792 .bf16) (eg : g' = g) (el : l' = l) (er : r' = r)
    (G : S1024x7168.Idx → Elt F .f32) (L : S4x512x1792.Idx → Elt F .bf16) (y : S512x1792.Idx)
    (hg : g y = G (ValueIdx.ix2 ⟨(y 0).val, Nat.lt_trans (y 0).isLt (by decide)⟩ ⟨(y 1).val, Nat.lt_trans (y 1).isLt (by decide)⟩))
    (hl : ∀ z, l z = L (ValueIdx.ix3 0 (z 1) (z 2))) (h0) (h1) (h2) :
    k0_pay1 g' l' (View.ld r' (Rect.unit (s := S3x512x1792) ![0, 0, 0] ![1, 512, 1792] h0))
      (View.ld r' (Rect.unit (s := S3x512x1792) ![1, 0, 0] ![1, 512, 1792] h1))
      (View.ld r' (Rect.unit (s := S3x512x1792) ![2, 0, 0] ![1, 512, 1792] h2)) y = summed G L r y := by
  subst eg el er
  have e (x : Vec F S1x512x1792 .bf16) (v) (h : x (ValueIdx.ix3 0 (y 0) (y 1)) = v) :
      FloatOps.extf .f32 bitsLt_bf16_f32 (shapeCast S512x1792 x shapeCasts_S1x512x1792_S512x1792 y) = FloatOps.extf .f32 bitsLt_bf16_f32 v :=
    congrArg _ ((flat x y).trans h)
  exact congrArg₂ FloatOps.addf (congrArg₂ FloatOps.addf (congrArg₂ FloatOps.addf (congrArg₂ FloatOps.addf hg (e _ _ (hl _)))
    (e _ _ (ld _ 0 _ _))) (e _ _ (ld _ 1 _ _))) (e _ _ (ld _ 2 _ _))

theorem at_zero {k n z : ℕ} (h : k = 0) : k * n + z = z := by rw [h, Nat.zero_mul, Nat.zero_add]

theorem placed (i : S1024x1792.Idx) (hi : (i 0).val / 512 = 0) :
    (dats m (ok m) 0 c).arrAt 3 (cfgM m (ok m)).N i = summed (m ((c : Thread nD τ).loc main_arg0)) (m ((c : Thread nD τ).loc main_arg1))
      (m ((c : Thread nD τ).loc main_arg2)) (ValueIdx.ix2 ⟨(i 0).val % 512, Nat.mod_lt _ (by decide)⟩ (i 1)) := by
  refine ((dats m (ok m) 0 c).arrAt_apply_of_coversWhere (P := fun i : S1024x1792.Idx => (i 0).val / 512 = 0) 3
    (fun i : S1024x1792.Idx => summed (m ((c : Thread nD τ).loc main_arg0)) (m ((c : Thread nD τ).loc main_arg1))
      (m ((c : Thread nD τ).loc main_arg2)) (ValueIdx.ix2 ⟨(i 0).val % 512, Nat.mod_lt _ (by decide)⟩ (i 1)))
    (fun β => β (0 : Fin 2) = 0) (cover _ (tbl_eq m)) (fun t hf y => ?_) (fun j => Iff.rfl) i).trans (if_pos hi)
  rw [after0_3]
  obtain ⟨⟨a0, a1⟩, ⟨d0, d1⟩, ⟨b0, b1, b2⟩, c0, c1, c2⟩ := first _ (tbl_eq m) t
  have fa : ∀ a : Fin 2, ((cfgM m (ok m)).win 0).index t a = 0 := fun | 0 => a0 | 1 => a1
  have fb : ∀ a : Fin 3, ((cfgM m (ok m)).win 1).index t a = 0 := fun | 0 => b0 | 1 => b1 | 2 => b2
  have fc : ∀ a : Fin 3, ((cfgM m (ok m)).win 2).index t a = 0 := fun | 0 => c0 | 1 => c1 | 2 => c2
  have hy0 : (y (0 : Fin 2)).val < 512 := (y (0 : Fin 2)).isLt
  have hr : iblk m (ok m) c 2 t = m ((c : Thread nD τ).loc main_arg2) := by
    refine Eq.trans (funext fun z => congrArg (V m c main_arg2) (funext fun a => Fin.ext ?_)) (V_main_arg2 m c)
    refine (Pipeline.Window.rect_emb_val ((cfgM m (ok m)).win 2) t z a).trans (at_zero (fc a))
  unfold outsAt0 out0_A_3; frame_out
  refine (pay _ _ _ _ _ _ ((hs0_0 m (ok m) t).read_unread _) ((hs0_1 m (ok m) t).read_unread _) (((hs0_2 m (ok m) t).read_unread _).trans hr)
    (m ((c : Thread nD τ).loc main_arg0)) (m ((c : Thread nD τ).loc main_arg1)) y ?_ (fun z => ?_) _ _ _).trans
    (congrArg (summed _ _ _) (funext fun a => Fin.ext ?_))
  · refine Eq.trans (congrArg (V m c main_arg0) (funext fun a => Fin.ext ?_)) (congrFun (V_main_arg0 m c) _)
    refine (Pipeline.Window.rect_emb_val ((cfgM m (ok m)).win 0) t y a).trans ((at_zero (fa a)).trans ?_)
    match a with | ⟨0, _⟩ => rfl | ⟨1, _⟩ => rfl
  · refine Eq.trans (congrArg (V m c main_arg1) (funext fun a => Fin.ext ?_)) (congrFun (V_main_arg1 m c) _)
    refine (Pipeline.Window.rect_emb_val ((cfgM m (ok m)).win 1) t z a).trans ((at_zero (fb a)).trans ?_)
    match a with
    | ⟨0, _⟩ => exact Nat.lt_one_iff.1 (z (0 : Fin 3)).isLt
    | ⟨1, _⟩ => rfl
    | ⟨2, _⟩ => rfl
  · match a with
    | ⟨0, _⟩ =>
      refine Eq.trans ?_ (congrArg (· % 512) ((Pipeline.Window.rect_emb_val ((cfgM m (ok m)).win 3) t y (0 : Fin 2)).trans (at_zero d0)).symm)
      exact (Nat.mod_eq_of_lt hy0).symm
    | ⟨1, _⟩ =>
      exact ((Pipeline.Window.rect_emb_val ((cfgM m (ok m)).win 3) t y (1 : Fin 2)).trans (at_zero d1)).symm

/-- The kernel's run, over any float values. -/
theorem run_kernel (ρ : Dev nD → PrngReg) :
    θ_run (defs (F := F)) (onTc (τ := τ) (main (F := F))) ⟨m, fun _ => 0, ρ⟩ fun r => ∀ c : Dev nD,
      r.2.mem ((c.tc : Thread nD τ).loc main_v2) = summed (m ((c.tc : Thread nD τ).loc main_arg0)) (m ((c.tc : Thread nD τ).loc main_arg1))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun r h c => by
    refine ⟨((h.1 c).2 main_v2 (by show main_v2 ∈ Pipeline.restRefs sig spec0; decide)).trans ?_, h.2 c⟩
    unfold Pipeline.afterTail
    simp only [hostOps1, List.flatten_cons, List.flatten_nil, List.append_nil, List.cons_append, List.nil_append]
    after_results
    funext i
    have hi : (i 0).val < 512 := (i 0).isLt
    refine (congrFun (Pipeline.withArrays_arr spec0 winFacts0.arr_inj c (V0 m c) (fun w => (dats m (ok m) 0 c).arrAt w (cfgM m (ok m)).N) 3) _).trans ?_
    refine (placed m c _ ?_).trans (congrArg (summed _ _ _) (funext fun a => Fin.ext ?_))
    · show (0 + (i 0).val) / 512 = 0
      omega
    · match a with
      | ⟨0, _⟩ => show (0 + (i 0).val) % 512 = (i 0).val; omega
      | ⟨1, _⟩ => show 0 + (i 1).val = (i 1).val; omega) (θ_run_and (run_main m ρ (ok m)) (unchanged m ρ (ok m)))

end Kernel

theorem frame_kernel : Cert.quiescent_Cs (hCs := Cert.Cs.Gen.facts) := fun m ρ _ => Cert.Cs.Gen.frame m ρ (ok m)

/-- The ideal program is the kernel's own text: its run is the kernel's at the extended reals. -/
theorem frame_ideal : Cert.quiescent_CsIdeal (hCsIdeal := Cert.CsIdeal.Gen.facts) := fun m ρ _ =>
  cast (by sl_kernel_rfl) (Cert.Cs.Gen.frame (F := Ideal) m ρ (ok m))

section Reference

open Cert.CsReferenceIdeal

/-- Over the extended reals the reference's sum of the three others' is the kernel's, added one after the other. -/
theorem ref_summed (g : S1024x7168.Idx → Elt Ideal .f32) (l : S4x512x1792.Idx → Elt Ideal .bf16) (r : S3x512x1792.Idx → Elt Ideal .bf16) :
    (Read.val_main_v7 (F := Ideal) g l r : S512x1792.Idx → Elt Ideal .f32) = summed g l r := by
  funext i
  have h0 : (i 0).val < 512 := (i 0).isLt
  have h1 : (i 1).val < 1792 := (i 1).isLt
  rw [Read.val_main_v7_apply, Read.val_main_v6_apply, Read.val_main_v4_apply, Read.val_main_v3_apply, Read.val_main_v2_apply,
    Read.val_main_v1_apply, Read.val_main_v0_apply, Fin.sum_univ_three, Read.val_main_cst_apply]
  have el : Read.idx_main_v1 (Read.idx_main_v2 i) = ValueIdx.ix3 0 (i 0) (i 1) := funext fun a => Fin.ext (by
    match a with
    | ⟨0, _⟩ => rfl
    | ⟨1, _⟩ => show ((i 0).val * 1792 + (i 1).val) / 1792 % 512 = (i 0).val; omega
    | ⟨2, _⟩ => show ((i 0).val * 1792 + (i 1).val) % 1792 = (i 1).val; omega)
  have er (k : Fin 3) : Read.idx_main_v6 i k = ValueIdx.ix3 k (i 0) (i 1) := funext fun a => by
    match a with | ⟨0, _⟩ => rfl | ⟨1, _⟩ => rfl | ⟨2, _⟩ => rfl
  have eg : Read.idx_main_v0 i = ValueIdx.ix2 ⟨(i 0).val, Nat.lt_trans h0 (by decide)⟩ ⟨(i 1).val, Nat.lt_trans h1 (by decide)⟩ := funext fun a => by
    match a with | ⟨0, _⟩ => rfl | ⟨1, _⟩ => rfl
  rw [el, eg, er, er, er]
  have h (a z x y w : EReal) (hz : z = 0) : a + (z + (x + y + w)) = a + x + y + w := by rw [hz, zero_add, add_assoc x, add_assoc, add_assoc, ← add_assoc, add_assoc]
  exact h _ _ _ _ _ Ideal.ofBits_zero_f32

theorem quiet (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) ∧ r.2.sem = fun _ => 0 :=
  (θ_run _ _ _).mono (fun r h => ⟨fun c => (h c).2, sem_eq_zero_of_no_sems (by decide) r.2⟩) (Cert.CsReferenceIdeal.Value.run m ρ)

theorem frame_ref : Cert.quiescent_CsReferenceIdeal (hCsReferenceIdeal := Cert.CsReferenceIdeal.Gen.facts) := fun m ρ _ => quiet m ρ

end Reference

theorem algebraic : Cert.algebraic_CsIdeal_CsReferenceIdeal (hCsIdeal := Cert.CsIdeal.Gen.facts) (hCsReferenceIdeal := Cert.CsReferenceIdeal.Gen.facts) :=
  fun m ρ m' ρ' _ hargs => ⟨fun c => summed (F := Ideal) (m ((c.tc : Thread Cs.nD Cs.τ).loc Cs.main_arg0)) (m ((c.tc : Thread Cs.nD Cs.τ).loc Cs.main_arg1))
      (m ((c.tc : Thread Cs.nD Cs.τ).loc Cs.main_arg2)),
    cast (by sl_kernel_rfl) (run_kernel m ρ),
    (θ_run _ _ _).mono (fun r hr c => ⟨(hr c).1.trans ((CsReferenceIdeal.Read.val_main_v7_eq _ _ _).trans (by
      rw [(hargs c).1, (hargs c).2.1, (hargs c).2.2]; exact ref_summed _ _ _)), (hr c).2⟩) (Cert.CsReferenceIdeal.Value.run m' ρ')⟩

end Cert.ChipClaim
-- ==== Proof.lean ====
module

public import proofs.«01_k».proof.Defs
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.Mlp.Value
public import proofs.«01_k».proof.Proof.Gen.MlpIdeal
public import proofs.«01_k».proof.Proof.Gen.MlpReferenceIdeal
public import proofs.«01_k».proof.Proof.Gen.MlpReferenceIdeal.Run
public import proofs.«01_k».proof.Proof.Gen.MlpReferenceIdeal.Read
public import proofs.«01_k».proof.Proof.Gen.Pre_finite_mlp
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame.Runs
public import proofs.«01_k».proof.Proof.Gen.MixIdeal
public import proofs.«01_k».proof.Proof.Gen.MixReferenceIdeal
public import proofs.«01_k».proof.Proof.Gen.MixReferenceIdeal.Run
public import proofs.«01_k».proof.Proof.Gen.MixReferenceIdeal.Read
public import proofs.«01_k».proof.Proof.Gen.Pre_finite_mix
public import proofs.«01_k».proof.Proof.Gen.Conv
public import proofs.«01_k».proof.Proof.Gen.Conv.Skeleton
public import proofs.«01_k».proof.Proof.Gen.Conv.Loops
public import proofs.«01_k».proof.Proof.Gen.Conv.Launch
public import proofs.«01_k».proof.Proof.Gen.Conv.Points
public import proofs.«01_k».proof.Proof.Gen.Conv.Frame.Runs
public import proofs.«01_k».proof.Proof.Gen.ConvIdeal
public import proofs.«01_k».proof.Proof.Gen.ConvReferenceIdeal
public import proofs.«01_k».proof.Proof.Gen.ConvReferenceIdeal.Run
public import proofs.«01_k».proof.Proof.Gen.ConvReferenceIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.Out.Value
public import proofs.«01_k».proof.Proof.Gen.OutIdeal
public import proofs.«01_k».proof.Proof.Gen.OutReferenceIdeal
public import proofs.«01_k».proof.Proof.Gen.OutReferenceIdeal.Run
public import proofs.«01_k».proof.Proof.Gen.OutReferenceIdeal.Read
public import proofs.«01_k».proof.Proof.Gen.Pre
public import proofs.«01_k».proof.Proof.Gen.Pre.Skeleton
public import proofs.«01_k».proof.Proof.Gen.Pre.Loops
public import proofs.«01_k».proof.Proof.Gen.Pre.Launch
public import proofs.«01_k».proof.Proof.Gen.Pre.Points
public import proofs.«01_k».proof.Proof.Gen.Pre.Frame.Runs
public import proofs.«01_k».proof.Proof.Gen.PreIdeal
public import proofs.«01_k».proof.Proof.Gen.PreReferenceIdeal
public import proofs.«01_k».proof.Proof.Gen.PreReferenceIdeal.Run
public import proofs.«01_k».proof.Proof.Gen.PreReferenceIdeal.Read
public import proofs.«01_k».proof.Proof.Gen.Gw
public import proofs.«01_k».proof.Proof.Gen.Gw.Skeleton
public import proofs.«01_k».proof.Proof.Gen.Gw.Launch
public import proofs.«01_k».proof.Proof.Gen.Gw.Points
public import proofs.«01_k».proof.Proof.Gen.Gw.Frame
public import proofs.«01_k».proof.Proof.Gen.GwIdeal
public import proofs.«01_k».proof.Proof.Gen.GwReferenceIdeal
public import proofs.«01_k».proof.Proof.Gen.Gx
public import proofs.«01_k».proof.Proof.Gen.Gx.Skeleton
public import proofs.«01_k».proof.Proof.Gen.Gx.Launch
public import proofs.«01_k».proof.Proof.Gen.Gx.Points
public import proofs.«01_k».proof.Proof.Gen.Gx.Frame
public import proofs.«01_k».proof.Proof.Gen.GxIdeal
public import proofs.«01_k».proof.Proof.Gen.GxReferenceIdeal
public import proofs.«01_k».proof.Proof.Gen.Adam
public import proofs.«01_k».proof.Proof.Gen.Adam.Skeleton
public import proofs.«01_k».proof.Proof.Gen.Adam.Launch
public import proofs.«01_k».proof.Proof.Gen.Adam.Points
public import proofs.«01_k».proof.Proof.Gen.Adam.Frame
public import proofs.«01_k».proof.Proof.Gen.AdamIdeal
public import proofs.«01_k».proof.Proof.Gen.AdamReferenceIdeal
public import proofs.«01_k».proof.Proof.Gen.Sum
public import proofs.«01_k».proof.Proof.Gen.Sum.Skeleton
public import proofs.«01_k».proof.Proof.Gen.Sum.Launch
public import proofs.«01_k».proof.Proof.Gen.Sum.Points
public import proofs.«01_k».proof.Proof.Gen.Sum.Frame
public import proofs.«01_k».proof.Proof.Gen.SumIdeal
public import proofs.«01_k».proof.Proof.Gen.SumReferenceIdeal
public import proofs.«01_k».proof.Proof.Gen.Gw.Value
public import proofs.«01_k».proof.Proof.Gen.Gx.Value
public import proofs.«01_k».proof.Proof.Gen.Adam.Value
public import proofs.«01_k».proof.Proof.Gen.Sum.Value
public import proofs.«01_k».proof.Proof.Gen.GwReferenceIdeal.Read
public import proofs.«01_k».proof.Proof.Gen.GxReferenceIdeal.Read
public import proofs.«01_k».proof.Proof.Gen.AdamReferenceIdeal.Read
public import proofs.«01_k».proof.Proof.Gen.SumReferenceIdeal.Read
public import Idealize.ShloMosaic.Adequacy
public import proofs.«01_k».proof.Proof.MlpClaim
public import proofs.«01_k».proof.Proof.MixClaim
public import proofs.«01_k».proof.Proof.ConvClaim
public import proofs.«01_k».proof.Proof.OutClaim
public import proofs.«01_k».proof.Proof.PreClaim
public import proofs.«01_k».proof.Proof.GwClaim
public import proofs.«01_k».proof.Proof.GxClaim
public import proofs.«01_k».proof.Proof.AdamClaim
public import proofs.«01_k».proof.Proof.SumClaim
public import proofs.«01_k».proof.Proof.XchClaim
public import proofs.«01_k».proof.Proof.SctClaim
public import proofs.«01_k».proof.Proof.PlaceClaim
public import proofs.«01_k».proof.Proof.PairClaim
public import proofs.«01_k».proof.Proof.ChipClaim
public import Idealize.ShloMosaic.Init

@[expose] public section

noncomputable section

namespace Cert.Proof

open Idealize.ShloMosaic Idealize.SL.Sem Cert.Mlp

theorem claim : Cert.Claim := ⟨Cert.Mlp.Gen.facts, Cert.MlpIdeal.Gen.facts, Cert.MlpReferenceIdeal.Gen.facts,
  Cert.Mix.Gen.facts, Cert.MixIdeal.Gen.facts, Cert.MixReferenceIdeal.Gen.facts,
  Cert.Conv.Gen.facts, Cert.ConvIdeal.Gen.facts, Cert.ConvReferenceIdeal.Gen.facts,
  Cert.Out.Gen.facts, Cert.OutIdeal.Gen.facts, Cert.OutReferenceIdeal.Gen.facts,
  Cert.Pre.Gen.facts, Cert.PreIdeal.Gen.facts, Cert.PreReferenceIdeal.Gen.facts,
  Cert.Gw.Gen.facts, Cert.GwIdeal.Gen.facts, Cert.GwReferenceIdeal.Gen.facts,
  Cert.Gx.Gen.facts, Cert.GxIdeal.Gen.facts, Cert.GxReferenceIdeal.Gen.facts,
  Cert.Adam.Gen.facts, Cert.AdamIdeal.Gen.facts, Cert.AdamReferenceIdeal.Gen.facts,
  Cert.Sum.Gen.facts, Cert.SumIdeal.Gen.facts, Cert.SumReferenceIdeal.Gen.facts,
  Cert.Xch.Gen.facts, Cert.XchIdeal.Gen.facts, Cert.XchReferenceIdeal.Gen.facts, Cert.XchReference.Gen.facts,
  Cert.Sct.Gen.facts, Cert.SctIdeal.Gen.facts, Cert.SctReferenceIdeal.Gen.facts, Cert.SctReference.Gen.facts,
  Cert.Pc.Gen.facts, Cert.PcIdeal.Gen.facts, Cert.PcReferenceIdeal.Gen.facts, Cert.PcReference.Gen.facts,
  Cert.Pa.Gen.facts, Cert.PaIdeal.Gen.facts, Cert.PaReferenceIdeal.Gen.facts, Cert.PaReference.Gen.facts,
  Cert.Cs.Gen.facts, Cert.CsIdeal.Gen.facts, Cert.CsReferenceIdeal.Gen.facts,
  Cert.Pre_finite_mlp.Gen.facts, Cert.Pre_finite_mix.Gen.facts,
  Cert.MlpClaim.frame_kernel, Cert.MlpClaim.frame_ideal, fun m ρ _ => Cert.MlpClaim.frame_ideal m ρ trivial,
  Cert.MlpClaim.frame_ref, fun m ρ _ => Cert.MlpClaim.frame_ref m ρ trivial,
  Cert.MixClaim.frame_kernel, Cert.MixClaim.frame_ideal, fun m ρ _ => Cert.MixClaim.frame_ideal m ρ trivial,
  Cert.MixClaim.frame_ref, fun m ρ _ => Cert.MixClaim.frame_ref m ρ trivial,
  Cert.ConvClaim.frame_kernel, Cert.ConvClaim.frame_ideal, Cert.ConvClaim.frame_ref,
  Cert.OutClaim.frame_kernel, Cert.OutClaim.frame_ideal, Cert.OutClaim.frame_ref,
  Cert.PreClaim.frame_kernel, Cert.PreClaim.frame_ideal, Cert.PreClaim.frame_ref,
  Cert.GwClaim.frame_kernel, Cert.GwClaim.frame_ideal, Cert.GwClaim.frame_ref,
  Cert.GxClaim.frame_kernel, Cert.GxClaim.frame_ideal, Cert.GxClaim.frame_ref,
  Cert.AdamClaim.frame_kernel, Cert.AdamClaim.frame_ideal, Cert.AdamClaim.frame_ref,
  Cert.SumClaim.frame_kernel, Cert.SumClaim.frame_ideal, Cert.SumClaim.frame_ref,
  Cert.XchClaim.frame_kernel, Cert.XchClaim.frame_ideal, Cert.XchClaim.frame_ref, Cert.XchClaim.frame_bits,
  Cert.SctClaim.frame_kernel, Cert.SctClaim.frame_ideal, Cert.SctClaim.frame_ref, Cert.SctClaim.frame_bits,
  Cert.PlaceClaim.frame_kernel, Cert.PlaceClaim.frame_ideal, Cert.PlaceClaim.frame_ref, Cert.PlaceClaim.frame_bits,
  Cert.PairClaim.frame_kernel, Cert.PairClaim.frame_ideal, Cert.PairClaim.frame_ref, Cert.PairClaim.frame_bits,
  Cert.ChipClaim.frame_kernel, Cert.ChipClaim.frame_ideal, Cert.ChipClaim.frame_ref,
  trivial, Cert.MlpClaim.algebraic, trivial, Cert.MixClaim.algebraic, trivial, Cert.ConvClaim.algebraic, trivial, Cert.OutClaim.algebraic, trivial, Cert.PreClaim.algebraic,
  trivial, Cert.GwClaim.algebraic, trivial, Cert.GxClaim.algebraic, trivial, Cert.AdamClaim.algebraic, trivial, Cert.SumClaim.algebraic,
  trivial, Cert.XchClaim.algebraic, Cert.XchClaim.bitexact, trivial, Cert.SctClaim.algebraic, Cert.SctClaim.bitexact,
  trivial, Cert.PlaceClaim.algebraic, Cert.PlaceClaim.bitexact, trivial, Cert.PairClaim.algebraic, Cert.PairClaim.bitexact, trivial, Cert.ChipClaim.algebraic⟩

end Cert.Proof

end
